-- ==== Defs.lean ====
def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaBwdIdeal_finite_gates [hPre_finite_gates : Cert.Pre_finite_gates.Facts] (m : (ℓ : Loc Cert.GlaBwdIdeal.nD Cert.GlaBwdIdeal.τ Cert.GlaBwdIdeal.sig) → Buf (Elt Ideal) ℓ) : Prop :=
  ∀ c : Dev Cert.GlaBwdIdeal.nD,
    (Cert.Pre_finite_gates.fn (F := Ideal) (m ((c.tc : Thread Cert.GlaBwdIdeal.nD Cert.GlaBwdIdeal.τ).loc Cert.GlaBwdIdeal.main_arg0)) (m ((c.tc : Thread Cert.GlaBwdIdeal.nD Cert.GlaBwdIdeal.τ).loc Cert.GlaBwdIdeal.main_arg1)) (m ((c.tc : Thread Cert.GlaBwdIdeal.nD Cert.GlaBwdIdeal.τ).loc Cert.GlaBwdIdeal.main_arg2)) (m ((c.tc : Thread Cert.GlaBwdIdeal.nD Cert.GlaBwdIdeal.τ).loc Cert.GlaBwdIdeal.main_arg3)) (m ((c.tc : Thread Cert.GlaBwdIdeal.nD Cert.GlaBwdIdeal.τ).loc Cert.GlaBwdIdeal.main_arg4)) (m ((c.tc : Thread Cert.GlaBwdIdeal.nD Cert.GlaBwdIdeal.τ).loc Cert.GlaBwdIdeal.main_arg5)) (m ((c.tc : Thread Cert.GlaBwdIdeal.nD Cert.GlaBwdIdeal.τ).loc Cert.GlaBwdIdeal.main_arg6)) (m ((c.tc : Thread Cert.GlaBwdIdeal.nD Cert.GlaBwdIdeal.τ).loc Cert.GlaBwdIdeal.main_arg7)) (m ((c.tc : Thread Cert.GlaBwdIdeal.nD Cert.GlaBwdIdeal.τ).loc Cert.GlaBwdIdeal.main_arg8)) (m ((c.tc : Thread Cert.GlaBwdIdeal.nD Cert.GlaBwdIdeal.τ).loc Cert.GlaBwdIdeal.main_arg9)) (m ((c.tc : Thread Cert.GlaBwdIdeal.nD Cert.GlaBwdIdeal.τ).loc Cert.GlaBwdIdeal.main_arg10)) (m ((c.tc : Thread Cert.GlaBwdIdeal.nD Cert.GlaBwdIdeal.τ).loc Cert.GlaBwdIdeal.main_arg11)) (m ((c.tc : Thread Cert.GlaBwdIdeal.nD Cert.GlaBwdIdeal.τ).loc Cert.GlaBwdIdeal.main_arg12)) (m ((c.tc : Thread Cert.GlaBwdIdeal.nD Cert.GlaBwdIdeal.τ).loc Cert.GlaBwdIdeal.main_arg13)) (m ((c.tc : Thread Cert.GlaBwdIdeal.nD Cert.GlaBwdIdeal.τ).loc Cert.GlaBwdIdeal.main_arg14))) = (fun _ => 1#1)

def Pre_GlaBwdRefIdeal (m : (ℓ : Loc Cert.GlaBwdRefIdeal.nD Cert.GlaBwdRefIdeal.τ Cert.GlaBwdRefIdeal.sig) → Buf (Elt Ideal) ℓ) : Prop :=
  True

def Pre_GlaBwdRefIdeal_finite_gates [hPre_finite_gates : Cert.Pre_finite_gates.Facts] (m : (ℓ : Loc Cert.GlaBwdRefIdeal.nD Cert.GlaBwdRefIdeal.τ Cert.GlaBwdRefIdeal.sig) → Buf (Elt Ideal) ℓ) : Prop :=
  ∀ c : Dev Cert.GlaBwdRefIdeal.nD,
    (Cert.Pre_finite_gates.fn (F := Ideal) (m ((c.tc : Thread Cert.GlaBwdRefIdeal.nD Cert.GlaBwdRefIdeal.τ).loc Cert.GlaBwdRefIdeal.main_arg0)) (m ((c.tc : Thread Cert.GlaBwdRefIdeal.nD Cert.GlaBwdRefIdeal.τ).loc Cert.GlaBwdRefIdeal.main_arg1)) (m ((c.tc : Thread Cert.GlaBwdRefIdeal.nD Cert.GlaBwdRefIdeal.τ).loc Cert.GlaBwdRefIdeal.main_arg2)) (m ((c.tc : Thread Cert.GlaBwdRefIdeal.nD Cert.GlaBwdRefIdeal.τ).loc Cert.GlaBwdRefIdeal.main_arg3)) (m ((c.tc : Thread Cert.GlaBwdRefIdeal.nD Cert.GlaBwdRefIdeal.τ).loc Cert.GlaBwdRefIdeal.main_arg4)) (m ((c.tc : Thread Cert.GlaBwdRefIdeal.nD Cert.GlaBwdRefIdeal.τ).loc Cert.GlaBwdRefIdeal.main_arg5)) (m ((c.tc : Thread Cert.GlaBwdRefIdeal.nD Cert.GlaBwdRefIdeal.τ).loc Cert.GlaBwdRefIdeal.main_arg6)) (m ((c.tc : Thread Cert.GlaBwdRefIdeal.nD Cert.GlaBwdRefIdeal.τ).loc Cert.GlaBwdRefIdeal.main_arg7)) (m ((c.tc : Thread Cert.GlaBwdRefIdeal.nD Cert.GlaBwdRefIdeal.τ).loc Cert.GlaBwdRefIdeal.main_arg8)) (m ((c.tc : Thread Cert.GlaBwdRefIdeal.nD Cert.GlaBwdRefIdeal.τ).loc Cert.GlaBwdRefIdeal.main_arg9)) (m ((c.tc : Thread Cert.GlaBwdRefIdeal.nD Cert.GlaBwdRefIdeal.τ).loc Cert.GlaBwdRefIdeal.main_arg10)) (m ((c.tc : Thread Cert.GlaBwdRefIdeal.nD Cert.GlaBwdRefIdeal.τ).loc Cert.GlaBwdRefIdeal.main_arg11)) (m ((c.tc : Thread Cert.GlaBwdRefIdeal.nD Cert.GlaBwdRefIdeal.τ).loc Cert.GlaBwdRefIdeal.main_arg12)) (m ((c.tc : Thread Cert.GlaBwdRefIdeal.nD Cert.GlaBwdRefIdeal.τ).loc Cert.GlaBwdRefIdeal.main_arg13)) (m ((c.tc : Thread Cert.GlaBwdRefIdeal.nD Cert.GlaBwdRefIdeal.τ).loc Cert.GlaBwdRefIdeal.main_arg14))) = (fun _ => 1#1)

def Pre_MlpDx (m : (ℓ : Loc Cert.MlpDx.nD Cert.MlpDx.τ Cert.MlpDx.sig) → Buf (Elt Bits) ℓ) : Prop :=
  True

def Pre_MlpDxIdeal (m : (ℓ : Loc Cert.MlpDxIdeal.nD Cert.MlpDxIdeal.τ Cert.MlpDxIdeal.sig) → Buf (Elt Ideal) ℓ) : Prop :=
  True

def Pre_MlpDxRefIdeal (m : (ℓ : Loc Cert.MlpDxRefIdeal.nD Cert.MlpDxRefIdeal.τ Cert.MlpDxRefIdeal.sig) → Buf (Elt Ideal) ℓ) : Prop :=
  True

def Pre_MlpLoss (m : (ℓ : Loc Cert.MlpLoss.nD Cert.MlpLoss.τ Cert.MlpLoss.sig) → Buf (Elt Bits) ℓ) : Prop :=
  True

def Pre_MlpLossIdeal (m : (ℓ : Loc Cert.MlpLossIdeal.nD Cert.MlpLossIdeal.τ Cert.MlpLossIdeal.sig) → Buf (Elt Ideal) ℓ) : Prop :=
  True

def Pre_MlpLossRefIdeal (m : (ℓ : Loc Cert.MlpLossRefIdeal.nD Cert.MlpLossRefIdeal.τ Cert.MlpLossRefIdeal.sig) → Buf (Elt Ideal) ℓ) : Prop :=
  True

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownDwRefIdeal (m : (ℓ : Loc Cert.MlpDownDwRefIdeal.nD Cert.MlpDownDwRefIdeal.τ Cert.MlpDownDwRefIdeal.sig) → Buf (Elt Ideal) ℓ) : Prop :=
  True

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpDwRefIdeal (m : (ℓ : Loc Cert.MlpUpDwRefIdeal.nD Cert.MlpUpDwRefIdeal.τ Cert.MlpUpDwRefIdeal.sig) → Buf (Elt Ideal) ℓ) : Prop :=
  True

def Pre_ProjInDx (m : (ℓ : Loc Cert.ProjInDx.nD Cert.ProjInDx.τ Cert.ProjInDx.sig) → Buf (Elt Bits) ℓ) : Prop :=
  True

def Pre_ProjInDxIdeal (m : (ℓ : Loc Cert.ProjInDxIdeal.nD Cert.ProjInDxIdeal.τ Cert.ProjInDxIdeal.sig) → Buf (Elt Ideal) ℓ) : Prop :=
  True

def Pre_ProjInDxRefIdeal (m : (ℓ : Loc Cert.ProjInDxRefIdeal.nD Cert.ProjInDxRefIdeal.τ Cert.ProjInDxRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_DecayBwd (m : (ℓ : Loc Cert.DecayBwd.nD Cert.DecayBwd.τ Cert.DecayBwd.sig) → Buf (Elt Bits) ℓ) : Prop :=
  True

def Pre_DecayBwdIdeal (m : (ℓ : Loc Cert.DecayBwdIdeal.nD Cert.DecayBwdIdeal.τ Cert.DecayBwdIdeal.sig) → Buf (Elt Ideal) ℓ) : Prop :=
  True

def Pre_DecayBwdIdeal_smooth_gates [hPre_smooth_gates : Cert.Pre_smooth_gates.Facts] (m : (ℓ : Loc Cert.DecayBwdIdeal.nD Cert.DecayBwdIdeal.τ Cert.DecayBwdIdeal.sig) → Buf (Elt Ideal) ℓ) : Prop :=
  ∀ c : Dev Cert.DecayBwdIdeal.nD,
    (Cert.Pre_smooth_gates.fn (F := Ideal) (m ((c.tc : Thread Cert.DecayBwdIdeal.nD Cert.DecayBwdIdeal.τ).loc Cert.DecayBwdIdeal.main_arg0)) (m ((c.tc : Thread Cert.DecayBwdIdeal.nD Cert.DecayBwdIdeal.τ).loc Cert.DecayBwdIdeal.main_arg1)) (m ((c.tc : Thread Cert.DecayBwdIdeal.nD Cert.DecayBwdIdeal.τ).loc Cert.DecayBwdIdeal.main_arg2)) (m ((c.tc : Thread Cert.DecayBwdIdeal.nD Cert.DecayBwdIdeal.τ).loc Cert.DecayBwdIdeal.main_arg3))) = (fun _ => 1#1)

def Pre_DecayBwdRefIdeal (m : (ℓ : Loc Cert.DecayBwdRefIdeal.nD Cert.DecayBwdRefIdeal.τ Cert.DecayBwdRefIdeal.sig) → Buf (Elt Ideal) ℓ) : Prop :=
  True

def Pre_DecayBwdRefIdeal_smooth_gates [hPre_smooth_gates : Cert.Pre_smooth_gates.Facts] (m : (ℓ : Loc Cert.DecayBwdRefIdeal.nD Cert.DecayBwdRefIdeal.τ Cert.DecayBwdRefIdeal.sig) → Buf (Elt Ideal) ℓ) : Prop :=
  ∀ c : Dev Cert.DecayBwdRefIdeal.nD,
    (Cert.Pre_smooth_gates.fn (F := Ideal) (m ((c.tc : Thread Cert.DecayBwdRefIdeal.nD Cert.DecayBwdRefIdeal.τ).loc Cert.DecayBwdRefIdeal.main_arg0)) (m ((c.tc : Thread Cert.DecayBwdRefIdeal.nD Cert.DecayBwdRefIdeal.τ).loc Cert.DecayBwdRefIdeal.main_arg1)) (m ((c.tc : Thread Cert.DecayBwdRefIdeal.nD Cert.DecayBwdRefIdeal.τ).loc Cert.DecayBwdRefIdeal.main_arg2)) (m ((c.tc : Thread Cert.DecayBwdRefIdeal.nD Cert.DecayBwdRefIdeal.τ).loc Cert.DecayBwdRefIdeal.main_arg3))) = (fun _ => 1#1)

def Pre_ProjO (m : (ℓ : Loc Cert.ProjO.nD Cert.ProjO.τ Cert.ProjO.sig) → Buf (Elt Bits) ℓ) : Prop :=
  True

def Pre_ProjOIdeal (m : (ℓ : Loc Cert.ProjOIdeal.nD Cert.ProjOIdeal.τ Cert.ProjOIdeal.sig) → Buf (Elt Ideal) ℓ) : Prop :=
  True

def Pre_ProjORefIdeal (m : (ℓ : Loc Cert.ProjORefIdeal.nD Cert.ProjORefIdeal.τ Cert.ProjORefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesRefIdeal (m : (ℓ : Loc Cert.BranchesRefIdeal.nD Cert.BranchesRefIdeal.τ Cert.BranchesRefIdeal.sig) → Buf (Elt Ideal) ℓ) : Prop :=
  True

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3)
      ∧ r.2.mem ((c.tc : Thread Cert.GlaBwd.nD Cert.GlaBwd.τ).loc Cert.GlaBwd.main_arg4) = m ((c.tc : Thread Cert.GlaBwd.nD Cert.GlaBwd.τ).loc Cert.GlaBwd.main_arg4)
      ∧ r.2.mem ((c.tc : Thread Cert.GlaBwd.nD Cert.GlaBwd.τ).loc Cert.GlaBwd.main_arg5) = m ((c.tc : Thread Cert.GlaBwd.nD Cert.GlaBwd.τ).loc Cert.GlaBwd.main_arg5)
      ∧ r.2.mem ((c.tc : Thread Cert.GlaBwd.nD Cert.GlaBwd.τ).loc Cert.GlaBwd.main_arg6) = m ((c.tc : Thread Cert.GlaBwd.nD Cert.GlaBwd.τ).loc Cert.GlaBwd.main_arg6)
      ∧ r.2.mem ((c.tc : Thread Cert.GlaBwd.nD Cert.GlaBwd.τ).loc Cert.GlaBwd.main_arg7) = m ((c.tc : Thread Cert.GlaBwd.nD Cert.GlaBwd.τ).loc Cert.GlaBwd.main_arg7)
      ∧ r.2.mem ((c.tc : Thread Cert.GlaBwd.nD Cert.GlaBwd.τ).loc Cert.GlaBwd.main_arg8) = m ((c.tc : Thread Cert.GlaBwd.nD Cert.GlaBwd.τ).loc Cert.GlaBwd.main_arg8)
      ∧ r.2.mem ((c.tc : Thread Cert.GlaBwd.nD Cert.GlaBwd.τ).loc Cert.GlaBwd.main_arg9) = m ((c.tc : Thread Cert.GlaBwd.nD Cert.GlaBwd.τ).loc Cert.GlaBwd.main_arg9)
      ∧ r.2.mem ((c.tc : Thread Cert.GlaBwd.nD Cert.GlaBwd.τ).loc Cert.GlaBwd.main_arg10) = m ((c.tc : Thread Cert.GlaBwd.nD Cert.GlaBwd.τ).loc Cert.GlaBwd.main_arg10)
      ∧ r.2.mem ((c.tc : Thread Cert.GlaBwd.nD Cert.GlaBwd.τ).loc Cert.GlaBwd.main_arg11) = m ((c.tc : Thread Cert.GlaBwd.nD Cert.GlaBwd.τ).loc Cert.GlaBwd.main_arg11)
      ∧ r.2.mem ((c.tc : Thread Cert.GlaBwd.nD Cert.GlaBwd.τ).loc Cert.GlaBwd.main_arg12) = m ((c.tc : Thread Cert.GlaBwd.nD Cert.GlaBwd.τ).loc Cert.GlaBwd.main_arg12)
      ∧ r.2.mem ((c.tc : Thread Cert.GlaBwd.nD Cert.GlaBwd.τ).loc Cert.GlaBwd.main_arg13) = m ((c.tc : Thread Cert.GlaBwd.nD Cert.GlaBwd.τ).loc Cert.GlaBwd.main_arg13)
      ∧ r.2.mem ((c.tc : Thread Cert.GlaBwd.nD Cert.GlaBwd.τ).loc Cert.GlaBwd.main_arg14) = m ((c.tc : Thread Cert.GlaBwd.nD Cert.GlaBwd.τ).loc Cert.GlaBwd.main_arg14))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5)
      ∧ r.2.mem ((c.tc : Thread Cert.GlaBwdIdeal.nD Cert.GlaBwdIdeal.τ).loc Cert.GlaBwdIdeal.main_arg6) = m ((c.tc : Thread Cert.GlaBwdIdeal.nD Cert.GlaBwdIdeal.τ).loc Cert.GlaBwdIdeal.main_arg6)
      ∧ r.2.mem ((c.tc : Thread Cert.GlaBwdIdeal.nD Cert.GlaBwdIdeal.τ).loc Cert.GlaBwdIdeal.main_arg7) = m ((c.tc : Thread Cert.GlaBwdIdeal.nD Cert.GlaBwdIdeal.τ).loc Cert.GlaBwdIdeal.main_arg7)
      ∧ r.2.mem ((c.tc : Thread Cert.GlaBwdIdeal.nD Cert.GlaBwdIdeal.τ).loc Cert.GlaBwdIdeal.main_arg8) = m ((c.tc : Thread Cert.GlaBwdIdeal.nD Cert.GlaBwdIdeal.τ).loc Cert.GlaBwdIdeal.main_arg8)
      ∧ r.2.mem ((c.tc : Thread Cert.GlaBwdIdeal.nD Cert.GlaBwdIdeal.τ).loc Cert.GlaBwdIdeal.main_arg9) = m ((c.tc : Thread Cert.GlaBwdIdeal.nD Cert.GlaBwdIdeal.τ).loc Cert.GlaBwdIdeal.main_arg9)
      ∧ r.2.mem ((c.tc : Thread Cert.GlaBwdIdeal.nD Cert.GlaBwdIdeal.τ).loc Cert.GlaBwdIdeal.main_arg10) = m ((c.tc : Thread Cert.GlaBwdIdeal.nD Cert.GlaBwdIdeal.τ).loc Cert.GlaBwdIdeal.main_arg10)
      ∧ r.2.mem ((c.tc : Thread Cert.GlaBwdIdeal.nD Cert.GlaBwdIdeal.τ).loc Cert.GlaBwdIdeal.main_arg11) = m ((c.tc : Thread Cert.GlaBwdIdeal.nD Cert.GlaBwdIdeal.τ).loc Cert.GlaBwdIdeal.main_arg11)
      ∧ r.2.mem ((c.tc : Thread Cert.GlaBwdIdeal.nD Cert.GlaBwdIdeal.τ).loc Cert.GlaBwdIdeal.main_arg12) = m ((c.tc : Thread Cert.GlaBwdIdeal.nD Cert.GlaBwdIdeal.τ).loc Cert.GlaBwdIdeal.main_arg12)
      ∧ r.2.mem ((c.tc : Thread Cert.GlaBwdIdeal.nD Cert.GlaBwdIdeal.τ).loc Cert.GlaBwdIdeal.main_arg13) = m ((c.tc : Thread Cert.GlaBwdIdeal.nD Cert.GlaBwdIdeal.τ).loc Cert.GlaBwdIdeal.main_arg13)
      ∧ r.2.mem ((c.tc : Thread Cert.GlaBwdIdeal.nD Cert.GlaBwdIdeal.τ).loc Cert.GlaBwdIdeal.main_arg14) = m ((c.tc : Thread Cert.GlaBwdIdeal.nD Cert.GlaBwdIdeal.τ).loc Cert.GlaBwdIdeal.main_arg14))
      ∧ r.2.sem = fun _ => 0)

def quiescent_GlaBwdIdeal_pre_finite_gates [hGlaBwdIdeal : Cert.GlaBwdIdeal.Facts] [hPre_finite_gates : Cert.Pre_finite_gates.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal_finite_gates m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5)
      ∧ r.2.mem ((c.tc : Thread Cert.GlaBwdIdeal.nD Cert.GlaBwdIdeal.τ).loc Cert.GlaBwdIdeal.main_arg6) = m ((c.tc : Thread Cert.GlaBwdIdeal.nD Cert.GlaBwdIdeal.τ).loc Cert.GlaBwdIdeal.main_arg6)
      ∧ r.2.mem ((c.tc : Thread Cert.GlaBwdIdeal.nD Cert.GlaBwdIdeal.τ).loc Cert.GlaBwdIdeal.main_arg7) = m ((c.tc : Thread Cert.GlaBwdIdeal.nD Cert.GlaBwdIdeal.τ).loc Cert.GlaBwdIdeal.main_arg7)
      ∧ r.2.mem ((c.tc : Thread Cert.GlaBwdIdeal.nD Cert.GlaBwdIdeal.τ).loc Cert.GlaBwdIdeal.main_arg8) = m ((c.tc : Thread Cert.GlaBwdIdeal.nD Cert.GlaBwdIdeal.τ).loc Cert.GlaBwdIdeal.main_arg8)
      ∧ r.2.mem ((c.tc : Thread Cert.GlaBwdIdeal.nD Cert.GlaBwdIdeal.τ).loc Cert.GlaBwdIdeal.main_arg9) = m ((c.tc : Thread Cert.GlaBwdIdeal.nD Cert.GlaBwdIdeal.τ).loc Cert.GlaBwdIdeal.main_arg9)
      ∧ r.2.mem ((c.tc : Thread Cert.GlaBwdIdeal.nD Cert.GlaBwdIdeal.τ).loc Cert.GlaBwdIdeal.main_arg10) = m ((c.tc : Thread Cert.GlaBwdIdeal.nD Cert.GlaBwdIdeal.τ).loc Cert.GlaBwdIdeal.main_arg10)
      ∧ r.2.mem ((c.tc : Thread Cert.GlaBwdIdeal.nD Cert.GlaBwdIdeal.τ).loc Cert.GlaBwdIdeal.main_arg11) = m ((c.tc : Thread Cert.GlaBwdIdeal.nD Cert.GlaBwdIdeal.τ).loc Cert.GlaBwdIdeal.main_arg11)
      ∧ r.2.mem ((c.tc : Thread Cert.GlaBwdIdeal.nD Cert.GlaBwdIdeal.τ).loc Cert.GlaBwdIdeal.main_arg12) = m ((c.tc : Thread Cert.GlaBwdIdeal.nD Cert.GlaBwdIdeal.τ).loc Cert.GlaBwdIdeal.main_arg12)
      ∧ r.2.mem ((c.tc : Thread Cert.GlaBwdIdeal.nD Cert.GlaBwdIdeal.τ).loc Cert.GlaBwdIdeal.main_arg13) = m ((c.tc : Thread Cert.GlaBwdIdeal.nD Cert.GlaBwdIdeal.τ).loc Cert.GlaBwdIdeal.main_arg13)
      ∧ r.2.mem ((c.tc : Thread Cert.GlaBwdIdeal.nD Cert.GlaBwdIdeal.τ).loc Cert.GlaBwdIdeal.main_arg14) = m ((c.tc : Thread Cert.GlaBwdIdeal.nD Cert.GlaBwdIdeal.τ).loc Cert.GlaBwdIdeal.main_arg14))
      ∧ r.2.sem = fun _ => 0)

def quiescent_GlaBwdRefIdeal [hGlaBwdRefIdeal : Cert.GlaBwdRefIdeal.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3)
      ∧ r.2.mem ((c.tc : Thread Cert.GlaBwdRefIdeal.nD Cert.GlaBwdRefIdeal.τ).loc Cert.GlaBwdRefIdeal.main_arg4) = m ((c.tc : Thread Cert.GlaBwdRefIdeal.nD Cert.GlaBwdRefIdeal.τ).loc Cert.GlaBwdRefIdeal.main_arg4)
      ∧ r.2.mem ((c.tc : Thread Cert.GlaBwdRefIdeal.nD Cert.GlaBwdRefIdeal.τ).loc Cert.GlaBwdRefIdeal.main_arg5) = m ((c.tc : Thread Cert.GlaBwdRefIdeal.nD Cert.GlaBwdRefIdeal.τ).loc Cert.GlaBwdRefIdeal.main_arg5)
      ∧ r.2.mem ((c.tc : Thread Cert.GlaBwdRefIdeal.nD Cert.GlaBwdRefIdeal.τ).loc Cert.GlaBwdRefIdeal.main_arg6) = m ((c.tc : Thread Cert.GlaBwdRefIdeal.nD Cert.GlaBwdRefIdeal.τ).loc Cert.GlaBwdRefIdeal.main_arg6)
      ∧ r.2.mem ((c.tc : Thread Cert.GlaBwdRefIdeal.nD Cert.GlaBwdRefIdeal.τ).loc Cert.GlaBwdRefIdeal.main_arg7) = m ((c.tc : Thread Cert.GlaBwdRefIdeal.nD Cert.GlaBwdRefIdeal.τ).loc Cert.GlaBwdRefIdeal.main_arg7)
      ∧ r.2.mem ((c.tc : Thread Cert.GlaBwdRefIdeal.nD Cert.GlaBwdRefIdeal.τ).loc Cert.GlaBwdRefIdeal.main_arg8) = m ((c.tc : Thread Cert.GlaBwdRefIdeal.nD Cert.GlaBwdRefIdeal.τ).loc Cert.GlaBwdRefIdeal.main_arg8)
      ∧ r.2.mem ((c.tc : Thread Cert.GlaBwdRefIdeal.nD Cert.GlaBwdRefIdeal.τ).loc Cert.GlaBwdRefIdeal.main_arg9) = m ((c.tc : Thread Cert.GlaBwdRefIdeal.nD Cert.GlaBwdRefIdeal.τ).loc Cert.GlaBwdRefIdeal.main_arg9)
      ∧ r.2.mem ((c.tc : Thread Cert.GlaBwdRefIdeal.nD Cert.GlaBwdRefIdeal.τ).loc Cert.GlaBwdRefIdeal.main_arg10) = m ((c.tc : Thread Cert.GlaBwdRefIdeal.nD Cert.GlaBwdRefIdeal.τ).loc Cert.GlaBwdRefIdeal.main_arg10)
      ∧ r.2.mem ((c.tc : Thread Cert.GlaBwdRefIdeal.nD Cert.GlaBwdRefIdeal.τ).loc Cert.GlaBwdRefIdeal.main_arg11) = m ((c.tc : Thread Cert.GlaBwdRefIdeal.nD Cert.GlaBwdRefIdeal.τ).loc Cert.GlaBwdRefIdeal.main_arg11)
      ∧ r.2.mem ((c.tc : Thread Cert.GlaBwdRefIdeal.nD Cert.GlaBwdRefIdeal.τ).loc Cert.GlaBwdRefIdeal.main_arg12) = m ((c.tc : Thread Cert.GlaBwdRefIdeal.nD Cert.GlaBwdRefIdeal.τ).loc Cert.GlaBwdRefIdeal.main_arg12)
      ∧ r.2.mem ((c.tc : Thread Cert.GlaBwdRefIdeal.nD Cert.GlaBwdRefIdeal.τ).loc Cert.GlaBwdRefIdeal.main_arg13) = m ((c.tc : Thread Cert.GlaBwdRefIdeal.nD Cert.GlaBwdRefIdeal.τ).loc Cert.GlaBwdRefIdeal.main_arg13)
      ∧ r.2.mem ((c.tc : Thread Cert.GlaBwdRefIdeal.nD Cert.GlaBwdRefIdeal.τ).loc Cert.GlaBwdRefIdeal.main_arg14) = m ((c.tc : Thread Cert.GlaBwdRefIdeal.nD Cert.GlaBwdRefIdeal.τ).loc Cert.GlaBwdRefIdeal.main_arg14))
      ∧ r.2.sem = fun _ => 0)

def quiescent_GlaBwdRefIdeal_pre_finite_gates [hGlaBwdRefIdeal : Cert.GlaBwdRefIdeal.Facts] [hPre_finite_gates : Cert.Pre_finite_gates.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal_finite_gates m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3)
      ∧ r.2.mem ((c.tc : Thread Cert.GlaBwdRefIdeal.nD Cert.GlaBwdRefIdeal.τ).loc Cert.GlaBwdRefIdeal.main_arg4) = m ((c.tc : Thread Cert.GlaBwdRefIdeal.nD Cert.GlaBwdRefIdeal.τ).loc Cert.GlaBwdRefIdeal.main_arg4)
      ∧ r.2.mem ((c.tc : Thread Cert.GlaBwdRefIdeal.nD Cert.GlaBwdRefIdeal.τ).loc Cert.GlaBwdRefIdeal.main_arg5) = m ((c.tc : Thread Cert.GlaBwdRefIdeal.nD Cert.GlaBwdRefIdeal.τ).loc Cert.GlaBwdRefIdeal.main_arg5)
      ∧ r.2.mem ((c.tc : Thread Cert.GlaBwdRefIdeal.nD Cert.GlaBwdRefIdeal.τ).loc Cert.GlaBwdRefIdeal.main_arg6) = m ((c.tc : Thread Cert.GlaBwdRefIdeal.nD Cert.GlaBwdRefIdeal.τ).loc Cert.GlaBwdRefIdeal.main_arg6)
      ∧ r.2.mem ((c.tc : Thread Cert.GlaBwdRefIdeal.nD Cert.GlaBwdRefIdeal.τ).loc Cert.GlaBwdRefIdeal.main_arg7) = m ((c.tc : Thread Cert.GlaBwdRefIdeal.nD Cert.GlaBwdRefIdeal.τ).loc Cert.GlaBwdRefIdeal.main_arg7)
      ∧ r.2.mem ((c.tc : Thread Cert.GlaBwdRefIdeal.nD Cert.GlaBwdRefIdeal.τ).loc Cert.GlaBwdRefIdeal.main_arg8) = m ((c.tc : Thread Cert.GlaBwdRefIdeal.nD Cert.GlaBwdRefIdeal.τ).loc Cert.GlaBwdRefIdeal.main_arg8)
      ∧ r.2.mem ((c.tc : Thread Cert.GlaBwdRefIdeal.nD Cert.GlaBwdRefIdeal.τ).loc Cert.GlaBwdRefIdeal.main_arg9) = m ((c.tc : Thread Cert.GlaBwdRefIdeal.nD Cert.GlaBwdRefIdeal.τ).loc Cert.GlaBwdRefIdeal.main_arg9)
      ∧ r.2.mem ((c.tc : Thread Cert.GlaBwdRefIdeal.nD Cert.GlaBwdRefIdeal.τ).loc Cert.GlaBwdRefIdeal.main_arg10) = m ((c.tc : Thread Cert.GlaBwdRefIdeal.nD Cert.GlaBwdRefIdeal.τ).loc Cert.GlaBwdRefIdeal.main_arg10)
      ∧ r.2.mem ((c.tc : Thread Cert.GlaBwdRefIdeal.nD Cert.GlaBwdRefIdeal.τ).loc Cert.GlaBwdRefIdeal.main_arg11) = m ((c.tc : Thread Cert.GlaBwdRefIdeal.nD Cert.GlaBwdRefIdeal.τ).loc Cert.GlaBwdRefIdeal.main_arg11)
      ∧ r.2.mem ((c.tc : Thread Cert.GlaBwdRefIdeal.nD Cert.GlaBwdRefIdeal.τ).loc Cert.GlaBwdRefIdeal.main_arg12) = m ((c.tc : Thread Cert.GlaBwdRefIdeal.nD Cert.GlaBwdRefIdeal.τ).loc Cert.GlaBwdRefIdeal.main_arg12)
      ∧ r.2.mem ((c.tc : Thread Cert.GlaBwdRefIdeal.nD Cert.GlaBwdRefIdeal.τ).loc Cert.GlaBwdRefIdeal.main_arg13) = m ((c.tc : Thread Cert.GlaBwdRefIdeal.nD Cert.GlaBwdRefIdeal.τ).loc Cert.GlaBwdRefIdeal.main_arg13)
      ∧ r.2.mem ((c.tc : Thread Cert.GlaBwdRefIdeal.nD Cert.GlaBwdRefIdeal.τ).loc Cert.GlaBwdRefIdeal.main_arg14) = m ((c.tc : Thread Cert.GlaBwdRefIdeal.nD Cert.GlaBwdRefIdeal.τ).loc Cert.GlaBwdRefIdeal.main_arg14))
      ∧ r.2.sem = fun _ => 0)

def quiescent_MlpDx [hMlpDx : Cert.MlpDx.Facts] : Prop :=
  ∀ (m : (ℓ : Loc Cert.MlpDx.nD Cert.MlpDx.τ Cert.MlpDx.sig) → Buf (Elt Bits) ℓ) (g : Dev Cert.MlpDx.nD → PrngReg), Pre_MlpDx m →
    θ_run (Cert.MlpDx.defs (F := Bits)) (onTc (τ := Cert.MlpDx.τ) (Cert.MlpDx.main (F := Bits))) ⟨m, fun _ => 0, g⟩ (fun r => (∀ c : Dev Cert.MlpDx.nD,
      r.2.mem ((c.tc : Thread Cert.MlpDx.nD Cert.MlpDx.τ).loc Cert.MlpDx.main_arg0) = m ((c.tc : Thread Cert.MlpDx.nD Cert.MlpDx.τ).loc Cert.MlpDx.main_arg0)
      ∧ r.2.mem ((c.tc : Thread Cert.MlpDx.nD Cert.MlpDx.τ).loc Cert.MlpDx.main_arg1) = m ((c.tc : Thread Cert.MlpDx.nD Cert.MlpDx.τ).loc Cert.MlpDx.main_arg1)
      ∧ r.2.mem ((c.tc : Thread Cert.MlpDx.nD Cert.MlpDx.τ).loc Cert.MlpDx.main_arg2) = m ((c.tc : Thread Cert.MlpDx.nD Cert.MlpDx.τ).loc Cert.MlpDx.main_arg2)
      ∧ r.2.mem ((c.tc : Thread Cert.MlpDx.nD Cert.MlpDx.τ).loc Cert.MlpDx.main_arg3) = m ((c.tc : Thread Cert.MlpDx.nD Cert.MlpDx.τ).loc Cert.MlpDx.main_arg3)
      ∧ r.2.mem ((c.tc : Thread Cert.MlpDx.nD Cert.MlpDx.τ).loc Cert.MlpDx.main_arg4) = m ((c.tc : Thread Cert.MlpDx.nD Cert.MlpDx.τ).loc Cert.MlpDx.main_arg4)
      ∧ r.2.mem ((c.tc : Thread Cert.MlpDx.nD Cert.MlpDx.τ).loc Cert.MlpDx.main_arg5) = m ((c.tc : Thread Cert.MlpDx.nD Cert.MlpDx.τ).loc Cert.MlpDx.main_arg5)
      ∧ r.2.mem ((c.tc : Thread Cert.MlpDx.nD Cert.MlpDx.τ).loc Cert.MlpDx.main_arg6) = m ((c.tc : Thread Cert.MlpDx.nD Cert.MlpDx.τ).loc Cert.MlpDx.main_arg6)
      ∧ r.2.mem ((c.tc : Thread Cert.MlpDx.nD Cert.MlpDx.τ).loc Cert.MlpDx.main_arg7) = m ((c.tc : Thread Cert.MlpDx.nD Cert.MlpDx.τ).loc Cert.MlpDx.main_arg7))
      ∧ r.2.sem = fun _ => 0)

def quiescent_MlpDxIdeal [hMlpDxIdeal : Cert.MlpDxIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
      ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
      ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4)
      ∧ r.2.mem ((c.tc : Thread Cert.MlpDxIdeal.nD Cert.MlpDxIdeal.τ).loc Cert.MlpDxIdeal.main_arg5) = m ((c.tc : Thread Cert.MlpDxIdeal.nD Cert.MlpDxIdeal.τ).loc Cert.MlpDxIdeal.main_arg5)
      ∧ r.2.mem ((c.tc : Thread Cert.MlpDxIdeal.nD Cert.MlpDxIdeal.τ).loc Cert.MlpDxIdeal.main_arg6) = m ((c.tc : Thread Cert.MlpDxIdeal.nD Cert.MlpDxIdeal.τ).loc Cert.MlpDxIdeal.main_arg6)
      ∧ r.2.mem ((c.tc : Thread Cert.MlpDxIdeal.nD Cert.MlpDxIdeal.τ).loc Cert.MlpDxIdeal.main_arg7) = m ((c.tc : Thread Cert.MlpDxIdeal.nD Cert.MlpDxIdeal.τ).loc Cert.MlpDxIdeal.main_arg7))
      ∧ r.2.sem = fun _ => 0)

def quiescent_MlpDxRefIdeal [hMlpDxRefIdeal : Cert.MlpDxRefIdeal.Facts] : Prop :=
  ∀ (m : (ℓ : Loc Cert.MlpDxRefIdeal.nD Cert.MlpDxRefIdeal.τ Cert.MlpDxRefIdeal.sig) → Buf (Elt Ideal) ℓ) (g : Dev Cert.MlpDxRefIdeal.nD → PrngReg), Pre_MlpDxRefIdeal m →
    θ_run (Cert.MlpDxRefIdeal.defs (F := Ideal)) (onTc (τ := Cert.MlpDxRefIdeal.τ) (Cert.MlpDxRefIdeal.main (F := Ideal))) ⟨m, fun _ => 0, g⟩ (fun r => (∀ c : Dev Cert.MlpDxRefIdeal.nD,
      r.2.mem ((c.tc : Thread Cert.MlpDxRefIdeal.nD Cert.MlpDxRefIdeal.τ).loc Cert.MlpDxRefIdeal.main_arg0) = m ((c.tc : Thread Cert.MlpDxRefIdeal.nD Cert.MlpDxRefIdeal.τ).loc Cert.MlpDxRefIdeal.main_arg0)
      ∧ r.2.mem ((c.tc : Thread Cert.MlpDxRefIdeal.nD Cert.MlpDxRefIdeal.τ).loc Cert.MlpDxRefIdeal.main_arg1) = m ((c.tc : Thread Cert.MlpDxRefIdeal.nD Cert.MlpDxRefIdeal.τ).loc Cert.MlpDxRefIdeal.main_arg1)
      ∧ r.2.mem ((c.tc : Thread Cert.MlpDxRefIdeal.nD Cert.MlpDxRefIdeal.τ).loc Cert.MlpDxRefIdeal.main_arg2) = m ((c.tc : Thread Cert.MlpDxRefIdeal.nD Cert.MlpDxRefIdeal.τ).loc Cert.MlpDxRefIdeal.main_arg2)
      ∧ r.2.mem ((c.tc : Thread Cert.MlpDxRefIdeal.nD Cert.MlpDxRefIdeal.τ).loc Cert.MlpDxRefIdeal.main_arg3) = m ((c.tc : Thread Cert.MlpDxRefIdeal.nD Cert.MlpDxRefIdeal.τ).loc Cert.MlpDxRefIdeal.main_arg3)
      ∧ r.2.mem ((c.tc : Thread Cert.MlpDxRefIdeal.nD Cert.MlpDxRefIdeal.τ).loc Cert.MlpDxRefIdeal.main_arg4) = m ((c.tc : Thread Cert.MlpDxRefIdeal.nD Cert.MlpDxRefIdeal.τ).loc Cert.MlpDxRefIdeal.main_arg4)
      ∧ r.2.mem ((c.tc : Thread Cert.MlpDxRefIdeal.nD Cert.MlpDxRefIdeal.τ).loc Cert.MlpDxRefIdeal.main_arg5) = m ((c.tc : Thread Cert.MlpDxRefIdeal.nD Cert.MlpDxRefIdeal.τ).loc Cert.MlpDxRefIdeal.main_arg5)
      ∧ r.2.mem ((c.tc : Thread Cert.MlpDxRefIdeal.nD Cert.MlpDxRefIdeal.τ).loc Cert.MlpDxRefIdeal.main_arg6) = m ((c.tc : Thread Cert.MlpDxRefIdeal.nD Cert.MlpDxRefIdeal.τ).loc Cert.MlpDxRefIdeal.main_arg6)
      ∧ r.2.mem ((c.tc : Thread Cert.MlpDxRefIdeal.nD Cert.MlpDxRefIdeal.τ).loc Cert.MlpDxRefIdeal.main_arg7) = m ((c.tc : Thread Cert.MlpDxRefIdeal.nD Cert.MlpDxRefIdeal.τ).loc Cert.MlpDxRefIdeal.main_arg7))
      ∧ r.2.sem = fun _ => 0)

def quiescent_MlpLoss [hMlpLoss : Cert.MlpLoss.Facts] : Prop :=
  ∀ (m : (ℓ : Loc Cert.MlpLoss.nD Cert.MlpLoss.τ Cert.MlpLoss.sig) → Buf (Elt Bits) ℓ) (g : Dev Cert.MlpLoss.nD → PrngReg), Pre_MlpLoss m →
    θ_run (Cert.MlpLoss.defs (F := Bits)) (onTc (τ := Cert.MlpLoss.τ) (Cert.MlpLoss.main (F := Bits))) ⟨m, fun _ => 0, g⟩ (fun r => (∀ c : Dev Cert.MlpLoss.nD,
      r.2.mem ((c.tc : Thread Cert.MlpLoss.nD Cert.MlpLoss.τ).loc Cert.MlpLoss.main_arg0) = m ((c.tc : Thread Cert.MlpLoss.nD Cert.MlpLoss.τ).loc Cert.MlpLoss.main_arg0)
      ∧ r.2.mem ((c.tc : Thread Cert.MlpLoss.nD Cert.MlpLoss.τ).loc Cert.MlpLoss.main_arg1) = m ((c.tc : Thread Cert.MlpLoss.nD Cert.MlpLoss.τ).loc Cert.MlpLoss.main_arg1)
      ∧ r.2.mem ((c.tc : Thread Cert.MlpLoss.nD Cert.MlpLoss.τ).loc Cert.MlpLoss.main_arg2) = m ((c.tc : Thread Cert.MlpLoss.nD Cert.MlpLoss.τ).loc Cert.MlpLoss.main_arg2)
      ∧ r.2.mem ((c.tc : Thread Cert.MlpLoss.nD Cert.MlpLoss.τ).loc Cert.MlpLoss.main_arg3) = m ((c.tc : Thread Cert.MlpLoss.nD Cert.MlpLoss.τ).loc Cert.MlpLoss.main_arg3)
      ∧ r.2.mem ((c.tc : Thread Cert.MlpLoss.nD Cert.MlpLoss.τ).loc Cert.MlpLoss.main_arg4) = m ((c.tc : Thread Cert.MlpLoss.nD Cert.MlpLoss.τ).loc Cert.MlpLoss.main_arg4)
      ∧ r.2.mem ((c.tc : Thread Cert.MlpLoss.nD Cert.MlpLoss.τ).loc Cert.MlpLoss.main_arg5) = m ((c.tc : Thread Cert.MlpLoss.nD Cert.MlpLoss.τ).loc Cert.MlpLoss.main_arg5))
      ∧ r.2.sem = fun _ => 0)

def quiescent_MlpLossIdeal [hMlpLossIdeal : Cert.MlpLossIdeal.Facts] : Prop :=
  ∀ (m : (ℓ : Loc Cert.MlpLossIdeal.nD Cert.MlpLossIdeal.τ Cert.MlpLossIdeal.sig) → Buf (Elt Ideal) ℓ) (g : Dev Cert.MlpLossIdeal.nD → PrngReg), Pre_MlpLossIdeal m →
    θ_run (Cert.MlpLossIdeal.defs (F := Ideal)) (onTc (τ := Cert.MlpLossIdeal.τ) (Cert.MlpLossIdeal.main (F := Ideal))) ⟨m, fun _ => 0, g⟩ (fun r => (∀ c : Dev Cert.MlpLossIdeal.nD,
      r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
      ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
      ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
      ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
      ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
      ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5))
      ∧ r.2.sem = fun _ => 0)

def quiescent_MlpLossRefIdeal [hMlpLossRefIdeal : Cert.MlpLossRefIdeal.Facts] : Prop :=
  ∀ (m : (ℓ : Loc Cert.MlpLossRefIdeal.nD Cert.MlpLossRefIdeal.τ Cert.MlpLossRefIdeal.sig) → Buf (Elt Ideal) ℓ) (g : Dev Cert.MlpLossRefIdeal.nD → PrngReg), Pre_MlpLossRefIdeal m →
    θ_run (Cert.MlpLossRefIdeal.defs (F := Ideal)) (onTc (τ := Cert.MlpLossRefIdeal.τ) (Cert.MlpLossRefIdeal.main (F := Ideal))) ⟨m, fun _ => 0, g⟩ (fun r => (∀ c : Dev Cert.MlpLossRefIdeal.nD,
      r.2.mem ((c.tc : Thread Cert.MlpLossRefIdeal.nD Cert.MlpLossRefIdeal.τ).loc Cert.MlpLossRefIdeal.main_arg0) = m ((c.tc : Thread Cert.MlpLossRefIdeal.nD Cert.MlpLossRefIdeal.τ).loc Cert.MlpLossRefIdeal.main_arg0)
      ∧ r.2.mem ((c.tc : Thread Cert.MlpLossRefIdeal.nD Cert.MlpLossRefIdeal.τ).loc Cert.MlpLossRefIdeal.main_arg1) = m ((c.tc : Thread Cert.MlpLossRefIdeal.nD Cert.MlpLossRefIdeal.τ).loc Cert.MlpLossRefIdeal.main_arg1)
      ∧ r.2.mem ((c.tc : Thread Cert.MlpLossRefIdeal.nD Cert.MlpLossRefIdeal.τ).loc Cert.MlpLossRefIdeal.main_arg2) = m ((c.tc : Thread Cert.MlpLossRefIdeal.nD Cert.MlpLossRefIdeal.τ).loc Cert.MlpLossRefIdeal.main_arg2)
      ∧ r.2.mem ((c.tc : Thread Cert.MlpLossRefIdeal.nD Cert.MlpLossRefIdeal.τ).loc Cert.MlpLossRefIdeal.main_arg3) = m ((c.tc : Thread Cert.MlpLossRefIdeal.nD Cert.MlpLossRefIdeal.τ).loc Cert.MlpLossRefIdeal.main_arg3)
      ∧ r.2.mem ((c.tc : Thread Cert.MlpLossRefIdeal.nD Cert.MlpLossRefIdeal.τ).loc Cert.MlpLossRefIdeal.main_arg4) = m ((c.tc : Thread Cert.MlpLossRefIdeal.nD Cert.MlpLossRefIdeal.τ).loc Cert.MlpLossRefIdeal.main_arg4)
      ∧ r.2.mem ((c.tc : Thread Cert.MlpLossRefIdeal.nD Cert.MlpLossRefIdeal.τ).loc Cert.MlpLossRefIdeal.main_arg5) = m ((c.tc : Thread Cert.MlpLossRefIdeal.nD Cert.MlpLossRefIdeal.τ).loc Cert.MlpLossRefIdeal.main_arg5))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1)
      ∧ r.2.mem ((c.tc : Thread Cert.MlpDownDw.nD Cert.MlpDownDw.τ).loc Cert.MlpDownDw.main_arg2) = m ((c.tc : Thread Cert.MlpDownDw.nD Cert.MlpDownDw.τ).loc Cert.MlpDownDw.main_arg2))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1)
      ∧ r.2.mem ((c.tc : Thread Cert.MlpDownDwIdeal.nD Cert.MlpDownDwIdeal.τ).loc Cert.MlpDownDwIdeal.main_arg2) = m ((c.tc : Thread Cert.MlpDownDwIdeal.nD Cert.MlpDownDwIdeal.τ).loc Cert.MlpDownDwIdeal.main_arg2))
      ∧ r.2.sem = fun _ => 0)

def quiescent_MlpDownDwRefIdeal [hMlpDownDwRefIdeal : Cert.MlpDownDwRefIdeal.Facts] : Prop :=
  ∀ (m : (ℓ : Loc Cert.MlpDownDwRefIdeal.nD Cert.MlpDownDwRefIdeal.τ Cert.MlpDownDwRefIdeal.sig) → Buf (Elt Ideal) ℓ) (g : Dev Cert.MlpDownDwRefIdeal.nD → PrngReg), Pre_MlpDownDwRefIdeal m →
    θ_run (Cert.MlpDownDwRefIdeal.defs (F := Ideal)) (onTc (τ := Cert.MlpDownDwRefIdeal.τ) (Cert.MlpDownDwRefIdeal.main (F := Ideal))) ⟨m, fun _ => 0, g⟩ (fun r => (∀ c : Dev Cert.MlpDownDwRefIdeal.nD,
      r.2.mem ((c.tc : Thread Cert.MlpDownDwRefIdeal.nD Cert.MlpDownDwRefIdeal.τ).loc Cert.MlpDownDwRefIdeal.main_arg0) = m ((c.tc : Thread Cert.MlpDownDwRefIdeal.nD Cert.MlpDownDwRefIdeal.τ).loc Cert.MlpDownDwRefIdeal.main_arg0)
      ∧ r.2.mem ((c.tc : Thread Cert.MlpDownDwRefIdeal.nD Cert.MlpDownDwRefIdeal.τ).loc Cert.MlpDownDwRefIdeal.main_arg1) = m ((c.tc : Thread Cert.MlpDownDwRefIdeal.nD Cert.MlpDownDwRefIdeal.τ).loc Cert.MlpDownDwRefIdeal.main_arg1)
      ∧ r.2.mem ((c.tc : Thread Cert.MlpDownDwRefIdeal.nD Cert.MlpDownDwRefIdeal.τ).loc Cert.MlpDownDwRefIdeal.main_arg2) = m ((c.tc : Thread Cert.MlpDownDwRefIdeal.nD Cert.MlpDownDwRefIdeal.τ).loc Cert.MlpDownDwRefIdeal.main_arg2))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ r.2.sem = fun _ => 0)

def quiescent_MlpUpDwRefIdeal [hMlpUpDwRefIdeal : Cert.MlpUpDwRefIdeal.Facts] : Prop :=
  ∀ (m : (ℓ : Loc Cert.MlpUpDwRefIdeal.nD Cert.MlpUpDwRefIdeal.τ Cert.MlpUpDwRefIdeal.sig) → Buf (Elt Ideal) ℓ) (g : Dev Cert.MlpUpDwRefIdeal.nD → PrngReg), Pre_MlpUpDwRefIdeal m →
    θ_run (Cert.MlpUpDwRefIdeal.defs (F := Ideal)) (onTc (τ := Cert.MlpUpDwRefIdeal.τ) (Cert.MlpUpDwRefIdeal.main (F := Ideal))) ⟨m, fun _ => 0, g⟩ (fun r => (∀ c : Dev Cert.MlpUpDwRefIdeal.nD,
      r.2.mem ((c.tc : Thread Cert.MlpUpDwRefIdeal.nD Cert.MlpUpDwRefIdeal.τ).loc Cert.MlpUpDwRefIdeal.main_arg0) = m ((c.tc : Thread Cert.MlpUpDwRefIdeal.nD Cert.MlpUpDwRefIdeal.τ).loc Cert.MlpUpDwRefIdeal.main_arg0)
      ∧ r.2.mem ((c.tc : Thread Cert.MlpUpDwRefIdeal.nD Cert.MlpUpDwRefIdeal.τ).loc Cert.MlpUpDwRefIdeal.main_arg1) = m ((c.tc : Thread Cert.MlpUpDwRefIdeal.nD Cert.MlpUpDwRefIdeal.τ).loc Cert.MlpUpDwRefIdeal.main_arg1))
      ∧ r.2.sem = fun _ => 0)

def quiescent_ProjInDx [hProjInDx : Cert.ProjInDx.Facts] : Prop :=
  ∀ (m : (ℓ : Loc Cert.ProjInDx.nD Cert.ProjInDx.τ Cert.ProjInDx.sig) → Buf (Elt Bits) ℓ) (g : Dev Cert.ProjInDx.nD → PrngReg), Pre_ProjInDx m →
    θ_run (Cert.ProjInDx.defs (F := Bits)) (onTc (τ := Cert.ProjInDx.τ) (Cert.ProjInDx.main (F := Bits))) ⟨m, fun _ => 0, g⟩ (fun r => (∀ c : Dev Cert.ProjInDx.nD,
      r.2.mem ((c.tc : Thread Cert.ProjInDx.nD Cert.ProjInDx.τ).loc Cert.ProjInDx.main_arg0) = m ((c.tc : Thread Cert.ProjInDx.nD Cert.ProjInDx.τ).loc Cert.ProjInDx.main_arg0)
      ∧ r.2.mem ((c.tc : Thread Cert.ProjInDx.nD Cert.ProjInDx.τ).loc Cert.ProjInDx.main_arg1) = m ((c.tc : Thread Cert.ProjInDx.nD Cert.ProjInDx.τ).loc Cert.ProjInDx.main_arg1)
      ∧ r.2.mem ((c.tc : Thread Cert.ProjInDx.nD Cert.ProjInDx.τ).loc Cert.ProjInDx.main_arg2) = m ((c.tc : Thread Cert.ProjInDx.nD Cert.ProjInDx.τ).loc Cert.ProjInDx.main_arg2)
      ∧ r.2.mem ((c.tc : Thread Cert.ProjInDx.nD Cert.ProjInDx.τ).loc Cert.ProjInDx.main_arg3) = m ((c.tc : Thread Cert.ProjInDx.nD Cert.ProjInDx.τ).loc Cert.ProjInDx.main_arg3)
      ∧ r.2.mem ((c.tc : Thread Cert.ProjInDx.nD Cert.ProjInDx.τ).loc Cert.ProjInDx.main_arg4) = m ((c.tc : Thread Cert.ProjInDx.nD Cert.ProjInDx.τ).loc Cert.ProjInDx.main_arg4))
      ∧ r.2.sem = fun _ => 0)

def quiescent_ProjInDxIdeal [hProjInDxIdeal : Cert.ProjInDxIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg), Pre_ProjInDxIdeal m →
    θ_run (Cert.ProjInDxIdeal.defs (F := Ideal)) (onTc (τ := Cert.ProjInDxIdeal.τ) (Cert.ProjInDxIdeal.main (F := Ideal))) ⟨m, fun _ => 0, g⟩ (fun r => (∀ c : Dev Cert.ProjInDxIdeal.nD,
      r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
      ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1)
      ∧ r.2.mem ((c.tc : Thread Cert.ProjInDxIdeal.nD Cert.ProjInDxIdeal.τ).loc Cert.ProjInDxIdeal.main_arg2) = m ((c.tc : Thread Cert.ProjInDxIdeal.nD Cert.ProjInDxIdeal.τ).loc Cert.ProjInDxIdeal.main_arg2)
      ∧ r.2.mem ((c.tc : Thread Cert.ProjInDxIdeal.nD Cert.ProjInDxIdeal.τ).loc Cert.ProjInDxIdeal.main_arg3) = m ((c.tc : Thread Cert.ProjInDxIdeal.nD Cert.ProjInDxIdeal.τ).loc Cert.ProjInDxIdeal.main_arg3)
      ∧ r.2.mem ((c.tc : Thread Cert.ProjInDxIdeal.nD Cert.ProjInDxIdeal.τ).loc Cert.ProjInDxIdeal.main_arg4) = m ((c.tc : Thread Cert.ProjInDxIdeal.nD Cert.ProjInDxIdeal.τ).loc Cert.ProjInDxIdeal.main_arg4))
      ∧ r.2.sem = fun _ => 0)

def quiescent_ProjInDxRefIdeal [hProjInDxRefIdeal : Cert.ProjInDxRefIdeal.Facts] : Prop :=
  ∀ (m : (ℓ : Loc Cert.ProjInDxRefIdeal.nD Cert.ProjInDxRefIdeal.τ Cert.ProjInDxRefIdeal.sig) → Buf (Elt Ideal) ℓ) (g : Dev Cert.ProjInDxRefIdeal.nD → PrngReg), Pre_ProjInDxRefIdeal m →
    θ_run (Cert.ProjInDxRefIdeal.defs (F := Ideal)) (onTc (τ := Cert.ProjInDxRefIdeal.τ) (Cert.ProjInDxRefIdeal.main (F := Ideal))) ⟨m, fun _ => 0, g⟩ (fun r => (∀ c : Dev Cert.ProjInDxRefIdeal.nD,
      r.2.mem ((c.tc : Thread Cert.ProjInDxRefIdeal.nD Cert.ProjInDxRefIdeal.τ).loc Cert.ProjInDxRefIdeal.main_arg0) = m ((c.tc : Thread Cert.ProjInDxRefIdeal.nD Cert.ProjInDxRefIdeal.τ).loc Cert.ProjInDxRefIdeal.main_arg0)
      ∧ r.2.mem ((c.tc : Thread Cert.ProjInDxRefIdeal.nD Cert.ProjInDxRefIdeal.τ).loc Cert.ProjInDxRefIdeal.main_arg1) = m ((c.tc : Thread Cert.ProjInDxRefIdeal.nD Cert.ProjInDxRefIdeal.τ).loc Cert.ProjInDxRefIdeal.main_arg1)
      ∧ r.2.mem ((c.tc : Thread Cert.ProjInDxRefIdeal.nD Cert.ProjInDxRefIdeal.τ).loc Cert.ProjInDxRefIdeal.main_arg2) = m ((c.tc : Thread Cert.ProjInDxRefIdeal.nD Cert.ProjInDxRefIdeal.τ).loc Cert.ProjInDxRefIdeal.main_arg2)
      ∧ r.2.mem ((c.tc : Thread Cert.ProjInDxRefIdeal.nD Cert.ProjInDxRefIdeal.τ).loc Cert.ProjInDxRefIdeal.main_arg3) = m ((c.tc : Thread Cert.ProjInDxRefIdeal.nD Cert.ProjInDxRefIdeal.τ).loc Cert.ProjInDxRefIdeal.main_arg3)
      ∧ r.2.mem ((c.tc : Thread Cert.ProjInDxRefIdeal.nD Cert.ProjInDxRefIdeal.τ).loc Cert.ProjInDxRefIdeal.main_arg4) = m ((c.tc : Thread Cert.ProjInDxRefIdeal.nD Cert.ProjInDxRefIdeal.τ).loc Cert.ProjInDxRefIdeal.main_arg4))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1)
      ∧ r.2.mem ((c.tc : Thread Cert.MixDw.nD Cert.MixDw.τ).loc Cert.MixDw.main_arg2) = m ((c.tc : Thread Cert.MixDw.nD Cert.MixDw.τ).loc Cert.MixDw.main_arg2)
      ∧ r.2.mem ((c.tc : Thread Cert.MixDw.nD Cert.MixDw.τ).loc Cert.MixDw.main_arg3) = m ((c.tc : Thread Cert.MixDw.nD Cert.MixDw.τ).loc Cert.MixDw.main_arg3)
      ∧ r.2.mem ((c.tc : Thread Cert.MixDw.nD Cert.MixDw.τ).loc Cert.MixDw.main_arg4) = m ((c.tc : Thread Cert.MixDw.nD Cert.MixDw.τ).loc Cert.MixDw.main_arg4)
      ∧ r.2.mem ((c.tc : Thread Cert.MixDw.nD Cert.MixDw.τ).loc Cert.MixDw.main_arg5) = m ((c.tc : Thread Cert.MixDw.nD Cert.MixDw.τ).loc Cert.MixDw.main_arg5))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
      ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2)
      ∧ r.2.mem ((c.tc : Thread Cert.MixDwIdeal.nD Cert.MixDwIdeal.τ).loc Cert.MixDwIdeal.main_arg3) = m ((c.tc : Thread Cert.MixDwIdeal.nD Cert.MixDwIdeal.τ).loc Cert.MixDwIdeal.main_arg3)
      ∧ r.2.mem ((c.tc : Thread Cert.MixDwIdeal.nD Cert.MixDwIdeal.τ).loc Cert.MixDwIdeal.main_arg4) = m ((c.tc : Thread Cert.MixDwIdeal.nD Cert.MixDwIdeal.τ).loc Cert.MixDwIdeal.main_arg4)
      ∧ r.2.mem ((c.tc : Thread Cert.MixDwIdeal.nD Cert.MixDwIdeal.τ).loc Cert.MixDwIdeal.main_arg5) = m ((c.tc : Thread Cert.MixDwIdeal.nD Cert.MixDwIdeal.τ).loc Cert.MixDwIdeal.main_arg5))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1)
      ∧ r.2.mem ((c.tc : Thread Cert.MixDwRefIdeal.nD Cert.MixDwRefIdeal.τ).loc Cert.MixDwRefIdeal.main_arg2) = m ((c.tc : Thread Cert.MixDwRefIdeal.nD Cert.MixDwRefIdeal.τ).loc Cert.MixDwRefIdeal.main_arg2)
      ∧ r.2.mem ((c.tc : Thread Cert.MixDwRefIdeal.nD Cert.MixDwRefIdeal.τ).loc Cert.MixDwRefIdeal.main_arg3) = m ((c.tc : Thread Cert.MixDwRefIdeal.nD Cert.MixDwRefIdeal.τ).loc Cert.MixDwRefIdeal.main_arg3)
      ∧ r.2.mem ((c.tc : Thread Cert.MixDwRefIdeal.nD Cert.MixDwRefIdeal.τ).loc Cert.MixDwRefIdeal.main_arg4) = m ((c.tc : Thread Cert.MixDwRefIdeal.nD Cert.MixDwRefIdeal.τ).loc Cert.MixDwRefIdeal.main_arg4)
      ∧ r.2.mem ((c.tc : Thread Cert.MixDwRefIdeal.nD Cert.MixDwRefIdeal.τ).loc Cert.MixDwRefIdeal.main_arg5) = m ((c.tc : Thread Cert.MixDwRefIdeal.nD Cert.MixDwRefIdeal.τ).loc Cert.MixDwRefIdeal.main_arg5))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3))
      ∧ r.2.sem = fun _ => 0)

def quiescent_DecayBwd [hDecayBwd : Cert.DecayBwd.Facts] : Prop :=
  ∀ (m : (ℓ : Loc Cert.DecayBwd.nD Cert.DecayBwd.τ Cert.DecayBwd.sig) → Buf (Elt Bits) ℓ) (g : Dev Cert.DecayBwd.nD → PrngReg), Pre_DecayBwd m →
    θ_run (Cert.DecayBwd.defs (F := Bits)) (onTc (τ := Cert.DecayBwd.τ) (Cert.DecayBwd.main (F := Bits))) ⟨m, fun _ => 0, g⟩ (fun r => (∀ c : Dev Cert.DecayBwd.nD,
      r.2.mem ((c.tc : Thread Cert.DecayBwd.nD Cert.DecayBwd.τ).loc Cert.DecayBwd.main_arg0) = m ((c.tc : Thread Cert.DecayBwd.nD Cert.DecayBwd.τ).loc Cert.DecayBwd.main_arg0)
      ∧ r.2.mem ((c.tc : Thread Cert.DecayBwd.nD Cert.DecayBwd.τ).loc Cert.DecayBwd.main_arg1) = m ((c.tc : Thread Cert.DecayBwd.nD Cert.DecayBwd.τ).loc Cert.DecayBwd.main_arg1)
      ∧ r.2.mem ((c.tc : Thread Cert.DecayBwd.nD Cert.DecayBwd.τ).loc Cert.DecayBwd.main_arg2) = m ((c.tc : Thread Cert.DecayBwd.nD Cert.DecayBwd.τ).loc Cert.DecayBwd.main_arg2)
      ∧ r.2.mem ((c.tc : Thread Cert.DecayBwd.nD Cert.DecayBwd.τ).loc Cert.DecayBwd.main_arg3) = m ((c.tc : Thread Cert.DecayBwd.nD Cert.DecayBwd.τ).loc Cert.DecayBwd.main_arg3))
      ∧ r.2.sem = fun _ => 0)

def quiescent_DecayBwdIdeal [hDecayBwdIdeal : Cert.DecayBwdIdeal.Facts] : Prop :=
  ∀ (m : (ℓ : Loc Cert.DecayBwdIdeal.nD Cert.DecayBwdIdeal.τ Cert.DecayBwdIdeal.sig) → Buf (Elt Ideal) ℓ) (g : Dev Cert.DecayBwdIdeal.nD → PrngReg), Pre_DecayBwdIdeal m →
    θ_run (Cert.DecayBwdIdeal.defs (F := Ideal)) (onTc (τ := Cert.DecayBwdIdeal.τ) (Cert.DecayBwdIdeal.main (F := Ideal))) ⟨m, fun _ => 0, g⟩ (fun r => (∀ c : Dev Cert.DecayBwdIdeal.nD,
      r.2.mem ((c.tc : Thread Cert.DecayBwdIdeal.nD Cert.DecayBwdIdeal.τ).loc Cert.DecayBwdIdeal.main_arg0) = m ((c.tc : Thread Cert.DecayBwdIdeal.nD Cert.DecayBwdIdeal.τ).loc Cert.DecayBwdIdeal.main_arg0)
      ∧ r.2.mem ((c.tc : Thread Cert.DecayBwdIdeal.nD Cert.DecayBwdIdeal.τ).loc Cert.DecayBwdIdeal.main_arg1) = m ((c.tc : Thread Cert.DecayBwdIdeal.nD Cert.DecayBwdIdeal.τ).loc Cert.DecayBwdIdeal.main_arg1)
      ∧ r.2.mem ((c.tc : Thread Cert.DecayBwdIdeal.nD Cert.DecayBwdIdeal.τ).loc Cert.DecayBwdIdeal.main_arg2) = m ((c.tc : Thread Cert.DecayBwdIdeal.nD Cert.DecayBwdIdeal.τ).loc Cert.DecayBwdIdeal.main_arg2)
      ∧ r.2.mem ((c.tc : Thread Cert.DecayBwdIdeal.nD Cert.DecayBwdIdeal.τ).loc Cert.DecayBwdIdeal.main_arg3) = m ((c.tc : Thread Cert.DecayBwdIdeal.nD Cert.DecayBwdIdeal.τ).loc Cert.DecayBwdIdeal.main_arg3))
      ∧ r.2.sem = fun _ => 0)

def quiescent_DecayBwdIdeal_pre_smooth_gates [hDecayBwdIdeal : Cert.DecayBwdIdeal.Facts] [hPre_smooth_gates : Cert.Pre_smooth_gates.Facts] : Prop :=
  ∀ (m : (ℓ : Loc Cert.DecayBwdIdeal.nD Cert.DecayBwdIdeal.τ Cert.DecayBwdIdeal.sig) → Buf (Elt Ideal) ℓ) (g : Dev Cert.DecayBwdIdeal.nD → PrngReg), Pre_DecayBwdIdeal_smooth_gates m →
    θ_run (Cert.DecayBwdIdeal.defs (F := Ideal)) (onTc (τ := Cert.DecayBwdIdeal.τ) (Cert.DecayBwdIdeal.main (F := Ideal))) ⟨m, fun _ => 0, g⟩ (fun r => (∀ c : Dev Cert.DecayBwdIdeal.nD,
      r.2.mem ((c.tc : Thread Cert.DecayBwdIdeal.nD Cert.DecayBwdIdeal.τ).loc Cert.DecayBwdIdeal.main_arg0) = m ((c.tc : Thread Cert.DecayBwdIdeal.nD Cert.DecayBwdIdeal.τ).loc Cert.DecayBwdIdeal.main_arg0)
      ∧ r.2.mem ((c.tc : Thread Cert.DecayBwdIdeal.nD Cert.DecayBwdIdeal.τ).loc Cert.DecayBwdIdeal.main_arg1) = m ((c.tc : Thread Cert.DecayBwdIdeal.nD Cert.DecayBwdIdeal.τ).loc Cert.DecayBwdIdeal.main_arg1)
      ∧ r.2.mem ((c.tc : Thread Cert.DecayBwdIdeal.nD Cert.DecayBwdIdeal.τ).loc Cert.DecayBwdIdeal.main_arg2) = m ((c.tc : Thread Cert.DecayBwdIdeal.nD Cert.DecayBwdIdeal.τ).loc Cert.DecayBwdIdeal.main_arg2)
      ∧ r.2.mem ((c.tc : Thread Cert.DecayBwdIdeal.nD Cert.DecayBwdIdeal.τ).loc Cert.DecayBwdIdeal.main_arg3) = m ((c.tc : Thread Cert.DecayBwdIdeal.nD Cert.DecayBwdIdeal.τ).loc Cert.DecayBwdIdeal.main_arg3))
      ∧ r.2.sem = fun _ => 0)

def quiescent_DecayBwdRefIdeal [hDecayBwdRefIdeal : Cert.DecayBwdRefIdeal.Facts] : Prop :=
  ∀ (m : (ℓ : Loc Cert.DecayBwdRefIdeal.nD Cert.DecayBwdRefIdeal.τ Cert.DecayBwdRefIdeal.sig) → Buf (Elt Ideal) ℓ) (g : Dev Cert.DecayBwdRefIdeal.nD → PrngReg), Pre_DecayBwdRefIdeal m →
    θ_run (Cert.DecayBwdRefIdeal.defs (F := Ideal)) (onTc (τ := Cert.DecayBwdRefIdeal.τ) (Cert.DecayBwdRefIdeal.main (F := Ideal))) ⟨m, fun _ => 0, g⟩ (fun r => (∀ c : Dev Cert.DecayBwdRefIdeal.nD,
      r.2.mem ((c.tc : Thread Cert.DecayBwdRefIdeal.nD Cert.DecayBwdRefIdeal.τ).loc Cert.DecayBwdRefIdeal.main_arg0) = m ((c.tc : Thread Cert.DecayBwdRefIdeal.nD Cert.DecayBwdRefIdeal.τ).loc Cert.DecayBwdRefIdeal.main_arg0)
      ∧ r.2.mem ((c.tc : Thread Cert.DecayBwdRefIdeal.nD Cert.DecayBwdRefIdeal.τ).loc Cert.DecayBwdRefIdeal.main_arg1) = m ((c.tc : Thread Cert.DecayBwdRefIdeal.nD Cert.DecayBwdRefIdeal.τ).loc Cert.DecayBwdRefIdeal.main_arg1)
      ∧ r.2.mem ((c.tc : Thread Cert.DecayBwdRefIdeal.nD Cert.DecayBwdRefIdeal.τ).loc Cert.DecayBwdRefIdeal.main_arg2) = m ((c.tc : Thread Cert.DecayBwdRefIdeal.nD Cert.DecayBwdRefIdeal.τ).loc Cert.DecayBwdRefIdeal.main_arg2)
      ∧ r.2.mem ((c.tc : Thread Cert.DecayBwdRefIdeal.nD Cert.DecayBwdRefIdeal.τ).loc Cert.DecayBwdRefIdeal.main_arg3) = m ((c.tc : Thread Cert.DecayBwdRefIdeal.nD Cert.DecayBwdRefIdeal.τ).loc Cert.DecayBwdRefIdeal.main_arg3))
      ∧ r.2.sem = fun _ => 0)

def quiescent_DecayBwdRefIdeal_pre_smooth_gates [hDecayBwdRefIdeal : Cert.DecayBwdRefIdeal.Facts] [hPre_smooth_gates : Cert.Pre_smooth_gates.Facts] : Prop :=
  ∀ (m : (ℓ : Loc Cert.DecayBwdRefIdeal.nD Cert.DecayBwdRefIdeal.τ Cert.DecayBwdRefIdeal.sig) → Buf (Elt Ideal) ℓ) (g : Dev Cert.DecayBwdRefIdeal.nD → PrngReg), Pre_DecayBwdRefIdeal_smooth_gates m →
    θ_run (Cert.DecayBwdRefIdeal.defs (F := Ideal)) (onTc (τ := Cert.DecayBwdRefIdeal.τ) (Cert.DecayBwdRefIdeal.main (F := Ideal))) ⟨m, fun _ => 0, g⟩ (fun r => (∀ c : Dev Cert.DecayBwdRefIdeal.nD,
      r.2.mem ((c.tc : Thread Cert.DecayBwdRefIdeal.nD Cert.DecayBwdRefIdeal.τ).loc Cert.DecayBwdRefIdeal.main_arg0) = m ((c.tc : Thread Cert.DecayBwdRefIdeal.nD Cert.DecayBwdRefIdeal.τ).loc Cert.DecayBwdRefIdeal.main_arg0)
      ∧ r.2.mem ((c.tc : Thread Cert.DecayBwdRefIdeal.nD Cert.DecayBwdRefIdeal.τ).loc Cert.DecayBwdRefIdeal.main_arg1) = m ((c.tc : Thread Cert.DecayBwdRefIdeal.nD Cert.DecayBwdRefIdeal.τ).loc Cert.DecayBwdRefIdeal.main_arg1)
      ∧ r.2.mem ((c.tc : Thread Cert.DecayBwdRefIdeal.nD Cert.DecayBwdRefIdeal.τ).loc Cert.DecayBwdRefIdeal.main_arg2) = m ((c.tc : Thread Cert.DecayBwdRefIdeal.nD Cert.DecayBwdRefIdeal.τ).loc Cert.DecayBwdRefIdeal.main_arg2)
      ∧ r.2.mem ((c.tc : Thread Cert.DecayBwdRefIdeal.nD Cert.DecayBwdRefIdeal.τ).loc Cert.DecayBwdRefIdeal.main_arg3) = m ((c.tc : Thread Cert.DecayBwdRefIdeal.nD Cert.DecayBwdRefIdeal.τ).loc Cert.DecayBwdRefIdeal.main_arg3))
      ∧ r.2.sem = fun _ => 0)

def quiescent_ProjO [hProjO : Cert.ProjO.Facts] : Prop :=
  ∀ (m : (ℓ : Loc Cert.ProjO.nD Cert.ProjO.τ Cert.ProjO.sig) → Buf (Elt Bits) ℓ) (g : Dev Cert.ProjO.nD → PrngReg), Pre_ProjO m →
    θ_run (Cert.ProjO.defs (F := Bits)) (onTc (τ := Cert.ProjO.τ) (Cert.ProjO.main (F := Bits))) ⟨m, fun _ => 0, g⟩ (fun r => (∀ c : Dev Cert.ProjO.nD,
      r.2.mem ((c.tc : Thread Cert.ProjO.nD Cert.ProjO.τ).loc Cert.ProjO.main_arg0) = m ((c.tc : Thread Cert.ProjO.nD Cert.ProjO.τ).loc Cert.ProjO.main_arg0)
      ∧ r.2.mem ((c.tc : Thread Cert.ProjO.nD Cert.ProjO.τ).loc Cert.ProjO.main_arg1) = m ((c.tc : Thread Cert.ProjO.nD Cert.ProjO.τ).loc Cert.ProjO.main_arg1)
      ∧ r.2.mem ((c.tc : Thread Cert.ProjO.nD Cert.ProjO.τ).loc Cert.ProjO.main_arg2) = m ((c.tc : Thread Cert.ProjO.nD Cert.ProjO.τ).loc Cert.ProjO.main_arg2)
      ∧ r.2.mem ((c.tc : Thread Cert.ProjO.nD Cert.ProjO.τ).loc Cert.ProjO.main_arg3) = m ((c.tc : Thread Cert.ProjO.nD Cert.ProjO.τ).loc Cert.ProjO.main_arg3)
      ∧ r.2.mem ((c.tc : Thread Cert.ProjO.nD Cert.ProjO.τ).loc Cert.ProjO.main_arg4) = m ((c.tc : Thread Cert.ProjO.nD Cert.ProjO.τ).loc Cert.ProjO.main_arg4))
      ∧ r.2.sem = fun _ => 0)

def quiescent_ProjOIdeal [hProjOIdeal : Cert.ProjOIdeal.Facts] : Prop :=
  ∀ (m : (ℓ : Loc Cert.ProjOIdeal.nD Cert.ProjOIdeal.τ Cert.ProjOIdeal.sig) → Buf (Elt Ideal) ℓ) (g : Dev Cert.ProjOIdeal.nD → PrngReg), Pre_ProjOIdeal m →
    θ_run (Cert.ProjOIdeal.defs (F := Ideal)) (onTc (τ := Cert.ProjOIdeal.τ) (Cert.ProjOIdeal.main (F := Ideal))) ⟨m, fun _ => 0, g⟩ (fun r => (∀ c : Dev Cert.ProjOIdeal.nD,
      r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
      ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
      ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2)
      ∧ r.2.mem ((c.tc : Thread Cert.ProjOIdeal.nD Cert.ProjOIdeal.τ).loc Cert.ProjOIdeal.main_arg3) = m ((c.tc : Thread Cert.ProjOIdeal.nD Cert.ProjOIdeal.τ).loc Cert.ProjOIdeal.main_arg3)
      ∧ r.2.mem ((c.tc : Thread Cert.ProjOIdeal.nD Cert.ProjOIdeal.τ).loc Cert.ProjOIdeal.main_arg4) = m ((c.tc : Thread Cert.ProjOIdeal.nD Cert.ProjOIdeal.τ).loc Cert.ProjOIdeal.main_arg4))
      ∧ r.2.sem = fun _ => 0)

def quiescent_ProjORefIdeal [hProjORefIdeal : Cert.ProjORefIdeal.Facts] : Prop :=
  ∀ (m : (ℓ : Loc Cert.ProjORefIdeal.nD Cert.ProjORefIdeal.τ Cert.ProjORefIdeal.sig) → Buf (Elt Ideal) ℓ) (g : Dev Cert.ProjORefIdeal.nD → PrngReg), Pre_ProjORefIdeal m →
    θ_run (Cert.ProjORefIdeal.defs (F := Ideal)) (onTc (τ := Cert.ProjORefIdeal.τ) (Cert.ProjORefIdeal.main (F := Ideal))) ⟨m, fun _ => 0, g⟩ (fun r => (∀ c : Dev Cert.ProjORefIdeal.nD,
      r.2.mem ((c.tc : Thread Cert.ProjORefIdeal.nD Cert.ProjORefIdeal.τ).loc Cert.ProjORefIdeal.main_arg0) = m ((c.tc : Thread Cert.ProjORefIdeal.nD Cert.ProjORefIdeal.τ).loc Cert.ProjORefIdeal.main_arg0)
      ∧ r.2.mem ((c.tc : Thread Cert.ProjORefIdeal.nD Cert.ProjORefIdeal.τ).loc Cert.ProjORefIdeal.main_arg1) = m ((c.tc : Thread Cert.ProjORefIdeal.nD Cert.ProjORefIdeal.τ).loc Cert.ProjORefIdeal.main_arg1)
      ∧ r.2.mem ((c.tc : Thread Cert.ProjORefIdeal.nD Cert.ProjORefIdeal.τ).loc Cert.ProjORefIdeal.main_arg2) = m ((c.tc : Thread Cert.ProjORefIdeal.nD Cert.ProjORefIdeal.τ).loc Cert.ProjORefIdeal.main_arg2)
      ∧ r.2.mem ((c.tc : Thread Cert.ProjORefIdeal.nD Cert.ProjORefIdeal.τ).loc Cert.ProjORefIdeal.main_arg3) = m ((c.tc : Thread Cert.ProjORefIdeal.nD Cert.ProjORefIdeal.τ).loc Cert.ProjORefIdeal.main_arg3)
      ∧ r.2.mem ((c.tc : Thread Cert.ProjORefIdeal.nD Cert.ProjORefIdeal.τ).loc Cert.ProjORefIdeal.main_arg4) = m ((c.tc : Thread Cert.ProjORefIdeal.nD Cert.ProjORefIdeal.τ).loc Cert.ProjORefIdeal.main_arg4))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3)
      ∧ r.2.mem ((c.tc : Thread Cert.Branches.nD Cert.Branches.τ).loc Cert.Branches.main_arg4) = m ((c.tc : Thread Cert.Branches.nD Cert.Branches.τ).loc Cert.Branches.main_arg4)
      ∧ r.2.mem ((c.tc : Thread Cert.Branches.nD Cert.Branches.τ).loc Cert.Branches.main_arg5) = m ((c.tc : Thread Cert.Branches.nD Cert.Branches.τ).loc Cert.Branches.main_arg5)
      ∧ r.2.mem ((c.tc : Thread Cert.Branches.nD Cert.Branches.τ).loc Cert.Branches.main_arg6) = m ((c.tc : Thread Cert.Branches.nD Cert.Branches.τ).loc Cert.Branches.main_arg6)
      ∧ r.2.mem ((c.tc : Thread Cert.Branches.nD Cert.Branches.τ).loc Cert.Branches.main_arg7) = m ((c.tc : Thread Cert.Branches.nD Cert.Branches.τ).loc Cert.Branches.main_arg7)
      ∧ r.2.mem ((c.tc : Thread Cert.Branches.nD Cert.Branches.τ).loc Cert.Branches.main_arg8) = m ((c.tc : Thread Cert.Branches.nD Cert.Branches.τ).loc Cert.Branches.main_arg8)
      ∧ r.2.mem ((c.tc : Thread Cert.Branches.nD Cert.Branches.τ).loc Cert.Branches.main_arg9) = m ((c.tc : Thread Cert.Branches.nD Cert.Branches.τ).loc Cert.Branches.main_arg9)
      ∧ r.2.mem ((c.tc : Thread Cert.Branches.nD Cert.Branches.τ).loc Cert.Branches.main_arg10) = m ((c.tc : Thread Cert.Branches.nD Cert.Branches.τ).loc Cert.Branches.main_arg10)
      ∧ r.2.mem ((c.tc : Thread Cert.Branches.nD Cert.Branches.τ).loc Cert.Branches.main_arg11) = m ((c.tc : Thread Cert.Branches.nD Cert.Branches.τ).loc Cert.Branches.main_arg11))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
      ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
      ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5)
      ∧ r.2.mem ((c.tc : Thread Cert.BranchesIdeal.nD Cert.BranchesIdeal.τ).loc Cert.BranchesIdeal.main_arg6) = m ((c.tc : Thread Cert.BranchesIdeal.nD Cert.BranchesIdeal.τ).loc Cert.BranchesIdeal.main_arg6)
      ∧ r.2.mem ((c.tc : Thread Cert.BranchesIdeal.nD Cert.BranchesIdeal.τ).loc Cert.BranchesIdeal.main_arg7) = m ((c.tc : Thread Cert.BranchesIdeal.nD Cert.BranchesIdeal.τ).loc Cert.BranchesIdeal.main_arg7)
      ∧ r.2.mem ((c.tc : Thread Cert.BranchesIdeal.nD Cert.BranchesIdeal.τ).loc Cert.BranchesIdeal.main_arg8) = m ((c.tc : Thread Cert.BranchesIdeal.nD Cert.BranchesIdeal.τ).loc Cert.BranchesIdeal.main_arg8)
      ∧ r.2.mem ((c.tc : Thread Cert.BranchesIdeal.nD Cert.BranchesIdeal.τ).loc Cert.BranchesIdeal.main_arg9) = m ((c.tc : Thread Cert.BranchesIdeal.nD Cert.BranchesIdeal.τ).loc Cert.BranchesIdeal.main_arg9)
      ∧ r.2.mem ((c.tc : Thread Cert.BranchesIdeal.nD Cert.BranchesIdeal.τ).loc Cert.BranchesIdeal.main_arg10) = m ((c.tc : Thread Cert.BranchesIdeal.nD Cert.BranchesIdeal.τ).loc Cert.BranchesIdeal.main_arg10)
      ∧ r.2.mem ((c.tc : Thread Cert.BranchesIdeal.nD Cert.BranchesIdeal.τ).loc Cert.BranchesIdeal.main_arg11) = m ((c.tc : Thread Cert.BranchesIdeal.nD Cert.BranchesIdeal.τ).loc Cert.BranchesIdeal.main_arg11))
      ∧ r.2.sem = fun _ => 0)

def quiescent_BranchesRefIdeal [hBranchesRefIdeal : Cert.BranchesRefIdeal.Facts] : Prop :=
  ∀ (m : (ℓ : Loc Cert.BranchesRefIdeal.nD Cert.BranchesRefIdeal.τ Cert.BranchesRefIdeal.sig) → Buf (Elt Ideal) ℓ) (g : Dev Cert.BranchesRefIdeal.nD → PrngReg), Pre_BranchesRefIdeal m →
    θ_run (Cert.BranchesRefIdeal.defs (F := Ideal)) (onTc (τ := Cert.BranchesRefIdeal.τ) (Cert.BranchesRefIdeal.main (F := Ideal))) ⟨m, fun _ => 0, g⟩ (fun r => (∀ c : Dev Cert.BranchesRefIdeal.nD,
      r.2.mem ((c.tc : Thread Cert.BranchesRefIdeal.nD Cert.BranchesRefIdeal.τ).loc Cert.BranchesRefIdeal.main_arg0) = m ((c.tc : Thread Cert.BranchesRefIdeal.nD Cert.BranchesRefIdeal.τ).loc Cert.BranchesRefIdeal.main_arg0)
      ∧ r.2.mem ((c.tc : Thread Cert.BranchesRefIdeal.nD Cert.BranchesRefIdeal.τ).loc Cert.BranchesRefIdeal.main_arg1) = m ((c.tc : Thread Cert.BranchesRefIdeal.nD Cert.BranchesRefIdeal.τ).loc Cert.BranchesRefIdeal.main_arg1)
      ∧ r.2.mem ((c.tc : Thread Cert.BranchesRefIdeal.nD Cert.BranchesRefIdeal.τ).loc Cert.BranchesRefIdeal.main_arg2) = m ((c.tc : Thread Cert.BranchesRefIdeal.nD Cert.BranchesRefIdeal.τ).loc Cert.BranchesRefIdeal.main_arg2)
      ∧ r.2.mem ((c.tc : Thread Cert.BranchesRefIdeal.nD Cert.BranchesRefIdeal.τ).loc Cert.BranchesRefIdeal.main_arg3) = m ((c.tc : Thread Cert.BranchesRefIdeal.nD Cert.BranchesRefIdeal.τ).loc Cert.BranchesRefIdeal.main_arg3)
      ∧ r.2.mem ((c.tc : Thread Cert.BranchesRefIdeal.nD Cert.BranchesRefIdeal.τ).loc Cert.BranchesRefIdeal.main_arg4) = m ((c.tc : Thread Cert.BranchesRefIdeal.nD Cert.BranchesRefIdeal.τ).loc Cert.BranchesRefIdeal.main_arg4)
      ∧ r.2.mem ((c.tc : Thread Cert.BranchesRefIdeal.nD Cert.BranchesRefIdeal.τ).loc Cert.BranchesRefIdeal.main_arg5) = m ((c.tc : Thread Cert.BranchesRefIdeal.nD Cert.BranchesRefIdeal.τ).loc Cert.BranchesRefIdeal.main_arg5)
      ∧ r.2.mem ((c.tc : Thread Cert.BranchesRefIdeal.nD Cert.BranchesRefIdeal.τ).loc Cert.BranchesRefIdeal.main_arg6) = m ((c.tc : Thread Cert.BranchesRefIdeal.nD Cert.BranchesRefIdeal.τ).loc Cert.BranchesRefIdeal.main_arg6)
      ∧ r.2.mem ((c.tc : Thread Cert.BranchesRefIdeal.nD Cert.BranchesRefIdeal.τ).loc Cert.BranchesRefIdeal.main_arg7) = m ((c.tc : Thread Cert.BranchesRefIdeal.nD Cert.BranchesRefIdeal.τ).loc Cert.BranchesRefIdeal.main_arg7)
      ∧ r.2.mem ((c.tc : Thread Cert.BranchesRefIdeal.nD Cert.BranchesRefIdeal.τ).loc Cert.BranchesRefIdeal.main_arg8) = m ((c.tc : Thread Cert.BranchesRefIdeal.nD Cert.BranchesRefIdeal.τ).loc Cert.BranchesRefIdeal.main_arg8)
      ∧ r.2.mem ((c.tc : Thread Cert.BranchesRefIdeal.nD Cert.BranchesRefIdeal.τ).loc Cert.BranchesRefIdeal.main_arg9) = m ((c.tc : Thread Cert.BranchesRefIdeal.nD Cert.BranchesRefIdeal.τ).loc Cert.BranchesRefIdeal.main_arg9)
      ∧ r.2.mem ((c.tc : Thread Cert.BranchesRefIdeal.nD Cert.BranchesRefIdeal.τ).loc Cert.BranchesRefIdeal.main_arg10) = m ((c.tc : Thread Cert.BranchesRefIdeal.nD Cert.BranchesRefIdeal.τ).loc Cert.BranchesRefIdeal.main_arg10)
      ∧ r.2.mem ((c.tc : Thread Cert.BranchesRefIdeal.nD Cert.BranchesRefIdeal.τ).loc Cert.BranchesRefIdeal.main_arg11) = m ((c.tc : Thread Cert.BranchesRefIdeal.nD Cert.BranchesRefIdeal.τ).loc Cert.BranchesRefIdeal.main_arg11))
      ∧ r.2.sem = fun _ => 0)

def preserves_GlaBwd_GlaBwdIdeal : Prop :=
  True

def algebraic_GlaBwdIdeal_GlaBwdRefIdeal_pre_finite_gates [hGlaBwdIdeal : Cert.GlaBwdIdeal.Facts] [hGlaBwdRefIdeal : Cert.GlaBwdRefIdeal.Facts] [hPre_finite_gates : Cert.Pre_finite_gates.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg)
    (m' : (ℓ : Loc Cert.GlaBwdRefIdeal.nD Cert.GlaBwdRefIdeal.τ Cert.GlaBwdRefIdeal.sig) → Buf (Elt Ideal) ℓ) (g' : Dev Cert.GlaBwdRefIdeal.nD → PrngReg), Pre_GlaBwdIdeal_finite_gates m →
    (∀ c : Dev Cert.GlaBwdIdeal.nD,
      m' ((c.tc : Thread Cert.GlaBwdRefIdeal.nD Cert.GlaBwdRefIdeal.τ).loc Cert.GlaBwdRefIdeal.main_arg0) = m ((c.tc : Thread Cert.GlaBwdIdeal.nD Cert.GlaBwdIdeal.τ).loc Cert.GlaBwdIdeal.main_arg0)
      ∧ m' ((c.tc : Thread Cert.GlaBwdRefIdeal.nD Cert.GlaBwdRefIdeal.τ).loc Cert.GlaBwdRefIdeal.main_arg1) = m ((c.tc : Thread Cert.GlaBwdIdeal.nD Cert.GlaBwdIdeal.τ).loc Cert.GlaBwdIdeal.main_arg1)
      ∧ m' ((c.tc : Thread Cert.GlaBwdRefIdeal.nD Cert.GlaBwdRefIdeal.τ).loc Cert.GlaBwdRefIdeal.main_arg2) = m ((c.tc : Thread Cert.GlaBwdIdeal.nD Cert.GlaBwdIdeal.τ).loc Cert.GlaBwdIdeal.main_arg2)
      ∧ m' ((c.tc : Thread Cert.GlaBwdRefIdeal.nD Cert.GlaBwdRefIdeal.τ).loc Cert.GlaBwdRefIdeal.main_arg3) = m ((c.tc : Thread Cert.GlaBwdIdeal.nD Cert.GlaBwdIdeal.τ).loc Cert.GlaBwdIdeal.main_arg3)
      ∧ m' ((c.tc : Thread Cert.GlaBwdRefIdeal.nD Cert.GlaBwdRefIdeal.τ).loc Cert.GlaBwdRefIdeal.main_arg4) = m ((c.tc : Thread Cert.GlaBwdIdeal.nD Cert.GlaBwdIdeal.τ).loc Cert.GlaBwdIdeal.main_arg4)
      ∧ m' ((c.tc : Thread Cert.GlaBwdRefIdeal.nD Cert.GlaBwdRefIdeal.τ).loc Cert.GlaBwdRefIdeal.main_arg5) = m ((c.tc : Thread Cert.GlaBwdIdeal.nD Cert.GlaBwdIdeal.τ).loc Cert.GlaBwdIdeal.main_arg5)
      ∧ m' ((c.tc : Thread Cert.GlaBwdRefIdeal.nD Cert.GlaBwdRefIdeal.τ).loc Cert.GlaBwdRefIdeal.main_arg6) = m ((c.tc : Thread Cert.GlaBwdIdeal.nD Cert.GlaBwdIdeal.τ).loc Cert.GlaBwdIdeal.main_arg6)
      ∧ m' ((c.tc : Thread Cert.GlaBwdRefIdeal.nD Cert.GlaBwdRefIdeal.τ).loc Cert.GlaBwdRefIdeal.main_arg7) = m ((c.tc : Thread Cert.GlaBwdIdeal.nD Cert.GlaBwdIdeal.τ).loc Cert.GlaBwdIdeal.main_arg7)
      ∧ m' ((c.tc : Thread Cert.GlaBwdRefIdeal.nD Cert.GlaBwdRefIdeal.τ).loc Cert.GlaBwdRefIdeal.main_arg8) = m ((c.tc : Thread Cert.GlaBwdIdeal.nD Cert.GlaBwdIdeal.τ).loc Cert.GlaBwdIdeal.main_arg8)
      ∧ m' ((c.tc : Thread Cert.GlaBwdRefIdeal.nD Cert.GlaBwdRefIdeal.τ).loc Cert.GlaBwdRefIdeal.main_arg9) = m ((c.tc : Thread Cert.GlaBwdIdeal.nD Cert.GlaBwdIdeal.τ).loc Cert.GlaBwdIdeal.main_arg9)
      ∧ m' ((c.tc : Thread Cert.GlaBwdRefIdeal.nD Cert.GlaBwdRefIdeal.τ).loc Cert.GlaBwdRefIdeal.main_arg10) = m ((c.tc : Thread Cert.GlaBwdIdeal.nD Cert.GlaBwdIdeal.τ).loc Cert.GlaBwdIdeal.main_arg10)
      ∧ m' ((c.tc : Thread Cert.GlaBwdRefIdeal.nD Cert.GlaBwdRefIdeal.τ).loc Cert.GlaBwdRefIdeal.main_arg11) = m ((c.tc : Thread Cert.GlaBwdIdeal.nD Cert.GlaBwdIdeal.τ).loc Cert.GlaBwdIdeal.main_arg11)
      ∧ m' ((c.tc : Thread Cert.GlaBwdRefIdeal.nD Cert.GlaBwdRefIdeal.τ).loc Cert.GlaBwdRefIdeal.main_arg12) = m ((c.tc : Thread Cert.GlaBwdIdeal.nD Cert.GlaBwdIdeal.τ).loc Cert.GlaBwdIdeal.main_arg12)
      ∧ m' ((c.tc : Thread Cert.GlaBwdRefIdeal.nD Cert.GlaBwdRefIdeal.τ).loc Cert.GlaBwdRefIdeal.main_arg13) = m ((c.tc : Thread Cert.GlaBwdIdeal.nD Cert.GlaBwdIdeal.τ).loc Cert.GlaBwdIdeal.main_arg13)
      ∧ m' ((c.tc : Thread Cert.GlaBwdRefIdeal.nD Cert.GlaBwdRefIdeal.τ).loc Cert.GlaBwdRefIdeal.main_arg14) = m ((c.tc : Thread Cert.GlaBwdIdeal.nD Cert.GlaBwdIdeal.τ).loc Cert.GlaBwdIdeal.main_arg14)) →
    ∃ (v0 : (c : Dev Cert.GlaBwdIdeal.nD) → Buf (Elt Ideal) ((c.tc : Thread Cert.GlaBwdIdeal.nD Cert.GlaBwdIdeal.τ).loc Cert.GlaBwdIdeal.main_v9_0)) (v1 : (c : Dev Cert.GlaBwdIdeal.nD) → Buf (Elt Ideal) ((c.tc : Thread Cert.GlaBwdIdeal.nD Cert.GlaBwdIdeal.τ).loc Cert.GlaBwdIdeal.main_v9_1)) (v2 : (c : Dev Cert.GlaBwdIdeal.nD) → Buf (Elt Ideal) ((c.tc : Thread Cert.GlaBwdIdeal.nD Cert.GlaBwdIdeal.τ).loc Cert.GlaBwdIdeal.main_v9_2)),
      θ_run (Cert.GlaBwdIdeal.defs (F := Ideal)) (onTc (τ := Cert.GlaBwdIdeal.τ) (Cert.GlaBwdIdeal.main (F := Ideal))) ⟨m, fun _ => 0, g⟩ (fun r => ∀ c : Dev Cert.GlaBwdIdeal.nD,
          r.2.mem ((c.tc : Thread Cert.GlaBwdIdeal.nD Cert.GlaBwdIdeal.τ).loc Cert.GlaBwdIdeal.main_v9_0) = v0 c
          ∧ r.2.mem ((c.tc : Thread Cert.GlaBwdIdeal.nD Cert.GlaBwdIdeal.τ).loc Cert.GlaBwdIdeal.main_v9_1) = v1 c
          ∧ r.2.mem ((c.tc : Thread Cert.GlaBwdIdeal.nD Cert.GlaBwdIdeal.τ).loc Cert.GlaBwdIdeal.main_v9_2) = v2 c
          ∧ r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
          ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
          ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
          ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
          ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
          ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5)
          ∧ r.2.mem ((c.tc : Thread Cert.GlaBwdIdeal.nD Cert.GlaBwdIdeal.τ).loc Cert.GlaBwdIdeal.main_arg6) = m ((c.tc : Thread Cert.GlaBwdIdeal.nD Cert.GlaBwdIdeal.τ).loc Cert.GlaBwdIdeal.main_arg6)
          ∧ r.2.mem ((c.tc : Thread Cert.GlaBwdIdeal.nD Cert.GlaBwdIdeal.τ).loc Cert.GlaBwdIdeal.main_arg7) = m ((c.tc : Thread Cert.GlaBwdIdeal.nD Cert.GlaBwdIdeal.τ).loc Cert.GlaBwdIdeal.main_arg7)
          ∧ r.2.mem ((c.tc : Thread Cert.GlaBwdIdeal.nD Cert.GlaBwdIdeal.τ).loc Cert.GlaBwdIdeal.main_arg8) = m ((c.tc : Thread Cert.GlaBwdIdeal.nD Cert.GlaBwdIdeal.τ).loc Cert.GlaBwdIdeal.main_arg8)
          ∧ r.2.mem ((c.tc : Thread Cert.GlaBwdIdeal.nD Cert.GlaBwdIdeal.τ).loc Cert.GlaBwdIdeal.main_arg9) = m ((c.tc : Thread Cert.GlaBwdIdeal.nD Cert.GlaBwdIdeal.τ).loc Cert.GlaBwdIdeal.main_arg9)
          ∧ r.2.mem ((c.tc : Thread Cert.GlaBwdIdeal.nD Cert.GlaBwdIdeal.τ).loc Cert.GlaBwdIdeal.main_arg10) = m ((c.tc : Thread Cert.GlaBwdIdeal.nD Cert.GlaBwdIdeal.τ).loc Cert.GlaBwdIdeal.main_arg10)
          ∧ r.2.mem ((c.tc : Thread Cert.GlaBwdIdeal.nD Cert.GlaBwdIdeal.τ).loc Cert.GlaBwdIdeal.main_arg11) = m ((c.tc : Thread Cert.GlaBwdIdeal.nD Cert.GlaBwdIdeal.τ).loc Cert.GlaBwdIdeal.main_arg11)
          ∧ r.2.mem ((c.tc : Thread Cert.GlaBwdIdeal.nD Cert.GlaBwdIdeal.τ).loc Cert.GlaBwdIdeal.main_arg12) = m ((c.tc : Thread Cert.GlaBwdIdeal.nD Cert.GlaBwdIdeal.τ).loc Cert.GlaBwdIdeal.main_arg12)
          ∧ r.2.mem ((c.tc : Thread Cert.GlaBwdIdeal.nD Cert.GlaBwdIdeal.τ).loc Cert.GlaBwdIdeal.main_arg13) = m ((c.tc : Thread Cert.GlaBwdIdeal.nD Cert.GlaBwdIdeal.τ).loc Cert.GlaBwdIdeal.main_arg13)
          ∧ r.2.mem ((c.tc : Thread Cert.GlaBwdIdeal.nD Cert.GlaBwdIdeal.τ).loc Cert.GlaBwdIdeal.main_arg14) = m ((c.tc : Thread Cert.GlaBwdIdeal.nD Cert.GlaBwdIdeal.τ).loc Cert.GlaBwdIdeal.main_arg14))
      ∧ θ_run (Cert.GlaBwdRefIdeal.defs (F := Ideal)) (onTc (τ := Cert.GlaBwdRefIdeal.τ) (Cert.GlaBwdRefIdeal.main (F := Ideal))) ⟨m', fun _ => 0, g'⟩ (fun r => ∀ c : Dev Cert.GlaBwdRefIdeal.nD,
          r.2.mem ((c.tc : Thread Cert.GlaBwdRefIdeal.nD Cert.GlaBwdRefIdeal.τ).loc Cert.GlaBwdRefIdeal.main_v150) = v0 c
          ∧ r.2.mem ((c.tc : Thread Cert.GlaBwdRefIdeal.nD Cert.GlaBwdRefIdeal.τ).loc Cert.GlaBwdRefIdeal.main_v155) = v1 c
          ∧ r.2.mem ((c.tc : Thread Cert.GlaBwdRefIdeal.nD Cert.GlaBwdRefIdeal.τ).loc Cert.GlaBwdRefIdeal.main_v158) = v2 c
          ∧ r.2.mem ((c.tc : Thread Cert.GlaBwdRefIdeal.nD Cert.GlaBwdRefIdeal.τ).loc Cert.GlaBwdRefIdeal.main_arg0) = m' ((c.tc : Thread Cert.GlaBwdRefIdeal.nD Cert.GlaBwdRefIdeal.τ).loc Cert.GlaBwdRefIdeal.main_arg0)
          ∧ r.2.mem ((c.tc : Thread Cert.GlaBwdRefIdeal.nD Cert.GlaBwdRefIdeal.τ).loc Cert.GlaBwdRefIdeal.main_arg1) = m' ((c.tc : Thread Cert.GlaBwdRefIdeal.nD Cert.GlaBwdRefIdeal.τ).loc Cert.GlaBwdRefIdeal.main_arg1)
          ∧ r.2.mem ((c.tc : Thread Cert.GlaBwdRefIdeal.nD Cert.GlaBwdRefIdeal.τ).loc Cert.GlaBwdRefIdeal.main_arg2) = m' ((c.tc : Thread Cert.GlaBwdRefIdeal.nD Cert.GlaBwdRefIdeal.τ).loc Cert.GlaBwdRefIdeal.main_arg2)
          ∧ r.2.mem ((c.tc : Thread Cert.GlaBwdRefIdeal.nD Cert.GlaBwdRefIdeal.τ).loc Cert.GlaBwdRefIdeal.main_arg3) = m' ((c.tc : Thread Cert.GlaBwdRefIdeal.nD Cert.GlaBwdRefIdeal.τ).loc Cert.GlaBwdRefIdeal.main_arg3)
          ∧ r.2.mem ((c.tc : Thread Cert.GlaBwdRefIdeal.nD Cert.GlaBwdRefIdeal.τ).loc Cert.GlaBwdRefIdeal.main_arg4) = m' ((c.tc : Thread Cert.GlaBwdRefIdeal.nD Cert.GlaBwdRefIdeal.τ).loc Cert.GlaBwdRefIdeal.main_arg4)
          ∧ r.2.mem ((c.tc : Thread Cert.GlaBwdRefIdeal.nD Cert.GlaBwdRefIdeal.τ).loc Cert.GlaBwdRefIdeal.main_arg5) = m' ((c.tc : Thread Cert.GlaBwdRefIdeal.nD Cert.GlaBwdRefIdeal.τ).loc Cert.GlaBwdRefIdeal.main_arg5)
          ∧ r.2.mem ((c.tc : Thread Cert.GlaBwdRefIdeal.nD Cert.GlaBwdRefIdeal.τ).loc Cert.GlaBwdRefIdeal.main_arg6) = m' ((c.tc : Thread Cert.GlaBwdRefIdeal.nD Cert.GlaBwdRefIdeal.τ).loc Cert.GlaBwdRefIdeal.main_arg6)
          ∧ r.2.mem ((c.tc : Thread Cert.GlaBwdRefIdeal.nD Cert.GlaBwdRefIdeal.τ).loc Cert.GlaBwdRefIdeal.main_arg7) = m' ((c.tc : Thread Cert.GlaBwdRefIdeal.nD Cert.GlaBwdRefIdeal.τ).loc Cert.GlaBwdRefIdeal.main_arg7)
          ∧ r.2.mem ((c.tc : Thread Cert.GlaBwdRefIdeal.nD Cert.GlaBwdRefIdeal.τ).loc Cert.GlaBwdRefIdeal.main_arg8) = m' ((c.tc : Thread Cert.GlaBwdRefIdeal.nD Cert.GlaBwdRefIdeal.τ).loc Cert.GlaBwdRefIdeal.main_arg8)
          ∧ r.2.mem ((c.tc : Thread Cert.GlaBwdRefIdeal.nD Cert.GlaBwdRefIdeal.τ).loc Cert.GlaBwdRefIdeal.main_arg9) = m' ((c.tc : Thread Cert.GlaBwdRefIdeal.nD Cert.GlaBwdRefIdeal.τ).loc Cert.GlaBwdRefIdeal.main_arg9)
          ∧ r.2.mem ((c.tc : Thread Cert.GlaBwdRefIdeal.nD Cert.GlaBwdRefIdeal.τ).loc Cert.GlaBwdRefIdeal.main_arg10) = m' ((c.tc : Thread Cert.GlaBwdRefIdeal.nD Cert.GlaBwdRefIdeal.τ).loc Cert.GlaBwdRefIdeal.main_arg10)
          ∧ r.2.mem ((c.tc : Thread Cert.GlaBwdRefIdeal.nD Cert.GlaBwdRefIdeal.τ).loc Cert.GlaBwdRefIdeal.main_arg11) = m' ((c.tc : Thread Cert.GlaBwdRefIdeal.nD Cert.GlaBwdRefIdeal.τ).loc Cert.GlaBwdRefIdeal.main_arg11)
          ∧ r.2.mem ((c.tc : Thread Cert.GlaBwdRefIdeal.nD Cert.GlaBwdRefIdeal.τ).loc Cert.GlaBwdRefIdeal.main_arg12) = m' ((c.tc : Thread Cert.GlaBwdRefIdeal.nD Cert.GlaBwdRefIdeal.τ).loc Cert.GlaBwdRefIdeal.main_arg12)
          ∧ r.2.mem ((c.tc : Thread Cert.GlaBwdRefIdeal.nD Cert.GlaBwdRefIdeal.τ).loc Cert.GlaBwdRefIdeal.main_arg13) = m' ((c.tc : Thread Cert.GlaBwdRefIdeal.nD Cert.GlaBwdRefIdeal.τ).loc Cert.GlaBwdRefIdeal.main_arg13)
          ∧ r.2.mem ((c.tc : Thread Cert.GlaBwdRefIdeal.nD Cert.GlaBwdRefIdeal.τ).loc Cert.GlaBwdRefIdeal.main_arg14) = m' ((c.tc : Thread Cert.GlaBwdRefIdeal.nD Cert.GlaBwdRefIdeal.τ).loc Cert.GlaBwdRefIdeal.main_arg14))

def preserves_MlpDx_MlpDxIdeal : Prop :=
  True

def algebraic_MlpDxIdeal_MlpDxRefIdeal [hMlpDxIdeal : Cert.MlpDxIdeal.Facts] [hMlpDxRefIdeal : Cert.MlpDxRefIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg)
    (m' : (ℓ : Loc Cert.MlpDxRefIdeal.nD Cert.MlpDxRefIdeal.τ Cert.MlpDxRefIdeal.sig) → Buf (Elt Ideal) ℓ) (g' : Dev Cert.MlpDxRefIdeal.nD → PrngReg), Pre_MlpDxIdeal m →
    (∀ c : Dev Cert.MlpDxIdeal.nD,
      m' ((c.tc : Thread Cert.MlpDxRefIdeal.nD Cert.MlpDxRefIdeal.τ).loc Cert.MlpDxRefIdeal.main_arg0) = m ((c.tc : Thread Cert.MlpDxIdeal.nD Cert.MlpDxIdeal.τ).loc Cert.MlpDxIdeal.main_arg0)
      ∧ m' ((c.tc : Thread Cert.MlpDxRefIdeal.nD Cert.MlpDxRefIdeal.τ).loc Cert.MlpDxRefIdeal.main_arg1) = m ((c.tc : Thread Cert.MlpDxIdeal.nD Cert.MlpDxIdeal.τ).loc Cert.MlpDxIdeal.main_arg1)
      ∧ m' ((c.tc : Thread Cert.MlpDxRefIdeal.nD Cert.MlpDxRefIdeal.τ).loc Cert.MlpDxRefIdeal.main_arg2) = m ((c.tc : Thread Cert.MlpDxIdeal.nD Cert.MlpDxIdeal.τ).loc Cert.MlpDxIdeal.main_arg2)
      ∧ m' ((c.tc : Thread Cert.MlpDxRefIdeal.nD Cert.MlpDxRefIdeal.τ).loc Cert.MlpDxRefIdeal.main_arg3) = m ((c.tc : Thread Cert.MlpDxIdeal.nD Cert.MlpDxIdeal.τ).loc Cert.MlpDxIdeal.main_arg3)
      ∧ m' ((c.tc : Thread Cert.MlpDxRefIdeal.nD Cert.MlpDxRefIdeal.τ).loc Cert.MlpDxRefIdeal.main_arg4) = m ((c.tc : Thread Cert.MlpDxIdeal.nD Cert.MlpDxIdeal.τ).loc Cert.MlpDxIdeal.main_arg4)
      ∧ m' ((c.tc : Thread Cert.MlpDxRefIdeal.nD Cert.MlpDxRefIdeal.τ).loc Cert.MlpDxRefIdeal.main_arg5) = m ((c.tc : Thread Cert.MlpDxIdeal.nD Cert.MlpDxIdeal.τ).loc Cert.MlpDxIdeal.main_arg5)
      ∧ m' ((c.tc : Thread Cert.MlpDxRefIdeal.nD Cert.MlpDxRefIdeal.τ).loc Cert.MlpDxRefIdeal.main_arg6) = m ((c.tc : Thread Cert.MlpDxIdeal.nD Cert.MlpDxIdeal.τ).loc Cert.MlpDxIdeal.main_arg6)
      ∧ m' ((c.tc : Thread Cert.MlpDxRefIdeal.nD Cert.MlpDxRefIdeal.τ).loc Cert.MlpDxRefIdeal.main_arg7) = m ((c.tc : Thread Cert.MlpDxIdeal.nD Cert.MlpDxIdeal.τ).loc Cert.MlpDxIdeal.main_arg7)) →
    ∃ (v0 : (c : Dev Cert.MlpDxIdeal.nD) → Buf (Elt Ideal) ((c.tc : Thread Cert.MlpDxIdeal.nD Cert.MlpDxIdeal.τ).loc Cert.MlpDxIdeal.main_v36_1)) (v1 : (c : Dev Cert.MlpDxIdeal.nD) → Buf (Elt Ideal) ((c.tc : Thread Cert.MlpDxIdeal.nD Cert.MlpDxIdeal.τ).loc Cert.MlpDxIdeal.main_v36_2)) (v2 : (c : Dev Cert.MlpDxIdeal.nD) → Buf (Elt Ideal) ((c.tc : Thread Cert.MlpDxIdeal.nD Cert.MlpDxIdeal.τ).loc Cert.MlpDxIdeal.main_v36_3)) (v3 : (c : Dev Cert.MlpDxIdeal.nD) → Buf (Elt Ideal) ((c.tc : Thread Cert.MlpDxIdeal.nD Cert.MlpDxIdeal.τ).loc Cert.MlpDxIdeal.main_v36_4)),
      θ_run (Cert.MlpDxIdeal.defs (F := Ideal)) (onTc (τ := Cert.MlpDxIdeal.τ) (Cert.MlpDxIdeal.main (F := Ideal))) ⟨m, fun _ => 0, g⟩ (fun r => ∀ c : Dev Cert.MlpDxIdeal.nD,
          r.2.mem ((c.tc : Thread Cert.MlpDxIdeal.nD Cert.MlpDxIdeal.τ).loc Cert.MlpDxIdeal.main_v36_1) = v0 c
          ∧ r.2.mem ((c.tc : Thread Cert.MlpDxIdeal.nD Cert.MlpDxIdeal.τ).loc Cert.MlpDxIdeal.main_v36_2) = v1 c
          ∧ r.2.mem ((c.tc : Thread Cert.MlpDxIdeal.nD Cert.MlpDxIdeal.τ).loc Cert.MlpDxIdeal.main_v36_3) = v2 c
          ∧ r.2.mem ((c.tc : Thread Cert.MlpDxIdeal.nD Cert.MlpDxIdeal.τ).loc Cert.MlpDxIdeal.main_v36_4) = v3 c
          ∧ r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
          ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
          ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
          ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
          ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4)
          ∧ r.2.mem ((c.tc : Thread Cert.MlpDxIdeal.nD Cert.MlpDxIdeal.τ).loc Cert.MlpDxIdeal.main_arg5) = m ((c.tc : Thread Cert.MlpDxIdeal.nD Cert.MlpDxIdeal.τ).loc Cert.MlpDxIdeal.main_arg5)
          ∧ r.2.mem ((c.tc : Thread Cert.MlpDxIdeal.nD Cert.MlpDxIdeal.τ).loc Cert.MlpDxIdeal.main_arg6) = m ((c.tc : Thread Cert.MlpDxIdeal.nD Cert.MlpDxIdeal.τ).loc Cert.MlpDxIdeal.main_arg6)
          ∧ r.2.mem ((c.tc : Thread Cert.MlpDxIdeal.nD Cert.MlpDxIdeal.τ).loc Cert.MlpDxIdeal.main_arg7) = m ((c.tc : Thread Cert.MlpDxIdeal.nD Cert.MlpDxIdeal.τ).loc Cert.MlpDxIdeal.main_arg7))
      ∧ θ_run (Cert.MlpDxRefIdeal.defs (F := Ideal)) (onTc (τ := Cert.MlpDxRefIdeal.τ) (Cert.MlpDxRefIdeal.main (F := Ideal))) ⟨m', fun _ => 0, g'⟩ (fun r => ∀ c : Dev Cert.MlpDxRefIdeal.nD,
          r.2.mem ((c.tc : Thread Cert.MlpDxRefIdeal.nD Cert.MlpDxRefIdeal.τ).loc Cert.MlpDxRefIdeal.main_v67) = v0 c
          ∧ r.2.mem ((c.tc : Thread Cert.MlpDxRefIdeal.nD Cert.MlpDxRefIdeal.τ).loc Cert.MlpDxRefIdeal.main_v89) = v1 c
          ∧ r.2.mem ((c.tc : Thread Cert.MlpDxRefIdeal.nD Cert.MlpDxRefIdeal.τ).loc Cert.MlpDxRefIdeal.main_v90) = v2 c
          ∧ r.2.mem ((c.tc : Thread Cert.MlpDxRefIdeal.nD Cert.MlpDxRefIdeal.τ).loc Cert.MlpDxRefIdeal.main_v91) = v3 c
          ∧ r.2.mem ((c.tc : Thread Cert.MlpDxRefIdeal.nD Cert.MlpDxRefIdeal.τ).loc Cert.MlpDxRefIdeal.main_arg0) = m' ((c.tc : Thread Cert.MlpDxRefIdeal.nD Cert.MlpDxRefIdeal.τ).loc Cert.MlpDxRefIdeal.main_arg0)
          ∧ r.2.mem ((c.tc : Thread Cert.MlpDxRefIdeal.nD Cert.MlpDxRefIdeal.τ).loc Cert.MlpDxRefIdeal.main_arg1) = m' ((c.tc : Thread Cert.MlpDxRefIdeal.nD Cert.MlpDxRefIdeal.τ).loc Cert.MlpDxRefIdeal.main_arg1)
          ∧ r.2.mem ((c.tc : Thread Cert.MlpDxRefIdeal.nD Cert.MlpDxRefIdeal.τ).loc Cert.MlpDxRefIdeal.main_arg2) = m' ((c.tc : Thread Cert.MlpDxRefIdeal.nD Cert.MlpDxRefIdeal.τ).loc Cert.MlpDxRefIdeal.main_arg2)
          ∧ r.2.mem ((c.tc : Thread Cert.MlpDxRefIdeal.nD Cert.MlpDxRefIdeal.τ).loc Cert.MlpDxRefIdeal.main_arg3) = m' ((c.tc : Thread Cert.MlpDxRefIdeal.nD Cert.MlpDxRefIdeal.τ).loc Cert.MlpDxRefIdeal.main_arg3)
          ∧ r.2.mem ((c.tc : Thread Cert.MlpDxRefIdeal.nD Cert.MlpDxRefIdeal.τ).loc Cert.MlpDxRefIdeal.main_arg4) = m' ((c.tc : Thread Cert.MlpDxRefIdeal.nD Cert.MlpDxRefIdeal.τ).loc Cert.MlpDxRefIdeal.main_arg4)
          ∧ r.2.mem ((c.tc : Thread Cert.MlpDxRefIdeal.nD Cert.MlpDxRefIdeal.τ).loc Cert.MlpDxRefIdeal.main_arg5) = m' ((c.tc : Thread Cert.MlpDxRefIdeal.nD Cert.MlpDxRefIdeal.τ).loc Cert.MlpDxRefIdeal.main_arg5)
          ∧ r.2.mem ((c.tc : Thread Cert.MlpDxRefIdeal.nD Cert.MlpDxRefIdeal.τ).loc Cert.MlpDxRefIdeal.main_arg6) = m' ((c.tc : Thread Cert.MlpDxRefIdeal.nD Cert.MlpDxRefIdeal.τ).loc Cert.MlpDxRefIdeal.main_arg6)
          ∧ r.2.mem ((c.tc : Thread Cert.MlpDxRefIdeal.nD Cert.MlpDxRefIdeal.τ).loc Cert.MlpDxRefIdeal.main_arg7) = m' ((c.tc : Thread Cert.MlpDxRefIdeal.nD Cert.MlpDxRefIdeal.τ).loc Cert.MlpDxRefIdeal.main_arg7))

def preserves_MlpLoss_MlpLossIdeal : Prop :=
  True

def algebraic_MlpLossIdeal_MlpLossRefIdeal [hMlpLossIdeal : Cert.MlpLossIdeal.Facts] [hMlpLossRefIdeal : Cert.MlpLossRefIdeal.Facts] : Prop :=
  ∀ (m : (ℓ : Loc Cert.MlpLossIdeal.nD Cert.MlpLossIdeal.τ Cert.MlpLossIdeal.sig) → Buf (Elt Ideal) ℓ) (g : Dev Cert.MlpLossIdeal.nD → PrngReg)
    (m' : (ℓ : Loc Cert.MlpLossRefIdeal.nD Cert.MlpLossRefIdeal.τ Cert.MlpLossRefIdeal.sig) → Buf (Elt Ideal) ℓ) (g' : Dev Cert.MlpLossRefIdeal.nD → PrngReg), Pre_MlpLossIdeal m →
    (∀ c : Dev Cert.MlpLossIdeal.nD,
      m' ((c.tc : Thread Cert.MlpLossRefIdeal.nD Cert.MlpLossRefIdeal.τ).loc Cert.MlpLossRefIdeal.main_arg0) = m ((c.tc : Thread Cert.MlpLossIdeal.nD Cert.MlpLossIdeal.τ).loc Cert.MlpLossIdeal.main_arg0)
      ∧ m' ((c.tc : Thread Cert.MlpLossRefIdeal.nD Cert.MlpLossRefIdeal.τ).loc Cert.MlpLossRefIdeal.main_arg1) = m ((c.tc : Thread Cert.MlpLossIdeal.nD Cert.MlpLossIdeal.τ).loc Cert.MlpLossIdeal.main_arg1)
      ∧ m' ((c.tc : Thread Cert.MlpLossRefIdeal.nD Cert.MlpLossRefIdeal.τ).loc Cert.MlpLossRefIdeal.main_arg2) = m ((c.tc : Thread Cert.MlpLossIdeal.nD Cert.MlpLossIdeal.τ).loc Cert.MlpLossIdeal.main_arg2)
      ∧ m' ((c.tc : Thread Cert.MlpLossRefIdeal.nD Cert.MlpLossRefIdeal.τ).loc Cert.MlpLossRefIdeal.main_arg3) = m ((c.tc : Thread Cert.MlpLossIdeal.nD Cert.MlpLossIdeal.τ).loc Cert.MlpLossIdeal.main_arg3)
      ∧ m' ((c.tc : Thread Cert.MlpLossRefIdeal.nD Cert.MlpLossRefIdeal.τ).loc Cert.MlpLossRefIdeal.main_arg4) = m ((c.tc : Thread Cert.MlpLossIdeal.nD Cert.MlpLossIdeal.τ).loc Cert.MlpLossIdeal.main_arg4)
      ∧ m' ((c.tc : Thread Cert.MlpLossRefIdeal.nD Cert.MlpLossRefIdeal.τ).loc Cert.MlpLossRefIdeal.main_arg5) = m ((c.tc : Thread Cert.MlpLossIdeal.nD Cert.MlpLossIdeal.τ).loc Cert.MlpLossIdeal.main_arg5)) →
    ∃ (v0 : (c : Dev Cert.MlpLossIdeal.nD) → Buf (Elt Ideal) ((c.tc : Thread Cert.MlpLossIdeal.nD Cert.MlpLossIdeal.τ).loc Cert.MlpLossIdeal.main_v6_0)) (v1 : (c : Dev Cert.MlpLossIdeal.nD) → Buf (Elt Ideal) ((c.tc : Thread Cert.MlpLossIdeal.nD Cert.MlpLossIdeal.τ).loc Cert.MlpLossIdeal.main_v6_1)) (v2 : (c : Dev Cert.MlpLossIdeal.nD) → Buf (Elt Ideal) ((c.tc : Thread Cert.MlpLossIdeal.nD Cert.MlpLossIdeal.τ).loc Cert.MlpLossIdeal.main_v6_2)) (v3 : (c : Dev Cert.MlpLossIdeal.nD) → Buf (Elt Ideal) ((c.tc : Thread Cert.MlpLossIdeal.nD Cert.MlpLossIdeal.τ).loc Cert.MlpLossIdeal.main_v6_3)) (v4 : (c : Dev Cert.MlpLossIdeal.nD) → Buf (Elt Ideal) ((c.tc : Thread Cert.MlpLossIdeal.nD Cert.MlpLossIdeal.τ).loc Cert.MlpLossIdeal.main_v6_4)) (v5 : (c : Dev Cert.MlpLossIdeal.nD) → Buf (Elt Ideal) ((c.tc : Thread Cert.MlpLossIdeal.nD Cert.MlpLossIdeal.τ).loc Cert.MlpLossIdeal.main_v6_5)),
      θ_run (Cert.MlpLossIdeal.defs (F := Ideal)) (onTc (τ := Cert.MlpLossIdeal.τ) (Cert.MlpLossIdeal.main (F := Ideal))) ⟨m, fun _ => 0, g⟩ (fun r => ∀ c : Dev Cert.MlpLossIdeal.nD,
          r.2.mem ((c.tc : Thread Cert.MlpLossIdeal.nD Cert.MlpLossIdeal.τ).loc Cert.MlpLossIdeal.main_v6_0) = v0 c
          ∧ r.2.mem ((c.tc : Thread Cert.MlpLossIdeal.nD Cert.MlpLossIdeal.τ).loc Cert.MlpLossIdeal.main_v6_1) = v1 c
          ∧ r.2.mem ((c.tc : Thread Cert.MlpLossIdeal.nD Cert.MlpLossIdeal.τ).loc Cert.MlpLossIdeal.main_v6_2) = v2 c
          ∧ r.2.mem ((c.tc : Thread Cert.MlpLossIdeal.nD Cert.MlpLossIdeal.τ).loc Cert.MlpLossIdeal.main_v6_3) = v3 c
          ∧ r.2.mem ((c.tc : Thread Cert.MlpLossIdeal.nD Cert.MlpLossIdeal.τ).loc Cert.MlpLossIdeal.main_v6_4) = v4 c
          ∧ r.2.mem ((c.tc : Thread Cert.MlpLossIdeal.nD Cert.MlpLossIdeal.τ).loc Cert.MlpLossIdeal.main_v6_5) = v5 c
          ∧ r.2.mem ((c.tc : Thread Cert.MlpLossIdeal.nD Cert.MlpLossIdeal.τ).loc Cert.MlpLossIdeal.main_arg0) = m ((c.tc : Thread Cert.MlpLossIdeal.nD Cert.MlpLossIdeal.τ).loc Cert.MlpLossIdeal.main_arg0)
          ∧ r.2.mem ((c.tc : Thread Cert.MlpLossIdeal.nD Cert.MlpLossIdeal.τ).loc Cert.MlpLossIdeal.main_arg1) = m ((c.tc : Thread Cert.MlpLossIdeal.nD Cert.MlpLossIdeal.τ).loc Cert.MlpLossIdeal.main_arg1)
          ∧ r.2.mem ((c.tc : Thread Cert.MlpLossIdeal.nD Cert.MlpLossIdeal.τ).loc Cert.MlpLossIdeal.main_arg2) = m ((c.tc : Thread Cert.MlpLossIdeal.nD Cert.MlpLossIdeal.τ).loc Cert.MlpLossIdeal.main_arg2)
          ∧ r.2.mem ((c.tc : Thread Cert.MlpLossIdeal.nD Cert.MlpLossIdeal.τ).loc Cert.MlpLossIdeal.main_arg3) = m ((c.tc : Thread Cert.MlpLossIdeal.nD Cert.MlpLossIdeal.τ).loc Cert.MlpLossIdeal.main_arg3)
          ∧ r.2.mem ((c.tc : Thread Cert.MlpLossIdeal.nD Cert.MlpLossIdeal.τ).loc Cert.MlpLossIdeal.main_arg4) = m ((c.tc : Thread Cert.MlpLossIdeal.nD Cert.MlpLossIdeal.τ).loc Cert.MlpLossIdeal.main_arg4)
          ∧ r.2.mem ((c.tc : Thread Cert.MlpLossIdeal.nD Cert.MlpLossIdeal.τ).loc Cert.MlpLossIdeal.main_arg5) = m ((c.tc : Thread Cert.MlpLossIdeal.nD Cert.MlpLossIdeal.τ).loc Cert.MlpLossIdeal.main_arg5))
      ∧ θ_run (Cert.MlpLossRefIdeal.defs (F := Ideal)) (onTc (τ := Cert.MlpLossRefIdeal.τ) (Cert.MlpLossRefIdeal.main (F := Ideal))) ⟨m', fun _ => 0, g'⟩ (fun r => ∀ c : Dev Cert.MlpLossRefIdeal.nD,
          r.2.mem ((c.tc : Thread Cert.MlpLossRefIdeal.nD Cert.MlpLossRefIdeal.τ).loc Cert.MlpLossRefIdeal.main_v56) = v0 c
          ∧ r.2.mem ((c.tc : Thread Cert.MlpLossRefIdeal.nD Cert.MlpLossRefIdeal.τ).loc Cert.MlpLossRefIdeal.main_v57) = v1 c
          ∧ r.2.mem ((c.tc : Thread Cert.MlpLossRefIdeal.nD Cert.MlpLossRefIdeal.τ).loc Cert.MlpLossRefIdeal.main_v35) = v2 c
          ∧ r.2.mem ((c.tc : Thread Cert.MlpLossRefIdeal.nD Cert.MlpLossRefIdeal.τ).loc Cert.MlpLossRefIdeal.main_v58) = v3 c
          ∧ r.2.mem ((c.tc : Thread Cert.MlpLossRefIdeal.nD Cert.MlpLossRefIdeal.τ).loc Cert.MlpLossRefIdeal.main_v59) = v4 c
          ∧ r.2.mem ((c.tc : Thread Cert.MlpLossRefIdeal.nD Cert.MlpLossRefIdeal.τ).loc Cert.MlpLossRefIdeal.main_v60) = v5 c
          ∧ r.2.mem ((c.tc : Thread Cert.MlpLossRefIdeal.nD Cert.MlpLossRefIdeal.τ).loc Cert.MlpLossRefIdeal.main_arg0) = m' ((c.tc : Thread Cert.MlpLossRefIdeal.nD Cert.MlpLossRefIdeal.τ).loc Cert.MlpLossRefIdeal.main_arg0)
          ∧ r.2.mem ((c.tc : Thread Cert.MlpLossRefIdeal.nD Cert.MlpLossRefIdeal.τ).loc Cert.MlpLossRefIdeal.main_arg1) = m' ((c.tc : Thread Cert.MlpLossRefIdeal.nD Cert.MlpLossRefIdeal.τ).loc Cert.MlpLossRefIdeal.main_arg1)
          ∧ r.2.mem ((c.tc : Thread Cert.MlpLossRefIdeal.nD Cert.MlpLossRefIdeal.τ).loc Cert.MlpLossRefIdeal.main_arg2) = m' ((c.tc : Thread Cert.MlpLossRefIdeal.nD Cert.MlpLossRefIdeal.τ).loc Cert.MlpLossRefIdeal.main_arg2)
          ∧ r.2.mem ((c.tc : Thread Cert.MlpLossRefIdeal.nD Cert.MlpLossRefIdeal.τ).loc Cert.MlpLossRefIdeal.main_arg3) = m' ((c.tc : Thread Cert.MlpLossRefIdeal.nD Cert.MlpLossRefIdeal.τ).loc Cert.MlpLossRefIdeal.main_arg3)
          ∧ r.2.mem ((c.tc : Thread Cert.MlpLossRefIdeal.nD Cert.MlpLossRefIdeal.τ).loc Cert.MlpLossRefIdeal.main_arg4) = m' ((c.tc : Thread Cert.MlpLossRefIdeal.nD Cert.MlpLossRefIdeal.τ).loc Cert.MlpLossRefIdeal.main_arg4)
          ∧ r.2.mem ((c.tc : Thread Cert.MlpLossRefIdeal.nD Cert.MlpLossRefIdeal.τ).loc Cert.MlpLossRefIdeal.main_arg5) = m' ((c.tc : Thread Cert.MlpLossRefIdeal.nD Cert.MlpLossRefIdeal.τ).loc Cert.MlpLossRefIdeal.main_arg5))

def preserves_MlpDownDw_MlpDownDwIdeal : Prop :=
  True

def algebraic_MlpDownDwIdeal_MlpDownDwRefIdeal [hMlpDownDwIdeal : Cert.MlpDownDwIdeal.Facts] [hMlpDownDwRefIdeal : Cert.MlpDownDwRefIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownDwRefIdeal.nD Cert.MlpDownDwRefIdeal.τ Cert.MlpDownDwRefIdeal.sig) → Buf (Elt Ideal) ℓ) (g' : Dev Cert.MlpDownDwRefIdeal.nD → PrngReg), Pre_MlpDownDwIdeal m →
    (∀ c : Dev Cert.MlpDownDwIdeal.nD,
      m' ((c.tc : Thread Cert.MlpDownDwRefIdeal.nD Cert.MlpDownDwRefIdeal.τ).loc Cert.MlpDownDwRefIdeal.main_arg0) = m ((c.tc : Thread Cert.MlpDownDwIdeal.nD Cert.MlpDownDwIdeal.τ).loc Cert.MlpDownDwIdeal.main_arg0)
      ∧ m' ((c.tc : Thread Cert.MlpDownDwRefIdeal.nD Cert.MlpDownDwRefIdeal.τ).loc Cert.MlpDownDwRefIdeal.main_arg1) = m ((c.tc : Thread Cert.MlpDownDwIdeal.nD Cert.MlpDownDwIdeal.τ).loc Cert.MlpDownDwIdeal.main_arg1)
      ∧ m' ((c.tc : Thread Cert.MlpDownDwRefIdeal.nD Cert.MlpDownDwRefIdeal.τ).loc Cert.MlpDownDwRefIdeal.main_arg2) = m ((c.tc : Thread Cert.MlpDownDwIdeal.nD Cert.MlpDownDwIdeal.τ).loc Cert.MlpDownDwIdeal.main_arg2)) →
    ∃ (v0 : (c : Dev Cert.MlpDownDwIdeal.nD) → Buf (Elt Ideal) ((c.tc : Thread Cert.MlpDownDwIdeal.nD Cert.MlpDownDwIdeal.τ).loc Cert.MlpDownDwIdeal.main_v5)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v5) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1)
          ∧ r.2.mem ((c.tc : Thread Cert.MlpDownDwIdeal.nD Cert.MlpDownDwIdeal.τ).loc Cert.MlpDownDwIdeal.main_arg2) = m ((c.tc : Thread Cert.MlpDownDwIdeal.nD Cert.MlpDownDwIdeal.τ).loc Cert.MlpDownDwIdeal.main_arg2))
      ∧ θ_run (Cert.MlpDownDwRefIdeal.defs (F := Ideal)) (onTc (τ := Cert.MlpDownDwRefIdeal.τ) (Cert.MlpDownDwRefIdeal.main (F := Ideal))) ⟨m', fun _ => 0, g'⟩ (fun r => ∀ c : Dev Cert.MlpDownDwRefIdeal.nD,
          r.2.mem ((c.tc : Thread Cert.MlpDownDwRefIdeal.nD Cert.MlpDownDwRefIdeal.τ).loc Cert.MlpDownDwRefIdeal.main_v7) = v0 c
          ∧ r.2.mem ((c.tc : Thread Cert.MlpDownDwRefIdeal.nD Cert.MlpDownDwRefIdeal.τ).loc Cert.MlpDownDwRefIdeal.main_arg0) = m' ((c.tc : Thread Cert.MlpDownDwRefIdeal.nD Cert.MlpDownDwRefIdeal.τ).loc Cert.MlpDownDwRefIdeal.main_arg0)
          ∧ r.2.mem ((c.tc : Thread Cert.MlpDownDwRefIdeal.nD Cert.MlpDownDwRefIdeal.τ).loc Cert.MlpDownDwRefIdeal.main_arg1) = m' ((c.tc : Thread Cert.MlpDownDwRefIdeal.nD Cert.MlpDownDwRefIdeal.τ).loc Cert.MlpDownDwRefIdeal.main_arg1)
          ∧ r.2.mem ((c.tc : Thread Cert.MlpDownDwRefIdeal.nD Cert.MlpDownDwRefIdeal.τ).loc Cert.MlpDownDwRefIdeal.main_arg2) = m' ((c.tc : Thread Cert.MlpDownDwRefIdeal.nD Cert.MlpDownDwRefIdeal.τ).loc Cert.MlpDownDwRefIdeal.main_arg2))

def preserves_MlpUpDw_MlpUpDwIdeal : Prop :=
  True

def algebraic_MlpUpDwIdeal_MlpUpDwRefIdeal [hMlpUpDwIdeal : Cert.MlpUpDwIdeal.Facts] [hMlpUpDwRefIdeal : Cert.MlpUpDwRefIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpDwRefIdeal.nD Cert.MlpUpDwRefIdeal.τ Cert.MlpUpDwRefIdeal.sig) → Buf (Elt Ideal) ℓ) (g' : Dev Cert.MlpUpDwRefIdeal.nD → PrngReg), Pre_MlpUpDwIdeal m →
    (∀ c : Dev Cert.MlpUpDwIdeal.nD,
      m' ((c.tc : Thread Cert.MlpUpDwRefIdeal.nD Cert.MlpUpDwRefIdeal.τ).loc Cert.MlpUpDwRefIdeal.main_arg0) = m ((c.tc : Thread Cert.MlpUpDwIdeal.nD Cert.MlpUpDwIdeal.τ).loc Cert.MlpUpDwIdeal.main_arg0)
      ∧ m' ((c.tc : Thread Cert.MlpUpDwRefIdeal.nD Cert.MlpUpDwRefIdeal.τ).loc Cert.MlpUpDwRefIdeal.main_arg1) = m ((c.tc : Thread Cert.MlpUpDwIdeal.nD Cert.MlpUpDwIdeal.τ).loc Cert.MlpUpDwIdeal.main_arg1)) →
    ∃ (v0 : (c : Dev Cert.MlpUpDwIdeal.nD) → Buf (Elt Ideal) ((c.tc : Thread Cert.MlpUpDwIdeal.nD Cert.MlpUpDwIdeal.τ).loc Cert.MlpUpDwIdeal.main_v2)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v2) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ θ_run (Cert.MlpUpDwRefIdeal.defs (F := Ideal)) (onTc (τ := Cert.MlpUpDwRefIdeal.τ) (Cert.MlpUpDwRefIdeal.main (F := Ideal))) ⟨m', fun _ => 0, g'⟩ (fun r => ∀ c : Dev Cert.MlpUpDwRefIdeal.nD,
          r.2.mem ((c.tc : Thread Cert.MlpUpDwRefIdeal.nD Cert.MlpUpDwRefIdeal.τ).loc Cert.MlpUpDwRefIdeal.main_v21) = v0 c
          ∧ r.2.mem ((c.tc : Thread Cert.MlpUpDwRefIdeal.nD Cert.MlpUpDwRefIdeal.τ).loc Cert.MlpUpDwRefIdeal.main_arg0) = m' ((c.tc : Thread Cert.MlpUpDwRefIdeal.nD Cert.MlpUpDwRefIdeal.τ).loc Cert.MlpUpDwRefIdeal.main_arg0)
          ∧ r.2.mem ((c.tc : Thread Cert.MlpUpDwRefIdeal.nD Cert.MlpUpDwRefIdeal.τ).loc Cert.MlpUpDwRefIdeal.main_arg1) = m' ((c.tc : Thread Cert.MlpUpDwRefIdeal.nD Cert.MlpUpDwRefIdeal.τ).loc Cert.MlpUpDwRefIdeal.main_arg1))

def preserves_ProjInDx_ProjInDxIdeal : Prop :=
  True

def algebraic_ProjInDxIdeal_ProjInDxRefIdeal [hProjInDxIdeal : Cert.ProjInDxIdeal.Facts] [hProjInDxRefIdeal : Cert.ProjInDxRefIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg)
    (m' : (ℓ : Loc Cert.ProjInDxRefIdeal.nD Cert.ProjInDxRefIdeal.τ Cert.ProjInDxRefIdeal.sig) → Buf (Elt Ideal) ℓ) (g' : Dev Cert.ProjInDxRefIdeal.nD → PrngReg), Pre_ProjInDxIdeal m →
    (∀ c : Dev Cert.ProjInDxIdeal.nD,
      m' ((c.tc : Thread Cert.ProjInDxRefIdeal.nD Cert.ProjInDxRefIdeal.τ).loc Cert.ProjInDxRefIdeal.main_arg0) = m ((c.tc : Thread Cert.ProjInDxIdeal.nD Cert.ProjInDxIdeal.τ).loc Cert.ProjInDxIdeal.main_arg0)
      ∧ m' ((c.tc : Thread Cert.ProjInDxRefIdeal.nD Cert.ProjInDxRefIdeal.τ).loc Cert.ProjInDxRefIdeal.main_arg1) = m ((c.tc : Thread Cert.ProjInDxIdeal.nD Cert.ProjInDxIdeal.τ).loc Cert.ProjInDxIdeal.main_arg1)
      ∧ m' ((c.tc : Thread Cert.ProjInDxRefIdeal.nD Cert.ProjInDxRefIdeal.τ).loc Cert.ProjInDxRefIdeal.main_arg2) = m ((c.tc : Thread Cert.ProjInDxIdeal.nD Cert.ProjInDxIdeal.τ).loc Cert.ProjInDxIdeal.main_arg2)
      ∧ m' ((c.tc : Thread Cert.ProjInDxRefIdeal.nD Cert.ProjInDxRefIdeal.τ).loc Cert.ProjInDxRefIdeal.main_arg3) = m ((c.tc : Thread Cert.ProjInDxIdeal.nD Cert.ProjInDxIdeal.τ).loc Cert.ProjInDxIdeal.main_arg3)
      ∧ m' ((c.tc : Thread Cert.ProjInDxRefIdeal.nD Cert.ProjInDxRefIdeal.τ).loc Cert.ProjInDxRefIdeal.main_arg4) = m ((c.tc : Thread Cert.ProjInDxIdeal.nD Cert.ProjInDxIdeal.τ).loc Cert.ProjInDxIdeal.main_arg4)) →
    ∃ (v0 : (c : Dev Cert.ProjInDxIdeal.nD) → Buf (Elt Ideal) ((c.tc : Thread Cert.ProjInDxIdeal.nD Cert.ProjInDxIdeal.τ).loc Cert.ProjInDxIdeal.main_v11_0)) (v1 : (c : Dev Cert.ProjInDxIdeal.nD) → Buf (Elt Ideal) ((c.tc : Thread Cert.ProjInDxIdeal.nD Cert.ProjInDxIdeal.τ).loc Cert.ProjInDxIdeal.main_v11_1)),
      θ_run (Cert.ProjInDxIdeal.defs (F := Ideal)) (onTc (τ := Cert.ProjInDxIdeal.τ) (Cert.ProjInDxIdeal.main (F := Ideal))) ⟨m, fun _ => 0, g⟩ (fun r => ∀ c : Dev Cert.ProjInDxIdeal.nD,
          r.2.mem ((c.tc : Thread Cert.ProjInDxIdeal.nD Cert.ProjInDxIdeal.τ).loc Cert.ProjInDxIdeal.main_v11_0) = v0 c
          ∧ r.2.mem ((c.tc : Thread Cert.ProjInDxIdeal.nD Cert.ProjInDxIdeal.τ).loc Cert.ProjInDxIdeal.main_v11_1) = v1 c
          ∧ r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
          ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1)
          ∧ r.2.mem ((c.tc : Thread Cert.ProjInDxIdeal.nD Cert.ProjInDxIdeal.τ).loc Cert.ProjInDxIdeal.main_arg2) = m ((c.tc : Thread Cert.ProjInDxIdeal.nD Cert.ProjInDxIdeal.τ).loc Cert.ProjInDxIdeal.main_arg2)
          ∧ r.2.mem ((c.tc : Thread Cert.ProjInDxIdeal.nD Cert.ProjInDxIdeal.τ).loc Cert.ProjInDxIdeal.main_arg3) = m ((c.tc : Thread Cert.ProjInDxIdeal.nD Cert.ProjInDxIdeal.τ).loc Cert.ProjInDxIdeal.main_arg3)
          ∧ r.2.mem ((c.tc : Thread Cert.ProjInDxIdeal.nD Cert.ProjInDxIdeal.τ).loc Cert.ProjInDxIdeal.main_arg4) = m ((c.tc : Thread Cert.ProjInDxIdeal.nD Cert.ProjInDxIdeal.τ).loc Cert.ProjInDxIdeal.main_arg4))
      ∧ θ_run (Cert.ProjInDxRefIdeal.defs (F := Ideal)) (onTc (τ := Cert.ProjInDxRefIdeal.τ) (Cert.ProjInDxRefIdeal.main (F := Ideal))) ⟨m', fun _ => 0, g'⟩ (fun r => ∀ c : Dev Cert.ProjInDxRefIdeal.nD,
          r.2.mem ((c.tc : Thread Cert.ProjInDxRefIdeal.nD Cert.ProjInDxRefIdeal.τ).loc Cert.ProjInDxRefIdeal.main_v38) = v0 c
          ∧ r.2.mem ((c.tc : Thread Cert.ProjInDxRefIdeal.nD Cert.ProjInDxRefIdeal.τ).loc Cert.ProjInDxRefIdeal.main_v39) = v1 c
          ∧ r.2.mem ((c.tc : Thread Cert.ProjInDxRefIdeal.nD Cert.ProjInDxRefIdeal.τ).loc Cert.ProjInDxRefIdeal.main_arg0) = m' ((c.tc : Thread Cert.ProjInDxRefIdeal.nD Cert.ProjInDxRefIdeal.τ).loc Cert.ProjInDxRefIdeal.main_arg0)
          ∧ r.2.mem ((c.tc : Thread Cert.ProjInDxRefIdeal.nD Cert.ProjInDxRefIdeal.τ).loc Cert.ProjInDxRefIdeal.main_arg1) = m' ((c.tc : Thread Cert.ProjInDxRefIdeal.nD Cert.ProjInDxRefIdeal.τ).loc Cert.ProjInDxRefIdeal.main_arg1)
          ∧ r.2.mem ((c.tc : Thread Cert.ProjInDxRefIdeal.nD Cert.ProjInDxRefIdeal.τ).loc Cert.ProjInDxRefIdeal.main_arg2) = m' ((c.tc : Thread Cert.ProjInDxRefIdeal.nD Cert.ProjInDxRefIdeal.τ).loc Cert.ProjInDxRefIdeal.main_arg2)
          ∧ r.2.mem ((c.tc : Thread Cert.ProjInDxRefIdeal.nD Cert.ProjInDxRefIdeal.τ).loc Cert.ProjInDxRefIdeal.main_arg3) = m' ((c.tc : Thread Cert.ProjInDxRefIdeal.nD Cert.ProjInDxRefIdeal.τ).loc Cert.ProjInDxRefIdeal.main_arg3)
          ∧ r.2.mem ((c.tc : Thread Cert.ProjInDxRefIdeal.nD Cert.ProjInDxRefIdeal.τ).loc Cert.ProjInDxRefIdeal.main_arg4) = m' ((c.tc : Thread Cert.ProjInDxRefIdeal.nD Cert.ProjInDxRefIdeal.τ).loc Cert.ProjInDxRefIdeal.main_arg4))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)
      ∧ m' ((c.tc : Thread Cert.MixDwRefIdeal.nD Cert.MixDwRefIdeal.τ).loc Cert.MixDwRefIdeal.main_arg2) = m ((c.tc : Thread Cert.MixDwIdeal.nD Cert.MixDwIdeal.τ).loc Cert.MixDwIdeal.main_arg2)
      ∧ m' ((c.tc : Thread Cert.MixDwRefIdeal.nD Cert.MixDwRefIdeal.τ).loc Cert.MixDwRefIdeal.main_arg3) = m ((c.tc : Thread Cert.MixDwIdeal.nD Cert.MixDwIdeal.τ).loc Cert.MixDwIdeal.main_arg3)
      ∧ m' ((c.tc : Thread Cert.MixDwRefIdeal.nD Cert.MixDwRefIdeal.τ).loc Cert.MixDwRefIdeal.main_arg4) = m ((c.tc : Thread Cert.MixDwIdeal.nD Cert.MixDwIdeal.τ).loc Cert.MixDwIdeal.main_arg4)
      ∧ m' ((c.tc : Thread Cert.MixDwRefIdeal.nD Cert.MixDwRefIdeal.τ).loc Cert.MixDwRefIdeal.main_arg5) = m ((c.tc : Thread Cert.MixDwIdeal.nD Cert.MixDwIdeal.τ).loc Cert.MixDwIdeal.main_arg5)) →
    ∃ (v0 : (c : Dev Cert.MixDwIdeal.nD) → Buf (Elt Ideal) ((c.tc : Thread Cert.MixDwIdeal.nD Cert.MixDwIdeal.τ).loc Cert.MixDwIdeal.main_v6_0)) (v1 : (c : Dev Cert.MixDwIdeal.nD) → Buf (Elt Ideal) ((c.tc : Thread Cert.MixDwIdeal.nD Cert.MixDwIdeal.τ).loc Cert.MixDwIdeal.main_v6_1)) (v2 : (c : Dev Cert.MixDwIdeal.nD) → Buf (Elt Ideal) ((c.tc : Thread Cert.MixDwIdeal.nD Cert.MixDwIdeal.τ).loc Cert.MixDwIdeal.main_v6_2)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v6_0) = v0 c
          ∧ r.2.mem ((c.tc : Thread Cert.MixDwIdeal.nD Cert.MixDwIdeal.τ).loc Cert.MixDwIdeal.main_v6_1) = v1 c
          ∧ r.2.mem ((c.tc : Thread Cert.MixDwIdeal.nD Cert.MixDwIdeal.τ).loc Cert.MixDwIdeal.main_v6_2) = v2 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
          ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2)
          ∧ r.2.mem ((c.tc : Thread Cert.MixDwIdeal.nD Cert.MixDwIdeal.τ).loc Cert.MixDwIdeal.main_arg3) = m ((c.tc : Thread Cert.MixDwIdeal.nD Cert.MixDwIdeal.τ).loc Cert.MixDwIdeal.main_arg3)
          ∧ r.2.mem ((c.tc : Thread Cert.MixDwIdeal.nD Cert.MixDwIdeal.τ).loc Cert.MixDwIdeal.main_arg4) = m ((c.tc : Thread Cert.MixDwIdeal.nD Cert.MixDwIdeal.τ).loc Cert.MixDwIdeal.main_arg4)
          ∧ r.2.mem ((c.tc : Thread Cert.MixDwIdeal.nD Cert.MixDwIdeal.τ).loc Cert.MixDwIdeal.main_arg5) = m ((c.tc : Thread Cert.MixDwIdeal.nD Cert.MixDwIdeal.τ).loc Cert.MixDwIdeal.main_arg5))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v4) = v0 c
          ∧ r.2.mem ((c.tc : Thread Cert.MixDwRefIdeal.nD Cert.MixDwRefIdeal.τ).loc Cert.MixDwRefIdeal.main_v9) = v1 c
          ∧ r.2.mem ((c.tc : Thread Cert.MixDwRefIdeal.nD Cert.MixDwRefIdeal.τ).loc Cert.MixDwRefIdeal.main_v14) = v2 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1)
          ∧ r.2.mem ((c.tc : Thread Cert.MixDwRefIdeal.nD Cert.MixDwRefIdeal.τ).loc Cert.MixDwRefIdeal.main_arg2) = m' ((c.tc : Thread Cert.MixDwRefIdeal.nD Cert.MixDwRefIdeal.τ).loc Cert.MixDwRefIdeal.main_arg2)
          ∧ r.2.mem ((c.tc : Thread Cert.MixDwRefIdeal.nD Cert.MixDwRefIdeal.τ).loc Cert.MixDwRefIdeal.main_arg3) = m' ((c.tc : Thread Cert.MixDwRefIdeal.nD Cert.MixDwRefIdeal.τ).loc Cert.MixDwRefIdeal.main_arg3)
          ∧ r.2.mem ((c.tc : Thread Cert.MixDwRefIdeal.nD Cert.MixDwRefIdeal.τ).loc Cert.MixDwRefIdeal.main_arg4) = m' ((c.tc : Thread Cert.MixDwRefIdeal.nD Cert.MixDwRefIdeal.τ).loc Cert.MixDwRefIdeal.main_arg4)
          ∧ r.2.mem ((c.tc : Thread Cert.MixDwRefIdeal.nD Cert.MixDwRefIdeal.τ).loc Cert.MixDwRefIdeal.main_arg5) = m' ((c.tc : Thread Cert.MixDwRefIdeal.nD Cert.MixDwRefIdeal.τ).loc Cert.MixDwRefIdeal.main_arg5))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)) →
    ∃ (v0 : (c : Dev Cert.ProjInIdeal.nD) → Buf (Elt Ideal) ((c.tc : Thread Cert.ProjInIdeal.nD Cert.ProjInIdeal.τ).loc Cert.ProjInIdeal.main_v6_0)) (v1 : (c : Dev Cert.ProjInIdeal.nD) → Buf (Elt Ideal) ((c.tc : Thread Cert.ProjInIdeal.nD Cert.ProjInIdeal.τ).loc Cert.ProjInIdeal.main_v6_1)) (v2 : (c : Dev Cert.ProjInIdeal.nD) → Buf (Elt Ideal) ((c.tc : Thread Cert.ProjInIdeal.nD Cert.ProjInIdeal.τ).loc Cert.ProjInIdeal.main_v6_2)) (v3 : (c : Dev Cert.ProjInIdeal.nD) → Buf (Elt Ideal) ((c.tc : Thread Cert.ProjInIdeal.nD Cert.ProjInIdeal.τ).loc Cert.ProjInIdeal.main_v6_3)) (v4 : (c : Dev Cert.ProjInIdeal.nD) → Buf (Elt Ideal) ((c.tc : Thread Cert.ProjInIdeal.nD Cert.ProjInIdeal.τ).loc Cert.ProjInIdeal.main_v6_4)) (v5 : (c : Dev Cert.ProjInIdeal.nD) → Buf (Elt Ideal) ((c.tc : Thread Cert.ProjInIdeal.nD Cert.ProjInIdeal.τ).loc Cert.ProjInIdeal.main_v6_5)) (v6 : (c : Dev Cert.ProjInIdeal.nD) → Buf (Elt Ideal) ((c.tc : Thread Cert.ProjInIdeal.nD Cert.ProjInIdeal.τ).loc Cert.ProjInIdeal.main_v6_6)) (v7 : (c : Dev Cert.ProjInIdeal.nD) → Buf (Elt Ideal) ((c.tc : Thread Cert.ProjInIdeal.nD Cert.ProjInIdeal.τ).loc Cert.ProjInIdeal.main_v6_7)) (v8 : (c : Dev Cert.ProjInIdeal.nD) → Buf (Elt Ideal) ((c.tc : Thread Cert.ProjInIdeal.nD Cert.ProjInIdeal.τ).loc Cert.ProjInIdeal.main_v6_8)) (v9 : (c : Dev Cert.ProjInIdeal.nD) → Buf (Elt Ideal) ((c.tc : Thread Cert.ProjInIdeal.nD Cert.ProjInIdeal.τ).loc Cert.ProjInIdeal.main_v6_9)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v6_0) = v0 c
          ∧ r.2.mem ((c.tc : Thread Cert.ProjInIdeal.nD Cert.ProjInIdeal.τ).loc Cert.ProjInIdeal.main_v6_1) = v1 c
          ∧ r.2.mem ((c.tc : Thread Cert.ProjInIdeal.nD Cert.ProjInIdeal.τ).loc Cert.ProjInIdeal.main_v6_2) = v2 c
          ∧ r.2.mem ((c.tc : Thread Cert.ProjInIdeal.nD Cert.ProjInIdeal.τ).loc Cert.ProjInIdeal.main_v6_3) = v3 c
          ∧ r.2.mem ((c.tc : Thread Cert.ProjInIdeal.nD Cert.ProjInIdeal.τ).loc Cert.ProjInIdeal.main_v6_4) = v4 c
          ∧ r.2.mem ((c.tc : Thread Cert.ProjInIdeal.nD Cert.ProjInIdeal.τ).loc Cert.ProjInIdeal.main_v6_5) = v5 c
          ∧ r.2.mem ((c.tc : Thread Cert.ProjInIdeal.nD Cert.ProjInIdeal.τ).loc Cert.ProjInIdeal.main_v6_6) = v6 c
          ∧ r.2.mem ((c.tc : Thread Cert.ProjInIdeal.nD Cert.ProjInIdeal.τ).loc Cert.ProjInIdeal.main_v6_7) = v7 c
          ∧ r.2.mem ((c.tc : Thread Cert.ProjInIdeal.nD Cert.ProjInIdeal.τ).loc Cert.ProjInIdeal.main_v6_8) = v8 c
          ∧ r.2.mem ((c.tc : Thread Cert.ProjInIdeal.nD Cert.ProjInIdeal.τ).loc Cert.ProjInIdeal.main_v6_9) = v9 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v18) = v0 c
          ∧ r.2.mem ((c.tc : Thread Cert.ProjInRefIdeal.nD Cert.ProjInRefIdeal.τ).loc Cert.ProjInRefIdeal.main_v20) = v1 c
          ∧ r.2.mem ((c.tc : Thread Cert.ProjInRefIdeal.nD Cert.ProjInRefIdeal.τ).loc Cert.ProjInRefIdeal.main_v21) = v2 c
          ∧ r.2.mem ((c.tc : Thread Cert.ProjInRefIdeal.nD Cert.ProjInRefIdeal.τ).loc Cert.ProjInRefIdeal.main_v4) = v3 c
          ∧ r.2.mem ((c.tc : Thread Cert.ProjInRefIdeal.nD Cert.ProjInRefIdeal.τ).loc Cert.ProjInRefIdeal.main_v22) = v4 c
          ∧ r.2.mem ((c.tc : Thread Cert.ProjInRefIdeal.nD Cert.ProjInRefIdeal.τ).loc Cert.ProjInRefIdeal.main_v6) = v5 c
          ∧ r.2.mem ((c.tc : Thread Cert.ProjInRefIdeal.nD Cert.ProjInRefIdeal.τ).loc Cert.ProjInRefIdeal.main_v7) = v6 c
          ∧ r.2.mem ((c.tc : Thread Cert.ProjInRefIdeal.nD Cert.ProjInRefIdeal.τ).loc Cert.ProjInRefIdeal.main_v8) = v7 c
          ∧ r.2.mem ((c.tc : Thread Cert.ProjInRefIdeal.nD Cert.ProjInRefIdeal.τ).loc Cert.ProjInRefIdeal.main_v9) = v8 c
          ∧ r.2.mem ((c.tc : Thread Cert.ProjInRefIdeal.nD Cert.ProjInRefIdeal.τ).loc Cert.ProjInRefIdeal.main_v24) = v9 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3))

def preserves_DecayBwd_DecayBwdIdeal : Prop :=
  True

def algebraic_DecayBwdIdeal_DecayBwdRefIdeal_pre_smooth_gates [hDecayBwdIdeal : Cert.DecayBwdIdeal.Facts] [hDecayBwdRefIdeal : Cert.DecayBwdRefIdeal.Facts] [hPre_smooth_gates : Cert.Pre_smooth_gates.Facts] : Prop :=
  ∀ (m : (ℓ : Loc Cert.DecayBwdIdeal.nD Cert.DecayBwdIdeal.τ Cert.DecayBwdIdeal.sig) → Buf (Elt Ideal) ℓ) (g : Dev Cert.DecayBwdIdeal.nD → PrngReg)
    (m' : (ℓ : Loc Cert.DecayBwdRefIdeal.nD Cert.DecayBwdRefIdeal.τ Cert.DecayBwdRefIdeal.sig) → Buf (Elt Ideal) ℓ) (g' : Dev Cert.DecayBwdRefIdeal.nD → PrngReg), Pre_DecayBwdIdeal_smooth_gates m →
    (∀ c : Dev Cert.DecayBwdIdeal.nD,
      m' ((c.tc : Thread Cert.DecayBwdRefIdeal.nD Cert.DecayBwdRefIdeal.τ).loc Cert.DecayBwdRefIdeal.main_arg0) = m ((c.tc : Thread Cert.DecayBwdIdeal.nD Cert.DecayBwdIdeal.τ).loc Cert.DecayBwdIdeal.main_arg0)
      ∧ m' ((c.tc : Thread Cert.DecayBwdRefIdeal.nD Cert.DecayBwdRefIdeal.τ).loc Cert.DecayBwdRefIdeal.main_arg1) = m ((c.tc : Thread Cert.DecayBwdIdeal.nD Cert.DecayBwdIdeal.τ).loc Cert.DecayBwdIdeal.main_arg1)
      ∧ m' ((c.tc : Thread Cert.DecayBwdRefIdeal.nD Cert.DecayBwdRefIdeal.τ).loc Cert.DecayBwdRefIdeal.main_arg2) = m ((c.tc : Thread Cert.DecayBwdIdeal.nD Cert.DecayBwdIdeal.τ).loc Cert.DecayBwdIdeal.main_arg2)
      ∧ m' ((c.tc : Thread Cert.DecayBwdRefIdeal.nD Cert.DecayBwdRefIdeal.τ).loc Cert.DecayBwdRefIdeal.main_arg3) = m ((c.tc : Thread Cert.DecayBwdIdeal.nD Cert.DecayBwdIdeal.τ).loc Cert.DecayBwdIdeal.main_arg3)) →
    ∃ (v0 : (c : Dev Cert.DecayBwdIdeal.nD) → Buf (Elt Ideal) ((c.tc : Thread Cert.DecayBwdIdeal.nD Cert.DecayBwdIdeal.τ).loc Cert.DecayBwdIdeal.main_v5_0)) (v1 : (c : Dev Cert.DecayBwdIdeal.nD) → Buf (Elt Ideal) ((c.tc : Thread Cert.DecayBwdIdeal.nD Cert.DecayBwdIdeal.τ).loc Cert.DecayBwdIdeal.main_v5_1)) (v2 : (c : Dev Cert.DecayBwdIdeal.nD) → Buf (Elt Ideal) ((c.tc : Thread Cert.DecayBwdIdeal.nD Cert.DecayBwdIdeal.τ).loc Cert.DecayBwdIdeal.main_v5_2)),
      θ_run (Cert.DecayBwdIdeal.defs (F := Ideal)) (onTc (τ := Cert.DecayBwdIdeal.τ) (Cert.DecayBwdIdeal.main (F := Ideal))) ⟨m, fun _ => 0, g⟩ (fun r => ∀ c : Dev Cert.DecayBwdIdeal.nD,
          r.2.mem ((c.tc : Thread Cert.DecayBwdIdeal.nD Cert.DecayBwdIdeal.τ).loc Cert.DecayBwdIdeal.main_v5_0) = v0 c
          ∧ r.2.mem ((c.tc : Thread Cert.DecayBwdIdeal.nD Cert.DecayBwdIdeal.τ).loc Cert.DecayBwdIdeal.main_v5_1) = v1 c
          ∧ r.2.mem ((c.tc : Thread Cert.DecayBwdIdeal.nD Cert.DecayBwdIdeal.τ).loc Cert.DecayBwdIdeal.main_v5_2) = v2 c
          ∧ r.2.mem ((c.tc : Thread Cert.DecayBwdIdeal.nD Cert.DecayBwdIdeal.τ).loc Cert.DecayBwdIdeal.main_arg0) = m ((c.tc : Thread Cert.DecayBwdIdeal.nD Cert.DecayBwdIdeal.τ).loc Cert.DecayBwdIdeal.main_arg0)
          ∧ r.2.mem ((c.tc : Thread Cert.DecayBwdIdeal.nD Cert.DecayBwdIdeal.τ).loc Cert.DecayBwdIdeal.main_arg1) = m ((c.tc : Thread Cert.DecayBwdIdeal.nD Cert.DecayBwdIdeal.τ).loc Cert.DecayBwdIdeal.main_arg1)
          ∧ r.2.mem ((c.tc : Thread Cert.DecayBwdIdeal.nD Cert.DecayBwdIdeal.τ).loc Cert.DecayBwdIdeal.main_arg2) = m ((c.tc : Thread Cert.DecayBwdIdeal.nD Cert.DecayBwdIdeal.τ).loc Cert.DecayBwdIdeal.main_arg2)
          ∧ r.2.mem ((c.tc : Thread Cert.DecayBwdIdeal.nD Cert.DecayBwdIdeal.τ).loc Cert.DecayBwdIdeal.main_arg3) = m ((c.tc : Thread Cert.DecayBwdIdeal.nD Cert.DecayBwdIdeal.τ).loc Cert.DecayBwdIdeal.main_arg3))
      ∧ θ_run (Cert.DecayBwdRefIdeal.defs (F := Ideal)) (onTc (τ := Cert.DecayBwdRefIdeal.τ) (Cert.DecayBwdRefIdeal.main (F := Ideal))) ⟨m', fun _ => 0, g'⟩ (fun r => ∀ c : Dev Cert.DecayBwdRefIdeal.nD,
          r.2.mem ((c.tc : Thread Cert.DecayBwdRefIdeal.nD Cert.DecayBwdRefIdeal.τ).loc Cert.DecayBwdRefIdeal.main_v17) = v0 c
          ∧ r.2.mem ((c.tc : Thread Cert.DecayBwdRefIdeal.nD Cert.DecayBwdRefIdeal.τ).loc Cert.DecayBwdRefIdeal.main_v18) = v1 c
          ∧ r.2.mem ((c.tc : Thread Cert.DecayBwdRefIdeal.nD Cert.DecayBwdRefIdeal.τ).loc Cert.DecayBwdRefIdeal.main_v19) = v2 c
          ∧ r.2.mem ((c.tc : Thread Cert.DecayBwdRefIdeal.nD Cert.DecayBwdRefIdeal.τ).loc Cert.DecayBwdRefIdeal.main_arg0) = m' ((c.tc : Thread Cert.DecayBwdRefIdeal.nD Cert.DecayBwdRefIdeal.τ).loc Cert.DecayBwdRefIdeal.main_arg0)
          ∧ r.2.mem ((c.tc : Thread Cert.DecayBwdRefIdeal.nD Cert.DecayBwdRefIdeal.τ).loc Cert.DecayBwdRefIdeal.main_arg1) = m' ((c.tc : Thread Cert.DecayBwdRefIdeal.nD Cert.DecayBwdRefIdeal.τ).loc Cert.DecayBwdRefIdeal.main_arg1)
          ∧ r.2.mem ((c.tc : Thread Cert.DecayBwdRefIdeal.nD Cert.DecayBwdRefIdeal.τ).loc Cert.DecayBwdRefIdeal.main_arg2) = m' ((c.tc : Thread Cert.DecayBwdRefIdeal.nD Cert.DecayBwdRefIdeal.τ).loc Cert.DecayBwdRefIdeal.main_arg2)
          ∧ r.2.mem ((c.tc : Thread Cert.DecayBwdRefIdeal.nD Cert.DecayBwdRefIdeal.τ).loc Cert.DecayBwdRefIdeal.main_arg3) = m' ((c.tc : Thread Cert.DecayBwdRefIdeal.nD Cert.DecayBwdRefIdeal.τ).loc Cert.DecayBwdRefIdeal.main_arg3))

def preserves_ProjO_ProjOIdeal : Prop :=
  True

def algebraic_ProjOIdeal_ProjORefIdeal [hProjOIdeal : Cert.ProjOIdeal.Facts] [hProjORefIdeal : Cert.ProjORefIdeal.Facts] : Prop :=
  ∀ (m : (ℓ : Loc Cert.ProjOIdeal.nD Cert.ProjOIdeal.τ Cert.ProjOIdeal.sig) → Buf (Elt Ideal) ℓ) (g : Dev Cert.ProjOIdeal.nD → PrngReg)
    (m' : (ℓ : Loc Cert.ProjORefIdeal.nD Cert.ProjORefIdeal.τ Cert.ProjORefIdeal.sig) → Buf (Elt Ideal) ℓ) (g' : Dev Cert.ProjORefIdeal.nD → PrngReg), Pre_ProjOIdeal m →
    (∀ c : Dev Cert.ProjOIdeal.nD,
      m' ((c.tc : Thread Cert.ProjORefIdeal.nD Cert.ProjORefIdeal.τ).loc Cert.ProjORefIdeal.main_arg0) = m ((c.tc : Thread Cert.ProjOIdeal.nD Cert.ProjOIdeal.τ).loc Cert.ProjOIdeal.main_arg0)
      ∧ m' ((c.tc : Thread Cert.ProjORefIdeal.nD Cert.ProjORefIdeal.τ).loc Cert.ProjORefIdeal.main_arg1) = m ((c.tc : Thread Cert.ProjOIdeal.nD Cert.ProjOIdeal.τ).loc Cert.ProjOIdeal.main_arg1)
      ∧ m' ((c.tc : Thread Cert.ProjORefIdeal.nD Cert.ProjORefIdeal.τ).loc Cert.ProjORefIdeal.main_arg2) = m ((c.tc : Thread Cert.ProjOIdeal.nD Cert.ProjOIdeal.τ).loc Cert.ProjOIdeal.main_arg2)
      ∧ m' ((c.tc : Thread Cert.ProjORefIdeal.nD Cert.ProjORefIdeal.τ).loc Cert.ProjORefIdeal.main_arg3) = m ((c.tc : Thread Cert.ProjOIdeal.nD Cert.ProjOIdeal.τ).loc Cert.ProjOIdeal.main_arg3)
      ∧ m' ((c.tc : Thread Cert.ProjORefIdeal.nD Cert.ProjORefIdeal.τ).loc Cert.ProjORefIdeal.main_arg4) = m ((c.tc : Thread Cert.ProjOIdeal.nD Cert.ProjOIdeal.τ).loc Cert.ProjOIdeal.main_arg4)) →
    ∃ (v0 : (c : Dev Cert.ProjOIdeal.nD) → Buf (Elt Ideal) ((c.tc : Thread Cert.ProjOIdeal.nD Cert.ProjOIdeal.τ).loc Cert.ProjOIdeal.main_v4_0)) (v1 : (c : Dev Cert.ProjOIdeal.nD) → Buf (Elt Ideal) ((c.tc : Thread Cert.ProjOIdeal.nD Cert.ProjOIdeal.τ).loc Cert.ProjOIdeal.main_v4_1)) (v2 : (c : Dev Cert.ProjOIdeal.nD) → Buf (Elt Ideal) ((c.tc : Thread Cert.ProjOIdeal.nD Cert.ProjOIdeal.τ).loc Cert.ProjOIdeal.main_v4_2)),
      θ_run (Cert.ProjOIdeal.defs (F := Ideal)) (onTc (τ := Cert.ProjOIdeal.τ) (Cert.ProjOIdeal.main (F := Ideal))) ⟨m, fun _ => 0, g⟩ (fun r => ∀ c : Dev Cert.ProjOIdeal.nD,
          r.2.mem ((c.tc : Thread Cert.ProjOIdeal.nD Cert.ProjOIdeal.τ).loc Cert.ProjOIdeal.main_v4_0) = v0 c
          ∧ r.2.mem ((c.tc : Thread Cert.ProjOIdeal.nD Cert.ProjOIdeal.τ).loc Cert.ProjOIdeal.main_v4_1) = v1 c
          ∧ r.2.mem ((c.tc : Thread Cert.ProjOIdeal.nD Cert.ProjOIdeal.τ).loc Cert.ProjOIdeal.main_v4_2) = v2 c
          ∧ r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
          ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
          ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2)
          ∧ r.2.mem ((c.tc : Thread Cert.ProjOIdeal.nD Cert.ProjOIdeal.τ).loc Cert.ProjOIdeal.main_arg3) = m ((c.tc : Thread Cert.ProjOIdeal.nD Cert.ProjOIdeal.τ).loc Cert.ProjOIdeal.main_arg3)
          ∧ r.2.mem ((c.tc : Thread Cert.ProjOIdeal.nD Cert.ProjOIdeal.τ).loc Cert.ProjOIdeal.main_arg4) = m ((c.tc : Thread Cert.ProjOIdeal.nD Cert.ProjOIdeal.τ).loc Cert.ProjOIdeal.main_arg4))
      ∧ θ_run (Cert.ProjORefIdeal.defs (F := Ideal)) (onTc (τ := Cert.ProjORefIdeal.τ) (Cert.ProjORefIdeal.main (F := Ideal))) ⟨m', fun _ => 0, g'⟩ (fun r => ∀ c : Dev Cert.ProjORefIdeal.nD,
          r.2.mem ((c.tc : Thread Cert.ProjORefIdeal.nD Cert.ProjORefIdeal.τ).loc Cert.ProjORefIdeal.main_v0) = v0 c
          ∧ r.2.mem ((c.tc : Thread Cert.ProjORefIdeal.nD Cert.ProjORefIdeal.τ).loc Cert.ProjORefIdeal.main_v14) = v1 c
          ∧ r.2.mem ((c.tc : Thread Cert.ProjORefIdeal.nD Cert.ProjORefIdeal.τ).loc Cert.ProjORefIdeal.main_v28) = v2 c
          ∧ r.2.mem ((c.tc : Thread Cert.ProjORefIdeal.nD Cert.ProjORefIdeal.τ).loc Cert.ProjORefIdeal.main_arg0) = m' ((c.tc : Thread Cert.ProjORefIdeal.nD Cert.ProjORefIdeal.τ).loc Cert.ProjORefIdeal.main_arg0)
          ∧ r.2.mem ((c.tc : Thread Cert.ProjORefIdeal.nD Cert.ProjORefIdeal.τ).loc Cert.ProjORefIdeal.main_arg1) = m' ((c.tc : Thread Cert.ProjORefIdeal.nD Cert.ProjORefIdeal.τ).loc Cert.ProjORefIdeal.main_arg1)
          ∧ r.2.mem ((c.tc : Thread Cert.ProjORefIdeal.nD Cert.ProjORefIdeal.τ).loc Cert.ProjORefIdeal.main_arg2) = m' ((c.tc : Thread Cert.ProjORefIdeal.nD Cert.ProjORefIdeal.τ).loc Cert.ProjORefIdeal.main_arg2)
          ∧ r.2.mem ((c.tc : Thread Cert.ProjORefIdeal.nD Cert.ProjORefIdeal.τ).loc Cert.ProjORefIdeal.main_arg3) = m' ((c.tc : Thread Cert.ProjORefIdeal.nD Cert.ProjORefIdeal.τ).loc Cert.ProjORefIdeal.main_arg3)
          ∧ r.2.mem ((c.tc : Thread Cert.ProjORefIdeal.nD Cert.ProjORefIdeal.τ).loc Cert.ProjORefIdeal.main_arg4) = m' ((c.tc : Thread Cert.ProjORefIdeal.nD Cert.ProjORefIdeal.τ).loc Cert.ProjORefIdeal.main_arg4))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v1)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v1) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v13) = v0 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_Branches_BranchesIdeal : Prop :=
  True

def algebraic_BranchesIdeal_BranchesRefIdeal [hBranchesIdeal : Cert.BranchesIdeal.Facts] [hBranchesRefIdeal : Cert.BranchesRefIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesRefIdeal.nD Cert.BranchesRefIdeal.τ Cert.BranchesRefIdeal.sig) → Buf (Elt Ideal) ℓ) (g' : Dev Cert.BranchesRefIdeal.nD → PrngReg), Pre_BranchesIdeal m →
    (∀ c : Dev Cert.BranchesIdeal.nD,
      m' ((c.tc : Thread Cert.BranchesRefIdeal.nD Cert.BranchesRefIdeal.τ).loc Cert.BranchesRefIdeal.main_arg0) = m ((c.tc : Thread Cert.BranchesIdeal.nD Cert.BranchesIdeal.τ).loc Cert.BranchesIdeal.main_arg0)
      ∧ m' ((c.tc : Thread Cert.BranchesRefIdeal.nD Cert.BranchesRefIdeal.τ).loc Cert.BranchesRefIdeal.main_arg1) = m ((c.tc : Thread Cert.BranchesIdeal.nD Cert.BranchesIdeal.τ).loc Cert.BranchesIdeal.main_arg1)
      ∧ m' ((c.tc : Thread Cert.BranchesRefIdeal.nD Cert.BranchesRefIdeal.τ).loc Cert.BranchesRefIdeal.main_arg2) = m ((c.tc : Thread Cert.BranchesIdeal.nD Cert.BranchesIdeal.τ).loc Cert.BranchesIdeal.main_arg2)
      ∧ m' ((c.tc : Thread Cert.BranchesRefIdeal.nD Cert.BranchesRefIdeal.τ).loc Cert.BranchesRefIdeal.main_arg3) = m ((c.tc : Thread Cert.BranchesIdeal.nD Cert.BranchesIdeal.τ).loc Cert.BranchesIdeal.main_arg3)
      ∧ m' ((c.tc : Thread Cert.BranchesRefIdeal.nD Cert.BranchesRefIdeal.τ).loc Cert.BranchesRefIdeal.main_arg4) = m ((c.tc : Thread Cert.BranchesIdeal.nD Cert.BranchesIdeal.τ).loc Cert.BranchesIdeal.main_arg4)
      ∧ m' ((c.tc : Thread Cert.BranchesRefIdeal.nD Cert.BranchesRefIdeal.τ).loc Cert.BranchesRefIdeal.main_arg5) = m ((c.tc : Thread Cert.BranchesIdeal.nD Cert.BranchesIdeal.τ).loc Cert.BranchesIdeal.main_arg5)
      ∧ m' ((c.tc : Thread Cert.BranchesRefIdeal.nD Cert.BranchesRefIdeal.τ).loc Cert.BranchesRefIdeal.main_arg6) = m ((c.tc : Thread Cert.BranchesIdeal.nD Cert.BranchesIdeal.τ).loc Cert.BranchesIdeal.main_arg6)
      ∧ m' ((c.tc : Thread Cert.BranchesRefIdeal.nD Cert.BranchesRefIdeal.τ).loc Cert.BranchesRefIdeal.main_arg7) = m ((c.tc : Thread Cert.BranchesIdeal.nD Cert.BranchesIdeal.τ).loc Cert.BranchesIdeal.main_arg7)
      ∧ m' ((c.tc : Thread Cert.BranchesRefIdeal.nD Cert.BranchesRefIdeal.τ).loc Cert.BranchesRefIdeal.main_arg8) = m ((c.tc : Thread Cert.BranchesIdeal.nD Cert.BranchesIdeal.τ).loc Cert.BranchesIdeal.main_arg8)
      ∧ m' ((c.tc : Thread Cert.BranchesRefIdeal.nD Cert.BranchesRefIdeal.τ).loc Cert.BranchesRefIdeal.main_arg9) = m ((c.tc : Thread Cert.BranchesIdeal.nD Cert.BranchesIdeal.τ).loc Cert.BranchesIdeal.main_arg9)
      ∧ m' ((c.tc : Thread Cert.BranchesRefIdeal.nD Cert.BranchesRefIdeal.τ).loc Cert.BranchesRefIdeal.main_arg10) = m ((c.tc : Thread Cert.BranchesIdeal.nD Cert.BranchesIdeal.τ).loc Cert.BranchesIdeal.main_arg10)
      ∧ m' ((c.tc : Thread Cert.BranchesRefIdeal.nD Cert.BranchesRefIdeal.τ).loc Cert.BranchesRefIdeal.main_arg11) = m ((c.tc : Thread Cert.BranchesIdeal.nD Cert.BranchesIdeal.τ).loc Cert.BranchesIdeal.main_arg11)) →
    ∃ (v0 : (c : Dev Cert.BranchesIdeal.nD) → Buf (Elt Ideal) ((c.tc : Thread Cert.BranchesIdeal.nD Cert.BranchesIdeal.τ).loc Cert.BranchesIdeal.main_v5_0)) (v1 : (c : Dev Cert.BranchesIdeal.nD) → Buf (Elt Ideal) ((c.tc : Thread Cert.BranchesIdeal.nD Cert.BranchesIdeal.τ).loc Cert.BranchesIdeal.main_v5_1)) (v2 : (c : Dev Cert.BranchesIdeal.nD) → Buf (Elt Ideal) ((c.tc : Thread Cert.BranchesIdeal.nD Cert.BranchesIdeal.τ).loc Cert.BranchesIdeal.main_v5_2)) (v3 : (c : Dev Cert.BranchesIdeal.nD) → Buf (Elt Ideal) ((c.tc : Thread Cert.BranchesIdeal.nD Cert.BranchesIdeal.τ).loc Cert.BranchesIdeal.main_v5_3)) (v4 : (c : Dev Cert.BranchesIdeal.nD) → Buf (Elt Ideal) ((c.tc : Thread Cert.BranchesIdeal.nD Cert.BranchesIdeal.τ).loc Cert.BranchesIdeal.main_v5_4)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v5_0) = v0 c
          ∧ r.2.mem ((c.tc : Thread Cert.BranchesIdeal.nD Cert.BranchesIdeal.τ).loc Cert.BranchesIdeal.main_v5_1) = v1 c
          ∧ r.2.mem ((c.tc : Thread Cert.BranchesIdeal.nD Cert.BranchesIdeal.τ).loc Cert.BranchesIdeal.main_v5_2) = v2 c
          ∧ r.2.mem ((c.tc : Thread Cert.BranchesIdeal.nD Cert.BranchesIdeal.τ).loc Cert.BranchesIdeal.main_v5_3) = v3 c
          ∧ r.2.mem ((c.tc : Thread Cert.BranchesIdeal.nD Cert.BranchesIdeal.τ).loc Cert.BranchesIdeal.main_v5_4) = v4 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
          ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
          ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5)
          ∧ r.2.mem ((c.tc : Thread Cert.BranchesIdeal.nD Cert.BranchesIdeal.τ).loc Cert.BranchesIdeal.main_arg6) = m ((c.tc : Thread Cert.BranchesIdeal.nD Cert.BranchesIdeal.τ).loc Cert.BranchesIdeal.main_arg6)
          ∧ r.2.mem ((c.tc : Thread Cert.BranchesIdeal.nD Cert.BranchesIdeal.τ).loc Cert.BranchesIdeal.main_arg7) = m ((c.tc : Thread Cert.BranchesIdeal.nD Cert.BranchesIdeal.τ).loc Cert.BranchesIdeal.main_arg7)
          ∧ r.2.mem ((c.tc : Thread Cert.BranchesIdeal.nD Cert.BranchesIdeal.τ).loc Cert.BranchesIdeal.main_arg8) = m ((c.tc : Thread Cert.BranchesIdeal.nD Cert.BranchesIdeal.τ).loc Cert.BranchesIdeal.main_arg8)
          ∧ r.2.mem ((c.tc : Thread Cert.BranchesIdeal.nD Cert.BranchesIdeal.τ).loc Cert.BranchesIdeal.main_arg9) = m ((c.tc : Thread Cert.BranchesIdeal.nD Cert.BranchesIdeal.τ).loc Cert.BranchesIdeal.main_arg9)
          ∧ r.2.mem ((c.tc : Thread Cert.BranchesIdeal.nD Cert.BranchesIdeal.τ).loc Cert.BranchesIdeal.main_arg10) = m ((c.tc : Thread Cert.BranchesIdeal.nD Cert.BranchesIdeal.τ).loc Cert.BranchesIdeal.main_arg10)
          ∧ r.2.mem ((c.tc : Thread Cert.BranchesIdeal.nD Cert.BranchesIdeal.τ).loc Cert.BranchesIdeal.main_arg11) = m ((c.tc : Thread Cert.BranchesIdeal.nD Cert.BranchesIdeal.τ).loc Cert.BranchesIdeal.main_arg11))
      ∧ θ_run (Cert.BranchesRefIdeal.defs (F := Ideal)) (onTc (τ := Cert.BranchesRefIdeal.τ) (Cert.BranchesRefIdeal.main (F := Ideal))) ⟨m', fun _ => 0, g'⟩ (fun r => ∀ c : Dev Cert.BranchesRefIdeal.nD,
          r.2.mem ((c.tc : Thread Cert.BranchesRefIdeal.nD Cert.BranchesRefIdeal.τ).loc Cert.BranchesRefIdeal.main_v68) = v0 c
          ∧ r.2.mem ((c.tc : Thread Cert.BranchesRefIdeal.nD Cert.BranchesRefIdeal.τ).loc Cert.BranchesRefIdeal.main_v69) = v1 c
          ∧ r.2.mem ((c.tc : Thread Cert.BranchesRefIdeal.nD Cert.BranchesRefIdeal.τ).loc Cert.BranchesRefIdeal.main_v70) = v2 c
          ∧ r.2.mem ((c.tc : Thread Cert.BranchesRefIdeal.nD Cert.BranchesRefIdeal.τ).loc Cert.BranchesRefIdeal.main_v71) = v3 c
          ∧ r.2.mem ((c.tc : Thread Cert.BranchesRefIdeal.nD Cert.BranchesRefIdeal.τ).loc Cert.BranchesRefIdeal.main_v72) = v4 c
          ∧ r.2.mem ((c.tc : Thread Cert.BranchesRefIdeal.nD Cert.BranchesRefIdeal.τ).loc Cert.BranchesRefIdeal.main_arg0) = m' ((c.tc : Thread Cert.BranchesRefIdeal.nD Cert.BranchesRefIdeal.τ).loc Cert.BranchesRefIdeal.main_arg0)
          ∧ r.2.mem ((c.tc : Thread Cert.BranchesRefIdeal.nD Cert.BranchesRefIdeal.τ).loc Cert.BranchesRefIdeal.main_arg1) = m' ((c.tc : Thread Cert.BranchesRefIdeal.nD Cert.BranchesRefIdeal.τ).loc Cert.BranchesRefIdeal.main_arg1)
          ∧ r.2.mem ((c.tc : Thread Cert.BranchesRefIdeal.nD Cert.BranchesRefIdeal.τ).loc Cert.BranchesRefIdeal.main_arg2) = m' ((c.tc : Thread Cert.BranchesRefIdeal.nD Cert.BranchesRefIdeal.τ).loc Cert.BranchesRefIdeal.main_arg2)
          ∧ r.2.mem ((c.tc : Thread Cert.BranchesRefIdeal.nD Cert.BranchesRefIdeal.τ).loc Cert.BranchesRefIdeal.main_arg3) = m' ((c.tc : Thread Cert.BranchesRefIdeal.nD Cert.BranchesRefIdeal.τ).loc Cert.BranchesRefIdeal.main_arg3)
          ∧ r.2.mem ((c.tc : Thread Cert.BranchesRefIdeal.nD Cert.BranchesRefIdeal.τ).loc Cert.BranchesRefIdeal.main_arg4) = m' ((c.tc : Thread Cert.BranchesRefIdeal.nD Cert.BranchesRefIdeal.τ).loc Cert.BranchesRefIdeal.main_arg4)
          ∧ r.2.mem ((c.tc : Thread Cert.BranchesRefIdeal.nD Cert.BranchesRefIdeal.τ).loc Cert.BranchesRefIdeal.main_arg5) = m' ((c.tc : Thread Cert.BranchesRefIdeal.nD Cert.BranchesRefIdeal.τ).loc Cert.BranchesRefIdeal.main_arg5)
          ∧ r.2.mem ((c.tc : Thread Cert.BranchesRefIdeal.nD Cert.BranchesRefIdeal.τ).loc Cert.BranchesRefIdeal.main_arg6) = m' ((c.tc : Thread Cert.BranchesRefIdeal.nD Cert.BranchesRefIdeal.τ).loc Cert.BranchesRefIdeal.main_arg6)
          ∧ r.2.mem ((c.tc : Thread Cert.BranchesRefIdeal.nD Cert.BranchesRefIdeal.τ).loc Cert.BranchesRefIdeal.main_arg7) = m' ((c.tc : Thread Cert.BranchesRefIdeal.nD Cert.BranchesRefIdeal.τ).loc Cert.BranchesRefIdeal.main_arg7)
          ∧ r.2.mem ((c.tc : Thread Cert.BranchesRefIdeal.nD Cert.BranchesRefIdeal.τ).loc Cert.BranchesRefIdeal.main_arg8) = m' ((c.tc : Thread Cert.BranchesRefIdeal.nD Cert.BranchesRefIdeal.τ).loc Cert.BranchesRefIdeal.main_arg8)
          ∧ r.2.mem ((c.tc : Thread Cert.BranchesRefIdeal.nD Cert.BranchesRefIdeal.τ).loc Cert.BranchesRefIdeal.main_arg9) = m' ((c.tc : Thread Cert.BranchesRefIdeal.nD Cert.BranchesRefIdeal.τ).loc Cert.BranchesRefIdeal.main_arg9)
          ∧ r.2.mem ((c.tc : Thread Cert.BranchesRefIdeal.nD Cert.BranchesRefIdeal.τ).loc Cert.BranchesRefIdeal.main_arg10) = m' ((c.tc : Thread Cert.BranchesRefIdeal.nD Cert.BranchesRefIdeal.τ).loc Cert.BranchesRefIdeal.main_arg10)
          ∧ r.2.mem ((c.tc : Thread Cert.BranchesRefIdeal.nD Cert.BranchesRefIdeal.τ).loc Cert.BranchesRefIdeal.main_arg11) = m' ((c.tc : Thread Cert.BranchesRefIdeal.nD Cert.BranchesRefIdeal.τ).loc Cert.BranchesRefIdeal.main_arg11))

def Claim : Prop :=
  ∃ (hGlaBwd : Cert.GlaBwd.Facts) (hGlaBwdIdeal : Cert.GlaBwdIdeal.Facts) (hGlaBwdRefIdeal : Cert.GlaBwdRefIdeal.Facts) (hMlpDx : Cert.MlpDx.Facts) (hMlpDxIdeal : Cert.MlpDxIdeal.Facts) (hMlpDxRefIdeal : Cert.MlpDxRefIdeal.Facts) (hMlpLoss : Cert.MlpLoss.Facts) (hMlpLossIdeal : Cert.MlpLossIdeal.Facts) (hMlpLossRefIdeal : Cert.MlpLossRefIdeal.Facts) (hMlpDownDw : Cert.MlpDownDw.Facts) (hMlpDownDwIdeal : Cert.MlpDownDwIdeal.Facts) (hMlpDownDwRefIdeal : Cert.MlpDownDwRefIdeal.Facts) (hMlpUpDw : Cert.MlpUpDw.Facts) (hMlpUpDwIdeal : Cert.MlpUpDwIdeal.Facts) (hMlpUpDwRefIdeal : Cert.MlpUpDwRefIdeal.Facts) (hProjInDx : Cert.ProjInDx.Facts) (hProjInDxIdeal : Cert.ProjInDxIdeal.Facts) (hProjInDxRefIdeal : Cert.ProjInDxRefIdeal.Facts) (hMixDw : Cert.MixDw.Facts) (hMixDwIdeal : Cert.MixDwIdeal.Facts) (hMixDwRefIdeal : Cert.MixDwRefIdeal.Facts) (hProjIn : Cert.ProjIn.Facts) (hProjInIdeal : Cert.ProjInIdeal.Facts) (hProjInRefIdeal : Cert.ProjInRefIdeal.Facts) (hDecayBwd : Cert.DecayBwd.Facts) (hDecayBwdIdeal : Cert.DecayBwdIdeal.Facts) (hDecayBwdRefIdeal : Cert.DecayBwdRefIdeal.Facts) (hProjO : Cert.ProjO.Facts) (hProjOIdeal : Cert.ProjOIdeal.Facts) (hProjORefIdeal : Cert.ProjORefIdeal.Facts) (hFirstNorm : Cert.FirstNorm.Facts) (hFirstNormIdeal : Cert.FirstNormIdeal.Facts) (hFirstNormRefIdeal : Cert.FirstNormRefIdeal.Facts) (hBranches : Cert.Branches.Facts) (hBranchesIdeal : Cert.BranchesIdeal.Facts) (hBranchesRefIdeal : Cert.BranchesRefIdeal.Facts) (hPre_finite_gates : Cert.Pre_finite_gates.Facts) (hPre_smooth_gates : Cert.Pre_smooth_gates.Facts),
    quiescent_GlaBwd (hGlaBwd := hGlaBwd)
    ∧ quiescent_GlaBwdIdeal (hGlaBwdIdeal := hGlaBwdIdeal)
    ∧ quiescent_GlaBwdIdeal_pre_finite_gates (hGlaBwdIdeal := hGlaBwdIdeal) (hPre_finite_gates := hPre_finite_gates)
    ∧ quiescent_GlaBwdRefIdeal (hGlaBwdRefIdeal := hGlaBwdRefIdeal)
    ∧ quiescent_GlaBwdRefIdeal_pre_finite_gates (hGlaBwdRefIdeal := hGlaBwdRefIdeal) (hPre_finite_gates := hPre_finite_gates)
    ∧ quiescent_MlpDx (hMlpDx := hMlpDx)
    ∧ quiescent_MlpDxIdeal (hMlpDxIdeal := hMlpDxIdeal)
    ∧ quiescent_MlpDxRefIdeal (hMlpDxRefIdeal := hMlpDxRefIdeal)
    ∧ quiescent_MlpLoss (hMlpLoss := hMlpLoss)
    ∧ quiescent_MlpLossIdeal (hMlpLossIdeal := hMlpLossIdeal)
    ∧ quiescent_MlpLossRefIdeal (hMlpLossRefIdeal := hMlpLossRefIdeal)
    ∧ quiescent_MlpDownDw (hMlpDownDw := hMlpDownDw)
    ∧ quiescent_MlpDownDwIdeal (hMlpDownDwIdeal := hMlpDownDwIdeal)
    ∧ quiescent_MlpDownDwRefIdeal (hMlpDownDwRefIdeal := hMlpDownDwRefIdeal)
    ∧ quiescent_MlpUpDw (hMlpUpDw := hMlpUpDw)
    ∧ quiescent_MlpUpDwIdeal (hMlpUpDwIdeal := hMlpUpDwIdeal)
    ∧ quiescent_MlpUpDwRefIdeal (hMlpUpDwRefIdeal := hMlpUpDwRefIdeal)
    ∧ quiescent_ProjInDx (hProjInDx := hProjInDx)
    ∧ quiescent_ProjInDxIdeal (hProjInDxIdeal := hProjInDxIdeal)
    ∧ quiescent_ProjInDxRefIdeal (hProjInDxRefIdeal := hProjInDxRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_DecayBwd (hDecayBwd := hDecayBwd)
    ∧ quiescent_DecayBwdIdeal (hDecayBwdIdeal := hDecayBwdIdeal)
    ∧ quiescent_DecayBwdIdeal_pre_smooth_gates (hDecayBwdIdeal := hDecayBwdIdeal) (hPre_smooth_gates := hPre_smooth_gates)
    ∧ quiescent_DecayBwdRefIdeal (hDecayBwdRefIdeal := hDecayBwdRefIdeal)
    ∧ quiescent_DecayBwdRefIdeal_pre_smooth_gates (hDecayBwdRefIdeal := hDecayBwdRefIdeal) (hPre_smooth_gates := hPre_smooth_gates)
    ∧ quiescent_ProjO (hProjO := hProjO)
    ∧ quiescent_ProjOIdeal (hProjOIdeal := hProjOIdeal)
    ∧ quiescent_ProjORefIdeal (hProjORefIdeal := hProjORefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_Branches (hBranches := hBranches)
    ∧ quiescent_BranchesIdeal (hBranchesIdeal := hBranchesIdeal)
    ∧ quiescent_BranchesRefIdeal (hBranchesRefIdeal := hBranchesRefIdeal)
    ∧ preserves_GlaBwd_GlaBwdIdeal
    ∧ algebraic_GlaBwdIdeal_GlaBwdRefIdeal_pre_finite_gates (hGlaBwdIdeal := hGlaBwdIdeal) (hGlaBwdRefIdeal := hGlaBwdRefIdeal) (hPre_finite_gates := hPre_finite_gates)
    ∧ preserves_MlpDx_MlpDxIdeal
    ∧ algebraic_MlpDxIdeal_MlpDxRefIdeal (hMlpDxIdeal := hMlpDxIdeal) (hMlpDxRefIdeal := hMlpDxRefIdeal)
    ∧ preserves_MlpLoss_MlpLossIdeal
    ∧ algebraic_MlpLossIdeal_MlpLossRefIdeal (hMlpLossIdeal := hMlpLossIdeal) (hMlpLossRefIdeal := hMlpLossRefIdeal)
    ∧ preserves_MlpDownDw_MlpDownDwIdeal
    ∧ algebraic_MlpDownDwIdeal_MlpDownDwRefIdeal (hMlpDownDwIdeal := hMlpDownDwIdeal) (hMlpDownDwRefIdeal := hMlpDownDwRefIdeal)
    ∧ preserves_MlpUpDw_MlpUpDwIdeal
    ∧ algebraic_MlpUpDwIdeal_MlpUpDwRefIdeal (hMlpUpDwIdeal := hMlpUpDwIdeal) (hMlpUpDwRefIdeal := hMlpUpDwRefIdeal)
    ∧ preserves_ProjInDx_ProjInDxIdeal
    ∧ algebraic_ProjInDxIdeal_ProjInDxRefIdeal (hProjInDxIdeal := hProjInDxIdeal) (hProjInDxRefIdeal := hProjInDxRefIdeal)
    ∧ preserves_MixDw_MixDwIdeal
    ∧ algebraic_MixDwIdeal_MixDwRefIdeal (hMixDwIdeal := hMixDwIdeal) (hMixDwRefIdeal := hMixDwRefIdeal)
    ∧ preserves_ProjIn_ProjInIdeal
    ∧ algebraic_ProjInIdeal_ProjInRefIdeal (hProjInIdeal := hProjInIdeal) (hProjInRefIdeal := hProjInRefIdeal)
    ∧ preserves_DecayBwd_DecayBwdIdeal
    ∧ algebraic_DecayBwdIdeal_DecayBwdRefIdeal_pre_smooth_gates (hDecayBwdIdeal := hDecayBwdIdeal) (hDecayBwdRefIdeal := hDecayBwdRefIdeal) (hPre_smooth_gates := hPre_smooth_gates)
    ∧ preserves_ProjO_ProjOIdeal
    ∧ algebraic_ProjOIdeal_ProjORefIdeal (hProjOIdeal := hProjOIdeal) (hProjORefIdeal := hProjORefIdeal)
    ∧ preserves_FirstNorm_FirstNormIdeal
    ∧ algebraic_FirstNormIdeal_FirstNormRefIdeal (hFirstNormIdeal := hFirstNormIdeal) (hFirstNormRefIdeal := hFirstNormRefIdeal)
    ∧ preserves_Branches_BranchesIdeal
    ∧ algebraic_BranchesIdeal_BranchesRefIdeal (hBranchesIdeal := hBranchesIdeal) (hBranchesRefIdeal := hBranchesRefIdeal)
-- ==== Pre_finite_gates.lean ====
abbrev S2048x256 : Shape := ⟨2, ![2048, 256]⟩
abbrev S2048x512 : Shape := ⟨2, ![2048, 512]⟩
abbrev S1x4x32x64x128 : Shape := ⟨5, ![1, 4, 32, 64, 128]⟩
abbrev S4x32x1x64 : Shape := ⟨4, ![4, 32, 1, 64]⟩
abbrev S4x32x128x128 : Shape := ⟨4, ![4, 32, 128, 128]⟩
abbrev S4x32x1x128 : Shape := ⟨4, ![4, 32, 1, 128]⟩
abbrev S_ : Shape := ⟨0, ![]⟩

class Facts : Prop where
  bcast_S_S2048x256 : S_.BroadcastsInDim S2048x256 (![] : Fin 0 → Fin S2048x256.rank)

variable [Facts]

def fn {F : FTy → Type} [FloatOps F] (main_arg0 : FVec F S2048x256 .f32) (main_arg1 : FVec F S2048x256 .f32) (main_arg2 : FVec F S2048x512 .f32) (main_arg3 : FVec F S2048x256 .f32) (main_arg4 : FVec F S1x4x32x64x128 .f32) (main_arg5 : FVec F S2048x512 .f32) (main_arg6 : FVec F S2048x512 .f32) (main_arg7 : FVec F S2048x512 .f32) (main_arg8 : FVec F S2048x512 .f32) (main_arg9 : FVec F S4x32x1x64 .f32) (main_arg10 : FVec F S4x32x1x64 .f32) (main_arg11 : FVec F S4x32x128x128 .f32) (main_arg12 : FVec F S4x32x1x128 .f32) (main_arg13 : FVec F S4x32x1x128 .f32) (main_arg14 : FVec F S2048x512 .f32) : IVec S2048x256 1 :=
  let main_v0 : FVec F S2048x256 .f32 := subf main_arg3 main_arg3
  let main_cst : FVec F S_ .f32 := constant S_ .f32 0x00000000#32
  let main_v1 : FVec F S2048x256 .f32 := broadcastInDim S2048x256 ![] bcast_S_S2048x256 main_cst
  let main_v2 : IVec S2048x256 1 := cmpf .oeq main_v0 main_v1
  main_v2
-- ==== Pre_smooth_gates.lean ====
abbrev S2048x16 : Shape := ⟨2, ![2048, 16]⟩
abbrev S16x256 : Shape := ⟨2, ![16, 256]⟩
abbrev S256 : Shape := ⟨1, ![256]⟩
abbrev S2048x256 : Shape := ⟨2, ![2048, 256]⟩
abbrev S_ : Shape := ⟨0, ![]⟩
abbrev S1x256 : Shape := ⟨2, ![1, 256]⟩

class Facts : Prop where
  bcast_S_S2048x256 : S_.BroadcastsInDim S2048x256 (![] : Fin 0 → Fin S2048x256.rank)
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  dot_S2048x16_S16x256_S2048x256_1_0_0_1_n_n_wf : DotDims.WF S2048x16 S16x256 S2048x256 [1] [0] [0] [1] [] []

variable [Facts]

def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def fn {F : FTy → Type} [FloatOps F] (main_arg0 : FVec F S2048x16 .f32) (main_arg1 : FVec F S16x256 .f32) (main_arg2 : FVec F S256 .f32) (main_arg3 : FVec F S2048x256 .f32) : IVec S2048x256 1 :=
  let main_v0 : FVec F S2048x256 .f32 := subf main_arg3 main_arg3
  let main_cst : FVec F S_ .f32 := constant S_ .f32 0x00000000#32
  let main_v1 : FVec F S2048x256 .f32 := broadcastInDim S2048x256 ![] bcast_S_S2048x256 main_cst
  let main_v2 : IVec S2048x256 1 := cmpf .oeq main_v0 main_v1
  let main_v3 : FVec F S2048x256 .f32 := (fun l r => Host.dotGeneral dot_S2048x16_S16x256_S2048x256_1_0_0_1_n_n none l r) main_arg0 main_arg1
  let main_v4 : FVec F S1x256 .f32 := broadcastInDim S1x256 ![1] bcast_S256_S1x256_1 main_arg2
  let main_v5 : FVec F S2048x256 .f32 := broadcastInDim S2048x256 ![0, 1] bcast_S1x256_S2048x256_0_1 main_v4
  let main_v6 : FVec F S2048x256 .f32 := addf main_v3 main_v5
  let main_cst_0 : FVec F S_ .f32 := constant S_ .f32 0x00000000#32
  let main_v7 : FVec F S2048x256 .f32 := broadcastInDim S2048x256 ![] bcast_S_S2048x256 main_cst_0
  let main_v8 : IVec S2048x256 1 := cmpf .une main_v6 main_v7
  let main_v9 : IVec S2048x256 1 := andi main_v2 main_v8
  main_v9
-- ==== GlaBwd.lean ====
abbrev S2048x256 : Shape := ⟨2, ![2048, 256]⟩
abbrev S2048x512 : Shape := ⟨2, ![2048, 512]⟩
abbrev S1x4x32x64x128 : Shape := ⟨5, ![1, 4, 32, 64, 128]⟩
abbrev S4x32x1x64 : Shape := ⟨4, ![4, 32, 1, 64]⟩
abbrev S4x32x128x128 : Shape := ⟨4, ![4, 32, 128, 128]⟩
abbrev S4x32x1x128 : Shape := ⟨4, ![4, 32, 1, 128]⟩
abbrev S2048x4x64 : Shape := ⟨3, ![2048, 4, 64]⟩
abbrev S4x2048x64 : Shape := ⟨3, ![4, 2048, 64]⟩
abbrev S4x32x64x128 : Shape := ⟨4, ![4, 32, 64, 128]⟩
abbrev S4x32x128x64 : Shape := ⟨4, ![4, 32, 128, 64]⟩
abbrev S4x512x64 : Shape := ⟨3, ![4, 512, 64]⟩
abbrev S512x512 : Shape := ⟨2, ![512, 512]⟩
abbrev S4x8x128x64 : Shape := ⟨4, ![4, 8, 128, 64]⟩
abbrev S4x8x1x64 : Shape := ⟨4, ![4, 8, 1, 64]⟩
abbrev S4x8x128x128 : Shape := ⟨4, ![4, 8, 128, 128]⟩
abbrev S4x8x1x128 : Shape := ⟨4, ![4, 8, 1, 128]⟩
abbrev S4x128x64 : Shape := ⟨3, ![4, 128, 64]⟩
abbrev S4x128x128 : Shape := ⟨3, ![4, 128, 128]⟩
abbrev S4x1x128 : Shape := ⟨3, ![4, 1, 128]⟩
abbrev S4x1x1 : Shape := ⟨3, ![4, 1, 1]⟩
abbrev S4x64x64 : Shape := ⟨3, ![4, 64, 64]⟩
abbrev S64x128 : Shape := ⟨2, ![64, 128]⟩
abbrev S1x64x128 : Shape := ⟨3, ![1, 64, 128]⟩
abbrev S4x64x128 : Shape := ⟨3, ![4, 64, 128]⟩
abbrev S4x1x128x64 : Shape := ⟨4, ![4, 1, 128, 64]⟩
abbrev S64x64 : Shape := ⟨2, ![64, 64]⟩
abbrev S1x64x64 : Shape := ⟨3, ![1, 64, 64]⟩
abbrev S4x64 : Shape := ⟨2, ![4, 64]⟩
abbrev S4x1x64 : Shape := ⟨3, ![4, 1, 64]⟩
abbrev S4x1x1x64 : Shape := ⟨4, ![4, 1, 1, 64]⟩
abbrev S4x1x128x128 : Shape := ⟨4, ![4, 1, 128, 128]⟩
abbrev S4x1x1x128 : Shape := ⟨4, ![4, 1, 1, 128]⟩
abbrev S4x64x1 : Shape := ⟨3, ![4, 64, 1]⟩
abbrev S4x1 : Shape := ⟨2, ![4, 1]⟩
abbrev S4x128 : Shape := ⟨2, ![4, 128]⟩
abbrev S4 : Shape := ⟨1, ![4]⟩

abbrev nBuf : Space → Nat
  | .hbm => 33
  | .vmem => 52
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S2048x256, .f32⟩
  | .hbm, ⟨4, _⟩ => ⟨S1x4x32x64x128, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S4x32x1x64, .f32⟩
  | .hbm, ⟨10, _⟩ => ⟨S4x32x1x64, .f32⟩
  | .hbm, ⟨11, _⟩ => ⟨S4x32x128x128, .f32⟩
  | .hbm, ⟨12, _⟩ => ⟨S4x32x1x128, .f32⟩
  | .hbm, ⟨13, _⟩ => ⟨S4x32x1x128, .f32⟩
  | .hbm, ⟨14, _⟩ => ⟨S2048x512, .f32⟩
  | .hbm, ⟨15, _⟩ => ⟨S2048x4x64, .f32⟩
  | .hbm, ⟨16, _⟩ => ⟨S4x2048x64, .f32⟩
  | .hbm, ⟨17, _⟩ => ⟨S2048x4x64, .f32⟩
  | .hbm, ⟨18, _⟩ => ⟨S4x2048x64, .f32⟩
  | .hbm, ⟨19, _⟩ => ⟨S2048x512, .bf16⟩
  | .hbm, ⟨20, _⟩ => ⟨S2048x4x64, .f32⟩
  | .hbm, ⟨21, _⟩ => ⟨S4x2048x64, .f32⟩
  | .hbm, ⟨22, _⟩ => ⟨S4x32x64x128, .f32⟩
  | .hbm, ⟨23, _⟩ => ⟨S4x32x128x64, .f32⟩
  | .hbm, ⟨24, _⟩ => ⟨S4x2048x64, .bf16⟩
  | .hbm, ⟨25, _⟩ => ⟨S4x2048x64, .bf16⟩
  | .hbm, ⟨26, _⟩ => ⟨S2048x512, .bf16⟩
  | .hbm, ⟨27, _⟩ => ⟨S4x2048x64, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S4x32x1x64, .f32⟩
  | .hbm, ⟨32, _⟩ => ⟨S4x32x1x64, .f32⟩
  | .local _ .vmem, ⟨0, _⟩ => ⟨S4x512x64, .f32⟩
  | .local _ .vmem, ⟨1, _⟩ => ⟨S4x512x64, .f32⟩
  | .local _ .vmem, ⟨2, _⟩ => ⟨S4x512x64, .f32⟩
  | .local _ .vmem, ⟨3, _⟩ => ⟨S4x512x64, .f32⟩
  | .local _ .vmem, ⟨4, _⟩ => ⟨S512x512, .bf16⟩
  | .local _ .vmem, ⟨5, _⟩ => ⟨S512x512, .bf16⟩
  | .local _ .vmem, ⟨6, _⟩ => ⟨S4x512x64, .f32⟩
  | .local _ .vmem, ⟨7, _⟩ => ⟨S4x512x64, .f32⟩
  | .local _ .vmem, ⟨8, _⟩ => ⟨S4x8x128x64, .f32⟩
  | .local _ .vmem, ⟨9, _⟩ => ⟨S4x8x128x64, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S4x8x1x64, .f32⟩
  | .local _ .vmem, ⟨19, _⟩ => ⟨S4x8x1x64, .f32⟩
  | .local _ .vmem, ⟨20, _⟩ => ⟨S4x8x1x64, .f32⟩
  | .local _ .vmem, ⟨21, _⟩ => ⟨S4x8x1x64, .f32⟩
  | .local _ .vmem, ⟨22, _⟩ => ⟨S4x8x128x128, .f32⟩
  | .local _ .vmem, ⟨23, _⟩ => ⟨S4x8x128x128, .f32⟩
  | .local _ .vmem, ⟨24, _⟩ => ⟨S4x8x1x128, .f32⟩
  | .local _ .vmem, ⟨25, _⟩ => ⟨S4x8x1x128, .f32⟩
  | .local _ .vmem, ⟨26, _⟩ => ⟨S4x8x1x128, .f32⟩
  | .local _ .vmem, ⟨27, _⟩ => ⟨S4x8x1x128, .f32⟩
  | .local _ .vmem, ⟨28, _⟩ => ⟨S512x512, .f32⟩
  | .local _ .vmem, ⟨29, _⟩ => ⟨S512x512, .f32⟩
  | .local _ .vmem, ⟨30, _⟩ => ⟨S4x512x64, .bf16⟩
  | .local _ .vmem, ⟨31, _⟩ => ⟨S4x512x64, .bf16⟩
  | .local _ .vmem, ⟨32, _⟩ => ⟨S4x512x64, .bf16⟩
  | .local _ .vmem, ⟨33, _⟩ => ⟨S4x512x64, .bf16⟩
  | .local _ .vmem, ⟨34, _⟩ => ⟨S512x512, .bf16⟩
  | .local _ .vmem, ⟨35, _⟩ => ⟨S512x512, .bf16⟩
  | .local _ .vmem, ⟨36, _⟩ => ⟨S4x512x64, .f32⟩
  | .local _ .vmem, ⟨37, _⟩ => ⟨S4x512x64, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S4x8x1x64, .f32⟩
  | .local _ .vmem, ⟨45, _⟩ => ⟨S4x8x1x64, .f32⟩
  | .local _ .vmem, ⟨46, _⟩ => ⟨S4x8x1x64, .f32⟩
  | .local _ .vmem, ⟨47, _⟩ => ⟨S4x8x1x64, .f32⟩
  | .local _ .vmem, ⟨48, _⟩ => ⟨S4x128x64, .f32⟩
  | .local _ .vmem, ⟨49, _⟩ => ⟨S4x128x128, .f32⟩
  | .local _ .vmem, ⟨50, _⟩ => ⟨S4x1x128, .f32⟩
  | .local _ .vmem, ⟨51, _⟩ => ⟨S4x1x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v9_7 : Ref sig .tc := ⟨.hbm, 31, rfl⟩
abbrev main_v9_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_scratch0 : Ref sig .tc := ⟨.vmem, 48, rfl⟩
abbrev cc0_scratch1 : Ref sig .tc := ⟨.vmem, 49, rfl⟩
abbrev cc0_scratch2 : Ref sig .tc := ⟨.vmem, 50, rfl⟩
abbrev cc0_scratch3 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_10 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_11 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_12 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_13 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_14 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_17 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_18 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_19 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_22 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_23 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x8x1x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x8x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4x8x1x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S4x8x1x64 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== GlaBwdRefIdeal.lean ====
abbrev S2048x256 : Shape := ⟨2, ![2048, 256]⟩
abbrev S2048x512 : Shape := ⟨2, ![2048, 512]⟩
abbrev S1x4x32x64x128 : Shape := ⟨5, ![1, 4, 32, 64, 128]⟩
abbrev S4x32x1x64 : Shape := ⟨4, ![4, 32, 1, 64]⟩
abbrev S4x32x128x128 : Shape := ⟨4, ![4, 32, 128, 128]⟩
abbrev S4x32x1x128 : Shape := ⟨4, ![4, 32, 1, 128]⟩
abbrev S1x2048x256 : Shape := ⟨3, ![1, 2048, 256]⟩
abbrev S1x2048x512 : Shape := ⟨3, ![1, 2048, 512]⟩
abbrev S1x32x64x4x64 : Shape := ⟨5, ![1, 32, 64, 4, 64]⟩
abbrev S1x4x32x64x64 : Shape := ⟨5, ![1, 4, 32, 64, 64]⟩
abbrev S_ : Shape := ⟨0, ![]⟩
abbrev S1x32x64x4x128 : Shape := ⟨5, ![1, 32, 64, 4, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x4x32x128x64 : Shape := ⟨5, ![1, 4, 32, 128, 64]⟩
abbrev S1x4x32x1x64 : Shape := ⟨5, ![1, 4, 32, 1, 64]⟩
abbrev S1x4x32x64 : Shape := ⟨4, ![1, 4, 32, 64]⟩
abbrev S1x4x64x128 : Shape := ⟨4, ![1, 4, 64, 128]⟩
abbrev S1x4x32x64x1 : Shape := ⟨5, ![1, 4, 32, 64, 1]⟩
abbrev S32x1x4x64x1 : Shape := ⟨5, ![32, 1, 4, 64, 1]⟩
abbrev S32x1x4x64x128 : Shape := ⟨5, ![32, 1, 4, 64, 128]⟩
abbrev S1x1x4x64x128 : Shape := ⟨5, ![1, 1, 4, 64, 128]⟩
abbrev S1x1x4x64x1 : Shape := ⟨5, ![1, 1, 4, 64, 1]⟩
abbrev S1x4x64x1 : Shape := ⟨4, ![1, 4, 64, 1]⟩
abbrev S2048x4x64 : Shape := ⟨3, ![2048, 4, 64]⟩
abbrev S4x2048x64 : Shape := ⟨3, ![4, 2048, 64]⟩

abbrev nBuf : Space → Nat
  | .hbm => 227
  | .vmem => 0
  | .smem => 0
  | _ => 0

abbrev hbmTy0_0 (i : Nat) : BufTy := match i % 128 with
  | 0 => ⟨S2048x256, .f32⟩
  | 1 => ⟨S2048x256, .f32⟩
  | 2 => ⟨S2048x512, .f32⟩
  | 3 => ⟨S2048x256, .f32⟩
  | 4 => ⟨S1x4x32x64x128, .f32⟩
  | 5 => ⟨S2048x512, .f32⟩
  | 6 => ⟨S2048x512, .f32⟩
  | 7 => ⟨S2048x512, .f32⟩
  | 8 => ⟨S2048x512, .f32⟩
  | 9 => ⟨S4x32x1x64, .f32⟩
  | 10 => ⟨S4x32x1x64, .f32⟩
  | 11 => ⟨S4x32x128x128, .f32⟩
  | 12 => ⟨S4x32x1x128, .f32⟩
  | 13 => ⟨S4x32x1x128, .f32⟩
  | 14 => ⟨S2048x512, .f32⟩
  | 15 => ⟨S1x2048x256, .f32⟩
  | 16 => ⟨S1x2048x256, .f32⟩
  | 17 => ⟨S1x2048x512, .f32⟩
  | 18 => ⟨S1x2048x256, .f32⟩
  | 19 => ⟨S1x32x64x4x64, .f32⟩
  | 20 => ⟨S1x4x32x64x64, .f32⟩
  | 21 => ⟨S_, .f32⟩
  | 22 => ⟨S1x4x32x64x64, .f32⟩
  | 23 => ⟨S1x4x32x64x64, .f32⟩
  | 24 => ⟨S1x32x64x4x64, .f32⟩
  | 25 => ⟨S1x4x32x64x64, .f32⟩
  | 26 => ⟨S1x32x64x4x128, .f32⟩
  | 27 => ⟨S1x4x32x64x128, .f32⟩
  | 28 => ⟨S1x32x64x4x64, .f32⟩
  | 29 => ⟨S1x4x32x64x64, .f32⟩
  | 30 => ⟨S_, .f32⟩
  | 31 => ⟨S_, .f32⟩
  | 32 => ⟨S1x4x32x64x64, .f32⟩
  | 33 => ⟨S1x4x32x64x64, .f32⟩
  | 34 => ⟨S1x4x32x64x64, .f32⟩
  | 35 => ⟨S1x4x32x64x64, .f32⟩
  | 36 => ⟨S1x4x32x64x64, .f32⟩
  | 37 => ⟨S1x4x32x64x64, .f32⟩
  | 38 => ⟨S1x4x32x64x64, .f32⟩
  | 39 => ⟨S1x4x32x64x64, .f32⟩
  | 40 => ⟨S1x4x32x64x64, .f32⟩
  | 41 => ⟨S1x4x32x64x64, .f32⟩
  | 42 => ⟨S64, .i32⟩
  | 43 => ⟨S64x1, .i32⟩
  | 44 => ⟨S1x64, .i32⟩
  | 45 => ⟨S64x64, .i32⟩
  | 46 => ⟨S64x64, .i32⟩
  | 47 => ⟨S64x64, .i1⟩
  | 48 => ⟨S1x4x32x64x64, .i1⟩
  | 49 => ⟨S1x4x32x64x64, .f32⟩
  | 50 => ⟨S1x4x32x64x128, .f32⟩
  | 51 => ⟨S1x4x32x64x64, .f32⟩
  | 52 => ⟨S1x4x32x64x128, .f32⟩
  | 53 => ⟨S1x4x32x64x128, .f32⟩
  | 54 => ⟨S1x32x64x4x128, .f32⟩
  | 55 => ⟨S1x2048x512, .f32⟩
  | 56 => ⟨S1x2048x512, .f32⟩
  | 57 => ⟨S1x32x64x4x128, .f32⟩
  | 58 => ⟨S1x4x32x64x128, .f32⟩
  | 59 => ⟨S1x4x32x128x64, .f32⟩
  | 60 => ⟨S1x4x32x64x128, .f32⟩
  | 61 => ⟨S1x2048x256, .f32⟩
  | 62 => ⟨S1x32x64x4x64, .f32⟩
  | 63 => ⟨S1x4x32x64x64, .f32⟩
  | 64 => ⟨S_, .f32⟩
  | 65 => ⟨S_, .f32⟩
  | 66 => ⟨S1x4x32x64x64, .f32⟩
  | 67 => ⟨S1x4x32x1x64, .f32⟩
  | 68 => ⟨S1x4x32x64, .f32⟩
  | 69 => ⟨S1x4x32x64, .f32⟩
  | 70 => ⟨S_, .f32⟩
  | 71 => ⟨S1x4x64x128, .f32⟩
  | 72 => ⟨S1x4x32x64x1, .f32⟩
  | 73 => ⟨S32x1x4x64x1, .f32⟩
  | 74 => ⟨S32x1x4x64x128, .f32⟩
  | 75 => ⟨S_, .f32⟩
  | 76 => ⟨S1x4x64x128, .f32⟩
  | 77 => ⟨S_, .f32⟩
  | 78 => ⟨S32x1x4x64x128, .f32⟩
  | 79 => ⟨S_, .i32⟩
  | 80 => ⟨S32x1x4x64x128, .f32⟩
  | 81 => ⟨S32x1x4x64x1, .f32⟩
  | 82 => ⟨S_, .i32⟩
  | 83 => ⟨S1x4x64x128, .f32⟩
  | 84 => ⟨S32x1x4x64x128, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S1x1x4x64x128, .f32⟩
  | 96 => ⟨S1x4x64x128, .f32⟩
  | 97 => ⟨S_, .i32⟩
  | 98 => ⟨S_, .i32⟩
  | 99 => ⟨S_, .i32⟩
  | 100 => ⟨S_, .i32⟩
  | 101 => ⟨S1x1x4x64x1, .f32⟩
  | 102 => ⟨S1x4x64x1, .f32⟩
  | 103 => ⟨S1x4x64x128, .f32⟩
  | 104 => ⟨S1x4x64x128, .f32⟩
  | 105 => ⟨S1x4x64x128, .f32⟩
  | 106 => ⟨S1x1x4x64x128, .f32⟩
  | 107 => ⟨S_, .i32⟩
  | 108 => ⟨S_, .i32⟩
  | 109 => ⟨S_, .i32⟩
  | 110 => ⟨S_, .i32⟩
  | 111 => ⟨S32x1x4x64x128, .f32⟩
  | 112 => ⟨S_, .i32⟩
  | 113 => ⟨S_, .i32⟩
  | 114 => ⟨S1x4x32x64x128, .f32⟩
  | 115 => ⟨S1x2048x256, .f32⟩
  | 116 => ⟨S1x2048x256, .f32⟩
  | 117 => ⟨S1x2048x512, .f32⟩
  | 118 => ⟨S1x2048x256, .f32⟩
  | 119 => ⟨S1x32x64x4x64, .f32⟩
  | 120 => ⟨S1x4x32x64x64, .f32⟩
  | 121 => ⟨S_, .f32⟩
  | 122 => ⟨S1x4x32x64x64, .f32⟩
  | 123 => ⟨S1x4x32x64x64, .f32⟩
  | 124 => ⟨S1x32x64x4x64, .f32⟩
  | 125 => ⟨S1x4x32x64x64, .f32⟩
  | 126 => ⟨S1x32x64x4x128, .f32⟩
  | 127 => ⟨S1x4x32x64x128, .f32⟩
  | _ => ⟨S2048x256, .f32⟩

abbrev hbmTy0_1 (i : Nat) : BufTy := match i % 128 with
  | 0 => ⟨S1x32x64x4x64, .f32⟩
  | 1 => ⟨S1x4x32x64x64, .f32⟩
  | 2 => ⟨S_, .f32⟩
  | 3 => ⟨S_, .f32⟩
  | 4 => ⟨S1x4x32x64x64, .f32⟩
  | 5 => ⟨S1x4x32x64x64, .f32⟩
  | 6 => ⟨S1x4x32x64x64, .f32⟩
  | 7 => ⟨S1x4x32x64x64, .f32⟩
  | 8 => ⟨S1x4x32x64x64, .f32⟩
  | 9 => ⟨S1x4x32x64x64, .f32⟩
  | 10 => ⟨S1x4x32x64x64, .f32⟩
  | 11 => ⟨S1x4x32x64x64, .f32⟩
  | 12 => ⟨S1x4x32x64x64, .f32⟩
  | 13 => ⟨S1x4x32x64x64, .f32⟩
  | 14 => ⟨S64, .i32⟩
  | 15 => ⟨S64x1, .i32⟩
  | 16 => ⟨S1x64, .i32⟩
  | 17 => ⟨S64x64, .i32⟩
  | 18 => ⟨S64x64, .i32⟩
  | 19 => ⟨S64x64, .i1⟩
  | 20 => ⟨S1x4x32x64x64, .i1⟩
  | 21 => ⟨S1x4x32x64x64, .f32⟩
  | 22 => ⟨S1x4x32x64x128, .f32⟩
  | 23 => ⟨S1x4x32x64x64, .f32⟩
  | 24 => ⟨S1x4x32x64x128, .f32⟩
  | 25 => ⟨S1x4x32x64x128, .f32⟩
  | 26 => ⟨S1x32x64x4x128, .f32⟩
  | 27 => ⟨S1x2048x512, .f32⟩
  | 28 => ⟨S1x2048x512, .f32⟩
  | 29 => ⟨S1x32x64x4x128, .f32⟩
  | 30 => ⟨S1x4x32x64x128, .f32⟩
  | 31 => ⟨S1x4x32x64x64, .f32⟩
  | 32 => ⟨S1x4x32x64x64, .f32⟩
  | 33 => ⟨S1x4x32x128x64, .f32⟩
  | 34 => ⟨S1x4x32x64x128, .f32⟩
  | 35 => ⟨S1x4x32x64x64, .f32⟩
  | 36 => ⟨S_, .f32⟩
  | 37 => ⟨S1x4x32x64x64, .f32⟩
  | 38 => ⟨S1x4x32x64x64, .f32⟩
  | 39 => ⟨S1x4x32x64x64, .f32⟩
  | 40 => ⟨S1x4x32x64x64, .f32⟩
  | 41 => ⟨S1x4x32x64x64, .f32⟩
  | 42 => ⟨S1x4x32x64x64, .f32⟩
  | 43 => ⟨S1x4x32x64x64, .f32⟩
  | 44 => ⟨S1x4x32x64x64, .f32⟩
  | 45 => ⟨S1x4x32x64x64, .f32⟩
  | 46 => ⟨S1x4x32x64x64, .f32⟩
  | 47 => ⟨S1x4x32x64x64, .f32⟩
  | 48 => ⟨S1x4x32x64x64, .f32⟩
  | 49 => ⟨S1x4x32x64x64, .f32⟩
  | 50 => ⟨S1x4x32x64x64, .f32⟩
  | 51 => ⟨S1x32x64x4x128, .f32⟩
  | 52 => ⟨S1x2048x512, .f32⟩
  | 53 => ⟨S1x32x64x4x64, .f32⟩
  | 54 => ⟨S1x2048x256, .f32⟩
  | 55 => ⟨S_, .f32⟩
  | 56 => ⟨S1x4x32x64x64, .f32⟩
  | 57 => ⟨S1x4x32x64x64, .f32⟩
  | 58 => ⟨S1x32x64x4x64, .f32⟩
  | 59 => ⟨S1x2048x256, .f32⟩
  | 60 => ⟨S1x2048x256, .f32⟩
  | 61 => ⟨S1x2048x512, .f32⟩
  | 62 => ⟨S1x2048x256, .f32⟩
  | 63 => ⟨S1x32x64x4x64, .f32⟩
  | 64 => ⟨S1x4x32x64x64, .f32⟩
  | 65 => ⟨S1x32x64x4x128, .f32⟩
  | 66 => ⟨S1x4x32x64x128, .f32⟩
  | 67 => ⟨S1x32x64x4x64, .f32⟩
  | 68 => ⟨S1x4x32x64x64, .f32⟩
  | 69 => ⟨S_, .f32⟩
  | 70 => ⟨S_, .f32⟩
  | 71 => ⟨S1x4x32x64x64, .f32⟩
  | 72 => ⟨S1x4x32x1x64, .f32⟩
  | 73 => ⟨S1x4x32x64x64, .f32⟩
  | 74 => ⟨S1x4x32x64x64, .f32⟩
  | 75 => ⟨S1x4x32x64x64, .f32⟩
  | 76 => ⟨S1x4x32x64x64, .f32⟩
  | 77 => ⟨S1x4x32x64x128, .f32⟩
  | 78 => ⟨S1x4x32x128x64, .f32⟩
  | 79 => ⟨S1x4x32x64x128, .f32⟩
  | 80 => ⟨S1x4x32x64x64, .f32⟩
  | 81 => ⟨S1x4x32x64x64, .f32⟩
  | 82 => ⟨S1x4x32x64x64, .f32⟩
  | 83 => ⟨S1x32x64x4x128, .f32⟩
  | 84 => ⟨S1x2048x512, .f32⟩
  | 85 => ⟨S1x32x64x4x64, .f32⟩
  | 86 => ⟨S1x2048x256, .f32⟩
  | 87 => ⟨S2048x256, .f32⟩
  | 88 => ⟨S2048x256, .bf16⟩
  | 89 => ⟨S2048x4x64, .bf16⟩
  | 90 => ⟨S4x2048x64, .bf16⟩
  | 91 => ⟨S1x2048x256, .f32⟩
  | 92 => ⟨S2048x256, .f32⟩
  | 93 => ⟨S2048x256, .bf16⟩
  | 94 => ⟨S2048x4x64, .bf16⟩
  | 95 => ⟨S4x2048x64, .bf16⟩
  | 96 => ⟨S1x2048x512, .f32⟩
  | 97 => ⟨S2048x512, .f32⟩
  | 98 => ⟨S2048x512, .bf16⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_call0_cst : Ref sig .tc := ⟨.hbm, 30, rfl⟩
abbrev main_call0_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call2_call0_cst : Ref sig .tc := ⟨.hbm, 64, rfl⟩
abbrev main_call2_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_1 : Ref sig .tc := ⟨.hbm, 75, rfl⟩
abbrev main_v53 : Ref sig .tc := ⟨.hbm, 76, rfl⟩
abbrev main_cst_2 : Ref sig .tc := ⟨.hbm, 77, rfl⟩
abbrev main_v54 : Ref sig .tc := ⟨.hbm, 78, rfl⟩
abbrev main_c : Ref sig .tc := ⟨.hbm, 79, rfl⟩
abbrev main_v55_0 : Ref sig .tc := ⟨.hbm, 80, rfl⟩
abbrev main_v55_1 : Ref sig .tc := ⟨.hbm, 81, rfl⟩
abbrev main_v55_2 : Ref sig .tc := ⟨.hbm, 82, rfl⟩
abbrev main_v55_3 : Ref sig .tc := ⟨.hbm, 83, rfl⟩
abbrev main_v55_4 : Ref sig .tc := ⟨.hbm, 84, rfl⟩
abbrev main_while0c_c_9 : Ref sig .tc := ⟨.hbm, 85, rfl⟩
abbrev main_while0c_v159 : Ref sig .tc := ⟨.hbm, 86, rfl⟩
abbrev main_while0b_c_9 : Ref sig .tc := ⟨.hbm, 87, rfl⟩
abbrev main_while0b_v159 : Ref sig .tc := ⟨.hbm, 88, rfl⟩
abbrev main_while0b_c_10 : Ref sig .tc := ⟨.hbm, 89, rfl⟩
abbrev main_while0b_v160 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_c_2 : Ref sig .tc := ⟨.hbm, 94, rfl⟩
abbrev main_while0b_call3_v0 : Ref sig .tc := ⟨.hbm, 95, rfl⟩
abbrev main_while0b_v161 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_call4_c_1 : Ref sig .tc := ⟨.hbm, 99, rfl⟩
abbrev main_while0b_call4_c_2 : Ref sig .tc := ⟨.hbm, 100, rfl⟩
abbrev main_while0b_call4_v0 : Ref sig .tc := ⟨.hbm, 101, rfl⟩
abbrev main_while0b_v162 : Ref sig .tc := ⟨.hbm, 102, rfl⟩
abbrev main_while0b_v163 : Ref sig .tc := ⟨.hbm, 103, rfl⟩
abbrev main_while0b_v164 : Ref sig .tc := ⟨.hbm, 104, rfl⟩
abbrev main_while0b_v165 : Ref sig .tc := ⟨.hbm, 105, rfl⟩
abbrev main_while0b_call5_v0 : Ref sig .tc := ⟨.hbm, 106, rfl⟩
abbrev main_while0b_call5_c : Ref sig .tc := ⟨.hbm, 107, rfl⟩
abbrev main_while0b_call5_c_0 : Ref sig .tc := ⟨.hbm, 108, rfl⟩
abbrev main_while0b_call5_c_1 : Ref sig .tc := ⟨.hbm, 109, rfl⟩
abbrev main_while0b_call5_c_2 : Ref sig .tc := ⟨.hbm, 110, rfl⟩
abbrev main_while0b_v166 : Ref sig .tc := ⟨.hbm, 111, rfl⟩
abbrev main_while0b_c_11 : Ref sig .tc := ⟨.hbm, 112, rfl⟩
abbrev main_while0b_v167 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_3 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_call6_call0_cst : Ref sig .tc := ⟨.hbm, 130, rfl⟩
abbrev main_call6_call0_v0 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87_1 : Ref sig .tc := ⟨.hbm, 148, rfl⟩
abbrev main_v87_0 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_call8_cst : Ref sig .tc := ⟨.hbm, 164, rfl⟩
abbrev main_call8_v0 : Ref sig .tc := ⟨.hbm, 165, rfl⟩
abbrev main_v102_1 : Ref sig .tc := ⟨.hbm, 166, rfl⟩
abbrev main_v102_0 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_4 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_call9_call0_cst : Ref sig .tc := ⟨.hbm, 197, rfl⟩
abbrev main_call9_call0_v0 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩

abbrev nD : Nat := 1
abbrev τ : Topo := Topo.v7x

variable {F : FTy → Type} [FloatOps F]

abbrev main_while0_count : Scf.Loop 32 := ⟨0#32, 32#32, 1#32⟩
-- ==== MlpDx.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x8x512 : Shape := ⟨3, ![1024, 8, 512]⟩
abbrev S8x1024x512 : Shape := ⟨3, ![8, 1024, 512]⟩
abbrev S256x1024 : Shape := ⟨2, ![256, 1024]⟩
abbrev S256x4096 : Shape := ⟨2, ![256, 4096]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩

abbrev nBuf : Space → Nat
  | .hbm => 55
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x4096, .f32⟩
  | .hbm, ⟨42, _⟩ => ⟨S2048x1024, .bf16⟩
  | .hbm, ⟨43, _⟩ => ⟨S2048x4096, .bf16⟩
  | .hbm, ⟨44, _⟩ => ⟨S4096x1024, .bf16⟩
  | .hbm, ⟨45, _⟩ => ⟨S1024x4096, .bf16⟩
  | .hbm, ⟨46, _⟩ => ⟨S1024x8x512, .bf16⟩
  | .hbm, ⟨47, _⟩ => ⟨S8x1024x512, .bf16⟩
  | .hbm, ⟨48, _⟩ => ⟨S1x1024, .f32⟩
  | .hbm, ⟨49, _⟩ => ⟨S1x1024, .f32⟩
  | .hbm, ⟨50, _⟩ => ⟨S2048x4096, .bf16⟩
  | .hbm, ⟨51, _⟩ => ⟨S2048x1024, .f32⟩
  | .hbm, ⟨52, _⟩ => ⟨S2048x1024, .bf16⟩
  | .hbm, ⟨53, _⟩ => ⟨S1x1024, .f32⟩
  | .hbm, ⟨54, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .bf16⟩
  | .local _ .vmem, ⟨3, _⟩ => ⟨S256x4096, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4096x1024, .bf16⟩
  | .local _ .vmem, ⟨11, _⟩ => ⟨S8x1024x512, .bf16⟩
  | .local _ .vmem, ⟨12, _⟩ => ⟨S1x1024, .f32⟩
  | .local _ .vmem, ⟨13, _⟩ => ⟨S1x1024, .f32⟩
  | .local _ .vmem, ⟨14, _⟩ => ⟨S256x4096, .bf16⟩
  | .local _ .vmem, ⟨15, _⟩ => ⟨S256x4096, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev main_v36_3 : Ref sig .tc := ⟨.hbm, 53, rfl⟩
abbrev main_v36_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v139 : BitVec 1 := Scalar.cmpi .eq arg0 c0_i32
  let v140 : BitVec 32 := Scalar.extui v139
  let c0_i32_51 : BitVec 32 := 0#32
  let v141 : BitVec 1 := Scalar.cmpi .ne v140 c0_i32_51
  v141

def k0_cond2 (i : grid0.Coords) : BitVec 1 :=
  let arg0 : BitVec 32 := BitVec.ofNat 32 (i 0).val
  let c0_i32_52 : BitVec 32 := 0#32
  let v142 : BitVec 1 := Scalar.cmpi .sgt arg0 c0_i32_52
  let v143 : BitVec 32 := Scalar.extui v142
  let c0_i32_53 : BitVec 32 := 0#32
  let v144 : BitVec 1 := Scalar.cmpi .ne v143 c0_i32_53
  v144

def k0_cond3 (i : grid0.Coords) : BitVec 1 :=
  let arg0 : BitVec 32 := BitVec.ofNat 32 (i 0).val
  let c0_i32_54 : BitVec 32 := 0#32
  let v145 : BitVec 1 := Scalar.cmpi .eq arg0 c0_i32_54
  let v146 : BitVec 32 := Scalar.extui v145
  let c0_i32_55 : BitVec 32 := 0#32
  let v147 : BitVec 1 := Scalar.cmpi .ne v146 c0_i32_55
  v147

def k0_cond4 (i : grid0.Coords) : BitVec 1 :=
  let arg0 : BitVec 32 := BitVec.ofNat 32 (i 0).val
  let c0_i32_56 : BitVec 32 := 0#32
  let v148 : BitVec 1 := Scalar.cmpi .sgt arg0 c0_i32_56
  let v149 : BitVec 32 := Scalar.extui v148
  let c0_i32_57 : BitVec 32 := 0#32
  let v150 : BitVec 1 := Scalar.cmpi .ne v149 c0_i32_57
  v150

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpDxRefIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 124
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x4096, .f32⟩
  | .hbm, ⟨50, _⟩ => ⟨S_, .f32⟩
  | .hbm, ⟨51, _⟩ => ⟨S2048x4096, .f32⟩
  | .hbm, ⟨52, _⟩ => ⟨S2048x4096, .f32⟩
  | .hbm, ⟨53, _⟩ => ⟨S_, .f32⟩
  | .hbm, ⟨54, _⟩ => ⟨S2048x4096, .f32⟩
  | .hbm, ⟨55, _⟩ => ⟨S2048x4096, .i1⟩
  | .hbm, ⟨56, _⟩ => ⟨S_, .f32⟩
  | .hbm, ⟨57, _⟩ => ⟨S2048x4096, .f32⟩
  | .hbm, ⟨58, _⟩ => ⟨S2048x4096, .f32⟩
  | .hbm, ⟨59, _⟩ => ⟨S_, .f32⟩
  | .hbm, ⟨60, _⟩ => ⟨S2048x4096, .f32⟩
  | .hbm, ⟨61, _⟩ => ⟨S2048x4096, .f32⟩
  | .hbm, ⟨62, _⟩ => ⟨S2048x1024, .f32⟩
  | .hbm, ⟨63, _⟩ => ⟨S2048x4096, .f32⟩
  | .hbm, ⟨64, _⟩ => ⟨S2048x4096, .f32⟩
  | .hbm, ⟨65, _⟩ => ⟨S_, .f32⟩
  | .hbm, ⟨66, _⟩ => ⟨S2048x4096, .f32⟩
  | .hbm, ⟨67, _⟩ => ⟨S2048x4096, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S2048x1024, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S2048x1024, .f32⟩
  | .hbm, ⟨101, _⟩ => ⟨S2048x1024, .f32⟩
  | .hbm, ⟨102, _⟩ => ⟨S_, .f32⟩
  | .hbm, ⟨103, _⟩ => ⟨S1024, .f32⟩
  | .hbm, ⟨104, _⟩ => ⟨S2048x1024, .f32⟩
  | .hbm, ⟨105, _⟩ => ⟨S_, .f32⟩
  | .hbm, ⟨106, _⟩ => ⟨S2048, .f32⟩
  | .hbm, ⟨107, _⟩ => ⟨S2048x1, .f32⟩
  | .hbm, ⟨108, _⟩ => ⟨S2048x1024, .f32⟩
  | .hbm, ⟨109, _⟩ => ⟨S2048x1024, .f32⟩
  | .hbm, ⟨110, _⟩ => ⟨S2048x1, .f32⟩
  | .hbm, ⟨111, _⟩ => ⟨S_, .f32⟩
  | .hbm, ⟨112, _⟩ => ⟨S2048x1, .f32⟩
  | .hbm, ⟨113, _⟩ => ⟨S2048x1, .f32⟩
  | .hbm, ⟨114, _⟩ => ⟨S_, .f32⟩
  | .hbm, ⟨115, _⟩ => ⟨S2048, .f32⟩
  | .hbm, ⟨116, _⟩ => ⟨S2048x1024, .f32⟩
  | .hbm, ⟨117, _⟩ => ⟨S2048x1024, .f32⟩
  | .hbm, ⟨118, _⟩ => ⟨S2048x1024, .f32⟩
  | .hbm, ⟨119, _⟩ => ⟨S2048x1024, .f32⟩
  | .hbm, ⟨120, _⟩ => ⟨S2048x1024, .f32⟩
  | .hbm, ⟨121, _⟩ => ⟨S2048x1024, .bf16⟩
  | .hbm, ⟨122, _⟩ => ⟨S1x1024, .f32⟩
  | .hbm, ⟨123, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_v74 : Ref sig .tc := ⟨.hbm, 103, rfl⟩
abbrev main_v75 : Ref sig .tc := ⟨.hbm, 104, rfl⟩
abbrev main_cst_18 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]
-- ==== MlpLoss.lean ====
abbrev S2048x1024 : Shape := ⟨2, ![2048, 1024]⟩
abbrev S1024x4096 : Shape := ⟨2, ![1024, 4096]⟩
abbrev S4096x1024 : Shape := ⟨2, ![4096, 1024]⟩
abbrev S1024 : Shape := ⟨1, ![1024]⟩
abbrev S1024x8x512 : Shape := ⟨3, ![1024, 8, 512]⟩
abbrev S8x1024x512 : Shape := ⟨3, ![8, 1024, 512]⟩
abbrev S1x1024 : Shape := ⟨2, ![1, 1024]⟩
abbrev S2048x4096 : Shape := ⟨2, ![2048, 4096]⟩
abbrev S1x128 : Shape := ⟨2, ![1, 128]⟩
abbrev S256x1024 : Shape := ⟨2, ![256, 1024]⟩
abbrev S256x4096 : Shape := ⟨2, ![256, 4096]⟩
abbrev S1x1024x512 : Shape := ⟨3, ![1, 1024, 512]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 18
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S2048x1024, .bf16⟩
  | .hbm, ⟨7, _⟩ => ⟨S1024x4096, .bf16⟩
  | .hbm, ⟨8, _⟩ => ⟨S1024x8x512, .bf16⟩
  | .hbm, ⟨9, _⟩ => ⟨S8x1024x512, .bf16⟩
  | .hbm, ⟨10, _⟩ => ⟨S4096x1024, .bf16⟩
  | .hbm, ⟨11, _⟩ => ⟨S1x1024, .f32⟩
  | .hbm, ⟨12, _⟩ => ⟨S2048x4096, .bf16⟩
  | .hbm, ⟨13, _⟩ => ⟨S2048x4096, .bf16⟩
  | .hbm, ⟨14, _⟩ => ⟨S2048x1024, .f32⟩
  | .hbm, ⟨15, _⟩ => ⟨S2048x1024, .bf16⟩
  | .hbm, ⟨16, _⟩ => ⟨S1x128, .f32⟩
  | .hbm, ⟨17, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024x512, .bf16⟩
  | .local _ .vmem, ⟨7, _⟩ => ⟨S4096x1024, .bf16⟩
  | .local _ .vmem, ⟨8, _⟩ => ⟨S1x1024, .f32⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x128, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v113 : BitVec 1 := Scalar.cmpi .eq arg0 c0_i32
  let v114 : BitVec 32 := Scalar.extui v113
  let c0_i32_46 : BitVec 32 := 0#32
  let v115 : BitVec 1 := Scalar.cmpi .ne v114 c0_i32_46
  v115

def k0_cond2 (i : grid0.Coords) : BitVec 1 :=
  let arg0 : BitVec 32 := BitVec.ofNat 32 (i 0).val
  let c0_i32_47 : BitVec 32 := 0#32
  let v116 : BitVec 1 := Scalar.cmpi .sgt arg0 c0_i32_47
  let v117 : BitVec 32 := Scalar.extui v116
  let c0_i32_48 : BitVec 32 := 0#32
  let v118 : BitVec 1 := Scalar.cmpi .ne v117 c0_i32_48
  v118

def k0_cond3 (i : grid0.Coords) : BitVec 1 :=
  let arg0 : BitVec 32 := BitVec.ofNat 32 (i 0).val
  let c0_i32_49 : BitVec 32 := 0#32
  let v119 : BitVec 1 := Scalar.cmpi .eq arg0 c0_i32_49
  let v120 : BitVec 32 := Scalar.extui v119
  let c0_i32_50 : BitVec 32 := 0#32
  let v121 : BitVec 1 := Scalar.cmpi .ne v120 c0_i32_50
  v121

def k0_cond4 (i : grid0.Coords) : BitVec 1 :=
  let arg0 : BitVec 32 := BitVec.ofNat 32 (i 0).val
  let c0_i32_51 : BitVec 32 := 0#32
  let v122 : BitVec 1 := Scalar.cmpi .sgt arg0 c0_i32_51
  let v123 : BitVec 32 := Scalar.extui v122
  let c0_i32_52 : BitVec 32 := 0#32
  let v124 : BitVec 1 := Scalar.cmpi .ne v123 c0_i32_52
  v124

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpLossRefIdeal.lean ====
abbrev S2048x1024 : Shape := ⟨2, ![2048, 1024]⟩
abbrev S1024x4096 : Shape := ⟨2, ![1024, 4096]⟩
abbrev S4096x1024 : Shape := ⟨2, ![4096, 1024]⟩
abbrev S1024 : Shape := ⟨1, ![1024]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x4096, .bf16⟩
  | .hbm, ⟨82, _⟩ => ⟨S2048x4096, .bf16⟩
  | .hbm, ⟨83, _⟩ => ⟨S2048x1024, .bf16⟩
  | .hbm, ⟨84, _⟩ => ⟨S1x128, .f32⟩
  | .hbm, ⟨85, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== MlpDownDw.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩
abbrev S4096x1024 : Shape := ⟨2, ![4096, 1024]⟩
abbrev S2048x512 : Shape := ⟨2, ![2048, 512]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | .hbm, ⟨9, _⟩ => ⟨S2048x1024, .bf16⟩
  | .hbm, ⟨10, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownDwRefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S4096x1024, .f32⟩
  | .hbm, ⟨10, _⟩ => ⟨S2048x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== MlpUpDw.lean ====
abbrev S2048x1024 : Shape := ⟨2, ![2048, 1024]⟩
abbrev S2048x4096 : Shape := ⟨2, ![2048, 4096]⟩
abbrev S8x1024x512 : Shape := ⟨3, ![8, 1024, 512]⟩
abbrev S1x1024x512 : Shape := ⟨3, ![1, 1024, 512]⟩
abbrev S1024x2048 : Shape := ⟨2, ![1024, 2048]⟩
abbrev S1 : Shape := ⟨1, ![1]⟩
abbrev S_ : Shape := ⟨0, ![]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S8x1024x512, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S1024x2048, .bf16⟩
  | .local _ .vmem, ⟨4, _⟩ => ⟨S2048x4096, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_2 : BitVec 32 := 0#32
  let v3 : BitVec 1 := Scalar.cmpi .eq arg0 c0_i32_2
  let v4 : BitVec 32 := Scalar.extui v3
  let c0_i32_4 : BitVec 32 := 0#32
  let v5 : BitVec 1 := Scalar.cmpi .ne v4 c0_i32_4
  v5

def k0_cond3 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_5 : BitVec 32 := 0#32
  let v8 : BitVec 1 := Scalar.cmpi .ne v7 c0_i32_5
  v8

def k0_cond4 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_6 : BitVec 32 := 0#32
  let v11 : BitVec 1 := Scalar.cmpi .ne v10 c0_i32_6
  v11

def k0_cond5 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_7 : BitVec 32 := 0#32
  let v14 : BitVec 1 := Scalar.cmpi .ne v13 c0_i32_7
  v14

def k0_cond6 (i : grid0.Coords) : BitVec 1 :=
  let arg0 : BitVec 32 := BitVec.ofNat 32 (i 0).val
  let c4_i32 : BitVec 32 := 4#32
  let v15 : BitVec 1 := Scalar.cmpi .eq arg0 c4_i32
  let v16 : BitVec 32 := Scalar.extui v15
  let c0_i32_8 : BitVec 32 := 0#32
  let v17 : BitVec 1 := Scalar.cmpi .ne v16 c0_i32_8
  v17

def k0_cond7 (i : grid0.Coords) : BitVec 1 :=
  let arg0 : BitVec 32 := BitVec.ofNat 32 (i 0).val
  let c5_i32 : BitVec 32 := 5#32
  let v18 : BitVec 1 := Scalar.cmpi .eq arg0 c5_i32
  let v19 : BitVec 32 := Scalar.extui v18
  let c0_i32_9 : BitVec 32 := 0#32
  let v20 : BitVec 1 := Scalar.cmpi .ne v19 c0_i32_9
  v20

def k0_cond8 (i : grid0.Coords) : BitVec 1 :=
  let arg0 : BitVec 32 := BitVec.ofNat 32 (i 0).val
  let c6_i32 : BitVec 32 := 6#32
  let v21 : BitVec 1 := Scalar.cmpi .eq arg0 c6_i32
  let v22 : BitVec 32 := Scalar.extui v21
  let c0_i32_10 : BitVec 32 := 0#32
  let v23 : BitVec 1 := Scalar.cmpi .ne v22 c0_i32_10
  v23

def k0_cond9 (i : grid0.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MlpUpDwRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x512 : Shape := ⟨2, ![1024, 512]⟩
abbrev S1x1024x512 : Shape := ⟨3, ![1, 1024, 512]⟩
abbrev S8x1024x512 : Shape := ⟨3, ![8, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1x1024x512, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S8x1024x512, .f32⟩
  | .hbm, ⟨24, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== ProjInDx.lean ====
abbrev S2048x1024 : Shape := ⟨2, ![2048, 1024]⟩
abbrev S1024 : Shape := ⟨1, ![1024]⟩
abbrev S1024x4624 : Shape := ⟨2, ![1024, 4624]⟩
abbrev S2048x4624 : Shape := ⟨2, ![2048, 4624]⟩
abbrev S2048x16 : Shape := ⟨2, ![2048, 16]⟩
abbrev S_ : Shape := ⟨0, ![]⟩
abbrev S2048x128 : Shape := ⟨2, ![2048, 128]⟩
abbrev S2048x1536 : Shape := ⟨2, ![2048, 1536]⟩
abbrev S2048x3072 : Shape := ⟨2, ![2048, 3072]⟩
abbrev S1024x8x578 : Shape := ⟨3, ![1024, 8, 578]⟩
abbrev S8x1024x578 : Shape := ⟨3, ![8, 1024, 578]⟩
abbrev S1x1024 : Shape := ⟨2, ![1, 1024]⟩
abbrev S256x1536 : Shape := ⟨2, ![256, 1536]⟩
abbrev S256x128 : Shape := ⟨2, ![256, 128]⟩
abbrev S256x3072 : Shape := ⟨2, ![256, 3072]⟩
abbrev S256x1024 : Shape := ⟨2, ![256, 1024]⟩
abbrev S256x578 : Shape := ⟨2, ![256, 578]⟩
abbrev S1x1024x578 : Shape := ⟨3, ![1, 1024, 578]⟩
abbrev S1024x578 : Shape := ⟨2, ![1024, 578]⟩
abbrev S256x380 : Shape := ⟨2, ![256, 380]⟩
abbrev S1024x380 : Shape := ⟨2, ![1024, 380]⟩
abbrev S1024x128 : Shape := ⟨2, ![1024, 128]⟩
abbrev S256x182 : Shape := ⟨2, ![256, 182]⟩
abbrev S1024x182 : Shape := ⟨2, ![1024, 182]⟩
abbrev S256 : Shape := ⟨1, ![256]⟩
abbrev S256x1 : Shape := ⟨2, ![256, 1]⟩

abbrev nBuf : Space → Nat
  | .hbm => 20
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4624, .f32⟩
  | .hbm, ⟨3, _⟩ => ⟨S2048x4624, .f32⟩
  | .hbm, ⟨4, _⟩ => ⟨S2048x1024, .f32⟩
  | .hbm, ⟨5, _⟩ => ⟨S2048x16, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x1536, .f32⟩
  | .hbm, ⟨10, _⟩ => ⟨S2048x1536, .bf16⟩
  | .hbm, ⟨11, _⟩ => ⟨S2048x128, .bf16⟩
  | .hbm, ⟨12, _⟩ => ⟨S2048x3072, .f32⟩
  | .hbm, ⟨13, _⟩ => ⟨S2048x3072, .bf16⟩
  | .hbm, ⟨14, _⟩ => ⟨S1024x4624, .bf16⟩
  | .hbm, ⟨15, _⟩ => ⟨S1024x8x578, .bf16⟩
  | .hbm, ⟨16, _⟩ => ⟨S8x1024x578, .bf16⟩
  | .hbm, ⟨17, _⟩ => ⟨S1x1024, .f32⟩
  | .hbm, ⟨18, _⟩ => ⟨S2048x1024, .f32⟩
  | .hbm, ⟨19, _⟩ => ⟨S1x1024, .f32⟩
  | .local _ .vmem, ⟨0, _⟩ => ⟨S256x1536, .bf16⟩
  | .local _ .vmem, ⟨1, _⟩ => ⟨S256x1536, .bf16⟩
  | .local _ .vmem, ⟨2, _⟩ => ⟨S256x128, .bf16⟩
  | .local _ .vmem, ⟨3, _⟩ => ⟨S256x128, .bf16⟩
  | .local _ .vmem, ⟨4, _⟩ => ⟨S256x3072, .bf16⟩
  | .local _ .vmem, ⟨5, _⟩ => ⟨S256x3072, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024x578, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v100 : BitVec 1 := Scalar.cmpi .eq arg0 c0_i32
  let v101 : BitVec 32 := Scalar.extui v100
  let c0_i32_34 : BitVec 32 := 0#32
  let v102 : BitVec 1 := Scalar.cmpi .ne v101 c0_i32_34
  v102

def k0_cond2 (i : grid0.Coords) : BitVec 1 :=
  let arg0 : BitVec 32 := BitVec.ofNat 32 (i 0).val
  let c0_i32_35 : BitVec 32 := 0#32
  let v103 : BitVec 1 := Scalar.cmpi .sgt arg0 c0_i32_35
  let v104 : BitVec 32 := Scalar.extui v103
  let c0_i32_36 : BitVec 32 := 0#32
  let v105 : BitVec 1 := Scalar.cmpi .ne v104 c0_i32_36
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x578 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ProjInDxRefIdeal.lean ====
abbrev S2048x1024 : Shape := ⟨2, ![2048, 1024]⟩
abbrev S1024 : Shape := ⟨1, ![1024]⟩
abbrev S1024x4624 : Shape := ⟨2, ![1024, 4624]⟩
abbrev S2048x4624 : Shape := ⟨2, ![2048, 4624]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4624, .f32⟩
  | .hbm, ⟨3, _⟩ => ⟨S2048x4624, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4624, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MixDw.lean ====
abbrev S2048x1024 : Shape := ⟨2, ![2048, 1024]⟩
abbrev S2048x512 : Shape := ⟨2, ![2048, 512]⟩
abbrev S1024x1024 : Shape := ⟨2, ![1024, 1024]⟩
abbrev S512x1024 : Shape := ⟨2, ![512, 1024]⟩

abbrev nBuf : Space → Nat
  | .hbm => 15
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x512, .bf16⟩
  | .hbm, ⟨9, _⟩ => ⟨S2048x1024, .bf16⟩
  | .hbm, ⟨10, _⟩ => ⟨S2048x512, .bf16⟩
  | .hbm, ⟨11, _⟩ => ⟨S2048x1024, .bf16⟩
  | .hbm, ⟨12, _⟩ => ⟨S1024x1024, .bf16⟩
  | .hbm, ⟨13, _⟩ => ⟨S512x1024, .bf16⟩
  | .hbm, ⟨14, _⟩ => ⟨S512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x1024, .bf16⟩
  | .local _ .vmem, ⟨4, _⟩ => ⟨S2048x512, .bf16⟩
  | .local _ .vmem, ⟨5, _⟩ => ⟨S2048x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== MixDwRefIdeal.lean ====
abbrev S2048x1024 : Shape := ⟨2, ![2048, 1024]⟩
abbrev S2048x512 : Shape := ⟨2, ![2048, 512]⟩
abbrev S_ : Shape := ⟨0, ![]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S1024x1024, .f32⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S_, .f32⟩
  | .hbm, ⟨13, _⟩ => ⟨S512x1024, .f32⟩
  | .hbm, ⟨14, _⟩ => ⟨S2048x1024, .f32⟩
  | .hbm, ⟨15, _⟩ => ⟨S1024x512, .f32⟩
  | .hbm, ⟨16, _⟩ => ⟨S512x1024, .f32⟩
  | .hbm, ⟨17, _⟩ => ⟨S512x1024, .bf16⟩
  | .hbm, ⟨18, _⟩ => ⟨S_, .f32⟩
  | .hbm, ⟨19, _⟩ => ⟨S512x1024, .f32⟩
  | .hbm, ⟨20, _⟩ => ⟨S2048x1024, .f32⟩
  | .hbm, ⟨21, _⟩ => ⟨S1024x512, .f32⟩
  | .hbm, ⟨22, _⟩ => ⟨S512x1024, .f32⟩
  | .hbm, ⟨23, _⟩ => ⟨S512x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== ProjIn.lean ====
abbrev S2048x1024 : Shape := ⟨2, ![2048, 1024]⟩
abbrev S1024x4624 : Shape := ⟨2, ![1024, 4624]⟩
abbrev S16x256 : Shape := ⟨2, ![16, 256]⟩
abbrev S256 : Shape := ⟨1, ![256]⟩
abbrev S1024x8x578 : Shape := ⟨3, ![1024, 8, 578]⟩
abbrev S8x1024x578 : Shape := ⟨3, ![8, 1024, 578]⟩
abbrev S1x256 : Shape := ⟨2, ![1, 256]⟩
abbrev S_ : Shape := ⟨0, ![]⟩
abbrev S128x256 : Shape := ⟨2, ![128, 256]⟩
abbrev S4x2048x64 : Shape := ⟨3, ![4, 2048, 64]⟩
abbrev S2048x512 : Shape := ⟨2, ![2048, 512]⟩
abbrev S2048x128 : Shape := ⟨2, ![2048, 128]⟩
abbrev S256x1024 : Shape := ⟨2, ![256, 1024]⟩
abbrev S4x256x64 : Shape := ⟨3, ![4, 256, 64]⟩
abbrev S256x512 : Shape := ⟨2, ![256, 512]⟩
abbrev S256x128 : Shape := ⟨2, ![256, 128]⟩
abbrev S1x1024x578 : Shape := ⟨3, ![1, 1024, 578]⟩
abbrev S1024x578 : Shape := ⟨2, ![1024, 578]⟩
abbrev S256x578 : Shape := ⟨2, ![256, 578]⟩
abbrev S256x4624 : Shape := ⟨2, ![256, 4624]⟩
abbrev S256x256 : Shape := ⟨2, ![256, 256]⟩
abbrev S256x16 : Shape := ⟨2, ![256, 16]⟩
abbrev S256x112 : Shape := ⟨2, ![256, 112]⟩
abbrev S256x64 : Shape := ⟨2, ![256, 64]⟩
abbrev S1x256x64 : Shape := ⟨3, ![1, 256, 64]⟩

abbrev nBuf : Space → Nat
  | .hbm => 22
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S1024x4624, .f32⟩
  | .hbm, ⟨2, _⟩ => ⟨S16x256, .f32⟩
  | .hbm, ⟨3, _⟩ => ⟨S256, .f32⟩
  | .hbm, ⟨4, _⟩ => ⟨S2048x1024, .bf16⟩
  | .hbm, ⟨5, _⟩ => ⟨S1024x4624, .bf16⟩
  | .hbm, ⟨6, _⟩ => ⟨S1024x8x578, .bf16⟩
  | .hbm, ⟨7, _⟩ => ⟨S8x1024x578, .bf16⟩
  | .hbm, ⟨8, _⟩ => ⟨S1x256, .f32⟩
  | .hbm, ⟨9, _⟩ => ⟨S_, .i32⟩
  | .hbm, ⟨10, _⟩ => ⟨S_, .f32⟩
  | .hbm, ⟨11, _⟩ => ⟨S128x256, .f32⟩
  | .hbm, ⟨12, _⟩ => ⟨S4x2048x64, .f32⟩
  | .hbm, ⟨13, _⟩ => ⟨S4x2048x64, .f32⟩
  | .hbm, ⟨14, _⟩ => ⟨S2048x512, .bf16⟩
  | .hbm, ⟨15, _⟩ => ⟨S2048x512, .f32⟩
  | .hbm, ⟨16, _⟩ => ⟨S2048x128, .f32⟩
  | .hbm, ⟨17, _⟩ => ⟨S2048x512, .f32⟩
  | .hbm, ⟨18, _⟩ => ⟨S2048x512, .f32⟩
  | .hbm, ⟨19, _⟩ => ⟨S2048x1024, .f32⟩
  | .hbm, ⟨20, _⟩ => ⟨S2048x1024, .f32⟩
  | .hbm, ⟨21, _⟩ => ⟨S4x2048x64, .f32⟩
  | .local _ .vmem, ⟨0, _⟩ => ⟨S256x1024, .bf16⟩
  | .local _ .vmem, ⟨1, _⟩ => ⟨S256x1024, .bf16⟩
  | .local _ .vmem, ⟨2, _⟩ => ⟨S8x1024x578, .bf16⟩
  | .local _ .vmem, ⟨3, _⟩ => ⟨S128x256, .f32⟩
  | .local _ .vmem, ⟨4, _⟩ => ⟨S1x256, .f32⟩
  | .local _ .vmem, ⟨5, _⟩ => ⟨S4x256x64, .f32⟩
  | .local _ .vmem, ⟨6, _⟩ => ⟨S4x256x64, .f32⟩
  | .local _ .vmem, ⟨7, _⟩ => ⟨S4x256x64, .f32⟩
  | .local _ .vmem, ⟨8, _⟩ => ⟨S4x256x64, .f32⟩
  | .local _ .vmem, ⟨9, _⟩ => ⟨S256x512, .bf16⟩
  | .local _ .vmem, ⟨10, _⟩ => ⟨S256x512, .bf16⟩
  | .local _ .vmem, ⟨11, _⟩ => ⟨S256x512, .f32⟩
  | .local _ .vmem, ⟨12, _⟩ => ⟨S256x512, .f32⟩
  | .local _ .vmem, ⟨13, _⟩ => ⟨S256x128, .f32⟩
  | .local _ .vmem, ⟨14, _⟩ => ⟨S256x128, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S4x256x64, .f32⟩
  | .local _ .vmem, ⟨24, _⟩ => ⟨S4x256x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev main_v6_7 : Ref sig .tc := ⟨.hbm, 19, rfl⟩
abbrev main_v6_8 : Ref sig .tc := ⟨.hbm, 20, rfl⟩
abbrev main_v6_9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x578 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjInRefIdeal.lean ====
abbrev S2048x1024 : Shape := ⟨2, ![2048, 1024]⟩
abbrev S1024x4624 : Shape := ⟨2, ![1024, 4624]⟩
abbrev S16x256 : Shape := ⟨2, ![16, 256]⟩
abbrev S256 : Shape := ⟨1, ![256]⟩
abbrev S2048x4624 : Shape := ⟨2, ![2048, 4624]⟩
abbrev S2048x256 : Shape := ⟨2, ![2048, 256]⟩
abbrev S2048x512 : Shape := ⟨2, ![2048, 512]⟩
abbrev S2048x16 : Shape := ⟨2, ![2048, 16]⟩
abbrev S1x256 : Shape := ⟨2, ![1, 256]⟩
abbrev S_ : Shape := ⟨0, ![]⟩
abbrev S2048x4x64 : Shape := ⟨3, ![2048, 4, 64]⟩
abbrev S4x2048x64 : Shape := ⟨3, ![4, 2048, 64]⟩
abbrev S2048x128 : Shape := ⟨2, ![2048, 128]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4624, .f32⟩
  | .hbm, ⟨2, _⟩ => ⟨S16x256, .f32⟩
  | .hbm, ⟨3, _⟩ => ⟨S256, .f32⟩
  | .hbm, ⟨4, _⟩ => ⟨S2048x4624, .f32⟩
  | .hbm, ⟨5, _⟩ => ⟨S2048x256, .f32⟩
  | .hbm, ⟨6, _⟩ => ⟨S2048x256, .f32⟩
  | .hbm, ⟨7, _⟩ => ⟨S2048x512, .f32⟩
  | .hbm, ⟨8, _⟩ => ⟨S2048x512, .f32⟩
  | .hbm, ⟨9, _⟩ => ⟨S2048x16, .f32⟩
  | .hbm, ⟨10, _⟩ => ⟨S2048x512, .f32⟩
  | .hbm, ⟨11, _⟩ => ⟨S2048x512, .f32⟩
  | .hbm, ⟨12, _⟩ => ⟨S2048x1024, .f32⟩
  | .hbm, ⟨13, _⟩ => ⟨S2048x1024, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S2048x256, .i1⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | .hbm, ⟨37, _⟩ => ⟨S2048x4x64, .f32⟩
  | .hbm, ⟨38, _⟩ => ⟨S4x2048x64, .f32⟩
  | .hbm, ⟨39, _⟩ => ⟨S2048x4x64, .f32⟩
  | .hbm, ⟨40, _⟩ => ⟨S4x2048x64, .f32⟩
  | .hbm, ⟨41, _⟩ => ⟨S2048x512, .bf16⟩
  | .hbm, ⟨42, _⟩ => ⟨S_, .i32⟩
  | .hbm, ⟨43, _⟩ => ⟨S_, .f32⟩
  | .hbm, ⟨44, _⟩ => ⟨S2048x128, .f32⟩
  | .hbm, ⟨45, _⟩ => ⟨S2048x4x64, .f32⟩
  | .hbm, ⟨46, _⟩ => ⟨S4x2048x64, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_call1_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== DecayBwd.lean ====
abbrev S2048x16 : Shape := ⟨2, ![2048, 16]⟩
abbrev S16x256 : Shape := ⟨2, ![16, 256]⟩
abbrev S256 : Shape := ⟨1, ![256]⟩
abbrev S2048x256 : Shape := ⟨2, ![2048, 256]⟩
abbrev S_ : Shape := ⟨0, ![]⟩
abbrev S2048x128 : Shape := ⟨2, ![2048, 128]⟩
abbrev S2048x4x64 : Shape := ⟨3, ![2048, 4, 64]⟩
abbrev S4x2048x64 : Shape := ⟨3, ![4, 2048, 64]⟩
abbrev S1x256 : Shape := ⟨2, ![1, 256]⟩
abbrev S128x256 : Shape := ⟨2, ![128, 256]⟩
abbrev S256x128 : Shape := ⟨2, ![256, 128]⟩
abbrev S4x256x64 : Shape := ⟨3, ![4, 256, 64]⟩
abbrev S256x256 : Shape := ⟨2, ![256, 256]⟩
abbrev S1x256x64 : Shape := ⟨3, ![1, 256, 64]⟩
abbrev S256x64 : Shape := ⟨2, ![256, 64]⟩

abbrev nBuf : Space → Nat
  | .hbm => 16
  | .vmem => 10
  | .smem => 0
  | _ => 0

abbrev bufTy : (tb : Table) → Fin (tcTables nBuf tb) → BufTy
  | .hbm, ⟨0, _⟩ => ⟨S2048x16, .f32⟩
  | .hbm, ⟨1, _⟩ => ⟨S16x256, .f32⟩
  | .hbm, ⟨2, _⟩ => ⟨S256, .f32⟩
  | .hbm, ⟨3, _⟩ => ⟨S2048x256, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x4x64, .f32⟩
  | .hbm, ⟨8, _⟩ => ⟨S4x2048x64, .f32⟩
  | .hbm, ⟨9, _⟩ => ⟨S1x256, .f32⟩
  | .hbm, ⟨10, _⟩ => ⟨S_, .i32⟩
  | .hbm, ⟨11, _⟩ => ⟨S_, .f32⟩
  | .hbm, ⟨12, _⟩ => ⟨S128x256, .f32⟩
  | .hbm, ⟨13, _⟩ => ⟨S2048x128, .bf16⟩
  | .hbm, ⟨14, _⟩ => ⟨S128x256, .f32⟩
  | .hbm, ⟨15, _⟩ => ⟨S1x256, .f32⟩
  | .local _ .vmem, ⟨0, _⟩ => ⟨S256x128, .f32⟩
  | .local _ .vmem, ⟨1, _⟩ => ⟨S256x128, .f32⟩
  | .local _ .vmem, ⟨2, _⟩ => ⟨S4x256x64, .f32⟩
  | .local _ .vmem, ⟨3, _⟩ => ⟨S4x256x64, .f32⟩
  | .local _ .vmem, ⟨4, _⟩ => ⟨S128x256, .f32⟩
  | .local _ .vmem, ⟨5, _⟩ => ⟨S1x256, .f32⟩
  | .local _ .vmem, ⟨6, _⟩ => ⟨S256x128, .bf16⟩
  | .local _ .vmem, ⟨7, _⟩ => ⟨S256x128, .bf16⟩
  | .local _ .vmem, ⟨8, _⟩ => ⟨S128x256, .f32⟩
  | .local _ .vmem, ⟨9, _⟩ => ⟨S1x256, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_27 : BitVec 32 := 0#32
  let v69 : BitVec 1 := Scalar.cmpi .ne v68 c0_i32_27
  v69

def k0_cond2 (i : grid0.Coords) : BitVec 1 :=
  let arg0 : BitVec 32 := BitVec.ofNat 32 (i 0).val
  let c0_i32_28 : BitVec 32 := 0#32
  let v70 : BitVec 1 := Scalar.cmpi .sgt arg0 c0_i32_28
  let v71 : BitVec 32 := Scalar.extui v70
  let c0_i32_29 : BitVec 32 := 0#32
  let v72 : BitVec 1 := Scalar.cmpi .ne v71 c0_i32_29
  v72

def k0_cond3 (i : grid0.Coords) : BitVec 1 :=
  let arg0 : BitVec 32 := BitVec.ofNat 32 (i 0).val
  let c0_i32_30 : BitVec 32 := 0#32
  let v73 : BitVec 1 := Scalar.cmpi .eq arg0 c0_i32_30
  let v74 : BitVec 32 := Scalar.extui v73
  let c0_i32_31 : BitVec 32 := 0#32
  let v75 : BitVec 1 := Scalar.cmpi .ne v74 c0_i32_31
  v75

def k0_cond4 (i : grid0.Coords) : BitVec 1 :=
  let arg0 : BitVec 32 := BitVec.ofNat 32 (i 0).val
  let c0_i32_32 : BitVec 32 := 0#32
  let v76 : BitVec 1 := Scalar.cmpi .sgt arg0 c0_i32_32
  let v77 : BitVec 32 := Scalar.extui v76
  let c0_i32_33 : BitVec 32 := 0#32
  let v78 : BitVec 1 := Scalar.cmpi .ne v77 c0_i32_33
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DecayBwdRefIdeal.lean ====
abbrev S2048x16 : Shape := ⟨2, ![2048, 16]⟩
abbrev S16x256 : Shape := ⟨2, ![16, 256]⟩
abbrev S256 : Shape := ⟨1, ![256]⟩
abbrev S2048x256 : Shape := ⟨2, ![2048, 256]⟩
abbrev S1x256 : Shape := ⟨2, ![1, 256]⟩
abbrev S_ : Shape := ⟨0, ![]⟩
abbrev S256x16 : Shape := ⟨2, ![256, 16]⟩
abbrev S2048x128 : Shape := ⟨2, ![2048, 128]⟩
abbrev S128x256 : Shape := ⟨2, ![128, 256]⟩

abbrev nBuf : Space → Nat
  | .hbm => 81
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S16x256, .f32⟩
  | .hbm, ⟨2, _⟩ => ⟨S256, .f32⟩
  | .hbm, ⟨3, _⟩ => ⟨S2048x256, .f32⟩
  | .hbm, ⟨4, _⟩ => ⟨S2048x256, .f32⟩
  | .hbm, ⟨5, _⟩ => ⟨S1x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S_, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x256, .i1⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048x256, .f32⟩
  | .hbm, ⟨25, _⟩ => ⟨S2048x256, .i1⟩
  | .hbm, ⟨26, _⟩ => ⟨S_, .f32⟩
  | .hbm, ⟨27, _⟩ => ⟨S2048x256, .f32⟩
  | .hbm, ⟨28, _⟩ => ⟨S2048x256, .f32⟩
  | .hbm, ⟨29, _⟩ => ⟨S_, .f32⟩
  | .hbm, ⟨30, _⟩ => ⟨S2048x256, .f32⟩
  | .hbm, ⟨31, _⟩ => ⟨S2048x256, .i1⟩
  | .hbm, ⟨32, _⟩ => ⟨S_, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x256, .f32⟩
  | .hbm, ⟨45, _⟩ => ⟨S2048x256, .i1⟩
  | .hbm, ⟨46, _⟩ => ⟨S_, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S_, .f32⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S_, .f32⟩
  | .hbm, ⟨57, _⟩ => ⟨S2048x256, .f32⟩
  | .hbm, ⟨58, _⟩ => ⟨S2048x256, .f32⟩
  | .hbm, ⟨59, _⟩ => ⟨S_, .f32⟩
  | .hbm, ⟨60, _⟩ => ⟨S2048x256, .f32⟩
  | .hbm, ⟨61, _⟩ => ⟨S2048x256, .f32⟩
  | .hbm, ⟨62, _⟩ => ⟨S2048x256, .f32⟩
  | .hbm, ⟨63, _⟩ => ⟨S2048x256, .f32⟩
  | .hbm, ⟨64, _⟩ => ⟨S2048x256, .f32⟩
  | .hbm, ⟨65, _⟩ => ⟨S_, .f32⟩
  | .hbm, ⟨66, _⟩ => ⟨S256, .f32⟩
  | .hbm, ⟨67, _⟩ => ⟨S1x256, .f32⟩
  | .hbm, ⟨68, _⟩ => ⟨S_, .f32⟩
  | .hbm, ⟨69, _⟩ => ⟨S256, .f32⟩
  | .hbm, ⟨70, _⟩ => ⟨S256x16, .f32⟩
  | .hbm, ⟨71, _⟩ => ⟨S16x256, .f32⟩
  | .hbm, ⟨72, _⟩ => ⟨S2048x16, .f32⟩
  | .hbm, ⟨73, _⟩ => ⟨S2048x16, .bf16⟩
  | .hbm, ⟨74, _⟩ => ⟨S_, .i32⟩
  | .hbm, ⟨75, _⟩ => ⟨S_, .bf16⟩
  | .hbm, ⟨76, _⟩ => ⟨S2048x128, .bf16⟩
  | .hbm, ⟨77, _⟩ => ⟨S_, .i32⟩
  | .hbm, ⟨78, _⟩ => ⟨S_, .f32⟩
  | .hbm, ⟨79, _⟩ => ⟨S128x256, .f32⟩
  | .hbm, ⟨80, _⟩ => ⟨S1x256, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_cst : Ref sig .tc := ⟨.hbm, 56, rfl⟩
abbrev main_v5 : Ref sig .tc := ⟨.hbm, 57, rfl⟩
abbrev main_v6 : Ref sig .tc := ⟨.hbm, 58, rfl⟩
abbrev main_cst_0 : Ref sig .tc := ⟨.hbm, 59, rfl⟩
abbrev main_v7 : Ref sig .tc := ⟨.hbm, 60, rfl⟩
abbrev main_v8 : Ref sig .tc := ⟨.hbm, 61, rfl⟩
abbrev main_call1_v0 : Ref sig .tc := ⟨.hbm, 62, rfl⟩
abbrev main_call1_v1 : Ref sig .tc := ⟨.hbm, 63, rfl⟩
abbrev main_v9 : Ref sig .tc := ⟨.hbm, 64, rfl⟩
abbrev main_cst_1 : Ref sig .tc := ⟨.hbm, 65, rfl⟩
abbrev main_v10 : Ref sig .tc := ⟨.hbm, 66, rfl⟩
abbrev main_v11 : Ref sig .tc := ⟨.hbm, 67, rfl⟩
abbrev main_cst_2 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_c : Ref sig .tc := ⟨.hbm, 74, rfl⟩
abbrev main_call2_v0 : Ref sig .tc := ⟨.hbm, 75, rfl⟩
abbrev main_v17 : Ref sig .tc := ⟨.hbm, 76, rfl⟩
abbrev main_c_3 : Ref sig .tc := ⟨.hbm, 77, rfl⟩
abbrev main_call3_v0 : Ref sig .tc := ⟨.hbm, 78, rfl⟩
abbrev main_v18 : Ref sig .tc := ⟨.hbm, 79, rfl⟩
abbrev main_v19 : Ref sig .tc := ⟨.hbm, 80, rfl⟩

abbrev nD : Nat := 1
abbrev τ : Topo := Topo.v7x

variable {F : FTy → Type} [FloatOps F]
-- ==== ProjO.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjORefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== FirstNorm.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Branches.lean ====
abbrev S2048x512 : Shape := ⟨2, ![2048, 512]⟩
abbrev S2048x1024 : Shape := ⟨2, ![2048, 1024]⟩
abbrev S128 : Shape := ⟨1, ![128]⟩
abbrev S512x1024 : Shape := ⟨2, ![512, 1024]⟩
abbrev S512 : Shape := ⟨1, ![512]⟩
abbrev S1x128 : Shape := ⟨2, ![1, 128]⟩
abbrev S1x512 : Shape := ⟨2, ![1, 512]⟩
abbrev S512x512 : Shape := ⟨2, ![512, 512]⟩
abbrev S512x128 : Shape := ⟨2, ![512, 128]⟩
abbrev S512x1 : Shape := ⟨2, ![512, 1]⟩

abbrev nBuf : Space → Nat
  | .hbm => 22
  | .vmem => 29
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S128, .f32⟩
  | .hbm, ⟨8, _⟩ => ⟨S512x1024, .f32⟩
  | .hbm, ⟨9, _⟩ => ⟨S512, .f32⟩
  | .hbm, ⟨10, _⟩ => ⟨S512, .f32⟩
  | .hbm, ⟨11, _⟩ => ⟨S512x1024, .f32⟩
  | .hbm, ⟨12, _⟩ => ⟨S1x128, .f32⟩
  | .hbm, ⟨13, _⟩ => ⟨S512x1024, .bf16⟩
  | .hbm, ⟨14, _⟩ => ⟨S1x512, .f32⟩
  | .hbm, ⟨15, _⟩ => ⟨S1x512, .f32⟩
  | .hbm, ⟨16, _⟩ => ⟨S512x1024, .bf16⟩
  | .hbm, ⟨17, _⟩ => ⟨S2048x512, .bf16⟩
  | .hbm, ⟨18, _⟩ => ⟨S2048x1024, .bf16⟩
  | .hbm, ⟨19, _⟩ => ⟨S2048x512, .bf16⟩
  | .hbm, ⟨20, _⟩ => ⟨S2048x1024, .bf16⟩
  | .hbm, ⟨21, _⟩ => ⟨S2048x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x128, .f32⟩
  | .local _ .vmem, ⟨15, _⟩ => ⟨S512x1024, .bf16⟩
  | .local _ .vmem, ⟨16, _⟩ => ⟨S1x512, .f32⟩
  | .local _ .vmem, ⟨17, _⟩ => ⟨S1x512, .f32⟩
  | .local _ .vmem, ⟨18, _⟩ => ⟨S512x1024, .bf16⟩
  | .local _ .vmem, ⟨19, _⟩ => ⟨S512x512, .bf16⟩
  | .local _ .vmem, ⟨20, _⟩ => ⟨S512x512, .bf16⟩
  | .local _ .vmem, ⟨21, _⟩ => ⟨S512x1024, .bf16⟩
  | .local _ .vmem, ⟨22, _⟩ => ⟨S512x1024, .bf16⟩
  | .local _ .vmem, ⟨23, _⟩ => ⟨S512x512, .bf16⟩
  | .local _ .vmem, ⟨24, _⟩ => ⟨S512x512, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== BranchesRefIdeal.lean ====
abbrev S2048x512 : Shape := ⟨2, ![2048, 512]⟩
abbrev S2048x1024 : Shape := ⟨2, ![2048, 1024]⟩
abbrev S128 : Shape := ⟨1, ![128]⟩
abbrev S512x1024 : Shape := ⟨2, ![512, 1024]⟩
abbrev S512 : Shape := ⟨1, ![512]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S1x512 : Shape := ⟨2, ![1, 512]⟩

abbrev nBuf : Space → Nat
  | .hbm => 107
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S128, .f32⟩
  | .hbm, ⟨8, _⟩ => ⟨S512x1024, .f32⟩
  | .hbm, ⟨9, _⟩ => ⟨S512, .f32⟩
  | .hbm, ⟨10, _⟩ => ⟨S512, .f32⟩
  | .hbm, ⟨11, _⟩ => ⟨S512x1024, .f32⟩
  | .hbm, ⟨12, _⟩ => ⟨S2048x4x128, .f32⟩
  | .hbm, ⟨13, _⟩ => ⟨S2048x4x128, .f32⟩
  | .hbm, ⟨14, _⟩ => ⟨S_, .f32⟩
  | .hbm, ⟨15, _⟩ => ⟨S2048x4, .f32⟩
  | .hbm, ⟨16, _⟩ => ⟨S2048x4x1, .f32⟩
  | .hbm, ⟨17, _⟩ => ⟨S_, .f32⟩
  | .hbm, ⟨18, _⟩ => ⟨S2048x4x1, .f32⟩
  | .hbm, ⟨19, _⟩ => ⟨S2048x4x1, .f32⟩
  | .hbm, ⟨20, _⟩ => ⟨S_, .f32⟩
  | .hbm, ⟨21, _⟩ => ⟨S2048x4x1, .f32⟩
  | .hbm, ⟨22, _⟩ => ⟨S2048x4x1, .f32⟩
  | .hbm, ⟨23, _⟩ => ⟨S2048x4x1, .f32⟩
  | .hbm, ⟨24, _⟩ => ⟨S2048x4x128, .f32⟩
  | .hbm, ⟨25, _⟩ => ⟨S2048x4x128, .f32⟩
  | .hbm, ⟨26, _⟩ => ⟨S1x1x128, .f32⟩
  | .hbm, ⟨27, _⟩ => ⟨S2048x4x128, .f32⟩
  | .hbm, ⟨28, _⟩ => ⟨S2048x4x128, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x1024, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S_, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x4x128, .f32⟩
  | .hbm, ⟨51, _⟩ => ⟨S_, .f32⟩
  | .hbm, ⟨52, _⟩ => ⟨S2048x4, .f32⟩
  | .hbm, ⟨53, _⟩ => ⟨S2048x4x1, .f32⟩
  | .hbm, ⟨54, _⟩ => ⟨S_, .f32⟩
  | .hbm, ⟨55, _⟩ => ⟨S2048x4x1, .f32⟩
  | .hbm, ⟨56, _⟩ => ⟨S2048x4x1, .f32⟩
  | .hbm, ⟨57, _⟩ => ⟨S2048x4x128, .f32⟩
  | .hbm, ⟨58, _⟩ => ⟨S2048x4x128, .f32⟩
  | .hbm, ⟨59, _⟩ => ⟨S2048x4x128, .f32⟩
  | .hbm, ⟨60, _⟩ => ⟨S_, .f32⟩
  | .hbm, ⟨61, _⟩ => ⟨S2048x4, .f32⟩
  | .hbm, ⟨62, _⟩ => ⟨S2048x4x1, .f32⟩
  | .hbm, ⟨63, _⟩ => ⟨S_, .f32⟩
  | .hbm, ⟨64, _⟩ => ⟨S2048x4x1, .f32⟩
  | .hbm, ⟨65, _⟩ => ⟨S2048x4x1, .f32⟩
  | .hbm, ⟨66, _⟩ => ⟨S2048x4x128, .f32⟩
  | .hbm, ⟨67, _⟩ => ⟨S2048x4x128, .f32⟩
  | .hbm, ⟨68, _⟩ => ⟨S_, .f32⟩
  | .hbm, ⟨69, _⟩ => ⟨S2048x4x1, .f32⟩
  | .hbm, ⟨70, _⟩ => ⟨S2048x4x1, .f32⟩
  | .hbm, ⟨71, _⟩ => ⟨S2048x4x1, .f32⟩
  | .hbm, ⟨72, _⟩ => ⟨S2048x4x128, .f32⟩
  | .hbm, ⟨73, _⟩ => ⟨S2048x4x128, .f32⟩
  | .hbm, ⟨74, _⟩ => ⟨S2048x512, .f32⟩
  | .hbm, ⟨75, _⟩ => ⟨S1x512, .f32⟩
  | .hbm, ⟨76, _⟩ => ⟨S2048x512, .f32⟩
  | .hbm, ⟨77, _⟩ => ⟨S2048x512, .f32⟩
  | .hbm, ⟨78, _⟩ => ⟨S1x512, .f32⟩
  | .hbm, ⟨79, _⟩ => ⟨S2048x512, .f32⟩
  | .hbm, ⟨80, _⟩ => ⟨S2048x512, .f32⟩
  | .hbm, ⟨81, _⟩ => ⟨S2048x512, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S_, .f32⟩
  | .hbm, ⟨95, _⟩ => ⟨S2048x1024, .f32⟩
  | .hbm, ⟨96, _⟩ => ⟨S2048x1024, .f32⟩
  | .hbm, ⟨97, _⟩ => ⟨S_, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x512, .bf16⟩
  | .hbm, ⟨103, _⟩ => ⟨S2048x1024, .bf16⟩
  | .hbm, ⟨104, _⟩ => ⟨S2048x512, .bf16⟩
  | .hbm, ⟨105, _⟩ => ⟨S2048x1024, .bf16⟩
  | .hbm, ⟨106, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== Proof.MlpDx.Block.lean ====
/- One grid point of `mlp_dx`: what its body leaves in each output's block, as a function of the
   nine input blocks. The row outputs are functions of the point's blocks alone; the two gain gradients are
   the point's own sum at the first point and that sum added to what the point before left at the others. -/
module

public import proofs.«01_k».proof.Proof.Gen.MlpDxIdeal.Value

@[expose] public section

set_option maxRecDepth 16384

noncomputable section

namespace Cert.Proof.MlpDx

open Cert.MlpDxIdeal Cert.MlpDxIdeal.Gen Idealize.ShloMosaic Idealize.ShloMosaic.TcCoe Idealize.ShloMosaic.Tactic

variable {F : FTy → Type} [FloatOps F]

/-- The nine input blocks of a point. -/
structure Ins (F : FTy → Type) where
  ddn : Vec F S256x1024 .bf16
  up : Vec F S256x4096 .bf16
  x : Vec F S256x1024 .f32
  z : Vec F S256x1024 .f32
  dx1 : Vec F S256x1024 .f32
  wd : Vec F S4096x1024 .bf16
  wu : Vec F S8x1024x512 .bf16
  gpm : Vec F S1x1024 .f32
  gpl : Vec F S1x1024 .f32

/-- The gradient at the MLP's normalised input: the block's `d_up` times the transposed up projection. -/
def bH2 (b : Ins F) : FVec F S256x1024 .f32 :=
  k0_pay9 (k0_pay4 b.wu) (k0_pay7 b.ddn b.up b.wd) (k0_pay8 b.ddn b.up b.wd b.wu)
/-- The residual stream after the mixing branch. -/
def bX (b : Ins F) : FVec F S256x1024 .f32 := k0_pay14 b.x b.z (k0_pay5 b.gpm)
/-- Its rows' sums of squares. -/
def bS (b : Ins F) : FVec F S256x1 .f32 := k0_pay15 b.x b.z (k0_pay5 b.gpm)
/-- The block of the gradient at `x`. -/
def bDx (b : Ins F) : FVec F S256x1024 .f32 := k0_pay19 b.dx1 (k0_pay6 b.gpl) (bH2 b) (bX b) (bS b)
/-- The block of the gradient at `z`. -/
def bDz (b : Ins F) : FVec F S256x1024 .bf16 :=
  k0_pay1 b.z (k0_pay23 b.dx1 (k0_pay5 b.gpm) (k0_pay6 b.gpl) (bH2 b) (k0_pay11 b.z) (bX b) (bS b))
    (k0_pay24 b.z b.dx1 (k0_pay5 b.gpm) (k0_pay6 b.gpl) (bH2 b) (k0_pay12 b.z) (bX b) (bS b))
    (k0_pay25 b.z b.dx1 (k0_pay5 b.gpm) (k0_pay6 b.gpl) (bH2 b) (k0_pay12 b.z) (bX b) (bS b))
/-- The block's part of the gradient of the gain after the mixing branch. -/
def bDa (b : Ins F) : FVec F S1x1024 .f32 :=
  k0_pay21 b.dx1 (k0_pay6 b.gpl) (bH2 b) (k0_pay13 b.z) (bX b) (bS b)
/-- The block's part of the gradient of the gain before the MLP. -/
def bDb (b : Ins F) : FVec F S1x1024 .f32 := k0_pay18 (bH2 b) (bX b) (bS b)

variable (m : (ℓ : Loc nD τ sig) → Buf (Elt F) ℓ)

/-- The input blocks of point `t`. -/
def ins (c : Dev nD) (t : Fin cfg0.N) : Ins F :=
  ⟨iblk m c 0 t, iblk m c 1 t, iblk m c 2 t, iblk m c 3 t, iblk m c 4 t, iblk m c 5 t, iblk m c 6 t, iblk m c 7 t,
    iblk m c 8 t⟩

theorem hz : (![0, 0] : Fin 2 → Nat) = fun _ => 0 := funext fun a => by fin_cases a <;> rfl
theorem hz3 : (![0, 0, 0] : Fin 3 → Nat) = fun _ => 0 := funext fun a => by fin_cases a <;> rfl

section CaseA

/-! The first point: each output's block, from the run's pieces. -/

variable (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S4096x1024 .bf16) (harg6 : arg6.IsWhole) (arg7 : Memref sig .tc .vmem S8x1024x512 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S1x1024 .f32) (harg13 : arg13.IsWhole) (arg14 : Memref sig .tc .vmem S1x1024 .f32) (harg14 : arg14.IsWhole) (hc0 : cond0_0 i) (hc1 : ¬cond0_1 i) (hc2 : cond0_2 i) (hc3 : ¬cond0_3 i)
    (x0 : Vec F S256x1024 .bf16) (x1 : Vec F S256x4096 .bf16) (x2 : Vec F S256x1024 .f32) (x3 : Vec F S256x1024 .f32) (x4 : Vec F S256x1024 .f32) (x5 : Vec F S4096x1024 .bf16) (x6 : Vec F S8x1024x512 .bf16) (x7 : Vec F S1x1024 .f32) (x8 : Vec F S1x1024 .f32)

theorem out_A_10 : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 =
    bDx ⟨x0, x1, x2, x3, x4, x5, x6, x7, x8⟩ := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S256x1024) hz, View.ld_unit_zero (S := S256x4096) hz, View.ld_unit_zero (S := S4096x1024) hz,
    View.ld_unit_zero (S := S1x1024) hz, View.ld_unit_zero (S := S8x1024x512) hz3]
  unfold bDx bH2 bX bS
  rfl

theorem out_A_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 =
    bDz ⟨x0, x1, x2, x3, x4, x5, x6, x7, x8⟩ := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S256x1024) hz, View.ld_unit_zero (S := S256x4096) hz, View.ld_unit_zero (S := S4096x1024) hz,
    View.ld_unit_zero (S := S1x1024) hz, View.ld_unit_zero (S := S8x1024x512) hz3]
  unfold bDz bH2 bX bS
  rfl

theorem out_A_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 =
    bDa ⟨x0, x1, x2, x3, x4, x5, x6, x7, x8⟩ := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S256x1024) hz, View.ld_unit_zero (S := S256x4096) hz, View.ld_unit_zero (S := S4096x1024) hz,
    View.ld_unit_zero (S := S1x1024) hz, View.ld_unit_zero (S := S8x1024x512) hz3]
  unfold bDa bH2 bX bS
  rfl

theorem out_A_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 =
    bDb ⟨x0, x1, x2, x3, x4, x5, x6, x7, x8⟩ := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread,
    View.ld_unit_zero (S := S256x1024) hz, View.ld_unit_zero (S := S256x4096) hz, View.ld_unit_zero (S := S4096x1024) hz,
    View.ld_unit_zero (S := S1x1024) hz, View.ld_unit_zero (S := S8x1024x512) hz3]
  unfold bDb bH2 bX bS
  rfl

end CaseA

section CaseB

/-! A later point: each output's block, from the run's pieces. -/

variable (c : Dev nD) (i : grid0.Coords) (arg1 : Memref sig .tc .vmem S256x1024 .bf16) (harg1 : arg1.IsWhole) (arg2 : Memref sig .tc .vmem S256x4096 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S4096x1024 .bf16) (harg6 : arg6.IsWhole) (arg7 : Memref sig .tc .vmem S8x1024x512 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S1x1024 .f32) (harg13 : arg13.IsWhole) (arg14 : Memref sig .tc .vmem S1x1024 .f32) (harg14 : arg14.IsWhole) (hc0 : ¬cond0_0 i) (hc1 : cond0_1 i) (hc2 : ¬cond0_2 i) (hc3 : cond0_3 i)
    (x0 : Vec F S256x1024 .bf16) (x1 : Vec F S256x4096 .bf16) (x2 : Vec F S256x1024 .f32) (x3 : Vec F S256x1024 .f32) (x4 : Vec F S256x1024 .f32) (x5 : Vec F S4096x1024 .bf16) (x6 : Vec F S8x1024x512 .bf16) (x7 : Vec F S1x1024 .f32) (x8 : Vec F S1x1024 .f32) (xo12 : Vec F S1x1024 .f32) (xo13 : Vec F S1x1024 .f32)

theorem out_B_10 : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 xo12 xo13 =
    bDx ⟨x0, x1, x2, x3, x4, x5, x6, x7, x8⟩ := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 xo12 xo13)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg13.read_unread, harg14.read_unread,
    View.ld_unit_zero (S := S256x1024) hz, View.ld_unit_zero (S := S256x4096) hz, View.ld_unit_zero (S := S4096x1024) hz,
    View.ld_unit_zero (S := S1x1024) hz, View.ld_unit_zero (S := S8x1024x512) hz3]
  unfold bDx bH2 bX bS
  rfl

theorem out_B_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 xo12 xo13 =
    bDz ⟨x0, x1, x2, x3, x4, x5, x6, x7, x8⟩ := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 xo12 xo13)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg13.read_unread, harg14.read_unread,
    View.ld_unit_zero (S := S256x1024) hz, View.ld_unit_zero (S := S256x4096) hz, View.ld_unit_zero (S := S4096x1024) hz,
    View.ld_unit_zero (S := S1x1024) hz, View.ld_unit_zero (S := S8x1024x512) hz3]
  unfold bDz bH2 bX bS
  rfl

theorem out_B_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 xo12 xo13 =
    k0_pay2 (bDa ⟨x0, x1, x2, x3, x4, x5, x6, x7, x8⟩) xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 xo12 xo13)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg13.read_unread, harg14.read_unread,
    View.ld_unit_zero (S := S256x1024) hz, View.ld_unit_zero (S := S256x4096) hz, View.ld_unit_zero (S := S4096x1024) hz,
    View.ld_unit_zero (S := S1x1024) hz, View.ld_unit_zero (S := S8x1024x512) hz3]
  unfold bDa bH2 bX bS
  rfl

theorem out_B_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 xo12 xo13 =
    k0_pay3 (bDb ⟨x0, x1, x2, x3, x4, x5, x6, x7, x8⟩) xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 x4 x5 x6 x7 x8 xo12 xo13)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg13.read_unread, harg14.read_unread,
    View.ld_unit_zero (S := S256x1024) hz, View.ld_unit_zero (S := S256x4096) hz, View.ld_unit_zero (S := S4096x1024) hz,
    View.ld_unit_zero (S := S1x1024) hz, View.ld_unit_zero (S := S8x1024x512) hz3]
  unfold bDb bH2 bX bS
  rfl

end CaseB

/-- What the first point leaves: its own values. -/
theorem outs_first (c : Dev nD) (t : Fin cfg0.N) (h : t.val % 8 = 0) (h1 : ¬1 ≤ t.val) :
    (outsAt0 m c t.val t.isLt).2 = (bDx (ins m c t), bDz (ins m c t), bDa (ins m c t), bDb (ins m c t)) := by
  rw [outsAt0_A m c t h h1 h h1, out_A_10, out_A_11, out_A_12, out_A_13]
  rfl

/-- What a later point leaves: its own row values, and the gain gradients added to what the point before left. -/
theorem outs_later (c : Dev nD) (t : Fin cfg0.N) (h : ¬t.val % 8 = 0) (h1 : 1 ≤ t.val) :
    (outsAt0 m c t.val t.isLt).2 = (bDx (ins m c t), bDz (ins m c t),
      k0_pay2 (bDa (ins m c t)) (outsAt0 m c (t.val - 1) (Nat.lt_of_le_of_lt (Nat.sub_le _ _) t.isLt)).2.2.2.1,
      k0_pay3 (bDb (ins m c t)) (outsAt0 m c (t.val - 1) (Nat.lt_of_le_of_lt (Nat.sub_le _ _) t.isLt)).2.2.2.2) := by
  rw [outsAt0_B m c t h h1 h h1, out_B_10, out_B_11, out_B_12, out_B_13]
  rfl

end Cert.Proof.MlpDx

end
-- ==== Proof.RowNorm.lean ====
/- A row's root-mean-square normalisation and its gradient, over the extended reals, as both the kernels and the
   references compute it: the mean of the squares plus the small constant, its inverse square root, and the
   cotangent of the row. -/
module

public import Idealize.ShloMosaic.Lib.Pointwise

@[expose] public section

noncomputable section

namespace Cert.Proof.RowNorm

open Idealize.ShloMosaic

/-- The words' values: the row's length, the small constant, minus one half, two. -/
abbrev cLen : EReal := Ideal.ofBits FTy.f32 1149239296#32
abbrev cEps : EReal := Ideal.ofBits FTy.f32 897988541#32
abbrev cMinusHalf : EReal := Ideal.ofBits FTy.f32 3204448256#32
abbrev cTwo : EReal := Ideal.ofBits FTy.f32 1073741824#32

/-- The mean of a row's squares, plus the small constant. -/
def ms (v : Fin 1024 → EReal) : EReal := Ideal.div (∑ k, v k * v k) cLen + cEps
/-- The row's scale. -/
def rs (v : Fin 1024 → EReal) : EReal := Ideal.rsqrt (ms v)
/-- What the row is multiplied by in its own gradient: through the scale, for the cotangent `dy` of the normalised row. -/
def back (v dy : Fin 1024 → EReal) : EReal :=
  Ideal.div ((∑ k, v k * dy k) * (cMinusHalf * Ideal.div (rs v) (ms v))) cLen

end Cert.Proof.RowNorm

end
-- ==== Proof.MlpDx.Spec.lean ====
/- What `mlp_dx` computes, row by row: from one row of the saved arrays and of the cotangents, the row of the
   gradients at `x` and `z` and the row's part of the two gains' gradients. -/
module

public import proofs.«01_k».proof.Proof.RowNorm

@[expose] public section

noncomputable section

namespace Cert.Proof.MlpDx

open Idealize.ShloMosaic Cert.Proof.RowNorm

/-- One row's data: the cotangent of the MLP's output, the saved up projection, the block's input, the mixing
    branch's output, the residual's cotangent, and the weights and gains. -/
structure Row where
  ddn : Fin 1024 → EReal
  up : Fin 4096 → EReal
  x : Fin 1024 → EReal
  z : Fin 1024 → EReal
  dx1 : Fin 1024 → EReal
  wd : Fin 4096 → Fin 1024 → EReal
  wu : Fin 1024 → Fin 4096 → EReal
  gpm : Fin 1024 → EReal
  gpl : Fin 1024 → EReal

namespace Row

variable (R : Row)

/-- The gradient at the up projection: that at the squared relu's output times its slope. -/
def dup (n : Fin 4096) : EReal := (∑ k, R.ddn k * R.wd n k) * (cTwo * max (R.up n) 0)
/-- The gradient at the MLP's normalised input. -/
def dh2 (k : Fin 1024) : EReal := ∑ n, R.dup n * R.wu k n
/-- The residual stream after the mixing branch. -/
def xm (k : Fin 1024) : EReal := R.x k + R.z k * rs R.z * R.gpm k
/-- The gradient at `x`: the residual's, and the normalisation's. -/
def dx (k : Fin 1024) : EReal :=
  R.dx1 k + R.dh2 k * R.gpl k * rs R.xm + R.xm k * back R.xm (fun l => R.dh2 l * R.gpl l)
    + back R.xm (fun l => R.dh2 l * R.gpl l) * R.xm k
/-- The gradient at `z`. -/
def dz (k : Fin 1024) : EReal :=
  R.dx k * R.gpm k * rs R.z + R.z k * back R.z (fun l => R.dx l * R.gpm l)
    + back R.z (fun l => R.dx l * R.gpm l) * R.z k
/-- The row's part of the gradient of the gain after the mixing branch. -/
def da (k : Fin 1024) : EReal := R.z k * rs R.z * R.dx k
/-- The row's part of the gradient of the gain before the MLP. -/
def db (k : Fin 1024) : EReal := R.xm k * rs R.xm * R.dh2 k

end Row

/-- The whole arrays: the block's input, the mixing branch's output, the cotangents, the gains and weights. -/
structure Args where
  x : Fin 2048 → Fin 1024 → EReal
  z : Fin 2048 → Fin 1024 → EReal
  gpm : Fin 1024 → EReal
  gpl : Fin 1024 → EReal
  wu : Fin 1024 → Fin 4096 → EReal
  wd : Fin 4096 → Fin 1024 → EReal
  dx1 : Fin 2048 → Fin 1024 → EReal
  ddn : Fin 2048 → Fin 1024 → EReal

namespace Args

variable (A : Args)

/-- The residual stream after the mixing branch, row `i`. -/
def xm (i : Fin 2048) (k : Fin 1024) : EReal := A.x i k + A.z i k * rs (A.z i) * A.gpm k
/-- The up projection of the normalised residual stream. -/
def up (i : Fin 2048) (n : Fin 4096) : EReal := ∑ k, A.xm i k * rs (A.xm i) * A.gpl k * A.wu k n
/-- Row `i`'s data. -/
def row (i : Fin 2048) : Row := ⟨A.ddn i, A.up i, A.x i, A.z i, A.dx1 i, A.wd, A.wu, A.gpm, A.gpl⟩

/-- The gradients of the two gains: their rows' parts summed. -/
def da (k : Fin 1024) : EReal := ∑ i, (A.row i).da k
def db (k : Fin 1024) : EReal := ∑ i, (A.row i).db k

end Args

end Cert.Proof.MlpDx

end
-- ==== Proof.MlpDx.BlockValue.lean ====
/- The blocks of one point at an index: row `r` of each is the row function of row `r` of the input blocks. -/
module

public import proofs.«01_k».proof.Proof.MlpDx.Block
public import proofs.«01_k».proof.Proof.MlpDx.Spec

@[expose] public section

noncomputable section

namespace Cert.Proof.MlpDx

open Cert.MlpDxIdeal Cert.MlpDxIdeal.Gen Idealize.ShloMosaic Idealize.ShloMosaic.Pointwise Cert.Proof.RowNorm

/-- Row `r` of the point's input blocks; the up projection's eight column blocks put side by side. -/
def rowOf (b : Ins Ideal) (r : Fin 256) : Row where
  ddn k := b.ddn (ix2 r k)
  up n := b.up (ix2 r n)
  x k := b.x (ix2 r k)
  z k := b.z (ix2 r k)
  dx1 k := b.dx1 (ix2 r k)
  wd n k := b.wd (ix2 n k)
  wu k n := b.wu (ix3 (⟨n.val / 512, by omega⟩ : Fin 8) k (⟨n.val % 512, by omega⟩ : Fin 512))
  gpm k := b.gpm (ix2 0 k)
  gpl k := b.gpl (ix2 0 k)

theorem pay7_apply (b : Ins Ideal) (r : Fin 256) (n : Fin 4096) :
    k0_pay7 (F := Ideal) b.ddn b.up b.wd (ix2 r n) = (rowOf b r).dup n := by
  pointwise [k0_pay7]
  rfl

/-- A product over 4096 columns is the sum of the products over the eight blocks of 512. -/
theorem dh2_tiles (b : Ins Ideal) (r : Fin 256) (k : Fin 1024) :
    (rowOf b r).dh2 k = ∑ j : Fin 8, ∑ t : Fin 512,
      (rowOf b r).dup ⟨j.val * 512 + t.val, by omega⟩ * b.wu (ix3 j k t) := by
  unfold Row.dh2
  rw [Fin.sum_univ_tiles 8 512 (by norm_num)]
  refine Finset.sum_congr rfl fun j _ => Finset.sum_congr rfl fun t _ => ?_
  congr 1
  show b.wu _ = _
  congr 2
  · exact Fin.ext (by show (j.val * 512 + t.val) / 512 = j.val; omega)
  · exact Fin.ext (by show (j.val * 512 + t.val) % 512 = t.val; omega)

theorem bH2_apply (b : Ins Ideal) (r : Fin 256) (k : Fin 1024) : bH2 b (ix2 r k) = (rowOf b r).dh2 k := by
  rw [dh2_tiles]
  unfold bH2
  pointwise [k0_pay9, k0_pay8, k0_pay4]
  simp only [pay7_apply]
  rw [Fin.sum_univ_eight]
  simp only [Fin.val_zero, Nat.zero_mul, Nat.zero_add]
  rfl

theorem bX_apply (b : Ins Ideal) (r : Fin 256) (k : Fin 1024) : bX b (ix2 r k) = (rowOf b r).xm k := by
  unfold bX
  pointwise [k0_pay14, k0_pay13, k0_pay11, k0_pay10, k0_pay5]
  rfl

theorem bS_apply (b : Ins Ideal) (r : Fin 256) (q : Fin 1) :
    bS b (ix2 r q) = ∑ k, (rowOf b r).xm k * (rowOf b r).xm k := by
  obtain rfl : q = 0 := Subsingleton.elim _ _
  unfold bS
  pointwise [k0_pay15, k0_pay14, k0_pay13, k0_pay11, k0_pay10, k0_pay5]
  rfl

theorem pay19_apply (b : Ins Ideal) (r : Fin 256) (k : Fin 1024) :
    k0_pay19 (F := Ideal) b.dx1 (k0_pay6 b.gpl) (bH2 b) (bX b) (bS b) (ix2 r k) = (rowOf b r).dx k := by
  pointwise [k0_pay19, k0_pay16, k0_pay17, k0_pay6]
  simp only [bH2_apply, bX_apply, bS_apply, Fin.sum_univ_one]
  rfl

theorem pay20_apply (b : Ins Ideal) (r : Fin 256) (k : Fin 1024) :
    k0_pay20 (F := Ideal) b.dx1 (k0_pay6 b.gpl) (bH2 b) (bX b) (bS b) (ix2 r k) = (rowOf b r).dx k := by
  unfold k0_pay20
  rw [shapeCast_self]
  exact pay19_apply b r k

theorem bDx_apply (b : Ins Ideal) (r : Fin 256) (k : Fin 1024) : bDx b (ix2 r k) = (rowOf b r).dx k :=
  pay19_apply b r k

theorem bDz_apply (b : Ins Ideal) (r : Fin 256) (k : Fin 1024) : bDz b (ix2 r k) = (rowOf b r).dz k := by
  unfold bDz
  pointwise [k0_pay1, k0_pay23, k0_pay24, k0_pay25, k0_pay22, k0_pay12, k0_pay11, k0_pay10, k0_pay5]
  simp only [pay20_apply, Fin.sum_univ_one]
  rfl

theorem bDa_apply (b : Ins Ideal) (k : Fin 1024) : bDa b (ix2 0 k) = ∑ r, (rowOf b r).da k := by
  unfold bDa
  pointwise [k0_pay21, k0_pay13, k0_pay11, k0_pay10]
  simp only [pay20_apply]
  rfl

theorem bDb_apply (b : Ins Ideal) (k : Fin 1024) : bDb b (ix2 0 k) = ∑ r, (rowOf b r).db k := by
  unfold bDb
  pointwise [k0_pay18, k0_pay16, k0_pay17]
  simp only [bH2_apply, bX_apply, bS_apply]
  rfl

end Cert.Proof.MlpDx

end
-- ==== Proof.MlpDx.Host.lean ====
/- The arrays the host lines hand to the kernel, at an index: casts of the arguments, the up projection cut in eight
   column blocks, and the saved up projection computed from the arguments. -/
module

public import proofs.«01_k».proof.Proof.Gen.MlpDxIdeal.Frame.Runs
public import proofs.«01_k».proof.Proof.MlpDx.Spec

@[expose] public section

noncomputable section

namespace Cert.Proof.MlpDx

open Cert.MlpDxIdeal Cert.MlpDxIdeal.Gen Idealize.ShloMosaic Idealize.ShloMosaic.TcCoe
open Idealize.ShloMosaic.StableHlo Idealize.ShloMosaic.Pointwise Cert.Proof.RowNorm

variable (m : (ℓ : Loc nD τ sig) → Buf (Elt Ideal) ℓ) (c : Dev nD)

/-- The program's arguments. -/
abbrev aX : S2048x1024.Idx → EReal := m ((c : Thread nD τ).loc main_arg0)
abbrev aZ : S2048x1024.Idx → EReal := m ((c : Thread nD τ).loc main_arg1)
abbrev aGpm : S1024.Idx → EReal := m ((c : Thread nD τ).loc main_arg2)
abbrev aGpl : S1024.Idx → EReal := m ((c : Thread nD τ).loc main_arg3)
abbrev aWu : S1024x4096.Idx → EReal := m ((c : Thread nD τ).loc main_arg4)
abbrev aWd : S4096x1024.Idx → EReal := m ((c : Thread nD τ).loc main_arg5)
abbrev aDx1 : S2048x1024.Idx → EReal := m ((c : Thread nD τ).loc main_arg6)
abbrev aDdn : S2048x1024.Idx → EReal := m ((c : Thread nD τ).loc main_arg7)

/-- The same by row and column. -/
def args : Args where
  x i k := aX m c (ix2 i k)
  z i k := aZ m c (ix2 i k)
  gpm k := aGpm m c (ix1 k)
  gpl k := aGpl m c (ix1 k)
  wu k n := aWu m c (ix2 k n)
  wd n k := aWd m c (ix2 n k)
  dx1 i k := aDx1 m c (ix2 i k)
  ddn i k := aDdn m c (ix2 i k)

theorem V28 (r : Fin 2048) (k : Fin 1024) : V m c main_v28 (ix2 r k) = aDdn m c (ix2 r k) := by
  unfold V hostOps0
  after_results
  rfl
theorem V29 (r : Fin 2048) (k : Fin 4096) : V m c main_v29 (ix2 r k) = (args m c).up r k := by
  unfold V hostOps0
  after_results
  pointwise
  rfl
theorem V30 (r : Fin 4096) (k : Fin 1024) : V m c main_v30 (ix2 r k) = aWd m c (ix2 r k) := by
  unfold V hostOps0
  after_results
  rfl
theorem V33 (j : Fin 8) (k : Fin 1024) (n : Fin 512) : V m c main_v33 (ix3 j k n)
    = aWu m c (ix2 k (⟨j.val * 512 + n.val, by omega⟩ : Fin 4096)) := by
  unfold V hostOps0
  after_results
  pointwise
theorem V34 (k : Fin 1024) : V m c main_v34 (ix2 0 k) = aGpm m c (ix1 k) := by
  unfold V hostOps0
  after_results
  pointwise
theorem V35 (k : Fin 1024) : V m c main_v35 (ix2 0 k) = aGpl m c (ix1 k) := by
  unfold V hostOps0
  after_results
  pointwise

end Cert.Proof.MlpDx

end
-- ==== Proof.MlpDx.Array.lean ====
/- The four result arrays of `mlp_dx` after its run, as row functions of the arguments: block `t` of a row output is
   rows 256 t to 256 t + 255; a gain's gradient, kept in one block over the eight points, is the sum over all rows. -/
module

public import proofs.«01_k».proof.Proof.MlpDx.BlockValue
public import proofs.«01_k».proof.Proof.MlpDx.Host

@[expose] public section

noncomputable section

namespace Cert.Proof.MlpDx

open Cert.MlpDxIdeal Cert.MlpDxIdeal.Gen Cert.MlpDxIdeal.Value Idealize.ShloMosaic Idealize.ShloMosaic.TcCoe
open Idealize.ShloMosaic.Pointwise

variable (m : (ℓ : Loc nD τ sig) → Buf (Elt Ideal) ℓ) (c : Dev nD)

/-- Row `r` of block `t`. -/
abbrev at256 (t : Fin cfg0.N) (r : Fin 256) : Fin 2048 :=
  ⟨t.val * 256 + r.val, by have : cfg0.N = 8 := N_0; have := t.isLt; omega⟩

/-! ## Where a block lies -/

theorem ix0 : ∀ t : Fin cfg0.N, win0_0.index t 0 = t.val ∧ win0_0.index t 1 = 0 := (by decide +kernel : ∀ t : Fin grid0.N, _)
theorem ix1' : ∀ t : Fin cfg0.N, win0_1.index t 0 = t.val ∧ win0_1.index t 1 = 0 := (by decide +kernel : ∀ t : Fin grid0.N, _)
theorem ix2' : ∀ t : Fin cfg0.N, win0_2.index t 0 = t.val ∧ win0_2.index t 1 = 0 := (by decide +kernel : ∀ t : Fin grid0.N, _)
theorem ix3' : ∀ t : Fin cfg0.N, win0_3.index t 0 = t.val ∧ win0_3.index t 1 = 0 := (by decide +kernel : ∀ t : Fin grid0.N, _)
theorem ix4' : ∀ t : Fin cfg0.N, win0_4.index t 0 = t.val ∧ win0_4.index t 1 = 0 := (by decide +kernel : ∀ t : Fin grid0.N, _)
theorem ix5' : ∀ t : Fin cfg0.N, win0_5.index t 0 = 0 ∧ win0_5.index t 1 = 0 := (by decide +kernel : ∀ t : Fin grid0.N, _)
theorem ix6' : ∀ t : Fin cfg0.N, win0_6.index t 0 = 0 ∧ win0_6.index t 1 = 0 ∧ win0_6.index t 2 = 0 :=
  (by decide +kernel : ∀ t : Fin grid0.N, _)
theorem ix7' : ∀ t : Fin cfg0.N, win0_7.index t 0 = 0 ∧ win0_7.index t 1 = 0 := (by decide +kernel : ∀ t : Fin grid0.N, _)
theorem ix8' : ∀ t : Fin cfg0.N, win0_8.index t 0 = 0 ∧ win0_8.index t 1 = 0 := (by decide +kernel : ∀ t : Fin grid0.N, _)
theorem ix10' : ∀ t : Fin cfg0.N, win0_10.index t 0 = t.val ∧ win0_10.index t 1 = 0 := (by decide +kernel : ∀ t : Fin grid0.N, _)
theorem ix11' : ∀ t : Fin cfg0.N, win0_11.index t 0 = t.val ∧ win0_11.index t 1 = 0 := (by decide +kernel : ∀ t : Fin grid0.N, _)
theorem ix12' : ∀ t : Fin cfg0.N, win0_12.index t 0 = 0 ∧ win0_12.index t 1 = 0 := (by decide +kernel : ∀ t : Fin grid0.N, _)
theorem ix13' : ∀ t : Fin cfg0.N, win0_13.index t 0 = 0 ∧ win0_13.index t 1 = 0 := (by decide +kernel : ∀ t : Fin grid0.N, _)

theorem emb0 (t : Fin cfg0.N) (r : Fin 256) (k : Fin 1024) :
    ((cfg0.win 0).blk t).view.emb (ix2 r k) = ix2 (at256 t r) k := by
  obtain ⟨e0, e1⟩ := ix0 t
  funext a; apply Fin.ext
  match a with
  | ⟨0, _⟩ => show win0_0.index t 0 * 256 + 1 * r.val = t.val * 256 + r.val; omega
  | ⟨1, _⟩ => show win0_0.index t 1 * 1024 + 1 * k.val = k.val; omega
theorem emb1 (t : Fin cfg0.N) (r : Fin 256) (k : Fin 4096) :
    ((cfg0.win 1).blk t).view.emb (ix2 r k) = ix2 (at256 t r) k := by
  obtain ⟨e0, e1⟩ := ix1' t
  funext a; apply Fin.ext
  match a with
  | ⟨0, _⟩ => show win0_1.index t 0 * 256 + 1 * r.val = t.val * 256 + r.val; omega
  | ⟨1, _⟩ => show win0_1.index t 1 * 4096 + 1 * k.val = k.val; omega
theorem emb2 (t : Fin cfg0.N) (r : Fin 256) (k : Fin 1024) :
    ((cfg0.win 2).blk t).view.emb (ix2 r k) = ix2 (at256 t r) k := by
  obtain ⟨e0, e1⟩ := ix2' t
  funext a; apply Fin.ext
  match a with
  | ⟨0, _⟩ => show win0_2.index t 0 * 256 + 1 * r.val = t.val * 256 + r.val; omega
  | ⟨1, _⟩ => show win0_2.index t 1 * 1024 + 1 * k.val = k.val; omega
theorem emb3 (t : Fin cfg0.N) (r : Fin 256) (k : Fin 1024) :
    ((cfg0.win 3).blk t).view.emb (ix2 r k) = ix2 (at256 t r) k := by
  obtain ⟨e0, e1⟩ := ix3' t
  funext a; apply Fin.ext
  match a with
  | ⟨0, _⟩ => show win0_3.index t 0 * 256 + 1 * r.val = t.val * 256 + r.val; omega
  | ⟨1, _⟩ => show win0_3.index t 1 * 1024 + 1 * k.val = k.val; omega
theorem emb4 (t : Fin cfg0.N) (r : Fin 256) (k : Fin 1024) :
    ((cfg0.win 4).blk t).view.emb (ix2 r k) = ix2 (at256 t r) k := by
  obtain ⟨e0, e1⟩ := ix4' t
  funext a; apply Fin.ext
  match a with
  | ⟨0, _⟩ => show win0_4.index t 0 * 256 + 1 * r.val = t.val * 256 + r.val; omega
  | ⟨1, _⟩ => show win0_4.index t 1 * 1024 + 1 * k.val = k.val; omega
theorem emb5 (t : Fin cfg0.N) (n : Fin 4096) (k : Fin 1024) :
    ((cfg0.win 5).blk t).view.emb (ix2 n k) = ix2 n k := by
  obtain ⟨e0, e1⟩ := ix5' t
  funext a; apply Fin.ext
  match a with
  | ⟨0, _⟩ => show win0_5.index t 0 * 4096 + 1 * n.val = n.val; omega
  | ⟨1, _⟩ => show win0_5.index t 1 * 1024 + 1 * k.val = k.val; omega
theorem emb6 (t : Fin cfg0.N) (j : Fin 8) (k : Fin 1024) (n : Fin 512) :
    ((cfg0.win 6).blk t).view.emb (ix3 j k n) = ix3 j k n := by
  obtain ⟨e0, e1, e2⟩ := ix6' t
  funext a; apply Fin.ext
  match a with
  | ⟨0, _⟩ => show win0_6.index t 0 * 8 + 1 * j.val = j.val; omega
  | ⟨1, _⟩ => show win0_6.index t 1 * 1024 + 1 * k.val = k.val; omega
  | ⟨2, _⟩ => show win0_6.index t 2 * 512 + 1 * n.val = n.val; omega
theorem emb7 (t : Fin cfg0.N) (q : Fin 1) (k : Fin 1024) : ((cfg0.win 7).blk t).view.emb (ix2 q k) = ix2 q k := by
  obtain ⟨e0, e1⟩ := ix7' t
  funext a; apply Fin.ext
  match a with
  | ⟨0, _⟩ => show win0_7.index t 0 * 1 + 1 * q.val = q.val; omega
  | ⟨1, _⟩ => show win0_7.index t 1 * 1024 + 1 * k.val = k.val; omega
theorem emb8 (t : Fin cfg0.N) (q : Fin 1) (k : Fin 1024) : ((cfg0.win 8).blk t).view.emb (ix2 q k) = ix2 q k := by
  obtain ⟨e0, e1⟩ := ix8' t
  funext a; apply Fin.ext
  match a with
  | ⟨0, _⟩ => show win0_8.index t 0 * 1 + 1 * q.val = q.val; omega
  | ⟨1, _⟩ => show win0_8.index t 1 * 1024 + 1 * k.val = k.val; omega
theorem emb10 (t : Fin cfg0.N) (r : Fin 256) (k : Fin 1024) :
    ((cfg0.win 10).blk t).view.emb (ix2 r k) = ix2 (at256 t r) k := by
  obtain ⟨e0, e1⟩ := ix10' t
  funext a; apply Fin.ext
  match a with
  | ⟨0, _⟩ => show win0_10.index t 0 * 256 + 1 * r.val = t.val * 256 + r.val; omega
  | ⟨1, _⟩ => show win0_10.index t 1 * 1024 + 1 * k.val = k.val; omega
theorem emb11 (t : Fin cfg0.N) (r : Fin 256) (k : Fin 1024) :
    ((cfg0.win 11).blk t).view.emb (ix2 r k) = ix2 (at256 t r) k := by
  obtain ⟨e0, e1⟩ := ix11' t
  funext a; apply Fin.ext
  match a with
  | ⟨0, _⟩ => show win0_11.index t 0 * 256 + 1 * r.val = t.val * 256 + r.val; omega
  | ⟨1, _⟩ => show win0_11.index t 1 * 1024 + 1 * k.val = k.val; omega
theorem emb12 (t : Fin cfg0.N) (q : Fin 1) (k : Fin 1024) : ((cfg0.win 12).blk t).view.emb (ix2 q k) = ix2 q k := by
  obtain ⟨e0, e1⟩ := ix12' t
  funext a; apply Fin.ext
  match a with
  | ⟨0, _⟩ => show win0_12.index t 0 * 1 + 1 * q.val = q.val; omega
  | ⟨1, _⟩ => show win0_12.index t 1 * 1024 + 1 * k.val = k.val; omega
theorem emb13 (t : Fin cfg0.N) (q : Fin 1) (k : Fin 1024) : ((cfg0.win 13).blk t).view.emb (ix2 q k) = ix2 q k := by
  obtain ⟨e0, e1⟩ := ix13' t
  funext a; apply Fin.ext
  match a with
  | ⟨0, _⟩ => show win0_13.index t 0 * 1 + 1 * q.val = q.val; omega
  | ⟨1, _⟩ => show win0_13.index t 1 * 1024 + 1 * k.val = k.val; omega

/-! ## A block's row is a row of the arguments -/

theorem ins_ddn (t : Fin cfg0.N) (r : Fin 256) (k : Fin 1024) : (ins m c t).ddn (ix2 r k) = (args m c).ddn (at256 t r) k := by
  show V m c main_v28 (((cfg0.win 0).blk t).view.emb (ix2 r k)) = _
  rw [emb0, V28]; rfl
theorem ins_up (t : Fin cfg0.N) (r : Fin 256) (k : Fin 4096) : (ins m c t).up (ix2 r k) = (args m c).up (at256 t r) k := by
  show V m c main_v29 (((cfg0.win 1).blk t).view.emb (ix2 r k)) = _
  rw [emb1, V29]
theorem ins_x (t : Fin cfg0.N) (r : Fin 256) (k : Fin 1024) : (ins m c t).x (ix2 r k) = (args m c).x (at256 t r) k := by
  show V m c main_arg0 (((cfg0.win 2).blk t).view.emb (ix2 r k)) = _
  rw [emb2, V_main_arg0]; rfl
theorem ins_z (t : Fin cfg0.N) (r : Fin 256) (k : Fin 1024) : (ins m c t).z (ix2 r k) = (args m c).z (at256 t r) k := by
  show V m c main_arg1 (((cfg0.win 3).blk t).view.emb (ix2 r k)) = _
  rw [emb3, V_main_arg1]; rfl
theorem ins_dx1 (t : Fin cfg0.N) (r : Fin 256) (k : Fin 1024) : (ins m c t).dx1 (ix2 r k) = (args m c).dx1 (at256 t r) k := by
  show V m c main_arg6 (((cfg0.win 4).blk t).view.emb (ix2 r k)) = _
  rw [emb4, V_main_arg6]; rfl
theorem ins_wd (t : Fin cfg0.N) (n : Fin 4096) (k : Fin 1024) : (ins m c t).wd (ix2 n k) = (args m c).wd n k := by
  show V m c main_v30 (((cfg0.win 5).blk t).view.emb (ix2 n k)) = _
  rw [emb5, V30]; rfl
theorem ins_wu (t : Fin cfg0.N) (j : Fin 8) (k : Fin 1024) (n : Fin 512) : (ins m c t).wu (ix3 j k n) = (args m c).wu k ⟨j.val * 512 + n.val, by omega⟩ := by
  show V m c main_v33 (((cfg0.win 6).blk t).view.emb (ix3 j k n)) = _
  rw [emb6, V33]; rfl
theorem ins_gpm (t : Fin cfg0.N) (q : Fin 1) (k : Fin 1024) : (ins m c t).gpm (ix2 q k) = (args m c).gpm k := by
  obtain rfl : q = 0 := Subsingleton.elim _ _
  show V m c main_v34 (((cfg0.win 7).blk t).view.emb (ix2 0 k)) = _
  rw [emb7, V34]; rfl
theorem ins_gpl (t : Fin cfg0.N) (q : Fin 1) (k : Fin 1024) : (ins m c t).gpl (ix2 q k) = (args m c).gpl k := by
  obtain rfl : q = 0 := Subsingleton.elim _ _
  show V m c main_v35 (((cfg0.win 8).blk t).view.emb (ix2 0 k)) = _
  rw [emb8, V35]; rfl

theorem rowOf_ins (t : Fin cfg0.N) (r : Fin 256) : rowOf (ins m c t) r = (args m c).row (at256 t r) := by
  unfold rowOf Args.row
  simp only [ins_ddn, ins_up, ins_x, ins_z, ins_dx1, ins_wd, ins_wu, ins_gpm, ins_gpl, Nat.div_add_mod']

/-! ## The row outputs -/

/-- The gradients at `x` and `z` as arrays. -/
def gDx : S2048x1024.Idx → EReal := fun j => ((args m c).row (j 0)).dx (j 1)
def gDz : S2048x1024.Idx → EReal := fun j => ((args m c).row (j 0)).dz (j 1)

theorem outs10 (t : Fin cfg0.N) : (outsAt0 m c t.val t.isLt).2.1 = bDx (ins m c t) := by
  have hN : cfg0.N = 8 := N_0
  have := t.isLt
  by_cases h : t.val % 8 = 0
  · rw [outs_first m c t h (by omega)]
  · rw [outs_later m c t h (by omega)]

theorem outs11 (t : Fin cfg0.N) : (outsAt0 m c t.val t.isLt).2.2.1 = bDz (ins m c t) := by
  have hN : cfg0.N = 8 := N_0
  have := t.isLt
  by_cases h : t.val % 8 = 0
  · rw [outs_first m c t h (by omega)]
  · rw [outs_later m c t h (by omega)]

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩

theorem flushed10_eq (t : Fin cfg0.N) :
    (dats m 0 c).flushed 10 t = ((cfg0.win 10).blk t).view.read (Elt Ideal) (gDx m c) := by
  rw [flushed10, outs10]
  funext j
  obtain ⟨r, k, rfl⟩ := eq_ix2 (a := 256) (b := 1024) j
  show bDx (ins m c t) (ix2 r k) = gDx m c (((cfg0.win 10).blk t).view.emb (ix2 r k))
  rw [emb10, bDx_apply, rowOf_ins]
  rfl

theorem flushed11_eq (t : Fin cfg0.N) :
    (dats m 0 c).flushed 11 t = ((cfg0.win 11).blk t).view.read (Elt Ideal) (gDz m c) := by
  rw [flushed11, outs11]
  funext j
  obtain ⟨r, k, rfl⟩ := eq_ix2 (a := 256) (b := 1024) j
  show bDz (ins m c t) (ix2 r k) = gDz m c (((cfg0.win 11).blk t).view.emb (ix2 r k))
  rw [emb11, bDz_apply, rowOf_ins]
  rfl

/-- Row `i` lies in block `i / 256`. -/
theorem at256_split (i : Fin 2048) : ∃ (t : Fin cfg0.N) (r : Fin 256), at256 t r = i :=
  ⟨⟨i.val / 256, by have : cfg0.N = 8 := N_0; omega⟩, ⟨i.val % 256, by omega⟩,
    Fin.ext (by show i.val / 256 * 256 + i.val % 256 = i.val; omega)⟩

theorem final10 : (dats m 0 c).arrAt 10 cfg0.N = gDx m c :=
  (dats m 0 c).arrAt_eq_of_cover 10 (gDx m c) (fun t _ => flushed10_eq m c t) fun j => by
    obtain ⟨i, k, rfl⟩ := eq_ix2 (a := 2048) (b := 1024) j
    obtain ⟨t, r, rfl⟩ := at256_split i
    exact ⟨t, flush0_10 t, by have h := ((cfg0.win 10).blk t).view.emb_mem_set (ix2 r k); rwa [emb10] at h⟩

theorem final11 : (dats m 0 c).arrAt 11 cfg0.N = gDz m c :=
  (dats m 0 c).arrAt_eq_of_cover 11 (gDz m c) (fun t _ => flushed11_eq m c t) fun j => by
    obtain ⟨i, k, rfl⟩ := eq_ix2 (a := 2048) (b := 1024) j
    obtain ⟨t, r, rfl⟩ := at256_split i
    exact ⟨t, flush0_11 t, by have h := ((cfg0.win 11).blk t).view.emb_mem_set (ix2 r k); rwa [emb11] at h⟩

/-! ## The two gains' gradients, accumulated over the points -/

/-- The two gradients as arrays. -/
def gDa : S1x1024.Idx → EReal := fun j => (args m c).da (j 1)
def gDb : S1x1024.Idx → EReal := fun j => (args m c).db (j 1)

/-- After point `n` the accumulators hold the sums over the rows of the blocks so far. -/
theorem acc (k : Fin 1024) : ∀ (n : ℕ) (h : n < cfg0.N),
    (outsAt0 m c n h).2.2.2.1 (ix2 0 k)
      = ∑ t : Fin (n + 1), ∑ r : Fin 256, ((args m c).row (at256 ⟨t.val, by omega⟩ r)).da k
    ∧ (outsAt0 m c n h).2.2.2.2 (ix2 0 k)
      = ∑ t : Fin (n + 1), ∑ r : Fin 256, ((args m c).row (at256 ⟨t.val, by omega⟩ r)).db k
  | 0, h => by
    have e := outs_first m c ⟨0, h⟩ rfl (by simp)
    rw [e]
    refine ⟨?_, ?_⟩
    · rw [Fin.sum_univ_one]; show bDa (ins m c ⟨0, h⟩) (ix2 0 k) = _
      rw [bDa_apply]; simp only [rowOf_ins]; rfl
    · rw [Fin.sum_univ_one]; show bDb (ins m c ⟨0, h⟩) (ix2 0 k) = _
      rw [bDb_apply]; simp only [rowOf_ins]; rfl
  | n + 1, h => by
    have hN : cfg0.N = 8 := N_0
    obtain ⟨ia, ib⟩ := acc k n (by omega)
    have e := outs_later m c ⟨n + 1, h⟩ (by dsimp only; omega) (by dsimp only; omega)
    rw [e]
    refine ⟨?_, ?_⟩
    · rw [Fin.sum_univ_castSucc]
      refine Eq.trans (b := (outsAt0 m c n (by omega)).2.2.2.1 (ix2 0 k) + bDa (ins m c ⟨n + 1, h⟩) (ix2 0 k)) ?_ ?_
      · show k0_pay2 (bDa (ins m c ⟨n + 1, h⟩)) (outsAt0 m c n _).2.2.2.1 (ix2 0 k) = _
        pointwise [k0_pay2]
      · rw [ia, bDa_apply]; simp only [rowOf_ins]; rfl
    · rw [Fin.sum_univ_castSucc]
      refine Eq.trans (b := (outsAt0 m c n (by omega)).2.2.2.2 (ix2 0 k) + bDb (ins m c ⟨n + 1, h⟩) (ix2 0 k)) ?_ ?_
      · show k0_pay3 (bDb (ins m c ⟨n + 1, h⟩)) (outsAt0 m c n _).2.2.2.2 (ix2 0 k) = _
        pointwise [k0_pay3]
      · rw [ib, bDb_apply]; simp only [rowOf_ins]; rfl

theorem flushed12_eq (t : Fin cfg0.N) (hf : (cfg0.win 12).flush t = true) :
    (dats m 0 c).flushed 12 t = ((cfg0.win 12).blk t).view.read (Elt Ideal) (gDa m c) := by
  have hN : cfg0.N = 8 := N_0
  have h7 : t.val = 7 := by have := (flush0_12 t).mp hf; have := t.isLt; omega
  obtain rfl : t = t0_7 := Fin.ext h7
  show (cfg0.win 12).cut (grid0.coords t0_7) ((dats m 0 c).after 12 t0_7) = _
  rw [after0_12]
  funext j
  obtain ⟨q, k, rfl⟩ := eq_ix2 (a := 1) (b := 1024) j
  obtain rfl : q = 0 := Subsingleton.elim _ _
  show (outsAt0 m c 7 t0_7.isLt).2.2.2.1 (ix2 0 k) = gDa m c (((cfg0.win 12).blk t0_7).view.emb (ix2 0 k))
  rw [emb12, (acc m c k 7 t0_7.isLt).1]
  exact (Fin.sum_univ_tiles 8 256 (by norm_num) fun i => ((args m c).row i).da k).symm

theorem flushed13_eq (t : Fin cfg0.N) (hf : (cfg0.win 13).flush t = true) :
    (dats m 0 c).flushed 13 t = ((cfg0.win 13).blk t).view.read (Elt Ideal) (gDb m c) := by
  have hN : cfg0.N = 8 := N_0
  have h7 : t.val = 7 := by have := (flush0_13 t).mp hf; have := t.isLt; omega
  obtain rfl : t = t0_7 := Fin.ext h7
  show (cfg0.win 13).cut (grid0.coords t0_7) ((dats m 0 c).after 13 t0_7) = _
  rw [after0_13]
  funext j
  obtain ⟨q, k, rfl⟩ := eq_ix2 (a := 1) (b := 1024) j
  obtain rfl : q = 0 := Subsingleton.elim _ _
  show (outsAt0 m c 7 t0_7.isLt).2.2.2.2 (ix2 0 k) = gDb m c (((cfg0.win 13).blk t0_7).view.emb (ix2 0 k))
  rw [emb13, (acc m c k 7 t0_7.isLt).2]
  exact (Fin.sum_univ_tiles 8 256 (by norm_num) fun i => ((args m c).row i).db k).symm

theorem final12 : (dats m 0 c).arrAt 12 cfg0.N = gDa m c :=
  (dats m 0 c).arrAt_eq_of_cover 12 (gDa m c) (flushed12_eq m c) fun j => by
    obtain ⟨q, k, rfl⟩ := eq_ix2 (a := 1) (b := 1024) j
    exact ⟨t0_7, (flush0_12 t0_7).mpr rfl, by
      have h := ((cfg0.win 12).blk t0_7).view.emb_mem_set (ix2 q k); rwa [emb12] at h⟩

theorem final13 : (dats m 0 c).arrAt 13 cfg0.N = gDb m c :=
  (dats m 0 c).arrAt_eq_of_cover 13 (gDb m c) (flushed13_eq m c) fun j => by
    obtain ⟨q, k, rfl⟩ := eq_ix2 (a := 1) (b := 1024) j
    exact ⟨t0_7, (flush0_13 t0_7).mpr rfl, by
      have h := ((cfg0.win 13).blk t0_7).view.emb_mem_set (ix2 q k); rwa [emb13] at h⟩

end Cert.Proof.MlpDx

end
-- ==== Proof.MlpDx.Ref.lean ====
/- The reference's arrays, row by row: the same row functions of the arguments as the kernel's. -/
module

public import proofs.«01_k».proof.Proof.MlpDx.Spec
public import proofs.«01_k».proof.Proof.Gen.MlpDxRefIdeal.Read

@[expose] public section

noncomputable section

namespace Cert.Proof.MlpDx.Ref

open Cert.MlpDxRefIdeal Cert.MlpDxRefIdeal.Gen Cert.MlpDxRefIdeal.Read Idealize.ShloMosaic Idealize.ShloMosaic.TcCoe
open Idealize.ShloMosaic.Pointwise Cert.Proof.RowNorm Cert.Proof.MlpDx

variable (x0 x1 : S2048x1024.Idx → EReal) (x2 x3 : S1024.Idx → EReal) (x4 : S1024x4096.Idx → EReal)
  (x5 : S4096x1024.Idx → EReal) (x6 x7 : S2048x1024.Idx → EReal)

/-- The arguments by row and column. -/
def args : Args where
  x i k := x0 (ix2 i k)
  z i k := x1 (ix2 i k)
  gpm k := x2 (ix1 k)
  gpl k := x3 (ix1 k)
  wu k n := x4 (ix2 k n)
  wd n k := x5 (ix2 n k)
  dx1 i k := x6 (ix2 i k)
  ddn i k := x7 (ix2 i k)

/-! ## The two normalisations -/

theorem v6 (i : Fin 2048) (q : Fin 1) : val_main_v6 (F := Ideal) x1 (ix2 i q) = ms fun k => x1 (ix2 i k) := by
  pointwise [val_main_v6, val_main_v5, val_main_v4, val_main_v3, val_main_v2, val_main_v1, val_main_v0, val_main_cst,
    val_main_cst_0, val_main_cst_1]
  rfl

theorem v7 (i : Fin 2048) (q : Fin 1) : val_main_v7 (F := Ideal) x1 (ix2 i q) = rs fun k => x1 (ix2 i k) := by
  pointwise [val_main_v7]
  rw [v6]
  rfl

theorem v10 (i : Fin 2048) (q : Fin 1) : val_main_v10 (F := Ideal) x1 (ix2 i q)
    = cMinusHalf * Ideal.div (rs fun k => x1 (ix2 i k)) (ms fun k => x1 (ix2 i k)) := by
  pointwise [val_main_v10, val_main_v9, val_main_v8, val_main_cst_2]
  rw [v6, v7]

theorem v12 (i : Fin 2048) (k : Fin 1024) :
    val_main_v12 (F := Ideal) x1 (ix2 i k) = x1 (ix2 i k) * rs fun k => x1 (ix2 i k) := by
  pointwise [val_main_v12, val_main_v11]
  rw [v7]

theorem v16 (i : Fin 2048) (k : Fin 1024) :
    val_main_v16 (F := Ideal) x0 x1 x2 (ix2 i k) = (args x0 x1 x2 x3 x4 x5 x6 x7).xm i k := by
  pointwise [val_main_v16, val_main_v15, val_main_v14, val_main_v13]
  rw [v12]
  rfl

theorem v23 (i : Fin 2048) (q : Fin 1) : val_main_v23 (F := Ideal) x0 x1 x2 (ix2 i q) = ms ((args x0 x1 x2 x3 x4 x5 x6 x7).xm i) := by
  pointwise [val_main_v23, val_main_v22, val_main_v21, val_main_v20, val_main_v19, val_main_v18, val_main_v17,
    val_main_cst_3, val_main_cst_4, val_main_cst_5]
  simp only [v16 x0 x1 x2 x3 x4 x5 x6 x7]
  rfl

theorem v24 (i : Fin 2048) (q : Fin 1) : val_main_v24 (F := Ideal) x0 x1 x2 (ix2 i q) = rs ((args x0 x1 x2 x3 x4 x5 x6 x7).xm i) := by
  pointwise [val_main_v24]
  rw [v23 x0 x1 x2 x3 x4 x5 x6 x7]
  rfl

theorem v27 (i : Fin 2048) (q : Fin 1) : val_main_v27 (F := Ideal) x0 x1 x2 (ix2 i q)
    = cMinusHalf * Ideal.div (rs ((args x0 x1 x2 x3 x4 x5 x6 x7).xm i)) (ms ((args x0 x1 x2 x3 x4 x5 x6 x7).xm i)) := by
  pointwise [val_main_v27, val_main_v26, val_main_v25, val_main_cst_6]
  rw [v23 x0 x1 x2 x3 x4 x5 x6 x7, v24 x0 x1 x2 x3 x4 x5 x6 x7]

theorem v29 (i : Fin 2048) (k : Fin 1024) :
    val_main_v29 (F := Ideal) x0 x1 x2 (ix2 i k) = (args x0 x1 x2 x3 x4 x5 x6 x7).xm i k * rs ((args x0 x1 x2 x3 x4 x5 x6 x7).xm i) := by
  pointwise [val_main_v29, val_main_v28]
  rw [v16 x0 x1 x2 x3 x4 x5 x6 x7, v24 x0 x1 x2 x3 x4 x5 x6 x7]

/-! ## The two products and the squared relu between them -/

theorem v33 (i : Fin 2048) (n : Fin 4096) :
    val_main_v33 (F := Ideal) x0 x1 x2 x3 x4 (ix2 i n) = (args x0 x1 x2 x3 x4 x5 x6 x7).up i n := by
  pointwise [val_main_v33, val_main_v32, val_main_v31, val_main_v30]
  simp only [v29 x0 x1 x2 x3 x4 x5 x6 x7]
  rfl

theorem v45 (i : Fin 2048) (n : Fin 4096) :
    val_main_v45 (F := Ideal) x0 x1 x2 x3 x4 x5 x7 (ix2 i n) = ((args x0 x1 x2 x3 x4 x5 x6 x7).row i).dup n := by
  pointwise [val_main_v45, val_main_v44, val_main_v43, val_main_v42, val_main_v40, val_main_v39, val_main_v36,
    val_main_v35, val_main_v34, val_main_call0_v0, val_main_call0_cst, val_main_cst_7, val_main_cst_9, val_main_cst_10]
  simp only [v33 x0 x1 x2 x3 x4 x5 x6 x7]
  split_ifs with h
  · rfl
  · show (0 : EReal) = (∑ k, x7 (ix2 i k) * x5 (ix2 n k)) * (cTwo * max ((args x0 x1 x2 x3 x4 x5 x6 x7).up i n) 0)
    rw [max_eq_right (not_lt.mp h), mul_zero, mul_zero]

theorem v46 (i : Fin 2048) (k : Fin 1024) :
    val_main_v46 (F := Ideal) x0 x1 x2 x3 x4 x5 x7 (ix2 i k) = ((args x0 x1 x2 x3 x4 x5 x6 x7).row i).dh2 k := by
  pointwise [val_main_v46]
  simp only [v45 x0 x1 x2 x3 x4 x5 x6 x7]
  rfl

theorem v51 (i : Fin 2048) (k : Fin 1024) :
    val_main_v51 (F := Ideal) x0 x1 x2 x3 x4 x5 x7 (ix2 i k) = ((args x0 x1 x2 x3 x4 x5 x6 x7).row i).dh2 k * x3 (ix1 k) := by
  pointwise [val_main_v51, val_main_v50, val_main_v30]
  rw [v46 x0 x1 x2 x3 x4 x5 x6 x7]

theorem v63 (i : Fin 2048) (k : Fin 1024) : val_main_v63 (F := Ideal) x0 x1 x2 x3 x4 x5 x7 (ix2 i k)
    = back ((args x0 x1 x2 x3 x4 x5 x6 x7).xm i) fun l => ((args x0 x1 x2 x3 x4 x5 x6 x7).row i).dh2 l * x3 (ix1 l) := by
  pointwise [val_main_v63, val_main_v62, val_main_v61, val_main_v60, val_main_v59, val_main_v55, val_main_v54,
    val_main_v53, val_main_cst_13, val_main_cst_14, val_main_cst_15]
  simp only [v51 x0 x1 x2 x3 x4 x5 x6 x7, v27 x0 x1 x2 x3 x4 x5 x6 x7, v16 x0 x1 x2 x3 x4 x5 x6 x7, Fin.sum_univ_one]
  rfl

/-! ## The four results -/

theorem v67 (i : Fin 2048) (k : Fin 1024) :
    val_main_v67 (F := Ideal) x0 x1 x2 x3 x4 x5 x6 x7 (ix2 i k) = ((args x0 x1 x2 x3 x4 x5 x6 x7).row i).dx k := by
  pointwise [val_main_v67, val_main_v66, val_main_v65, val_main_v64, val_main_v58, val_main_v57, val_main_v56]
  simp only [v51 x0 x1 x2 x3 x4 x5 x6 x7, v63 x0 x1 x2 x3 x4 x5 x6 x7, v16 x0 x1 x2 x3 x4 x5 x6 x7, v24 x0 x1 x2 x3 x4 x5 x6 x7]
  rfl

theorem v68 (i : Fin 2048) (k : Fin 1024) :
    val_main_v68 (F := Ideal) x0 x1 x2 x3 x4 x5 x6 x7 (ix2 i k) = ((args x0 x1 x2 x3 x4 x5 x6 x7).row i).dx k := by
  unfold val_main_v68
  rw [shapeCast_self, v67]

theorem v73 (i : Fin 2048) (k : Fin 1024) :
    val_main_v73 (F := Ideal) x0 x1 x2 x3 x4 x5 x6 x7 (ix2 i k) = ((args x0 x1 x2 x3 x4 x5 x6 x7).row i).dx k * x2 (ix1 k) := by
  pointwise [val_main_v73, val_main_v72, val_main_v13]
  rw [v68]

theorem v84 (i : Fin 2048) (k : Fin 1024) : val_main_v84 (F := Ideal) x0 x1 x2 x3 x4 x5 x6 x7 (ix2 i k)
    = back (fun l => x1 (ix2 i l)) fun l => ((args x0 x1 x2 x3 x4 x5 x6 x7).row i).dx l * x2 (ix1 l) := by
  pointwise [val_main_v84, val_main_v83, val_main_v82, val_main_v81, val_main_v80, val_main_v77, val_main_v76,
    val_main_v75, val_main_cst_18, val_main_cst_19, val_main_cst_20]
  simp only [v73, v10, Fin.sum_univ_one]
  rfl

theorem v89 (i : Fin 2048) (k : Fin 1024) :
    val_main_v89 (F := Ideal) x0 x1 x2 x3 x4 x5 x6 x7 (ix2 i k) = ((args x0 x1 x2 x3 x4 x5 x6 x7).row i).dz k := by
  pointwise [val_main_v89, val_main_v88, val_main_v87, val_main_v86, val_main_v85, val_main_v79, val_main_v78]
  simp only [v73, v84, v7]
  rfl

theorem v90 (q : Fin 1) (k : Fin 1024) :
    val_main_v90 (F := Ideal) x0 x1 x2 x3 x4 x5 x6 x7 (ix2 q k) = (args x0 x1 x2 x3 x4 x5 x6 x7).da k := by
  pointwise [val_main_v90, val_main_v74, val_main_v71, val_main_v70, val_main_v69, val_main_cst_16, val_main_cst_17]
  simp only [v68, v12, Fin.sum_univ_one]
  rfl

theorem v91 (q : Fin 1) (k : Fin 1024) :
    val_main_v91 (F := Ideal) x0 x1 x2 x3 x4 x5 x7 (ix2 q k) = (args x0 x1 x2 x3 x4 x5 x6 x7).db k := by
  pointwise [val_main_v91, val_main_v52, val_main_v49, val_main_v48, val_main_v47, val_main_cst_11, val_main_cst_12]
  simp only [v46 x0 x1 x2 x3 x4 x5 x6 x7, v29 x0 x1 x2 x3 x4 x5 x6 x7, Fin.sum_univ_one]
  rfl

end Cert.Proof.MlpDx.Ref

end
-- ==== Proof.MlpDx.Equation.lean ====
/- `mlp_dx` computes the reference: both runs end with the same four arrays. -/
module

public import proofs.«01_k».proof.Defs
public import proofs.«01_k».proof.Proof.Gen.MlpDxIdeal
public import proofs.«01_k».proof.Proof.MlpDx.Array
public import proofs.«01_k».proof.Proof.MlpDx.Ref

@[expose] public section

noncomputable section

namespace Cert.Proof.MlpDx

open Idealize.ShloMosaic Idealize.ShloMosaic.TcCoe Idealize.ShloMosaic.Pointwise Idealize.SL.Sem Idealize.ShloMosaic.StableHlo

/-- The reference's arguments on the device, by row and column. -/
abbrev refArgs (m' : (ℓ : Loc Cert.MlpDxRefIdeal.nD Cert.MlpDxRefIdeal.τ Cert.MlpDxRefIdeal.sig) → Buf (Elt Ideal) ℓ)
    (c : Dev Cert.MlpDxRefIdeal.nD) : Args :=
  Ref.args (m' (c.tc.loc Cert.MlpDxRefIdeal.main_arg0)) (m' (c.tc.loc Cert.MlpDxRefIdeal.main_arg1))
    (m' (c.tc.loc Cert.MlpDxRefIdeal.main_arg2)) (m' (c.tc.loc Cert.MlpDxRefIdeal.main_arg3))
    (m' (c.tc.loc Cert.MlpDxRefIdeal.main_arg4)) (m' (c.tc.loc Cert.MlpDxRefIdeal.main_arg5))
    (m' (c.tc.loc Cert.MlpDxRefIdeal.main_arg6)) (m' (c.tc.loc Cert.MlpDxRefIdeal.main_arg7))

theorem algebraic : Cert.algebraic_MlpDxIdeal_MlpDxRefIdeal := by
  intro m g m' g' _ hin
  have ha : ∀ c, refArgs m' c = args m c := fun c => by
    obtain ⟨e0, e1, e2, e3, e4, e5, e6, e7⟩ := hin c
    show Ref.args _ _ _ _ _ _ _ _ = _
    rw [e0, e1, e2, e3, e4, e5, e6, e7]
    rfl
  refine ⟨fun c => gDx m c, fun c => gDz m c, fun c => gDa m c, fun c => gDb m c, ?_, ?_⟩
  · refine (θ_run Cert.MlpDxIdeal.defs _ _).mono (fun r h c => ?_) (Cert.MlpDxIdeal.Value.run_blocks (F := Ideal) m g)
    obtain ⟨_, h0, h1, h2, h3, hargs⟩ := h c
    exact ⟨h0.trans (final10 m c), h1.trans (final11 m c), h2.trans (final12 m c), h3.trans (final13 m c), hargs⟩
  · refine (θ_run Cert.MlpDxRefIdeal.defs _ _).mono (fun r h c => ?_) (Cert.MlpDxRefIdeal.Value.run (F := Ideal) m' g')
    obtain ⟨h0, h1, h2, h3, hargs⟩ := h c
    refine ⟨h0.trans ?_, h1.trans ?_, h2.trans ?_, h3.trans ?_, hargs⟩
    · refine (Cert.MlpDxRefIdeal.Read.val_main_v67_eq (launchContents m' c)).trans ?_
      funext j
      obtain ⟨i, k, rfl⟩ := eq_ix2 (a := 2048) (b := 1024) j
      refine (Ref.v67 _ _ _ _ _ _ _ _ i k).trans ?_
      show ((refArgs m' c).row i).dx k = ((args m c).row i).dx k
      rw [ha]
    · refine (Cert.MlpDxRefIdeal.Read.val_main_v89_eq (launchContents m' c)).trans ?_
      funext j
      obtain ⟨i, k, rfl⟩ := eq_ix2 (a := 2048) (b := 1024) j
      refine (Ref.v89 _ _ _ _ _ _ _ _ i k).trans ?_
      show ((refArgs m' c).row i).dz k = ((args m c).row i).dz k
      rw [ha]
    · refine (Cert.MlpDxRefIdeal.Read.val_main_v90_eq (launchContents m' c)).trans ?_
      funext j
      obtain ⟨q, k, rfl⟩ := eq_ix2 (a := 1) (b := 1024) j
      refine (Ref.v90 _ _ _ _ _ _ _ _ q k).trans ?_
      show (refArgs m' c).da k = (args m c).da k
      rw [ha]
    · refine (Cert.MlpDxRefIdeal.Read.val_main_v91_eq (launchContents m' c)).trans ?_
      funext j
      obtain ⟨q, k, rfl⟩ := eq_ix2 (a := 1) (b := 1024) j
      refine (Ref.v91 _ _ _ _ _ _ (m' (c.tc.loc Cert.MlpDxRefIdeal.main_arg6)) _ q k).trans ?_
      show (refArgs m' c).db k = (args m c).db k
      rw [ha]

end Cert.Proof.MlpDx

end
-- ==== Proof.Gla.Chunk.lean ====
/- One chunk of 64 tokens of the gated linear attention's gradient, as the kernel's body computes it from the chunk's
   blocks and the gradient of the state after the chunk. Each of a grid point's eight chunks is this computation. -/
module

public import proofs.«01_k».proof.Proof.Gen.GlaBwdIdeal.Frame.Runs

@[expose] public section

noncomputable section

namespace Cert.Proof.Gla

open Cert.GlaBwdIdeal Cert.GlaBwdIdeal.Gen Idealize.ShloMosaic

variable {F : FTy → Type} [FloatOps F]

/-- The blocks of a chunk: four heads of `q`, `k`, the log gates and the state before the chunk, and the values and the
    output's gradient as four column blocks, one a head. -/
structure Chunk (F : FTy → Type) where
  q : Vec F S4x64x64 .f32
  k : Vec F S4x64x64 .f32
  la : Vec F S4x64x64 .f32
  v0 : Vec F S64x128 .bf16
  v1 : Vec F S64x128 .bf16
  v2 : Vec F S64x128 .bf16
  v3 : Vec F S64x128 .bf16
  sp : Vec F S4x1x128x64 .f32
  d0 : Vec F S64x128 .f32
  d1 : Vec F S64x128 .f32
  d2 : Vec F S64x128 .f32
  d3 : Vec F S64x128 .f32

namespace Chunk

variable (b : Chunk F)

def vq : FVec F S4x64x64 .f32 := k0_pay6 b.q
def vk : FVec F S4x64x64 .f32 := k0_pay7 b.k
def vv : FVec F S4x64x128 .bf16 := k0_pay8 b.v0 b.v1 b.v2 b.v3
def vl : FVec F S4x64x64 .f32 := k0_pay9 b.la
/-- The running sums of the log gates within the chunk. -/
def cum : FVec F S4x64x64 .f32 := k0_pay11 b.vl
/-- Their last row. -/
def last : FVec F S4x1x64 .f32 := k0_pay12 b.vl
/-- The scaled queries times the decay so far. -/
def qp : FVec F S4x64x64 .f32 := k0_pay16 b.vq b.vl
/-- The masked scores. -/
def score : FVec F S4x64x64 .f32 := k0_pay23 (k0_pay18 b.vq b.vk b.vl) (k0_pay21 b.vq b.vk b.vl) k0_pay22

/-- The decay from a token to the end of the chunk. -/
def rest : FVec F S4x64x64 .f32 := k0_pay24 b.cum b.last

/-- The gradient of the chunk's `q`. -/
def dq : FVec F S4x64x64 .f32 :=
  k0_pay48 b.vv (k0_pay13 b.vl) (k0_pay14 b.vl) (k0_pay17 b.vk b.vl) (k0_pay20 b.vk b.vl) k0_pay22
    (k0_pay35 (k0_pay10 b.sp) b.d0 b.d1 b.d2 b.d3) (k0_pay37 b.d0 b.d1 b.d2 b.d3)
/-- The gradient of the chunk's `k`, from the gradient `s` of the state after the chunk. -/
def dk (s : Vec F S4x128x64 .f32) : FVec F S4x64x64 .f32 :=
  k0_pay47 b.vv (k0_pay13 b.vl) (k0_pay14 b.vl) b.qp (k0_pay19 b.vq b.vl) k0_pay22
    (k0_pay211 s b.vv b.rest) (k0_pay37 b.d0 b.d1 b.d2 b.d3)
/-- The gradient of the chunk's values. -/
def dv (s : Vec F S4x128x64 .f32) : FVec F S4x64x128 .bf16 :=
  k0_pay218 s b.score (mulf b.vk b.rest) b.d0 b.d1 b.d2 b.d3
/-- The gradient of the state before the chunk. -/
def ds (s : Vec F S4x128x64 .f32) : FVec F S4x128x64 .f32 := k0_pay216 s b.qp (k0_pay25 b.last) b.d0 b.d1 b.d2 b.d3

end Chunk

/-- A grid point's blocks: eight chunks. -/
structure Ins (F : FTy → Type) where
  q : Vec F S4x512x64 .f32
  k : Vec F S4x512x64 .f32
  v : Vec F S512x512 .bf16
  la : Vec F S4x512x64 .f32
  sp : Vec F S4x8x128x64 .f32
  d : Vec F S512x512 .f32

theorem inb_rows (j : Fin 8) : ∀ a, (![0, 64 * j.val, 0] : Fin 3 → Nat) a + S4x64x64.size a ≤ S4x512x64.size a := by
  intro a; fin_cases a
  · show 0 + 4 ≤ 4; omega
  · show 64 * j.val + 64 ≤ 512; omega
  · show 0 + 64 ≤ 64; omega
theorem inb_cols (j : Fin 8) (h : Fin 4) :
    ∀ a, (![64 * j.val, 128 * h.val] : Fin 2 → Nat) a + S64x128.size a ≤ S512x512.size a := by
  intro a; fin_cases a
  · show 64 * j.val + 64 ≤ 512; omega
  · show 128 * h.val + 128 ≤ 512; omega
theorem inb_state (j : Fin 8) : ∀ a, (![0, j.val, 0, 0] : Fin 4 → Nat) a + S4x1x128x64.size a ≤ S4x8x128x64.size a := by
  intro a; fin_cases a
  · show 0 + 4 ≤ 4; omega
  · show j.val + 1 ≤ 8; omega
  · show 0 + 128 ≤ 128; omega
  · show 0 + 64 ≤ 64; omega

/-- Chunk `j`'s rows of a head-major block. -/
abbrev rows (j : Fin 8) : Rect S4x512x64 := Rect.unit ![0, 64 * j.val, 0] S4x64x64.size (inb_rows j)
/-- Chunk `j`'s rows and head `h`'s columns of a token-major block. -/
abbrev cols (j : Fin 8) (h : Fin 4) : Rect S512x512 := Rect.unit ![64 * j.val, 128 * h.val] S64x128.size (inb_cols j h)
/-- Chunk `j`'s state. -/
abbrev state (j : Fin 8) : Rect S4x8x128x64 := Rect.unit ![0, j.val, 0, 0] S4x1x128x64.size (inb_state j)

/-- Chunk `j` of the point's blocks. -/
def Ins.chunk (b : Ins F) (j : Fin 8) : Chunk F where
  q := View.ld b.q (rows j)
  k := View.ld b.k (rows j)
  la := View.ld b.la (rows j)
  v0 := View.ld b.v (cols j 0)
  v1 := View.ld b.v (cols j 1)
  v2 := View.ld b.v (cols j 2)
  v3 := View.ld b.v (cols j 3)
  sp := View.ld b.sp (state j)
  d0 := View.ld b.d (cols j 0)
  d1 := View.ld b.d (cols j 1)
  d2 := View.ld b.d (cols j 2)
  d3 := View.ld b.d (cols j 3)

/-- The gradient of the state as chunk `7 - n` finds it, the point starting with `s`. -/
def Ins.ds (b : Ins F) (s : Vec F S4x128x64 .f32) : ℕ → Vec F S4x128x64 .f32
  | 0 => k0_pay27 s
  | n + 1 => (b.chunk (Fin.ofNat 8 (7 - n))).ds (b.ds s n)

/-- The pieces of the block of the gradient of `q`. -/
def Ins.dqPieces (b : Ins F) : List (View.Piece (Elt F) S4x512x64 .bf16) :=
  List.ofFn fun j : Fin 8 => ⟨rows j, k0_pay53 (b.chunk j).dq⟩
/-- The pieces of the block of the gradient of `k`. -/
def Ins.dkPieces (b : Ins F) (s : Vec F S4x128x64 .f32) : List (View.Piece (Elt F) S4x512x64 .bf16) :=
  List.ofFn fun j : Fin 8 => ⟨rows j, k0_pay54 ((b.chunk j).dk (b.ds s (7 - j.val)))⟩
/-- The pieces of the block of the gradient of the values: four heads a chunk. -/
def Ins.dvPieces (b : Ins F) (s : Vec F S4x128x64 .f32) : List (View.Piece (Elt F) S512x512 .bf16) :=
  (List.ofFn fun j : Fin 8 =>
    let w := (b.chunk j).dv (b.ds s (7 - j.val))
    [⟨cols j 3, k0_pay58 w⟩, ⟨cols j 2, k0_pay57 w⟩, ⟨cols j 1, k0_pay56 w⟩, ⟨cols j 0, k0_pay55 w⟩]).flatten

end Cert.Proof.Gla

end
-- ==== Proof.Gla.Block.lean ====
/- One grid point of the recurrences' backward pass: what its body leaves in the blocks of the gradients of q, k and the
   values and in the carried gradient of the state, as functions of the point's blocks and of the state it starts with. -/
module

public import proofs.«01_k».proof.Proof.Gen.GlaBwdIdeal.Value
public import proofs.«01_k».proof.Proof.Gla.Chunk

@[expose] public section

set_option maxRecDepth 65536

noncomputable section

namespace Cert.Proof.Gla

open Cert.GlaBwdIdeal Cert.GlaBwdIdeal.Gen Idealize.ShloMosaic Idealize.ShloMosaic.TcCoe Idealize.ShloMosaic.Tactic

variable {F : FTy → Type} [FloatOps F]

/-- The whole carried state. -/
abbrev whole : Rect S4x128x64 := Rect.unit ![0, 0, 0] S4x128x64.size inb_S4x128x64_S4x128x64_0_0_0

theorem hz3 : (![0, 0, 0] : Fin 3 → Nat) = fun _ => 0 := funext fun a => by fin_cases a <;> rfl

/-- What a point that starts with `s` leaves of the carried state. -/
def Ins.after (b : Ins F) (s : Vec F S4x128x64 .f32) : FVec F S4x128x64 .f32 := k0_pay1447 (b.ds s 8)

section CaseA

/-! The first point starts with zero. -/

variable (c : Dev nD) (i : grid0.Coords) (arg1 : Memref sig .tc .vmem S4x512x64 .f32) (harg1 : arg1.IsWhole) (arg2 : Memref sig .tc .vmem S4x512x64 .f32) (harg2 : arg2.IsWhole) (arg3 : Memref sig .tc .vmem S512x512 .bf16) (harg3 : arg3.IsWhole) (arg4 : Memref sig .tc .vmem S4x512x64 .f32) (harg4 : arg4.IsWhole) (arg5 : Memref sig .tc .vmem S4x8x128x64 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S4x8x1x64 .f32) (harg10 : arg10.IsWhole) (arg11 : Memref sig .tc .vmem S4x8x1x64 .f32) (harg11 : arg11.IsWhole) (arg12 : Memref sig .tc .vmem S4x8x128x128 .f32) (harg12 : arg12.IsWhole) (arg13 : Memref sig .tc .vmem S4x8x1x128 .f32) (harg13 : arg13.IsWhole) (arg14 : Memref sig .tc .vmem S4x8x1x128 .f32) (harg14 : arg14.IsWhole) (arg15 : Memref sig .tc .vmem S512x512 .f32) (harg15 : arg15.IsWhole) (arg16 : Memref sig .tc .vmem S4x512x64 .bf16) (harg16 : arg16.IsWhole) (arg17 : Memref sig .tc .vmem S4x512x64 .bf16) (harg17 : arg17.IsWhole) (arg18 : Memref sig .tc .vmem S512x512 .bf16) (harg18 : arg18.IsWhole) (arg19 : Memref sig .tc .vmem S4x512x64 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S4x8x1x64 .f32) (harg23 : arg23.IsWhole) (arg24 : Memref sig .tc .vmem S4x8x1x64 .f32) (harg24 : arg24.IsWhole) (arg25 : Memref sig .tc .vmem S4x128x64 .f32) (harg25 : arg25.IsWhole) (arg26 : Memref sig .tc .vmem S4x128x128 .f32) (harg26 : arg26.IsWhole) (arg27 : Memref sig .tc .vmem S4x1x128 .f32) (harg27 : arg27.IsWhole) (arg28 : Memref sig .tc .vmem S4x1x128 .f32) (harg28 : arg28.IsWhole) (hc0 : cond0_0 i)
    (x0 : Vec F S4x512x64 .f32) (x1 : Vec F S4x512x64 .f32) (x2 : Vec F S512x512 .bf16) (x3 : Vec F S4x512x64 .f32) (x4 : Vec F S4x8x128x64 .f32) (x5 : Vec F S512x512 .f32) (x6 : Vec F S512x512 .f32) (x7 : Vec F S512x512 .f32) (x8 : Vec F S512x512 .f32) (x9 : Vec F S4x8x1x64 .f32) (x10 : Vec F S4x8x1x64 .f32) (x11 : Vec F S4x8x128x128 .f32) (x12 : Vec F S4x8x1x128 .f32) (x13 : Vec F S4x8x1x128 .f32) (x14 : Vec F S512x512 .f32)

theorem run_A_15 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14).1 =
    Ins.dqPieces ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5)⟩ := by sl_kernel_rfl

theorem out_A_15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 =
    View.canon (Ins.dqPieces ⟨x0, x1, x2, x3, x4, x5⟩) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14), run_A_15]
  simp only [harg1.read_unread, harg2.read_unread, harg3.read_unread, harg4.read_unread, harg5.read_unread, harg6.read_unread]

theorem run_A_16 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14).2.1 =
    Ins.dkPieces ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5)⟩ (arg25.view.readCov [(⟨whole, k0_pay1⟩ : View.Piece (Elt F) _ _)] whole.toLoadRect) := by sl_kernel_rfl

theorem out_A_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 =
    View.canon (Ins.dkPieces ⟨x0, x1, x2, x3, x4, x5⟩ k0_pay1) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14), run_A_16]
  simp only [harg1.read_unread, harg2.read_unread, harg3.read_unread, harg4.read_unread, harg5.read_unread, harg6.read_unread, View.readCov_unit_zero (S := S4x128x64) _ hz3]

theorem run_A_17 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14).2.2.1 =
    Ins.dvPieces ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5)⟩ (arg25.view.readCov [(⟨whole, k0_pay1⟩ : View.Piece (Elt F) _ _)] whole.toLoadRect) := by sl_kernel_rfl

theorem out_A_17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 =
    View.canon (Ins.dvPieces ⟨x0, x1, x2, x3, x4, x5⟩ k0_pay1) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14), run_A_17]
  simp only [harg1.read_unread, harg2.read_unread, harg3.read_unread, harg4.read_unread, harg5.read_unread, harg6.read_unread, View.readCov_unit_zero (S := S4x128x64) _ hz3]

theorem run_A_s : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14).2.2.2.2.2.2.2.2.2.1 =
    [⟨whole, Ins.after ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5)⟩ (arg25.view.readCov [(⟨whole, k0_pay1⟩ : View.Piece (Elt F) _ _)] whole.toLoadRect)⟩, ⟨whole, k0_pay1⟩] := by sl_kernel_rfl

theorem out_A_s : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 = Ins.after ⟨x0, x1, x2, x3, x4, x5⟩ k0_pay1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14), run_A_s, View.canon_cons_unit_zero hz3]
  simp only [harg1.read_unread, harg2.read_unread, harg3.read_unread, harg4.read_unread, harg5.read_unread, harg6.read_unread, View.readCov_unit_zero (S := S4x128x64) _ hz3]

end CaseA

section CaseB

/-! A later point starts with what the point before left. -/

variable (c : Dev nD) (i : grid0.Coords) (arg1 : Memref sig .tc .vmem S4x512x64 .f32) (harg1 : arg1.IsWhole) (arg2 : Memref sig .tc .vmem S4x512x64 .f32) (harg2 : arg2.IsWhole) (arg3 : Memref sig .tc .vmem S512x512 .bf16) (harg3 : arg3.IsWhole) (arg4 : Memref sig .tc .vmem S4x512x64 .f32) (harg4 : arg4.IsWhole) (arg5 : Memref sig .tc .vmem S4x8x128x64 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S4x8x1x64 .f32) (harg10 : arg10.IsWhole) (arg11 : Memref sig .tc .vmem S4x8x1x64 .f32) (harg11 : arg11.IsWhole) (arg12 : Memref sig .tc .vmem S4x8x128x128 .f32) (harg12 : arg12.IsWhole) (arg13 : Memref sig .tc .vmem S4x8x1x128 .f32) (harg13 : arg13.IsWhole) (arg14 : Memref sig .tc .vmem S4x8x1x128 .f32) (harg14 : arg14.IsWhole) (arg15 : Memref sig .tc .vmem S512x512 .f32) (harg15 : arg15.IsWhole) (arg16 : Memref sig .tc .vmem S4x512x64 .bf16) (harg16 : arg16.IsWhole) (arg17 : Memref sig .tc .vmem S4x512x64 .bf16) (harg17 : arg17.IsWhole) (arg18 : Memref sig .tc .vmem S512x512 .bf16) (harg18 : arg18.IsWhole) (arg19 : Memref sig .tc .vmem S4x512x64 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S4x8x1x64 .f32) (harg23 : arg23.IsWhole) (arg24 : Memref sig .tc .vmem S4x8x1x64 .f32) (harg24 : arg24.IsWhole) (arg25 : Memref sig .tc .vmem S4x128x64 .f32) (harg25 : arg25.IsWhole) (arg26 : Memref sig .tc .vmem S4x128x128 .f32) (harg26 : arg26.IsWhole) (arg27 : Memref sig .tc .vmem S4x1x128 .f32) (harg27 : arg27.IsWhole) (arg28 : Memref sig .tc .vmem S4x1x128 .f32) (harg28 : arg28.IsWhole) (hc0 : ¬cond0_0 i)
    (x0 : Vec F S4x512x64 .f32) (x1 : Vec F S4x512x64 .f32) (x2 : Vec F S512x512 .bf16) (x3 : Vec F S4x512x64 .f32) (x4 : Vec F S4x8x128x64 .f32) (x5 : Vec F S512x512 .f32) (x6 : Vec F S512x512 .f32) (x7 : Vec F S512x512 .f32) (x8 : Vec F S512x512 .f32) (x9 : Vec F S4x8x1x64 .f32) (x10 : Vec F S4x8x1x64 .f32) (x11 : Vec F S4x8x128x128 .f32) (x12 : Vec F S4x8x1x128 .f32) (x13 : Vec F S4x8x1x128 .f32) (x14 : Vec F S512x512 .f32) (xs0 : Vec F S4x128x64 .f32) (xs1 : Vec F S4x128x128 .f32) (xs2 : Vec F S4x1x128 .f32) (xs3 : Vec F S4x1x128 .f32)

theorem run_B_15 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3).1 =
    Ins.dqPieces ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5)⟩ := by sl_kernel_rfl

theorem out_B_15 : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3 =
    View.canon (Ins.dqPieces ⟨x0, x1, x2, x3, x4, x5⟩) := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3), run_B_15]
  simp only [harg1.read_unread, harg2.read_unread, harg3.read_unread, harg4.read_unread, harg5.read_unread, harg6.read_unread]

theorem run_B_16 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3).2.1 =
    Ins.dkPieces ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5)⟩ (View.ld (arg25.view.read (Elt F) (harg25.unread xs0)) whole) := by sl_kernel_rfl

theorem out_B_16 : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3 =
    View.canon (Ins.dkPieces ⟨x0, x1, x2, x3, x4, x5⟩ xs0) := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3), run_B_16]
  simp only [harg1.read_unread, harg2.read_unread, harg3.read_unread, harg4.read_unread, harg5.read_unread, harg6.read_unread, harg25.read_unread, View.ld_unit_zero (S := S4x128x64) hz3]

theorem run_B_17 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3).2.2.1 =
    Ins.dvPieces ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5)⟩ (View.ld (arg25.view.read (Elt F) (harg25.unread xs0)) whole) := by sl_kernel_rfl

theorem out_B_17 : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3 =
    View.canon (Ins.dvPieces ⟨x0, x1, x2, x3, x4, x5⟩ xs0) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3), run_B_17]
  simp only [harg1.read_unread, harg2.read_unread, harg3.read_unread, harg4.read_unread, harg5.read_unread, harg6.read_unread, harg25.read_unread, View.ld_unit_zero (S := S4x128x64) hz3]

theorem run_B_s : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3).2.2.2.2.2.2.2.2.2.1 =
    [⟨whole, Ins.after ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5)⟩ (View.ld (arg25.view.read (Elt F) (harg25.unread xs0)) whole)⟩] := by sl_kernel_rfl

theorem out_B_s : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3 = Ins.after ⟨x0, x1, x2, x3, x4, x5⟩ xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 xs0 xs1 xs2 xs3), run_B_s, View.canon_cons_unit_zero hz3]
  simp only [harg1.read_unread, harg2.read_unread, harg3.read_unread, harg4.read_unread, harg5.read_unread, harg6.read_unread, harg25.read_unread, View.ld_unit_zero (S := S4x128x64) hz3]

end CaseB

end Cert.Proof.Gla

end
-- ==== Proof.Gla.Spec.lean ====
/- The gradient of one chunk of gated linear attention for one head, as functions of the chunk's rows. -/
module

public import Idealize.ShloMosaic.Lib.Pointwise

@[expose] public section

noncomputable section

namespace Cert.Proof.Gla

open Idealize.ShloMosaic
open scoped BigOperators

/-- What a head sees of a chunk: 64 tokens of queries, keys and log gates (64 columns) and of values and of the output's
    gradient (128 columns), and the state before the chunk (64 by 128). -/
structure Head where
  q : Fin 64 → Fin 64 → EReal
  k : Fin 64 → Fin 64 → EReal
  la : Fin 64 → Fin 64 → EReal
  v : Fin 64 → Fin 128 → EReal
  s : Fin 64 → Fin 128 → EReal
  d : Fin 64 → Fin 128 → EReal

namespace Head

variable (b : Head)

/-- The running sum of the log gates. -/
def cum (t e : Fin 64) : EReal := ∑ i : Fin 64, if i ≤ t then b.la i e else 0
def ep (t e : Fin 64) : EReal := Ideal.exp (b.cum t e)
def en (t e : Fin 64) : EReal := Ideal.exp (-b.cum t e)
/-- The decay from a token to the chunk's end. -/
def rest (t e : Fin 64) : EReal := Ideal.exp (b.cum (Fin.last 63) e - b.cum t e)
/-- The decay over the whole chunk. -/
def decay (e : Fin 64) : EReal := Ideal.exp (b.cum (Fin.last 63) e)
/-- The scale of the queries. -/
def c : EReal := Ideal.ofBits .f32 1040187392#32
def qs (t e : Fin 64) : EReal := b.q t e * c
/-- The score of token `r` for token `t`: past tokens decay forwards, later ones backwards. -/
def sc (t r : Fin 64) : EReal :=
  if r ≤ t then ∑ e, (b.qs t e * b.ep t e) * (b.k r e * b.en r e) else ∑ e, (b.qs t e * b.en t e) * (b.k r e * b.ep r e)
/-- The gradient of a score. -/
def dsc (t r : Fin 64) : EReal := ∑ w, b.d t w * b.v r w
def fwd (t r : Fin 64) : EReal := if r ≤ t then b.dsc t r else 0
def bwd (t r : Fin 64) : EReal := if r ≤ t then 0 else b.dsc t r

/-- The gradient of the queries. -/
def dq (t e : Fin 64) : EReal :=
  ((∑ w, b.d t w * b.s e w) * b.ep t e + (∑ r, b.bwd t r * (b.k r e * b.ep r e)) * b.en t e
    + (∑ r, b.fwd t r * (b.k r e * b.en r e)) * b.ep t e) * c
/-- The gradient of the keys, from the gradient of the state after the chunk. -/
def dk (G : Fin 64 → Fin 128 → EReal) (t e : Fin 64) : EReal :=
  (∑ r, b.bwd r t * (b.qs r e * b.en r e)) * b.ep t e + (∑ r, b.fwd r t * (b.qs r e * b.ep r e)) * b.en t e
    + (∑ w, G e w * b.v t w) * b.rest t e
/-- The gradient of the values. -/
def dv (G : Fin 64 → Fin 128 → EReal) (t : Fin 64) (w : Fin 128) : EReal :=
  (∑ r, b.d r w * b.sc r t) + ∑ e, G e w * (b.k t e * b.rest t e)
/-- The gradient of the state before the chunk. -/
def ds (G : Fin 64 → Fin 128 → EReal) (e : Fin 64) (w : Fin 128) : EReal :=
  (∑ r, (b.qs r e * b.ep r e) * b.d r w) + b.decay e * G e w

/-- Every log gate is a real number. -/
def Finite : Prop := ∀ t e, b.la t e ≠ ⊤ ∧ b.la t e ≠ ⊥

variable {b}

theorem cum_real (h : b.Finite) (t e : Fin 64) : b.cum t e ≠ ⊤ ∧ b.cum t e ≠ ⊥ := by
  unfold cum
  refine Finset.sum_induction _ (fun x => x ≠ ⊤ ∧ x ≠ ⊥) (fun x y hx hy => ?_) ⟨EReal.zero_ne_top, EReal.zero_ne_bot⟩ (fun i _ => ?_)
  · lift x to ℝ using hx
    lift y to ℝ using hy
    rw [← EReal.coe_add]
    exact ⟨EReal.coe_ne_top _, EReal.coe_ne_bot _⟩
  · split
    · exact h i e
    · exact ⟨EReal.zero_ne_top, EReal.zero_ne_bot⟩

theorem ep_real (h : b.Finite) (t e : Fin 64) : 0 ≤ b.ep t e ∧ b.ep t e ≠ ⊤ := by
  unfold ep
  have hc := cum_real h t e
  generalize b.cum t e = x at hc
  lift x to ℝ using hc
  exact ⟨EReal.coe_nonneg.2 (Real.exp_nonneg x), EReal.coe_ne_top _⟩

theorem cum_last (e : Fin 64) : b.cum (Fin.last 63) e = ∑ i, b.la i e :=
  Finset.sum_congr rfl fun i _ => if_pos (Fin.le_last i)

end Head

/-- The kernel's arguments by token and column: 2048 tokens, four heads side by side; a state per head and chunk. -/
structure Args where
  q : Fin 2048 → Fin 256 → EReal
  k : Fin 2048 → Fin 256 → EReal
  la : Fin 2048 → Fin 256 → EReal
  v : Fin 2048 → Fin 512 → EReal
  d : Fin 2048 → Fin 512 → EReal
  s : Fin 4 → Fin 32 → Fin 64 → Fin 128 → EReal

/-- Token `t` of chunk `n`. -/
abbrev tok (n : Fin 32) (t : Fin 64) : Fin 2048 := ⟨n.val * 64 + t.val, by omega⟩
/-- Column `e` of head `h`'s queries, keys and gates. -/
abbrev colk (h : Fin 4) (e : Fin 64) : Fin 256 := ⟨h.val * 64 + e.val, by omega⟩
/-- Column `w` of head `h`'s values. -/
abbrev colv (h : Fin 4) (w : Fin 128) : Fin 512 := ⟨h.val * 128 + w.val, by omega⟩

namespace Args

variable (a : Args)

/-- What head `h` sees of chunk `n`. -/
def head (h : Fin 4) (n : Fin 32) : Head where
  q t e := a.q (tok n t) (colk h e)
  k t e := a.k (tok n t) (colk h e)
  la t e := a.la (tok n t) (colk h e)
  v t w := a.v (tok n t) (colv h w)
  s e w := a.s h n e w
  d t w := a.d (tok n t) (colv h w)

/-- The gradient of the state after the chunk that has `n` chunks behind it: nothing reads the last state; each chunk
    hands the gradient of the state it starts from to the chunk before. -/
def G (h : Fin 4) : ℕ → Fin 64 → Fin 128 → EReal
  | 0 => fun _ _ => 0
  | n + 1 => (a.head h (Fin.ofNat 32 (31 - n))).ds (G h n)

/-- The three gradients by head, chunk, token and column. -/
def dq (h : Fin 4) (n : Fin 32) (t e : Fin 64) : EReal := (a.head h n).dq t e
def dk (h : Fin 4) (n : Fin 32) (t e : Fin 64) : EReal := (a.head h n).dk (a.G h (31 - n.val)) t e
def dv (h : Fin 4) (n : Fin 32) (t : Fin 64) (w : Fin 128) : EReal := (a.head h n).dv (a.G h (31 - n.val)) t w

/-- Every log gate is a real number. -/
def Finite : Prop := ∀ r e, a.la r e ≠ ⊤ ∧ a.la r e ≠ ⊥

end Args

/-- The comparison of two row numbers below 64. -/
theorem sle_row : ∀ x t : Fin 64, IntOp.cmpi .sle (BitVec.ofNat 32 x.val) (BitVec.ofNat 32 t.val) = if x ≤ t then 1#1 else 0#1 := by
  decide +kernel
theorem sge_row : ∀ t x : Fin 64, IntOp.cmpi .sge (BitVec.ofNat 32 t.val) (BitVec.ofNat 32 x.val) = if x ≤ t then 1#1 else 0#1 := by
  decide +kernel

/-- A choice by a decided mask. -/
theorem select_ite {α : Type} (P : Prop) [Decidable P] (x y : α) : Scalar.select (if P then 1#1 else 0#1) x y = if P then x else y := by
  split
  · rfl
  · rfl

end Cert.Proof.Gla

end
-- ==== Proof.Gla.ChunkValue.lean ====
/- What a chunk computes, read exactly: the head's functions of the chunk's rows, where the log gates are real. -/
module

public import proofs.«01_k».proof.Proof.Gla.Spec
public import proofs.«01_k».proof.Proof.Gla.Chunk

@[expose] public section

noncomputable section

namespace Cert.Proof.Gla.Chunk

open Cert.GlaBwdIdeal Cert.GlaBwdIdeal.Gen Idealize.ShloMosaic Idealize.ShloMosaic.Pointwise Cert.Proof.Gla
open scoped BigOperators

variable (b : Chunk Ideal)

/-- Head `h`'s column block of the values. -/
def vh (h : Fin 4) : S64x128.Idx → EReal := match h with | 0 => b.v0 | 1 => b.v1 | 2 => b.v2 | 3 => b.v3
/-- Head `h`'s column block of the output's gradient. -/
def dh (h : Fin 4) : S64x128.Idx → EReal := match h with | 0 => b.d0 | 1 => b.d1 | 2 => b.d2 | 3 => b.d3

/-- What head `h` sees of the chunk. -/
def head (h : Fin 4) : Head where
  q t e := b.q (ix3 h t e)
  k t e := b.k (ix3 h t e)
  la t e := b.la (ix3 h t e)
  v t w := b.vh h (ix2 t w)
  s e w := b.sp (ix4 h 0 w e)
  d t w := b.dh h (ix2 t w)

section Blocks
variable (h : Fin 4) (t e : Fin 64) (w : Fin 128)

theorem vq_apply : b.vq (ix3 h t e) = (b.head h).q t e := by
  show k0_pay6 b.q (ix3 h t e) = b.q (ix3 h t e)
  pointwise [k0_pay6]
theorem vk_apply : b.vk (ix3 h t e) = (b.head h).k t e := by
  show k0_pay7 b.k (ix3 h t e) = b.k (ix3 h t e)
  pointwise [k0_pay7]
theorem vl_apply : b.vl (ix3 h t e) = (b.head h).la t e := by
  show k0_pay9 b.la (ix3 h t e) = b.la (ix3 h t e)
  pointwise [k0_pay9]
theorem vv_apply : b.vv (ix3 h t w) = (b.head h).v t w := by
  show k0_pay8 b.v0 b.v1 b.v2 b.v3 (ix3 h t w) = b.vh h (ix2 t w)
  match h with
  | 0 => show _ = b.v0 (ix2 t w); pointwise [k0_pay8]
  | 1 => show _ = b.v1 (ix2 t w); pointwise [k0_pay8]
  | 2 => show _ = b.v2 (ix2 t w); pointwise [k0_pay8]
  | 3 => show _ = b.v3 (ix2 t w); pointwise [k0_pay8]
theorem d_apply : k0_pay26 b.d0 b.d1 b.d2 b.d3 (ix3 h t w) = (b.head h).d t w := by
  show k0_pay26 b.d0 b.d1 b.d2 b.d3 (ix3 h t w) = b.dh h (ix2 t w)
  match h with
  | 0 => show _ = b.d0 (ix2 t w); pointwise [k0_pay26]
  | 1 => show _ = b.d1 (ix2 t w); pointwise [k0_pay26]
  | 2 => show _ = b.d2 (ix2 t w); pointwise [k0_pay26]
  | 3 => show _ = b.d3 (ix2 t w); pointwise [k0_pay26]
theorem d37_apply : k0_pay37 b.d0 b.d1 b.d2 b.d3 (ix3 h t w) = (b.head h).d t w := by
  rw [← d_apply]
  pointwise [k0_pay37]
theorem d209_apply : k0_pay209 b.d0 b.d1 b.d2 b.d3 (ix3 h t w) = (b.head h).d t w := by
  rw [← d_apply]
  pointwise [k0_pay209, k0_pay26]
theorem sp_apply (e : Fin 64) (w : Fin 128) : k0_pay10 b.sp (ix3 h w e) = (b.head h).s e w := by
  show k0_pay10 b.sp (ix3 h w e) = b.sp (ix4 h 0 w e)
  pointwise [k0_pay10]

theorem mask_apply (t r : Fin 64) : k0_pay22 (ix3 h t r) = if r ≤ t then 1#1 else 0#1 := by
  rw [← sge_row]
  pointwise [k0_pay22]
end Blocks

theorem sub_self_real {x : EReal} (h : x ≠ ⊤ ∧ x ≠ ⊥) : x - x = 0 := by
  lift x to ℝ using h
  rw [← EReal.coe_sub, sub_self, EReal.coe_zero]

variable {b}
variable (fin : ∀ h, (b.head h).Finite) (h : Fin 4) (t e : Fin 64)
include fin

theorem cum_apply : b.cum (ix3 h t e) = (b.head h).cum t e := by
  have f : ∀ x : Fin 64, b.vl (ix3 h x e) - b.vl (ix3 h x e) = 0 := fun x => by
    rw [vl_apply]; exact sub_self_real (fin h x e)
  show k0_pay11 b.vl (ix3 h t e) = ∑ i : Fin 64, _
  pointwise [k0_pay11]
  simp only [f, sub_self_real ⟨EReal.zero_ne_top, EReal.zero_ne_bot⟩, mul_zero, Finset.sum_const_zero, add_zero]
  refine Finset.sum_congr rfl fun i _ => ?_
  rw [sle_row, vl_apply]
  have one : (FloatOps.sitofp (F := Ideal) FTy.f32 (BitVec.setWidth 32 1#1) : EReal) = 1 := by
    show (((1#32 : BitVec 32).toInt : ℝ) : EReal) = 1
    norm_num
  have zero : (FloatOps.sitofp (F := Ideal) FTy.f32 (BitVec.setWidth 32 0#1) : EReal) = 0 := by
    show (((0#32 : BitVec 32).toInt : ℝ) : EReal) = 0
    norm_num
  split
  · rw [one, one_mul]
  · rw [zero, zero_mul]

theorem ep_apply : k0_pay13 b.vl (ix3 h t e) = (b.head h).ep t e := by
  have hc := cum_apply fin h t e
  unfold cum at hc
  pointwise [k0_pay13]
  rw [hc]
  rfl

theorem en_apply : k0_pay14 b.vl (ix3 h t e) = (b.head h).en t e := by
  have hc := cum_apply fin h t e
  unfold cum at hc
  pointwise [k0_pay14]
  rw [hc, zero_sub]
  rfl

omit fin in
theorem last_apply : b.last (ix3 h 0 e) = (b.head h).cum (Fin.last 63) e := by
  rw [Head.cum_last]
  show k0_pay12 b.vl (ix3 h 0 e) = _
  pointwise [k0_pay12]
  exact Finset.sum_congr rfl fun i _ => vl_apply b h i e

theorem rest_apply : b.rest (ix3 h t e) = (b.head h).rest t e := by
  show k0_pay24 b.cum b.last (ix3 h t e) = _
  pointwise [k0_pay24]
  rw [cum_apply fin, last_apply]
  rfl

omit fin in
theorem decay_apply : k0_pay25 b.last (ix3 h 0 e) = (b.head h).decay e := by
  pointwise [k0_pay25]
  rw [last_apply]
  rfl

omit fin in
theorem qs_apply : k0_pay15 b.vq (ix3 h t e) = (b.head h).qs t e := by
  pointwise [k0_pay15]
  rw [vq_apply]
  rfl

theorem qp_apply : k0_pay16 b.vq b.vl (ix3 h t e) = (b.head h).qs t e * (b.head h).ep t e := by
  rw [← qs_apply, ← ep_apply fin]
  pointwise [k0_pay16]
theorem kn_apply : k0_pay17 b.vk b.vl (ix3 h t e) = (b.head h).k t e * (b.head h).en t e := by
  rw [← vk_apply, ← en_apply fin]
  pointwise [k0_pay17]
theorem qn_apply : k0_pay19 b.vq b.vl (ix3 h t e) = (b.head h).qs t e * (b.head h).en t e := by
  rw [← qs_apply, ← en_apply fin]
  pointwise [k0_pay19]
theorem kp_apply : k0_pay20 b.vk b.vl (ix3 h t e) = (b.head h).k t e * (b.head h).ep t e := by
  rw [← vk_apply, ← ep_apply fin]
  pointwise [k0_pay20]

theorem score_apply (r : Fin 64) : b.score (ix3 h t r) = (b.head h).sc t r := by
  show k0_pay23 (k0_pay18 b.vq b.vk b.vl) (k0_pay21 b.vq b.vk b.vl) k0_pay22 (ix3 h t r) = _
  pointwise [k0_pay23, k0_pay18, k0_pay21]
  rw [mask_apply, select_ite]
  simp only [qp_apply fin, kn_apply fin, qn_apply fin, kp_apply fin]
  rfl

section Masked
omit fin

/-- The products of the output's gradient with the values. -/
theorem dsc_apply (r : Fin 64) :
    k0_pay38 b.vv (k0_pay37 b.d0 b.d1 b.d2 b.d3) (ix3 h t r) = (b.head h).dsc t r := by
  pointwise [k0_pay38]
  simp only [d37_apply, vv_apply]
  rfl
theorem zero_apply (r : Fin 64) : k0_pay40 (F := Ideal) (ix3 h t r) = 0 := by
  pointwise [k0_pay40]
theorem bwd_apply (r : Fin 64) :
    k0_pay41 b.vv k0_pay22 (k0_pay37 b.d0 b.d1 b.d2 b.d3) (ix3 h t r) = (b.head h).bwd t r := by
  pointwise [k0_pay41]
  rw [mask_apply, select_ite, dsc_apply, zero_apply]
  rfl
theorem fwd_apply (r : Fin 64) :
    k0_pay42 b.vv k0_pay22 (k0_pay37 b.d0 b.d1 b.d2 b.d3) (ix3 h t r) = (b.head h).fwd t r := by
  pointwise [k0_pay42]
  rw [mask_apply, select_ite, dsc_apply, zero_apply]
  rfl
end Masked

/-- The chunk's gradient of the queries. -/
theorem dq_apply : b.dq (ix3 h t e) = (b.head h).dq t e := by
  unfold dq Head.dq
  pointwise [k0_pay48, k0_pay43, k0_pay46, k0_pay35]
  simp only [bwd_apply, fwd_apply, kp_apply fin, kn_apply fin, en_apply fin, ep_apply fin, d_apply, sp_apply]
  rw [EReal.right_distrib_of_nonneg_of_ne_top (Head.ep_real (fin h) t e).1 (Head.ep_real (fin h) t e).2,
    ← add_assoc, add_comm (Finset.sum _ _ * _)]
  rfl

variable (s : Vec Ideal S4x128x64 .f32)

/-- The chunk's gradient of the keys. -/
theorem dk_apply : b.dk s (ix3 h t e) = (b.head h).dk (fun e w => s (ix3 h w e)) t e := by
  unfold dk Head.dk qp
  pointwise [k0_pay47, k0_pay44, k0_pay45, k0_pay211, k0_pay210]
  simp only [bwd_apply, fwd_apply, qp_apply fin, qn_apply fin, en_apply fin, ep_apply fin, vv_apply, rest_apply fin]
  rw [add_assoc, add_comm]
  simp only [mul_comm]

/-- The chunk's gradient of the values. -/
theorem dv_apply (w : Fin 128) : b.dv s (ix3 h t w) = (b.head h).dv (fun e w => s (ix3 h w e)) t w := by
  unfold dv Head.dv
  pointwise [k0_pay218]
  simp only [score_apply fin, rest_apply fin, vk_apply, d209_apply]
  rw [add_comm]
  simp only [mul_comm]

/-- The chunk's gradient of the state before it. -/
theorem ds_apply (w : Fin 128) : b.ds s (ix3 h w e) = (b.head h).ds (fun e w => s (ix3 h w e)) e w := by
  unfold ds Head.ds qp
  pointwise [k0_pay216]
  simp only [qp_apply fin, decay_apply, d209_apply]
  rw [add_comm]
  simp only [mul_comm]

end Cert.Proof.Gla.Chunk

end
-- ==== Proof.Gla.BlockValue.lean ====
/- A grid point's blocks, read exactly: at row `64 j + t` the head's functions of chunk `j`'s rows. -/
module

public import proofs.«01_k».proof.Proof.Gla.ChunkValue
public import Idealize.ShloMosaic.Lib.Pipeline.Value

@[expose] public section

noncomputable section

namespace Cert.Proof.Gla.Ins

open Cert.GlaBwdIdeal Cert.GlaBwdIdeal.Gen Idealize.ShloMosaic Idealize.ShloMosaic.Pointwise Cert.Proof.Gla
open scoped BigOperators

/-- Row `t` of chunk `j`. -/
abbrev row (j : Fin 8) (t : Fin 64) : Fin 512 := ⟨64 * j.val + t.val, by omega⟩
/-- Column `w` of head `h`. -/
abbrev col (h : Fin 4) (w : Fin 128) : Fin 512 := ⟨128 * h.val + w.val, by omega⟩

theorem row_split (r : Fin 512) : ∃ j t, row j t = r :=
  ⟨⟨r.val / 64, by omega⟩, ⟨r.val % 64, by omega⟩, Fin.ext (by show 64 * (r.val / 64) + r.val % 64 = r.val; omega)⟩
theorem col_split (r : Fin 512) : ∃ h w, col h w = r :=
  ⟨⟨r.val / 128, by omega⟩, ⟨r.val % 128, by omega⟩, Fin.ext (by show 128 * (r.val / 128) + r.val % 128 = r.val; omega)⟩

theorem rows_emb (j : Fin 8) (h : Fin 4) (t e : Fin 64) : (rows j).emb (ix3 h t e) = ix3 h (row j t) e := by
  funext a; apply Fin.ext
  match a with
  | ⟨0, _⟩ => show 0 + 1 * h.val = h.val; omega
  | ⟨1, _⟩ => show 64 * j.val + 1 * t.val = 64 * j.val + t.val; omega
  | ⟨2, _⟩ => show 0 + 1 * e.val = e.val; omega
theorem cols_emb (j : Fin 8) (h : Fin 4) (t : Fin 64) (w : Fin 128) : (cols j h).emb (ix2 t w) = ix2 (row j t) (col h w) := by
  funext a; apply Fin.ext
  match a with
  | ⟨0, _⟩ => show 64 * j.val + 1 * t.val = 64 * j.val + t.val; omega
  | ⟨1, _⟩ => show 128 * h.val + 1 * w.val = 128 * h.val + w.val; omega
theorem state_emb (j : Fin 8) (h : Fin 4) (w : Fin 128) (e : Fin 64) : (state j).emb (ix4 h 0 w e) = ix4 h j w e := by
  funext a; apply Fin.ext
  match a with
  | ⟨0, _⟩ => show 0 + 1 * h.val = h.val; omega
  | ⟨1, _⟩ => show j.val + 1 * 0 = j.val; omega
  | ⟨2, _⟩ => show 0 + 1 * w.val = w.val; omega
  | ⟨3, _⟩ => show 0 + 1 * e.val = e.val; omega

variable (b : Ins Ideal)

/-- What head `h` sees of chunk `j` of the point's blocks. -/
def head (h : Fin 4) (j : Fin 8) : Head where
  q t e := b.q (ix3 h (row j t) e)
  k t e := b.k (ix3 h (row j t) e)
  la t e := b.la (ix3 h (row j t) e)
  v t w := b.v (ix2 (row j t) (col h w))
  s e w := b.sp (ix4 h j w e)
  d t w := b.d (ix2 (row j t) (col h w))

theorem chunk_head (h : Fin 4) (j : Fin 8) : (b.chunk j).head h = b.head h j := by
  unfold Chunk.head head
  congr 1
  · funext t e; exact congrArg b.q (rows_emb j h t e)
  · funext t e; exact congrArg b.k (rows_emb j h t e)
  · funext t e; exact congrArg b.la (rows_emb j h t e)
  · funext t w
    match h with
    | 0 => exact congrArg b.v (cols_emb j 0 t w)
    | 1 => exact congrArg b.v (cols_emb j 1 t w)
    | 2 => exact congrArg b.v (cols_emb j 2 t w)
    | 3 => exact congrArg b.v (cols_emb j 3 t w)
  · funext e w; exact congrArg b.sp (state_emb j h w e)
  · funext t w
    match h with
    | 0 => exact congrArg b.d (cols_emb j 0 t w)
    | 1 => exact congrArg b.d (cols_emb j 1 t w)
    | 2 => exact congrArg b.d (cols_emb j 2 t w)
    | 3 => exact congrArg b.d (cols_emb j 3 t w)

/-- Every log gate of the point's blocks is real. -/
def Finite : Prop := ∀ h j, (b.head h j).Finite

variable {b} (fin : b.Finite) (s : Vec Ideal S4x128x64 .f32)

/-- A grid point's carried state as chunk `7 - n` finds it, head by head. -/
def carried (b : Ins Ideal) (h : Fin 4) (G : Fin 64 → Fin 128 → EReal) : ℕ → Fin 64 → Fin 128 → EReal
  | 0 => G
  | n + 1 => (b.head h (Fin.ofNat 8 (7 - n))).ds (carried b h G n)

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩
theorem eq_ix3 {a b c : ℕ} (j : (⟨3, ![a, b, c]⟩ : Shape).Idx) : ∃ (r : Fin a) (k : Fin b) (l : Fin c), j = ix3 r k l :=
  ⟨j 0, j 1, j 2, funext fun x => by match x with | ⟨0, _⟩ => rfl | ⟨1, _⟩ => rfl | ⟨2, _⟩ => rfl⟩

include fin

theorem fin_chunk (j : Fin 8) (h : Fin 4) : ((b.chunk j).head h).Finite := by
  rw [chunk_head]; exact fin h j

theorem ds_carried (h : Fin 4) (e : Fin 64) (w : Fin 128) (n : ℕ) :
    b.ds s n (ix3 h w e) = b.carried h (fun e w => s (ix3 h w e)) n e w := by
  induction n generalizing e w with
  | zero => show k0_pay27 s (ix3 h w e) = s (ix3 h w e); pointwise [k0_pay27]
  | succ n ih =>
    show (b.chunk (Fin.ofNat 8 (7 - n))).ds (b.ds s n) (ix3 h w e) = (b.head h (Fin.ofNat 8 (7 - n))).ds _ e w
    rw [Chunk.ds_apply (fin_chunk fin _), chunk_head]
    congr 1
    funext e w
    exact ih e w

theorem after_apply (h : Fin 4) (e : Fin 64) (w : Fin 128) :
    k0_pay1447 (F := Ideal) (b.ds s 8) (ix3 h w e) = b.carried h (fun e w => s (ix3 h w e)) 8 e w := by
  rw [← ds_carried fin]
  pointwise [k0_pay1447]

/-- The block of the gradient of the queries. -/
def dqBlock (b : Ins Ideal) : Vec Ideal S4x512x64 .bf16 := fun y =>
  (b.head (y 0) ⟨(y 1).val / 64, by have : (y 1).val < 512 := (y 1).isLt; omega⟩).dq ⟨(y 1).val % 64, by omega⟩ (y 2)
/-- The block of the gradient of the keys. -/
def dkBlock (b : Ins Ideal) (s : Vec Ideal S4x128x64 .f32) : Vec Ideal S4x512x64 .bf16 := fun y =>
  (b.head (y 0) ⟨(y 1).val / 64, by have : (y 1).val < 512 := (y 1).isLt; omega⟩).dk
    (b.carried (y 0) (fun e w => s (ix3 (y 0) w e)) (7 - (y 1).val / 64)) ⟨(y 1).val % 64, by omega⟩ (y 2)
/-- The block of the gradient of the values. -/
def dvBlock (b : Ins Ideal) (s : Vec Ideal S4x128x64 .f32) : Vec Ideal S512x512 .bf16 := fun y =>
  (b.head ⟨(y 1).val / 128, by have : (y 1).val < 512 := (y 1).isLt; omega⟩ ⟨(y 0).val / 64, by have : (y 0).val < 512 := (y 0).isLt; omega⟩).dv
    (b.carried ⟨(y 1).val / 128, by have : (y 1).val < 512 := (y 1).isLt; omega⟩
      (fun e w => s (ix3 (⟨(y 1).val / 128, by have : (y 1).val < 512 := (y 1).isLt; omega⟩ : Fin 4) w e)) (7 - (y 0).val / 64))
    ⟨(y 0).val % 64, by omega⟩ ⟨(y 1).val % 128, by omega⟩

omit fin in
theorem dqBlock_apply (h : Fin 4) (j : Fin 8) (t e : Fin 64) : dqBlock b (ix3 h (row j t) e) = (b.head h j).dq t e := by
  have h1 : (64 * j.val + t.val) / 64 = j.val := by omega
  have h2 : (64 * j.val + t.val) % 64 = t.val := by omega
  show (b.head h ⟨(64 * j.val + t.val) / 64, _⟩).dq ⟨(64 * j.val + t.val) % 64, _⟩ e = _
  simp only [h1, h2]
omit fin in
theorem dkBlock_apply (h : Fin 4) (j : Fin 8) (t e : Fin 64) :
    dkBlock b s (ix3 h (row j t) e) = (b.head h j).dk (b.carried h (fun e w => s (ix3 h w e)) (7 - j.val)) t e := by
  have h1 : (64 * j.val + t.val) / 64 = j.val := by omega
  have h2 : (64 * j.val + t.val) % 64 = t.val := by omega
  show (b.head h ⟨(64 * j.val + t.val) / 64, _⟩).dk (b.carried h (fun e w => s (ix3 h w e)) (7 - (64 * j.val + t.val) / 64)) ⟨(64 * j.val + t.val) % 64, _⟩ e = _
  simp only [h1, h2]
omit fin in
theorem dvBlock_apply (h : Fin 4) (j : Fin 8) (t : Fin 64) (w : Fin 128) :
    dvBlock b s (ix2 (row j t) (col h w)) = (b.head h j).dv (b.carried h (fun e w => s (ix3 h w e)) (7 - j.val)) t w := by
  have h1 : (64 * j.val + t.val) / 64 = j.val := by omega
  have h2 : (64 * j.val + t.val) % 64 = t.val := by omega
  have h3 : (128 * h.val + w.val) / 128 = h.val := by omega
  have h4 : (128 * h.val + w.val) % 128 = w.val := by omega
  show (b.head ⟨(128 * h.val + w.val) / 128, _⟩ ⟨(64 * j.val + t.val) / 64, _⟩).dv
    (b.carried ⟨(128 * h.val + w.val) / 128, _⟩ (fun e w' => s (ix3 (⟨(128 * h.val + w.val) / 128, _⟩ : Fin 4) w' e)) (7 - (64 * j.val + t.val) / 64))
    ⟨(64 * j.val + t.val) % 64, _⟩ ⟨(128 * h.val + w.val) % 128, _⟩ = _
  simp only [h1, h2, h3, h4]

theorem dq_canon : View.canon (Val := Elt Ideal) b.dqPieces = dqBlock b := by
  funext y
  refine View.canon_apply_of_pieces (Val := Elt Ideal) (dqBlock b) b.dqPieces (fun p hp x => ?_) y ?_
  · obtain ⟨j, rfl⟩ := List.mem_ofFn.1 hp
    obtain ⟨h, t, e, rfl⟩ := eq_ix3 (a := 4) (b := 64) (c := 64) x
    rw [show (rows j).emb (ix3 h t e) = _ from rows_emb j h t e, dqBlock_apply, ← chunk_head, ← Chunk.dq_apply (fin_chunk fin j)]
    show k0_pay53 (b.chunk j).dq (ix3 h t e) = _
    pointwise [k0_pay53]
  · obtain ⟨h, r, e, rfl⟩ := eq_ix3 (a := 4) (b := 512) (c := 64) y
    obtain ⟨j, t, rfl⟩ := row_split r
    exact ⟨⟨rows j, k0_pay53 (b.chunk j).dq⟩, List.mem_ofFn.2 ⟨j, rfl⟩, by
      rw [← rows_emb]; exact (rows j).idx_mem _⟩

theorem dk_canon : View.canon (Val := Elt Ideal) (b.dkPieces s) = dkBlock b s := by
  funext y
  refine View.canon_apply_of_pieces (Val := Elt Ideal) (dkBlock b s) (b.dkPieces s) (fun p hp x => ?_) y ?_
  · obtain ⟨j, rfl⟩ := List.mem_ofFn.1 hp
    obtain ⟨h, t, e, rfl⟩ := eq_ix3 (a := 4) (b := 64) (c := 64) x
    rw [show (rows j).emb (ix3 h t e) = _ from rows_emb j h t e, dkBlock_apply, ← chunk_head]
    have e1 : b.carried h (fun e w => s (ix3 h w e)) (7 - j.val) = fun e w => b.ds s (7 - j.val) (ix3 h w e) := by
      funext e w; exact (ds_carried fin s h e w _).symm
    rw [e1, ← Chunk.dk_apply (fin_chunk fin j)]
    show k0_pay54 ((b.chunk j).dk (b.ds s (7 - j.val))) (ix3 h t e) = _
    pointwise [k0_pay54]
  · obtain ⟨h, r, e, rfl⟩ := eq_ix3 (a := 4) (b := 512) (c := 64) y
    obtain ⟨j, t, rfl⟩ := row_split r
    exact ⟨⟨rows j, k0_pay54 ((b.chunk j).dk (b.ds s (7 - j.val)))⟩, List.mem_ofFn.2 ⟨j, rfl⟩, by
      rw [← rows_emb]; exact (rows j).idx_mem _⟩

/-- A head's piece of the values' gradient. -/
def dvPiece (j : Fin 8) (w : FVec Ideal S4x64x128 .bf16) : Fin 4 → View.Piece (Elt Ideal) S512x512 .bf16
  | 0 => ⟨cols j 0, k0_pay55 w⟩
  | 1 => ⟨cols j 1, k0_pay56 w⟩
  | 2 => ⟨cols j 2, k0_pay57 w⟩
  | 3 => ⟨cols j 3, k0_pay58 w⟩

omit fin in
theorem mem_dvPieces (p : View.Piece (Elt Ideal) S512x512 .bf16) :
    p ∈ b.dvPieces s ↔ ∃ j h, p = dvPiece j ((b.chunk j).dv (b.ds s (7 - j.val))) h := by
  unfold dvPieces
  simp only [List.mem_flatten, List.mem_ofFn, exists_exists_eq_and, List.mem_cons, List.not_mem_nil, or_false]
  refine exists_congr fun j => ⟨?_, ?_⟩
  · rintro (h | h | h | h)
    · exact ⟨3, h⟩
    · exact ⟨2, h⟩
    · exact ⟨1, h⟩
    · exact ⟨0, h⟩
  · rintro ⟨h, e⟩
    match h, e with
    | 0, e => exact .inr (.inr (.inr e))
    | 1, e => exact .inr (.inr (.inl e))
    | 2, e => exact .inr (.inl e)
    | 3, e => exact .inl e

theorem dv_canon : View.canon (Val := Elt Ideal) (b.dvPieces s) = dvBlock b s := by
  have key : ∀ (j : Fin 8) (h : Fin 4) (t : Fin 64) (w : Fin 128),
      (b.chunk j).dv (b.ds s (7 - j.val)) (ix3 h t w) = dvBlock b s ((cols j h).emb (ix2 t w)) := fun j h t w => by
    rw [cols_emb, dvBlock_apply, Chunk.dv_apply (fin_chunk fin j), chunk_head]
    simp only [ds_carried fin]
  funext y
  refine View.canon_apply_of_pieces (Val := Elt Ideal) (dvBlock b s) (b.dvPieces s) (fun p hp x => ?_) y ?_
  · obtain ⟨j, h, rfl⟩ := (mem_dvPieces s p).1 hp
    match h with
    | 0 =>
      obtain ⟨t, w, rfl⟩ := eq_ix2 (a := 64) (b := 128) x
      refine Eq.trans ?_ (key j 0 t w)
      show k0_pay55 (F := Ideal) ((b.chunk j).dv (b.ds s (7 - j.val))) (ix2 t w) = _
      pointwise [k0_pay55]
    | 1 =>
      obtain ⟨t, w, rfl⟩ := eq_ix2 (a := 64) (b := 128) x
      refine Eq.trans ?_ (key j 1 t w)
      show k0_pay56 (F := Ideal) ((b.chunk j).dv (b.ds s (7 - j.val))) (ix2 t w) = _
      pointwise [k0_pay56]
    | 2 =>
      obtain ⟨t, w, rfl⟩ := eq_ix2 (a := 64) (b := 128) x
      refine Eq.trans ?_ (key j 2 t w)
      show k0_pay57 (F := Ideal) ((b.chunk j).dv (b.ds s (7 - j.val))) (ix2 t w) = _
      pointwise [k0_pay57]
    | 3 =>
      obtain ⟨t, w, rfl⟩ := eq_ix2 (a := 64) (b := 128) x
      refine Eq.trans ?_ (key j 3 t w)
      show k0_pay58 (F := Ideal) ((b.chunk j).dv (b.ds s (7 - j.val))) (ix2 t w) = _
      pointwise [k0_pay58]
  · obtain ⟨r, l, rfl⟩ := eq_ix2 (a := 512) (b := 512) y
    obtain ⟨j, t, rfl⟩ := row_split r
    obtain ⟨h, w, rfl⟩ := col_split l
    refine ⟨_, (mem_dvPieces s _).2 ⟨j, h, rfl⟩, ?_⟩
    rw [← cols_emb]
    match h with
    | 0 => exact (cols j 0).idx_mem _
    | 1 => exact (cols j 1).idx_mem _
    | 2 => exact (cols j 2).idx_mem _
    | 3 => exact (cols j 3).idx_mem _

end Cert.Proof.Gla.Ins

end
-- ==== Proof.Gla.Host.lean ====
/- The arrays the host lines hand to the kernel, at an index: the heads moved to the front, the states transposed, the
   values cast. -/
module

public import proofs.«01_k».proof.Proof.Gen.GlaBwdIdeal.Frame.Runs
public import proofs.«01_k».proof.Proof.Gla.Spec

@[expose] public section

noncomputable section

namespace Cert.Proof.Gla

open Cert.GlaBwdIdeal Cert.GlaBwdIdeal.Gen Idealize.ShloMosaic Idealize.ShloMosaic.TcCoe
open Idealize.ShloMosaic.StableHlo Idealize.ShloMosaic.Pointwise

variable (m : (ℓ : Loc nD τ sig) → Buf (Elt Ideal) ℓ) (c : Dev nD)

/-- The program's arguments. -/
abbrev aQ : S2048x256.Idx → EReal := m ((c : Thread nD τ).loc main_arg0)
abbrev aK : S2048x256.Idx → EReal := m ((c : Thread nD τ).loc main_arg1)
abbrev aV : S2048x512.Idx → EReal := m ((c : Thread nD τ).loc main_arg2)
abbrev aLa : S2048x256.Idx → EReal := m ((c : Thread nD τ).loc main_arg3)
abbrev aS : S1x4x32x64x128.Idx → EReal := m ((c : Thread nD τ).loc main_arg4)
abbrev aD : S2048x512.Idx → EReal := m ((c : Thread nD τ).loc main_arg5)

/-- The same by token and column. -/
def args : Args where
  q i k := aQ m c (ix2 i k)
  k i k := aK m c (ix2 i k)
  la i k := aLa m c (ix2 i k)
  v i k := aV m c (ix2 i k)
  d i k := aD m c (ix2 i k)
  s h n e w := aS m c (ix5 0 h n e w)

theorem V1 (h : Fin 4) (r : Fin 2048) (e : Fin 64) : V m c main_v1 (ix3 h r e) = aQ m c (ix2 r (colk h e)) := by
  unfold V hostOps0
  after_results
  pointwise
  try rfl
theorem V3 (h : Fin 4) (r : Fin 2048) (e : Fin 64) : V m c main_v3 (ix3 h r e) = aK m c (ix2 r (colk h e)) := by
  unfold V hostOps0
  after_results
  pointwise
  try rfl
theorem V6 (h : Fin 4) (r : Fin 2048) (e : Fin 64) : V m c main_v6 (ix3 h r e) = aLa m c (ix2 r (colk h e)) := by
  unfold V hostOps0
  after_results
  pointwise
  try rfl
theorem V4 (r : Fin 2048) (l : Fin 512) : V m c main_v4 (ix2 r l) = aV m c (ix2 r l) := by
  unfold V hostOps0
  after_results
  rfl
theorem V8 (h : Fin 4) (n : Fin 32) (w : Fin 128) (e : Fin 64) : V m c main_v8 (ix4 h n w e) = aS m c (ix5 0 h n e w) := by
  unfold V hostOps0
  after_results
  pointwise
  try rfl

end Cert.Proof.Gla

end
-- ==== Proof.Gla.Array.lean ====
/- The three result arrays of the gated linear attention's backward call after its run: at head `h`, token `64 n + t`
   the gradients of chunk `n`, the state's gradient carried from the last chunk to the first over the grid points. -/
module

public import proofs.«01_k».proof.Proof.Gla.Block
public import proofs.«01_k».proof.Proof.Gla.BlockValue
public import proofs.«01_k».proof.Proof.Gla.Host

@[expose] public section

noncomputable section

namespace Cert.Proof.Gla

open Cert.GlaBwdIdeal Cert.GlaBwdIdeal.Gen Cert.GlaBwdIdeal.Value Idealize.ShloMosaic Idealize.ShloMosaic.TcCoe
open Idealize.ShloMosaic.Pointwise

variable (m : (ℓ : Loc nD τ sig) → Buf (Elt Ideal) ℓ) (c : Dev nD)

theorem lt4 (t : Fin cfg0.N) : t.val < 4 := by have : cfg0.N = 4 := N_0; have := t.isLt; omega

/-- The blocks of point `t`. -/
def ins (t : Fin cfg0.N) : Ins Ideal := ⟨iblk m c 0 t, iblk m c 1 t, iblk m c 2 t, iblk m c 3 t, iblk m c 4 t, iblk m c 5 t⟩

/-- Chunk `j` of point `t`: the points go from the last eight chunks to the first. -/
abbrev chk (t : Fin cfg0.N) (j : Fin 8) : Fin 32 := ⟨(3 - t.val) * 8 + j.val, by omega⟩
/-- Row `r` of point `t`. -/
abbrev at512 (t : Fin cfg0.N) (r : Fin 512) : Fin 2048 := ⟨(3 - t.val) * 512 + r.val, by omega⟩

theorem at512_row (t : Fin cfg0.N) (j : Fin 8) (i : Fin 64) : at512 t (Ins.row j i) = tok (chk t j) i :=
  Fin.ext (by show (3 - t.val) * 512 + (64 * j.val + i.val) = ((3 - t.val) * 8 + j.val) * 64 + i.val; omega)
theorem col_eq (h : Fin 4) (w : Fin 128) : Ins.col h w = colv h w :=
  Fin.ext (by show 128 * h.val + w.val = h.val * 128 + w.val; omega)

/-! ## Where a block lies -/

theorem at0 : ∀ t : Fin cfg0.N, win0_0.index t 0 = 0 ∧ win0_0.index t 1 = 3 - t.val ∧ win0_0.index t 2 = 0 := (by decide +kernel : ∀ t : Fin grid0.N, _)
theorem at1 : ∀ t : Fin cfg0.N, win0_1.index t 0 = 0 ∧ win0_1.index t 1 = 3 - t.val ∧ win0_1.index t 2 = 0 := (by decide +kernel : ∀ t : Fin grid0.N, _)
theorem at2 : ∀ t : Fin cfg0.N, win0_2.index t 0 = 3 - t.val ∧ win0_2.index t 1 = 0 := (by decide +kernel : ∀ t : Fin grid0.N, _)
theorem at3 : ∀ t : Fin cfg0.N, win0_3.index t 0 = 0 ∧ win0_3.index t 1 = 3 - t.val ∧ win0_3.index t 2 = 0 := (by decide +kernel : ∀ t : Fin grid0.N, _)
theorem at4 : ∀ t : Fin cfg0.N, win0_4.index t 0 = 0 ∧ win0_4.index t 1 = 3 - t.val ∧ win0_4.index t 2 = 0 ∧ win0_4.index t 3 = 0 :=
  (by decide +kernel : ∀ t : Fin grid0.N, _)
theorem at5 : ∀ t : Fin cfg0.N, win0_5.index t 0 = 3 - t.val ∧ win0_5.index t 1 = 0 := (by decide +kernel : ∀ t : Fin grid0.N, _)
theorem at15 : ∀ t : Fin cfg0.N, win0_15.index t 0 = 0 ∧ win0_15.index t 1 = 3 - t.val ∧ win0_15.index t 2 = 0 := (by decide +kernel : ∀ t : Fin grid0.N, _)
theorem at16 : ∀ t : Fin cfg0.N, win0_16.index t 0 = 0 ∧ win0_16.index t 1 = 3 - t.val ∧ win0_16.index t 2 = 0 := (by decide +kernel : ∀ t : Fin grid0.N, _)
theorem at17 : ∀ t : Fin cfg0.N, win0_17.index t 0 = 3 - t.val ∧ win0_17.index t 1 = 0 := (by decide +kernel : ∀ t : Fin grid0.N, _)

variable (t : Fin cfg0.N) (h : Fin 4) (r : Fin 512) (e : Fin 64) (l : Fin 512)

theorem emb0 : ((cfg0.win 0).blk t).view.emb (ix3 h r e) = ix3 h (at512 t r) e := by
  obtain ⟨e0, e1, e2⟩ := at0 t
  funext a; apply Fin.ext
  match a with
  | ⟨0, _⟩ => show win0_0.index t 0 * 4 + 1 * h.val = h.val; omega
  | ⟨1, _⟩ => show win0_0.index t 1 * 512 + 1 * r.val = (3 - t.val) * 512 + r.val; omega
  | ⟨2, _⟩ => show win0_0.index t 2 * 64 + 1 * e.val = e.val; omega
theorem emb1 : ((cfg0.win 1).blk t).view.emb (ix3 h r e) = ix3 h (at512 t r) e := by
  obtain ⟨e0, e1, e2⟩ := at1 t
  funext a; apply Fin.ext
  match a with
  | ⟨0, _⟩ => show win0_1.index t 0 * 4 + 1 * h.val = h.val; omega
  | ⟨1, _⟩ => show win0_1.index t 1 * 512 + 1 * r.val = (3 - t.val) * 512 + r.val; omega
  | ⟨2, _⟩ => show win0_1.index t 2 * 64 + 1 * e.val = e.val; omega
theorem emb2 : ((cfg0.win 2).blk t).view.emb (ix2 r l) = ix2 (at512 t r) l := by
  obtain ⟨e0, e1⟩ := at2 t
  funext a; apply Fin.ext
  match a with
  | ⟨0, _⟩ => show win0_2.index t 0 * 512 + 1 * r.val = (3 - t.val) * 512 + r.val; omega
  | ⟨1, _⟩ => show win0_2.index t 1 * 512 + 1 * l.val = l.val; omega
theorem emb3 : ((cfg0.win 3).blk t).view.emb (ix3 h r e) = ix3 h (at512 t r) e := by
  obtain ⟨e0, e1, e2⟩ := at3 t
  funext a; apply Fin.ext
  match a with
  | ⟨0, _⟩ => show win0_3.index t 0 * 4 + 1 * h.val = h.val; omega
  | ⟨1, _⟩ => show win0_3.index t 1 * 512 + 1 * r.val = (3 - t.val) * 512 + r.val; omega
  | ⟨2, _⟩ => show win0_3.index t 2 * 64 + 1 * e.val = e.val; omega
theorem emb4 (j : Fin 8) (w : Fin 128) : ((cfg0.win 4).blk t).view.emb (ix4 h j w e) = ix4 h (chk t j) w e := by
  obtain ⟨e0, e1, e2, e3⟩ := at4 t
  funext a; apply Fin.ext
  match a with
  | ⟨0, _⟩ => show win0_4.index t 0 * 4 + 1 * h.val = h.val; omega
  | ⟨1, _⟩ => show win0_4.index t 1 * 8 + 1 * j.val = (3 - t.val) * 8 + j.val; omega
  | ⟨2, _⟩ => show win0_4.index t 2 * 128 + 1 * w.val = w.val; omega
  | ⟨3, _⟩ => show win0_4.index t 3 * 64 + 1 * e.val = e.val; omega
theorem emb5 : ((cfg0.win 5).blk t).view.emb (ix2 r l) = ix2 (at512 t r) l := by
  obtain ⟨e0, e1⟩ := at5 t
  funext a; apply Fin.ext
  match a with
  | ⟨0, _⟩ => show win0_5.index t 0 * 512 + 1 * r.val = (3 - t.val) * 512 + r.val; omega
  | ⟨1, _⟩ => show win0_5.index t 1 * 512 + 1 * l.val = l.val; omega
theorem emb15 : ((cfg0.win 15).blk t).view.emb (ix3 h r e) = ix3 h (at512 t r) e := by
  obtain ⟨e0, e1, e2⟩ := at15 t
  funext a; apply Fin.ext
  match a with
  | ⟨0, _⟩ => show win0_15.index t 0 * 4 + 1 * h.val = h.val; omega
  | ⟨1, _⟩ => show win0_15.index t 1 * 512 + 1 * r.val = (3 - t.val) * 512 + r.val; omega
  | ⟨2, _⟩ => show win0_15.index t 2 * 64 + 1 * e.val = e.val; omega
theorem emb16 : ((cfg0.win 16).blk t).view.emb (ix3 h r e) = ix3 h (at512 t r) e := by
  obtain ⟨e0, e1, e2⟩ := at16 t
  funext a; apply Fin.ext
  match a with
  | ⟨0, _⟩ => show win0_16.index t 0 * 4 + 1 * h.val = h.val; omega
  | ⟨1, _⟩ => show win0_16.index t 1 * 512 + 1 * r.val = (3 - t.val) * 512 + r.val; omega
  | ⟨2, _⟩ => show win0_16.index t 2 * 64 + 1 * e.val = e.val; omega
theorem emb17 : ((cfg0.win 17).blk t).view.emb (ix2 r l) = ix2 (at512 t r) l := by
  obtain ⟨e0, e1⟩ := at17 t
  funext a; apply Fin.ext
  match a with
  | ⟨0, _⟩ => show win0_17.index t 0 * 512 + 1 * r.val = (3 - t.val) * 512 + r.val; omega
  | ⟨1, _⟩ => show win0_17.index t 1 * 512 + 1 * l.val = l.val; omega

/-! ## A block's rows are rows of the arguments -/

theorem ins_q : (ins m c t).q (ix3 h r e) = (args m c).q (at512 t r) (colk h e) := by
  show V m c main_v1 (((cfg0.win 0).blk t).view.emb (ix3 h r e)) = _
  rw [emb0, V1]; rfl
theorem ins_k : (ins m c t).k (ix3 h r e) = (args m c).k (at512 t r) (colk h e) := by
  show V m c main_v3 (((cfg0.win 1).blk t).view.emb (ix3 h r e)) = _
  rw [emb1, V3]; rfl
theorem ins_v : (ins m c t).v (ix2 r l) = (args m c).v (at512 t r) l := by
  show V m c main_v4 (((cfg0.win 2).blk t).view.emb (ix2 r l)) = _
  rw [emb2, V4]; rfl
theorem ins_la : (ins m c t).la (ix3 h r e) = (args m c).la (at512 t r) (colk h e) := by
  show V m c main_v6 (((cfg0.win 3).blk t).view.emb (ix3 h r e)) = _
  rw [emb3, V6]; rfl
theorem ins_sp (j : Fin 8) (w : Fin 128) : (ins m c t).sp (ix4 h j w e) = (args m c).s h (chk t j) e w := by
  show V m c main_v8 (((cfg0.win 4).blk t).view.emb (ix4 h j w e)) = _
  rw [emb4, V8]; rfl
theorem ins_d : (ins m c t).d (ix2 r l) = (args m c).d (at512 t r) l := by
  show V m c main_arg5 (((cfg0.win 5).blk t).view.emb (ix2 r l)) = _
  rw [emb5, V_main_arg5]; rfl

theorem head_ins (j : Fin 8) : (ins m c t).head h j = (args m c).head h (chk t j) := by
  unfold Ins.head Args.head
  simp only [ins_q, ins_k, ins_v, ins_la, ins_sp, ins_d, at512_row, col_eq]

theorem ins_finite (fin : (args m c).Finite) : (ins m c t).Finite := fun h j => by
  rw [head_ins]; exact fun _ _ => fin _ _

/-! ## The carried state -/

/-- The state a point starts from. -/
def start (n : ℕ) (hn : n < cfg0.N) : Vec Ideal S4x128x64 .f32 :=
  if n % 4 = 0 then k0_pay1 (F := Ideal) else (outsAt0 m c (n - 1) (by omega)).2.2.2.2.2.2.2.2.2.1

/-- What a point leaves. -/
theorem outs (t : Fin cfg0.N) :
    (outsAt0 m c t.val t.isLt).1 = View.canon (ins m c t).dqPieces
    ∧ (outsAt0 m c t.val t.isLt).2.1 = View.canon ((ins m c t).dkPieces (start m c t.val t.isLt))
    ∧ (outsAt0 m c t.val t.isLt).2.2.1 = View.canon ((ins m c t).dvPieces (start m c t.val t.isLt))
    ∧ (outsAt0 m c t.val t.isLt).2.2.2.2.2.2.2.2.2.1 = (ins m c t).after (start m c t.val t.isLt) := by
  unfold start
  by_cases h : t.val % 4 = 0
  · rw [if_pos h, outsAt0_A m c t h]
    rw [out_A_15, out_A_16, out_A_17, out_A_s]
    unfold ins
    dsimp only
    exact ⟨rfl, rfl, rfl, rfl⟩
  · rw [if_neg h, outsAt0_B m c t h]
    rw [out_B_15, out_B_16, out_B_17, out_B_s]
    unfold ins
    dsimp only
    exact ⟨rfl, rfl, rfl, rfl⟩

/-- Within a point the carried state goes through the gradients of eight states. -/
theorem carried_eq (G0 : Fin 64 → Fin 128 → EReal) (hG : G0 = (args m c).G h (8 * t.val)) (n : ℕ) (hn : n ≤ 8) :
    (ins m c t).carried h G0 n = (args m c).G h (8 * t.val + n) := by
  induction n with
  | zero => exact hG
  | succ n ih =>
    show ((ins m c t).head h (Fin.ofNat 8 (7 - n))).ds ((ins m c t).carried h G0 n)
      = ((args m c).head h (Fin.ofNat 32 (31 - (8 * t.val + n)))).ds ((args m c).G h (8 * t.val + n))
    rw [ih (by omega), head_ins]
    congr 2
    have := lt4 t
    refine Fin.ext ?_
    show (3 - t.val) * 8 + (7 - n) % 8 = (31 - (8 * t.val + n)) % 32
    rw [Nat.mod_eq_of_lt (a := 7 - n) (by omega), Nat.mod_eq_of_lt (by omega)]
    omega

variable (fin : (args m c).Finite)
include fin

/-- A point starts from the gradient of the state after its last chunk. -/
theorem start_eq : ∀ (n : ℕ) (hn : n < cfg0.N) (h : Fin 4),
    (fun e w => start m c n hn (ix3 h w e)) = (args m c).G h (8 * n)
  | 0, hn, h => by
    funext e w
    show k0_pay1 (F := Ideal) (ix3 h w e) = 0
    pointwise [k0_pay1]
  | n + 1, hn, h => by
    have hN : cfg0.N = 4 := N_0
    have e1 : start m c (n + 1) hn = (ins m c ⟨n, by omega⟩).after (start m c n (by omega)) := by
      rw [← (outs m c ⟨n, by omega⟩).2.2.2]
      exact if_neg (by omega)
    rw [e1]
    funext e w
    show k0_pay1447 (F := Ideal) ((ins m c ⟨n, by omega⟩).ds (start m c n (by omega)) 8) (ix3 h w e) = _
    rw [Ins.after_apply (ins_finite m c _ fin), carried_eq m c ⟨n, by omega⟩ h _ (start_eq n (by omega) h) 8 (le_refl _)]
    rfl

theorem carried_start (n : ℕ) (hn : n ≤ 8) :
    (ins m c t).carried h (fun e w => start m c t.val t.isLt (ix3 h w e)) n = (args m c).G h (8 * t.val + n) :=
  carried_eq m c t h _ (start_eq m c fin t.val t.isLt h) n hn

omit fin

/-! ## The result arrays -/

/-- The three gradients as arrays. -/
def gDq : S4x2048x64.Idx → EReal := fun y =>
  (args m c).dq (y 0) ⟨(y 1).val / 64, by have : (y 1).val < 2048 := (y 1).isLt; omega⟩ ⟨(y 1).val % 64, by omega⟩ (y 2)
def gDk : S4x2048x64.Idx → EReal := fun y =>
  (args m c).dk (y 0) ⟨(y 1).val / 64, by have : (y 1).val < 2048 := (y 1).isLt; omega⟩ ⟨(y 1).val % 64, by omega⟩ (y 2)
def gDv : S2048x512.Idx → EReal := fun y =>
  (args m c).dv ⟨(y 1).val / 128, by have : (y 1).val < 512 := (y 1).isLt; omega⟩
    ⟨(y 0).val / 64, by have : (y 0).val < 2048 := (y 0).isLt; omega⟩ ⟨(y 0).val % 64, by omega⟩ ⟨(y 1).val % 128, by omega⟩

theorem gDq_apply (n : Fin 32) (i : Fin 64) : gDq m c (ix3 h (tok n i) e) = (args m c).dq h n i e := by
  have h1 : (n.val * 64 + i.val) / 64 = n.val := by omega
  have h2 : (n.val * 64 + i.val) % 64 = i.val := by omega
  show (args m c).dq h ⟨(n.val * 64 + i.val) / 64, _⟩ ⟨(n.val * 64 + i.val) % 64, _⟩ e = _
  simp only [h1, h2]
theorem gDk_apply (n : Fin 32) (i : Fin 64) : gDk m c (ix3 h (tok n i) e) = (args m c).dk h n i e := by
  have h1 : (n.val * 64 + i.val) / 64 = n.val := by omega
  have h2 : (n.val * 64 + i.val) % 64 = i.val := by omega
  show (args m c).dk h ⟨(n.val * 64 + i.val) / 64, _⟩ ⟨(n.val * 64 + i.val) % 64, _⟩ e = _
  simp only [h1, h2]
theorem gDv_apply (n : Fin 32) (i : Fin 64) (w : Fin 128) : gDv m c (ix2 (tok n i) (colv h w)) = (args m c).dv h n i w := by
  have h1 : (n.val * 64 + i.val) / 64 = n.val := by omega
  have h2 : (n.val * 64 + i.val) % 64 = i.val := by omega
  have h3 : (h.val * 128 + w.val) / 128 = h.val := by omega
  have h4 : (h.val * 128 + w.val) % 128 = w.val := by omega
  show (args m c).dv ⟨(h.val * 128 + w.val) / 128, _⟩ ⟨(n.val * 64 + i.val) / 64, _⟩ ⟨(n.val * 64 + i.val) % 64, _⟩
    ⟨(h.val * 128 + w.val) % 128, _⟩ = _
  simp only [h1, h2, h3, h4]

/-- Row `i` lies in block `3 - i / 512`. -/
theorem at512_split (i : Fin 2048) : ∃ (t : Fin cfg0.N) (r : Fin 512), at512 t r = i :=
  ⟨⟨3 - i.val / 512, by have : cfg0.N = 4 := N_0; omega⟩, ⟨i.val % 512, by omega⟩,
    Fin.ext (by show (3 - (3 - i.val / 512)) * 512 + i.val % 512 = i.val; omega)⟩

include fin

theorem flushed15_eq : (dats m 0 c).flushed 15 t = ((cfg0.win 15).blk t).view.read (Elt Ideal) (gDq m c) := by
  rw [flushed15, (outs m c t).1, Ins.dq_canon (ins_finite m c t fin)]
  funext y
  obtain ⟨h, r, e, rfl⟩ := Ins.eq_ix3 (a := 4) (b := 512) (c := 64) y
  obtain ⟨j, i, rfl⟩ := Ins.row_split r
  show Ins.dqBlock (ins m c t) (ix3 h (Ins.row j i) e) = gDq m c (((cfg0.win 15).blk t).view.emb (ix3 h (Ins.row j i) e))
  rw [emb15, Ins.dqBlock_apply, head_ins, at512_row, gDq_apply]
  rfl
theorem flushed16_eq : (dats m 0 c).flushed 16 t = ((cfg0.win 16).blk t).view.read (Elt Ideal) (gDk m c) := by
  rw [flushed16, (outs m c t).2.1, Ins.dk_canon (ins_finite m c t fin)]
  funext y
  obtain ⟨h, r, e, rfl⟩ := Ins.eq_ix3 (a := 4) (b := 512) (c := 64) y
  obtain ⟨j, i, rfl⟩ := Ins.row_split r
  have ht := lt4 t
  show Ins.dkBlock (ins m c t) _ (ix3 h (Ins.row j i) e) = gDk m c (((cfg0.win 16).blk t).view.emb (ix3 h (Ins.row j i) e))
  rw [emb16, Ins.dkBlock_apply, head_ins, at512_row, gDk_apply, carried_start m c t h fin _ (by omega)]
  show _ = ((args m c).head h (chk t j)).dk ((args m c).G h (31 - ((3 - t.val) * 8 + j.val))) i e
  rw [show 31 - ((3 - t.val) * 8 + j.val) = 8 * t.val + (7 - j.val) by omega]
theorem flushed17_eq : (dats m 0 c).flushed 17 t = ((cfg0.win 17).blk t).view.read (Elt Ideal) (gDv m c) := by
  rw [flushed17, (outs m c t).2.2.1, Ins.dv_canon (ins_finite m c t fin)]
  funext y
  obtain ⟨r, l, rfl⟩ := Ins.eq_ix2 (a := 512) (b := 512) y
  obtain ⟨j, i, rfl⟩ := Ins.row_split r
  obtain ⟨h, w, rfl⟩ := Ins.col_split l
  have ht := lt4 t
  show Ins.dvBlock (ins m c t) _ (ix2 (Ins.row j i) (Ins.col h w)) = gDv m c (((cfg0.win 17).blk t).view.emb (ix2 (Ins.row j i) (Ins.col h w)))
  rw [emb17, Ins.dvBlock_apply, head_ins, at512_row, col_eq, gDv_apply, carried_start m c t h fin _ (by omega)]
  show _ = ((args m c).head h (chk t j)).dv ((args m c).G h (31 - ((3 - t.val) * 8 + j.val))) i w
  rw [show 31 - ((3 - t.val) * 8 + j.val) = 8 * t.val + (7 - j.val) by omega]

theorem final15 : (dats m 0 c).arrAt 15 cfg0.N = gDq m c :=
  (dats m 0 c).arrAt_eq_of_cover 15 (gDq m c) (fun t _ => flushed15_eq m c t fin) fun y => by
    obtain ⟨h, i, e, rfl⟩ := Ins.eq_ix3 (a := 4) (b := 2048) (c := 64) y
    obtain ⟨t, r, rfl⟩ := at512_split i
    exact ⟨t, flush0_15 t, by have h := ((cfg0.win 15).blk t).view.emb_mem_set (ix3 h r e); rwa [emb15] at h⟩
theorem final16 : (dats m 0 c).arrAt 16 cfg0.N = gDk m c :=
  (dats m 0 c).arrAt_eq_of_cover 16 (gDk m c) (fun t _ => flushed16_eq m c t fin) fun y => by
    obtain ⟨h, i, e, rfl⟩ := Ins.eq_ix3 (a := 4) (b := 2048) (c := 64) y
    obtain ⟨t, r, rfl⟩ := at512_split i
    exact ⟨t, flush0_16 t, by have h := ((cfg0.win 16).blk t).view.emb_mem_set (ix3 h r e); rwa [emb16] at h⟩
theorem final17 : (dats m 0 c).arrAt 17 cfg0.N = gDv m c :=
  (dats m 0 c).arrAt_eq_of_cover 17 (gDv m c) (fun t _ => flushed17_eq m c t fin) fun y => by
    obtain ⟨i, l, rfl⟩ := Ins.eq_ix2 (a := 2048) (b := 512) y
    obtain ⟨t, r, rfl⟩ := at512_split i
    exact ⟨t, flush0_17 t, by have h := ((cfg0.win 17).blk t).view.emb_mem_set (ix2 r l); rwa [emb17] at h⟩

end Cert.Proof.Gla

end
-- ==== Proof.Gla.Cumsum.lean ====
module

public import Idealize.ShloMosaic.Lib.Pointwise
public import Idealize.ShloMosaic.PureOps.Ideal

/-! # A running sum on the host

The host's running sum prints as a windowed sum: a window of 64 rows, padded by 63 below. Read exactly, its
entry at row `t` is the sum of the rows up to and including `t`. -/

@[expose] public section

namespace Cert.Proof.Gla

open Idealize Idealize.ShloMosaic
open scoped BigOperators

/-- Adding up a list from the left is the start plus the list's sum. -/
theorem foldl_add_eq {α : Type} (g : α → EReal) (l : List α) (v : EReal) :
    l.foldl (fun r n => r + g n) v = v + (l.map g).sum := by
  induction l generalizing v with
  | nil => exact (add_zero v).symm
  | cons a l ih => rw [List.foldl_cons, ih, List.map_cons, List.sum_cons, add_assoc]

/-- A window of one column of `N` rows is numbered by its rows. -/
def windowRows (N : ℕ) : Fin N ≃ (⟨5, ![1, 1, 1, N, 1]⟩ : Shape).Idx where
  toFun w := ix5 0 0 0 w 0
  invFun i := i 3
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- Rows counted from the window's end are the rows up to `t`. -/
theorem sum_window_rows {M : ℕ} (f : Fin (M + 1) → EReal) (t : Fin (M + 1)) :
    (∑ w : Fin (M + 1), if h : M ≤ t.val + w.val then f ⟨t.val + w.val - M, by omega⟩ else 0)
      = ∑ i : Fin (M + 1), if i ≤ t then f i else 0 := by
  have e : ∀ w : Fin (M + 1), (if h : M ≤ t.val + w.val then f ⟨t.val + w.val - M, by omega⟩ else 0)
      = if M ≤ t.val + w.val then f (Fin.ofNat (M + 1) (t.val + w.val - M)) else 0 := fun w => by
    split
    · exact congrArg f (Fin.ext (Nat.mod_eq_of_lt (by omega)).symm)
    · rfl
  rw [Finset.sum_congr rfl fun w _ => e w, ← Finset.sum_filter, ← Finset.sum_filter]
  refine Finset.sum_nbij' (fun w => Fin.ofNat (M + 1) (t.val + w.val - M)) (fun i => Fin.ofNat (M + 1) (M + i.val - t.val)) ?_ ?_ ?_ ?_ ?_
  all_goals
    intro w hw
    have hw := (Finset.mem_filter.1 hw).2
    try rw [Fin.le_def] at hw
    have h1 := w.isLt
    have h2 := t.isLt
  · refine Finset.mem_filter.2 ⟨Finset.mem_univ _, ?_⟩
    show (t.val + w.val - M) % (M + 1) ≤ t.val
    rw [Nat.mod_eq_of_lt (by omega)]; omega
  · refine Finset.mem_filter.2 ⟨Finset.mem_univ _, ?_⟩
    show M ≤ t.val + (M + w.val - t.val) % (M + 1)
    rw [Nat.mod_eq_of_lt (by omega)]; omega
  · refine Fin.ext ?_
    show (M + (t.val + w.val - M) % (M + 1) - t.val) % (M + 1) = w.val
    rw [Nat.mod_eq_of_lt (a := t.val + w.val - M) (by omega), Nat.mod_eq_of_lt (by omega)]; omega
  · refine Fin.ext ?_
    show (t.val + (M + w.val - t.val) % (M + 1) - M) % (M + 1) = w.val
    rw [Nat.mod_eq_of_lt (a := M + w.val - t.val) (by omega), Nat.mod_eq_of_lt (by omega)]; omega
  · rfl

/-- The host's running sum over the fourth axis: row `t` holds the sum of the rows up to `t`. -/
theorem cumsum_apply {A B C M E : ℕ} (x : FVec Ideal (⟨5, ![A, B, C, M + 1, E]⟩ : Shape) .f32) (init : EReal) (hinit : init = 0)
    (h : (⟨5, ![A, B, C, M + 1, E]⟩ : Shape).ReduceWindows (![1, 1, 1, M + 1, 1] : Fin 5 → ℕ) ![1, 1, 1, 1, 1] ![0, 0, 0, M, 0] ![0, 0, 0, 0, 0] ⟨5, ![A, B, C, M + 1, E]⟩)
    (a : Fin A) (b : Fin B) (c : Fin C) (t : Fin (M + 1)) (e : Fin E) :
    Ideal.hostReduceWindowAdd ![1, 1, 1, M + 1, 1] ![1, 1, 1, 1, 1] ![0, 0, 0, M, 0] ![0, 0, 0, 0, 0] h x init (ix5 a b c t e)
      = ∑ i : Fin (M + 1), if i ≤ t then x (ix5 a b c i e) else 0 := by
  unfold Ideal.hostReduceWindowAdd Host.reduceWindow
  dsimp only
  rw [foldl_add_eq, hinit, zero_add, ← List.ofFn_eq_map, List.sum_ofFn]
  rw [← Equiv.sum_comp ((⟨5, ![1, 1, 1, M + 1, 1]⟩ : Shape).rowMajor)]
  rw [← Equiv.sum_comp (windowRows (M + 1)), ← sum_window_rows]
  refine Finset.sum_congr rfl fun w _ => ?_
  have hw (k : Fin 5) : ((⟨5, ![1, 1, 1, M + 1, 1]⟩ : Shape).rowMajor.symm ((⟨5, ![1, 1, 1, M + 1, 1]⟩ : Shape).rowMajor (windowRows (M + 1) w)) k).val
      = (windowRows (M + 1) w k).val := by rw [Equiv.symm_apply_apply]
  have hw0 := hw 0
  have hw1 := hw 1
  have hw2 := hw 2
  have hw3 := hw 3
  have hw4 := hw 4
  change _ = 0 at hw0 hw1 hw2 hw4
  change _ = w.val at hw3
  have ha := a.isLt
  have hb := b.isLt
  have hc := c.isLt
  have ht := t.isLt
  have hwl := w.isLt
  have he := e.isLt
  split
  · next hin =>
    have h3 := (hin 3).1
    change M ≤ t.val * 1 + ((⟨5, ![1, 1, 1, M + 1, 1]⟩ : Shape).rowMajor.symm ((⟨5, ![1, 1, 1, M + 1, 1]⟩ : Shape).rowMajor (windowRows (M + 1) w)) 3).val at h3
    rw [hw3] at h3
    rw [dif_pos (by omega)]
    refine congrArg x (funext fun k => Fin.ext ?_)
    match k with
    | ⟨0, _⟩ => show a.val * 1 + ((⟨5, ![1, 1, 1, M + 1, 1]⟩ : Shape).rowMajor.symm ((⟨5, ![1, 1, 1, M + 1, 1]⟩ : Shape).rowMajor (windowRows (M + 1) w)) 0).val - 0 = a.val; rw [hw0]; omega
    | ⟨1, _⟩ => show b.val * 1 + ((⟨5, ![1, 1, 1, M + 1, 1]⟩ : Shape).rowMajor.symm ((⟨5, ![1, 1, 1, M + 1, 1]⟩ : Shape).rowMajor (windowRows (M + 1) w)) 1).val - 0 = b.val; rw [hw1]; omega
    | ⟨2, _⟩ => show c.val * 1 + ((⟨5, ![1, 1, 1, M + 1, 1]⟩ : Shape).rowMajor.symm ((⟨5, ![1, 1, 1, M + 1, 1]⟩ : Shape).rowMajor (windowRows (M + 1) w)) 2).val - 0 = c.val; rw [hw2]; omega
    | ⟨3, _⟩ => show t.val * 1 + ((⟨5, ![1, 1, 1, M + 1, 1]⟩ : Shape).rowMajor.symm ((⟨5, ![1, 1, 1, M + 1, 1]⟩ : Shape).rowMajor (windowRows (M + 1) w)) 3).val - M = t.val + w.val - M; rw [hw3]; omega
    | ⟨4, _⟩ => show e.val * 1 + ((⟨5, ![1, 1, 1, M + 1, 1]⟩ : Shape).rowMajor.symm ((⟨5, ![1, 1, 1, M + 1, 1]⟩ : Shape).rowMajor (windowRows (M + 1) w)) 4).val - 0 = e.val; rw [hw4]; omega
  · next hin =>
    rw [dif_neg fun hle => hin fun k => ?_]
    match k with
    | ⟨0, _⟩ => show 0 ≤ a.val * 1 + ((⟨5, ![1, 1, 1, M + 1, 1]⟩ : Shape).rowMajor.symm ((⟨5, ![1, 1, 1, M + 1, 1]⟩ : Shape).rowMajor (windowRows (M + 1) w)) 0).val ∧ a.val * 1 + ((⟨5, ![1, 1, 1, M + 1, 1]⟩ : Shape).rowMajor.symm ((⟨5, ![1, 1, 1, M + 1, 1]⟩ : Shape).rowMajor (windowRows (M + 1) w)) 0).val - 0 < A; rw [hw0]; omega
    | ⟨1, _⟩ => show 0 ≤ b.val * 1 + ((⟨5, ![1, 1, 1, M + 1, 1]⟩ : Shape).rowMajor.symm ((⟨5, ![1, 1, 1, M + 1, 1]⟩ : Shape).rowMajor (windowRows (M + 1) w)) 1).val ∧ b.val * 1 + ((⟨5, ![1, 1, 1, M + 1, 1]⟩ : Shape).rowMajor.symm ((⟨5, ![1, 1, 1, M + 1, 1]⟩ : Shape).rowMajor (windowRows (M + 1) w)) 1).val - 0 < B; rw [hw1]; omega
    | ⟨2, _⟩ => show 0 ≤ c.val * 1 + ((⟨5, ![1, 1, 1, M + 1, 1]⟩ : Shape).rowMajor.symm ((⟨5, ![1, 1, 1, M + 1, 1]⟩ : Shape).rowMajor (windowRows (M + 1) w)) 2).val ∧ c.val * 1 + ((⟨5, ![1, 1, 1, M + 1, 1]⟩ : Shape).rowMajor.symm ((⟨5, ![1, 1, 1, M + 1, 1]⟩ : Shape).rowMajor (windowRows (M + 1) w)) 2).val - 0 < C; rw [hw2]; omega
    | ⟨3, _⟩ => show M ≤ t.val * 1 + ((⟨5, ![1, 1, 1, M + 1, 1]⟩ : Shape).rowMajor.symm ((⟨5, ![1, 1, 1, M + 1, 1]⟩ : Shape).rowMajor (windowRows (M + 1) w)) 3).val ∧ t.val * 1 + ((⟨5, ![1, 1, 1, M + 1, 1]⟩ : Shape).rowMajor.symm ((⟨5, ![1, 1, 1, M + 1, 1]⟩ : Shape).rowMajor (windowRows (M + 1) w)) 3).val - M < M + 1; rw [hw3]; omega
    | ⟨4, _⟩ => show 0 ≤ e.val * 1 + ((⟨5, ![1, 1, 1, M + 1, 1]⟩ : Shape).rowMajor.symm ((⟨5, ![1, 1, 1, M + 1, 1]⟩ : Shape).rowMajor (windowRows (M + 1) w)) 4).val ∧ e.val * 1 + ((⟨5, ![1, 1, 1, M + 1, 1]⟩ : Shape).rowMajor.symm ((⟨5, ![1, 1, 1, M + 1, 1]⟩ : Shape).rowMajor (windowRows (M + 1) w)) 4).val - 0 < E; rw [hw4]; omega

end Cert.Proof.Gla
-- ==== Proof.Gla.Ref.lean ====
/- The reference's three gradients at an index, in terms of one chunk of one head; the arrays it holds the gradients of
   the states in are described in `RefLoop`. -/
module

public import proofs.«01_k».proof.Proof.Gen.GlaBwdRefIdeal.Step
public import proofs.«01_k».proof.Proof.Gla.Spec
public import proofs.«01_k».proof.Proof.Gla.Cumsum

@[expose] public section

noncomputable section

namespace Cert.Proof.Gla.Ref

open Cert.GlaBwdRefIdeal Cert.GlaBwdRefIdeal.Gen Cert.GlaBwdRefIdeal.Step Idealize.ShloMosaic Idealize.ShloMosaic.Pointwise
open scoped BigOperators

/-! ## The arrays the reference computes on the way -/

/-- Queries, keys or gates by head, chunk and token. -/
def x5 (x : FVec Ideal S2048x256 .f32) : FVec Ideal S1x4x32x64x64 .f32 :=
  transpose S1x4x32x64x64 [0, 3, 1, 2, 4] (shapeCast _ (broadcastInDim S1x2048x256 ![1, 2] bcast_S2048x256_S1x2048x256_1_2 x)
    shapeCasts_S1x2048x256_S1x32x64x4x64) transposes_S1x32x64x4x64_S1x4x32x64x64_0_3_1_2_4
/-- Values or the output's gradient by head, chunk and token. -/
def w5 (x : FVec Ideal S2048x512 .f32) : FVec Ideal S1x4x32x64x128 .f32 :=
  transpose S1x4x32x64x128 [0, 3, 1, 2, 4] (shapeCast _ (broadcastInDim S1x2048x512 ![1, 2] bcast_S2048x512_S1x2048x512_1_2 x)
    shapeCasts_S1x2048x512_S1x32x64x4x128) transposes_S1x32x64x4x128_S1x4x32x64x128_0_3_1_2_4
/-- A scalar over the whole array. -/
def s5 (w : BitVec 32) : FVec Ideal S1x4x32x64x64 .f32 := broadcastInDim S1x4x32x64x64 ![] bcast_S_S1x4x32x64x64 (constant S_ .f32 w)
/-- The queries scaled. -/
def qs5 (q : FVec Ideal S2048x256 .f32) : FVec Ideal S1x4x32x64x64 .f32 := mulf (x5 q) (s5 0x3E000000#32)
/-- The running sum of the gates. -/
def cum5 (la : FVec Ideal S2048x256 .f32) : FVec Ideal S1x4x32x64x64 .f32 :=
  Host.reduceWindowAdd ![1, 1, 1, 64, 1] ![1, 1, 1, 1, 1] ![0, 0, 0, 63, 0] ![0, 0, 0, 0, 0] (x5 la)
    (broadcastInDim S_ ![] bcast_S_S_ (constant S_ .f32 0x00000000#32))
    reduceWindows_S1x4x32x64x64_S1x4x32x64x64_w1s1p0_0_w1s1p0_0_w1s1p0_0_w64s1p63_0_w1s1p0_0 h_S_
def ep5 (la : FVec Ideal S2048x256 .f32) : FVec Ideal S1x4x32x64x64 .f32 := Host.exp (cum5 la)
def en5 (la : FVec Ideal S2048x256 .f32) : FVec Ideal S1x4x32x64x64 .f32 := Host.exp (Host.negf (cum5 la))
/-- The decay from a token to its chunk's end. -/
def rest5 (la : FVec Ideal S2048x256 .f32) : FVec Ideal S1x4x32x64x64 .f32 :=
  Host.exp (subf (broadcastInDim S1x4x32x64x64 ![0, 1, 2, 3, 4] bcast_S1x4x32x1x64_S1x4x32x64x64_0_1_2_3_4
    (extractStridedSlice S1x4x32x1x64 ![0, 0, 0, 63, 0] (cum5 la) slices_S1x4x32x64x64_S1x4x32x1x64_0_0_0_63_0)) (cum5 la))
/-- The causal mask. -/
def mask5 : IVec S1x4x32x64x64 1 :=
  broadcastInDim S1x4x32x64x64 ![3, 4] bcast_S64x64_S1x4x32x64x64_3_4 (cmpi .sge
    (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0))))
/-- Products of rows with rows, 64 or 128 long. -/
def nt64 (x y : FVec Ideal S1x4x32x64x64 .f32) : FVec Ideal S1x4x32x64x64 .f32 :=
  Host.dotGeneral dot_S1x4x32x64x64_S1x4x32x64x64_S1x4x32x64x64_4_4_3_3_012_012 none x y
def nt128 (x y : FVec Ideal S1x4x32x64x128 .f32) : FVec Ideal S1x4x32x64x64 .f32 :=
  Host.dotGeneral dot_S1x4x32x64x128_S1x4x32x64x128_S1x4x32x64x64_4_4_3_3_012_012 none x y
def nn64 (x y : FVec Ideal S1x4x32x64x64 .f32) : FVec Ideal S1x4x32x64x64 .f32 :=
  Host.dotGeneral dot_S1x4x32x64x64_S1x4x32x64x64_S1x4x32x64x64_4_3_3_4_012_012 none x y
def tn64 (x y : FVec Ideal S1x4x32x64x64 .f32) : FVec Ideal S1x4x32x64x64 .f32 :=
  Host.dotGeneral dot_S1x4x32x64x64_S1x4x32x64x64_S1x4x32x64x64_3_3_4_4_012_012 none x y
def tn128 (x : FVec Ideal S1x4x32x64x128 .f32) (y : FVec Ideal S1x4x32x64x64 .f32) : FVec Ideal S1x4x32x128x64 .f32 :=
  Host.dotGeneral dot_S1x4x32x64x128_S1x4x32x64x64_S1x4x32x128x64_3_3_4_4_012_012 none x y
def tt128 (x : FVec Ideal S1x4x32x64x128 .f32) (y : FVec Ideal S1x4x32x64x64 .f32) : FVec Ideal S1x4x32x128x64 .f32 :=
  Host.dotGeneral dot_S1x4x32x64x128_S1x4x32x64x64_S1x4x32x128x64_3_4_4_3_012_012 none x y
/-- The last two axes swapped. -/
def swap64 (x : FVec Ideal S1x4x32x64x64 .f32) : FVec Ideal S1x4x32x64x64 .f32 :=
  transpose S1x4x32x64x64 [0, 1, 2, 4, 3] x transposes_S1x4x32x64x64_S1x4x32x64x64_0_1_2_4_3
def swap128 (x : FVec Ideal S1x4x32x128x64 .f32) : FVec Ideal S1x4x32x64x128 .f32 :=
  transpose S1x4x32x64x128 [0, 1, 2, 4, 3] x transposes_S1x4x32x128x64_S1x4x32x64x128_0_1_2_4_3
/-- The gradients of the states by head and chunk. -/
def g5 (g : FVec Ideal S32x1x4x64x128 .f32) : FVec Ideal S1x4x32x64x128 .f32 :=
  transpose S1x4x32x64x128 [1, 2, 0, 3, 4] g transposes_S32x1x4x64x128_S1x4x32x64x128_1_2_0_3_4
/-- Tokens by heads again. -/
def out256 (x : FVec Ideal S1x4x32x64x64 .f32) : FVec Ideal S1x2048x256 .f32 :=
  shapeCast _ (transpose S1x32x64x4x64 [0, 2, 3, 1, 4] x transposes_S1x4x32x64x64_S1x32x64x4x64_0_2_3_1_4) shapeCasts_S1x32x64x4x64_S1x2048x256
def out512 (x : FVec Ideal S1x4x32x64x128 .f32) : FVec Ideal S1x2048x512 .f32 :=
  shapeCast _ (transpose S1x32x64x4x128 [0, 2, 3, 1, 4] x transposes_S1x4x32x64x128_S1x32x64x4x128_0_2_3_1_4) shapeCasts_S1x32x64x4x128_S1x2048x512
def front256 (x : FVec Ideal S1x2048x256 .f32) : FVec Ideal S4x2048x64 .bf16 :=
  transpose S4x2048x64 [1, 0, 2] (shapeCast _ (truncf .bf16 (shapeCast _ x shapeCasts_S1x2048x256_S2048x256) bitsLt_bf16_f32)
    shapeCasts_S2048x256_S2048x4x64) transposes_S2048x4x64_S4x2048x64_1_0_2
def front512 (x : FVec Ideal S1x2048x512 .f32) : FVec Ideal S2048x512 .bf16 :=
  truncf .bf16 (shapeCast _ x shapeCasts_S1x2048x512_S2048x512) bitsLt_bf16_f32

variable (q k la : FVec Ideal S2048x256 .f32) (v d : FVec Ideal S2048x512 .f32) (sp : FVec Ideal S1x4x32x64x128 .f32)

/-- The gradients of the scores, of past tokens and of later ones. -/
def fwd5 : FVec Ideal S1x4x32x64x64 .f32 := select mask5 (nt128 (w5 d) (w5 v)) (s5 0x00000000#32)
def bwd5 : FVec Ideal S1x4x32x64x64 .f32 := select mask5 (s5 0x00000000#32) (nt128 (w5 d) (w5 v))
/-- The scores. -/
def sc5 : FVec Ideal S1x4x32x64x64 .f32 :=
  select mask5 (nt64 (mulf (qs5 q) (ep5 la)) (mulf (x5 k) (en5 la))) (nt64 (mulf (qs5 q) (en5 la)) (mulf (x5 k) (ep5 la)))

def dq5 : FVec Ideal S1x4x32x64x64 .f32 :=
  mulf (addf (addf (mulf (nt128 (w5 d) sp) (ep5 la)) (mulf (nn64 (bwd5 v d) (mulf (x5 k) (ep5 la))) (en5 la)))
    (mulf (nn64 (fwd5 v d) (mulf (x5 k) (en5 la))) (ep5 la))) (s5 0x3E000000#32)
def dk5 : FVec Ideal S1x4x32x64x64 .f32 :=
  addf (mulf (tn64 (bwd5 v d) (mulf (qs5 q) (en5 la))) (ep5 la)) (mulf (tn64 (fwd5 v d) (mulf (qs5 q) (ep5 la))) (en5 la))
def dkG5 (g : FVec Ideal S32x1x4x64x128 .f32) : FVec Ideal S1x4x32x64x64 .f32 := mulf (swap64 (nt128 (g5 g) (w5 v))) (rest5 la)
def dv5 : FVec Ideal S1x4x32x64x128 .f32 := swap128 (tn128 (w5 d) (sc5 q k la))
def dvG5 (g : FVec Ideal S32x1x4x64x128 .f32) : FVec Ideal S1x4x32x64x128 .f32 := swap128 (tt128 (g5 g) (mulf (x5 k) (rest5 la)))
/-- The part of a state's gradient that its own chunk makes. -/
def dsp5 : FVec Ideal S1x4x32x64x128 .f32 := swap128 (tn128 (w5 d) (mulf (qs5 q) (ep5 la)))

theorem v150 (s : State Ideal) : R_main_v150 s k v la sp d = front256 (out256 (dq5 k la v d sp)) := rfl
theorem v155 (s : State Ideal) : R_main_v155 s q v la d = front256 (addf (out256 (dk5 q la v d)) (out256 (dkG5 la v s.main_v55_4))) := rfl
theorem v158 (s : State Ideal) : R_main_v158 s q k la d = front512 (addf (out512 (dv5 q k la d)) (out512 (dvG5 k la s.main_v55_4))) := rfl
theorem v41 : A_main_v41 (F := Ideal) q la d = dsp5 q la d := rfl

/-! ## Each of them at an index -/

variable (h : Fin 4) (n : Fin 32) (t r e : Fin 64) (w : Fin 128)

/-- The arguments by token and column. -/
def args : Args where
  q i j := q (ix2 i j)
  k i j := k (ix2 i j)
  la i j := la (ix2 i j)
  v i j := v (ix2 i j)
  d i j := d (ix2 i j)
  s h n e w := sp (ix5 0 h n e w)

theorem split64 (a b : ℕ) (hb : b < 64) : (a * 64 + b) / 64 = a ∧ (a * 64 + b) % 64 = b := by omega
theorem split128 (a b : ℕ) (hb : b < 128) : (a * 128 + b) / 128 = a ∧ (a * 128 + b) % 128 = b := by omega

theorem x5_apply : x5 q (ix5 0 h n t e) = q (ix2 (tok n t) (colk h e)) := by
  pointwise [x5]
  try rfl
theorem w5_apply : w5 v (ix5 0 h n t w) = v (ix2 (tok n t) (colv h w)) := by
  pointwise [w5]
  try rfl
theorem s5_apply (b : BitVec 32) : s5 b (ix5 0 h n t e) = Ideal.ofBits .f32 b := by
  pointwise [s5]
  try rfl
theorem mask5_apply : mask5 (ix5 0 h n t r) = if r ≤ t then 1#1 else 0#1 := by
  rw [← sge_row]
  pointwise [mask5]
  try rfl
theorem nt64_apply (x y : FVec Ideal S1x4x32x64x64 .f32) :
    nt64 x y (ix5 0 h n t r) = ∑ e : Fin 64, x (ix5 0 h n t e) * y (ix5 0 h n r e) := by
  pointwise [nt64]
  try rfl
theorem nt128_apply (x y : FVec Ideal S1x4x32x64x128 .f32) :
    nt128 x y (ix5 0 h n t r) = ∑ e : Fin 128, x (ix5 0 h n t e) * y (ix5 0 h n r e) := by
  pointwise [nt128]
  try rfl
theorem nn64_apply (x y : FVec Ideal S1x4x32x64x64 .f32) :
    nn64 x y (ix5 0 h n t e) = ∑ r : Fin 64, x (ix5 0 h n t r) * y (ix5 0 h n r e) := by
  pointwise [nn64]
  try rfl
theorem tn64_apply (x y : FVec Ideal S1x4x32x64x64 .f32) :
    tn64 x y (ix5 0 h n t e) = ∑ r : Fin 64, x (ix5 0 h n r t) * y (ix5 0 h n r e) := by
  pointwise [tn64]
  try rfl
theorem tn128_apply (x : FVec Ideal S1x4x32x64x128 .f32) (y : FVec Ideal S1x4x32x64x64 .f32) :
    tn128 x y (ix5 0 h n w e) = ∑ r : Fin 64, x (ix5 0 h n r w) * y (ix5 0 h n r e) := by
  pointwise [tn128]
  try rfl
theorem tt128_apply (x : FVec Ideal S1x4x32x64x128 .f32) (y : FVec Ideal S1x4x32x64x64 .f32) :
    tt128 x y (ix5 0 h n w t) = ∑ e : Fin 64, x (ix5 0 h n e w) * y (ix5 0 h n t e) := by
  pointwise [tt128]
  try rfl
theorem swap64_apply (x : FVec Ideal S1x4x32x64x64 .f32) : swap64 x (ix5 0 h n t e) = x (ix5 0 h n e t) := by
  pointwise [swap64]
  try rfl
theorem swap128_apply (x : FVec Ideal S1x4x32x128x64 .f32) : swap128 x (ix5 0 h n e w) = x (ix5 0 h n w e) := by
  pointwise [swap128]
  try rfl
theorem g5_apply (g : FVec Ideal S32x1x4x64x128 .f32) : g5 g (ix5 0 h n e w) = g (ix5 n 0 h e w) := by
  pointwise [g5]
  try rfl
theorem front256_apply (x : FVec Ideal S1x2048x256 .f32) (i : Fin 2048) : front256 x (ix3 h i e) = x (ix3 0 i (colk h e)) := by
  pointwise [front256]
  try rfl
theorem front512_apply (x : FVec Ideal S1x2048x512 .f32) (i : Fin 2048) (j : Fin 512) : front512 x (ix2 i j) = x (ix3 0 i j) := by
  pointwise [front512]
  try rfl
theorem out256_apply (x : FVec Ideal S1x4x32x64x64 .f32) : out256 x (ix3 0 (tok n t) (colk h e)) = x (ix5 0 h n t e) := by
  pointwise [out256]
  simp only [(split64 _ _ e.isLt).1, (split64 _ _ e.isLt).2, (split64 _ _ t.isLt).1, (split64 _ _ t.isLt).2]
theorem out512_apply (x : FVec Ideal S1x4x32x64x128 .f32) : out512 x (ix3 0 (tok n t) (colv h w)) = x (ix5 0 h n t w) := by
  pointwise [out512]
  simp only [(split128 _ _ w.isLt).1, (split128 _ _ w.isLt).2, (split64 _ _ t.isLt).1, (split64 _ _ t.isLt).2]
theorem zero_apply : s5 0x00000000#32 (ix5 0 h n t e) = 0 := by
  pointwise [s5]
theorem cum5_apply : cum5 la (ix5 0 h n t e) = ∑ i : Fin 64, if i ≤ t then la (ix2 (tok n i) (colk h e)) else 0 := by
  have h0 : (broadcastInDim S_ ![] bcast_S_S_ (constant (F := Ideal) S_ .f32 0x00000000#32)) (Shape.Idx.first h_S_) = (0 : EReal) := by
    rw [← zero_apply h n t e]
    rfl
  refine (cumsum_apply (A := 1) (B := 4) (C := 32) (M := 63) (E := 64) (x5 la) _ h0
    reduceWindows_S1x4x32x64x64_S1x4x32x64x64_w1s1p0_0_w1s1p0_0_w1s1p0_0_w64s1p63_0_w1s1p0_0 0 h n t e).trans ?_
  simp only [x5_apply]

/-! ## The gradients, chunk by chunk -/

/-- The chunk. -/
abbrev hd (q k la : FVec Ideal S2048x256 .f32) (v d : FVec Ideal S2048x512 .f32) (sp : FVec Ideal S1x4x32x64x128 .f32)
    (h : Fin 4) (n : Fin 32) : Head := (args q k la v d sp).head h n

theorem ep5_apply : ep5 la (ix5 0 h n t e) = (hd q k la v d sp h n).ep t e := congrArg Ideal.exp (cum5_apply la h n t e)
theorem en5_apply : en5 la (ix5 0 h n t e) = (hd q k la v d sp h n).en t e :=
  congrArg (fun x => Ideal.exp (-x)) (cum5_apply la h n t e)
theorem rest5_apply : rest5 la (ix5 0 h n t e) = (hd q k la v d sp h n).rest t e := by
  pointwise [rest5]
  rw [cum5_apply, cum5_apply]
  rfl
theorem qs5_apply : qs5 q (ix5 0 h n t e) = (hd q k la v d sp h n).qs t e := by
  show x5 q (ix5 0 h n t e) * s5 _ (ix5 0 h n t e) = _
  rw [x5_apply, s5_apply]
  rfl
theorem dsc5_apply : nt128 (w5 d) (w5 v) (ix5 0 h n t r) = (hd q k la v d sp h n).dsc t r := by
  rw [nt128_apply]
  simp only [w5_apply]
  rfl
theorem fwd5_apply : fwd5 v d (ix5 0 h n t r) = (hd q k la v d sp h n).fwd t r := by
  show Scalar.select (mask5 (ix5 0 h n t r)) (nt128 (w5 d) (w5 v) (ix5 0 h n t r)) (s5 _ (ix5 0 h n t r)) = _
  rw [mask5_apply, select_ite, dsc5_apply q k la v d sp, zero_apply]
  rfl
theorem bwd5_apply : bwd5 v d (ix5 0 h n t r) = (hd q k la v d sp h n).bwd t r := by
  show Scalar.select (mask5 (ix5 0 h n t r)) (s5 _ (ix5 0 h n t r)) (nt128 (w5 d) (w5 v) (ix5 0 h n t r)) = _
  rw [mask5_apply, select_ite, dsc5_apply q k la v d sp, zero_apply]
  rfl

theorem qp_apply : mulf (qs5 q) (ep5 la) (ix5 0 h n t e) = (hd q k la v d sp h n).qs t e * (hd q k la v d sp h n).ep t e := by
  rw [← qs5_apply, ← ep5_apply]; rfl
theorem qn_apply : mulf (qs5 q) (en5 la) (ix5 0 h n t e) = (hd q k la v d sp h n).qs t e * (hd q k la v d sp h n).en t e := by
  rw [← qs5_apply, ← en5_apply]; rfl
theorem kp_apply : mulf (x5 k) (ep5 la) (ix5 0 h n t e) = (hd q k la v d sp h n).k t e * (hd q k la v d sp h n).ep t e := by
  rw [← ep5_apply]; exact congrArg (· * _) (x5_apply k h n t e)
theorem kn_apply : mulf (x5 k) (en5 la) (ix5 0 h n t e) = (hd q k la v d sp h n).k t e * (hd q k la v d sp h n).en t e := by
  rw [← en5_apply]; exact congrArg (· * _) (x5_apply k h n t e)
theorem kr_apply : mulf (x5 k) (rest5 la) (ix5 0 h n t e) = (hd q k la v d sp h n).k t e * (hd q k la v d sp h n).rest t e := by
  rw [← rest5_apply]; exact congrArg (· * _) (x5_apply k h n t e)

theorem sc5_apply : sc5 q k la (ix5 0 h n t r) = (hd q k la v d sp h n).sc t r := by
  show Scalar.select (mask5 (ix5 0 h n t r)) (nt64 _ _ (ix5 0 h n t r)) (nt64 _ _ (ix5 0 h n t r)) = _
  rw [mask5_apply, select_ite, nt64_apply, nt64_apply]
  simp only [qp_apply q k la v d sp, qn_apply q k la v d sp, kp_apply q k la v d sp, kn_apply q k la v d sp]
  rfl

theorem dq5_apply : dq5 k la v d sp (ix5 0 h n t e) = (hd q k la v d sp h n).dq t e := by
  show (nt128 (w5 d) sp (ix5 0 h n t e) * ep5 la (ix5 0 h n t e) + nn64 _ _ (ix5 0 h n t e) * en5 la (ix5 0 h n t e)
    + nn64 _ _ (ix5 0 h n t e) * ep5 la (ix5 0 h n t e)) * s5 _ (ix5 0 h n t e) = _
  rw [nt128_apply, nn64_apply, nn64_apply, s5_apply]
  simp only [w5_apply, kp_apply q k la v d sp, kn_apply q k la v d sp, fwd5_apply q k la v d sp, bwd5_apply q k la v d sp,
    ep5_apply q k la v d sp, en5_apply q k la v d sp]
  rfl
theorem dk5_apply : dk5 q la v d (ix5 0 h n t e)
    = (∑ r, (hd q k la v d sp h n).bwd r t * ((hd q k la v d sp h n).qs r e * (hd q k la v d sp h n).en r e)) * (hd q k la v d sp h n).ep t e
    + (∑ r, (hd q k la v d sp h n).fwd r t * ((hd q k la v d sp h n).qs r e * (hd q k la v d sp h n).ep r e)) * (hd q k la v d sp h n).en t e := by
  show tn64 _ _ (ix5 0 h n t e) * ep5 la (ix5 0 h n t e) + tn64 _ _ (ix5 0 h n t e) * en5 la (ix5 0 h n t e) = _
  rw [tn64_apply, tn64_apply]
  simp only [qp_apply q k la v d sp, qn_apply q k la v d sp, fwd5_apply q k la v d sp, bwd5_apply q k la v d sp,
    ep5_apply q k la v d sp, en5_apply q k la v d sp]
theorem dkG5_apply (g : FVec Ideal S32x1x4x64x128 .f32) : dkG5 la v g (ix5 0 h n t e)
    = (∑ w, g (ix5 n 0 h e w) * (hd q k la v d sp h n).v t w) * (hd q k la v d sp h n).rest t e := by
  show swap64 _ (ix5 0 h n t e) * rest5 la (ix5 0 h n t e) = _
  rw [swap64_apply, nt128_apply, rest5_apply q k la v d sp]
  simp only [g5_apply, w5_apply]
  rfl
theorem dv5_apply : dv5 q k la d (ix5 0 h n t w) = ∑ r, (hd q k la v d sp h n).d r w * (hd q k la v d sp h n).sc r t := by
  show swap128 _ (ix5 0 h n t w) = _
  rw [swap128_apply, tn128_apply]
  simp only [w5_apply, sc5_apply q k la v d sp]
  rfl
theorem dvG5_apply (g : FVec Ideal S32x1x4x64x128 .f32) : dvG5 k la g (ix5 0 h n t w)
    = ∑ e, g (ix5 n 0 h e w) * ((hd q k la v d sp h n).k t e * (hd q k la v d sp h n).rest t e) := by
  show swap128 _ (ix5 0 h n t w) = _
  rw [swap128_apply, tt128_apply]
  simp only [g5_apply, kr_apply q k la v d sp]
theorem dsp5_apply : dsp5 q la d (ix5 0 h n e w)
    = ∑ r, ((hd q k la v d sp h n).qs r e * (hd q k la v d sp h n).ep r e) * (hd q k la v d sp h n).d r w := by
  show swap128 _ (ix5 0 h n e w) = _
  rw [swap128_apply, tn128_apply]
  simp only [w5_apply, qp_apply q k la v d sp]
  exact Finset.sum_congr rfl fun r _ => mul_comm _ _

/-! ## The results -/

theorem R_dq (s : State Ideal) : R_main_v150 s k v la sp d (ix3 h (tok n t) e) = (args q k la v d sp).dq h n t e := by
  rw [v150, front256_apply, out256_apply]
  exact dq5_apply q k la v d sp h n t e
/-- With the states' gradients at hand: the keys' gradient. -/
theorem R_dk (s : State Ideal) (G : Fin 64 → Fin 128 → EReal) (hG : ∀ e w, s.main_v55_4 (ix5 n 0 h e w) = G e w) :
    R_main_v155 s q v la d (ix3 h (tok n t) e) = ((args q k la v d sp).head h n).dk G t e := by
  rw [v155, front256_apply]
  show out256 _ (ix3 0 (tok n t) (colk h e)) + out256 _ (ix3 0 (tok n t) (colk h e)) = _
  rw [out256_apply, out256_apply, dk5_apply q k la v d sp, dkG5_apply q k la v d sp]
  simp only [hG]
  rfl
/-- And the values' gradient. -/
theorem R_dv (s : State Ideal) (G : Fin 64 → Fin 128 → EReal) (hG : ∀ e w, s.main_v55_4 (ix5 n 0 h e w) = G e w) :
    R_main_v158 s q k la d (ix2 (tok n t) (colv h w)) = ((args q k la v d sp).head h n).dv G t w := by
  rw [v158, front512_apply]
  show out512 _ (ix3 0 (tok n t) (colv h w)) + out512 _ (ix3 0 (tok n t) (colv h w)) = _
  rw [out512_apply, out512_apply, dv5_apply q k la v d sp, dvG5_apply q k la v d sp]
  simp only [hG]
  rfl

end Cert.Proof.Gla.Ref

end
-- ==== Proof.Gla.RefLoop.lean ====
/- The reference's loop over the chunks, from the last to the first: what it carries and the array it fills are the
   gradients of the states. -/
module

public import proofs.«01_k».proof.Proof.Gla.Ref

@[expose] public section

noncomputable section

namespace Cert.Proof.Gla.Ref

open Cert.GlaBwdRefIdeal Cert.GlaBwdRefIdeal.Gen Cert.GlaBwdRefIdeal.Step Idealize.ShloMosaic Idealize.ShloMosaic.Pointwise
open scoped BigOperators

/-! ## One trip -/

/-- The chunk trip `j` reads and writes, as its body computes it. -/
def start (j : ℕ) : ℕ :=
  (min (max (IntOp.subi (IntOp.subi 32#32 (BitVec.ofNat 32 j)) 1#32).toInt 0) ((32 - 1 : ℕ) : ℤ)).toNat

theorem start_eq : ∀ j : Fin 32, start j.val = 31 - j.val := by decide

variable (s : State Ideal) (j : Fin 32) (h : Fin 4) (n : Fin 32) (e : Fin 64) (w : Fin 128)

/-- That chunk. -/
abbrev back : Fin 32 := ⟨31 - j.val, by omega⟩

theorem b8_apply : b8 j.val s (ix5 0 0 h e w) = s.main_v55_0 (ix5 (back j) 0 h e w) := by
  unfold b8 Host.dynamicSlice extractStridedSlice
  refine congrArg s.main_v55_0 (funext fun a => Fin.ext ?_)
  match a with
  | ⟨0, _⟩ => show start j.val + 0 = 31 - j.val; rw [start_eq]; rfl
  | ⟨1, _⟩ => rfl
  | ⟨2, _⟩ => exact Nat.zero_add h.val
  | ⟨3, _⟩ => exact Nat.zero_add e.val
  | ⟨4, _⟩ => exact Nat.zero_add w.val

theorem b14_apply : b14 j.val s (ix5 0 0 h e 0) = s.main_v55_1 (ix5 (back j) 0 h e 0) := by
  unfold b14 Host.dynamicSlice extractStridedSlice
  refine congrArg s.main_v55_1 (funext fun a => Fin.ext ?_)
  match a with
  | ⟨0, _⟩ => show start j.val + 0 = 31 - j.val; rw [start_eq]; rfl
  | ⟨1, _⟩ => rfl
  | ⟨2, _⟩ => exact Nat.zero_add h.val
  | ⟨3, _⟩ => exact Nat.zero_add e.val
  | ⟨4, _⟩ => rfl

theorem b18_apply : b18 j.val s (ix4 0 h e w)
    = s.main_v55_0 (ix5 (back j) 0 h e w) + s.main_v55_1 (ix5 (back j) 0 h e 0) * s.main_v55_3 (ix4 0 h e w) := by
  rw [← b8_apply, ← b14_apply]
  pointwise [b18, b9, b17, b16, b15]

theorem b19_apply : b19 j.val s (ix5 0 0 h e w) = s.main_v55_3 (ix4 0 h e w) := by
  pointwise [b19]

theorem b24_apply : b24 j.val s (ix5 n 0 h e w)
    = if n = back j then s.main_v55_3 (ix4 0 h e w) else s.main_v55_4 (ix5 n 0 h e w) := by
  have st := start_eq j
  rw [← b19_apply s j]
  unfold b24 Host.dynamicUpdateSlice updateSlice
  dsimp only
  by_cases hn : n = back j
  · subst hn
    rw [if_pos rfl, dif_pos]
    · refine congrArg (b19 j.val s) (funext fun a => Fin.ext ?_)
      match a with
      | ⟨0, _⟩ => show 31 - j.val - start j.val = 0; omega
      | ⟨1, _⟩ => rfl
      | ⟨2, _⟩ => exact Nat.sub_zero h.val
      | ⟨3, _⟩ => exact Nat.sub_zero e.val
      | ⟨4, _⟩ => exact Nat.sub_zero w.val
    · intro a
      match a with
      | ⟨0, _⟩ => show start j.val ≤ 31 - j.val ∧ 31 - j.val < start j.val + 1; omega
      | ⟨1, _⟩ => exact ⟨Nat.zero_le _, Nat.one_pos⟩
      | ⟨2, _⟩ => exact ⟨Nat.zero_le _, lt_of_lt_of_eq h.isLt (Nat.zero_add 4).symm⟩
      | ⟨3, _⟩ => exact ⟨Nat.zero_le _, lt_of_lt_of_eq e.isLt (Nat.zero_add 64).symm⟩
      | ⟨4, _⟩ => exact ⟨Nat.zero_le _, lt_of_lt_of_eq w.isLt (Nat.zero_add 128).symm⟩
  · rw [if_neg hn, dif_neg]
    intro hin
    have h0 : start j.val ≤ n.val ∧ n.val < start j.val + 1 := hin 0
    exact hn (Fin.ext (by show n.val = 31 - j.val; omega))

/-! ## The loop -/

variable (q k la : FVec Ideal S2048x256 .f32) (v d : FVec Ideal S2048x512 .f32) (sp : FVec Ideal S1x4x32x64x128 .f32)

theorem A52_apply : A_main_v52 (F := Ideal) q la d (ix5 n 0 h e w)
    = ∑ r, ((hd q k la v d sp h n).qs r e * (hd q k la v d sp h n).ep r e) * (hd q k la v d sp h n).d r w := by
  rw [← dsp5_apply, ← v41]
  pointwise [A_main_v52]

theorem v45 : A_main_v45 (F := Ideal) q la d = cum5 la := rfl

theorem A51_apply : A_main_v51 (F := Ideal) q la d (ix5 n 0 h e 0) = (hd q k la v d sp h n).decay e := by
  have hc : A_main_v45 (F := Ideal) q la d (ix5 0 h n (Fin.last 63) e) = _ := cum5_apply la h n (Fin.last 63) e
  pointwise [A_main_v51, A_main_v50, A_main_v48, A_main_v47, A_main_v46]
  exact congrArg Ideal.exp hc

/-- The loop's states. -/
def it : ℕ → State Ideal
  | 0 => init q la d
  | n + 1 => step n (it n)

theorem it_0 (j : ℕ) : (it q la d j).main_v55_0 = A_main_v52 q la d := by
  induction j with
  | zero => rfl
  | succ j ih => exact ih
theorem it_1 (j : ℕ) : (it q la d j).main_v55_1 = A_main_v51 q la d := by
  induction j with
  | zero => rfl
  | succ j ih => exact ih

/-- After `j` trips the carried array is the gradient of the state after the chunk that has `j` chunks behind it. -/
theorem it_3 (j : ℕ) (hj : j ≤ 32) (h : Fin 4) (e : Fin 64) (w : Fin 128) :
    (it q la d j).main_v55_3 (ix4 0 h e w) = (args q k la v d sp).G h j e w := by
  induction j generalizing e w with
  | zero =>
    show K_main_v53 (F := Ideal) (ix4 0 h e w) = 0
    pointwise [K_main_v53, K_main_cst_1]
  | succ j ih =>
    show b18 j (it q la d j) (ix4 0 h e w) = _
    rw [b18_apply (it q la d j) ⟨j, by omega⟩, it_0, it_1, A52_apply h _ e w q k la v d sp, A51_apply h _ e q k la v d sp, ih (by omega)]
    have hb : Fin.ofNat 32 (31 - j) = back ⟨j, by omega⟩ := Fin.ext (Nat.mod_eq_of_lt (by omega))
    show _ = ((args q k la v d sp).head h (Fin.ofNat 32 (31 - j))).ds ((args q k la v d sp).G h j) e w
    rw [hb]
    rfl

/-- And the rows written so far hold the gradients of the states after their chunks. -/
theorem it_4 (j : ℕ) (hj : j ≤ 32) (h : Fin 4) (n : Fin 32) (hn : 32 - j ≤ n.val) (e : Fin 64) (w : Fin 128) :
    (it q la d j).main_v55_4 (ix5 n 0 h e w) = (args q k la v d sp).G h (31 - n.val) e w := by
  induction j with
  | zero => have := n.isLt; omega
  | succ j ih =>
    show b24 j (it q la d j) (ix5 n 0 h e w) = _
    rw [b24_apply (it q la d j) ⟨j, by omega⟩]
    split
    · rename_i hb
      have : 31 - n.val = j := by rw [hb]; show 31 - (31 - j) = j; omega
      rw [this]
      exact it_3 q k la v d sp j (by omega) h e w
    · rename_i hb
      have hb' : n.val ≠ 31 - j := fun he => hb (Fin.ext he)
      exact ih (by omega) (by omega)

end Cert.Proof.Gla.Ref

end
-- ==== Proof.Gla.RefRun.lean ====
/- The reference's run, read trip by trip: what the program holds before each trip is the state `Step` describes, and its
   results are made from the last state. -/
module

public import proofs.«01_k».proof.Proof.Gen.GlaBwdRefIdeal.Run
public import proofs.«01_k».proof.Proof.Gen.GlaBwdRefIdeal.Step
public import proofs.«01_k».proof.Proof.Gla.RefLoop

@[expose] public section

noncomputable section

namespace Cert.Proof.Gla.Ref

open Idealize.ShloMosaic Idealize.ShloMosaic.TcCoe Idealize.SL.Sem Idealize.ShloMosaic.StableHlo
open Cert.GlaBwdRefIdeal Cert.GlaBwdRefIdeal.Gen Cert.GlaBwdRefIdeal.Value
open Cert.GlaBwdRefIdeal.Step (State step init)

/-- The program's arrays are the state's, its counter the trip's number. -/
structure At (V : Valuation τ sig (Elt Ideal)) (s : State Ideal) (j : ℕ) : Prop where
  carry : V (Proc.devRef .tc main_v55_3) = s.main_v55_3
  rows : V (Proc.devRef .tc main_v55_4) = s.main_v55_4
  own : V (Proc.devRef .tc main_v55_0) = s.main_v55_0
  decay : V (Proc.devRef .tc main_v55_1) = s.main_v55_1
  count : V (Proc.devRef .tc main_v55_2) = constantI S_ 32 (BitVec.ofNat 32 j)

variable {V : Valuation τ sig (Elt Ideal)} {s : State Ideal} {j : ℕ}

/-- The chunk's number the program computes is the state's. -/
theorem At.chunk (h : At V s j) : res_main_while0b_v160 V = Step.b3 j s := by
  unfold res_main_while0b_v160
  rw [h.count]
  rfl

theorem At.next (h : At V s j) : At (STEP V) (step j s) (j + 1) where
  carry := by
    refine (STEP_main_v55_3 V).trans ?_
    unfold step_main_v55_3
    rw [h.chunk, h.own, h.decay, h.carry]
    rfl
  rows := by
    refine (STEP_main_v55_4 V).trans ?_
    unfold step_main_v55_4
    rw [h.chunk, h.rows, h.carry]
    rfl
  own := (STEP_main_v55_0 V).trans h.own
  decay := (STEP_main_v55_1 V).trans h.decay
  count := by
    refine (STEP_main_v55_2 V).trans ?_
    unfold step_main_v55_2
    rw [h.count]
    funext i
    show BitVec.ofNat 32 j + 1#32 = BitVec.ofNat 32 (j + 1)
    simp only [BitVec.ofNat_add]

variable (m : (ℓ : Loc nD τ sig) → Buf (Elt Ideal) ℓ) (c : Dev nD)

/-- The loop's states on a device. -/
abbrev states : ℕ → State Ideal :=
  it (m ((c.tc : Thread nD τ).loc main_arg0)) (m ((c.tc : Thread nD τ).loc main_arg3)) (m ((c.tc : Thread nD τ).loc main_arg5))

set_option maxRecDepth 65536 in
set_option maxHeartbeats 300000 in
theorem at_entry : At (entryContents preI m c) (states m c 0) 0 := by
  constructor <;> (simp only [entryContents, afterL_cons, afterL_nil]; after_reads_simp) <;> rfl

theorem at_trip (k : ℕ) : At (STEP^[k] (entryContents preI m c)) (states m c k) k := by
  induction k with
  | zero => exact at_entry m c
  | succ k ih =>
    rw [Function.iterate_succ_apply']
    exact ih.next

set_option maxRecDepth 8192 in
theorem out_dq : out_main_v150 (STEP^[32] (entryContents preI m c))
    = Step.R_main_v150 (states m c 32) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold out_main_v150 Step.R_main_v150
  rw [iter_main_arg1, iter_main_arg2, iter_main_arg3, iter_main_arg4, iter_main_arg5]
set_option maxRecDepth 8192 in
theorem out_dk : out_main_v155 (STEP^[32] (entryContents preI m c))
    = Step.R_main_v155 (states m c 32) (m ((c.tc : Thread nD τ).loc main_arg0)) (m ((c.tc : Thread nD τ).loc main_arg2))
      (m ((c.tc : Thread nD τ).loc main_arg3)) (m ((c.tc : Thread nD τ).loc main_arg5)) := by
  unfold out_main_v155 Step.R_main_v155
  rw [(at_trip m c 32).rows, iter_main_arg0, iter_main_arg2, iter_main_arg3, iter_main_arg5]
set_option maxRecDepth 8192 in
theorem out_dv : out_main_v158 (STEP^[32] (entryContents preI m c))
    = Step.R_main_v158 (states m c 32) (m ((c.tc : Thread nD τ).loc main_arg0)) (m ((c.tc : Thread nD τ).loc main_arg1))
      (m ((c.tc : Thread nD τ).loc main_arg3)) (m ((c.tc : Thread nD τ).loc main_arg5)) := by
  unfold out_main_v158 Step.R_main_v158
  rw [(at_trip m c 32).rows, iter_main_arg0, iter_main_arg1, iter_main_arg3, iter_main_arg5]
  rfl

end Cert.Proof.Gla.Ref

end
-- ==== Proof.Gla.Equation.lean ====
/- The gated linear attention's backward call computes the reference's gradients of the queries, keys and values, at real
   log gates: both runs end with the same three arrays. -/
module

public import proofs.«01_k».proof.Defs
public import proofs.«01_k».proof.Proof.Gen.Pre_finite_gates
public import proofs.«01_k».proof.Proof.Gen.GlaBwdIdeal.Value
public import proofs.«01_k».proof.Proof.Gla.Array
public import proofs.«01_k».proof.Proof.Gla.RefRun

@[expose] public section

noncomputable section

namespace Cert.Proof.Gla

open Idealize.ShloMosaic Idealize.ShloMosaic.TcCoe Idealize.ShloMosaic.Pointwise Idealize.SL.Sem Idealize.ShloMosaic.StableHlo

/-- A number whose difference with itself is zero is real. -/
theorem real_of_sub_self {x : EReal} (h : x - x = 0) : x ≠ ⊤ ∧ x ≠ ⊥ := by
  refine ⟨?_, ?_⟩
  · rintro rfl
    rw [EReal.sub_top] at h
    exact EReal.bot_ne_zero h
  · rintro rfl
    rw [EReal.bot_sub] at h
    exact EReal.bot_ne_zero h

/-- The precondition, read at one gate. -/
theorem finite_of_pre (m : (ℓ : Loc Cert.GlaBwdIdeal.nD Cert.GlaBwdIdeal.τ Cert.GlaBwdIdeal.sig) → Buf (Elt Ideal) ℓ)
    (hp : Cert.Pre_GlaBwdIdeal_finite_gates m) (c : Dev Cert.GlaBwdIdeal.nD) : (args m c).Finite := fun r e => by
  have h := congrFun (hp c) (ix2 r e)
  refine real_of_sub_self ?_
  show aLa m c (ix2 r e) - aLa m c (ix2 r e) = 0
  pointwise [Cert.Pre_finite_gates.fn] at h
  by_contra hne
  rw [decide_eq_false hne] at h
  exact absurd h (by decide)

variable (m' : (ℓ : Loc Cert.GlaBwdRefIdeal.nD Cert.GlaBwdRefIdeal.τ Cert.GlaBwdRefIdeal.sig) → Buf (Elt Ideal) ℓ)
  (c : Dev Cert.GlaBwdRefIdeal.nD)

/-- The reference's arguments on the device, by token and column. -/
abbrev refArgs : Args :=
  Ref.args (m' (c.tc.loc Cert.GlaBwdRefIdeal.main_arg0)) (m' (c.tc.loc Cert.GlaBwdRefIdeal.main_arg1))
    (m' (c.tc.loc Cert.GlaBwdRefIdeal.main_arg3)) (m' (c.tc.loc Cert.GlaBwdRefIdeal.main_arg2))
    (m' (c.tc.loc Cert.GlaBwdRefIdeal.main_arg5)) (m' (c.tc.loc Cert.GlaBwdRefIdeal.main_arg4))

/-- Token `i` is token `i % 64` of chunk `i / 64`; columns likewise. -/
theorem eq_tok (i : Fin 2048) : ∃ n t, i = tok n t :=
  ⟨⟨i.val / 64, by omega⟩, ⟨i.val % 64, by omega⟩, Fin.ext (by show i.val = i.val / 64 * 64 + i.val % 64; omega)⟩
theorem eq_colv (i : Fin 512) : ∃ h w, i = colv h w :=
  ⟨⟨i.val / 128, by omega⟩, ⟨i.val % 128, by omega⟩, Fin.ext (by show i.val = i.val / 128 * 128 + i.val % 128; omega)⟩

theorem algebraic : Cert.algebraic_GlaBwdIdeal_GlaBwdRefIdeal_pre_finite_gates := by
  intro m g m' g' hp hin
  have ha : ∀ c, refArgs m' c = args m c := fun c => by
    obtain ⟨e0, e1, e2, e3, e4, e5, _⟩ := hin c
    show Ref.args _ _ _ _ _ _ = _
    rw [e0, e1, e2, e3, e4, e5]
    rfl
  refine ⟨fun c => gDq m c, fun c => gDk m c, fun c => gDv m c, ?_, ?_⟩
  · refine (θ_run Cert.GlaBwdIdeal.defs _ _).mono (fun r h c => ?_) (Cert.GlaBwdIdeal.Value.run_blocks (F := Ideal) m g)
    obtain ⟨h0, h1, h2, _, _, _, _, _, _, hargs⟩ := h c
    have fin := finite_of_pre m hp c
    exact ⟨h0.trans (final15 m c fin), h1.trans (final16 m c fin), h2.trans (final17 m c fin), hargs⟩
  · refine (θ_run Cert.GlaBwdRefIdeal.defs _ _).mono (fun r h c => ?_)
      (Cert.GlaBwdRefIdeal.Value.run (F := Ideal) m' g')
    obtain ⟨h0, h1, h2, hargs⟩ := h c
    have hG : ∀ (h : Fin 4) (n : Fin 32) (e : Fin 64) (w : Fin 128),
        (Ref.states m' c 32).main_v55_4 (ix5 n 0 h e w) = (refArgs m' c).G h (31 - n.val) e w := fun h n e w =>
      Ref.it_4 _ _ _ _ _ _ 32 (le_refl _) h n (Nat.zero_le _) e w
    refine ⟨(h0.trans (Ref.out_dq m' c)).trans ?_, (h1.trans (Ref.out_dk m' c)).trans ?_, (h2.trans (Ref.out_dv m' c)).trans ?_, hargs⟩
    · funext j
      obtain ⟨h, i, e, rfl⟩ := Ins.eq_ix3 (a := 4) (b := 2048) (c := 64) j
      obtain ⟨n, t, rfl⟩ := eq_tok i
      refine Eq.trans ?_ (gDq_apply m c h e n t).symm
      rw [← ha]
      exact Ref.R_dq (m' (c.tc.loc Cert.GlaBwdRefIdeal.main_arg0)) _ _ _ _ _ h n t e _
    · funext j
      obtain ⟨h, i, e, rfl⟩ := Ins.eq_ix3 (a := 4) (b := 2048) (c := 64) j
      obtain ⟨n, t, rfl⟩ := eq_tok i
      refine Eq.trans ?_ (gDk_apply m c h e n t).symm
      rw [← ha]
      exact Ref.R_dk _ (m' (c.tc.loc Cert.GlaBwdRefIdeal.main_arg1)) _ _ _
        (m' (c.tc.loc Cert.GlaBwdRefIdeal.main_arg4)) h n t e _ _ (hG h n)
    · funext j
      obtain ⟨i, l, rfl⟩ := Ins.eq_ix2 (a := 2048) (b := 512) j
      obtain ⟨n, t, rfl⟩ := eq_tok i
      obtain ⟨h, w, rfl⟩ := eq_colv l
      refine Eq.trans ?_ (gDv_apply m c h n t w).symm
      rw [← ha]
      exact Ref.R_dv _ _ _ (m' (c.tc.loc Cert.GlaBwdRefIdeal.main_arg2)) _
        (m' (c.tc.loc Cert.GlaBwdRefIdeal.main_arg4)) h n t w _ _ (hG h n)

end Cert.Proof.Gla

end
-- ==== Proof.MlpLoss.Block.lean ====
/- One grid point of `mlp_loss`: what its body leaves in each output's block, as a function of the six input
   blocks. The row outputs are functions of the point's blocks alone; the loss and the gain's gradient are the
   point's own sum at the first point and that sum added to what the point before left at the others. -/
module

public import proofs.«01_k».proof.Proof.Gen.MlpLossIdeal.Value

@[expose] public section

set_option maxRecDepth 16384

noncomputable section

namespace Cert.Proof.MlpLoss

open Cert.MlpLossIdeal Cert.MlpLossIdeal.Gen Idealize.ShloMosaic Idealize.ShloMosaic.TcCoe Idealize.ShloMosaic.Tactic

variable {F : FTy → Type} [FloatOps F]

/-- The six input blocks of a point. -/
structure Ins (F : FTy → Type) where
  h2 : Vec F S256x1024 .bf16
  x1 : Vec F S256x1024 .f32
  tgt : Vec F S256x1024 .f32
  wu : Vec F S8x1024x512 .bf16
  wd : Vec F S4096x1024 .bf16
  g : Vec F S1x1024 .f32

/-- The positive part of the block's up projection. -/
abbrev bR (b : Ins F) : FVec F S256x4096 .f32 := k0_pay5 b.h2 b.wu
/-- The block of the up projection. -/
def bUp (b : Ins F) : FVec F S256x4096 .bf16 := k0_pay20 (k0_pay4 b.h2 b.wu)
/-- The block of its squared positive part. -/
def bU (b : Ins F) : FVec F S256x4096 .bf16 := k0_pay21 (k0_pay6 (bR b))
/-- The two halves of the gradient at the residual stream. -/
abbrev bE1 (b : Ins F) : FVec F S256x1024 .f32 := k0_pay15 b.x1 b.tgt (k0_pay2 b.wd) (k0_pay3 b.g) (bR b)
abbrev bE2 (b : Ins F) : FVec F S256x1024 .f32 := k0_pay16 b.x1 b.tgt (k0_pay2 b.wd) (k0_pay3 b.g) (bR b)
/-- The block of the gradient at the residual stream. -/
def bDx (b : Ins F) : FVec F S256x1024 .f32 := k0_pay17 (bE1 b) (bE2 b)
/-- The block of the gradient at the MLP's output. -/
def bDdn (b : Ins F) : FVec F S256x1024 .bf16 :=
  k0_pay22 (k0_pay3 b.g) (k0_pay7 (k0_pay2 b.wd) (bR b)) (k0_pay9 (k0_pay2 b.wd) (bR b))
    (k0_pay10 (k0_pay2 b.wd) (bR b)) (bE1 b) (bE2 b)
/-- The block's part of the loss. -/
def bLoss (b : Ins F) : FVec F S1x1 .f32 := k0_pay13 b.x1 b.tgt (k0_pay2 b.wd) (k0_pay3 b.g) (bR b)
/-- The block's part of the gradient of the gain. -/
def bDg (b : Ins F) : FVec F S1x1024 .f32 := k0_pay18 (k0_pay11 (k0_pay2 b.wd) (bR b)) (bE1 b) (bE2 b)

variable (m : (ℓ : Loc nD τ sig) → Buf (Elt F) ℓ)

/-- The input blocks of point `t`. -/
def ins (c : Dev nD) (t : Fin cfg0.N) : Ins F :=
  ⟨iblk m c 0 t, iblk m c 1 t, iblk m c 2 t, iblk m c 3 t, iblk m c 4 t, iblk m c 5 t⟩

theorem hz : (![0, 0] : Fin 2 → Nat) = fun _ => 0 := funext fun a => by fin_cases a <;> rfl
theorem hz3 : (![0, 0, 0] : Fin 3 → Nat) = fun _ => 0 := funext fun a => by fin_cases a <;> rfl

section CaseA

/-! The first point: each output's block, from the run's pieces. -/

variable (c : Dev nD) (i : grid0.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S4096x1024 .bf16) (harg5 : arg5.IsWhole) (arg6 : Memref sig .tc .vmem S1x1024 .f32) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S1x1024 .f32) (harg12 : arg12.IsWhole) (hc0 : cond0_0 i) (hc1 : ¬cond0_1 i) (hc2 : cond0_2 i) (hc3 : ¬cond0_3 i)
    (x0 : Vec F S256x1024 .bf16) (x1 : Vec F S256x1024 .f32) (x2 : Vec F S256x1024 .f32) (x3 : Vec F S8x1024x512 .bf16) (x4 : Vec F S4096x1024 .bf16) (x5 : Vec F S1x1024 .f32)

theorem out_A_6 : out0_A_6 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 =
    bUp ⟨x0, x1, x2, x3, x4, x5⟩ := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bUp
  rfl

theorem out_A_7 : out0_A_7 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 =
    bU ⟨x0, x1, x2, x3, x4, x5⟩ := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bU
  rfl

theorem out_A_8 : out0_A_8 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 =
    bDx ⟨x0, x1, x2, x3, x4, x5⟩ := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bDx
  rfl

theorem out_A_9 : out0_A_9 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 =
    bDdn ⟨x0, x1, x2, x3, x4, x5⟩ := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bDdn
  rfl

theorem out_A_10 : out0_A_10 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 =
    k0_pay19 (bLoss ⟨x0, x1, x2, x3, x4, x5⟩) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bLoss
  rfl

theorem out_A_11 : out0_A_11 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 =
    bDg ⟨x0, x1, x2, x3, x4, x5⟩ := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bDg
  rfl

end CaseA

section CaseB

/-! A later point: each output's block, from the run's pieces. -/

variable (c : Dev nD) (i : grid0.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024x512 .bf16) (harg4 : arg4.IsWhole) (arg5 : Memref sig .tc .vmem S4096x1024 .bf16) (harg5 : arg5.IsWhole) (arg6 : Memref sig .tc .vmem S1x1024 .f32) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S1x1024 .f32) (harg12 : arg12.IsWhole) (hc0 : ¬cond0_0 i) (hc1 : cond0_1 i) (hc2 : ¬cond0_2 i) (hc3 : cond0_3 i)
    (x0 : Vec F S256x1024 .bf16) (x1 : Vec F S256x1024 .f32) (x2 : Vec F S256x1024 .f32) (x3 : Vec F S8x1024x512 .bf16) (x4 : Vec F S4096x1024 .bf16) (x5 : Vec F S1x1024 .f32) (xo10 : Vec F S1x128 .f32) (xo11 : Vec F S1x1024 .f32)

theorem out_B_6 : out0_B_6 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11 =
    bUp ⟨x0, x1, x2, x3, x4, x5⟩ := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg11.read_unread, harg12.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bUp
  rfl

theorem out_B_7 : out0_B_7 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11 =
    bU ⟨x0, x1, x2, x3, x4, x5⟩ := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg11.read_unread, harg12.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bU
  rfl

theorem out_B_8 : out0_B_8 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11 =
    bDx ⟨x0, x1, x2, x3, x4, x5⟩ := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg11.read_unread, harg12.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bDx
  rfl

theorem out_B_9 : out0_B_9 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11 =
    bDdn ⟨x0, x1, x2, x3, x4, x5⟩ := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg11.read_unread, harg12.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bDdn
  rfl

theorem out_B_10 : out0_B_10 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11 =
    k0_pay23 (bLoss ⟨x0, x1, x2, x3, x4, x5⟩) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg11.read_unread, harg12.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bLoss
  rfl

theorem out_B_11 : out0_B_11 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11 =
    k0_pay1 (bDg ⟨x0, x1, x2, x3, x4, x5⟩) xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 xo10 xo11)]
  unfold kernelRun0_B
  dsimp only
  sl_unfold_words
  rw [View.canon_unit_zero hz]
  simp only [View.readAt_eq_ld, harg1.read_unread, harg2.read_unread, harg3.read_unread, harg4.read_unread, harg5.read_unread, harg6.read_unread, harg11.read_unread, harg12.read_unread,
    View.ld_unit_zero (S := S256x1024) hz, View.ld_unit_zero (S := S4096x1024) hz, View.ld_unit_zero (S := S1x1024) hz, View.ld_unit_zero (S := S1x128) hz, View.ld_unit_zero (S := S8x1024x512) hz3]
  unfold bDg
  rfl

end CaseB

/-- What the first point leaves: its own values. -/
theorem outs_first (c : Dev nD) (t : Fin cfg0.N) (h : t.val % 8 = 0) (h1 : ¬1 ≤ t.val) :
    outsAt0 m c t.val t.isLt = (bUp (ins m c t), bU (ins m c t), bDx (ins m c t), bDdn (ins m c t),
      k0_pay19 (bLoss (ins m c t)), bDg (ins m c t)) := by
  rw [outsAt0_A m c t h h1 h h1, out_A_6, out_A_7, out_A_8, out_A_9, out_A_10, out_A_11]
  rfl

/-- What a later point leaves: its own row values, and its sums added to what the point before left. -/
theorem outs_later (c : Dev nD) (t : Fin cfg0.N) (h : ¬t.val % 8 = 0) (h1 : 1 ≤ t.val) :
    outsAt0 m c t.val t.isLt = (bUp (ins m c t), bU (ins m c t), bDx (ins m c t), bDdn (ins m c t),
      k0_pay23 (bLoss (ins m c t)) (outsAt0 m c (t.val - 1) (Nat.lt_of_le_of_lt (Nat.sub_le _ _) t.isLt)).2.2.2.2.1,
      k0_pay1 (bDg (ins m c t)) (outsAt0 m c (t.val - 1) (Nat.lt_of_le_of_lt (Nat.sub_le _ _) t.isLt)).2.2.2.2.2) := by
  rw [outsAt0_B m c t h h1 h h1, out_B_6, out_B_7, out_B_8, out_B_9, out_B_10, out_B_11]
  rfl

end Cert.Proof.MlpLoss

end
-- ==== Proof.Scalars.lean ====
/- Finite constants over the extended reals: a positive real factor goes through a sum, and twice a value is the
   value added to itself. -/
module

public import proofs.«01_k».proof.Proof.RowNorm

@[expose] public section

noncomputable section

namespace Cert.Proof.Scalars

open Idealize.ShloMosaic Cert.Proof.RowNorm

/-- The word's value: one half. -/
abbrev cHalf : EReal := Ideal.ofBits FTy.f32 1056964608#32

theorem cHalf_eq : cHalf = ((1 / 2 : ℝ) : EReal) := by
  simp [Ideal.ofBits, Ideal.ieee, -EReal.coe_mul]
  norm_num

theorem cTwo_eq : cTwo = ((2 : ℝ) : EReal) := by
  simp [Ideal.ofBits, Ideal.ieee, -EReal.coe_mul]
  norm_num

theorem cTwo_mul (x : EReal) : cTwo * x = x + x := by
  rw [cTwo_eq, show ((2 : ℝ) : EReal) = ((1 : ℝ) : EReal) + ((1 : ℝ) : EReal) by norm_cast,
    EReal.right_distrib_of_nonneg (by norm_num) (by norm_num)]
  simp

theorem cHalf_mul_add (x y : EReal) : cHalf * (x + y) = cHalf * x + cHalf * y := by
  rw [cHalf_eq]
  exact EReal.left_distrib_of_nonneg_of_ne_top (by norm_num) (EReal.coe_ne_top _) x y

/-- A half of a sum is the sum of the halves. -/
theorem cHalf_mul_sum {n : ℕ} (f : Fin n → EReal) : cHalf * ∑ i, f i = ∑ i, cHalf * f i :=
  map_sum (⟨⟨fun x => cHalf * x, mul_zero _⟩, cHalf_mul_add⟩ : EReal →+ EReal) f Finset.univ

/-- The cotangent of a square, scaled by `c`: the kernel adds the two halves, the reference doubles the value. -/
theorem square_ct (c x : EReal) : c * (cTwo * x) = x * c + c * x := by
  rw [mul_left_comm, cTwo_mul, mul_comm x c]

end Cert.Proof.Scalars

end
-- ==== Proof.MlpLoss.Spec.lean ====
/- What `mlp_loss` computes, row by row: from one row of the MLP's normalised input, of the residual stream and of the
   target, the row of the up projection and of its squared positive part, the row's loss, and the row of the gradients
   at the residual stream and at the MLP's output. -/
module

public import proofs.«01_k».proof.Proof.Scalars

@[expose] public section

noncomputable section

namespace Cert.Proof.MlpLoss

open Idealize.ShloMosaic Cert.Proof.RowNorm Cert.Proof.Scalars

/-- One row's data and the weights. -/
structure Row where
  h2 : Fin 1024 → EReal
  x1 : Fin 1024 → EReal
  tgt : Fin 1024 → EReal
  wu : Fin 1024 → Fin 4096 → EReal
  wd : Fin 4096 → Fin 1024 → EReal
  g : Fin 1024 → EReal

/-- The cotangent of a row's square: one half, over the row's length. -/
abbrev cCt : EReal := Ideal.div cHalf cLen

namespace Row

variable (R : Row)

/-- The up projection and the squared positive part of it. -/
def up (n : Fin 4096) : EReal := ∑ k, R.h2 k * R.wu k n
def u (n : Fin 4096) : EReal := max (R.up n) 0 * max (R.up n) 0
/-- The MLP's output. -/
def dn (k : Fin 1024) : EReal := ∑ n, R.u n * R.wd n k
/-- The error against the target. -/
def err (k : Fin 1024) : EReal := R.x1 k + R.dn k * rs R.dn * R.g k - R.tgt k
/-- The mean of its squares. -/
def mean : EReal := Ideal.div (∑ k, R.err k * R.err k) cLen
/-- The gradient at the residual stream. -/
def dx (k : Fin 1024) : EReal := R.err k * cCt + cCt * R.err k
/-- The gradient at the MLP's output. -/
def ddn (k : Fin 1024) : EReal :=
  R.dx k * R.g k * rs R.dn + R.dn k * back R.dn (fun l => R.dx l * R.g l) + back R.dn (fun l => R.dx l * R.g l) * R.dn k
/-- The row's part of the gradient of the gain. -/
def dg (k : Fin 1024) : EReal := R.dn k * rs R.dn * R.dx k

end Row

/-- The whole arrays. -/
structure Args where
  h2 : Fin 2048 → Fin 1024 → EReal
  x1 : Fin 2048 → Fin 1024 → EReal
  tgt : Fin 2048 → Fin 1024 → EReal
  wu : Fin 1024 → Fin 4096 → EReal
  wd : Fin 4096 → Fin 1024 → EReal
  g : Fin 1024 → EReal

namespace Args

variable (A : Args)

/-- Row `i`'s data. -/
def row (i : Fin 2048) : Row := ⟨A.h2 i, A.x1 i, A.tgt i, A.wu, A.wd, A.g⟩
/-- The loss, and the gradient of the gain: the rows' parts summed. -/
def loss : EReal := ∑ i, cHalf * (A.row i).mean
def dg (k : Fin 1024) : EReal := ∑ i, (A.row i).dg k

end Args

end Cert.Proof.MlpLoss

end
-- ==== Proof.MlpLoss.BlockValue.lean ====
/- The blocks of one point at an index: row `r` of each is the row function of row `r` of the input blocks. -/
module

public import proofs.«01_k».proof.Proof.MlpLoss.Block
public import proofs.«01_k».proof.Proof.MlpLoss.Spec

@[expose] public section

noncomputable section

namespace Cert.Proof.MlpLoss

open Cert.MlpLossIdeal Cert.MlpLossIdeal.Gen Idealize.ShloMosaic Idealize.ShloMosaic.Pointwise Cert.Proof.RowNorm
open Cert.Proof.Scalars

/-- Row `r` of the point's input blocks; the up projection's eight column blocks put side by side. -/
def rowOf (b : Ins Ideal) (r : Fin 256) : Row where
  h2 k := b.h2 (ix2 r k)
  x1 k := b.x1 (ix2 r k)
  tgt k := b.tgt (ix2 r k)
  wu k n := b.wu (ix3 (⟨n.val / 512, by omega⟩ : Fin 8) k (⟨n.val % 512, by omega⟩ : Fin 512))
  wd n k := b.wd (ix2 n k)
  g k := b.g (ix2 0 k)

/-- A choice whose branches agree. -/
theorem dite_both {p : Prop} [Decidable p] {α : Type} {a : p → α} {b : ¬p → α} {v : α} (ha : ∀ h, a h = v)
    (hb : ∀ h, b h = v) : dite p a b = v := by
  by_cases h : p
  · rw [dif_pos h, ha]
  · rw [dif_neg h, hb]

theorem pay4_apply (b : Ins Ideal) (r : Fin 256) (n : Fin 4096) :
    k0_pay4 (F := Ideal) b.h2 b.wu (ix2 r n) = (rowOf b r).up n := by
  have key : ∀ (j : Fin 8) (p : Fin 512), n.val = j.val * 512 + p.val →
      ∑ x, b.h2 (ix2 r x) * b.wu (ix3 j x p) = (rowOf b r).up n := fun j p e => by
    refine Finset.sum_congr rfl fun x _ => ?_
    show _ = b.h2 (ix2 r x) * b.wu (ix3 _ x _)
    congr 2
    refine congrArg₂ (fun (a : Fin 8) (d : Fin 512) => ix3 a x d) (Fin.ext ?_) (Fin.ext ?_)
    · show j.val = n.val / 512; omega
    · show p.val = n.val % 512; omega
  pointwise [k0_pay4]
  refine dite_both (fun h => key 0 _ ?_) fun h0 => ?_
  · show n.val = 0 * 512 + n.val; omega
  refine dite_both (fun h => key 1 _ ?_) fun h1 => ?_
  · show n.val = 1 * 512 + (n.val - 512); omega
  refine dite_both (fun h => key 2 _ ?_) fun h2 => ?_
  · show n.val = 2 * 512 + (n.val - 512 - 512); omega
  refine dite_both (fun h => key 3 _ ?_) fun h3 => ?_
  · show n.val = 3 * 512 + (n.val - 512 - 512 - 512); omega
  refine dite_both (fun h => key 4 _ ?_) fun h4 => ?_
  · show n.val = 4 * 512 + (n.val - 512 - 512 - 512 - 512); omega
  refine dite_both (fun h => key 5 _ ?_) fun h5 => ?_
  · show n.val = 5 * 512 + (n.val - 512 - 512 - 512 - 512 - 512); omega
  refine dite_both (fun h => key 6 _ ?_) fun h6 => key 7 _ ?_
  · show n.val = 6 * 512 + (n.val - 512 - 512 - 512 - 512 - 512 - 512); omega
  · show n.val = 7 * 512 + (n.val - 512 - 512 - 512 - 512 - 512 - 512 - 512); omega

theorem bUp_apply (b : Ins Ideal) (r : Fin 256) (n : Fin 4096) : bUp b (ix2 r n) = (rowOf b r).up n :=
  pay4_apply b r n

theorem bR_apply (b : Ins Ideal) (r : Fin 256) (n : Fin 4096) : bR b (ix2 r n) = max ((rowOf b r).up n) 0 := by
  unfold bR
  pointwise [k0_pay5]
  rw [pay4_apply]

theorem pay6_apply (b : Ins Ideal) (r : Fin 256) (n : Fin 4096) :
    k0_pay6 (F := Ideal) (bR b) (ix2 r n) = (rowOf b r).u n := by
  pointwise [k0_pay6]
  rw [bR_apply]
  rfl

theorem bU_apply (b : Ins Ideal) (r : Fin 256) (n : Fin 4096) : bU b (ix2 r n) = (rowOf b r).u n :=
  pay6_apply b r n

theorem pay7_apply (b : Ins Ideal) (r : Fin 256) (k : Fin 1024) :
    k0_pay7 (F := Ideal) (k0_pay2 b.wd) (bR b) (ix2 r k) = (rowOf b r).dn k := by
  pointwise [k0_pay7, k0_pay2]
  simp only [pay6_apply]
  rfl

theorem pay8_apply (b : Ins Ideal) (r : Fin 256) (q : Fin 1) :
    k0_pay8 (F := Ideal) (k0_pay2 b.wd) (bR b) (ix2 r q) = ms (rowOf b r).dn := by
  obtain rfl : q = 0 := Subsingleton.elim _ _
  pointwise [k0_pay8]
  simp only [pay7_apply]
  rfl

theorem pay9_apply (b : Ins Ideal) (r : Fin 256) (q : Fin 1) :
    k0_pay9 (F := Ideal) (k0_pay2 b.wd) (bR b) (ix2 r q) = rs (rowOf b r).dn := by
  pointwise [k0_pay9]
  rw [pay8_apply]
  rfl

theorem pay10_apply (b : Ins Ideal) (r : Fin 256) (q : Fin 1) :
    k0_pay10 (F := Ideal) (k0_pay2 b.wd) (bR b) (ix2 r q)
      = cMinusHalf * Ideal.div (rs (rowOf b r).dn) (ms (rowOf b r).dn) := by
  pointwise [k0_pay10]
  rw [pay8_apply, pay9_apply]

theorem pay11_apply (b : Ins Ideal) (r : Fin 256) (k : Fin 1024) :
    k0_pay11 (F := Ideal) (k0_pay2 b.wd) (bR b) (ix2 r k) = (rowOf b r).dn k * rs (rowOf b r).dn := by
  pointwise [k0_pay11]
  rw [pay7_apply, pay9_apply]

theorem pay12_apply (b : Ins Ideal) (r : Fin 256) (k : Fin 1024) :
    k0_pay12 (F := Ideal) b.x1 b.tgt (k0_pay2 b.wd) (k0_pay3 b.g) (bR b) (ix2 r k) = (rowOf b r).err k := by
  pointwise [k0_pay12, k0_pay3]
  rw [pay11_apply]
  rfl

theorem pay14_apply (r : Fin 256) (k : Fin 1024) : k0_pay14 (F := Ideal) (ix2 r k) = cCt := by
  pointwise [k0_pay14]
  simp only [Fin.sum_univ_one]

theorem bDx_apply (b : Ins Ideal) (r : Fin 256) (k : Fin 1024) : bDx b (ix2 r k) = (rowOf b r).dx k := by
  unfold bDx bE1 bE2
  pointwise [k0_pay17, k0_pay15, k0_pay16]
  rw [pay14_apply, pay12_apply]
  rfl

theorem bDdn_apply (b : Ins Ideal) (r : Fin 256) (k : Fin 1024) : bDdn b (ix2 r k) = (rowOf b r).ddn k := by
  have h : ∀ l, k0_pay17 (F := Ideal) (bE1 b) (bE2 b) (ix2 r l) = (rowOf b r).dx l := fun l => bDx_apply b r l
  unfold bDdn
  pointwise [k0_pay22, k0_pay3]
  simp only [h, pay7_apply, pay9_apply, pay10_apply, Fin.sum_univ_one]
  rfl

theorem bLoss_apply (b : Ins Ideal) : bLoss b (ix2 0 0) = cHalf * ∑ r, (rowOf b r).mean := by
  unfold bLoss
  pointwise [k0_pay13]
  simp only [pay12_apply]
  rfl

theorem bDg_apply (b : Ins Ideal) (k : Fin 1024) : bDg b (ix2 0 k) = ∑ r, (rowOf b r).dg k := by
  have h : ∀ r l, k0_pay17 (F := Ideal) (bE1 b) (bE2 b) (ix2 r l) = (rowOf b r).dx l := fun r l => bDx_apply b r l
  unfold bDg
  pointwise [k0_pay18]
  simp only [h, pay11_apply]
  rfl

end Cert.Proof.MlpLoss

end
-- ==== Proof.MlpLoss.Host.lean ====
/- The arrays the host lines hand to the kernel, at an index: casts of the arguments, and the up projection cut in
   eight column blocks. -/
module

public import proofs.«01_k».proof.Proof.Gen.MlpLossIdeal.Frame.Runs
public import proofs.«01_k».proof.Proof.MlpLoss.Spec

@[expose] public section

noncomputable section

namespace Cert.Proof.MlpLoss

open Cert.MlpLossIdeal Cert.MlpLossIdeal.Gen Idealize.ShloMosaic Idealize.ShloMosaic.TcCoe
open Idealize.ShloMosaic.StableHlo Idealize.ShloMosaic.Pointwise

variable (m : (ℓ : Loc nD τ sig) → Buf (Elt Ideal) ℓ) (c : Dev nD)

/-- The program's arguments. -/
abbrev aH2 : S2048x1024.Idx → EReal := m ((c : Thread nD τ).loc main_arg0)
abbrev aX1 : S2048x1024.Idx → EReal := m ((c : Thread nD τ).loc main_arg1)
abbrev aTgt : S2048x1024.Idx → EReal := m ((c : Thread nD τ).loc main_arg2)
abbrev aWu : S1024x4096.Idx → EReal := m ((c : Thread nD τ).loc main_arg3)
abbrev aWd : S4096x1024.Idx → EReal := m ((c : Thread nD τ).loc main_arg4)
abbrev aG : S1024.Idx → EReal := m ((c : Thread nD τ).loc main_arg5)

/-- The same by row and column. -/
def args : Args where
  h2 i k := aH2 m c (ix2 i k)
  x1 i k := aX1 m c (ix2 i k)
  tgt i k := aTgt m c (ix2 i k)
  wu k n := aWu m c (ix2 k n)
  wd n k := aWd m c (ix2 n k)
  g k := aG m c (ix1 k)

theorem V0 (r : Fin 2048) (k : Fin 1024) : V m c main_v0 (ix2 r k) = aH2 m c (ix2 r k) := by
  unfold V hostOps0
  after_results
  rfl
theorem V3 (j : Fin 8) (k : Fin 1024) (n : Fin 512) : V m c main_v3 (ix3 j k n)
    = aWu m c (ix2 k (⟨j.val * 512 + n.val, by omega⟩ : Fin 4096)) := by
  unfold V hostOps0
  after_results
  pointwise
theorem V4 (r : Fin 4096) (k : Fin 1024) : V m c main_v4 (ix2 r k) = aWd m c (ix2 r k) := by
  unfold V hostOps0
  after_results
  rfl
theorem V5 (k : Fin 1024) : V m c main_v5 (ix2 0 k) = aG m c (ix1 k) := by
  unfold V hostOps0
  after_results
  pointwise

end Cert.Proof.MlpLoss

end
-- ==== Proof.MlpLoss.Array.lean ====
/- The six result arrays of `mlp_loss` after its run, as row functions of the arguments: block `t` of a row output is
   rows 256 t to 256 t + 255; the loss and the gain's gradient, each kept in one block over the eight points, are sums
   over all rows. -/
module

public import proofs.«01_k».proof.Proof.MlpLoss.BlockValue
public import proofs.«01_k».proof.Proof.MlpLoss.Host

@[expose] public section

noncomputable section

namespace Cert.Proof.MlpLoss

open Cert.MlpLossIdeal Cert.MlpLossIdeal.Gen Cert.MlpLossIdeal.Value Idealize.ShloMosaic Idealize.ShloMosaic.TcCoe
open Idealize.ShloMosaic.Pointwise Cert.Proof.Scalars

variable (m : (ℓ : Loc nD τ sig) → Buf (Elt Ideal) ℓ) (c : Dev nD)

/-- Row `r` of block `t`. -/
abbrev at256 (t : Fin cfg0.N) (r : Fin 256) : Fin 2048 :=
  ⟨t.val * 256 + r.val, by have : cfg0.N = 8 := N_0; have := t.isLt; omega⟩

/-! ## Where a block lies -/

theorem ixw0 : ∀ t : Fin cfg0.N, win0_0.index t 0 = t.val ∧ win0_0.index t 1 = 0 := (by decide +kernel : ∀ t : Fin grid0.N, _)
theorem ixw1 : ∀ t : Fin cfg0.N, win0_1.index t 0 = t.val ∧ win0_1.index t 1 = 0 := (by decide +kernel : ∀ t : Fin grid0.N, _)
theorem ixw2 : ∀ t : Fin cfg0.N, win0_2.index t 0 = t.val ∧ win0_2.index t 1 = 0 := (by decide +kernel : ∀ t : Fin grid0.N, _)
theorem ixw3 : ∀ t : Fin cfg0.N, win0_3.index t 0 = 0 ∧ win0_3.index t 1 = 0 ∧ win0_3.index t 2 = 0 :=
  (by decide +kernel : ∀ t : Fin grid0.N, _)
theorem ixw4 : ∀ t : Fin cfg0.N, win0_4.index t 0 = 0 ∧ win0_4.index t 1 = 0 := (by decide +kernel : ∀ t : Fin grid0.N, _)
theorem ixw5 : ∀ t : Fin cfg0.N, win0_5.index t 0 = 0 ∧ win0_5.index t 1 = 0 := (by decide +kernel : ∀ t : Fin grid0.N, _)
theorem ixw6 : ∀ t : Fin cfg0.N, win0_6.index t 0 = t.val ∧ win0_6.index t 1 = 0 := (by decide +kernel : ∀ t : Fin grid0.N, _)
theorem ixw7 : ∀ t : Fin cfg0.N, win0_7.index t 0 = t.val ∧ win0_7.index t 1 = 0 := (by decide +kernel : ∀ t : Fin grid0.N, _)
theorem ixw8 : ∀ t : Fin cfg0.N, win0_8.index t 0 = t.val ∧ win0_8.index t 1 = 0 := (by decide +kernel : ∀ t : Fin grid0.N, _)
theorem ixw9 : ∀ t : Fin cfg0.N, win0_9.index t 0 = t.val ∧ win0_9.index t 1 = 0 := (by decide +kernel : ∀ t : Fin grid0.N, _)
theorem ixw10 : ∀ t : Fin cfg0.N, win0_10.index t 0 = 0 ∧ win0_10.index t 1 = 0 := (by decide +kernel : ∀ t : Fin grid0.N, _)
theorem ixw11 : ∀ t : Fin cfg0.N, win0_11.index t 0 = 0 ∧ win0_11.index t 1 = 0 := (by decide +kernel : ∀ t : Fin grid0.N, _)

theorem emb0 (t : Fin cfg0.N) (r : Fin 256) (k : Fin 1024) :
    ((cfg0.win 0).blk t).view.emb (ix2 r k) = ix2 (at256 t r) k := by
  obtain ⟨e0, e1⟩ := ixw0 t
  funext a; apply Fin.ext
  match a with
  | ⟨0, _⟩ => show win0_0.index t 0 * 256 + 1 * r.val = t.val * 256 + r.val; omega
  | ⟨1, _⟩ => show win0_0.index t 1 * 1024 + 1 * k.val = k.val; omega
theorem emb1 (t : Fin cfg0.N) (r : Fin 256) (k : Fin 1024) :
    ((cfg0.win 1).blk t).view.emb (ix2 r k) = ix2 (at256 t r) k := by
  obtain ⟨e0, e1⟩ := ixw1 t
  funext a; apply Fin.ext
  match a with
  | ⟨0, _⟩ => show win0_1.index t 0 * 256 + 1 * r.val = t.val * 256 + r.val; omega
  | ⟨1, _⟩ => show win0_1.index t 1 * 1024 + 1 * k.val = k.val; omega
theorem emb2 (t : Fin cfg0.N) (r : Fin 256) (k : Fin 1024) :
    ((cfg0.win 2).blk t).view.emb (ix2 r k) = ix2 (at256 t r) k := by
  obtain ⟨e0, e1⟩ := ixw2 t
  funext a; apply Fin.ext
  match a with
  | ⟨0, _⟩ => show win0_2.index t 0 * 256 + 1 * r.val = t.val * 256 + r.val; omega
  | ⟨1, _⟩ => show win0_2.index t 1 * 1024 + 1 * k.val = k.val; omega
theorem emb3 (t : Fin cfg0.N) (j : Fin 8) (k : Fin 1024) (n : Fin 512) :
    ((cfg0.win 3).blk t).view.emb (ix3 j k n) = ix3 j k n := by
  obtain ⟨e0, e1, e2⟩ := ixw3 t
  funext a; apply Fin.ext
  match a with
  | ⟨0, _⟩ => show win0_3.index t 0 * 8 + 1 * j.val = j.val; omega
  | ⟨1, _⟩ => show win0_3.index t 1 * 1024 + 1 * k.val = k.val; omega
  | ⟨2, _⟩ => show win0_3.index t 2 * 512 + 1 * n.val = n.val; omega
theorem emb4 (t : Fin cfg0.N) (q : Fin 4096) (k : Fin 1024) : ((cfg0.win 4).blk t).view.emb (ix2 q k) = ix2 q k := by
  obtain ⟨e0, e1⟩ := ixw4 t
  funext a; apply Fin.ext
  match a with
  | ⟨0, _⟩ => show win0_4.index t 0 * 4096 + 1 * q.val = q.val; omega
  | ⟨1, _⟩ => show win0_4.index t 1 * 1024 + 1 * k.val = k.val; omega
theorem emb5 (t : Fin cfg0.N) (q : Fin 1) (k : Fin 1024) : ((cfg0.win 5).blk t).view.emb (ix2 q k) = ix2 q k := by
  obtain ⟨e0, e1⟩ := ixw5 t
  funext a; apply Fin.ext
  match a with
  | ⟨0, _⟩ => show win0_5.index t 0 * 1 + 1 * q.val = q.val; omega
  | ⟨1, _⟩ => show win0_5.index t 1 * 1024 + 1 * k.val = k.val; omega
theorem emb6 (t : Fin cfg0.N) (r : Fin 256) (k : Fin 4096) :
    ((cfg0.win 6).blk t).view.emb (ix2 r k) = ix2 (at256 t r) k := by
  obtain ⟨e0, e1⟩ := ixw6 t
  funext a; apply Fin.ext
  match a with
  | ⟨0, _⟩ => show win0_6.index t 0 * 256 + 1 * r.val = t.val * 256 + r.val; omega
  | ⟨1, _⟩ => show win0_6.index t 1 * 4096 + 1 * k.val = k.val; omega
theorem emb7 (t : Fin cfg0.N) (r : Fin 256) (k : Fin 4096) :
    ((cfg0.win 7).blk t).view.emb (ix2 r k) = ix2 (at256 t r) k := by
  obtain ⟨e0, e1⟩ := ixw7 t
  funext a; apply Fin.ext
  match a with
  | ⟨0, _⟩ => show win0_7.index t 0 * 256 + 1 * r.val = t.val * 256 + r.val; omega
  | ⟨1, _⟩ => show win0_7.index t 1 * 4096 + 1 * k.val = k.val; omega
theorem emb8 (t : Fin cfg0.N) (r : Fin 256) (k : Fin 1024) :
    ((cfg0.win 8).blk t).view.emb (ix2 r k) = ix2 (at256 t r) k := by
  obtain ⟨e0, e1⟩ := ixw8 t
  funext a; apply Fin.ext
  match a with
  | ⟨0, _⟩ => show win0_8.index t 0 * 256 + 1 * r.val = t.val * 256 + r.val; omega
  | ⟨1, _⟩ => show win0_8.index t 1 * 1024 + 1 * k.val = k.val; omega
theorem emb9 (t : Fin cfg0.N) (r : Fin 256) (k : Fin 1024) :
    ((cfg0.win 9).blk t).view.emb (ix2 r k) = ix2 (at256 t r) k := by
  obtain ⟨e0, e1⟩ := ixw9 t
  funext a; apply Fin.ext
  match a with
  | ⟨0, _⟩ => show win0_9.index t 0 * 256 + 1 * r.val = t.val * 256 + r.val; omega
  | ⟨1, _⟩ => show win0_9.index t 1 * 1024 + 1 * k.val = k.val; omega
theorem emb10 (t : Fin cfg0.N) (q : Fin 1) (k : Fin 128) : ((cfg0.win 10).blk t).view.emb (ix2 q k) = ix2 q k := by
  obtain ⟨e0, e1⟩ := ixw10 t
  funext a; apply Fin.ext
  match a with
  | ⟨0, _⟩ => show win0_10.index t 0 * 1 + 1 * q.val = q.val; omega
  | ⟨1, _⟩ => show win0_10.index t 1 * 128 + 1 * k.val = k.val; omega
theorem emb11 (t : Fin cfg0.N) (q : Fin 1) (k : Fin 1024) : ((cfg0.win 11).blk t).view.emb (ix2 q k) = ix2 q k := by
  obtain ⟨e0, e1⟩ := ixw11 t
  funext a; apply Fin.ext
  match a with
  | ⟨0, _⟩ => show win0_11.index t 0 * 1 + 1 * q.val = q.val; omega
  | ⟨1, _⟩ => show win0_11.index t 1 * 1024 + 1 * k.val = k.val; omega

/-! ## A block's row is a row of the arguments -/

theorem ins_h2 (t : Fin cfg0.N) (r : Fin 256) (k : Fin 1024) : (ins m c t).h2 (ix2 r k) = (args m c).h2 (at256 t r) k := by
  show V m c main_v0 (((cfg0.win 0).blk t).view.emb (ix2 r k)) = _
  rw [emb0, V0]; rfl
theorem ins_x1 (t : Fin cfg0.N) (r : Fin 256) (k : Fin 1024) : (ins m c t).x1 (ix2 r k) = (args m c).x1 (at256 t r) k := by
  show V m c main_arg1 (((cfg0.win 1).blk t).view.emb (ix2 r k)) = _
  rw [emb1, V_main_arg1]; rfl
theorem ins_tgt (t : Fin cfg0.N) (r : Fin 256) (k : Fin 1024) : (ins m c t).tgt (ix2 r k) = (args m c).tgt (at256 t r) k := by
  show V m c main_arg2 (((cfg0.win 2).blk t).view.emb (ix2 r k)) = _
  rw [emb2, V_main_arg2]; rfl
theorem ins_wu (t : Fin cfg0.N) (j : Fin 8) (k : Fin 1024) (n : Fin 512) :
    (ins m c t).wu (ix3 j k n) = (args m c).wu k ⟨j.val * 512 + n.val, by omega⟩ := by
  show V m c main_v3 (((cfg0.win 3).blk t).view.emb (ix3 j k n)) = _
  rw [emb3, V3]; rfl
theorem ins_wd (t : Fin cfg0.N) (n : Fin 4096) (k : Fin 1024) : (ins m c t).wd (ix2 n k) = (args m c).wd n k := by
  show V m c main_v4 (((cfg0.win 4).blk t).view.emb (ix2 n k)) = _
  rw [emb4, V4]; rfl
theorem ins_g (t : Fin cfg0.N) (q : Fin 1) (k : Fin 1024) : (ins m c t).g (ix2 q k) = (args m c).g k := by
  obtain rfl : q = 0 := Subsingleton.elim _ _
  show V m c main_v5 (((cfg0.win 5).blk t).view.emb (ix2 0 k)) = _
  rw [emb5, V5]; rfl

theorem rowOf_ins (t : Fin cfg0.N) (r : Fin 256) : rowOf (ins m c t) r = (args m c).row (at256 t r) := by
  unfold rowOf Args.row
  simp only [ins_h2, ins_x1, ins_tgt, ins_wu, ins_wd, ins_g, Nat.div_add_mod']

/-! ## The row outputs -/

/-- The up projection, its squared positive part, and the gradients at the residual stream and at the MLP's output. -/
def gUp : S2048x4096.Idx → EReal := fun j => ((args m c).row (j 0)).up (j 1)
def gU : S2048x4096.Idx → EReal := fun j => ((args m c).row (j 0)).u (j 1)
def gDx : S2048x1024.Idx → EReal := fun j => ((args m c).row (j 0)).dx (j 1)
def gDdn : S2048x1024.Idx → EReal := fun j => ((args m c).row (j 0)).ddn (j 1)

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩

/-- Row `i` lies in block `i / 256`. -/
theorem at256_split (i : Fin 2048) : ∃ (t : Fin cfg0.N) (r : Fin 256), at256 t r = i :=
  ⟨⟨i.val / 256, by have : cfg0.N = 8 := N_0; omega⟩, ⟨i.val % 256, by omega⟩,
    Fin.ext (by show i.val / 256 * 256 + i.val % 256 = i.val; omega)⟩

theorem outs6 (t : Fin cfg0.N) : (outsAt0 m c t.val t.isLt).1 = bUp (ins m c t) := by
  have hN : cfg0.N = 8 := N_0
  have := t.isLt
  by_cases h : t.val % 8 = 0
  · rw [outs_first m c t h (by omega)]
  · rw [outs_later m c t h (by omega)]

theorem flushed6_eq (t : Fin cfg0.N) :
    (dats m 0 c).flushed 6 t = ((cfg0.win 6).blk t).view.read (Elt Ideal) (gUp m c) := by
  rw [flushed6, outs6]
  funext j
  obtain ⟨r, k, rfl⟩ := eq_ix2 (a := 256) (b := 4096) j
  show bUp (ins m c t) (ix2 r k) = gUp m c (((cfg0.win 6).blk t).view.emb (ix2 r k))
  rw [emb6, bUp_apply, rowOf_ins]
  rfl

theorem final6 : (dats m 0 c).arrAt 6 cfg0.N = gUp m c :=
  (dats m 0 c).arrAt_eq_of_cover 6 (gUp m c) (fun t _ => flushed6_eq m c t) fun j => by
    obtain ⟨i, k, rfl⟩ := eq_ix2 (a := 2048) (b := 4096) j
    obtain ⟨t, r, rfl⟩ := at256_split i
    exact ⟨t, flush0_6 t, by have h := ((cfg0.win 6).blk t).view.emb_mem_set (ix2 r k); rwa [emb6] at h⟩

theorem outs7 (t : Fin cfg0.N) : (outsAt0 m c t.val t.isLt).2.1 = bU (ins m c t) := by
  have hN : cfg0.N = 8 := N_0
  have := t.isLt
  by_cases h : t.val % 8 = 0
  · rw [outs_first m c t h (by omega)]
  · rw [outs_later m c t h (by omega)]

theorem flushed7_eq (t : Fin cfg0.N) :
    (dats m 0 c).flushed 7 t = ((cfg0.win 7).blk t).view.read (Elt Ideal) (gU m c) := by
  rw [flushed7, outs7]
  funext j
  obtain ⟨r, k, rfl⟩ := eq_ix2 (a := 256) (b := 4096) j
  show bU (ins m c t) (ix2 r k) = gU m c (((cfg0.win 7).blk t).view.emb (ix2 r k))
  rw [emb7, bU_apply, rowOf_ins]
  rfl

theorem final7 : (dats m 0 c).arrAt 7 cfg0.N = gU m c :=
  (dats m 0 c).arrAt_eq_of_cover 7 (gU m c) (fun t _ => flushed7_eq m c t) fun j => by
    obtain ⟨i, k, rfl⟩ := eq_ix2 (a := 2048) (b := 4096) j
    obtain ⟨t, r, rfl⟩ := at256_split i
    exact ⟨t, flush0_7 t, by have h := ((cfg0.win 7).blk t).view.emb_mem_set (ix2 r k); rwa [emb7] at h⟩

theorem outs8 (t : Fin cfg0.N) : (outsAt0 m c t.val t.isLt).2.2.1 = bDx (ins m c t) := by
  have hN : cfg0.N = 8 := N_0
  have := t.isLt
  by_cases h : t.val % 8 = 0
  · rw [outs_first m c t h (by omega)]
  · rw [outs_later m c t h (by omega)]

theorem flushed8_eq (t : Fin cfg0.N) :
    (dats m 0 c).flushed 8 t = ((cfg0.win 8).blk t).view.read (Elt Ideal) (gDx m c) := by
  rw [flushed8, outs8]
  funext j
  obtain ⟨r, k, rfl⟩ := eq_ix2 (a := 256) (b := 1024) j
  show bDx (ins m c t) (ix2 r k) = gDx m c (((cfg0.win 8).blk t).view.emb (ix2 r k))
  rw [emb8, bDx_apply, rowOf_ins]
  rfl

theorem final8 : (dats m 0 c).arrAt 8 cfg0.N = gDx m c :=
  (dats m 0 c).arrAt_eq_of_cover 8 (gDx m c) (fun t _ => flushed8_eq m c t) fun j => by
    obtain ⟨i, k, rfl⟩ := eq_ix2 (a := 2048) (b := 1024) j
    obtain ⟨t, r, rfl⟩ := at256_split i
    exact ⟨t, flush0_8 t, by have h := ((cfg0.win 8).blk t).view.emb_mem_set (ix2 r k); rwa [emb8] at h⟩

theorem outs9 (t : Fin cfg0.N) : (outsAt0 m c t.val t.isLt).2.2.2.1 = bDdn (ins m c t) := by
  have hN : cfg0.N = 8 := N_0
  have := t.isLt
  by_cases h : t.val % 8 = 0
  · rw [outs_first m c t h (by omega)]
  · rw [outs_later m c t h (by omega)]

theorem flushed9_eq (t : Fin cfg0.N) :
    (dats m 0 c).flushed 9 t = ((cfg0.win 9).blk t).view.read (Elt Ideal) (gDdn m c) := by
  rw [flushed9, outs9]
  funext j
  obtain ⟨r, k, rfl⟩ := eq_ix2 (a := 256) (b := 1024) j
  show bDdn (ins m c t) (ix2 r k) = gDdn m c (((cfg0.win 9).blk t).view.emb (ix2 r k))
  rw [emb9, bDdn_apply, rowOf_ins]
  rfl

theorem final9 : (dats m 0 c).arrAt 9 cfg0.N = gDdn m c :=
  (dats m 0 c).arrAt_eq_of_cover 9 (gDdn m c) (fun t _ => flushed9_eq m c t) fun j => by
    obtain ⟨i, k, rfl⟩ := eq_ix2 (a := 2048) (b := 1024) j
    obtain ⟨t, r, rfl⟩ := at256_split i
    exact ⟨t, flush0_9 t, by have h := ((cfg0.win 9).blk t).view.emb_mem_set (ix2 r k); rwa [emb9] at h⟩

/-! ## The loss and the gain's gradient, accumulated over the points -/

/-- The two as arrays; the loss is repeated along its row. -/
def gLoss : S1x128.Idx → EReal := fun _ => (args m c).loss
def gDg : S1x1024.Idx → EReal := fun j => (args m c).dg (j 1)

theorem loss_block (b : Ins Ideal) (k : Fin 128) : k0_pay19 (F := Ideal) (bLoss b) (ix2 0 k) = ∑ r, cHalf * (rowOf b r).mean := by
  pointwise [k0_pay19]
  rw [bLoss_apply, cHalf_mul_sum]

/-- After point `n` the accumulators hold the sums over the rows of the blocks so far. -/
theorem acc_loss (k : Fin 128) : ∀ (n : ℕ) (h : n < cfg0.N), (outsAt0 m c n h).2.2.2.2.1 (ix2 0 k)
      = ∑ t : Fin (n + 1), ∑ r : Fin 256, cHalf * ((args m c).row (at256 ⟨t.val, by omega⟩ r)).mean
  | 0, h => by
    rw [outs_first m c ⟨0, h⟩ rfl (by simp), Fin.sum_univ_one]
    show k0_pay19 (F := Ideal) (bLoss (ins m c ⟨0, h⟩)) (ix2 0 k) = _
    rw [loss_block]; simp only [rowOf_ins]; rfl
  | n + 1, h => by
    have hN : cfg0.N = 8 := N_0
    have ia := acc_loss k n (by omega)
    rw [outs_later m c ⟨n + 1, h⟩ (by dsimp only; omega) (by dsimp only; omega), Fin.sum_univ_castSucc]
    refine Eq.trans (b := (outsAt0 m c n (by omega)).2.2.2.2.1 (ix2 0 k)
      + k0_pay19 (F := Ideal) (bLoss (ins m c ⟨n + 1, h⟩)) (ix2 0 k)) ?_ ?_
    · show k0_pay23 (bLoss (ins m c ⟨n + 1, h⟩)) (outsAt0 m c n _).2.2.2.2.1 (ix2 0 k) = _
      pointwise [k0_pay23]
    · rw [ia, loss_block]; simp only [rowOf_ins]; rfl

theorem acc_dg (k : Fin 1024) : ∀ (n : ℕ) (h : n < cfg0.N), (outsAt0 m c n h).2.2.2.2.2 (ix2 0 k)
      = ∑ t : Fin (n + 1), ∑ r : Fin 256, ((args m c).row (at256 ⟨t.val, by omega⟩ r)).dg k
  | 0, h => by
    rw [outs_first m c ⟨0, h⟩ rfl (by simp), Fin.sum_univ_one]
    show bDg (ins m c ⟨0, h⟩) (ix2 0 k) = _
    rw [bDg_apply]; simp only [rowOf_ins]; rfl
  | n + 1, h => by
    have hN : cfg0.N = 8 := N_0
    have ia := acc_dg k n (by omega)
    rw [outs_later m c ⟨n + 1, h⟩ (by dsimp only; omega) (by dsimp only; omega), Fin.sum_univ_castSucc]
    refine Eq.trans (b := (outsAt0 m c n (by omega)).2.2.2.2.2 (ix2 0 k) + bDg (ins m c ⟨n + 1, h⟩) (ix2 0 k)) ?_ ?_
    · show k0_pay1 (bDg (ins m c ⟨n + 1, h⟩)) (outsAt0 m c n _).2.2.2.2.2 (ix2 0 k) = _
      pointwise [k0_pay1]
    · rw [ia, bDg_apply]; simp only [rowOf_ins]; rfl

theorem flushed10_eq (t : Fin cfg0.N) (hf : (cfg0.win 10).flush t = true) :
    (dats m 0 c).flushed 10 t = ((cfg0.win 10).blk t).view.read (Elt Ideal) (gLoss m c) := by
  have hN : cfg0.N = 8 := N_0
  have h7 : t.val = 7 := by have := (flush0_10 t).mp hf; have := t.isLt; omega
  obtain rfl : t = t0_7 := Fin.ext h7
  show (cfg0.win 10).cut (grid0.coords t0_7) ((dats m 0 c).after 10 t0_7) = _
  rw [after0_10]
  funext j
  obtain ⟨q, k, rfl⟩ := eq_ix2 (a := 1) (b := 128) j
  obtain rfl : q = 0 := Subsingleton.elim _ _
  show (outsAt0 m c 7 t0_7.isLt).2.2.2.2.1 (ix2 0 k) = gLoss m c (((cfg0.win 10).blk t0_7).view.emb (ix2 0 k))
  rw [emb10, acc_loss m c k 7 t0_7.isLt]
  exact (Fin.sum_univ_tiles 8 256 (by norm_num) fun i => cHalf * ((args m c).row i).mean).symm

theorem final10 : (dats m 0 c).arrAt 10 cfg0.N = gLoss m c :=
  (dats m 0 c).arrAt_eq_of_cover 10 (gLoss m c) (flushed10_eq m c) fun j => by
    obtain ⟨q, k, rfl⟩ := eq_ix2 (a := 1) (b := 128) j
    exact ⟨t0_7, (flush0_10 t0_7).mpr rfl, by
      have h := ((cfg0.win 10).blk t0_7).view.emb_mem_set (ix2 q k); rwa [emb10] at h⟩

theorem flushed11_eq (t : Fin cfg0.N) (hf : (cfg0.win 11).flush t = true) :
    (dats m 0 c).flushed 11 t = ((cfg0.win 11).blk t).view.read (Elt Ideal) (gDg m c) := by
  have hN : cfg0.N = 8 := N_0
  have h7 : t.val = 7 := by have := (flush0_11 t).mp hf; have := t.isLt; omega
  obtain rfl : t = t0_7 := Fin.ext h7
  show (cfg0.win 11).cut (grid0.coords t0_7) ((dats m 0 c).after 11 t0_7) = _
  rw [after0_11]
  funext j
  obtain ⟨q, k, rfl⟩ := eq_ix2 (a := 1) (b := 1024) j
  obtain rfl : q = 0 := Subsingleton.elim _ _
  show (outsAt0 m c 7 t0_7.isLt).2.2.2.2.2 (ix2 0 k) = gDg m c (((cfg0.win 11).blk t0_7).view.emb (ix2 0 k))
  rw [emb11, acc_dg m c k 7 t0_7.isLt]
  exact (Fin.sum_univ_tiles 8 256 (by norm_num) fun i => ((args m c).row i).dg k).symm

theorem final11 : (dats m 0 c).arrAt 11 cfg0.N = gDg m c :=
  (dats m 0 c).arrAt_eq_of_cover 11 (gDg m c) (flushed11_eq m c) fun j => by
    obtain ⟨q, k, rfl⟩ := eq_ix2 (a := 1) (b := 1024) j
    exact ⟨t0_7, (flush0_11 t0_7).mpr rfl, by
      have h := ((cfg0.win 11).blk t0_7).view.emb_mem_set (ix2 q k); rwa [emb11] at h⟩

end Cert.Proof.MlpLoss

end
-- ==== Proof.MlpLoss.Ref.lean ====
/- The reference's arrays, row by row: the same row functions of the arguments as the kernel's. -/
module

public import proofs.«01_k».proof.Proof.MlpLoss.Spec
public import proofs.«01_k».proof.Proof.Gen.MlpLossRefIdeal.Read

@[expose] public section

noncomputable section

namespace Cert.Proof.MlpLoss.Ref

open Cert.MlpLossRefIdeal Cert.MlpLossRefIdeal.Gen Cert.MlpLossRefIdeal.Read Idealize.ShloMosaic Idealize.ShloMosaic.TcCoe
open Idealize.ShloMosaic.Pointwise Cert.Proof.RowNorm Cert.Proof.Scalars Cert.Proof.MlpLoss

variable (x0 x1 x2 : S2048x1024.Idx → EReal) (x3 : S1024x4096.Idx → EReal) (x4 : S4096x1024.Idx → EReal)
  (x5 : S1024.Idx → EReal)

/-- The arguments by row and column. -/
def args : Args where
  h2 i k := x0 (ix2 i k)
  x1 i k := x1 (ix2 i k)
  tgt i k := x2 (ix2 i k)
  wu k n := x3 (ix2 k n)
  wd n k := x4 (ix2 n k)
  g k := x5 (ix1 k)

/-! ## The products -/

theorem v0 (i : Fin 2048) (n : Fin 4096) : val_main_v0 (F := Ideal) x0 x3 (ix2 i n) = ((args x0 x1 x2 x3 x4 x5).row i).up n := by
  pointwise [val_main_v0]
  rfl

theorem v2 (i : Fin 2048) (n : Fin 4096) : val_main_v2 (F := Ideal) x0 x3 (ix2 i n) = ((args x0 x1 x2 x3 x4 x5).row i).u n := by
  pointwise [val_main_v2, val_main_v1, val_main_call0_v0, val_main_call0_cst]
  rw [v0 x0 x1 x2 x3 x4 x5]
  rfl

theorem v3 (i : Fin 2048) (k : Fin 1024) : val_main_v3 (F := Ideal) x0 x3 x4 (ix2 i k) = ((args x0 x1 x2 x3 x4 x5).row i).dn k := by
  pointwise [val_main_v3]
  simp only [v2 x0 x1 x2 x3 x4 x5]
  rfl

/-! ## The normalisation and the error -/

theorem v10 (i : Fin 2048) (q : Fin 1) : val_main_v10 (F := Ideal) x0 x3 x4 (ix2 i q) = ms ((args x0 x1 x2 x3 x4 x5).row i).dn := by
  pointwise [val_main_v10, val_main_v9, val_main_v8, val_main_v7, val_main_v6, val_main_v5, val_main_v4, val_main_cst,
    val_main_cst_0, val_main_cst_1]
  simp only [v3 x0 x1 x2 x3 x4 x5]
  rfl

theorem v11 (i : Fin 2048) (q : Fin 1) : val_main_v11 (F := Ideal) x0 x3 x4 (ix2 i q) = rs ((args x0 x1 x2 x3 x4 x5).row i).dn := by
  pointwise [val_main_v11]
  rw [v10 x0 x1 x2 x3 x4 x5]
  rfl

theorem v14 (i : Fin 2048) (q : Fin 1) : val_main_v14 (F := Ideal) x0 x3 x4 (ix2 i q)
    = cMinusHalf * Ideal.div (rs ((args x0 x1 x2 x3 x4 x5).row i).dn) (ms ((args x0 x1 x2 x3 x4 x5).row i).dn) := by
  pointwise [val_main_v14, val_main_v13, val_main_v12, val_main_cst_2]
  rw [v10 x0 x1 x2 x3 x4 x5, v11 x0 x1 x2 x3 x4 x5]

theorem v16 (i : Fin 2048) (k : Fin 1024) :
    val_main_v16 (F := Ideal) x0 x3 x4 (ix2 i k) = ((args x0 x1 x2 x3 x4 x5).row i).dn k * rs ((args x0 x1 x2 x3 x4 x5).row i).dn := by
  pointwise [val_main_v16, val_main_v15]
  rw [v3 x0 x1 x2 x3 x4 x5, v11 x0 x1 x2 x3 x4 x5]

theorem v21 (i : Fin 2048) (k : Fin 1024) :
    val_main_v21 (F := Ideal) x0 x1 x2 x3 x4 x5 (ix2 i k) = ((args x0 x1 x2 x3 x4 x5).row i).err k := by
  pointwise [val_main_v21, val_main_v20, val_main_v19, val_main_v18, val_main_v17]
  rw [v16 x0 x1 x2 x3 x4 x5]
  rfl

/-! ## The results -/

theorem v29 (q : S_.Idx) : val_main_v29 (F := Ideal) x0 x1 x2 x3 x4 x5 q = (args x0 x1 x2 x3 x4 x5).loss := by
  obtain rfl : q = ix0 := Subsingleton.elim _ _
  pointwise [val_main_v29, val_main_v28, val_main_v27, val_main_v26, val_main_v25, val_main_v22, val_main_cst_4,
    val_main_cst_5, val_main_cst_6, val_main_cst_7]
  simp only [v21 x0 x1 x2 x3 x4 x5]
  exact cHalf_mul_sum fun i => ((args x0 x1 x2 x3 x4 x5).row i).mean

theorem v35 (i : Fin 2048) (k : Fin 1024) :
    val_main_v35 (F := Ideal) x0 x1 x2 x3 x4 x5 (ix2 i k) = ((args x0 x1 x2 x3 x4 x5).row i).dx k := by
  pointwise [val_main_v35, val_main_v34, val_main_v33, val_main_v32, val_main_v31, val_main_v30, val_main_v24,
    val_main_v23, val_main_cst_3, val_main_cst_8, val_main_cst_9, val_main_cst_10]
  rw [v21 x0 x1 x2 x3 x4 x5]
  exact square_ct cCt _

theorem v40 (i : Fin 2048) (k : Fin 1024) :
    val_main_v40 (F := Ideal) x0 x1 x2 x3 x4 x5 (ix2 i k) = ((args x0 x1 x2 x3 x4 x5).row i).dx k * x5 (ix1 k) := by
  pointwise [val_main_v40, val_main_v39, val_main_v17]
  rw [v35]

theorem v51 (i : Fin 2048) (k : Fin 1024) : val_main_v51 (F := Ideal) x0 x1 x2 x3 x4 x5 (ix2 i k)
    = back ((args x0 x1 x2 x3 x4 x5).row i).dn fun l => ((args x0 x1 x2 x3 x4 x5).row i).dx l * x5 (ix1 l) := by
  pointwise [val_main_v51, val_main_v50, val_main_v49, val_main_v48, val_main_v47, val_main_v44, val_main_v43,
    val_main_v42, val_main_cst_13, val_main_cst_14, val_main_cst_15]
  simp only [v40, v14 x0 x1 x2 x3 x4 x5, v3 x0 x1 x2 x3 x4 x5, Fin.sum_univ_one]
  rfl

theorem v55 (i : Fin 2048) (k : Fin 1024) :
    val_main_v55 (F := Ideal) x0 x1 x2 x3 x4 x5 (ix2 i k) = ((args x0 x1 x2 x3 x4 x5).row i).ddn k := by
  pointwise [val_main_v55, val_main_v54, val_main_v53, val_main_v52, val_main_v46, val_main_v45]
  simp only [v40, v51, v3 x0 x1 x2 x3 x4 x5, v11 x0 x1 x2 x3 x4 x5]
  rfl

theorem v59 (q : Fin 1) (k : Fin 128) : val_main_v59 (F := Ideal) x0 x1 x2 x3 x4 x5 (ix2 q k) = (args x0 x1 x2 x3 x4 x5).loss := by
  pointwise [val_main_v59]
  rw [v29]

theorem v60 (q : Fin 1) (k : Fin 1024) : val_main_v60 (F := Ideal) x0 x1 x2 x3 x4 x5 (ix2 q k) = (args x0 x1 x2 x3 x4 x5).dg k := by
  pointwise [val_main_v60, val_main_v41, val_main_v38, val_main_v37, val_main_v36, val_main_cst_11, val_main_cst_12]
  simp only [v35, v16 x0 x1 x2 x3 x4 x5, Fin.sum_univ_one]
  rfl

end Cert.Proof.MlpLoss.Ref

end
-- ==== Proof.MlpLoss.Equation.lean ====
/- `mlp_loss` computes the reference: both runs end with the same six arrays. -/
module

public import proofs.«01_k».proof.Defs
public import proofs.«01_k».proof.Proof.Gen.MlpLossIdeal
public import proofs.«01_k».proof.Proof.MlpLoss.Array
public import proofs.«01_k».proof.Proof.MlpLoss.Ref

@[expose] public section

noncomputable section

namespace Cert.Proof.MlpLoss

open Idealize.ShloMosaic Idealize.ShloMosaic.TcCoe Idealize.ShloMosaic.Pointwise Idealize.SL.Sem Idealize.ShloMosaic.StableHlo

/-- The reference's arguments on the device, by row and column. -/
abbrev refArgs (m' : (ℓ : Loc Cert.MlpLossRefIdeal.nD Cert.MlpLossRefIdeal.τ Cert.MlpLossRefIdeal.sig) → Buf (Elt Ideal) ℓ)
    (c : Dev Cert.MlpLossRefIdeal.nD) : Args :=
  Ref.args (m' (c.tc.loc Cert.MlpLossRefIdeal.main_arg0)) (m' (c.tc.loc Cert.MlpLossRefIdeal.main_arg1)) (m' (c.tc.loc Cert.MlpLossRefIdeal.main_arg2)) (m' (c.tc.loc Cert.MlpLossRefIdeal.main_arg3)) (m' (c.tc.loc Cert.MlpLossRefIdeal.main_arg4)) (m' (c.tc.loc Cert.MlpLossRefIdeal.main_arg5))

theorem algebraic : Cert.algebraic_MlpLossIdeal_MlpLossRefIdeal := by
  intro m g m' g' _ hin
  have ha : ∀ c, refArgs m' c = args m c := fun c => by
    obtain ⟨e0, e1, e2, e3, e4, e5⟩ := hin c
    show Ref.args _ _ _ _ _ _ = _
    rw [e0, e1, e2, e3, e4, e5]
    rfl
  refine ⟨fun c => gUp m c, fun c => gU m c, fun c => gDx m c, fun c => gDdn m c, fun c => gLoss m c, fun c => gDg m c, ?_, ?_⟩
  · refine (θ_run Cert.MlpLossIdeal.defs _ _).mono (fun r h c => ?_) (Cert.MlpLossIdeal.Value.run_blocks (F := Ideal) m g)
    obtain ⟨h0, h1, h2, h3, h4, h5, hargs⟩ := h c
    exact ⟨h0.trans (final6 m c), h1.trans (final7 m c), h2.trans (final8 m c), h3.trans (final9 m c), h4.trans (final10 m c), h5.trans (final11 m c), hargs⟩
  · refine (θ_run Cert.MlpLossRefIdeal.defs _ _).mono (fun r h c => ?_) (Cert.MlpLossRefIdeal.Value.run (F := Ideal) m' g')
    obtain ⟨h0, h1, h2, h3, h4, h5, hargs⟩ := h c
    refine ⟨h0.trans ?_, h1.trans ?_, h2.trans ?_, h3.trans ?_, h4.trans ?_, h5.trans ?_, hargs⟩
    · refine (Cert.MlpLossRefIdeal.Read.val_main_v56_eq (m' (c.tc.loc Cert.MlpLossRefIdeal.main_arg0)) (m' (c.tc.loc Cert.MlpLossRefIdeal.main_arg3))).trans ?_
      funext j
      obtain ⟨i, k, rfl⟩ := eq_ix2 (a := 2048) (b := 4096) j
      refine (Ref.v0 (m' (c.tc.loc Cert.MlpLossRefIdeal.main_arg0)) (m' (c.tc.loc Cert.MlpLossRefIdeal.main_arg1)) (m' (c.tc.loc Cert.MlpLossRefIdeal.main_arg2)) (m' (c.tc.loc Cert.MlpLossRefIdeal.main_arg3)) (m' (c.tc.loc Cert.MlpLossRefIdeal.main_arg4)) (m' (c.tc.loc Cert.MlpLossRefIdeal.main_arg5)) i k).trans ?_
      show ((refArgs m' c).row i).up k = ((args m c).row i).up k
      rw [ha]
    · refine (Cert.MlpLossRefIdeal.Read.val_main_v57_eq (m' (c.tc.loc Cert.MlpLossRefIdeal.main_arg0)) (m' (c.tc.loc Cert.MlpLossRefIdeal.main_arg3))).trans ?_
      funext j
      obtain ⟨i, k, rfl⟩ := eq_ix2 (a := 2048) (b := 4096) j
      refine (Ref.v2 (m' (c.tc.loc Cert.MlpLossRefIdeal.main_arg0)) (m' (c.tc.loc Cert.MlpLossRefIdeal.main_arg1)) (m' (c.tc.loc Cert.MlpLossRefIdeal.main_arg2)) (m' (c.tc.loc Cert.MlpLossRefIdeal.main_arg3)) (m' (c.tc.loc Cert.MlpLossRefIdeal.main_arg4)) (m' (c.tc.loc Cert.MlpLossRefIdeal.main_arg5)) i k).trans ?_
      show ((refArgs m' c).row i).u k = ((args m c).row i).u k
      rw [ha]
    · refine (Cert.MlpLossRefIdeal.Read.val_main_v35_eq (m' (c.tc.loc Cert.MlpLossRefIdeal.main_arg0)) (m' (c.tc.loc Cert.MlpLossRefIdeal.main_arg1)) (m' (c.tc.loc Cert.MlpLossRefIdeal.main_arg2)) (m' (c.tc.loc Cert.MlpLossRefIdeal.main_arg3)) (m' (c.tc.loc Cert.MlpLossRefIdeal.main_arg4)) (m' (c.tc.loc Cert.MlpLossRefIdeal.main_arg5))).trans ?_
      funext j
      obtain ⟨i, k, rfl⟩ := eq_ix2 (a := 2048) (b := 1024) j
      refine (Ref.v35 (m' (c.tc.loc Cert.MlpLossRefIdeal.main_arg0)) (m' (c.tc.loc Cert.MlpLossRefIdeal.main_arg1)) (m' (c.tc.loc Cert.MlpLossRefIdeal.main_arg2)) (m' (c.tc.loc Cert.MlpLossRefIdeal.main_arg3)) (m' (c.tc.loc Cert.MlpLossRefIdeal.main_arg4)) (m' (c.tc.loc Cert.MlpLossRefIdeal.main_arg5)) i k).trans ?_
      show ((refArgs m' c).row i).dx k = ((args m c).row i).dx k
      rw [ha]
    · refine (Cert.MlpLossRefIdeal.Read.val_main_v58_eq m' c).trans ?_
      funext j
      obtain ⟨i, k, rfl⟩ := eq_ix2 (a := 2048) (b := 1024) j
      refine (Ref.v55 (m' (c.tc.loc Cert.MlpLossRefIdeal.main_arg0)) (m' (c.tc.loc Cert.MlpLossRefIdeal.main_arg1)) (m' (c.tc.loc Cert.MlpLossRefIdeal.main_arg2)) (m' (c.tc.loc Cert.MlpLossRefIdeal.main_arg3)) (m' (c.tc.loc Cert.MlpLossRefIdeal.main_arg4)) (m' (c.tc.loc Cert.MlpLossRefIdeal.main_arg5)) i k).trans ?_
      show ((refArgs m' c).row i).ddn k = ((args m c).row i).ddn k
      rw [ha]
    · refine (Cert.MlpLossRefIdeal.Read.val_main_v59_eq m' c).trans ?_
      funext j
      obtain ⟨i, k, rfl⟩ := eq_ix2 (a := 1) (b := 128) j
      refine (Ref.v59 (m' (c.tc.loc Cert.MlpLossRefIdeal.main_arg0)) (m' (c.tc.loc Cert.MlpLossRefIdeal.main_arg1)) (m' (c.tc.loc Cert.MlpLossRefIdeal.main_arg2)) (m' (c.tc.loc Cert.MlpLossRefIdeal.main_arg3)) (m' (c.tc.loc Cert.MlpLossRefIdeal.main_arg4)) (m' (c.tc.loc Cert.MlpLossRefIdeal.main_arg5)) i k).trans ?_
      show (refArgs m' c).loss = (args m c).loss
      rw [ha]
    · refine (Cert.MlpLossRefIdeal.Read.val_main_v60_eq m' c).trans ?_
      funext j
      obtain ⟨i, k, rfl⟩ := eq_ix2 (a := 1) (b := 1024) j
      refine (Ref.v60 (m' (c.tc.loc Cert.MlpLossRefIdeal.main_arg0)) (m' (c.tc.loc Cert.MlpLossRefIdeal.main_arg1)) (m' (c.tc.loc Cert.MlpLossRefIdeal.main_arg2)) (m' (c.tc.loc Cert.MlpLossRefIdeal.main_arg3)) (m' (c.tc.loc Cert.MlpLossRefIdeal.main_arg4)) (m' (c.tc.loc Cert.MlpLossRefIdeal.main_arg5)) i k).trans ?_
      show (refArgs m' c).dg k = (args m c).dg k
      rw [ha]

end Cert.Proof.MlpLoss

end
-- ==== Proof.MlpDownDw.Array.lean ====
/- The array `mlp_down_dw` leaves: at row `n`, column `k`, the sum over the 2048 tokens of the squared positive part of
   the up projection's entry `n` times the output gradient's entry `k`. -/
module

public import proofs.«01_k».proof.Proof.Gen.MlpDownDwIdeal.Value
public import Idealize.ShloMosaic.Lib.Pointwise

@[expose] public section

noncomputable section

namespace Cert.Proof.MlpDownDw

open Cert.MlpDownDwIdeal Cert.MlpDownDwIdeal.Gen Cert.MlpDownDwIdeal.Value Idealize.ShloMosaic Idealize.ShloMosaic.TcCoe
open Idealize.ShloMosaic.StableHlo Idealize.ShloMosaic.Pointwise

/-- The arguments by row and column: the MLP's input, the up projection's weight, and the gradient at the output. -/
structure Args where
  h2 : Fin 2048 → Fin 1024 → EReal
  wu : Fin 1024 → Fin 4096 → EReal
  ddn : Fin 2048 → Fin 1024 → EReal

/-- The squared positive part of the up projection, and the gradient of the down projection's weight. -/
def Args.u (a : Args) (i : Fin 2048) (n : Fin 4096) : EReal :=
  max (∑ k, a.h2 i k * a.wu k n) 0 * max (∑ k, a.h2 i k * a.wu k n) 0
def Args.dw (a : Args) (n : Fin 4096) (k : Fin 1024) : EReal := ∑ i, a.u i n * a.ddn i k

variable (m : (ℓ : Loc nD τ sig) → Buf (Elt Ideal) ℓ) (c : Dev nD)

/-- The program's arguments. -/
abbrev aH2 : S2048x1024.Idx → EReal := m ((c : Thread nD τ).loc main_arg0)
abbrev aWu : S1024x4096.Idx → EReal := m ((c : Thread nD τ).loc main_arg1)
abbrev aDdn : S2048x1024.Idx → EReal := m ((c : Thread nD τ).loc main_arg2)

/-- The same by row and column. -/
def args : Args where
  h2 i k := aH2 m c (ix2 i k)
  wu k n := aWu m c (ix2 k n)
  ddn i k := aDdn m c (ix2 i k)

/-! ## What the host hands over -/

theorem V3 (i : Fin 2048) (n : Fin 4096) : V m c main_v3 (ix2 i n) = (args m c).u i n := by
  unfold V hostOps0 hostOps0_1 hostOps0_2
  simp only [List.flatten_cons, List.flatten_nil, List.append_nil, List.cons_append, List.nil_append]
  after_results
  simp only [TRef.toBuf, TRef.ofBuf, cast_eq]
  pointwise
  rfl
theorem V4 (i : Fin 2048) (k : Fin 1024) : V m c main_v4 (ix2 i k) = (args m c).ddn i k := by
  unfold V hostOps0 hostOps0_1 hostOps0_2
  simp only [List.flatten_cons, List.flatten_nil, List.append_nil, List.cons_append, List.nil_append]
  after_results
  rfl

/-! ## Where a block lies -/

/-- Entry `r` of block `t`. -/
abbrev at512 (t : Fin cfg0.N) (r : Fin 512) : Fin 4096 :=
  ⟨t.val * 512 + r.val, by have : cfg0.N = 8 := N_0; have := t.isLt; omega⟩

theorem ixw0 : ∀ t : Fin cfg0.N, win0_0.index t 0 = 0 ∧ win0_0.index t 1 = t.val := (by decide +kernel : ∀ t : Fin grid0.N, _)
theorem ixw1 : ∀ t : Fin cfg0.N, win0_1.index t 0 = 0 ∧ win0_1.index t 1 = 0 := (by decide +kernel : ∀ t : Fin grid0.N, _)
theorem ixw2 : ∀ t : Fin cfg0.N, win0_2.index t 0 = t.val ∧ win0_2.index t 1 = 0 := (by decide +kernel : ∀ t : Fin grid0.N, _)

theorem emb0 (t : Fin cfg0.N) (i : Fin 2048) (r : Fin 512) : ((cfg0.win 0).blk t).view.emb (ix2 i r) = ix2 i (at512 t r) := by
  obtain ⟨e0, e1⟩ := ixw0 t
  funext a; apply Fin.ext
  match a with
  | ⟨0, _⟩ => show win0_0.index t 0 * 2048 + 1 * i.val = i.val; omega
  | ⟨1, _⟩ => show win0_0.index t 1 * 512 + 1 * r.val = t.val * 512 + r.val; omega
theorem emb1 (t : Fin cfg0.N) (i : Fin 2048) (k : Fin 1024) : ((cfg0.win 1).blk t).view.emb (ix2 i k) = ix2 i k := by
  obtain ⟨e0, e1⟩ := ixw1 t
  funext a; apply Fin.ext
  match a with
  | ⟨0, _⟩ => show win0_1.index t 0 * 2048 + 1 * i.val = i.val; omega
  | ⟨1, _⟩ => show win0_1.index t 1 * 1024 + 1 * k.val = k.val; omega
theorem emb2 (t : Fin cfg0.N) (r : Fin 512) (k : Fin 1024) : ((cfg0.win 2).blk t).view.emb (ix2 r k) = ix2 (at512 t r) k := by
  obtain ⟨e0, e1⟩ := ixw2 t
  funext a; apply Fin.ext
  match a with
  | ⟨0, _⟩ => show win0_2.index t 0 * 512 + 1 * r.val = t.val * 512 + r.val; omega
  | ⟨1, _⟩ => show win0_2.index t 1 * 1024 + 1 * k.val = k.val; omega

/-! ## A point's block -/

theorem hz : (![0, 0] : Fin 2 → Nat) = fun _ => 0 := funext fun a => by fin_cases a <;> rfl

theorem out_eq (x0 : Vec Ideal S2048x512 .bf16) (x1 : Vec Ideal S2048x1024 .bf16) : out0_2 x0 x1 = k0_pay1 x0 x1 := by
  unfold out0_2
  rw [View.canon_unit_zero hz]
  simp only [View.ld_unit_zero (S := S2048x512) hz, View.ld_unit_zero (S := S2048x1024) hz]

theorem block_apply (x0 : Vec Ideal S2048x512 .bf16) (x1 : Vec Ideal S2048x1024 .bf16) (r : Fin 512) (k : Fin 1024) :
    k0_pay1 x0 x1 (ix2 r k) = ∑ i : Fin 2048, (x0 (ix2 i r) : EReal) * x1 (ix2 i k) := by
  pointwise [k0_pay1]

/-- The gradient as an array. -/
def gDw : S4096x1024.Idx → EReal := fun j => (args m c).dw (j 0) (j 1)

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩

theorem in0 (t : Fin cfg0.N) (i : Fin 2048) (r : Fin 512) : iblk m c 0 t (ix2 i r) = (args m c).u i (at512 t r) := by
  show V m c main_v3 (((cfg0.win 0).blk t).view.emb (ix2 i r)) = _
  rw [emb0, V3]
theorem in1 (t : Fin cfg0.N) (i : Fin 2048) (k : Fin 1024) : iblk m c 1 t (ix2 i k) = (args m c).ddn i k := by
  show V m c main_v4 (((cfg0.win 1).blk t).view.emb (ix2 i k)) = _
  rw [emb1, V4]

theorem flushed2_eq (t : Fin cfg0.N) :
    (dats m 0 c).flushed 2 t = ((cfg0.win 2).blk t).view.read (Elt Ideal) (gDw m c) := by
  show (cfg0.win 2).cut (grid0.coords t) ((dats m 0 c).after 2 t) = _
  rw [after0_2, out_eq]
  funext j
  obtain ⟨r, k, rfl⟩ := eq_ix2 (a := 512) (b := 1024) j
  show k0_pay1 (iblk m c 0 t) (iblk m c 1 t) (ix2 r k) = gDw m c (((cfg0.win 2).blk t).view.emb (ix2 r k))
  rw [emb2, block_apply]
  simp only [in0, in1]
  rfl

theorem final2 : (dats m 0 c).arrAt 2 cfg0.N = gDw m c :=
  (dats m 0 c).arrAt_eq_of_cover 2 (gDw m c) (fun t _ => flushed2_eq m c t) fun j => by
    have hN : cfg0.N = 8 := N_0
    obtain ⟨n, k, rfl⟩ := eq_ix2 (a := 4096) (b := 1024) j
    let t : Fin cfg0.N := ⟨n.val / 512, by omega⟩
    let r : Fin 512 := ⟨n.val % 512, by omega⟩
    have hn : n = at512 t r := Fin.ext (by show n.val = n.val / 512 * 512 + n.val % 512; omega)
    rw [hn]
    exact ⟨t, flush0_2 t, by have h := ((cfg0.win 2).blk t).view.emb_mem_set (ix2 r k); rwa [emb2] at h⟩

end Cert.Proof.MlpDownDw

end
-- ==== Proof.MlpDownDw.Ref.lean ====
/- What the reference of `mlp_down_dw` computes, at an index. -/
module

public import proofs.«01_k».proof.Proof.Gen.MlpDownDwRefIdeal.Read
public import proofs.«01_k».proof.Proof.MlpDownDw.Array

@[expose] public section

noncomputable section

namespace Cert.Proof.MlpDownDw.Ref

open Cert.MlpDownDwRefIdeal Cert.MlpDownDwRefIdeal.Gen Cert.MlpDownDwRefIdeal.Read Idealize.ShloMosaic
open Idealize.ShloMosaic.Pointwise Cert.Proof.MlpDownDw

variable (x0 : S2048x1024.Idx → EReal) (x1 : S1024x4096.Idx → EReal) (x2 : S2048x1024.Idx → EReal)

/-- The arguments by row and column. -/
def args : Args where
  h2 i k := x0 (ix2 i k)
  wu k n := x1 (ix2 k n)
  ddn i k := x2 (ix2 i k)

theorem v2 (i : Fin 2048) (n : Fin 4096) : val_main_v2 (F := Ideal) x0 x1 (ix2 i n) = (args x0 x1 x2).u i n := by
  pointwise [val_main_v2, val_main_v1, val_main_call0_v0, val_main_call0_cst, val_main_v0]
  rfl

theorem v7 (n : Fin 4096) (k : Fin 1024) : val_main_v7 (F := Ideal) x0 x1 x2 (ix2 n k) = (args x0 x1 x2).dw n k := by
  pointwise [val_main_v7, val_main_v6, val_main_v5]
  simp only [v2 x0 x1 x2]
  exact Finset.sum_congr rfl fun i _ => mul_comm _ _

end Cert.Proof.MlpDownDw.Ref

end
-- ==== Proof.MlpDownDw.Equation.lean ====
/- `mlp_down_dw` computes the reference: both runs end with the same array. -/
module

public import proofs.«01_k».proof.Defs
public import proofs.«01_k».proof.Proof.Gen.MlpDownDwIdeal
public import proofs.«01_k».proof.Proof.MlpDownDw.Array
public import proofs.«01_k».proof.Proof.MlpDownDw.Ref

@[expose] public section

noncomputable section

namespace Cert.Proof.MlpDownDw

open Idealize.ShloMosaic Idealize.ShloMosaic.TcCoe Idealize.ShloMosaic.Pointwise Idealize.SL.Sem Idealize.ShloMosaic.StableHlo

/-- The reference's arguments on the device, by row and column. -/
abbrev refArgs (m' : (ℓ : Loc Cert.MlpDownDwRefIdeal.nD Cert.MlpDownDwRefIdeal.τ Cert.MlpDownDwRefIdeal.sig) → Buf (Elt Ideal) ℓ)
    (c : Dev Cert.MlpDownDwRefIdeal.nD) : Args :=
  Ref.args (m' (c.tc.loc Cert.MlpDownDwRefIdeal.main_arg0)) (m' (c.tc.loc Cert.MlpDownDwRefIdeal.main_arg1)) (m' (c.tc.loc Cert.MlpDownDwRefIdeal.main_arg2))

theorem algebraic : Cert.algebraic_MlpDownDwIdeal_MlpDownDwRefIdeal := by
  intro m g m' g' _ hin
  have ha : ∀ c, refArgs m' c = args m c := fun c => by
    obtain ⟨e0, e1, e2⟩ := hin c
    show Ref.args _ _ _ = _
    rw [e0, e1, e2]
    rfl
  refine ⟨fun c => gDw m c, ?_, ?_⟩
  · refine (θ_run Cert.MlpDownDwIdeal.defs _ _).mono (fun r h c => ?_) (Cert.MlpDownDwIdeal.Value.run_blocks (F := Ideal) m g)
    obtain ⟨h0, hargs⟩ := h c
    exact ⟨h0.trans (final2 m c), hargs⟩
  · refine (θ_run Cert.MlpDownDwRefIdeal.defs _ _).mono (fun r h c => ?_) (Cert.MlpDownDwRefIdeal.Value.run (F := Ideal) m' g')
    obtain ⟨h0, hargs⟩ := h c
    refine ⟨h0.trans ?_, hargs⟩
    · refine (Cert.MlpDownDwRefIdeal.Read.val_main_v7_eq (m' (c.tc.loc Cert.MlpDownDwRefIdeal.main_arg0)) (m' (c.tc.loc Cert.MlpDownDwRefIdeal.main_arg1)) (m' (c.tc.loc Cert.MlpDownDwRefIdeal.main_arg2))).trans ?_
      funext j
      obtain ⟨i, k, rfl⟩ := eq_ix2 (a := 4096) (b := 1024) j
      refine (Ref.v7 (m' (c.tc.loc Cert.MlpDownDwRefIdeal.main_arg0)) (m' (c.tc.loc Cert.MlpDownDwRefIdeal.main_arg1)) (m' (c.tc.loc Cert.MlpDownDwRefIdeal.main_arg2)) i k).trans ?_
      show (refArgs m' c).dw i k = (args m c).dw i k
      rw [ha]

end Cert.Proof.MlpDownDw

end
-- ==== Proof.MlpUpDw.Block.lean ====
/- The grid points of `mlp_up_dw`: the first stores the transposed input and a copy of the projection's gradient in two
   scratch buffers, which the others leave as they are; every point leaves in the output's block the product of the
   transposed input with 512 columns of the copy. -/
module

public import proofs.«01_k».proof.Proof.Gen.MlpUpDwIdeal.Value
public import Idealize.ShloMosaic.Lib.Pointwise
public import Idealize.ShloMosaic.Lib.Pipeline.ValueKit.Tiles

@[expose] public section

set_option maxRecDepth 16384

noncomputable section

namespace Cert.Proof.MlpUpDw

open Cert.MlpUpDwIdeal Cert.MlpUpDwIdeal.Gen Idealize.ShloMosaic Idealize.ShloMosaic.TcCoe Idealize.ShloMosaic.Tactic

variable {F : FTy → Type} [FloatOps F]
variable (m : (ℓ : Loc nD τ sig) → Buf (Elt F) ℓ) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

/-- Column `n` of the 512 columns from 512 `s`. -/
abbrev colAt (s : Fin 8) (n : Fin 512) : Fin 4096 := ⟨s.val * 512 + n.val, by omega⟩

/-- These columns of a matrix. -/
def cols (s : Fin 8) (x : Vec F S2048x4096 .bf16) : Vec F S2048x512 .bf16 := fun j => x (ix2 (j 0) (colAt s (j 1)))

/-- The transposed input, and the copied gradient. -/
abbrev h2T : Vec F S1024x2048 .bf16 := k0_pay1 (iblk m c 0 ⟨0, by have : cfg0.N = 8 := N_0; omega⟩)
abbrev dup : Vec F S2048x4096 .bf16 := V m c main_v1

/-- A load of 512 columns of a matrix. -/
theorem ld_cols (s : Fin 8) (o : ℕ) (ho : o = s.val * 512)
    (inb : ∀ a, (![0, o] : Fin 2 → Nat) a + (![2048, 512] : Fin 2 → Nat) a ≤ S2048x4096.size a) (x : Vec F S2048x4096 .bf16) :
    View.ld x (Rect.unit (s := S2048x4096) ![0, o] ![2048, 512] inb) = cols s x := by
  funext j
  refine View.ld_unit_apply_of x _ _ inb j _ fun a => ?_
  subst ho
  match a with
  | ⟨0, _⟩ => exact (Nat.zero_add _).symm
  | ⟨1, _⟩ => rfl

/-- Writing all of a buffer leaves what was written. -/
theorem canon_all (x : Vec F S2048x4096 .bf16) :
    View.canon [(⟨Rect.whole S2048x4096, x⟩ : View.Piece (Elt F) S2048x4096 .bf16)] = x :=
  View.canon_unit_zero rfl _ x

theorem all_cover (x : Vec F S2048x4096 .bf16) (y : S2048x4096.Idx) :
    ∃ p ∈ [(⟨Rect.whole S2048x4096, x⟩ : View.Piece (Elt F) S2048x4096 .bf16)], y ∈ p.1.set :=
  View.cover_of_tiledL _ S2048x4096.size (by sl_kernel_rfl) y

/-- What the run holds at a point, in terms of its block and the two scratch buffers. -/
abbrev At (s : Fin 8) (a : Vec F S1024x2048 .bf16) (b : Vec F S2048x4096 .bf16) :
    Vec F S1x1024x512 .bf16 × Vec F S1024x2048 .bf16 × Vec F S2048x4096 .bf16 := (k0_pay2 a (cols s b), a, b)

theorem outs_A (t : Fin cfg0.N) (h : t.val = 0) : outsAt0 m c t.val t.isLt = At 0 (h2T m c) (dup m c) := by
  obtain ⟨n, hn⟩ := t
  obtain rfl : n = 0 := h
  rw [outsAt0_A m c _ (Nat.zero_mod 8) (Nat.zero_mod 8) (by dsimp only; omega) (by dsimp only; omega) (by dsimp only; omega) (by dsimp only; omega) (by dsimp only; omega) (by dsimp only; omega) (by dsimp only; omega)]
  refine Prod.ext ?_ (Prod.ext ?_ ?_)
  · dsimp only
    unfold out0_A_1
    rw [View.read_writes_eq_canon _ _ _ (cover0_A_1 _ _ _ _ _ _ _ _ _ _ _ _ _ _ _ _ _ _ _ _ _)]
    unfold kernelRun0_A
    dsimp only
    sl_unfold_words
    rw [View.canon_unit_zero hz3, View.readCov_unit_zero (S := S1024x2048) _ hz, View.readCov_eq_canon_ld _ _ _ (all_cover _),
      canon_all, View.readAt_eq_ld, (hs0_0 _).read_unread, View.ld_unit_zero (S := S2048x1024) hz]
    exact congrArg _ (ld_cols 0 0 rfl _ _)
  · dsimp only
    unfold sout0_A_0
    rw [View.read_writes_eq_canon _ _ _ (scover0_A_0 _ _ _ _ _ _ _ _ _ _ _ _ _ _ _ _ _ _ _ _ _)]
    unfold kernelRun0_A
    dsimp only
    sl_unfold_words
    rw [View.canon_unit_zero hz, View.readAt_eq_ld, (hs0_0 _).read_unread, View.ld_unit_zero (S := S2048x1024) hz]
  · dsimp only
    unfold sout0_A_1
    rw [View.read_writes_eq_canon _ _ _ (scover0_A_1 _ _ _ _ _ _ _ _ _ _ _ _ _ _ _ _ _ _ _ _ _)]
    unfold kernelRun0_A
    dsimp only
    sl_unfold_words
    exact canon_all _

/-- A later point's block, from loads of the two scratch buffers. -/
theorem later_block (s : Fin 8) (o : ℕ) (ho : o = s.val * 512)
    (inb : ∀ a, (![0, o] : Fin 2 → Nat) a + (![2048, 512] : Fin 2 → Nat) a ≤ S2048x4096.size a)
    (a : Vec F S1024x2048 .bf16) (b : Vec F S2048x4096 .bf16) :
    k0_pay2 (View.readAt (Elt F) (View.whole cc0_scratch0)
        (Rect.unit (s := S1024x2048) ![0, 0] ![1024, 2048] inb_S1024x2048_S1024x2048_0_0).toLoadRect
        ((Memref.isWhole_whole cc0_scratch0).unread a))
      (View.readAt (Elt F) (View.whole cc0_scratch1) (Rect.unit (s := S2048x4096) ![0, o] ![2048, 512] inb).toLoadRect
        ((Memref.isWhole_whole cc0_scratch1).unread b)) = k0_pay2 a (cols s b) := by
  rw [← ld_cols s o ho inb b]
  refine congrArg₂ k0_pay2 ?_ ?_
  · refine (View.readAt_eq_ld _ _ _).trans ?_
    refine (congrArg (fun z => View.ld z _) ((Memref.isWhole_whole cc0_scratch0).read_unread a)).trans ?_
    exact View.ld_unit_zero (S := S1024x2048) hz _ _
  · refine (View.readAt_eq_ld _ _ _).trans ?_
    exact congrArg (fun z => View.ld z _) ((Memref.isWhole_whole cc0_scratch1).read_unread b)

theorem outs_B (t : Fin cfg0.N) (h : t.val = 1) (h' : t.val - 1 < cfg0.N) : outsAt0 m c t.val t.isLt
    = At 1 (outsAt0 m c (t.val - 1) h').2.1 (outsAt0 m c (t.val - 1) h').2.2 := by
  rw [outsAt0_B m c t (by omega) (by omega) (by omega) (by omega) (by omega) (by omega) (by omega) (by omega) (by omega)]
  refine Prod.ext ?_ rfl
  dsimp only
  unfold out0_B_1
  rw [View.read_writes_eq_canon _ _ _ (cover0_B_1 _ _ _ _ _ _ _ _ _ _ _ _ _ _ _ _ _ _ _ _ _ _ _)]
  unfold kernelRun0_B
  dsimp only
  sl_unfold_words
  rw [View.canon_unit_zero hz3]
  exact later_block 1 512 rfl _ _ _

theorem outs_C (t : Fin cfg0.N) (h : t.val = 2) (h' : t.val - 1 < cfg0.N) : outsAt0 m c t.val t.isLt
    = At 2 (outsAt0 m c (t.val - 1) h').2.1 (outsAt0 m c (t.val - 1) h').2.2 := by
  rw [outsAt0_C m c t (by omega) (by omega) (by omega) (by omega) (by omega) (by omega) (by omega) (by omega) (by omega)]
  refine Prod.ext ?_ rfl
  dsimp only
  unfold out0_C_1
  rw [View.read_writes_eq_canon _ _ _ (cover0_C_1 _ _ _ _ _ _ _ _ _ _ _ _ _ _ _ _ _ _ _ _ _ _ _)]
  unfold kernelRun0_C
  dsimp only
  sl_unfold_words
  rw [View.canon_unit_zero hz3]
  exact later_block 2 1024 rfl _ _ _

theorem outs_D (t : Fin cfg0.N) (h : t.val = 3) (h' : t.val - 1 < cfg0.N) : outsAt0 m c t.val t.isLt
    = At 3 (outsAt0 m c (t.val - 1) h').2.1 (outsAt0 m c (t.val - 1) h').2.2 := by
  rw [outsAt0_D m c t (by omega) (by omega) (by omega) (by omega) (by omega) (by omega) (by omega) (by omega) (by omega)]
  refine Prod.ext ?_ rfl
  dsimp only
  unfold out0_D_1
  rw [View.read_writes_eq_canon _ _ _ (cover0_D_1 _ _ _ _ _ _ _ _ _ _ _ _ _ _ _ _ _ _ _ _ _ _ _)]
  unfold kernelRun0_D
  dsimp only
  sl_unfold_words
  rw [View.canon_unit_zero hz3]
  exact later_block 3 1536 rfl _ _ _

theorem outs_E (t : Fin cfg0.N) (h : t.val = 4) (h' : t.val - 1 < cfg0.N) : outsAt0 m c t.val t.isLt
    = At 4 (outsAt0 m c (t.val - 1) h').2.1 (outsAt0 m c (t.val - 1) h').2.2 := by
  rw [outsAt0_E m c t (by omega) (by omega) (by omega) (by omega) (by omega) (by omega) (by omega) (by omega) (by omega)]
  refine Prod.ext ?_ rfl
  dsimp only
  unfold out0_E_1
  rw [View.read_writes_eq_canon _ _ _ (cover0_E_1 _ _ _ _ _ _ _ _ _ _ _ _ _ _ _ _ _ _ _ _ _ _ _)]
  unfold kernelRun0_E
  dsimp only
  sl_unfold_words
  rw [View.canon_unit_zero hz3]
  exact later_block 4 2048 rfl _ _ _

theorem outs_F (t : Fin cfg0.N) (h : t.val = 5) (h' : t.val - 1 < cfg0.N) : outsAt0 m c t.val t.isLt
    = At 5 (outsAt0 m c (t.val - 1) h').2.1 (outsAt0 m c (t.val - 1) h').2.2 := by
  rw [outsAt0_F m c t (by omega) (by omega) (by omega) (by omega) (by omega) (by omega) (by omega) (by omega) (by omega)]
  refine Prod.ext ?_ rfl
  dsimp only
  unfold out0_F_1
  rw [View.read_writes_eq_canon _ _ _ (cover0_F_1 _ _ _ _ _ _ _ _ _ _ _ _ _ _ _ _ _ _ _ _ _ _ _)]
  unfold kernelRun0_F
  dsimp only
  sl_unfold_words
  rw [View.canon_unit_zero hz3]
  exact later_block 5 2560 rfl _ _ _

theorem outs_G (t : Fin cfg0.N) (h : t.val = 6) (h' : t.val - 1 < cfg0.N) : outsAt0 m c t.val t.isLt
    = At 6 (outsAt0 m c (t.val - 1) h').2.1 (outsAt0 m c (t.val - 1) h').2.2 := by
  rw [outsAt0_G m c t (by omega) (by omega) (by omega) (by omega) (by omega) (by omega) (by omega) (by omega) (by omega)]
  refine Prod.ext ?_ rfl
  dsimp only
  unfold out0_G_1
  rw [View.read_writes_eq_canon _ _ _ (cover0_G_1 _ _ _ _ _ _ _ _ _ _ _ _ _ _ _ _ _ _ _ _ _ _ _)]
  unfold kernelRun0_G
  dsimp only
  sl_unfold_words
  rw [View.canon_unit_zero hz3]
  exact later_block 6 3072 rfl _ _ _

theorem outs_H (t : Fin cfg0.N) (h : t.val = 7) (h' : t.val - 1 < cfg0.N) : outsAt0 m c t.val t.isLt
    = At 7 (outsAt0 m c (t.val - 1) h').2.1 (outsAt0 m c (t.val - 1) h').2.2 := by
  rw [outsAt0_H m c t (by omega) (by omega) (by omega) (by omega) (by omega) (by omega) (by omega) (by omega) (by omega)]
  refine Prod.ext ?_ rfl
  dsimp only
  unfold out0_H_1
  rw [View.read_writes_eq_canon _ _ _ (cover0_H_1 _ _ _ _ _ _ _ _ _ _ _ _ _ _ _ _ _ _ _ _ _ _ _)]
  unfold kernelRun0_H
  dsimp only
  sl_unfold_words
  rw [View.canon_unit_zero hz3]
  exact later_block 7 3584 rfl _ _ _

/-- A later point, from the one before. -/
theorem outs_later (t : Fin cfg0.N) (h : t.val ≠ 0) (h8 : t.val < 8) (h' : t.val - 1 < cfg0.N) : outsAt0 m c t.val t.isLt
    = At ⟨t.val, h8⟩ (outsAt0 m c (t.val - 1) h').2.1 (outsAt0 m c (t.val - 1) h').2.2 := by
  have fin : ∀ s : Fin 8, t.val = s.val → s = ⟨t.val, h8⟩ := fun s e => Fin.ext e.symm
  rcases (by omega : t.val = 1 ∨ t.val = 2 ∨ t.val = 3 ∨ t.val = 4 ∨ t.val = 5 ∨ t.val = 6 ∨ t.val = 7)
    with e | e | e | e | e | e | e
  · rw [← fin 1 e]; exact outs_B m c t e h'
  · rw [← fin 2 e]; exact outs_C m c t e h'
  · rw [← fin 3 e]; exact outs_D m c t e h'
  · rw [← fin 4 e]; exact outs_E m c t e h'
  · rw [← fin 5 e]; exact outs_F m c t e h'
  · rw [← fin 6 e]; exact outs_G m c t e h'
  · rw [← fin 7 e]; exact outs_H m c t e h'

/-- Every point: the product with its 512 columns of the gradient, and the two scratch buffers as the first point left
    them. -/
theorem outs : ∀ (n : ℕ) (h : n < cfg0.N) (h8 : n < 8), outsAt0 m c n h = At ⟨n, h8⟩ (h2T m c) (dup m c)
  | 0, h, _ => outs_A m c ⟨0, h⟩ rfl
  | n + 1, h, h8 => by
    have ih := outs n (Nat.lt_of_succ_lt h) (Nat.lt_of_succ_lt h8)
    have e : outsAt0 m c (n + 1) h = At ⟨n + 1, h8⟩ (outsAt0 m c n (Nat.lt_of_succ_lt h)).2.1
        (outsAt0 m c n (Nat.lt_of_succ_lt h)).2.2 := outs_later m c ⟨n + 1, h⟩ (Nat.succ_ne_zero n) h8 (Nat.lt_of_succ_lt h)
    rw [e, ih]

end Cert.Proof.MlpUpDw

end
-- ==== Proof.MlpUpDw.Array.lean ====
/- The array `mlp_up_dw` leaves: its eight blocks are the 512-column pieces of the gradient of the up projection's
   weight, at row `k`, column `n` the sum over the 2048 tokens of the input's entry `k` times the gradient's entry `n`. -/
module

public import proofs.«01_k».proof.Proof.MlpUpDw.Block

@[expose] public section

noncomputable section

namespace Cert.Proof.MlpUpDw

open Cert.MlpUpDwIdeal Cert.MlpUpDwIdeal.Gen Cert.MlpUpDwIdeal.Value Idealize.ShloMosaic Idealize.ShloMosaic.TcCoe
open Idealize.ShloMosaic.StableHlo Idealize.ShloMosaic.Pointwise

/-- The arguments by row and column: the MLP's input and the gradient at the up projection's result. -/
structure Args where
  h2 : Fin 2048 → Fin 1024 → EReal
  dup : Fin 2048 → Fin 4096 → EReal

/-- The gradient of the up projection's weight. -/
def Args.dw (a : Args) (k : Fin 1024) (n : Fin 4096) : EReal := ∑ i, a.h2 i k * a.dup i n

variable (m : (ℓ : Loc nD τ sig) → Buf (Elt Ideal) ℓ) (c : Dev nD)

/-- The program's arguments. -/
abbrev aH2 : S2048x1024.Idx → EReal := m ((c : Thread nD τ).loc main_arg0)
abbrev aDup : S2048x4096.Idx → EReal := m ((c : Thread nD τ).loc main_arg1)

/-- The same by row and column. -/
def args : Args where
  h2 i k := aH2 m c (ix2 i k)
  dup i n := aDup m c (ix2 i n)

/-! ## What the host hands over: the arguments, cast -/

theorem V0 (i : Fin 2048) (k : Fin 1024) : V m c main_v0 (ix2 i k) = (args m c).h2 i k := by
  unfold V hostOps0
  after_results
  rfl
theorem V1 (i : Fin 2048) (n : Fin 4096) : V m c main_v1 (ix2 i n) = (args m c).dup i n := by
  unfold V hostOps0
  after_results
  rfl

/-! ## Where a block lies -/

theorem ixw0 : ∀ t : Fin cfg0.N, win0_0.index t 0 = 0 ∧ win0_0.index t 1 = 0 := (by decide +kernel : ∀ t : Fin grid0.N, _)
theorem ixw1 : ∀ t : Fin cfg0.N, win0_1.index t 0 = t.val ∧ win0_1.index t 1 = 0 ∧ win0_1.index t 2 = 0 :=
  (by decide +kernel : ∀ t : Fin grid0.N, _)

theorem emb0 (t : Fin cfg0.N) (i : Fin 2048) (k : Fin 1024) : ((cfg0.win 0).blk t).view.emb (ix2 i k) = ix2 i k := by
  obtain ⟨e0, e1⟩ := ixw0 t
  funext a; apply Fin.ext
  match a with
  | ⟨0, _⟩ => show win0_0.index t 0 * 2048 + 1 * i.val = i.val; omega
  | ⟨1, _⟩ => show win0_0.index t 1 * 1024 + 1 * k.val = k.val; omega

/-- The point as one of eight. -/
abbrev at8 (t : Fin cfg0.N) : Fin 8 := ⟨t.val, by have : cfg0.N = 8 := N_0; have := t.isLt; omega⟩

theorem emb1 (t : Fin cfg0.N) (q : Fin 1) (k : Fin 1024) (n : Fin 512) :
    ((cfg0.win 1).blk t).view.emb (ix3 q k n) = ix3 (at8 t) k n := by
  obtain ⟨e0, e1, e2⟩ := ixw1 t
  funext a; apply Fin.ext
  match a with
  | ⟨0, _⟩ => show win0_1.index t 0 * 1 + 1 * q.val = t.val; omega
  | ⟨1, _⟩ => show win0_1.index t 1 * 1024 + 1 * k.val = k.val; omega
  | ⟨2, _⟩ => show win0_1.index t 2 * 512 + 1 * n.val = n.val; omega

/-! ## A point's block -/

theorem block_apply (s : Fin 8) (x : Vec Ideal S2048x1024 .bf16) (y : Vec Ideal S2048x4096 .bf16) (q : Fin 1) (k : Fin 1024)
    (n : Fin 512) : k0_pay2 (k0_pay1 x) (cols s y) (ix3 q k n)
      = ∑ i : Fin 2048, (x (ix2 i k) : EReal) * y (ix2 i (colAt s n)) := by
  pointwise [k0_pay2, k0_pay1, cols]

/-- The pieces of the gradient as an array. -/
def gDw : S8x1024x512.Idx → EReal := fun j => (args m c).dw (j 1) (colAt (j 0) (j 2))

theorem eq_ix3 {a b d : ℕ} (j : (⟨3, ![a, b, d]⟩ : Shape).Idx) : ∃ (q : Fin a) (r : Fin b) (k : Fin d), j = ix3 q r k :=
  ⟨j 0, j 1, j 2, funext fun x => by match x with | ⟨0, _⟩ => rfl | ⟨1, _⟩ => rfl | ⟨2, _⟩ => rfl⟩

theorem in0 (t : Fin cfg0.N) (i : Fin 2048) (k : Fin 1024) : iblk m c 0 t (ix2 i k) = (args m c).h2 i k := by
  show V m c main_v0 (((cfg0.win 0).blk t).view.emb (ix2 i k)) = _
  rw [emb0, V0]

theorem flushed1_eq (t : Fin cfg0.N) :
    (dats m 0 c).flushed 1 t = ((cfg0.win 1).blk t).view.read (Elt Ideal) (gDw m c) := by
  show (cfg0.win 1).cut (grid0.coords t) ((dats m 0 c).after 1 t) = _
  rw [after0_1, outs m c t.val t.isLt (at8 t).isLt]
  funext j
  obtain ⟨q, k, n, rfl⟩ := eq_ix3 (a := 1) (b := 1024) (d := 512) j
  show k0_pay2 (h2T m c) (cols (at8 t) (dup m c)) (ix3 q k n) = gDw m c (((cfg0.win 1).blk t).view.emb (ix3 q k n))
  rw [emb1, block_apply]
  simp only [in0]
  exact Finset.sum_congr rfl fun i _ => congrArg _ (V1 m c i _)

theorem final1 : (dats m 0 c).arrAt 1 cfg0.N = gDw m c :=
  (dats m 0 c).arrAt_eq_of_cover 1 (gDw m c) (fun t _ => flushed1_eq m c t) fun j => by
    have hN : cfg0.N = 8 := N_0
    obtain ⟨q, k, n, rfl⟩ := eq_ix3 (a := 8) (b := 1024) (d := 512) j
    let t : Fin cfg0.N := ⟨q.val, by omega⟩
    exact ⟨t, flush0_1 t, by have h := ((cfg0.win 1).blk t).view.emb_mem_set (ix3 0 k n); rwa [emb1] at h⟩

end Cert.Proof.MlpUpDw

end
-- ==== Proof.MlpUpDw.Ref.lean ====
/- What the reference of `mlp_up_dw` computes, at an index. -/
module

public import proofs.«01_k».proof.Proof.Gen.MlpUpDwRefIdeal.Read
public import proofs.«01_k».proof.Proof.MlpUpDw.Array

@[expose] public section

noncomputable section

namespace Cert.Proof.MlpUpDw.Ref

open Cert.MlpUpDwRefIdeal Cert.MlpUpDwRefIdeal.Gen Cert.MlpUpDwRefIdeal.Read Idealize.ShloMosaic
open Idealize.ShloMosaic.Pointwise Cert.Proof.MlpUpDw

variable (x0 : S2048x1024.Idx → EReal) (x1 : S2048x4096.Idx → EReal)

/-- The arguments by row and column. -/
def args : Args where
  h2 i k := x0 (ix2 i k)
  dup i n := x1 (ix2 i n)

theorem v3 (k : Fin 1024) (n : Fin 4096) : val_main_v3 (F := Ideal) x0 x1 (ix2 k n) = (args x0 x1).dw k n := by
  pointwise [val_main_v3, val_main_v2]
  exact Finset.sum_congr rfl fun i _ => mul_comm _ _

theorem v21 (s : Fin 8) (k : Fin 1024) (n : Fin 512) :
    val_main_v21 (F := Ideal) x0 x1 (ix3 s k n) = (args x0 x1).dw k (colAt s n) := by
  fin_cases s <;>
  · pointwise [val_main_v21, val_main_v20, val_main_v19, val_main_v18, val_main_v17, val_main_v16, val_main_v15,
      val_main_v14, val_main_v13, val_main_v12, val_main_v11, val_main_v10, val_main_v9, val_main_v8, val_main_v7,
      val_main_v6, val_main_v5, val_main_v4]
    refine (v3 x0 x1 k _).trans (congrArg _ (Fin.ext ?_))
    show _ = _ * 512 + n.val
    dsimp only
    omega

end Cert.Proof.MlpUpDw.Ref

end
-- ==== Proof.MlpUpDw.Equation.lean ====
/- `mlp_up_dw` computes the reference: both runs end with the same array. -/
module

public import proofs.«01_k».proof.Defs
public import proofs.«01_k».proof.Proof.Gen.MlpUpDwIdeal
public import proofs.«01_k».proof.Proof.MlpUpDw.Array
public import proofs.«01_k».proof.Proof.MlpUpDw.Ref

@[expose] public section

noncomputable section

namespace Cert.Proof.MlpUpDw

open Idealize.ShloMosaic Idealize.ShloMosaic.TcCoe Idealize.ShloMosaic.Pointwise Idealize.SL.Sem Idealize.ShloMosaic.StableHlo

/-- The reference's arguments on the device, by row and column. -/
abbrev refArgs (m' : (ℓ : Loc Cert.MlpUpDwRefIdeal.nD Cert.MlpUpDwRefIdeal.τ Cert.MlpUpDwRefIdeal.sig) → Buf (Elt Ideal) ℓ)
    (c : Dev Cert.MlpUpDwRefIdeal.nD) : Args :=
  Ref.args (m' (c.tc.loc Cert.MlpUpDwRefIdeal.main_arg0)) (m' (c.tc.loc Cert.MlpUpDwRefIdeal.main_arg1))

theorem algebraic : Cert.algebraic_MlpUpDwIdeal_MlpUpDwRefIdeal := by
  intro m g m' g' _ hin
  have ha : ∀ c, refArgs m' c = args m c := fun c => by
    obtain ⟨e0, e1⟩ := hin c
    show Ref.args _ _ = _
    rw [e0, e1]
    rfl
  refine ⟨fun c => gDw m c, ?_, ?_⟩
  · refine (θ_run Cert.MlpUpDwIdeal.defs _ _).mono (fun r h c => ?_) (Cert.MlpUpDwIdeal.Value.run_blocks (F := Ideal) m g)
    obtain ⟨h0, hargs⟩ := h c
    exact ⟨h0.trans (final1 m c), hargs⟩
  · refine (θ_run Cert.MlpUpDwRefIdeal.defs _ _).mono (fun r h c => ?_) (Cert.MlpUpDwRefIdeal.Value.run (F := Ideal) m' g')
    obtain ⟨h0, hargs⟩ := h c
    refine ⟨h0.trans ?_, hargs⟩
    · refine (Cert.MlpUpDwRefIdeal.Read.val_main_v21_eq (m' (c.tc.loc Cert.MlpUpDwRefIdeal.main_arg0)) (m' (c.tc.loc Cert.MlpUpDwRefIdeal.main_arg1))).trans ?_
      funext j
      obtain ⟨s, k, n, rfl⟩ := eq_ix3 (a := 8) (b := 1024) (d := 512) j
      refine (Ref.v21 (m' (c.tc.loc Cert.MlpUpDwRefIdeal.main_arg0)) (m' (c.tc.loc Cert.MlpUpDwRefIdeal.main_arg1)) s k n).trans ?_
      show (refArgs m' c).dw k (colAt s n) = (args m c).dw k (colAt s n)
      rw [ha]

end Cert.Proof.MlpUpDw

end
-- ==== Proof.ProjInDx.Block.lean ====
/- One grid point of `proj_in_dx`: what its body leaves in each output's block, as a function of the seven input
   blocks. The row output is a function of the point's blocks alone; the gain's gradient is the point's own sum at the
   first point and that sum added to what the point before left at the others. -/
module

public import proofs.«01_k».proof.Proof.Gen.ProjInDxIdeal.Value

@[expose] public section

set_option maxRecDepth 16384

noncomputable section

namespace Cert.Proof.ProjInDx

open Cert.ProjInDxIdeal Cert.ProjInDxIdeal.Gen Idealize.ShloMosaic Idealize.ShloMosaic.TcCoe Idealize.ShloMosaic.Tactic

variable {F : FTy → Type} [FloatOps F]

/-- The seven input blocks of a point. -/
structure Ins (F : FTy → Type) where
  pa : Vec F S256x1536 .bf16
  pl : Vec F S256x128 .bf16
  pb : Vec F S256x3072 .bf16
  x : Vec F S256x1024 .f32
  res : Vec F S256x1024 .f32
  w : Vec F S8x1024x578 .bf16
  g : Vec F S1x1024 .f32

/-- The first 1552 columns' part of the gradient at the normalised rows, and what the other columns are read from. -/
abbrev bLeft (b : Ins F) : FVec F S256x1024 .f32 := k0_pay6 b.pa b.pl b.w
abbrev bZero : FVec F S256x1024 .f32 := constant S256x1024 .f32 0x00000000#32
/-- The block of the gradient at the normalised rows. -/
abbrev bDh (b : Ins F) : FVec F S256x1024 .f32 :=
  k0_pay9 (k0_pay3 b.pb) (k0_pay4 b.w) (bLeft b) (k0_pay7 b.pb) (k0_pay8 b.w) bZero
/-- The block of the gradient at the rows. -/
def bDx (b : Ins F) : FVec F S256x1024 .f32 :=
  k0_pay1 b.x b.res (k0_pay12 b.x)
    (k0_pay14 (k0_pay3 b.pb) (k0_pay4 b.w) (k0_pay5 b.g) (bLeft b) (k0_pay7 b.pb) (k0_pay8 b.w) bZero)
    (k0_pay15 (k0_pay3 b.pb) b.x (k0_pay4 b.w) (k0_pay5 b.g) (bLeft b) (k0_pay7 b.pb) (k0_pay8 b.w) bZero)
    (k0_pay16 b.x)
/-- The block's part of the gradient of the gain. -/
def bDg (b : Ins F) : FVec F S1x1024 .f32 :=
  k0_pay13 (k0_pay3 b.pb) b.x (k0_pay4 b.w) (bLeft b) (k0_pay7 b.pb) (k0_pay8 b.w) bZero

variable (m : (ℓ : Loc nD τ sig) → Buf (Elt F) ℓ)

/-- The input blocks of point `t`. -/
def ins (c : Dev nD) (t : Fin cfg0.N) : Ins F :=
  ⟨iblk m c 0 t, iblk m c 1 t, iblk m c 2 t, iblk m c 3 t, iblk m c 4 t, iblk m c 5 t, iblk m c 6 t⟩

theorem hz : (![0, 0] : Fin 2 → Nat) = fun _ => 0 := funext fun a => by fin_cases a <;> rfl
theorem hz3 : (![0, 0, 0] : Fin 3 → Nat) = fun _ => 0 := funext fun a => by fin_cases a <;> rfl

section CaseA

/-! The first point: each output's block, from the run's pieces. -/

variable (c : Dev nD) (i : grid0.Coords) (arg1 : Memref sig .tc .vmem S256x1536 .bf16) (harg1 : arg1.IsWhole) (arg2 : Memref sig .tc .vmem S256x128 .bf16) (harg2 : arg2.IsWhole) (arg3 : Memref sig .tc .vmem S256x3072 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024x578 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S1x1024 .f32) (harg9 : arg9.IsWhole) (hc0 : cond0_0 i) (hc1 : ¬cond0_1 i)
    (x0 : Vec F S256x1536 .bf16) (x1 : Vec F S256x128 .bf16) (x2 : Vec F S256x3072 .bf16) (x3 : Vec F S256x1024 .f32) (x4 : Vec F S256x1024 .f32) (x5 : Vec F S8x1024x578 .bf16) (x6 : Vec F S1x1024 .f32)

theorem out_A_7 : out0_A_7 c i arg1 harg1 arg2 harg2 arg3 harg3 arg4 harg4 arg5 harg5 arg6 harg6 arg7 harg7 arg8 harg8 arg9 harg9 hc0 hc1 x0 x1 x2 x3 x4 x5 x6 =
    bDx ⟨x0, x1, x2, x3, x4, x5, x6⟩ := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread,
    View.ld_unit_zero (S := S256x1024) hz, View.ld_unit_zero (S := S256x1536) hz, View.ld_unit_zero (S := S256x128) hz, View.ld_unit_zero (S := S256x3072) hz, View.ld_unit_zero (S := S1x1024) hz, View.ld_unit_zero (S := S8x1024x578) hz3]
  unfold bDx
  rfl

theorem out_A_8 : out0_A_8 c i arg1 harg1 arg2 harg2 arg3 harg3 arg4 harg4 arg5 harg5 arg6 harg6 arg7 harg7 arg8 harg8 arg9 harg9 hc0 hc1 x0 x1 x2 x3 x4 x5 x6 =
    bDg ⟨x0, x1, x2, x3, x4, x5, x6⟩ := by
  unfold out0_A_8
  rw [View.read_writes_eq_canon _ _ _ (cover0_A_8 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread,
    View.ld_unit_zero (S := S256x1024) hz, View.ld_unit_zero (S := S256x1536) hz, View.ld_unit_zero (S := S256x128) hz, View.ld_unit_zero (S := S256x3072) hz, View.ld_unit_zero (S := S1x1024) hz, View.ld_unit_zero (S := S8x1024x578) hz3]
  unfold bDg
  rfl

end CaseA

section CaseB

/-! A later point: each output's block, from the run's pieces. -/

variable (c : Dev nD) (i : grid0.Coords) (arg1 : Memref sig .tc .vmem S256x1536 .bf16) (harg1 : arg1.IsWhole) (arg2 : Memref sig .tc .vmem S256x128 .bf16) (harg2 : arg2.IsWhole) (arg3 : Memref sig .tc .vmem S256x3072 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024x578 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S1x1024 .f32) (harg9 : arg9.IsWhole) (hc0 : ¬cond0_0 i) (hc1 : cond0_1 i)
    (x0 : Vec F S256x1536 .bf16) (x1 : Vec F S256x128 .bf16) (x2 : Vec F S256x3072 .bf16) (x3 : Vec F S256x1024 .f32) (x4 : Vec F S256x1024 .f32) (x5 : Vec F S8x1024x578 .bf16) (x6 : Vec F S1x1024 .f32) (xo8 : Vec F S1x1024 .f32)

theorem out_B_7 : out0_B_7 c i arg1 harg1 arg2 harg2 arg3 harg3 arg4 harg4 arg5 harg5 arg6 harg6 arg7 harg7 arg8 harg8 arg9 harg9 hc0 hc1 x0 x1 x2 x3 x4 x5 x6 xo8 =
    bDx ⟨x0, x1, x2, x3, x4, x5, x6⟩ := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 x0 x1 x2 x3 x4 x5 x6 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread,
    View.ld_unit_zero (S := S256x1024) hz, View.ld_unit_zero (S := S256x1536) hz, View.ld_unit_zero (S := S256x128) hz, View.ld_unit_zero (S := S256x3072) hz, View.ld_unit_zero (S := S1x1024) hz, View.ld_unit_zero (S := S8x1024x578) hz3]
  unfold bDx
  rfl

theorem out_B_8 : out0_B_8 c i arg1 harg1 arg2 harg2 arg3 harg3 arg4 harg4 arg5 harg5 arg6 harg6 arg7 harg7 arg8 harg8 arg9 harg9 hc0 hc1 x0 x1 x2 x3 x4 x5 x6 xo8 =
    k0_pay2 (bDg ⟨x0, x1, x2, x3, x4, x5, x6⟩) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 hc1 x0 x1 x2 x3 x4 x5 x6 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread,
    View.ld_unit_zero (S := S256x1024) hz, View.ld_unit_zero (S := S256x1536) hz, View.ld_unit_zero (S := S256x128) hz, View.ld_unit_zero (S := S256x3072) hz, View.ld_unit_zero (S := S1x1024) hz, View.ld_unit_zero (S := S8x1024x578) hz3]
  unfold bDg
  rfl

end CaseB

/-- What the first point leaves: its own values. -/
theorem outs_first (c : Dev nD) (t : Fin cfg0.N) (h : t.val % 8 = 0) (h1 : ¬1 ≤ t.val) :
    outsAt0 m c t.val t.isLt = (bDx (ins m c t), bDg (ins m c t)) := by
  rw [outsAt0_A m c t h h1, out_A_7, out_A_8]
  rfl

/-- What a later point leaves: its own rows, and its sum added to what the point before left. -/
theorem outs_later (c : Dev nD) (t : Fin cfg0.N) (h : ¬t.val % 8 = 0) (h1 : 1 ≤ t.val) :
    outsAt0 m c t.val t.isLt = (bDx (ins m c t),
      k0_pay2 (bDg (ins m c t)) (outsAt0 m c (t.val - 1) (Nat.lt_of_le_of_lt (Nat.sub_le _ _) t.isLt)).2) := by
  rw [outsAt0_B m c t h h1, out_B_7, out_B_8]
  rfl

end Cert.Proof.ProjInDx

end
-- ==== Proof.ProjInDx.Spec.lean ====
/- What `proj_in_dx` should compute, row by row: the gradient of the projection's normalised input, taken back through
   the row's scale, plus the gradient that reached the residual stream past the mixer. -/
module

public import proofs.«01_k».proof.Proof.RowNorm

@[expose] public section

noncomputable section

namespace Cert.Proof.ProjInDx

open Idealize.ShloMosaic Cert.Proof.RowNorm

/-- One row of the arguments: the gradient of the projection's 4624 outputs, the row, the gradient added at the end;
    and the weight and the gain, the same for every row. -/
@[ext] structure Row where
  p : Fin 4624 → EReal
  x : Fin 1024 → EReal
  res : Fin 1024 → EReal
  w : Fin 1024 → Fin 4624 → EReal
  g : Fin 1024 → EReal

/-- The gradient at the normalised row. -/
def Row.dh (a : Row) (k : Fin 1024) : EReal := ∑ n, a.p n * a.w k n
/-- The row's part of the gain's gradient. -/
def Row.dg (a : Row) (k : Fin 1024) : EReal := a.x k * rs a.x * a.dh k
/-- The gradient at the row. -/
def Row.dx (a : Row) (k : Fin 1024) : EReal :=
  a.dh k * a.g k * rs a.x + a.x k * back a.x (fun l => a.dh l * a.g l) + back a.x (fun l => a.dh l * a.g l) * a.x k + a.res k

/-- The arguments by row and column. -/
structure Args where
  x : Fin 2048 → Fin 1024 → EReal
  g : Fin 1024 → EReal
  w : Fin 1024 → Fin 4624 → EReal
  p : Fin 2048 → Fin 4624 → EReal
  res : Fin 2048 → Fin 1024 → EReal

/-- Row `i` of them. -/
def Args.row (a : Args) (i : Fin 2048) : Row := ⟨a.p i, a.x i, a.res i, a.w, a.g⟩
/-- The gain's gradient. -/
def Args.dg (a : Args) (k : Fin 1024) : EReal := ∑ i, (a.row i).dg k

/-- A sum over `n + m` numbers is the sum over the first `n` and the sum over the `m` after them. -/
theorem sum_after (f : ℕ → EReal) (n m : ℕ) :
    (∑ x ∈ Finset.range n, f x) + ∑ x : Fin m, f (n + x.val) = ∑ x ∈ Finset.range (n + m), f x := by
  rw [Finset.sum_range_add, Fin.sum_univ_eq_sum_range fun x => f (n + x)]

/-- The product at number `n` of a row: zero past the last. -/
def Row.term (a : Row) (k : Fin 1024) (n : ℕ) : EReal := if h : n < 4624 then a.p ⟨n, h⟩ * a.w k ⟨n, h⟩ else 0

theorem Row.term_of_lt (a : Row) (k : Fin 1024) {n : ℕ} (h : n < 4624) : a.term k n = a.p ⟨n, h⟩ * a.w k ⟨n, h⟩ := dif_pos h

theorem Row.dh_eq (a : Row) (k : Fin 1024) : a.dh k = ∑ n ∈ Finset.range 4624, a.term k n := by
  rw [← Fin.sum_univ_eq_sum_range]
  exact Finset.sum_congr rfl fun n _ => (a.term_of_lt k n.isLt).symm

end Cert.Proof.ProjInDx

end
-- ==== Proof.ProjInDx.BlockValue.lean ====
/- A grid point's blocks of `proj_in_dx` at an index: the row functions of the rows of the point's input blocks. -/
module

public import proofs.«01_k».proof.Proof.ProjInDx.Block
public import proofs.«01_k».proof.Proof.ProjInDx.Spec

@[expose] public section

noncomputable section

namespace Cert.Proof.ProjInDx

open Cert.ProjInDxIdeal Cert.ProjInDxIdeal.Gen Idealize.ShloMosaic Idealize.ShloMosaic.Pointwise Cert.Proof.RowNorm

/-- Row `r` of the point's input blocks: the gradient's three column ranges put side by side, and the weight's eight. -/
def rowOf (b : Ins Ideal) (r : Fin 256) : Row where
  p n := if h : n.val < 1536 then b.pa (ix2 r (⟨n.val, h⟩ : Fin 1536))
    else if h' : n.val < 1552 then b.pl (ix2 r (⟨n.val - 1536, by omega⟩ : Fin 128))
    else b.pb (ix2 r (⟨n.val - 1552, by omega⟩ : Fin 3072))
  x k := b.x (ix2 r k)
  res k := b.res (ix2 r k)
  w k n := b.w (ix3 (⟨n.val / 578, by omega⟩ : Fin 8) k (⟨n.val % 578, by omega⟩ : Fin 578))
  g k := b.g (ix2 0 k)

/-- The product at number `n` of a row, where block `j` of the weight has the number at place `p`. -/
theorem term_eq (b : Ins Ideal) (r : Fin 256) (k : Fin 1024) (n : ℕ) (j : Fin 8) (p : Fin 578) (v : EReal)
    (hn : n = j.val * 578 + p.val) (hv : ∀ h, (rowOf b r).p ⟨n, h⟩ = v) :
    v * b.w (ix3 j k p) = (rowOf b r).term k n := by
  have h : n < 4624 := by have := j.isLt; have := p.isLt; omega
  rw [Row.term_of_lt _ _ h, hv]
  refine congrArg (v * b.w ·) (congrArg₂ (fun (a : Fin 8) (d : Fin 578) => ix3 a k d) (Fin.ext ?_) (Fin.ext ?_))
  · show j.val = n / 578; have := p.isLt; omega
  · show p.val = n % 578; have := p.isLt; omega

theorem p_left (b : Ins Ideal) (r : Fin 256) (n : ℕ) (x : Fin 1536) (hn : n = x.val) (h : n < 4624) :
    (rowOf b r).p ⟨n, h⟩ = b.pa (ix2 r x) := by
  subst hn
  exact dif_pos x.isLt
theorem p_low (b : Ins Ideal) (r : Fin 256) (n : ℕ) (x : Fin 128) (hx : x.val < 16) (hn : n = 1536 + x.val) (h : n < 4624) :
    (rowOf b r).p ⟨n, h⟩ = b.pl (ix2 r x) := by
  subst hn
  refine (dif_neg (by dsimp only; omega)).trans ((dif_pos (by dsimp only; omega)).trans ?_)
  exact congrArg (fun y : Fin 128 => b.pl (ix2 r y)) (Fin.ext (by dsimp only; omega))
theorem p_right (b : Ins Ideal) (r : Fin 256) (n : ℕ) (x : Fin 3072) (hn : n = 1552 + x.val) (h : n < 4624) :
    (rowOf b r).p ⟨n, h⟩ = b.pb (ix2 r x) := by
  subst hn
  refine (dif_neg (by dsimp only; omega)).trans ((dif_neg (by dsimp only; omega)).trans ?_)
  exact congrArg (fun y : Fin 3072 => b.pb (ix2 r y)) (Fin.ext (by dsimp only; omega))

/-- The middle range's product: the padding columns are zero. -/
theorem low_sum (b : Ins Ideal) (r : Fin 256) (k : Fin 1024) (hp : ∀ x : Fin 128, 16 ≤ x.val → b.pl (ix2 r x) = 0) :
    (∑ x : Fin 128, b.pl (ix2 r x) * b.w (ix3 2 k (⟨380 + x.val, by omega⟩ : Fin 578)) : EReal)
      = ∑ x : Fin 16, (rowOf b r).term k (1536 + x.val) := by
  refine (Fin.sum_univ_add (a := 16) (b := 112) _).trans ?_
  rw [Finset.sum_eq_zero (f := fun _ : Fin 112 => _), add_zero]
  · exact Finset.sum_congr rfl fun x _ => term_eq b r k _ 2 _ _ (by show 1536 + x.val = 2 * 578 + (380 + x.val); omega)
      (p_low b r _ _ (by show x.val < 16; omega) rfl)
  · intro x _
    rw [hp _ (by show 16 ≤ 16 + x.val; omega), zero_mul]

theorem pay6_apply (b : Ins Ideal) (r : Fin 256) (k : Fin 1024) (hp : ∀ x : Fin 128, 16 ≤ x.val → b.pl (ix2 r x) = 0) :
    k0_pay6 (F := Ideal) b.pa b.pl b.w (ix2 r k) = ∑ n ∈ Finset.range 1552, (rowOf b r).term k n := by
  pointwise [k0_pay6, k0_pay4]
  rw [low_sum b r k hp, ← sum_after _ 1536 16]
  refine congrArg (· + _) ?_
  rw [← sum_after _ 1156 380, ← sum_after _ 578 578, ← Fin.sum_univ_eq_sum_range]
  refine congrArg₂ (· + ·) (congrArg₂ (· + ·) ?_ ?_) ?_
  · exact Finset.sum_congr rfl fun x _ => term_eq b r k _ 0 _ _ (by show x.val = 0 * 578 + x.val; omega) (p_left b r _ _ rfl)
  · exact Finset.sum_congr rfl fun x _ => term_eq b r k _ 1 _ _ (by show 578 + x.val = 1 * 578 + x.val; omega)
      (p_left b r _ _ rfl)
  · exact Finset.sum_congr rfl fun x _ => term_eq b r k _ 2 _ _ (by show 1156 + x.val = 2 * 578 + x.val; omega)
      (p_left b r _ _ rfl)

theorem bDh_apply (b : Ins Ideal) (r : Fin 256) (k : Fin 1024) (hp : ∀ x : Fin 128, 16 ≤ x.val → b.pl (ix2 r x) = 0) :
    bDh b (ix2 r k) = (rowOf b r).dh k := by
  have h6 : bLeft b (ix2 r k) = _ := pay6_apply b r k hp
  pointwise [k0_pay9, k0_pay3, k0_pay4, k0_pay7, k0_pay8]
  rw [h6, Row.dh_eq, ← sum_after _ 4046 578, ← sum_after _ 3468 578, ← sum_after _ 2890 578, ← sum_after _ 2312 578,
    ← sum_after _ 1734 578, ← sum_after _ 1552 182]
  refine congrArg₂ (· + ·) (congrArg₂ (· + ·) (congrArg₂ (· + ·) (congrArg₂ (· + ·) (congrArg₂ (· + ·)
    (congrArg₂ (· + ·) rfl ?_) ?_) ?_) ?_) ?_) ?_
  · exact Finset.sum_congr rfl fun x _ => term_eq b r k _ 2 _ _ (by show 1552 + x.val = 2 * 578 + (396 + x.val); omega)
      (p_right b r _ _ rfl)
  · exact Finset.sum_congr rfl fun x _ => term_eq b r k _ 3 _ _ (by show 1734 + x.val = 3 * 578 + x.val; omega)
      (p_right b r _ _ (by show 1734 + x.val = 1552 + (182 + x.val); omega))
  · exact Finset.sum_congr rfl fun x _ => term_eq b r k _ 4 _ _ (by show 2312 + x.val = 4 * 578 + x.val; omega)
      (p_right b r _ _ (by show 2312 + x.val = 1552 + (760 + x.val); omega))
  · exact Finset.sum_congr rfl fun x _ => term_eq b r k _ 5 _ _ (by show 2890 + x.val = 5 * 578 + x.val; omega)
      (p_right b r _ _ (by show 2890 + x.val = 1552 + (1338 + x.val); omega))
  · exact Finset.sum_congr rfl fun x _ => term_eq b r k _ 6 _ _ (by show 3468 + x.val = 6 * 578 + x.val; omega)
      (p_right b r _ _ (by show 3468 + x.val = 1552 + (1916 + x.val); omega))
  · exact Finset.sum_congr rfl fun x _ => term_eq b r k _ 7 _ _ (by show 4046 + x.val = 7 * 578 + x.val; omega)
      (p_right b r _ _ (by show 4046 + x.val = 1552 + (2494 + x.val); omega))

theorem pay10_apply (b : Ins Ideal) (r : Fin 256) (q : Fin 1) : k0_pay10 (F := Ideal) b.x (ix2 r q) = ms (rowOf b r).x := by
  obtain rfl : q = 0 := Subsingleton.elim _ _
  pointwise [k0_pay10]
  rfl
theorem pay11_apply (b : Ins Ideal) (r : Fin 256) (q : Fin 1) : k0_pay11 (F := Ideal) b.x (ix2 r q) = rs (rowOf b r).x := by
  pointwise [k0_pay11]
  rw [pay10_apply]
  rfl
theorem pay12_apply (b : Ins Ideal) (r : Fin 256) (q : Fin 1) : k0_pay12 (F := Ideal) b.x (ix2 r q)
    = cMinusHalf * Ideal.div (rs (rowOf b r).x) (ms (rowOf b r).x) := by
  pointwise [k0_pay12]
  rw [pay10_apply, pay11_apply]

theorem bDx_apply (b : Ins Ideal) (r : Fin 256) (k : Fin 1024) (hp : ∀ x : Fin 128, 16 ≤ x.val → b.pl (ix2 r x) = 0) :
    bDx b (ix2 r k) = (rowOf b r).dx k := by
  have h := fun l => bDh_apply b r l hp
  unfold bDh at h
  unfold bDx
  pointwise [k0_pay1, k0_pay14, k0_pay15, k0_pay16, k0_pay5]
  simp only [h, pay11_apply, pay12_apply, Fin.sum_univ_one]
  rfl

theorem bDg_apply (b : Ins Ideal) (k : Fin 1024) (hp : ∀ (r : Fin 256) (x : Fin 128), 16 ≤ x.val → b.pl (ix2 r x) = 0) :
    bDg b (ix2 0 k) = ∑ r, (rowOf b r).dg k := by
  have h := fun r l => bDh_apply b r l (hp r)
  unfold bDh at h
  unfold bDg
  pointwise [k0_pay13]
  simp only [h, pay11_apply]
  rfl

end Cert.Proof.ProjInDx

end
-- ==== Proof.ProjInDx.Host.lean ====
/- The arrays the host lines hand to the kernel, at an index: the gradient's three column ranges (the middle one of 16
   columns followed by zeros up to 128), and the weight cut in eight column blocks. -/
module

public import proofs.«01_k».proof.Proof.Gen.ProjInDxIdeal.Frame.Runs
public import proofs.«01_k».proof.Proof.ProjInDx.Spec

@[expose] public section

noncomputable section

namespace Cert.Proof.ProjInDx

open Cert.ProjInDxIdeal Cert.ProjInDxIdeal.Gen Idealize.ShloMosaic Idealize.ShloMosaic.TcCoe
open Idealize.ShloMosaic.StableHlo Idealize.ShloMosaic.Pointwise

variable (m : (ℓ : Loc nD τ sig) → Buf (Elt Ideal) ℓ) (c : Dev nD)

/-- The program's arguments. -/
abbrev aX : S2048x1024.Idx → EReal := m ((c : Thread nD τ).loc main_arg0)
abbrev aG : S1024.Idx → EReal := m ((c : Thread nD τ).loc main_arg1)
abbrev aW : S1024x4624.Idx → EReal := m ((c : Thread nD τ).loc main_arg2)
abbrev aP : S2048x4624.Idx → EReal := m ((c : Thread nD τ).loc main_arg3)
abbrev aRes : S2048x1024.Idx → EReal := m ((c : Thread nD τ).loc main_arg4)

/-- The same by row and column. -/
def args : Args where
  x i k := aX m c (ix2 i k)
  g k := aG m c (ix1 k)
  w k n := aW m c (ix2 k n)
  p i n := aP m c (ix2 i n)
  res i k := aRes m c (ix2 i k)

theorem V3 (i : Fin 2048) (n : Fin 1536) : V m c main_v3 (ix2 i n) = aP m c (ix2 i (⟨n.val, by omega⟩ : Fin 4624)) := by
  unfold V hostOps0 hostOps0_1 hostOps0_2
  simp only [List.flatten_cons, List.flatten_nil, List.append_nil, List.cons_append, List.nil_append]
  after_results
  pointwise
theorem V4 (i : Fin 2048) (n : Fin 128) : V m c main_v4 (ix2 i n)
    = if h : n.val < 16 then aP m c (ix2 i (⟨1536 + n.val, by omega⟩ : Fin 4624)) else 0 := by
  unfold V hostOps0 hostOps0_1 hostOps0_2
  simp only [List.flatten_cons, List.flatten_nil, List.append_nil, List.cons_append, List.nil_append]
  after_results
  simp only [TRef.toBuf, TRef.ofBuf, cast_eq]
  pointwise
  refine dite_congr rfl (fun _ => rfl) fun _ => ?_
  show (((0#32 : BitVec 32).toInt : ℝ) : EReal) = 0
  simp
theorem V6 (i : Fin 2048) (n : Fin 3072) : V m c main_v6 (ix2 i n) = aP m c (ix2 i (⟨1552 + n.val, by omega⟩ : Fin 4624)) := by
  unfold V hostOps0 hostOps0_1 hostOps0_2
  simp only [List.flatten_cons, List.flatten_nil, List.append_nil, List.cons_append, List.nil_append]
  after_results
  pointwise
theorem V9 (j : Fin 8) (k : Fin 1024) (n : Fin 578) : V m c main_v9 (ix3 j k n)
    = aW m c (ix2 k (⟨j.val * 578 + n.val, by omega⟩ : Fin 4624)) := by
  unfold V hostOps0 hostOps0_1 hostOps0_2
  simp only [List.flatten_cons, List.flatten_nil, List.append_nil, List.cons_append, List.nil_append]
  after_results
  pointwise
theorem V10 (k : Fin 1024) : V m c main_v10 (ix2 0 k) = aG m c (ix1 k) := by
  unfold V hostOps0 hostOps0_1 hostOps0_2
  simp only [List.flatten_cons, List.flatten_nil, List.append_nil, List.cons_append, List.nil_append]
  after_results
  pointwise

end Cert.Proof.ProjInDx

end
-- ==== Proof.ProjInDx.Array.lean ====
/- The two result arrays of `proj_in_dx` after its run, as row functions of the arguments: block `t` of the row output
   is rows 256 t to 256 t + 255; the gain's gradient, kept in one block over the eight points, is a sum over all rows. -/
module

public import proofs.«01_k».proof.Proof.ProjInDx.BlockValue
public import proofs.«01_k».proof.Proof.ProjInDx.Host

@[expose] public section

noncomputable section

namespace Cert.Proof.ProjInDx

open Cert.ProjInDxIdeal Cert.ProjInDxIdeal.Gen Cert.ProjInDxIdeal.Value Idealize.ShloMosaic Idealize.ShloMosaic.TcCoe
open Idealize.ShloMosaic.Pointwise

variable (m : (ℓ : Loc nD τ sig) → Buf (Elt Ideal) ℓ) (c : Dev nD)

/-- Row `r` of block `t`. -/
abbrev at256 (t : Fin cfg0.N) (r : Fin 256) : Fin 2048 :=
  ⟨t.val * 256 + r.val, by have : cfg0.N = 8 := N_0; have := t.isLt; omega⟩

/-! ## Where a block lies -/

theorem ixw0 : ∀ t : Fin cfg0.N, win0_0.index t 0 = t.val ∧ win0_0.index t 1 = 0 := (by decide +kernel : ∀ t : Fin grid0.N, _)
theorem ixw1 : ∀ t : Fin cfg0.N, win0_1.index t 0 = t.val ∧ win0_1.index t 1 = 0 := (by decide +kernel : ∀ t : Fin grid0.N, _)
theorem ixw2 : ∀ t : Fin cfg0.N, win0_2.index t 0 = t.val ∧ win0_2.index t 1 = 0 := (by decide +kernel : ∀ t : Fin grid0.N, _)
theorem ixw3 : ∀ t : Fin cfg0.N, win0_3.index t 0 = t.val ∧ win0_3.index t 1 = 0 := (by decide +kernel : ∀ t : Fin grid0.N, _)
theorem ixw4 : ∀ t : Fin cfg0.N, win0_4.index t 0 = t.val ∧ win0_4.index t 1 = 0 := (by decide +kernel : ∀ t : Fin grid0.N, _)
theorem ixw5 : ∀ t : Fin cfg0.N, win0_5.index t 0 = 0 ∧ win0_5.index t 1 = 0 ∧ win0_5.index t 2 = 0 :=
  (by decide +kernel : ∀ t : Fin grid0.N, _)
theorem ixw6 : ∀ t : Fin cfg0.N, win0_6.index t 0 = 0 ∧ win0_6.index t 1 = 0 := (by decide +kernel : ∀ t : Fin grid0.N, _)
theorem ixw7 : ∀ t : Fin cfg0.N, win0_7.index t 0 = t.val ∧ win0_7.index t 1 = 0 := (by decide +kernel : ∀ t : Fin grid0.N, _)
theorem ixw8 : ∀ t : Fin cfg0.N, win0_8.index t 0 = 0 ∧ win0_8.index t 1 = 0 := (by decide +kernel : ∀ t : Fin grid0.N, _)

theorem emb0 (t : Fin cfg0.N) (r : Fin 256) (k : Fin 1536) :
    ((cfg0.win 0).blk t).view.emb (ix2 r k) = ix2 (at256 t r) k := by
  obtain ⟨e0, e1⟩ := ixw0 t
  funext a; apply Fin.ext
  match a with
  | ⟨0, _⟩ => show win0_0.index t 0 * 256 + 1 * r.val = t.val * 256 + r.val; omega
  | ⟨1, _⟩ => show win0_0.index t 1 * 1536 + 1 * k.val = k.val; omega
theorem emb1 (t : Fin cfg0.N) (r : Fin 256) (k : Fin 128) :
    ((cfg0.win 1).blk t).view.emb (ix2 r k) = ix2 (at256 t r) k := by
  obtain ⟨e0, e1⟩ := ixw1 t
  funext a; apply Fin.ext
  match a with
  | ⟨0, _⟩ => show win0_1.index t 0 * 256 + 1 * r.val = t.val * 256 + r.val; omega
  | ⟨1, _⟩ => show win0_1.index t 1 * 128 + 1 * k.val = k.val; omega
theorem emb2 (t : Fin cfg0.N) (r : Fin 256) (k : Fin 3072) :
    ((cfg0.win 2).blk t).view.emb (ix2 r k) = ix2 (at256 t r) k := by
  obtain ⟨e0, e1⟩ := ixw2 t
  funext a; apply Fin.ext
  match a with
  | ⟨0, _⟩ => show win0_2.index t 0 * 256 + 1 * r.val = t.val * 256 + r.val; omega
  | ⟨1, _⟩ => show win0_2.index t 1 * 3072 + 1 * k.val = k.val; omega
theorem emb3 (t : Fin cfg0.N) (r : Fin 256) (k : Fin 1024) :
    ((cfg0.win 3).blk t).view.emb (ix2 r k) = ix2 (at256 t r) k := by
  obtain ⟨e0, e1⟩ := ixw3 t
  funext a; apply Fin.ext
  match a with
  | ⟨0, _⟩ => show win0_3.index t 0 * 256 + 1 * r.val = t.val * 256 + r.val; omega
  | ⟨1, _⟩ => show win0_3.index t 1 * 1024 + 1 * k.val = k.val; omega
theorem emb4 (t : Fin cfg0.N) (r : Fin 256) (k : Fin 1024) :
    ((cfg0.win 4).blk t).view.emb (ix2 r k) = ix2 (at256 t r) k := by
  obtain ⟨e0, e1⟩ := ixw4 t
  funext a; apply Fin.ext
  match a with
  | ⟨0, _⟩ => show win0_4.index t 0 * 256 + 1 * r.val = t.val * 256 + r.val; omega
  | ⟨1, _⟩ => show win0_4.index t 1 * 1024 + 1 * k.val = k.val; omega
theorem emb5 (t : Fin cfg0.N) (j : Fin 8) (k : Fin 1024) (n : Fin 578) :
    ((cfg0.win 5).blk t).view.emb (ix3 j k n) = ix3 j k n := by
  obtain ⟨e0, e1, e2⟩ := ixw5 t
  funext a; apply Fin.ext
  match a with
  | ⟨0, _⟩ => show win0_5.index t 0 * 8 + 1 * j.val = j.val; omega
  | ⟨1, _⟩ => show win0_5.index t 1 * 1024 + 1 * k.val = k.val; omega
  | ⟨2, _⟩ => show win0_5.index t 2 * 578 + 1 * n.val = n.val; omega
theorem emb6 (t : Fin cfg0.N) (q : Fin 1) (k : Fin 1024) : ((cfg0.win 6).blk t).view.emb (ix2 q k) = ix2 q k := by
  obtain ⟨e0, e1⟩ := ixw6 t
  funext a; apply Fin.ext
  match a with
  | ⟨0, _⟩ => show win0_6.index t 0 * 1 + 1 * q.val = q.val; omega
  | ⟨1, _⟩ => show win0_6.index t 1 * 1024 + 1 * k.val = k.val; omega
theorem emb7 (t : Fin cfg0.N) (r : Fin 256) (k : Fin 1024) :
    ((cfg0.win 7).blk t).view.emb (ix2 r k) = ix2 (at256 t r) k := by
  obtain ⟨e0, e1⟩ := ixw7 t
  funext a; apply Fin.ext
  match a with
  | ⟨0, _⟩ => show win0_7.index t 0 * 256 + 1 * r.val = t.val * 256 + r.val; omega
  | ⟨1, _⟩ => show win0_7.index t 1 * 1024 + 1 * k.val = k.val; omega
theorem emb8 (t : Fin cfg0.N) (q : Fin 1) (k : Fin 1024) : ((cfg0.win 8).blk t).view.emb (ix2 q k) = ix2 q k := by
  obtain ⟨e0, e1⟩ := ixw8 t
  funext a; apply Fin.ext
  match a with
  | ⟨0, _⟩ => show win0_8.index t 0 * 1 + 1 * q.val = q.val; omega
  | ⟨1, _⟩ => show win0_8.index t 1 * 1024 + 1 * k.val = k.val; omega

/-! ## A block's row is a row of the arguments -/

theorem ins_pa (t : Fin cfg0.N) (r : Fin 256) (n : Fin 1536) :
    (ins m c t).pa (ix2 r n) = (args m c).p (at256 t r) ⟨n.val, by omega⟩ := by
  show V m c main_v3 (((cfg0.win 0).blk t).view.emb (ix2 r n)) = _
  rw [emb0, V3]; rfl
theorem ins_pl (t : Fin cfg0.N) (r : Fin 256) (n : Fin 128) :
    (ins m c t).pl (ix2 r n) = if h : n.val < 16 then (args m c).p (at256 t r) ⟨1536 + n.val, by omega⟩ else 0 := by
  show V m c main_v4 (((cfg0.win 1).blk t).view.emb (ix2 r n)) = _
  rw [emb1, V4]; rfl
theorem ins_pb (t : Fin cfg0.N) (r : Fin 256) (n : Fin 3072) :
    (ins m c t).pb (ix2 r n) = (args m c).p (at256 t r) ⟨1552 + n.val, by omega⟩ := by
  show V m c main_v6 (((cfg0.win 2).blk t).view.emb (ix2 r n)) = _
  rw [emb2, V6]; rfl
theorem ins_x (t : Fin cfg0.N) (r : Fin 256) (k : Fin 1024) : (ins m c t).x (ix2 r k) = (args m c).x (at256 t r) k := by
  show V m c main_arg0 (((cfg0.win 3).blk t).view.emb (ix2 r k)) = _
  rw [emb3, V_main_arg0]; rfl
theorem ins_res (t : Fin cfg0.N) (r : Fin 256) (k : Fin 1024) : (ins m c t).res (ix2 r k) = (args m c).res (at256 t r) k := by
  show V m c main_arg4 (((cfg0.win 4).blk t).view.emb (ix2 r k)) = _
  rw [emb4, V_main_arg4]; rfl
theorem ins_w (t : Fin cfg0.N) (j : Fin 8) (k : Fin 1024) (n : Fin 578) :
    (ins m c t).w (ix3 j k n) = (args m c).w k ⟨j.val * 578 + n.val, by omega⟩ := by
  show V m c main_v9 (((cfg0.win 5).blk t).view.emb (ix3 j k n)) = _
  rw [emb5, V9]; rfl
theorem ins_g (t : Fin cfg0.N) (q : Fin 1) (k : Fin 1024) : (ins m c t).g (ix2 q k) = (args m c).g k := by
  obtain rfl : q = 0 := Subsingleton.elim _ _
  show V m c main_v10 (((cfg0.win 6).blk t).view.emb (ix2 0 k)) = _
  rw [emb6, V10]; rfl

/-- The padding columns are zero. -/
theorem ins_pad (t : Fin cfg0.N) (r : Fin 256) (x : Fin 128) (h : 16 ≤ x.val) : (ins m c t).pl (ix2 r x) = 0 :=
  (ins_pl m c t r x).trans (dif_neg (by omega))

theorem rowOf_ins (t : Fin cfg0.N) (r : Fin 256) : rowOf (ins m c t) r = (args m c).row (at256 t r) := by
  refine Row.ext ?_ ?_ ?_ ?_ ?_
  · funext n
    show (if h : n.val < 1536 then (ins m c t).pa (ix2 r (⟨n.val, h⟩ : Fin 1536))
      else if h' : n.val < 1552 then (ins m c t).pl (ix2 r (⟨n.val - 1536, by omega⟩ : Fin 128))
      else (ins m c t).pb (ix2 r (⟨n.val - 1552, by omega⟩ : Fin 3072)) : EReal) = (args m c).p (at256 t r) n
    by_cases h : n.val < 1536
    · rw [dif_pos h, ins_pa]
    · rw [dif_neg h]
      by_cases h' : n.val < 1552
      · rw [dif_pos h', ins_pl, dif_pos (by dsimp only; omega)]
        exact congrArg _ (Fin.ext (by dsimp only; omega))
      · rw [dif_neg h', ins_pb]
        exact congrArg _ (Fin.ext (by dsimp only; omega))
  · exact funext fun k => ins_x m c t r k
  · exact funext fun k => ins_res m c t r k
  · funext k n
    refine (ins_w m c t _ k _).trans (congrArg _ (Fin.ext ?_))
    show n.val / 578 * 578 + n.val % 578 = n.val
    omega
  · exact funext fun k => ins_g m c t 0 k

/-! ## The row output -/

/-- The gradient at the rows. -/
def gDx : S2048x1024.Idx → EReal := fun j => ((args m c).row (j 0)).dx (j 1)

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩

/-- Row `i` lies in block `i / 256`. -/
theorem at256_split (i : Fin 2048) : ∃ (t : Fin cfg0.N) (r : Fin 256), at256 t r = i :=
  ⟨⟨i.val / 256, by have : cfg0.N = 8 := N_0; omega⟩, ⟨i.val % 256, by omega⟩,
    Fin.ext (by show i.val / 256 * 256 + i.val % 256 = i.val; omega)⟩

theorem outs7 (t : Fin cfg0.N) : (outsAt0 m c t.val t.isLt).1 = bDx (ins m c t) := by
  have hN : cfg0.N = 8 := N_0
  have := t.isLt
  by_cases h : t.val % 8 = 0
  · rw [outs_first m c t h (by omega)]
  · rw [outs_later m c t h (by omega)]

theorem flushed7_eq (t : Fin cfg0.N) :
    (dats m 0 c).flushed 7 t = ((cfg0.win 7).blk t).view.read (Elt Ideal) (gDx m c) := by
  rw [flushed7, outs7]
  funext j
  obtain ⟨r, k, rfl⟩ := eq_ix2 (a := 256) (b := 1024) j
  show bDx (ins m c t) (ix2 r k) = gDx m c (((cfg0.win 7).blk t).view.emb (ix2 r k))
  rw [emb7, bDx_apply _ _ _ (ins_pad m c t r), rowOf_ins]
  rfl

theorem final7 : (dats m 0 c).arrAt 7 cfg0.N = gDx m c :=
  (dats m 0 c).arrAt_eq_of_cover 7 (gDx m c) (fun t _ => flushed7_eq m c t) fun j => by
    obtain ⟨i, k, rfl⟩ := eq_ix2 (a := 2048) (b := 1024) j
    obtain ⟨t, r, rfl⟩ := at256_split i
    exact ⟨t, flush0_7 t, by have h := ((cfg0.win 7).blk t).view.emb_mem_set (ix2 r k); rwa [emb7] at h⟩

/-! ## The gain's gradient, accumulated over the points -/

/-- It as an array. -/
def gDg : S1x1024.Idx → EReal := fun j => (args m c).dg (j 1)

/-- After point `n` the accumulator holds the sum over the rows of the blocks so far. -/
theorem acc_dg (k : Fin 1024) : ∀ (n : ℕ) (h : n < cfg0.N), (outsAt0 m c n h).2 (ix2 0 k)
      = ∑ t : Fin (n + 1), ∑ r : Fin 256, ((args m c).row (at256 ⟨t.val, by omega⟩ r)).dg k
  | 0, h => by
    rw [outs_first m c ⟨0, h⟩ rfl (by simp), Fin.sum_univ_one]
    show bDg (ins m c ⟨0, h⟩) (ix2 0 k) = _
    rw [bDg_apply _ _ (ins_pad m c _)]; simp only [rowOf_ins]; rfl
  | n + 1, h => by
    have hN : cfg0.N = 8 := N_0
    have ia := acc_dg k n (by omega)
    rw [outs_later m c ⟨n + 1, h⟩ (by dsimp only; omega) (by dsimp only; omega), Fin.sum_univ_castSucc]
    refine Eq.trans (b := (outsAt0 m c n (by omega)).2 (ix2 0 k) + bDg (ins m c ⟨n + 1, h⟩) (ix2 0 k)) ?_ ?_
    · show k0_pay2 (bDg (ins m c ⟨n + 1, h⟩)) (outsAt0 m c n _).2 (ix2 0 k) = _
      pointwise [k0_pay2]
    · rw [ia, bDg_apply _ _ (ins_pad m c _)]; simp only [rowOf_ins]; rfl

theorem flushed8_eq (t : Fin cfg0.N) (hf : (cfg0.win 8).flush t = true) :
    (dats m 0 c).flushed 8 t = ((cfg0.win 8).blk t).view.read (Elt Ideal) (gDg m c) := by
  have hN : cfg0.N = 8 := N_0
  have h7 : t.val = 7 := by have := (flush0_8 t).mp hf; have := t.isLt; omega
  obtain rfl : t = t0_7 := Fin.ext h7
  show (cfg0.win 8).cut (grid0.coords t0_7) ((dats m 0 c).after 8 t0_7) = _
  rw [after0_8]
  funext j
  obtain ⟨q, k, rfl⟩ := eq_ix2 (a := 1) (b := 1024) j
  obtain rfl : q = 0 := Subsingleton.elim _ _
  show (outsAt0 m c 7 t0_7.isLt).2 (ix2 0 k) = gDg m c (((cfg0.win 8).blk t0_7).view.emb (ix2 0 k))
  rw [emb8, acc_dg m c k 7 t0_7.isLt]
  exact (Fin.sum_univ_tiles 8 256 (by norm_num) fun i => ((args m c).row i).dg k).symm

theorem final8 : (dats m 0 c).arrAt 8 cfg0.N = gDg m c :=
  (dats m 0 c).arrAt_eq_of_cover 8 (gDg m c) (flushed8_eq m c) fun j => by
    obtain ⟨q, k, rfl⟩ := eq_ix2 (a := 1) (b := 1024) j
    exact ⟨t0_7, (flush0_8 t0_7).mpr rfl, by
      have h := ((cfg0.win 8).blk t0_7).view.emb_mem_set (ix2 q k); rwa [emb8] at h⟩

end Cert.Proof.ProjInDx

end
-- ==== Proof.ProjInDx.Ref.lean ====
/- What the reference of `proj_in_dx` computes, at an index: the row functions of the arguments' rows. -/
module

public import proofs.«01_k».proof.Proof.ProjInDx.Spec
public import proofs.«01_k».proof.Proof.Gen.ProjInDxRefIdeal.Read

@[expose] public section

noncomputable section

namespace Cert.Proof.ProjInDx.Ref

open Cert.ProjInDxRefIdeal Cert.ProjInDxRefIdeal.Gen Cert.ProjInDxRefIdeal.Read Idealize.ShloMosaic
open Idealize.ShloMosaic.Pointwise Cert.Proof.ProjInDx Cert.Proof.RowNorm

variable (x0 : S2048x1024.Idx → EReal) (x1 : S1024.Idx → EReal) (x2 : S1024x4624.Idx → EReal)
  (x3 : S2048x4624.Idx → EReal) (x4 : S2048x1024.Idx → EReal)

/-- The arguments by row and column. -/
def args : Args where
  x i k := x0 (ix2 i k)
  g k := x1 (ix1 k)
  w k n := x2 (ix2 k n)
  p i n := x3 (ix2 i n)
  res i k := x4 (ix2 i k)

theorem v6 (i : Fin 2048) (q : Fin 1) : val_main_v6 (F := Ideal) x0 (ix2 i q) = ms ((args x0 x1 x2 x3 x4).row i).x := by
  pointwise [val_main_v6, val_main_v5, val_main_v4, val_main_v3, val_main_v2, val_main_v1, val_main_v0, val_main_cst,
    val_main_cst_0, val_main_cst_1]
  rfl

theorem v7 (i : Fin 2048) (q : Fin 1) : val_main_v7 (F := Ideal) x0 (ix2 i q) = rs ((args x0 x1 x2 x3 x4).row i).x := by
  pointwise [val_main_v7]
  rw [v6 x0 x1 x2 x3 x4]
  rfl

theorem v10 (i : Fin 2048) (q : Fin 1) : val_main_v10 (F := Ideal) x0 (ix2 i q)
    = cMinusHalf * Ideal.div (rs ((args x0 x1 x2 x3 x4).row i).x) (ms ((args x0 x1 x2 x3 x4).row i).x) := by
  pointwise [val_main_v10, val_main_v9, val_main_v8, val_main_cst_2]
  rw [v6 x0 x1 x2 x3 x4, v7 x0 x1 x2 x3 x4]

theorem v17 (i : Fin 2048) (k : Fin 1024) :
    val_main_v17 (F := Ideal) x2 x3 (ix2 i k) = ((args x0 x1 x2 x3 x4).row i).dh k := by
  pointwise [val_main_v17]
  rfl

theorem v22 (i : Fin 2048) (k : Fin 1024) :
    val_main_v22 (F := Ideal) x1 x2 x3 (ix2 i k) = ((args x0 x1 x2 x3 x4).row i).dh k * x1 (ix1 k) := by
  pointwise [val_main_v22, val_main_v21, val_main_v13]
  rw [v17 x0 x1 x2 x3 x4]

theorem v33 (i : Fin 2048) (k : Fin 1024) : val_main_v33 (F := Ideal) x0 x1 x2 x3 (ix2 i k)
    = back ((args x0 x1 x2 x3 x4).row i).x fun l => ((args x0 x1 x2 x3 x4).row i).dh l * x1 (ix1 l) := by
  pointwise [val_main_v33, val_main_v32, val_main_v31, val_main_v30, val_main_v29, val_main_v26, val_main_v25,
    val_main_v24, val_main_cst_5, val_main_cst_6, val_main_cst_7]
  simp only [v22 x0 x1 x2 x3 x4, v10 x0 x1 x2 x3 x4, Fin.sum_univ_one]
  rfl

theorem v38 (i : Fin 2048) (k : Fin 1024) :
    val_main_v38 (F := Ideal) x0 x1 x2 x3 x4 (ix2 i k) = ((args x0 x1 x2 x3 x4).row i).dx k := by
  pointwise [val_main_v38, val_main_v37, val_main_v36, val_main_v35, val_main_v34, val_main_v28, val_main_v27]
  simp only [v22 x0 x1 x2 x3 x4, v33 x0 x1 x2 x3 x4, v7 x0 x1 x2 x3 x4]
  rfl

theorem v39 (q : Fin 1) (k : Fin 1024) : val_main_v39 (F := Ideal) x0 x2 x3 (ix2 q k) = (args x0 x1 x2 x3 x4).dg k := by
  pointwise [val_main_v39, val_main_v23, val_main_v20, val_main_v19, val_main_v18, val_main_v12, val_main_v11,
    val_main_cst_3, val_main_cst_4]
  simp only [v17 x0 x1 x2 x3 x4, v7 x0 x1 x2 x3 x4, Fin.sum_univ_one]
  rfl

end Cert.Proof.ProjInDx.Ref

end
-- ==== Proof.ProjInDx.Equation.lean ====
/- `proj_in_dx` computes the reference: both runs end with the same two arrays. -/
module

public import proofs.«01_k».proof.Defs
public import proofs.«01_k».proof.Proof.Gen.ProjInDxIdeal
public import proofs.«01_k».proof.Proof.ProjInDx.Array
public import proofs.«01_k».proof.Proof.ProjInDx.Ref

@[expose] public section

noncomputable section

namespace Cert.Proof.ProjInDx

open Idealize.ShloMosaic Idealize.ShloMosaic.TcCoe Idealize.ShloMosaic.Pointwise Idealize.SL.Sem Idealize.ShloMosaic.StableHlo

/-- The reference's arguments on the device, by row and column. -/
abbrev refArgs (m' : (ℓ : Loc Cert.ProjInDxRefIdeal.nD Cert.ProjInDxRefIdeal.τ Cert.ProjInDxRefIdeal.sig) → Buf (Elt Ideal) ℓ)
    (c : Dev Cert.ProjInDxRefIdeal.nD) : Args :=
  Ref.args (m' (c.tc.loc Cert.ProjInDxRefIdeal.main_arg0)) (m' (c.tc.loc Cert.ProjInDxRefIdeal.main_arg1)) (m' (c.tc.loc Cert.ProjInDxRefIdeal.main_arg2)) (m' (c.tc.loc Cert.ProjInDxRefIdeal.main_arg3)) (m' (c.tc.loc Cert.ProjInDxRefIdeal.main_arg4))

theorem algebraic : Cert.algebraic_ProjInDxIdeal_ProjInDxRefIdeal := by
  intro m g m' g' _ hin
  have ha : ∀ c, refArgs m' c = args m c := fun c => by
    obtain ⟨e0, e1, e2, e3, e4⟩ := hin c
    show Ref.args _ _ _ _ _ = _
    rw [e0, e1, e2, e3, e4]
    rfl
  refine ⟨fun c => gDx m c, fun c => gDg m c, ?_, ?_⟩
  · refine (θ_run Cert.ProjInDxIdeal.defs _ _).mono (fun r h c => ?_) (Cert.ProjInDxIdeal.Value.run_blocks (F := Ideal) m g)
    obtain ⟨h0, h1, hargs⟩ := h c
    exact ⟨h0.trans (final7 m c), h1.trans (final8 m c), hargs⟩
  · refine (θ_run Cert.ProjInDxRefIdeal.defs _ _).mono (fun r h c => ?_) (Cert.ProjInDxRefIdeal.Value.run (F := Ideal) m' g')
    obtain ⟨h0, h1, hargs⟩ := h c
    refine ⟨h0.trans ?_, h1.trans ?_, hargs⟩
    · refine (Cert.ProjInDxRefIdeal.Read.val_main_v38_eq m' c).trans ?_
      funext j
      obtain ⟨i, k, rfl⟩ := eq_ix2 (a := 2048) (b := 1024) j
      refine (Ref.v38 (m' (c.tc.loc Cert.ProjInDxRefIdeal.main_arg0)) (m' (c.tc.loc Cert.ProjInDxRefIdeal.main_arg1)) (m' (c.tc.loc Cert.ProjInDxRefIdeal.main_arg2)) (m' (c.tc.loc Cert.ProjInDxRefIdeal.main_arg3)) (m' (c.tc.loc Cert.ProjInDxRefIdeal.main_arg4)) i k).trans ?_
      show ((refArgs m' c).row i).dx k = ((args m c).row i).dx k
      rw [ha]
    · refine (Cert.ProjInDxRefIdeal.Read.val_main_v39_eq (m' (c.tc.loc Cert.ProjInDxRefIdeal.main_arg0)) (m' (c.tc.loc Cert.ProjInDxRefIdeal.main_arg2)) (m' (c.tc.loc Cert.ProjInDxRefIdeal.main_arg3))).trans ?_
      funext j
      obtain ⟨i, k, rfl⟩ := eq_ix2 (a := 1) (b := 1024) j
      refine (Ref.v39 (m' (c.tc.loc Cert.ProjInDxRefIdeal.main_arg0)) (m' (c.tc.loc Cert.ProjInDxRefIdeal.main_arg1)) (m' (c.tc.loc Cert.ProjInDxRefIdeal.main_arg2)) (m' (c.tc.loc Cert.ProjInDxRefIdeal.main_arg3)) (m' (c.tc.loc Cert.ProjInDxRefIdeal.main_arg4)) i k).trans ?_
      show (refArgs m' c).dg k = (args m c).dg k
      rw [ha]

end Cert.Proof.ProjInDx

end
-- ==== Proof.MixDw.Array.lean ====
/- The three arrays `mix_dw` leaves: each the product of one activation, transposed, with one gradient — at row `k`,
   column `n`, the sum over the 2048 tokens of the activation's entry `k` times the gradient's entry `n`. -/
module

public import proofs.«01_k».proof.Proof.Gen.MixDwIdeal.Value
public import Idealize.ShloMosaic.Lib.Pointwise

@[expose] public section

noncomputable section

namespace Cert.Proof.MixDw

open Cert.MixDwIdeal Cert.MixDwIdeal.Gen Cert.MixDwIdeal.Value Idealize.ShloMosaic Idealize.ShloMosaic.TcCoe
open Idealize.ShloMosaic.StableHlo Idealize.ShloMosaic.Pointwise

/-- The gradient of the weight of a product, from the product's left operand and the gradient at the product. -/
def wgrad {d : ℕ} (a : (⟨2, ![2048, d]⟩ : Shape).Idx → EReal) (ct : (⟨2, ![2048, 1024]⟩ : Shape).Idx → EReal) :
    (⟨2, ![d, 1024]⟩ : Shape).Idx → EReal := fun j => ∑ i : Fin 2048, a (ix2 i (j 0)) * ct (ix2 i (j 1))

theorem wgrad_apply {d : ℕ} (a : (⟨2, ![2048, d]⟩ : Shape).Idx → EReal) (ct : (⟨2, ![2048, 1024]⟩ : Shape).Idx → EReal)
    (k : Fin d) (n : Fin 1024) : wgrad a ct (ix2 k n) = ∑ i : Fin 2048, a (ix2 i k) * ct (ix2 i n) := rfl

variable (m : (ℓ : Loc nD τ sig) → Buf (Elt Ideal) ℓ) (c : Dev nD)

/-- The program's arguments: the merged branches, the two branches' activations, and the gradients at the three
    products. -/
abbrev aMerged : S2048x1024.Idx → EReal := m ((c : Thread nD τ).loc main_arg0)
abbrev aYaIn : S2048x512.Idx → EReal := m ((c : Thread nD τ).loc main_arg1)
abbrev aHb : S2048x512.Idx → EReal := m ((c : Thread nD τ).loc main_arg2)
abbrev aDz : S2048x1024.Idx → EReal := m ((c : Thread nD τ).loc main_arg3)
abbrev aDya : S2048x1024.Idx → EReal := m ((c : Thread nD τ).loc main_arg4)
abbrev aDyb : S2048x1024.Idx → EReal := m ((c : Thread nD τ).loc main_arg5)

/-! ## What the host hands over: the arguments, cast -/

theorem V0 (i : Fin 2048) (n : Fin 1024) : V m c main_v0 (ix2 i n) = aMerged m c (ix2 i n) := by
  unfold V hostOps0
  after_results
  rfl
theorem V1 (i : Fin 2048) (n : Fin 1024) : V m c main_v1 (ix2 i n) = aDz m c (ix2 i n) := by
  unfold V hostOps0
  after_results
  rfl
theorem V2 (i : Fin 2048) (n : Fin 512) : V m c main_v2 (ix2 i n) = aYaIn m c (ix2 i n) := by
  unfold V hostOps0
  after_results
  rfl
theorem V3 (i : Fin 2048) (n : Fin 1024) : V m c main_v3 (ix2 i n) = aDya m c (ix2 i n) := by
  unfold V hostOps0
  after_results
  rfl
theorem V4 (i : Fin 2048) (n : Fin 512) : V m c main_v4 (ix2 i n) = aHb m c (ix2 i n) := by
  unfold V hostOps0
  after_results
  rfl
theorem V5 (i : Fin 2048) (n : Fin 1024) : V m c main_v5 (ix2 i n) = aDyb m c (ix2 i n) := by
  unfold V hostOps0
  after_results
  rfl

/-! ## Where a block lies: every block is its whole array -/

theorem ixw0 : ∀ t : Fin cfg0.N, win0_0.index t 0 = 0 ∧ win0_0.index t 1 = 0 := (by decide +kernel : ∀ t : Fin grid0.N, _)
theorem emb0 (t : Fin cfg0.N) (i : Fin 2048) (k : Fin 1024) : ((cfg0.win 0).blk t).view.emb (ix2 i k) = ix2 i k := by
  obtain ⟨e0, e1⟩ := ixw0 t
  funext a; apply Fin.ext
  match a with
  | ⟨0, _⟩ => show win0_0.index t 0 * 2048 + 1 * i.val = i.val; omega
  | ⟨1, _⟩ => show win0_0.index t 1 * 1024 + 1 * k.val = k.val; omega
theorem ixw1 : ∀ t : Fin cfg0.N, win0_1.index t 0 = 0 ∧ win0_1.index t 1 = 0 := (by decide +kernel : ∀ t : Fin grid0.N, _)
theorem emb1 (t : Fin cfg0.N) (i : Fin 2048) (k : Fin 1024) : ((cfg0.win 1).blk t).view.emb (ix2 i k) = ix2 i k := by
  obtain ⟨e0, e1⟩ := ixw1 t
  funext a; apply Fin.ext
  match a with
  | ⟨0, _⟩ => show win0_1.index t 0 * 2048 + 1 * i.val = i.val; omega
  | ⟨1, _⟩ => show win0_1.index t 1 * 1024 + 1 * k.val = k.val; omega
theorem ixw2 : ∀ t : Fin cfg0.N, win0_2.index t 0 = 0 ∧ win0_2.index t 1 = 0 := (by decide +kernel : ∀ t : Fin grid0.N, _)
theorem emb2 (t : Fin cfg0.N) (i : Fin 2048) (k : Fin 512) : ((cfg0.win 2).blk t).view.emb (ix2 i k) = ix2 i k := by
  obtain ⟨e0, e1⟩ := ixw2 t
  funext a; apply Fin.ext
  match a with
  | ⟨0, _⟩ => show win0_2.index t 0 * 2048 + 1 * i.val = i.val; omega
  | ⟨1, _⟩ => show win0_2.index t 1 * 512 + 1 * k.val = k.val; omega
theorem ixw3 : ∀ t : Fin cfg0.N, win0_3.index t 0 = 0 ∧ win0_3.index t 1 = 0 := (by decide +kernel : ∀ t : Fin grid0.N, _)
theorem emb3 (t : Fin cfg0.N) (i : Fin 2048) (k : Fin 1024) : ((cfg0.win 3).blk t).view.emb (ix2 i k) = ix2 i k := by
  obtain ⟨e0, e1⟩ := ixw3 t
  funext a; apply Fin.ext
  match a with
  | ⟨0, _⟩ => show win0_3.index t 0 * 2048 + 1 * i.val = i.val; omega
  | ⟨1, _⟩ => show win0_3.index t 1 * 1024 + 1 * k.val = k.val; omega
theorem ixw4 : ∀ t : Fin cfg0.N, win0_4.index t 0 = 0 ∧ win0_4.index t 1 = 0 := (by decide +kernel : ∀ t : Fin grid0.N, _)
theorem emb4 (t : Fin cfg0.N) (i : Fin 2048) (k : Fin 512) : ((cfg0.win 4).blk t).view.emb (ix2 i k) = ix2 i k := by
  obtain ⟨e0, e1⟩ := ixw4 t
  funext a; apply Fin.ext
  match a with
  | ⟨0, _⟩ => show win0_4.index t 0 * 2048 + 1 * i.val = i.val; omega
  | ⟨1, _⟩ => show win0_4.index t 1 * 512 + 1 * k.val = k.val; omega
theorem ixw5 : ∀ t : Fin cfg0.N, win0_5.index t 0 = 0 ∧ win0_5.index t 1 = 0 := (by decide +kernel : ∀ t : Fin grid0.N, _)
theorem emb5 (t : Fin cfg0.N) (i : Fin 2048) (k : Fin 1024) : ((cfg0.win 5).blk t).view.emb (ix2 i k) = ix2 i k := by
  obtain ⟨e0, e1⟩ := ixw5 t
  funext a; apply Fin.ext
  match a with
  | ⟨0, _⟩ => show win0_5.index t 0 * 2048 + 1 * i.val = i.val; omega
  | ⟨1, _⟩ => show win0_5.index t 1 * 1024 + 1 * k.val = k.val; omega
theorem ixw6 : ∀ t : Fin cfg0.N, win0_6.index t 0 = 0 ∧ win0_6.index t 1 = 0 := (by decide +kernel : ∀ t : Fin grid0.N, _)
theorem emb6 (t : Fin cfg0.N) (i : Fin 1024) (k : Fin 1024) : ((cfg0.win 6).blk t).view.emb (ix2 i k) = ix2 i k := by
  obtain ⟨e0, e1⟩ := ixw6 t
  funext a; apply Fin.ext
  match a with
  | ⟨0, _⟩ => show win0_6.index t 0 * 1024 + 1 * i.val = i.val; omega
  | ⟨1, _⟩ => show win0_6.index t 1 * 1024 + 1 * k.val = k.val; omega
theorem ixw7 : ∀ t : Fin cfg0.N, win0_7.index t 0 = 0 ∧ win0_7.index t 1 = 0 := (by decide +kernel : ∀ t : Fin grid0.N, _)
theorem emb7 (t : Fin cfg0.N) (i : Fin 512) (k : Fin 1024) : ((cfg0.win 7).blk t).view.emb (ix2 i k) = ix2 i k := by
  obtain ⟨e0, e1⟩ := ixw7 t
  funext a; apply Fin.ext
  match a with
  | ⟨0, _⟩ => show win0_7.index t 0 * 512 + 1 * i.val = i.val; omega
  | ⟨1, _⟩ => show win0_7.index t 1 * 1024 + 1 * k.val = k.val; omega
theorem ixw8 : ∀ t : Fin cfg0.N, win0_8.index t 0 = 0 ∧ win0_8.index t 1 = 0 := (by decide +kernel : ∀ t : Fin grid0.N, _)
theorem emb8 (t : Fin cfg0.N) (i : Fin 512) (k : Fin 1024) : ((cfg0.win 8).blk t).view.emb (ix2 i k) = ix2 i k := by
  obtain ⟨e0, e1⟩ := ixw8 t
  funext a; apply Fin.ext
  match a with
  | ⟨0, _⟩ => show win0_8.index t 0 * 512 + 1 * i.val = i.val; omega
  | ⟨1, _⟩ => show win0_8.index t 1 * 1024 + 1 * k.val = k.val; omega

theorem hz : (![0, 0] : Fin 2 → Nat) = fun _ => 0 := funext fun a => by fin_cases a <;> rfl

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩

/-! ## The three products -/

theorem in0 (t : Fin cfg0.N) (i : Fin 2048) (n : Fin 1024) : iblk m c 0 t (ix2 i n) = aMerged m c (ix2 i n) := by
  show V m c main_v0 (((cfg0.win 0).blk t).view.emb (ix2 i n)) = _
  rw [emb0, V0]
theorem in1 (t : Fin cfg0.N) (i : Fin 2048) (n : Fin 1024) : iblk m c 1 t (ix2 i n) = aDz m c (ix2 i n) := by
  show V m c main_v1 (((cfg0.win 1).blk t).view.emb (ix2 i n)) = _
  rw [emb1, V1]
theorem in2 (t : Fin cfg0.N) (i : Fin 2048) (n : Fin 512) : iblk m c 2 t (ix2 i n) = aYaIn m c (ix2 i n) := by
  show V m c main_v2 (((cfg0.win 2).blk t).view.emb (ix2 i n)) = _
  rw [emb2, V2]
theorem in3 (t : Fin cfg0.N) (i : Fin 2048) (n : Fin 1024) : iblk m c 3 t (ix2 i n) = aDya m c (ix2 i n) := by
  show V m c main_v3 (((cfg0.win 3).blk t).view.emb (ix2 i n)) = _
  rw [emb3, V3]
theorem in4 (t : Fin cfg0.N) (i : Fin 2048) (n : Fin 512) : iblk m c 4 t (ix2 i n) = aHb m c (ix2 i n) := by
  show V m c main_v4 (((cfg0.win 4).blk t).view.emb (ix2 i n)) = _
  rw [emb4, V4]
theorem in5 (t : Fin cfg0.N) (i : Fin 2048) (n : Fin 1024) : iblk m c 5 t (ix2 i n) = aDyb m c (ix2 i n) := by
  show V m c main_v5 (((cfg0.win 5).blk t).view.emb (ix2 i n)) = _
  rw [emb5, V5]

theorem out6_eq (x0 x1 : Vec Ideal S2048x1024 .bf16) (x2 : Vec Ideal S2048x512 .bf16) (x3 : Vec Ideal S2048x1024 .bf16)
    (x4 : Vec Ideal S2048x512 .bf16) (x5 : Vec Ideal S2048x1024 .bf16) : out0_6 x0 x1 x2 x3 x4 x5 = k0_pay1 x0 x1 := by
  unfold out0_6
  rw [View.canon_unit_zero hz]
  simp only [View.ld_unit_zero (S := S2048x1024) hz]

theorem product6 (x : Vec Ideal S2048x1024 .bf16) (y : Vec Ideal S2048x1024 .bf16) (r : Fin 1024) (k : Fin 1024) :
    k0_pay1 x y (ix2 r k) = ∑ i : Fin 2048, (x (ix2 i r) : EReal) * y (ix2 i k) := by
  pointwise [k0_pay1]

theorem flushed6_eq (t : Fin cfg0.N) :
    (dats m 0 c).flushed 6 t = ((cfg0.win 6).blk t).view.read (Elt Ideal) (wgrad (aMerged m c) (aDz m c)) := by
  show (cfg0.win 6).cut (grid0.coords t) ((dats m 0 c).after 6 t) = _
  rw [after0_6, out6_eq]
  funext j
  obtain ⟨r, k, rfl⟩ := eq_ix2 (a := 1024) (b := 1024) j
  show k0_pay1 (iblk m c 0 t) (iblk m c 1 t) (ix2 r k) = wgrad _ _ (((cfg0.win 6).blk t).view.emb (ix2 r k))
  rw [emb6, product6]
  simp only [in0, in1]
  rfl

theorem final6 : (dats m 0 c).arrAt 6 cfg0.N = wgrad (aMerged m c) (aDz m c) :=
  (dats m 0 c).arrAt_eq_of_cover 6 _ (fun t _ => flushed6_eq m c t) fun j => by
    have hN : cfg0.N = 1 := N_0
    obtain ⟨r, k, rfl⟩ := eq_ix2 (a := 1024) (b := 1024) j
    let t : Fin cfg0.N := ⟨0, by omega⟩
    exact ⟨t, flush0_6 t, by have h := ((cfg0.win 6).blk t).view.emb_mem_set (ix2 r k); rwa [emb6] at h⟩

theorem out7_eq (x0 x1 : Vec Ideal S2048x1024 .bf16) (x2 : Vec Ideal S2048x512 .bf16) (x3 : Vec Ideal S2048x1024 .bf16)
    (x4 : Vec Ideal S2048x512 .bf16) (x5 : Vec Ideal S2048x1024 .bf16) : out0_7 x0 x1 x2 x3 x4 x5 = k0_pay2 x2 x3 := by
  unfold out0_7
  rw [View.canon_unit_zero hz]
  simp only [View.ld_unit_zero (S := S2048x512) hz, View.ld_unit_zero (S := S2048x1024) hz]

theorem product7 (x : Vec Ideal S2048x512 .bf16) (y : Vec Ideal S2048x1024 .bf16) (r : Fin 512) (k : Fin 1024) :
    k0_pay2 x y (ix2 r k) = ∑ i : Fin 2048, (x (ix2 i r) : EReal) * y (ix2 i k) := by
  pointwise [k0_pay2]

theorem flushed7_eq (t : Fin cfg0.N) :
    (dats m 0 c).flushed 7 t = ((cfg0.win 7).blk t).view.read (Elt Ideal) (wgrad (aYaIn m c) (aDya m c)) := by
  show (cfg0.win 7).cut (grid0.coords t) ((dats m 0 c).after 7 t) = _
  rw [after0_7, out7_eq]
  funext j
  obtain ⟨r, k, rfl⟩ := eq_ix2 (a := 512) (b := 1024) j
  show k0_pay2 (iblk m c 2 t) (iblk m c 3 t) (ix2 r k) = wgrad _ _ (((cfg0.win 7).blk t).view.emb (ix2 r k))
  rw [emb7, product7]
  simp only [in2, in3]
  rfl

theorem final7 : (dats m 0 c).arrAt 7 cfg0.N = wgrad (aYaIn m c) (aDya m c) :=
  (dats m 0 c).arrAt_eq_of_cover 7 _ (fun t _ => flushed7_eq m c t) fun j => by
    have hN : cfg0.N = 1 := N_0
    obtain ⟨r, k, rfl⟩ := eq_ix2 (a := 512) (b := 1024) j
    let t : Fin cfg0.N := ⟨0, by omega⟩
    exact ⟨t, flush0_7 t, by have h := ((cfg0.win 7).blk t).view.emb_mem_set (ix2 r k); rwa [emb7] at h⟩

theorem out8_eq (x0 x1 : Vec Ideal S2048x1024 .bf16) (x2 : Vec Ideal S2048x512 .bf16) (x3 : Vec Ideal S2048x1024 .bf16)
    (x4 : Vec Ideal S2048x512 .bf16) (x5 : Vec Ideal S2048x1024 .bf16) : out0_8 x0 x1 x2 x3 x4 x5 = k0_pay3 x4 x5 := by
  unfold out0_8
  rw [View.canon_unit_zero hz]
  simp only [View.ld_unit_zero (S := S2048x512) hz, View.ld_unit_zero (S := S2048x1024) hz]

theorem product8 (x : Vec Ideal S2048x512 .bf16) (y : Vec Ideal S2048x1024 .bf16) (r : Fin 512) (k : Fin 1024) :
    k0_pay3 x y (ix2 r k) = ∑ i : Fin 2048, (x (ix2 i r) : EReal) * y (ix2 i k) := by
  pointwise [k0_pay3]

theorem flushed8_eq (t : Fin cfg0.N) :
    (dats m 0 c).flushed 8 t = ((cfg0.win 8).blk t).view.read (Elt Ideal) (wgrad (aHb m c) (aDyb m c)) := by
  show (cfg0.win 8).cut (grid0.coords t) ((dats m 0 c).after 8 t) = _
  rw [after0_8, out8_eq]
  funext j
  obtain ⟨r, k, rfl⟩ := eq_ix2 (a := 512) (b := 1024) j
  show k0_pay3 (iblk m c 4 t) (iblk m c 5 t) (ix2 r k) = wgrad _ _ (((cfg0.win 8).blk t).view.emb (ix2 r k))
  rw [emb8, product8]
  simp only [in4, in5]
  rfl

theorem final8 : (dats m 0 c).arrAt 8 cfg0.N = wgrad (aHb m c) (aDyb m c) :=
  (dats m 0 c).arrAt_eq_of_cover 8 _ (fun t _ => flushed8_eq m c t) fun j => by
    have hN : cfg0.N = 1 := N_0
    obtain ⟨r, k, rfl⟩ := eq_ix2 (a := 512) (b := 1024) j
    let t : Fin cfg0.N := ⟨0, by omega⟩
    exact ⟨t, flush0_8 t, by have h := ((cfg0.win 8).blk t).view.emb_mem_set (ix2 r k); rwa [emb8] at h⟩

end Cert.Proof.MixDw

end
-- ==== Proof.MixDw.Ref.lean ====
/- What the reference of `mix_dw` computes, at an index. -/
module

public import proofs.«01_k».proof.Proof.Gen.MixDwRefIdeal.Read
public import proofs.«01_k».proof.Proof.MixDw.Array

@[expose] public section

noncomputable section

namespace Cert.Proof.MixDw.Ref

open Cert.MixDwRefIdeal Cert.MixDwRefIdeal.Gen Cert.MixDwRefIdeal.Read Idealize.ShloMosaic
open Idealize.ShloMosaic.Pointwise Cert.Proof.MixDw

theorem v4 (x : S2048x1024.Idx → EReal) (ct : S2048x1024.Idx → EReal) (k : Fin 1024) (n : Fin 1024) :
    val_main_v4 (F := Ideal) x ct (ix2 k n) = wgrad x ct (ix2 k n) := by
  rw [wgrad_apply]
  pointwise [val_main_v4, val_main_v3, val_main_v2]
  exact Finset.sum_congr rfl fun i _ => mul_comm _ _

theorem v9 (x : S2048x512.Idx → EReal) (ct : S2048x1024.Idx → EReal) (k : Fin 512) (n : Fin 1024) :
    val_main_v9 (F := Ideal) x ct (ix2 k n) = wgrad x ct (ix2 k n) := by
  rw [wgrad_apply]
  pointwise [val_main_v9, val_main_v8, val_main_v7]
  exact Finset.sum_congr rfl fun i _ => mul_comm _ _

theorem v14 (x : S2048x512.Idx → EReal) (ct : S2048x1024.Idx → EReal) (k : Fin 512) (n : Fin 1024) :
    val_main_v14 (F := Ideal) x ct (ix2 k n) = wgrad x ct (ix2 k n) := by
  rw [wgrad_apply]
  pointwise [val_main_v14, val_main_v13, val_main_v12]
  exact Finset.sum_congr rfl fun i _ => mul_comm _ _

end Cert.Proof.MixDw.Ref

end
-- ==== Proof.MixDw.Equation.lean ====
/- `mix_dw` computes the reference: both runs end with the same three arrays. -/
module

public import proofs.«01_k».proof.Defs
public import proofs.«01_k».proof.Proof.Gen.MixDwIdeal
public import proofs.«01_k».proof.Proof.MixDw.Array
public import proofs.«01_k».proof.Proof.MixDw.Ref

@[expose] public section

noncomputable section

namespace Cert.Proof.MixDw

open Idealize.ShloMosaic Idealize.ShloMosaic.TcCoe Idealize.ShloMosaic.Pointwise Idealize.SL.Sem Idealize.ShloMosaic.StableHlo

theorem algebraic : Cert.algebraic_MixDwIdeal_MixDwRefIdeal := by
  intro m g m' g' _ hin
  refine ⟨fun c => wgrad (aMerged m c) (aDz m c), fun c => wgrad (aYaIn m c) (aDya m c),
    fun c => wgrad (aHb m c) (aDyb m c), ?_, ?_⟩
  · refine (θ_run Cert.MixDwIdeal.defs _ _).mono (fun r h c => ?_) (Cert.MixDwIdeal.Value.run_blocks (F := Ideal) m g)
    obtain ⟨h0, h1, h2, hargs⟩ := h c
    exact ⟨h0.trans (final6 m c), h1.trans (final7 m c), h2.trans (final8 m c), hargs⟩
  · refine (θ_run Cert.MixDwRefIdeal.defs _ _).mono (fun r h c => ?_) (Cert.MixDwRefIdeal.Value.run (F := Ideal) m' g')
    obtain ⟨h0, h1, h2, hargs⟩ := h c
    obtain ⟨e0, e1, e2, e3, e4, e5⟩ := hin c
    refine ⟨h0.trans ?_, h1.trans ?_, h2.trans ?_, hargs⟩
    · refine (Cert.MixDwRefIdeal.Read.val_main_v4_eq (m' (c.tc.loc Cert.MixDwRefIdeal.main_arg0)) (m' (c.tc.loc Cert.MixDwRefIdeal.main_arg3))).trans ?_
      funext j
      obtain ⟨k, n, rfl⟩ := eq_ix2 (a := 1024) (b := 1024) j
      exact (Ref.v4 _ _ k n).trans (congrFun (congrArg₂ wgrad e0 e3) _)
    · refine (Cert.MixDwRefIdeal.Read.val_main_v9_eq (m' (c.tc.loc Cert.MixDwRefIdeal.main_arg1)) (m' (c.tc.loc Cert.MixDwRefIdeal.main_arg4))).trans ?_
      funext j
      obtain ⟨k, n, rfl⟩ := eq_ix2 (a := 512) (b := 1024) j
      exact (Ref.v9 _ _ k n).trans (congrFun (congrArg₂ wgrad e1 e4) _)
    · refine (Cert.MixDwRefIdeal.Read.val_main_v14_eq (m' (c.tc.loc Cert.MixDwRefIdeal.main_arg2)) (m' (c.tc.loc Cert.MixDwRefIdeal.main_arg5))).trans ?_
      funext j
      obtain ⟨k, n, rfl⟩ := eq_ix2 (a := 512) (b := 1024) j
      exact (Ref.v14 _ _ k n).trans (congrFun (congrArg₂ wgrad e2 e5) _)

end Cert.Proof.MixDw

end
-- ==== Proof.ProjIn.Spec.lean ====
/- What `proj_in` should compute, row by row: the 4624 numbers of the input projection, and from the sixteen of them that
   code the forget gates the log decay of each of the 256 key columns. -/
module

public import proofs.«01_k».proof.Proof.Scalars

@[expose] public section

noncomputable section

namespace Cert.Proof.ProjIn

open Idealize.ShloMosaic Cert.Proof.Scalars

/-- The logarithm of the sigmoid: the smaller of the value and zero, less the correction that is small far from zero. -/
def logSigmoid (x : EReal) : EReal := min x 0 - Ideal.log (1 + Ideal.exp (-max x (-x)))

/-- The word's value: one sixteenth. -/
abbrev cSixteenth : EReal := Ideal.ofBits FTy.f32 1031798784#32
/-- The word's value: sixteen. -/
abbrev cSixteen : EReal := Ideal.ofBits FTy.f32 1098907648#32

/-- One row of the normalised input, and the three weights, the same for every row. -/
@[ext] structure Row where
  h : Fin 1024 → EReal
  w : Fin 1024 → Fin 4624 → EReal
  wa : Fin 16 → Fin 256 → EReal
  b : Fin 256 → EReal

/-- The projection's number `n`. -/
def Row.proj (a : Row) (n : Fin 4624) : EReal := ∑ k, a.h k * a.w k n
/-- The gate's code. -/
def Row.low (a : Row) (e : Fin 16) : EReal := a.proj ⟨1536 + e.val, by omega⟩
/-- The forget gate before its sigmoid. -/
def Row.gate (a : Row) (c : Fin 256) : EReal := (∑ e, a.low e * a.wa e c) + a.b c
/-- The log decay: a sixteenth of the logarithm of the forget gate. -/
def Row.decay (a : Row) (c : Fin 256) : EReal := logSigmoid (a.gate c) * cSixteenth

/-- The arguments by row and column. -/
structure Args where
  h : Fin 2048 → Fin 1024 → EReal
  w : Fin 1024 → Fin 4624 → EReal
  wa : Fin 16 → Fin 256 → EReal
  b : Fin 256 → EReal

/-- Row `i` of them. -/
def Args.row (a : Args) (i : Fin 2048) : Row := ⟨a.h i, a.w, a.wa, a.b⟩

/-- `d` columns of the projection from column `o` on, for every row. -/
def Args.cols (a : Args) (o d : ℕ) (h : o + d ≤ 4624) : (⟨2, ![2048, d]⟩ : Shape).Idx → EReal :=
  fun j => (a.row (j 0)).proj ⟨o + (j 1).val, by have : (j 1).val < d := (j 1).isLt; omega⟩
/-- The same for 256 columns, head by head: four heads of sixty-four columns. -/
def Args.heads (a : Args) (o : ℕ) (h : o + 256 ≤ 4624) : (⟨3, ![4, 2048, 64]⟩ : Shape).Idx → EReal :=
  fun j => (a.row (j 1)).proj
    ⟨o + ((j 0).val * 64 + (j 2).val), by have : (j 0).val < 4 := (j 0).isLt; have : (j 2).val < 64 := (j 2).isLt; omega⟩
/-- The gate's code with zeros to 128 columns. -/
def Args.code (a : Args) : (⟨2, ![2048, 128]⟩ : Shape).Idx → EReal :=
  fun j => if h : (j 1).val < 16 then (a.row (j 0)).low ⟨(j 1).val, h⟩ else 0
/-- The log decay head by head. -/
def Args.decays (a : Args) : (⟨3, ![4, 2048, 64]⟩ : Shape).Idx → EReal :=
  fun j => (a.row (j 1)).decay
    ⟨(j 0).val * 64 + (j 2).val, by have : (j 0).val < 4 := (j 0).isLt; have : (j 2).val < 64 := (j 2).isLt; omega⟩

/-! ## The logarithm of the sigmoid, as the kernel and as the reference write it -/

theorem neg_le_zero_of {x : EReal} (h : 0 ≤ x) : -x ≤ 0 := by simpa using EReal.neg_le_neg_iff.mpr h
theorem neg_nonneg_of {x : EReal} (h : x ≤ 0) : 0 ≤ -x := by simpa using EReal.neg_le_neg_iff.mpr h

/-- The kernel's absolute value: a choice by the sign. -/
theorem abs_choice (x : EReal) : (if 0 ≤ x then x else 0 - x) = max x (-x) := by
  rw [zero_sub]
  by_cases h : 0 ≤ x
  · rw [if_pos h, max_eq_left ((neg_le_zero_of h).trans h)]
  · have h' : x ≤ 0 := le_of_not_ge h
    rw [if_neg h, max_eq_right (h'.trans (neg_nonneg_of h'))]

/-- The correction is a real number. -/
theorem correction_real (x : EReal) : ∃ r : ℝ, Ideal.log (1 + Ideal.exp (-max x (-x))) = (r : EReal) := by
  have key : ∀ y : EReal, y ≤ 0 → ∃ r : ℝ, Ideal.log (1 + Ideal.exp y) = (r : EReal) := fun y hy => by
    induction y with
    | bot => exact ⟨0, by
        rw [Ideal.exp_bot, add_zero, ← EReal.coe_one, Ideal.log_coe, if_neg (by norm_num), Real.log_one]⟩
    | top => exact absurd hy (by simp)
    | coe v =>
      refine ⟨Real.log (1 + Real.exp v), ?_⟩
      rw [Ideal.exp_coe, ← EReal.coe_one, ← EReal.coe_add, Ideal.log_coe,
        if_neg (not_le.mpr (add_pos one_pos (Real.exp_pos v)))]
  refine key _ (neg_le_zero_of ?_)
  rcases le_total 0 x with h | h
  · exact le_max_of_le_left h
  · exact le_max_of_le_right (neg_nonneg_of h)

/-- The reference's form: minus the softplus of minus the value. -/
theorem neg_softplus (x : EReal) :
    -(max (-x) 0 + Ideal.log (1 + Ideal.exp (-max (-x) (- -x)))) = logSigmoid x := by
  unfold logSigmoid
  rw [neg_neg, max_comm (-x) x]
  obtain ⟨r, hr⟩ := correction_real x
  rw [hr, EReal.neg_add (.inr (EReal.coe_ne_top r)) (.inr (EReal.coe_ne_bot r)), sub_eq_add_neg]
  congr 1
  rcases le_total 0 x with h | h
  · rw [max_eq_right (neg_le_zero_of h), min_eq_right h, neg_zero]
  · rw [max_eq_left (neg_nonneg_of h), min_eq_left h, neg_neg]

/-- A division by sixteen is a multiplication by a sixteenth. -/
theorem div_cSixteen (x : EReal) : Ideal.div x cSixteen = x * cSixteenth := by
  have e : cSixteen = ((16 : ℝ) : EReal) := by
    simp [Ideal.ofBits, Ideal.ieee, -EReal.coe_mul]
    norm_num
  have e' : cSixteenth = ((1 / 16 : ℝ) : EReal) := by
    simp [Ideal.ofBits, Ideal.ieee, -EReal.coe_mul]
    norm_num
  rw [e, e']
  unfold Ideal.div
  rw [if_neg (by norm_num), ← EReal.coe_inv]
  norm_num

end Cert.Proof.ProjIn

end
-- ==== Proof.ProjIn.Block.lean ====
/- What one grid point of `proj_in` computes from its blocks: row `r` of each output block is the row function of row
   `r` of the normalised input. -/
module

public import proofs.«01_k».proof.Proof.Gen.ProjInIdeal.Value
public import proofs.«01_k».proof.Proof.ProjIn.Spec
public import Idealize.ShloMosaic.Lib.Pointwise

@[expose] public section

noncomputable section

namespace Cert.Proof.ProjIn

open Cert.ProjInIdeal Cert.ProjInIdeal.Gen Idealize.ShloMosaic Idealize.ShloMosaic.Pointwise

variable (x0 : Vec Ideal S256x1024 .bf16) (x1 : Vec Ideal S8x1024x578 .bf16) (x2 : Vec Ideal S128x256 .f32)
  (x3 : Vec Ideal S1x256 .f32)

/-- Row `r` of the point's input block; the projection's eight column blocks put side by side. -/
def rowOf (r : Fin 256) : Row where
  h k := x0 (ix2 r k)
  w k n := x1 (ix3 (⟨n.val / 578, by omega⟩ : Fin 8) k (⟨n.val % 578, by omega⟩ : Fin 578))
  wa e c := x2 (ix2 (⟨e.val, by omega⟩ : Fin 128) c)
  b c := x3 (ix2 0 c)

/-- A choice whose branches agree. -/
theorem dite_both {p : Prop} [Decidable p] {α : Type} {a : p → α} {b : ¬p → α} {v : α} (ha : ∀ h, a h = v)
    (hb : ∀ h, b h = v) : dite p a b = v := by
  by_cases h : p
  · rw [dif_pos h, ha]
  · rw [dif_neg h, hb]

/-- The eight products put side by side are the product with the whole weight. -/
theorem pay4_apply (r : Fin 256) (n : Fin 4624) : k0_pay4 (F := Ideal) x0 x1 (ix2 r n) = (rowOf x0 x1 x2 x3 r).proj n := by
  have key : ∀ (j : Fin 8) (p : Fin 578), n.val = j.val * 578 + p.val →
      ∑ x, x0 (ix2 r x) * x1 (ix3 j x p) = (rowOf x0 x1 x2 x3 r).proj n := fun j p e => by
    refine Finset.sum_congr rfl fun x _ => ?_
    show _ = x0 (ix2 r x) * x1 (ix3 _ x _)
    congr 2
    refine congrArg₂ (fun (a : Fin 8) (d : Fin 578) => ix3 a x d) (Fin.ext ?_) (Fin.ext ?_)
    · show j.val = n.val / 578; omega
    · show p.val = n.val % 578; omega
  pointwise [k0_pay4]
  refine dite_both (fun h => key 0 _ ?_) fun h0 => ?_
  · show n.val = 0 * 578 + n.val; omega
  refine dite_both (fun h => key 1 _ ?_) fun h1 => ?_
  · show n.val = 1 * 578 + (n.val - 578); omega
  refine dite_both (fun h => key 2 _ ?_) fun h2 => ?_
  · show n.val = 2 * 578 + (n.val - 578 - 578); omega
  refine dite_both (fun h => key 3 _ ?_) fun h3 => ?_
  · show n.val = 3 * 578 + (n.val - 578 - 578 - 578); omega
  refine dite_both (fun h => key 4 _ ?_) fun h4 => ?_
  · show n.val = 4 * 578 + (n.val - 578 - 578 - 578 - 578); omega
  refine dite_both (fun h => key 5 _ ?_) fun h5 => ?_
  · show n.val = 5 * 578 + (n.val - 578 - 578 - 578 - 578 - 578); omega
  refine dite_both (fun h => key 6 _ ?_) fun h6 => key 7 _ ?_
  · show n.val = 6 * 578 + (n.val - 578 - 578 - 578 - 578 - 578 - 578); omega
  · show n.val = 7 * 578 + (n.val - 578 - 578 - 578 - 578 - 578 - 578 - 578); omega

/-- Four runs of sixty-four entries: entry `c` of run `d` is entry `64 d + c` of all. -/
theorem stack4 (f : Fin 256 → EReal) (d : Fin 4) (c : Fin 64) :
    (if _ : d.val < 1 then f ⟨c.val, by omega⟩ else if _ : d.val - 1 < 1 then f ⟨64 + c.val, by omega⟩
      else if _ : d.val - 1 - 1 < 1 then f ⟨128 + c.val, by omega⟩ else f ⟨192 + c.val, by omega⟩)
      = f ⟨d.val * 64 + c.val, by omega⟩ :=
  dite_both (fun h => congrArg f (Fin.ext (by show c.val = d.val * 64 + c.val; omega))) fun h0 =>
  dite_both (fun h => congrArg f (Fin.ext (by show 64 + c.val = d.val * 64 + c.val; omega))) fun h1 =>
  dite_both (fun h => congrArg f (Fin.ext (by show 128 + c.val = d.val * 64 + c.val; omega))) fun h2 =>
    congrArg f (Fin.ext (by show 192 + c.val = d.val * 64 + c.val; omega))

theorem pay15_apply (y : FVec Ideal S256x256 .f32) (d : Fin 4) (r : Fin 256) (c : Fin 64) :
    k0_pay15 y (ix3 d r c) = y (ix2 r (⟨d.val * 64 + c.val, by omega⟩ : Fin 256)) := by
  pointwise [k0_pay15]
  exact stack4 (fun n => y (ix2 r n)) d c

theorem pay16_apply (y : FVec Ideal S256x256 .f32) (d : Fin 4) (r : Fin 256) (c : Fin 64) :
    k0_pay16 y (ix3 d r c) = y (ix2 r (⟨d.val * 64 + c.val, by omega⟩ : Fin 256)) := by
  pointwise [k0_pay16]
  exact stack4 (fun n => y (ix2 r n)) d c

theorem pay14_apply (y : FVec Ideal S256x16 .f32) (r : Fin 256) (c : Fin 128) :
    k0_pay14 y (ix2 r c) = if h : c.val < 16 then y (ix2 r (⟨c.val, h⟩ : Fin 16)) else 0 := by
  pointwise [k0_pay14]

/-- The sixteen columns of the code and the 112 of zeros after them, times the weight: the zeros add nothing. -/
theorem code_dot (y : FVec Ideal S256x16 .f32) (r : Fin 256) (n : Fin 256) :
    ∑ x, k0_pay14 y (ix2 r x) * x2 (ix2 x n) = ∑ e : Fin 16, y (ix2 r e) * x2 (ix2 (⟨e.val, by omega⟩ : Fin 128) n) := by
  refine (Fin.sum_univ_add (a := 16) (b := 112) fun x : Fin 128 => k0_pay14 y (ix2 r x) * x2 (ix2 x n)).trans ?_
  rw [Finset.sum_eq_zero (s := Finset.univ (α := Fin 112)), add_zero]
  · refine Finset.sum_congr rfl fun e _ => ?_
    rw [pay14_apply, dif_pos (show (Fin.castAdd 112 e).val < 16 from e.isLt)]
    rfl
  · intro e _
    rw [pay14_apply, dif_neg (show ¬(Fin.natAdd 16 e).val < 16 by simp), zero_mul]

/-- The kernel's log decay, from the code. -/
theorem pay17_apply (y : FVec Ideal S256x16 .f32) (d : Fin 4) (r : Fin 256) (c : Fin 64) :
    k0_pay17 x2 x3 y (ix3 d r c)
      = logSigmoid ((∑ e : Fin 16, y (ix2 r e) * x2 (ix2 (⟨e.val, by omega⟩ : Fin 128) (⟨d.val * 64 + c.val, by omega⟩ : Fin 256)))
          + x3 (ix2 0 (⟨d.val * 64 + c.val, by omega⟩ : Fin 256))) * cSixteenth := by
  have form : ∀ x : EReal, min x 0 - Ideal.log (1 + Ideal.exp (0 - if 0 ≤ x then x else 0 - x)) = logSigmoid x := fun x => by
    rw [abs_choice, zero_sub]
    rfl
  pointwise [k0_pay17]
  simp only [code_dot, form]
  exact stack4 (fun n => logSigmoid ((∑ e : Fin 16, y (ix2 r e) * x2 (ix2 (⟨e.val, by omega⟩ : Fin 128) n)) + x3 (ix2 0 n))
    * cSixteenth) d c

/-! ## The ten output blocks -/

theorem hz2 : (![0, 0] : Fin 2 → Nat) = fun _ => 0 := funext fun a => by fin_cases a <;> rfl
theorem hz3 : (![0, 0, 0] : Fin 3 → Nat) = fun _ => 0 := funext fun a => by fin_cases a <;> rfl

theorem ld0 : View.ld x0 r0_0 = x0 := View.ld_unit_zero (S := S256x1024) hz2 _ _
theorem ld1 : View.ld x1 r0_1 = x1 := View.ld_unit_zero (S := S8x1024x578) hz3 _ _
theorem ld2 : View.ld x2 r0_2 = x2 := View.ld_unit_zero (S := S128x256) hz2 _ _
theorem ld3 : View.ld x3 r0_3 = x3 := View.ld_unit_zero (S := S1x256) hz2 _ _

theorem out4_apply (d : Fin 4) (r : Fin 256) (c : Fin 64) :
    out0_4 x0 x1 x2 x3 (ix3 d r c) = (rowOf x0 x1 x2 x3 r).proj ⟨0 + (d.val * 64 + c.val), by omega⟩ := by
  unfold out0_4
  rw [View.canon_unit_zero hz3, ld0, ld1, pay15_apply]
  pointwise [k0_pay5]
  rw [pay4_apply x0 x1 x2 x3]

theorem out5_apply (d : Fin 4) (r : Fin 256) (c : Fin 64) :
    out0_5 x0 x1 x2 x3 (ix3 d r c) = (rowOf x0 x1 x2 x3 r).proj ⟨256 + (d.val * 64 + c.val), by omega⟩ := by
  unfold out0_5
  rw [View.canon_unit_zero hz3, ld0, ld1, pay16_apply]
  pointwise [k0_pay6]
  exact pay4_apply x0 x1 x2 x3 r _

theorem out6_apply (r : Fin 256) (c : Fin 512) :
    out0_6 x0 x1 x2 x3 (ix2 r c) = (rowOf x0 x1 x2 x3 r).proj ⟨512 + c.val, by omega⟩ := by
  unfold out0_6
  rw [View.canon_unit_zero hz2, ld0, ld1]
  pointwise [k0_pay1, k0_pay7]
  exact pay4_apply x0 x1 x2 x3 r _

theorem out7_apply (r : Fin 256) (c : Fin 512) :
    out0_7 x0 x1 x2 x3 (ix2 r c) = (rowOf x0 x1 x2 x3 r).proj ⟨1024 + c.val, by omega⟩ := by
  unfold out0_7
  rw [View.canon_unit_zero hz2, ld0, ld1]
  pointwise [k0_pay8]
  exact pay4_apply x0 x1 x2 x3 r _

theorem pay9_apply (r : Fin 256) (e : Fin 16) : k0_pay9 (F := Ideal) x0 x1 (ix2 r e) = (rowOf x0 x1 x2 x3 r).low e := by
  pointwise [k0_pay9]
  exact pay4_apply x0 x1 x2 x3 r _

theorem out8_apply (r : Fin 256) (c : Fin 128) :
    out0_8 x0 x1 x2 x3 (ix2 r c) = if h : c.val < 16 then (rowOf x0 x1 x2 x3 r).low ⟨c.val, h⟩ else 0 := by
  unfold out0_8 k0_pay18
  rw [View.canon_unit_zero hz2, ld0, ld1, pay14_apply]
  exact dite_congr rfl (fun h => pay9_apply x0 x1 x2 x3 r _) fun _ => rfl

theorem out9_apply (r : Fin 256) (c : Fin 512) :
    out0_9 x0 x1 x2 x3 (ix2 r c) = (rowOf x0 x1 x2 x3 r).proj ⟨1552 + c.val, by omega⟩ := by
  unfold out0_9
  rw [View.canon_unit_zero hz2, ld0, ld1]
  pointwise [k0_pay10]
  exact pay4_apply x0 x1 x2 x3 r _

theorem out10_apply (r : Fin 256) (c : Fin 512) :
    out0_10 x0 x1 x2 x3 (ix2 r c) = (rowOf x0 x1 x2 x3 r).proj ⟨2064 + c.val, by omega⟩ := by
  unfold out0_10
  rw [View.canon_unit_zero hz2, ld0, ld1]
  pointwise [k0_pay11]
  exact pay4_apply x0 x1 x2 x3 r _

theorem out11_apply (r : Fin 256) (c : Fin 1024) :
    out0_11 x0 x1 x2 x3 (ix2 r c) = (rowOf x0 x1 x2 x3 r).proj ⟨2576 + c.val, by omega⟩ := by
  unfold out0_11
  rw [View.canon_unit_zero hz2, ld0, ld1]
  pointwise [k0_pay12]
  exact pay4_apply x0 x1 x2 x3 r _

theorem out12_apply (r : Fin 256) (c : Fin 1024) :
    out0_12 x0 x1 x2 x3 (ix2 r c) = (rowOf x0 x1 x2 x3 r).proj ⟨3600 + c.val, by omega⟩ := by
  unfold out0_12
  rw [View.canon_unit_zero hz2, ld0, ld1]
  pointwise [k0_pay13]
  exact pay4_apply x0 x1 x2 x3 r _

theorem out13_apply (d : Fin 4) (r : Fin 256) (c : Fin 64) :
    out0_13 x0 x1 x2 x3 (ix3 d r c) = (rowOf x0 x1 x2 x3 r).decay ⟨d.val * 64 + c.val, by omega⟩ := by
  have e2 : k0_pay2 x2 = x2 := by funext i; pointwise [k0_pay2]
  have e3 : k0_pay3 x3 = x3 := by funext i; pointwise [k0_pay3]
  unfold out0_13 k0_pay18
  rw [View.canon_unit_zero hz3, ld0, ld1, ld2, ld3, e2, e3, pay17_apply]
  simp only [pay9_apply x0 x1 x2 x3]
  rfl

end Cert.Proof.ProjIn

end
-- ==== Proof.ProjIn.Host.lean ====
/- The arrays the host lines hand to the kernel, at an index: the cast input, the projection's weight cut in eight column
   blocks, the gate's weight with rows of zeros to 128, the gate's bias as a row. -/
module

public import proofs.«01_k».proof.Proof.Gen.ProjInIdeal.Frame
public import proofs.«01_k».proof.Proof.ProjIn.Spec
public import Idealize.ShloMosaic.Lib.Pointwise

@[expose] public section

noncomputable section

namespace Cert.Proof.ProjIn

open Cert.ProjInIdeal Cert.ProjInIdeal.Gen Idealize.ShloMosaic Idealize.ShloMosaic.TcCoe
open Idealize.ShloMosaic.StableHlo Idealize.ShloMosaic.Pointwise

variable (m : (ℓ : Loc nD τ sig) → Buf (Elt Ideal) ℓ) (c : Dev nD)

/-- The program's arguments. -/
abbrev aH : S2048x1024.Idx → EReal := m ((c : Thread nD τ).loc main_arg0)
abbrev aW : S1024x4624.Idx → EReal := m ((c : Thread nD τ).loc main_arg1)
abbrev aWa : S16x256.Idx → EReal := m ((c : Thread nD τ).loc main_arg2)
abbrev aB : S256.Idx → EReal := m ((c : Thread nD τ).loc main_arg3)

/-- The same by row and column. -/
def args : Args where
  h i k := aH m c (ix2 i k)
  w k n := aW m c (ix2 k n)
  wa e n := aWa m c (ix2 e n)
  b n := aB m c (ix1 n)

theorem V0 (i : Fin 2048) (k : Fin 1024) : V m c main_v0 (ix2 i k) = aH m c (ix2 i k) := by
  unfold V hostOps0 hostOps0_1
  simp only [List.flatten_cons, List.flatten_nil, List.append_nil, List.cons_append, List.nil_append]
  after_results
  rfl
theorem V3 (j : Fin 8) (k : Fin 1024) (n : Fin 578) : V m c main_v3 (ix3 j k n)
    = aW m c (ix2 k (⟨j.val * 578 + n.val, by omega⟩ : Fin 4624)) := by
  unfold V hostOps0 hostOps0_1
  simp only [List.flatten_cons, List.flatten_nil, List.append_nil, List.cons_append, List.nil_append]
  after_results
  pointwise
/-- A row of the padded weight that is one of the weight's own sixteen. -/
theorem V5 (e : Fin 16) (n : Fin 256) : V m c main_v5 (ix2 (⟨e.val, by omega⟩ : Fin 128) n) = aWa m c (ix2 e n) := by
  unfold V hostOps0 hostOps0_1
  simp only [List.flatten_cons, List.flatten_nil, List.append_nil, List.cons_append, List.nil_append]
  after_results
  simp only [TRef.toBuf, TRef.ofBuf, cast_eq]
  pointwise
theorem V4 (q : Fin 1) (n : Fin 256) : V m c main_v4 (ix2 q n) = aB m c (ix1 n) := by
  unfold V hostOps0 hostOps0_1
  simp only [List.flatten_cons, List.flatten_nil, List.append_nil, List.cons_append, List.nil_append]
  after_results
  pointwise

end Cert.Proof.ProjIn

end
-- ==== Proof.ProjIn.Array.lean ====
/- The ten arrays `proj_in` leaves, as row functions of the arguments: block `t` of each is rows 256 t to 256 t + 255. -/
module

public import proofs.«01_k».proof.Proof.ProjIn.Block
public import proofs.«01_k».proof.Proof.ProjIn.Host

@[expose] public section

noncomputable section

namespace Cert.Proof.ProjIn

open Cert.ProjInIdeal Cert.ProjInIdeal.Gen Cert.ProjInIdeal.Value Idealize.ShloMosaic Idealize.ShloMosaic.TcCoe
open Idealize.ShloMosaic.Pointwise

variable (m : (ℓ : Loc nD τ sig) → Buf (Elt Ideal) ℓ) (c : Dev nD)

/-- Row `r` of block `t`. -/
abbrev at256 (t : Fin cfg0.N) (r : Fin 256) : Fin 2048 :=
  ⟨t.val * 256 + r.val, by have : cfg0.N = 8 := N_0; have := t.isLt; omega⟩

theorem at256_split (i : Fin 2048) : ∃ (t : Fin cfg0.N) (r : Fin 256), i = at256 t r := by
  have hN : cfg0.N = 8 := N_0
  exact ⟨⟨i.val / 256, by omega⟩, ⟨i.val % 256, by omega⟩, Fin.ext (by show i.val = i.val / 256 * 256 + i.val % 256; omega)⟩

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩
theorem eq_ix3 {a b c : ℕ} (j : (⟨3, ![a, b, c]⟩ : Shape).Idx) : ∃ (d : Fin a) (r : Fin b) (k : Fin c), j = ix3 d r k :=
  ⟨j 0, j 1, j 2, funext fun x => by match x with | ⟨0, _⟩ => rfl | ⟨1, _⟩ => rfl | ⟨2, _⟩ => rfl⟩

/-! ## Where a block lies -/

theorem ixw0 : ∀ t : Fin cfg0.N, win0_0.index t 0 = t.val ∧ win0_0.index t 1 = 0 := (by decide +kernel : ∀ t : Fin grid0.N, _)
theorem ixw6 : ∀ t : Fin cfg0.N, win0_6.index t 0 = t.val ∧ win0_6.index t 1 = 0 := (by decide +kernel : ∀ t : Fin grid0.N, _)
theorem ixw7 : ∀ t : Fin cfg0.N, win0_7.index t 0 = t.val ∧ win0_7.index t 1 = 0 := (by decide +kernel : ∀ t : Fin grid0.N, _)
theorem ixw8 : ∀ t : Fin cfg0.N, win0_8.index t 0 = t.val ∧ win0_8.index t 1 = 0 := (by decide +kernel : ∀ t : Fin grid0.N, _)
theorem ixw9 : ∀ t : Fin cfg0.N, win0_9.index t 0 = t.val ∧ win0_9.index t 1 = 0 := (by decide +kernel : ∀ t : Fin grid0.N, _)
theorem ixw10 : ∀ t : Fin cfg0.N, win0_10.index t 0 = t.val ∧ win0_10.index t 1 = 0 := (by decide +kernel : ∀ t : Fin grid0.N, _)
theorem ixw11 : ∀ t : Fin cfg0.N, win0_11.index t 0 = t.val ∧ win0_11.index t 1 = 0 := (by decide +kernel : ∀ t : Fin grid0.N, _)
theorem ixw12 : ∀ t : Fin cfg0.N, win0_12.index t 0 = t.val ∧ win0_12.index t 1 = 0 := (by decide +kernel : ∀ t : Fin grid0.N, _)
theorem ixw2 : ∀ t : Fin cfg0.N, win0_2.index t 0 = 0 ∧ win0_2.index t 1 = 0 := (by decide +kernel : ∀ t : Fin grid0.N, _)
theorem ixw3 : ∀ t : Fin cfg0.N, win0_3.index t 0 = 0 ∧ win0_3.index t 1 = 0 := (by decide +kernel : ∀ t : Fin grid0.N, _)
theorem ixw1 : ∀ t : Fin cfg0.N, win0_1.index t 0 = 0 ∧ win0_1.index t 1 = 0 ∧ win0_1.index t 2 = 0 :=
  (by decide +kernel : ∀ t : Fin grid0.N, _)
theorem ixw4 : ∀ t : Fin cfg0.N, win0_4.index t 0 = 0 ∧ win0_4.index t 1 = t.val ∧ win0_4.index t 2 = 0 :=
  (by decide +kernel : ∀ t : Fin grid0.N, _)
theorem ixw5 : ∀ t : Fin cfg0.N, win0_5.index t 0 = 0 ∧ win0_5.index t 1 = t.val ∧ win0_5.index t 2 = 0 :=
  (by decide +kernel : ∀ t : Fin grid0.N, _)
theorem ixw13 : ∀ t : Fin cfg0.N, win0_13.index t 0 = 0 ∧ win0_13.index t 1 = t.val ∧ win0_13.index t 2 = 0 :=
  (by decide +kernel : ∀ t : Fin grid0.N, _)

theorem emb0 (t : Fin cfg0.N) (r : Fin 256) (k : Fin 1024) : ((cfg0.win 0).blk t).view.emb (ix2 r k) = ix2 (at256 t r) k := by
  obtain ⟨e0, e1⟩ := ixw0 t
  funext a; apply Fin.ext
  match a with
  | ⟨0, _⟩ => show win0_0.index t 0 * 256 + 1 * r.val = t.val * 256 + r.val; omega
  | ⟨1, _⟩ => show win0_0.index t 1 * 1024 + 1 * k.val = k.val; omega
theorem emb6 (t : Fin cfg0.N) (r : Fin 256) (k : Fin 512) : ((cfg0.win 6).blk t).view.emb (ix2 r k) = ix2 (at256 t r) k := by
  obtain ⟨e0, e1⟩ := ixw6 t
  funext a; apply Fin.ext
  match a with
  | ⟨0, _⟩ => show win0_6.index t 0 * 256 + 1 * r.val = t.val * 256 + r.val; omega
  | ⟨1, _⟩ => show win0_6.index t 1 * 512 + 1 * k.val = k.val; omega
theorem emb7 (t : Fin cfg0.N) (r : Fin 256) (k : Fin 512) : ((cfg0.win 7).blk t).view.emb (ix2 r k) = ix2 (at256 t r) k := by
  obtain ⟨e0, e1⟩ := ixw7 t
  funext a; apply Fin.ext
  match a with
  | ⟨0, _⟩ => show win0_7.index t 0 * 256 + 1 * r.val = t.val * 256 + r.val; omega
  | ⟨1, _⟩ => show win0_7.index t 1 * 512 + 1 * k.val = k.val; omega
theorem emb8 (t : Fin cfg0.N) (r : Fin 256) (k : Fin 128) : ((cfg0.win 8).blk t).view.emb (ix2 r k) = ix2 (at256 t r) k := by
  obtain ⟨e0, e1⟩ := ixw8 t
  funext a; apply Fin.ext
  match a with
  | ⟨0, _⟩ => show win0_8.index t 0 * 256 + 1 * r.val = t.val * 256 + r.val; omega
  | ⟨1, _⟩ => show win0_8.index t 1 * 128 + 1 * k.val = k.val; omega
theorem emb9 (t : Fin cfg0.N) (r : Fin 256) (k : Fin 512) : ((cfg0.win 9).blk t).view.emb (ix2 r k) = ix2 (at256 t r) k := by
  obtain ⟨e0, e1⟩ := ixw9 t
  funext a; apply Fin.ext
  match a with
  | ⟨0, _⟩ => show win0_9.index t 0 * 256 + 1 * r.val = t.val * 256 + r.val; omega
  | ⟨1, _⟩ => show win0_9.index t 1 * 512 + 1 * k.val = k.val; omega
theorem emb10 (t : Fin cfg0.N) (r : Fin 256) (k : Fin 512) : ((cfg0.win 10).blk t).view.emb (ix2 r k) = ix2 (at256 t r) k := by
  obtain ⟨e0, e1⟩ := ixw10 t
  funext a; apply Fin.ext
  match a with
  | ⟨0, _⟩ => show win0_10.index t 0 * 256 + 1 * r.val = t.val * 256 + r.val; omega
  | ⟨1, _⟩ => show win0_10.index t 1 * 512 + 1 * k.val = k.val; omega
theorem emb11 (t : Fin cfg0.N) (r : Fin 256) (k : Fin 1024) : ((cfg0.win 11).blk t).view.emb (ix2 r k) = ix2 (at256 t r) k := by
  obtain ⟨e0, e1⟩ := ixw11 t
  funext a; apply Fin.ext
  match a with
  | ⟨0, _⟩ => show win0_11.index t 0 * 256 + 1 * r.val = t.val * 256 + r.val; omega
  | ⟨1, _⟩ => show win0_11.index t 1 * 1024 + 1 * k.val = k.val; omega
theorem emb12 (t : Fin cfg0.N) (r : Fin 256) (k : Fin 1024) : ((cfg0.win 12).blk t).view.emb (ix2 r k) = ix2 (at256 t r) k := by
  obtain ⟨e0, e1⟩ := ixw12 t
  funext a; apply Fin.ext
  match a with
  | ⟨0, _⟩ => show win0_12.index t 0 * 256 + 1 * r.val = t.val * 256 + r.val; omega
  | ⟨1, _⟩ => show win0_12.index t 1 * 1024 + 1 * k.val = k.val; omega
theorem emb1 (t : Fin cfg0.N) (j : Fin 8) (k : Fin 1024) (n : Fin 578) :
    ((cfg0.win 1).blk t).view.emb (ix3 j k n) = ix3 j k n := by
  obtain ⟨e0, e1, e2⟩ := ixw1 t
  funext a; apply Fin.ext
  match a with
  | ⟨0, _⟩ => show win0_1.index t 0 * 8 + 1 * j.val = j.val; omega
  | ⟨1, _⟩ => show win0_1.index t 1 * 1024 + 1 * k.val = k.val; omega
  | ⟨2, _⟩ => show win0_1.index t 2 * 578 + 1 * n.val = n.val; omega
theorem emb2 (t : Fin cfg0.N) (q : Fin 128) (k : Fin 256) : ((cfg0.win 2).blk t).view.emb (ix2 q k) = ix2 q k := by
  obtain ⟨e0, e1⟩ := ixw2 t
  funext a; apply Fin.ext
  match a with
  | ⟨0, _⟩ => show win0_2.index t 0 * 128 + 1 * q.val = q.val; omega
  | ⟨1, _⟩ => show win0_2.index t 1 * 256 + 1 * k.val = k.val; omega
theorem emb3 (t : Fin cfg0.N) (q : Fin 1) (k : Fin 256) : ((cfg0.win 3).blk t).view.emb (ix2 q k) = ix2 q k := by
  obtain ⟨e0, e1⟩ := ixw3 t
  funext a; apply Fin.ext
  match a with
  | ⟨0, _⟩ => show win0_3.index t 0 * 1 + 1 * q.val = q.val; omega
  | ⟨1, _⟩ => show win0_3.index t 1 * 256 + 1 * k.val = k.val; omega
theorem emb4 (t : Fin cfg0.N) (d : Fin 4) (r : Fin 256) (k : Fin 64) :
    ((cfg0.win 4).blk t).view.emb (ix3 d r k) = ix3 d (at256 t r) k := by
  obtain ⟨e0, e1, e2⟩ := ixw4 t
  funext a; apply Fin.ext
  match a with
  | ⟨0, _⟩ => show win0_4.index t 0 * 4 + 1 * d.val = d.val; omega
  | ⟨1, _⟩ => show win0_4.index t 1 * 256 + 1 * r.val = t.val * 256 + r.val; omega
  | ⟨2, _⟩ => show win0_4.index t 2 * 64 + 1 * k.val = k.val; omega
theorem emb5 (t : Fin cfg0.N) (d : Fin 4) (r : Fin 256) (k : Fin 64) :
    ((cfg0.win 5).blk t).view.emb (ix3 d r k) = ix3 d (at256 t r) k := by
  obtain ⟨e0, e1, e2⟩ := ixw5 t
  funext a; apply Fin.ext
  match a with
  | ⟨0, _⟩ => show win0_5.index t 0 * 4 + 1 * d.val = d.val; omega
  | ⟨1, _⟩ => show win0_5.index t 1 * 256 + 1 * r.val = t.val * 256 + r.val; omega
  | ⟨2, _⟩ => show win0_5.index t 2 * 64 + 1 * k.val = k.val; omega
theorem emb13 (t : Fin cfg0.N) (d : Fin 4) (r : Fin 256) (k : Fin 64) :
    ((cfg0.win 13).blk t).view.emb (ix3 d r k) = ix3 d (at256 t r) k := by
  obtain ⟨e0, e1, e2⟩ := ixw13 t
  funext a; apply Fin.ext
  match a with
  | ⟨0, _⟩ => show win0_13.index t 0 * 4 + 1 * d.val = d.val; omega
  | ⟨1, _⟩ => show win0_13.index t 1 * 256 + 1 * r.val = t.val * 256 + r.val; omega
  | ⟨2, _⟩ => show win0_13.index t 2 * 64 + 1 * k.val = k.val; omega

/-! ## The input blocks -/

theorem in0 (t : Fin cfg0.N) (r : Fin 256) (k : Fin 1024) : iblk m c 0 t (ix2 r k) = aH m c (ix2 (at256 t r) k) := by
  show V m c main_v0 (((cfg0.win 0).blk t).view.emb (ix2 r k)) = _
  rw [emb0, V0]
theorem in1 (t : Fin cfg0.N) (k : Fin 1024) (n : Fin 4624) :
    iblk m c 1 t (ix3 (⟨n.val / 578, by omega⟩ : Fin 8) k (⟨n.val % 578, by omega⟩ : Fin 578)) = aW m c (ix2 k n) := by
  show V m c main_v3 (((cfg0.win 1).blk t).view.emb (ix3 _ k _)) = _
  rw [emb1, V3]
  exact congrArg (fun x => aW m c (ix2 k x)) (Fin.ext (by show n.val / 578 * 578 + n.val % 578 = n.val; omega))
theorem in2 (t : Fin cfg0.N) (e : Fin 16) (n : Fin 256) :
    iblk m c 2 t (ix2 (⟨e.val, by omega⟩ : Fin 128) n) = aWa m c (ix2 e n) := by
  show V m c main_v5 (((cfg0.win 2).blk t).view.emb (ix2 _ n)) = _
  rw [emb2, V5]
theorem in3 (t : Fin cfg0.N) (n : Fin 256) : iblk m c 3 t (ix2 0 n) = aB m c (ix1 n) := by
  show V m c main_v4 (((cfg0.win 3).blk t).view.emb (ix2 0 n)) = _
  rw [emb3, V4]

/-- Row `r` of the blocks at point `t` is row `256 t + r` of the arguments. -/
theorem rowOf_blocks (t : Fin cfg0.N) (r : Fin 256) :
    rowOf (iblk m c 0 t) (iblk m c 1 t) (iblk m c 2 t) (iblk m c 3 t) r = (args m c).row (at256 t r) :=
  Row.ext (funext fun k => in0 m c t r k) (funext fun k => funext fun n => in1 m c t k n)
    (funext fun e => funext fun n => in2 m c t e n) (funext fun n => in3 m c t n)

/-! ## The ten arrays -/

theorem flushed4_eq (t : Fin cfg0.N) :
    (dats m 0 c).flushed 4 t = ((cfg0.win 4).blk t).view.read (Elt Ideal) ((args m c).heads 0 (by norm_num)) := by
  rw [flushed4]
  funext j
  obtain ⟨d, r, k, rfl⟩ := eq_ix3 (a := 4) (b := 256) (c := 64) j
  show out0_4 (F := Ideal) _ _ _ _ (ix3 d r k) = ((args m c).heads 0 (by norm_num)) (((cfg0.win 4).blk t).view.emb (ix3 d r k))
  rw [emb4, out4_apply, rowOf_blocks]
  rfl
theorem final4 : (dats m 0 c).arrAt 4 cfg0.N = (args m c).heads 0 (by norm_num) :=
  (dats m 0 c).arrAt_eq_of_cover 4 _ (fun t _ => flushed4_eq m c t) fun j => by
    obtain ⟨d, i, k, rfl⟩ := eq_ix3 (a := 4) (b := 2048) (c := 64) j
    obtain ⟨t, r, rfl⟩ := at256_split i
    exact ⟨t, flush0_4 t, by have h := ((cfg0.win 4).blk t).view.emb_mem_set (ix3 d r k); rwa [emb4] at h⟩

theorem flushed5_eq (t : Fin cfg0.N) :
    (dats m 0 c).flushed 5 t = ((cfg0.win 5).blk t).view.read (Elt Ideal) ((args m c).heads 256 (by norm_num)) := by
  rw [flushed5]
  funext j
  obtain ⟨d, r, k, rfl⟩ := eq_ix3 (a := 4) (b := 256) (c := 64) j
  show out0_5 (F := Ideal) _ _ _ _ (ix3 d r k) = ((args m c).heads 256 (by norm_num)) (((cfg0.win 5).blk t).view.emb (ix3 d r k))
  rw [emb5, out5_apply, rowOf_blocks]
  rfl
theorem final5 : (dats m 0 c).arrAt 5 cfg0.N = (args m c).heads 256 (by norm_num) :=
  (dats m 0 c).arrAt_eq_of_cover 5 _ (fun t _ => flushed5_eq m c t) fun j => by
    obtain ⟨d, i, k, rfl⟩ := eq_ix3 (a := 4) (b := 2048) (c := 64) j
    obtain ⟨t, r, rfl⟩ := at256_split i
    exact ⟨t, flush0_5 t, by have h := ((cfg0.win 5).blk t).view.emb_mem_set (ix3 d r k); rwa [emb5] at h⟩

theorem flushed6_eq (t : Fin cfg0.N) :
    (dats m 0 c).flushed 6 t = ((cfg0.win 6).blk t).view.read (Elt Ideal) ((args m c).cols 512 512 (by norm_num)) := by
  rw [flushed6]
  funext j
  obtain ⟨r, k, rfl⟩ := eq_ix2 (a := 256) (b := 512) j
  show out0_6 (F := Ideal) _ _ _ _ (ix2 r k) = ((args m c).cols 512 512 (by norm_num)) (((cfg0.win 6).blk t).view.emb (ix2 r k))
  rw [emb6, out6_apply, rowOf_blocks]
  rfl
theorem final6 : (dats m 0 c).arrAt 6 cfg0.N = (args m c).cols 512 512 (by norm_num) :=
  (dats m 0 c).arrAt_eq_of_cover 6 _ (fun t _ => flushed6_eq m c t) fun j => by
    obtain ⟨i, k, rfl⟩ := eq_ix2 (a := 2048) (b := 512) j
    obtain ⟨t, r, rfl⟩ := at256_split i
    exact ⟨t, flush0_6 t, by have h := ((cfg0.win 6).blk t).view.emb_mem_set (ix2 r k); rwa [emb6] at h⟩

theorem flushed7_eq (t : Fin cfg0.N) :
    (dats m 0 c).flushed 7 t = ((cfg0.win 7).blk t).view.read (Elt Ideal) ((args m c).cols 1024 512 (by norm_num)) := by
  rw [flushed7]
  funext j
  obtain ⟨r, k, rfl⟩ := eq_ix2 (a := 256) (b := 512) j
  show out0_7 (F := Ideal) _ _ _ _ (ix2 r k) = ((args m c).cols 1024 512 (by norm_num)) (((cfg0.win 7).blk t).view.emb (ix2 r k))
  rw [emb7, out7_apply, rowOf_blocks]
  rfl
theorem final7 : (dats m 0 c).arrAt 7 cfg0.N = (args m c).cols 1024 512 (by norm_num) :=
  (dats m 0 c).arrAt_eq_of_cover 7 _ (fun t _ => flushed7_eq m c t) fun j => by
    obtain ⟨i, k, rfl⟩ := eq_ix2 (a := 2048) (b := 512) j
    obtain ⟨t, r, rfl⟩ := at256_split i
    exact ⟨t, flush0_7 t, by have h := ((cfg0.win 7).blk t).view.emb_mem_set (ix2 r k); rwa [emb7] at h⟩

theorem flushed8_eq (t : Fin cfg0.N) :
    (dats m 0 c).flushed 8 t = ((cfg0.win 8).blk t).view.read (Elt Ideal) ((args m c).code) := by
  rw [flushed8]
  funext j
  obtain ⟨r, k, rfl⟩ := eq_ix2 (a := 256) (b := 128) j
  show out0_8 (F := Ideal) _ _ _ _ (ix2 r k) = ((args m c).code) (((cfg0.win 8).blk t).view.emb (ix2 r k))
  rw [emb8, out8_apply, rowOf_blocks]
  rfl
theorem final8 : (dats m 0 c).arrAt 8 cfg0.N = (args m c).code :=
  (dats m 0 c).arrAt_eq_of_cover 8 _ (fun t _ => flushed8_eq m c t) fun j => by
    obtain ⟨i, k, rfl⟩ := eq_ix2 (a := 2048) (b := 128) j
    obtain ⟨t, r, rfl⟩ := at256_split i
    exact ⟨t, flush0_8 t, by have h := ((cfg0.win 8).blk t).view.emb_mem_set (ix2 r k); rwa [emb8] at h⟩

theorem flushed9_eq (t : Fin cfg0.N) :
    (dats m 0 c).flushed 9 t = ((cfg0.win 9).blk t).view.read (Elt Ideal) ((args m c).cols 1552 512 (by norm_num)) := by
  rw [flushed9]
  funext j
  obtain ⟨r, k, rfl⟩ := eq_ix2 (a := 256) (b := 512) j
  show out0_9 (F := Ideal) _ _ _ _ (ix2 r k) = ((args m c).cols 1552 512 (by norm_num)) (((cfg0.win 9).blk t).view.emb (ix2 r k))
  rw [emb9, out9_apply, rowOf_blocks]
  rfl
theorem final9 : (dats m 0 c).arrAt 9 cfg0.N = (args m c).cols 1552 512 (by norm_num) :=
  (dats m 0 c).arrAt_eq_of_cover 9 _ (fun t _ => flushed9_eq m c t) fun j => by
    obtain ⟨i, k, rfl⟩ := eq_ix2 (a := 2048) (b := 512) j
    obtain ⟨t, r, rfl⟩ := at256_split i
    exact ⟨t, flush0_9 t, by have h := ((cfg0.win 9).blk t).view.emb_mem_set (ix2 r k); rwa [emb9] at h⟩

theorem flushed10_eq (t : Fin cfg0.N) :
    (dats m 0 c).flushed 10 t = ((cfg0.win 10).blk t).view.read (Elt Ideal) ((args m c).cols 2064 512 (by norm_num)) := by
  rw [flushed10]
  funext j
  obtain ⟨r, k, rfl⟩ := eq_ix2 (a := 256) (b := 512) j
  show out0_10 (F := Ideal) _ _ _ _ (ix2 r k) = ((args m c).cols 2064 512 (by norm_num)) (((cfg0.win 10).blk t).view.emb (ix2 r k))
  rw [emb10, out10_apply, rowOf_blocks]
  rfl
theorem final10 : (dats m 0 c).arrAt 10 cfg0.N = (args m c).cols 2064 512 (by norm_num) :=
  (dats m 0 c).arrAt_eq_of_cover 10 _ (fun t _ => flushed10_eq m c t) fun j => by
    obtain ⟨i, k, rfl⟩ := eq_ix2 (a := 2048) (b := 512) j
    obtain ⟨t, r, rfl⟩ := at256_split i
    exact ⟨t, flush0_10 t, by have h := ((cfg0.win 10).blk t).view.emb_mem_set (ix2 r k); rwa [emb10] at h⟩

theorem flushed11_eq (t : Fin cfg0.N) :
    (dats m 0 c).flushed 11 t = ((cfg0.win 11).blk t).view.read (Elt Ideal) ((args m c).cols 2576 1024 (by norm_num)) := by
  rw [flushed11]
  funext j
  obtain ⟨r, k, rfl⟩ := eq_ix2 (a := 256) (b := 1024) j
  show out0_11 (F := Ideal) _ _ _ _ (ix2 r k) = ((args m c).cols 2576 1024 (by norm_num)) (((cfg0.win 11).blk t).view.emb (ix2 r k))
  rw [emb11, out11_apply, rowOf_blocks]
  rfl
theorem final11 : (dats m 0 c).arrAt 11 cfg0.N = (args m c).cols 2576 1024 (by norm_num) :=
  (dats m 0 c).arrAt_eq_of_cover 11 _ (fun t _ => flushed11_eq m c t) fun j => by
    obtain ⟨i, k, rfl⟩ := eq_ix2 (a := 2048) (b := 1024) j
    obtain ⟨t, r, rfl⟩ := at256_split i
    exact ⟨t, flush0_11 t, by have h := ((cfg0.win 11).blk t).view.emb_mem_set (ix2 r k); rwa [emb11] at h⟩

theorem flushed12_eq (t : Fin cfg0.N) :
    (dats m 0 c).flushed 12 t = ((cfg0.win 12).blk t).view.read (Elt Ideal) ((args m c).cols 3600 1024 (by norm_num)) := by
  rw [flushed12]
  funext j
  obtain ⟨r, k, rfl⟩ := eq_ix2 (a := 256) (b := 1024) j
  show out0_12 (F := Ideal) _ _ _ _ (ix2 r k) = ((args m c).cols 3600 1024 (by norm_num)) (((cfg0.win 12).blk t).view.emb (ix2 r k))
  rw [emb12, out12_apply, rowOf_blocks]
  rfl
theorem final12 : (dats m 0 c).arrAt 12 cfg0.N = (args m c).cols 3600 1024 (by norm_num) :=
  (dats m 0 c).arrAt_eq_of_cover 12 _ (fun t _ => flushed12_eq m c t) fun j => by
    obtain ⟨i, k, rfl⟩ := eq_ix2 (a := 2048) (b := 1024) j
    obtain ⟨t, r, rfl⟩ := at256_split i
    exact ⟨t, flush0_12 t, by have h := ((cfg0.win 12).blk t).view.emb_mem_set (ix2 r k); rwa [emb12] at h⟩

theorem flushed13_eq (t : Fin cfg0.N) :
    (dats m 0 c).flushed 13 t = ((cfg0.win 13).blk t).view.read (Elt Ideal) ((args m c).decays) := by
  rw [flushed13]
  funext j
  obtain ⟨d, r, k, rfl⟩ := eq_ix3 (a := 4) (b := 256) (c := 64) j
  show out0_13 (F := Ideal) _ _ _ _ (ix3 d r k) = ((args m c).decays) (((cfg0.win 13).blk t).view.emb (ix3 d r k))
  rw [emb13, out13_apply, rowOf_blocks]
  rfl
theorem final13 : (dats m 0 c).arrAt 13 cfg0.N = (args m c).decays :=
  (dats m 0 c).arrAt_eq_of_cover 13 _ (fun t _ => flushed13_eq m c t) fun j => by
    obtain ⟨d, i, k, rfl⟩ := eq_ix3 (a := 4) (b := 2048) (c := 64) j
    obtain ⟨t, r, rfl⟩ := at256_split i
    exact ⟨t, flush0_13 t, by have h := ((cfg0.win 13).blk t).view.emb_mem_set (ix3 d r k); rwa [emb13] at h⟩

end Cert.Proof.ProjIn

end
-- ==== Proof.ProjIn.Ref.lean ====
/- What the reference of `proj_in` computes, at an index: the same row functions of the arguments. -/
module

public import proofs.«01_k».proof.Proof.Gen.ProjInRefIdeal.Read
public import proofs.«01_k».proof.Proof.ProjIn.Spec
public import Idealize.ShloMosaic.Lib.Pointwise

@[expose] public section

noncomputable section

namespace Cert.Proof.ProjIn.Ref

open Cert.ProjInRefIdeal Cert.ProjInRefIdeal.Gen Cert.ProjInRefIdeal.Read Idealize.ShloMosaic
open Idealize.ShloMosaic.Pointwise Cert.Proof.ProjIn

variable (x0 : S2048x1024.Idx → EReal) (x1 : S1024x4624.Idx → EReal) (x2 : S16x256.Idx → EReal) (x3 : S256.Idx → EReal)

/-- The arguments by row and column. -/
def args : Args where
  h i k := x0 (ix2 i k)
  w k n := x1 (ix2 k n)
  wa e n := x2 (ix2 e n)
  b n := x3 (ix1 n)

theorem v0 (i : Fin 2048) (n : Fin 4624) : val_main_v0 (F := Ideal) x0 x1 (ix2 i n) = ((args x0 x1 x2 x3).row i).proj n := by
  pointwise [val_main_v0]
  rfl

/-! ## The columns that stay as they are -/

theorem v21 (i : Fin 2048) (k : Fin 512) :
    val_main_v21 (F := Ideal) x0 x1 (ix2 i k) = (args x0 x1 x2 x3).cols 512 512 (by norm_num) (ix2 i k) := by
  pointwise [val_main_v21, val_main_v3]
  exact v0 x0 x1 x2 x3 i _
theorem v4 (i : Fin 2048) (k : Fin 512) :
    val_main_v4 (F := Ideal) x0 x1 (ix2 i k) = (args x0 x1 x2 x3).cols 1024 512 (by norm_num) (ix2 i k) := by
  pointwise [val_main_v4]
  exact v0 x0 x1 x2 x3 i _
theorem v6 (i : Fin 2048) (k : Fin 512) :
    val_main_v6 (F := Ideal) x0 x1 (ix2 i k) = (args x0 x1 x2 x3).cols 1552 512 (by norm_num) (ix2 i k) := by
  pointwise [val_main_v6]
  exact v0 x0 x1 x2 x3 i _
theorem v7 (i : Fin 2048) (k : Fin 512) :
    val_main_v7 (F := Ideal) x0 x1 (ix2 i k) = (args x0 x1 x2 x3).cols 2064 512 (by norm_num) (ix2 i k) := by
  pointwise [val_main_v7]
  exact v0 x0 x1 x2 x3 i _
theorem v8 (i : Fin 2048) (k : Fin 1024) :
    val_main_v8 (F := Ideal) x0 x1 (ix2 i k) = (args x0 x1 x2 x3).cols 2576 1024 (by norm_num) (ix2 i k) := by
  pointwise [val_main_v8]
  exact v0 x0 x1 x2 x3 i _
theorem v9 (i : Fin 2048) (k : Fin 1024) :
    val_main_v9 (F := Ideal) x0 x1 (ix2 i k) = (args x0 x1 x2 x3).cols 3600 1024 (by norm_num) (ix2 i k) := by
  pointwise [val_main_v9]
  exact v0 x0 x1 x2 x3 i _

/-! ## The queries and keys, head by head -/

theorem v18 (d : Fin 4) (i : Fin 2048) (k : Fin 64) :
    val_main_v18 (F := Ideal) x0 x1 (ix3 d i k) = (args x0 x1 x2 x3).heads 0 (by norm_num) (ix3 d i k) := by
  pointwise [val_main_v18, val_main_v17, val_main_v1]
  refine (v0 x0 x1 x2 x3 i _).trans (congrArg ((args x0 x1 x2 x3).row i).proj (Fin.ext ?_))
  simp
theorem v20 (d : Fin 4) (i : Fin 2048) (k : Fin 64) :
    val_main_v20 (F := Ideal) x0 x1 (ix3 d i k) = (args x0 x1 x2 x3).heads 256 (by norm_num) (ix3 d i k) := by
  pointwise [val_main_v20, val_main_v19, val_main_v2]
  exact v0 x0 x1 x2 x3 i _

/-! ## The gate's code and the log decay -/

theorem v5 (i : Fin 2048) (e : Fin 16) : val_main_v5 (F := Ideal) x0 x1 (ix2 i e) = ((args x0 x1 x2 x3).row i).low e := by
  pointwise [val_main_v5]
  exact v0 x0 x1 x2 x3 i _
theorem v22 (i : Fin 2048) (k : Fin 128) :
    val_main_v22 (F := Ideal) x0 x1 (ix2 i k) = (args x0 x1 x2 x3).code (ix2 i k) := by
  pointwise [val_main_v22, val_main_call1_v0, val_main_c]
  refine dite_congr rfl (fun h => v5 x0 x1 x2 x3 i _) fun _ => ?_
  show (((0#32 : BitVec 32).toInt : ℝ) : EReal) = 0
  simp
theorem v13 (i : Fin 2048) (n : Fin 256) :
    val_main_v13 (F := Ideal) x0 x1 x2 x3 (ix2 i n) = ((args x0 x1 x2 x3).row i).gate n := by
  pointwise [val_main_v13, val_main_v12, val_main_v11, val_main_v10]
  simp only [v5 x0 x1 x2 x3]
  rfl
theorem call0 (i : Fin 2048) (n : Fin 256) :
    val_main_call0_v1 (F := Ideal) x0 x1 x2 x3 (ix2 i n)
      = max (-((args x0 x1 x2 x3).row i).gate n) 0 + Ideal.log (1 + Ideal.exp
          (-max (-((args x0 x1 x2 x3).row i).gate n) (- -((args x0 x1 x2 x3).row i).gate n))) := by
  pointwise [val_main_call0_v1, val_main_call0_call0_v11, val_main_call0_call0_v10, val_main_call0_call0_v9,
    val_main_call0_call0_v8, val_main_call0_call0_v7, val_main_call0_call0_v6, val_main_call0_call0_v5,
    val_main_call0_call0_v4, val_main_call0_call0_v3, val_main_call0_call0_v2, val_main_call0_call0_v1,
    val_main_call0_call0_v0, val_main_call0_call0_cst, val_main_call0_v0]
  rw [v13]
  rw [if_neg (fun h => h rfl)]
  rfl
theorem v16 (i : Fin 2048) (n : Fin 256) :
    val_main_v16 (F := Ideal) x0 x1 x2 x3 (ix2 i n) = ((args x0 x1 x2 x3).row i).decay n := by
  pointwise [val_main_v16, val_main_v15, val_main_v14, val_main_cst]
  rw [call0, neg_softplus, div_cSixteen]
  rfl
theorem v24 (d : Fin 4) (i : Fin 2048) (k : Fin 64) :
    val_main_v24 (F := Ideal) x0 x1 x2 x3 (ix3 d i k) = (args x0 x1 x2 x3).decays (ix3 d i k) := by
  pointwise [val_main_v24, val_main_v23]
  exact v16 x0 x1 x2 x3 i _

end Cert.Proof.ProjIn.Ref

end
-- ==== Proof.ProjIn.Equation.lean ====
/- `proj_in` computes the reference: both runs end with the same ten arrays. -/
module

public import proofs.«01_k».proof.Defs
public import proofs.«01_k».proof.Proof.Gen.ProjInIdeal
public import proofs.«01_k».proof.Proof.ProjIn.Array
public import proofs.«01_k».proof.Proof.ProjIn.Ref

@[expose] public section

noncomputable section

namespace Cert.Proof.ProjIn

open Idealize.ShloMosaic Idealize.ShloMosaic.TcCoe Idealize.ShloMosaic.Pointwise Idealize.SL.Sem Idealize.ShloMosaic.StableHlo

/-- The reference's arguments, where it starts from the kernel's. -/
theorem ref_args {x0 y0 : (⟨2, ![2048, 1024]⟩ : Shape).Idx → EReal} {x1 y1 : (⟨2, ![1024, 4624]⟩ : Shape).Idx → EReal} {x2 y2 : (⟨2, ![16, 256]⟩ : Shape).Idx → EReal}
    {x3 y3 : (⟨1, ![256]⟩ : Shape).Idx → EReal} (e0 : x0 = y0) (e1 : x1 = y1) (e2 : x2 = y2) (e3 : x3 = y3) :
    Ref.args x0 x1 x2 x3 = Ref.args y0 y1 y2 y3 := by
  rw [e0, e1, e2, e3]

theorem algebraic : Cert.algebraic_ProjInIdeal_ProjInRefIdeal := by
  intro m g m' g' _ hin
  refine ⟨fun c => (args m c).heads 0 (by norm_num),
    fun c => (args m c).heads 256 (by norm_num),
    fun c => (args m c).cols 512 512 (by norm_num),
    fun c => (args m c).cols 1024 512 (by norm_num),
    fun c => (args m c).code,
    fun c => (args m c).cols 1552 512 (by norm_num),
    fun c => (args m c).cols 2064 512 (by norm_num),
    fun c => (args m c).cols 2576 1024 (by norm_num),
    fun c => (args m c).cols 3600 1024 (by norm_num),
    fun c => (args m c).decays, ?_, ?_⟩
  · refine (θ_run Cert.ProjInIdeal.defs _ _).mono (fun r h c => ?_) (Cert.ProjInIdeal.Value.run_blocks (F := Ideal) m g)
    obtain ⟨h0, h1, h2, h3, h4, h5, h6, h7, h8, h9, hargs⟩ := h c
    exact ⟨h0.trans (final4 m c), h1.trans (final5 m c), h2.trans (final6 m c), h3.trans (final7 m c), h4.trans (final8 m c), h5.trans (final9 m c), h6.trans (final10 m c), h7.trans (final11 m c), h8.trans (final12 m c), h9.trans (final13 m c), hargs⟩
  · refine (θ_run Cert.ProjInRefIdeal.defs _ _).mono (fun r h c => ?_) (Cert.ProjInRefIdeal.Value.run (F := Ideal) m' g')
    obtain ⟨h0, h1, h2, h3, h4, h5, h6, h7, h8, h9, hargs⟩ := h c
    obtain ⟨e0, e1, e2, e3⟩ := hin c
    have ha : Ref.args (m' (c.tc.loc Cert.ProjInRefIdeal.main_arg0)) (m' (c.tc.loc Cert.ProjInRefIdeal.main_arg1)) (m' (c.tc.loc Cert.ProjInRefIdeal.main_arg2)) (m' (c.tc.loc Cert.ProjInRefIdeal.main_arg3)) = args m c := ref_args e0 e1 e2 e3
    refine ⟨h0.trans ?_, h1.trans ?_, h2.trans ?_, h3.trans ?_, h4.trans ?_, h5.trans ?_, h6.trans ?_, h7.trans ?_, h8.trans ?_, h9.trans ?_, hargs⟩
    · refine (Cert.ProjInRefIdeal.Read.val_main_v18_eq (m' (c.tc.loc Cert.ProjInRefIdeal.main_arg0)) (m' (c.tc.loc Cert.ProjInRefIdeal.main_arg1))).trans ?_
      funext j
      obtain ⟨d, i, k, rfl⟩ := eq_ix3 (a := 4) (b := 2048) (c := 64) j
      exact (Ref.v18 _ _ (m' (c.tc.loc Cert.ProjInRefIdeal.main_arg2)) (m' (c.tc.loc Cert.ProjInRefIdeal.main_arg3)) d i k).trans (by rw [ha])
    · refine (Cert.ProjInRefIdeal.Read.val_main_v20_eq (m' (c.tc.loc Cert.ProjInRefIdeal.main_arg0)) (m' (c.tc.loc Cert.ProjInRefIdeal.main_arg1))).trans ?_
      funext j
      obtain ⟨d, i, k, rfl⟩ := eq_ix3 (a := 4) (b := 2048) (c := 64) j
      exact (Ref.v20 _ _ (m' (c.tc.loc Cert.ProjInRefIdeal.main_arg2)) (m' (c.tc.loc Cert.ProjInRefIdeal.main_arg3)) d i k).trans (by rw [ha])
    · refine (Cert.ProjInRefIdeal.Read.val_main_v21_eq (m' (c.tc.loc Cert.ProjInRefIdeal.main_arg0)) (m' (c.tc.loc Cert.ProjInRefIdeal.main_arg1))).trans ?_
      funext j
      obtain ⟨i, k, rfl⟩ := eq_ix2 (a := 2048) (b := 512) j
      exact (Ref.v21 _ _ (m' (c.tc.loc Cert.ProjInRefIdeal.main_arg2)) (m' (c.tc.loc Cert.ProjInRefIdeal.main_arg3)) i k).trans (by rw [ha])
    · refine (Cert.ProjInRefIdeal.Read.val_main_v4_eq (m' (c.tc.loc Cert.ProjInRefIdeal.main_arg0)) (m' (c.tc.loc Cert.ProjInRefIdeal.main_arg1))).trans ?_
      funext j
      obtain ⟨i, k, rfl⟩ := eq_ix2 (a := 2048) (b := 512) j
      exact (Ref.v4 _ _ (m' (c.tc.loc Cert.ProjInRefIdeal.main_arg2)) (m' (c.tc.loc Cert.ProjInRefIdeal.main_arg3)) i k).trans (by rw [ha])
    · refine (Cert.ProjInRefIdeal.Read.val_main_v22_eq (m' (c.tc.loc Cert.ProjInRefIdeal.main_arg0)) (m' (c.tc.loc Cert.ProjInRefIdeal.main_arg1))).trans ?_
      funext j
      obtain ⟨i, k, rfl⟩ := eq_ix2 (a := 2048) (b := 128) j
      exact (Ref.v22 _ _ (m' (c.tc.loc Cert.ProjInRefIdeal.main_arg2)) (m' (c.tc.loc Cert.ProjInRefIdeal.main_arg3)) i k).trans (by rw [ha])
    · refine (Cert.ProjInRefIdeal.Read.val_main_v6_eq (m' (c.tc.loc Cert.ProjInRefIdeal.main_arg0)) (m' (c.tc.loc Cert.ProjInRefIdeal.main_arg1))).trans ?_
      funext j
      obtain ⟨i, k, rfl⟩ := eq_ix2 (a := 2048) (b := 512) j
      exact (Ref.v6 _ _ (m' (c.tc.loc Cert.ProjInRefIdeal.main_arg2)) (m' (c.tc.loc Cert.ProjInRefIdeal.main_arg3)) i k).trans (by rw [ha])
    · refine (Cert.ProjInRefIdeal.Read.val_main_v7_eq (m' (c.tc.loc Cert.ProjInRefIdeal.main_arg0)) (m' (c.tc.loc Cert.ProjInRefIdeal.main_arg1))).trans ?_
      funext j
      obtain ⟨i, k, rfl⟩ := eq_ix2 (a := 2048) (b := 512) j
      exact (Ref.v7 _ _ (m' (c.tc.loc Cert.ProjInRefIdeal.main_arg2)) (m' (c.tc.loc Cert.ProjInRefIdeal.main_arg3)) i k).trans (by rw [ha])
    · refine (Cert.ProjInRefIdeal.Read.val_main_v8_eq (m' (c.tc.loc Cert.ProjInRefIdeal.main_arg0)) (m' (c.tc.loc Cert.ProjInRefIdeal.main_arg1))).trans ?_
      funext j
      obtain ⟨i, k, rfl⟩ := eq_ix2 (a := 2048) (b := 1024) j
      exact (Ref.v8 _ _ (m' (c.tc.loc Cert.ProjInRefIdeal.main_arg2)) (m' (c.tc.loc Cert.ProjInRefIdeal.main_arg3)) i k).trans (by rw [ha])
    · refine (Cert.ProjInRefIdeal.Read.val_main_v9_eq (m' (c.tc.loc Cert.ProjInRefIdeal.main_arg0)) (m' (c.tc.loc Cert.ProjInRefIdeal.main_arg1))).trans ?_
      funext j
      obtain ⟨i, k, rfl⟩ := eq_ix2 (a := 2048) (b := 1024) j
      exact (Ref.v9 _ _ (m' (c.tc.loc Cert.ProjInRefIdeal.main_arg2)) (m' (c.tc.loc Cert.ProjInRefIdeal.main_arg3)) i k).trans (by rw [ha])
    · refine (Cert.ProjInRefIdeal.Read.val_main_v24_eq (m' (c.tc.loc Cert.ProjInRefIdeal.main_arg0)) (m' (c.tc.loc Cert.ProjInRefIdeal.main_arg1)) (m' (c.tc.loc Cert.ProjInRefIdeal.main_arg2)) (m' (c.tc.loc Cert.ProjInRefIdeal.main_arg3))).trans ?_
      funext j
      obtain ⟨d, i, k, rfl⟩ := eq_ix3 (a := 4) (b := 2048) (c := 64) j
      exact (Ref.v24 _ _ (m' (c.tc.loc Cert.ProjInRefIdeal.main_arg2)) (m' (c.tc.loc Cert.ProjInRefIdeal.main_arg3)) d i k).trans (by rw [ha])

end Cert.Proof.ProjIn

end
-- ==== Proof.DecayBwd.Block.lean ====
/- One grid point of `gla_decay_bwd`: what its body leaves in each output's block, as a function of the four input
   blocks. The row output is a function of the point's blocks alone; the gradients of the weight and of the bias are the
   point's own sums at the first point and those sums added to what the point before left at the others. -/
module

public import proofs.«01_k».proof.Proof.Gen.DecayBwdIdeal.Value

@[expose] public section

set_option maxRecDepth 16384

noncomputable section

namespace Cert.Proof.DecayBwd

open Cert.DecayBwdIdeal Cert.DecayBwdIdeal.Gen Idealize.ShloMosaic Idealize.ShloMosaic.TcCoe Idealize.ShloMosaic.Tactic

variable {F : FTy → Type} [FloatOps F]

/-- The four input blocks of a point: the gate's code, the gradient at the log decay head by head, the gate's weight and
    its bias. -/
structure Ins (F : FTy → Type) where
  a : Vec F S256x128 .f32
  ct : Vec F S4x256x64 .f32
  w : Vec F S128x256 .f32
  b : Vec F S1x256 .f32

/-- The block of the gradient at the gate. -/
def bG (b : Ins F) : FVec F S256x256 .f32 :=
  k0_pay14 (k0_pay6 b.a b.w b.b) (k0_pay7 b.a b.w b.b) (k0_pay8 b.a b.w b.b) (k0_pay9 b.a b.w b.b)
    (k0_pay10 b.ct) (k0_pay11 b.ct) (k0_pay12 b.ct) (k0_pay13 b.ct)
/-- The block of the gradient at the code. -/
def bLow (b : Ins F) : FVec F S256x128 .bf16 :=
  k0_pay17 (k0_pay4 b.w) (k0_pay6 b.a b.w b.b) (k0_pay7 b.a b.w b.b) (k0_pay8 b.a b.w b.b) (k0_pay9 b.a b.w b.b)
    (k0_pay10 b.ct) (k0_pay11 b.ct) (k0_pay12 b.ct) (k0_pay13 b.ct)
/-- The block's part of the gradient of the weight. -/
def bDw (b : Ins F) : FVec F S128x256 .f32 :=
  k0_pay16 (k0_pay2 b.a) (k0_pay6 b.a b.w b.b) (k0_pay7 b.a b.w b.b) (k0_pay8 b.a b.w b.b) (k0_pay9 b.a b.w b.b)
    (k0_pay10 b.ct) (k0_pay11 b.ct) (k0_pay12 b.ct) (k0_pay13 b.ct)
/-- That part added to `p`. -/
def bDwAcc (b : Ins F) (p : Vec F S128x256 .f32) : FVec F S128x256 .f32 :=
  k0_pay18 (k0_pay2 b.a) (k0_pay6 b.a b.w b.b) (k0_pay7 b.a b.w b.b) (k0_pay8 b.a b.w b.b) (k0_pay9 b.a b.w b.b)
    (k0_pay10 b.ct) (k0_pay11 b.ct) (k0_pay12 b.ct) (k0_pay13 b.ct) p
/-- The block's part of the gradient of the bias. -/
def bDb (b : Ins F) : FVec F S1x256 .f32 :=
  k0_pay15 (k0_pay6 b.a b.w b.b) (k0_pay7 b.a b.w b.b) (k0_pay8 b.a b.w b.b) (k0_pay9 b.a b.w b.b)
    (k0_pay10 b.ct) (k0_pay11 b.ct) (k0_pay12 b.ct) (k0_pay13 b.ct)

variable (m : (ℓ : Loc nD τ sig) → Buf (Elt F) ℓ)

/-- The input blocks of point `t`. -/
def ins (c : Dev nD) (t : Fin cfg0.N) : Ins F := ⟨iblk m c 0 t, iblk m c 1 t, iblk m c 2 t, iblk m c 3 t⟩

theorem hz : (![0, 0] : Fin 2 → Nat) = fun _ => 0 := funext fun a => by fin_cases a <;> rfl
theorem hz3 : (![0, 0, 0] : Fin 3 → Nat) = fun _ => 0 := funext fun a => by fin_cases a <;> rfl

section CaseA

/-! The first point: each output's block, from the run's pieces. -/

variable (c : Dev nD) (i : grid0.Coords) (arg1 : Memref sig .tc .vmem S256x128 .f32) (harg1 : arg1.IsWhole) (arg2 : Memref sig .tc .vmem S4x256x64 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .bf16) (harg5 : arg5.IsWhole) (arg6 : Memref sig .tc .vmem S128x256 .f32) (harg6 : arg6.IsWhole) (arg7 : Memref sig .tc .vmem S1x256 .f32) (harg7 : arg7.IsWhole) (hc0 : cond0_0 i) (hc1 : ¬cond0_1 i) (hc2 : cond0_2 i) (hc3 : ¬cond0_3 i)
    (x0 : Vec F S256x128 .f32) (x1 : Vec F S4x256x64 .f32) (x2 : Vec F S128x256 .f32) (x3 : Vec F S1x256 .f32)

theorem out_A_4 : out0_A_4 c i arg1 harg1 arg2 harg2 arg3 harg3 arg4 harg4 arg5 harg5 arg6 harg6 arg7 harg7 hc0 hc1 hc2 hc3 x0 x1 x2 x3 =
    bLow ⟨x0, x1, x2, x3⟩ := by
  unfold out0_A_4
  rw [View.read_writes_eq_canon _ _ _ (cover0_A_4 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S256x128) hz, View.ld_unit_zero (S := S4x256x64) hz3, View.ld_unit_zero (S := S128x256) hz, View.ld_unit_zero (S := S1x256) hz]
  unfold bLow
  rfl

theorem out_A_5 : out0_A_5 c i arg1 harg1 arg2 harg2 arg3 harg3 arg4 harg4 arg5 harg5 arg6 harg6 arg7 harg7 hc0 hc1 hc2 hc3 x0 x1 x2 x3 =
    bDw ⟨x0, x1, x2, x3⟩ := by
  unfold out0_A_5
  rw [View.read_writes_eq_canon _ _ _ (cover0_A_5 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S256x128) hz, View.ld_unit_zero (S := S4x256x64) hz3, View.ld_unit_zero (S := S128x256) hz, View.ld_unit_zero (S := S1x256) hz]
  unfold bDw
  rfl

theorem out_A_6 : out0_A_6 c i arg1 harg1 arg2 harg2 arg3 harg3 arg4 harg4 arg5 harg5 arg6 harg6 arg7 harg7 hc0 hc1 hc2 hc3 x0 x1 x2 x3 =
    bDb ⟨x0, x1, x2, x3⟩ := by
  unfold out0_A_6
  rw [View.read_writes_eq_canon _ _ _ (cover0_A_6 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S256x128) hz, View.ld_unit_zero (S := S4x256x64) hz3, View.ld_unit_zero (S := S128x256) hz, View.ld_unit_zero (S := S1x256) hz]
  unfold bDb
  rfl

end CaseA

section CaseB

/-! A later point: each output's block, from the run's pieces and what the point before left. -/

variable (c : Dev nD) (i : grid0.Coords) (arg1 : Memref sig .tc .vmem S256x128 .f32) (harg1 : arg1.IsWhole) (arg2 : Memref sig .tc .vmem S4x256x64 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x128 .bf16) (harg5 : arg5.IsWhole) (arg6 : Memref sig .tc .vmem S128x256 .f32) (harg6 : arg6.IsWhole) (arg7 : Memref sig .tc .vmem S1x256 .f32) (harg7 : arg7.IsWhole) (hc0 : ¬cond0_0 i) (hc1 : cond0_1 i) (hc2 : ¬cond0_2 i) (hc3 : cond0_3 i)
    (x0 : Vec F S256x128 .f32) (x1 : Vec F S4x256x64 .f32) (x2 : Vec F S128x256 .f32) (x3 : Vec F S1x256 .f32)
    (xo5 : Vec F S128x256 .f32) (xo6 : Vec F S1x256 .f32)

theorem out_B_4 : out0_B_4 c i arg1 harg1 arg2 harg2 arg3 harg3 arg4 harg4 arg5 harg5 arg6 harg6 arg7 harg7 hc0 hc1 hc2 hc3 x0 x1 x2 x3 xo5 xo6 =
    bLow ⟨x0, x1, x2, x3⟩ := by
  unfold out0_B_4
  rw [View.read_writes_eq_canon _ _ _ (cover0_B_4 c i arg1 harg1 arg2 harg2 arg3 harg3 arg4 harg4 arg5 harg5 arg6 harg6 arg7 harg7 hc0 hc1 hc2 hc3 x0 x1 x2 x3 xo5 xo6)]
  unfold kernelRun0_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S256x128) hz, View.ld_unit_zero (S := S4x256x64) hz3, View.ld_unit_zero (S := S128x256) hz, View.ld_unit_zero (S := S1x256) hz]
  unfold bLow
  rfl

theorem out_B_5 : out0_B_5 c i arg1 harg1 arg2 harg2 arg3 harg3 arg4 harg4 arg5 harg5 arg6 harg6 arg7 harg7 hc0 hc1 hc2 hc3 x0 x1 x2 x3 xo5 xo6 =
    bDwAcc ⟨x0, x1, x2, x3⟩ xo5 := by
  unfold out0_B_5
  rw [View.read_writes_eq_canon _ _ _ (cover0_B_5 c i arg1 harg1 arg2 harg2 arg3 harg3 arg4 harg4 arg5 harg5 arg6 harg6 arg7 harg7 hc0 hc1 hc2 hc3 x0 x1 x2 x3 xo5 xo6)]
  unfold kernelRun0_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S256x128) hz, View.ld_unit_zero (S := S4x256x64) hz3, View.ld_unit_zero (S := S128x256) hz, View.ld_unit_zero (S := S1x256) hz]
  unfold bDwAcc
  rfl

theorem out_B_6 : out0_B_6 c i arg1 harg1 arg2 harg2 arg3 harg3 arg4 harg4 arg5 harg5 arg6 harg6 arg7 harg7 hc0 hc1 hc2 hc3 x0 x1 x2 x3 xo5 xo6 =
    k0_pay1 (bDb ⟨x0, x1, x2, x3⟩) xo6 := by
  unfold out0_B_6
  rw [View.read_writes_eq_canon _ _ _ (cover0_B_6 c i arg1 harg1 arg2 harg2 arg3 harg3 arg4 harg4 arg5 harg5 arg6 harg6 arg7 harg7 hc0 hc1 hc2 hc3 x0 x1 x2 x3 xo5 xo6)]
  unfold kernelRun0_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S256x128) hz, View.ld_unit_zero (S := S4x256x64) hz3, View.ld_unit_zero (S := S128x256) hz, View.ld_unit_zero (S := S1x256) hz]
  unfold bDb
  rfl

end CaseB

/-- What the first point leaves: its own values. -/
theorem outs_first (c : Dev nD) (t : Fin cfg0.N) (h : t.val % 8 = 0) (h1 : ¬1 ≤ t.val) :
    outsAt0 m c t.val t.isLt = (bLow (ins m c t), bDw (ins m c t), bDb (ins m c t)) := by
  rw [outsAt0_A m c t h h1 h h1, out_A_4, out_A_5, out_A_6]
  rfl

/-- What a later point leaves: its own rows, and its sums added to what the point before left. -/
theorem outs_later (c : Dev nD) (t : Fin cfg0.N) (h : ¬t.val % 8 = 0) (h1 : 1 ≤ t.val) :
    outsAt0 m c t.val t.isLt = (bLow (ins m c t),
      bDwAcc (ins m c t) (outsAt0 m c (t.val - 1) (Nat.lt_of_le_of_lt (Nat.sub_le _ _) t.isLt)).2.1,
      k0_pay1 (bDb (ins m c t)) (outsAt0 m c (t.val - 1) (Nat.lt_of_le_of_lt (Nat.sub_le _ _) t.isLt)).2.2) := by
  rw [outsAt0_B m c t h h1 h h1, out_B_4, out_B_5, out_B_6]
  rfl

end Cert.Proof.DecayBwd

end
-- ==== Proof.DecayBwd.Spec.lean ====
/- What `gla_decay_bwd` should compute: the gradient of the log decay, a sixteenth of the log sigmoid of a gate, at the
   gate's code, at the gate's weight and at its bias. -/
module

public import proofs.«01_k».proof.Proof.ProjIn.Spec

@[expose] public section

noncomputable section

namespace Cert.Proof.DecayBwd

open Idealize.ShloMosaic Cert.Proof.Scalars Cert.Proof.ProjIn

/-- The derivative of the log sigmoid: the sigmoid of minus the value. -/
def slope (x : EReal) : EReal := (1 + Ideal.exp x)⁻¹

/-- The arguments by row and column. -/
structure Args where
  a : Fin 2048 → Fin 16 → EReal
  w : Fin 16 → Fin 256 → EReal
  b : Fin 256 → EReal
  ct : Fin 2048 → Fin 256 → EReal

/-- The gate before its sigmoid. -/
def Args.gate (x : Args) (i : Fin 2048) (n : Fin 256) : EReal := (∑ e, x.a i e * x.w e n) + x.b n
/-- The gradient at it. -/
def Args.dgate (x : Args) (i : Fin 2048) (n : Fin 256) : EReal := x.ct i n * cSixteenth * slope (x.gate i n)
/-- The gradient at the code. -/
def Args.dlow (x : Args) (i : Fin 2048) (e : Fin 16) : EReal := ∑ n, x.dgate i n * x.w e n
/-- The gradient of the weight. -/
def Args.dw (x : Args) (e : Fin 16) (n : Fin 256) : EReal := ∑ i, x.a i e * x.dgate i n
/-- The gradient of the bias. -/
def Args.db (x : Args) (n : Fin 256) : EReal := ∑ i, x.dgate i n

/-- The first result: the gradient at the code, with zeros to 128 columns. -/
def Args.outLow (x : Args) : (⟨2, ![2048, 128]⟩ : Shape).Idx → EReal :=
  fun j => if h : (j 1).val < 16 then x.dlow (j 0) ⟨(j 1).val, h⟩ else 0
/-- The second: the gradient of the weight, with zeros to 128 rows. -/
def Args.outW (x : Args) : (⟨2, ![128, 256]⟩ : Shape).Idx → EReal :=
  fun j => if h : (j 0).val < 16 then x.dw ⟨(j 0).val, h⟩ (j 1) else 0
/-- The third: the gradient of the bias as a row. -/
def Args.outB (x : Args) : (⟨2, ![1, 256]⟩ : Shape).Idx → EReal := fun j => x.db (j 1)

/-- No gate is zero and every gradient at the log decay is a real number. -/
structure Args.Smooth (x : Args) : Prop where
  ct : ∀ i n, x.ct i n ≠ ⊤ ∧ x.ct i n ≠ ⊥
  gate : ∀ i n, x.gate i n ≠ 0

/-! ## The derivative as the kernel writes it: a part from the minimum, and a part from the correction -/

theorem slope_coe (r : ℝ) : slope (r : EReal) = ((1 / (1 + Real.exp r) : ℝ) : EReal) := by
  unfold slope
  rw [Ideal.exp_coe, ← EReal.coe_one, ← EReal.coe_add, ← EReal.coe_inv, one_div]

/-- The correction's part, from the exponential `e`. -/
theorem correction_grad (y e : ℝ) (he : 0 ≤ e) :
    0 - Ideal.div (0 - (y : EReal)) (1 + (e : EReal)) * (e : EReal) = ((y * e / (1 + e) : ℝ) : EReal) := by
  have h1 : (1 + e : ℝ) ≠ 0 := by positivity
  have h : (1 + (e : EReal)) = ((1 + e : ℝ) : EReal) := by rw [EReal.coe_add, EReal.coe_one]
  rw [h, Ideal.div, if_neg (by exact_mod_cast h1), ← EReal.coe_inv, zero_sub, zero_sub, ← EReal.coe_neg, ← EReal.coe_mul,
    ← EReal.coe_mul, ← EReal.coe_neg]
  congr 1
  field_simp

theorem one_add_top : (1 : EReal) + ⊤ = ⊤ := EReal.add_top_of_ne_bot (EReal.coe_ne_bot 1)
/-- The larger of two real numbers. -/
theorem coe_max (a b : ℝ) : ((max a b : ℝ) : EReal) = max (a : EReal) (b : EReal) :=
  (show Monotone ((↑) : ℝ → EReal) from fun _ _ h => EReal.coe_le_coe_iff.mpr h).map_max

theorem kernel_form (y : ℝ) (x : EReal) (hx : x ≠ 0) (z : EReal) :
    (if 0 ≤ x then 0 - Ideal.div (0 - (y : EReal)) (1 + Ideal.exp (0 - if 0 ≤ x then x else 0 - x))
          * Ideal.exp (0 - if 0 ≤ x then x else 0 - x) else 0)
        + (0 - if 0 ≤ x then 0 else 0 - Ideal.div (0 - (y : EReal)) (1 + Ideal.exp (0 - if 0 ≤ x then x else 0 - x))
          * Ideal.exp (0 - if 0 ≤ x then x else 0 - x))
        + y * (if x < 0 then 1 else if 0 = x then z else 0)
      = y * slope x := by
  induction x with
  | bot =>
    have e : Ideal.exp (0 - if (0 : EReal) ≤ ⊥ then ⊥ else 0 - ⊥) = ((0 : ℝ) : EReal) := by
      rw [if_neg (by simp), EReal.sub_bot (by simp), EReal.sub_top, Ideal.exp_bot, EReal.coe_zero]
    rw [e, correction_grad y 0 le_rfl, if_neg (by simp), if_neg (by simp), if_pos (by simp)]
    unfold slope
    rw [Ideal.exp_bot]
    simp
  | top =>
    have e : Ideal.exp (0 - if (0 : EReal) ≤ ⊤ then ⊤ else 0 - ⊤) = ((0 : ℝ) : EReal) := by
      rw [if_pos (by simp), EReal.sub_top, Ideal.exp_bot, EReal.coe_zero]
    rw [e, correction_grad y 0 le_rfl, if_pos (by simp), if_pos (by simp), if_neg (by simp), if_neg (by simp)]
    unfold slope
    rw [Ideal.exp_top, one_add_top, EReal.inv_top]
    simp
  | coe r =>
    have hr : r ≠ 0 := by exact_mod_cast hx
    rw [slope_coe]
    by_cases h : 0 < r
    · have h' : (0 : EReal) ≤ (r : EReal) := by exact_mod_cast h.le
      have hn : ¬(r : EReal) < 0 := not_lt.mpr h'
      have e : Ideal.exp (0 - if (0 : EReal) ≤ (r : EReal) then (r : EReal) else 0 - (r : EReal)) = ((Real.exp (-r) : ℝ) : EReal) := by
        rw [if_pos h', zero_sub, ← EReal.coe_neg, Ideal.exp_coe]
      rw [e, correction_grad y _ (Real.exp_pos _).le, if_pos h', if_pos h', if_neg hn, if_neg (Ne.symm hx), mul_zero,
        sub_zero, add_zero, add_zero, ← EReal.coe_mul]
      congr 1
      rw [Real.exp_neg]
      have := Real.exp_pos r
      field_simp
      ring
    · have h0 : r < 0 := lt_of_le_of_ne (not_lt.mp h) hr
      have hn : (r : EReal) < 0 := by exact_mod_cast h0
      have h' : ¬(0 : EReal) ≤ (r : EReal) := not_le.mpr hn
      have e : Ideal.exp (0 - if (0 : EReal) ≤ (r : EReal) then (r : EReal) else 0 - (r : EReal)) = ((Real.exp r : ℝ) : EReal) := by
        rw [if_neg h', zero_sub, zero_sub, neg_neg, Ideal.exp_coe]
      rw [e, correction_grad y _ (Real.exp_pos _).le, if_neg h', if_neg h', if_pos hn, mul_one, zero_add, zero_sub,
        ← EReal.coe_neg, ← EReal.coe_add, ← EReal.coe_mul]
      congr 1
      have := Real.exp_pos r
      field_simp
      ring

/-! ## The derivative as the reference writes it: an exponential of a difference, its infinite parts put to zero -/

theorem reference_form (x : EReal) :
    Ideal.exp ((if -x = ⊤ then 0 else -x)
        - (if max (-x) 0 + Ideal.log (1 + Ideal.exp (-max (-x) (- -x))) = ⊤ then 0
            else max (-x) 0 + Ideal.log (1 + Ideal.exp (-max (-x) (- -x)))))
      = slope x := by
  have log1 : Ideal.log (1 + 0) = 0 := by
    rw [add_zero, ← EReal.coe_one, Ideal.log_coe, if_neg (by norm_num), Real.log_one, EReal.coe_zero]
  unfold slope
  induction x with
  | bot =>
    have s : max (-(⊥ : EReal)) 0 + Ideal.log (1 + Ideal.exp (-max (-(⊥ : EReal)) (- -(⊥ : EReal)))) = ⊤ := by
      rw [EReal.neg_bot, EReal.neg_top, max_eq_left bot_le, EReal.neg_top, Ideal.exp_bot, log1, add_zero, max_eq_left le_top]
    rw [s, if_pos rfl, if_pos EReal.neg_bot, sub_zero, Ideal.exp_bot, ← EReal.coe_zero, Ideal.exp_coe]
    simp
  | top => simp [log1, Ideal.exp_bot, Ideal.exp_top, one_add_top]
  | coe r =>
    have hs := slope_coe r
    unfold slope at hs
    have e : max (-(r : EReal)) (- -(r : EReal)) = ((|r| : ℝ) : EReal) := by
      rw [neg_neg, ← EReal.coe_neg, max_comm, ← coe_max]
      rfl
    have p : ¬(1 + Real.exp (-|r|) ≤ 0) := not_le.mpr (add_pos one_pos (Real.exp_pos _))
    have s : max (-(r : EReal)) 0 + Ideal.log (1 + Ideal.exp (-max (-(r : EReal)) (- -(r : EReal))))
        = ((max (-r) 0 + Real.log (1 + Real.exp (-|r|)) : ℝ) : EReal) := by
      rw [e, ← EReal.coe_neg, ← EReal.coe_neg, Ideal.exp_coe, ← EReal.coe_one, ← EReal.coe_add, Ideal.log_coe, if_neg p,
        ← EReal.coe_zero, ← coe_max, ← EReal.coe_add]
    rw [s, if_neg (EReal.coe_ne_top _), ← EReal.coe_neg, if_neg (EReal.coe_ne_top _), ← EReal.coe_sub, Ideal.exp_coe, hs]
    congr 1
    have q : 0 < 1 + Real.exp (-|r|) := add_pos one_pos (Real.exp_pos _)
    have l := Real.exp_log q
    have := Real.exp_pos r
    rcases le_total 0 r with h | h
    · rw [max_eq_right (by linarith), zero_add, Real.exp_sub, l, abs_of_nonneg h, Real.exp_neg]
      field_simp
      ring
    · rw [max_eq_left (by linarith), sub_add_eq_sub_sub, sub_self, zero_sub, Real.exp_neg, l, abs_of_nonpos h, neg_neg, one_div]

end Cert.Proof.DecayBwd

end
-- ==== Proof.DecayBwd.BlockValue.lean ====
/- The blocks of `gla_decay_bwd` read at an index. -/
module

public import proofs.«01_k».proof.Proof.DecayBwd.Block
public import proofs.«01_k».proof.Proof.DecayBwd.Spec
public import Idealize.ShloMosaic.Lib.Pointwise

@[expose] public section

noncomputable section

namespace Cert.Proof.DecayBwd

open Cert.DecayBwdIdeal Cert.DecayBwdIdeal.Gen Idealize.ShloMosaic Idealize.ShloMosaic.TcCoe
open Idealize.ShloMosaic.Pointwise Cert.Proof.Scalars Cert.Proof.ProjIn

variable (b : Ins Ideal)

/-- The block's gate. -/
def bGate (r n : Fin 256) : EReal := (∑ x, b.a (ix2 r x) * b.w (ix2 x n)) + b.b (ix2 0 n)
/-- The block's gradient at the log decay, its heads side by side. -/
def bCt (r n : Fin 256) : EReal := b.ct (ix3 (⟨n.val / 64, by omega⟩ : Fin 4) r (⟨n.val % 64, by omega⟩ : Fin 64))

theorem pay5_apply (r n : Fin 256) : k0_pay5 (F := Ideal) b.a b.w b.b (ix2 r n) = bGate b r n := by
  pointwise [k0_pay5, k0_pay2, k0_pay4]
  rfl

/-- Four runs of sixty-four columns side by side. -/
theorem heads_side (r n : Fin 256) :
    (if h : n.val < 64 then b.ct (ix3 (0 : Fin 4) r (⟨n.val, h⟩ : Fin 64))
      else if h : n.val - 64 < 64 then b.ct (ix3 (1 : Fin 4) r (⟨n.val - 64, h⟩ : Fin 64))
      else if h : n.val - 64 - 64 < 64 then b.ct (ix3 (2 : Fin 4) r (⟨n.val - 64 - 64, h⟩ : Fin 64))
      else b.ct (ix3 (3 : Fin 4) r (⟨n.val - 64 - 64 - 64, by omega⟩ : Fin 64)) : EReal) = bCt b r n := by
  have key : ∀ (d : Fin 4) (p : Fin 64), n.val = d.val * 64 + p.val → b.ct (ix3 d r p) = bCt b r n := fun d p e =>
    congrArg₂ (fun (d : Fin 4) (p : Fin 64) => b.ct (ix3 d r p)) (Fin.ext (by dsimp only; omega)) (Fin.ext (by dsimp only; omega))
  by_cases h0 : n.val < 64
  · rw [dif_pos h0]
    exact key 0 _ (by show n.val = 0 * 64 + n.val; omega)
  rw [dif_neg h0]
  by_cases h1 : n.val - 64 < 64
  · rw [dif_pos h1]
    exact key 1 _ (by show n.val = 1 * 64 + (n.val - 64); omega)
  rw [dif_neg h1]
  by_cases h2 : n.val - 64 - 64 < 64
  · rw [dif_pos h2]
    exact key 2 _ (by show n.val = 2 * 64 + (n.val - 64 - 64); omega)
  rw [dif_neg h2]
  exact key 3 _ (by show n.val = 3 * 64 + (n.val - 64 - 64 - 64); omega)

theorem bG_apply (r n : Fin 256) (y : ℝ) (hy : bCt b r n * cSixteenth = (y : EReal)) (hx : bGate b r n ≠ 0) :
    bG b (ix2 r n) = bCt b r n * cSixteenth * slope (bGate b r n) := by
  unfold bG
  pointwise [k0_pay14, k0_pay6, k0_pay9, k0_pay8, k0_pay7, k0_pay10, k0_pay11, k0_pay12, k0_pay13, k0_pay3]
  simp only [pay5_apply, heads_side]
  rw [hy]
  exact kernel_form y _ hx _

theorem bLow_apply (r : Fin 256) (e : Fin 128) : bLow b (ix2 r e) = ∑ n, bG b (ix2 r n) * b.w (ix2 e n) := by
  unfold bLow
  pointwise [k0_pay17, k0_pay4]
  rfl

theorem bDw_apply (e : Fin 128) (n : Fin 256) : bDw b (ix2 e n) = ∑ r, b.a (ix2 r e) * bG b (ix2 r n) := by
  unfold bDw
  pointwise [k0_pay16, k0_pay2]
  rfl

theorem bDwAcc_apply (p : Vec Ideal S128x256 .f32) (e : Fin 128) (n : Fin 256) :
    bDwAcc b p (ix2 e n) = p (ix2 e n) + bDw b (ix2 e n) := by
  unfold bDwAcc
  pointwise [k0_pay18]
  rfl

theorem bDb_apply (n : Fin 256) : bDb b (ix2 0 n) = ∑ r, bG b (ix2 r n) := by
  unfold bDb
  pointwise [k0_pay15]
  rfl

theorem acc_apply (d p : FVec Ideal S1x256 .f32) (n : Fin 256) : k0_pay1 d p (ix2 0 n) = p (ix2 0 n) + d (ix2 0 n) := by
  pointwise [k0_pay1]

end Cert.Proof.DecayBwd

end
-- ==== Proof.DecayBwd.Host.lean ====
/- The arrays the host lines hand to the kernel, at an index: the gate's code with columns of zeros to 128, the gradient
   at the log decay head by head, the gate's weight with rows of zeros to 128, the gate's bias as a row. -/
module

public import proofs.«01_k».proof.Proof.Gen.DecayBwdIdeal.Frame
public import proofs.«01_k».proof.Proof.DecayBwd.Spec
public import Idealize.ShloMosaic.Lib.Pointwise

@[expose] public section

noncomputable section

namespace Cert.Proof.DecayBwd

open Cert.DecayBwdIdeal Cert.DecayBwdIdeal.Gen Idealize.ShloMosaic Idealize.ShloMosaic.TcCoe
open Idealize.ShloMosaic.StableHlo Idealize.ShloMosaic.Pointwise

variable (m : (ℓ : Loc nD τ sig) → Buf (Elt Ideal) ℓ) (c : Dev nD)

/-- The program's arguments. -/
abbrev aA : S2048x16.Idx → EReal := m ((c : Thread nD τ).loc main_arg0)
abbrev aW : S16x256.Idx → EReal := m ((c : Thread nD τ).loc main_arg1)
abbrev aB : S256.Idx → EReal := m ((c : Thread nD τ).loc main_arg2)
abbrev aCt : S2048x256.Idx → EReal := m ((c : Thread nD τ).loc main_arg3)

/-- The same by row and column. -/
def args : Args where
  a i e := aA m c (ix2 i e)
  w e n := aW m c (ix2 e n)
  b n := aB m c (ix1 n)
  ct i n := aCt m c (ix2 i n)

theorem V0 (i : Fin 2048) (e : Fin 128) : V m c main_v0 (ix2 i e)
    = if h : e.val < 16 then aA m c (ix2 i (⟨e.val, h⟩ : Fin 16)) else 0 := by
  unfold V hostOps0 hostOps0_1 hostOps0_2 hostOps0_3
  simp only [List.flatten_cons, List.flatten_nil, List.append_nil, List.cons_append, List.nil_append]
  after_results
  simp only [TRef.toBuf, TRef.ofBuf, cast_eq]
  pointwise
  refine dite_congr rfl (fun _ => rfl) fun _ => ?_
  show (((0#32 : BitVec 32).toInt : ℝ) : EReal) = 0
  simp
theorem V2 (d : Fin 4) (i : Fin 2048) (e : Fin 64) : V m c main_v2 (ix3 d i e)
    = aCt m c (ix2 i (⟨d.val * 64 + e.val, by omega⟩ : Fin 256)) := by
  unfold V hostOps0 hostOps0_1 hostOps0_2 hostOps0_3
  simp only [List.flatten_cons, List.flatten_nil, List.append_nil, List.cons_append, List.nil_append]
  after_results
  pointwise
theorem V4 (e : Fin 128) (n : Fin 256) : V m c main_v4 (ix2 e n)
    = if h : e.val < 16 then aW m c (ix2 (⟨e.val, h⟩ : Fin 16) n) else 0 := by
  unfold V hostOps0 hostOps0_1 hostOps0_2 hostOps0_3
  simp only [List.flatten_cons, List.flatten_nil, List.append_nil, List.cons_append, List.nil_append]
  after_results
  simp only [TRef.toBuf, TRef.ofBuf, cast_eq]
  pointwise
  refine dite_congr rfl (fun _ => rfl) fun _ => ?_
  show (((0#32 : BitVec 32).toInt : ℝ) : EReal) = 0
  simp
theorem V3 (q : Fin 1) (n : Fin 256) : V m c main_v3 (ix2 q n) = aB m c (ix1 n) := by
  unfold V hostOps0 hostOps0_1 hostOps0_2 hostOps0_3
  simp only [List.flatten_cons, List.flatten_nil, List.append_nil, List.cons_append, List.nil_append]
  after_results
  pointwise

end Cert.Proof.DecayBwd

end
-- ==== Proof.DecayBwd.Array.lean ====
/- The three result arrays of `gla_decay_bwd` after its run, as functions of the arguments: block `t` of the row output is
   rows 256 t to 256 t + 255; the gradients of the weight and of the bias, kept in one block each over the eight points,
   are sums over all rows. -/
module

public import proofs.«01_k».proof.Proof.DecayBwd.BlockValue
public import proofs.«01_k».proof.Proof.DecayBwd.Host

@[expose] public section

noncomputable section

namespace Cert.Proof.DecayBwd

open Cert.DecayBwdIdeal Cert.DecayBwdIdeal.Gen Cert.DecayBwdIdeal.Value Idealize.ShloMosaic Idealize.ShloMosaic.TcCoe
open Idealize.ShloMosaic.Pointwise Cert.Proof.ProjIn

variable (m : (ℓ : Loc nD τ sig) → Buf (Elt Ideal) ℓ) (c : Dev nD)

/-- Row `r` of block `t`. -/
abbrev at256 (t : Fin cfg0.N) (r : Fin 256) : Fin 2048 :=
  ⟨t.val * 256 + r.val, by have : cfg0.N = 8 := N_0; have := t.isLt; omega⟩

/-! ## Where a block lies -/

theorem ixw0 : ∀ t : Fin cfg0.N, win0_0.index t 0 = t.val ∧ win0_0.index t 1 = 0 := (by decide +kernel : ∀ t : Fin grid0.N, _)
theorem ixw1 : ∀ t : Fin cfg0.N, win0_1.index t 0 = 0 ∧ win0_1.index t 1 = t.val ∧ win0_1.index t 2 = 0 :=
  (by decide +kernel : ∀ t : Fin grid0.N, _)
theorem ixw2 : ∀ t : Fin cfg0.N, win0_2.index t 0 = 0 ∧ win0_2.index t 1 = 0 := (by decide +kernel : ∀ t : Fin grid0.N, _)
theorem ixw3 : ∀ t : Fin cfg0.N, win0_3.index t 0 = 0 ∧ win0_3.index t 1 = 0 := (by decide +kernel : ∀ t : Fin grid0.N, _)
theorem ixw4 : ∀ t : Fin cfg0.N, win0_4.index t 0 = t.val ∧ win0_4.index t 1 = 0 := (by decide +kernel : ∀ t : Fin grid0.N, _)
theorem ixw5 : ∀ t : Fin cfg0.N, win0_5.index t 0 = 0 ∧ win0_5.index t 1 = 0 := (by decide +kernel : ∀ t : Fin grid0.N, _)
theorem ixw6 : ∀ t : Fin cfg0.N, win0_6.index t 0 = 0 ∧ win0_6.index t 1 = 0 := (by decide +kernel : ∀ t : Fin grid0.N, _)

theorem emb0 (t : Fin cfg0.N) (r : Fin 256) (e : Fin 128) :
    ((cfg0.win 0).blk t).view.emb (ix2 r e) = ix2 (at256 t r) e := by
  obtain ⟨e0, e1⟩ := ixw0 t
  funext a; apply Fin.ext
  match a with
  | ⟨0, _⟩ => show win0_0.index t 0 * 256 + 1 * r.val = t.val * 256 + r.val; omega
  | ⟨1, _⟩ => show win0_0.index t 1 * 128 + 1 * e.val = e.val; omega
theorem emb1 (t : Fin cfg0.N) (d : Fin 4) (r : Fin 256) (k : Fin 64) :
    ((cfg0.win 1).blk t).view.emb (ix3 d r k) = ix3 d (at256 t r) k := by
  obtain ⟨e0, e1, e2⟩ := ixw1 t
  funext a; apply Fin.ext
  match a with
  | ⟨0, _⟩ => show win0_1.index t 0 * 4 + 1 * d.val = d.val; omega
  | ⟨1, _⟩ => show win0_1.index t 1 * 256 + 1 * r.val = t.val * 256 + r.val; omega
  | ⟨2, _⟩ => show win0_1.index t 2 * 64 + 1 * k.val = k.val; omega
theorem emb2 (t : Fin cfg0.N) (e : Fin 128) (n : Fin 256) : ((cfg0.win 2).blk t).view.emb (ix2 e n) = ix2 e n := by
  obtain ⟨e0, e1⟩ := ixw2 t
  funext a; apply Fin.ext
  match a with
  | ⟨0, _⟩ => show win0_2.index t 0 * 128 + 1 * e.val = e.val; omega
  | ⟨1, _⟩ => show win0_2.index t 1 * 256 + 1 * n.val = n.val; omega
theorem emb3 (t : Fin cfg0.N) (q : Fin 1) (n : Fin 256) : ((cfg0.win 3).blk t).view.emb (ix2 q n) = ix2 q n := by
  obtain ⟨e0, e1⟩ := ixw3 t
  funext a; apply Fin.ext
  match a with
  | ⟨0, _⟩ => show win0_3.index t 0 * 1 + 1 * q.val = q.val; omega
  | ⟨1, _⟩ => show win0_3.index t 1 * 256 + 1 * n.val = n.val; omega
theorem emb4 (t : Fin cfg0.N) (r : Fin 256) (e : Fin 128) :
    ((cfg0.win 4).blk t).view.emb (ix2 r e) = ix2 (at256 t r) e := by
  obtain ⟨e0, e1⟩ := ixw4 t
  funext a; apply Fin.ext
  match a with
  | ⟨0, _⟩ => show win0_4.index t 0 * 256 + 1 * r.val = t.val * 256 + r.val; omega
  | ⟨1, _⟩ => show win0_4.index t 1 * 128 + 1 * e.val = e.val; omega
theorem emb5 (t : Fin cfg0.N) (e : Fin 128) (n : Fin 256) : ((cfg0.win 5).blk t).view.emb (ix2 e n) = ix2 e n := by
  obtain ⟨e0, e1⟩ := ixw5 t
  funext a; apply Fin.ext
  match a with
  | ⟨0, _⟩ => show win0_5.index t 0 * 128 + 1 * e.val = e.val; omega
  | ⟨1, _⟩ => show win0_5.index t 1 * 256 + 1 * n.val = n.val; omega
theorem emb6 (t : Fin cfg0.N) (q : Fin 1) (n : Fin 256) : ((cfg0.win 6).blk t).view.emb (ix2 q n) = ix2 q n := by
  obtain ⟨e0, e1⟩ := ixw6 t
  funext a; apply Fin.ext
  match a with
  | ⟨0, _⟩ => show win0_6.index t 0 * 1 + 1 * q.val = q.val; omega
  | ⟨1, _⟩ => show win0_6.index t 1 * 256 + 1 * n.val = n.val; omega

/-! ## The blocks, from the arguments -/

theorem ins_a (t : Fin cfg0.N) (r : Fin 256) (e : Fin 128) :
    (ins m c t).a (ix2 r e) = if h : e.val < 16 then (args m c).a (at256 t r) ⟨e.val, h⟩ else 0 := by
  show V m c main_v0 (((cfg0.win 0).blk t).view.emb (ix2 r e)) = _
  rw [emb0, V0]; rfl
theorem ins_ct (t : Fin cfg0.N) (d : Fin 4) (r : Fin 256) (k : Fin 64) :
    (ins m c t).ct (ix3 d r k) = (args m c).ct (at256 t r) ⟨d.val * 64 + k.val, by omega⟩ := by
  show V m c main_v2 (((cfg0.win 1).blk t).view.emb (ix3 d r k)) = _
  rw [emb1, V2]; rfl
theorem ins_w (t : Fin cfg0.N) (e : Fin 128) (n : Fin 256) :
    (ins m c t).w (ix2 e n) = if h : e.val < 16 then (args m c).w ⟨e.val, h⟩ n else 0 := by
  show V m c main_v4 (((cfg0.win 2).blk t).view.emb (ix2 e n)) = _
  rw [emb2, V4]; rfl
theorem ins_b (t : Fin cfg0.N) (q : Fin 1) (n : Fin 256) : (ins m c t).b (ix2 q n) = (args m c).b n := by
  show V m c main_v3 (((cfg0.win 3).blk t).view.emb (ix2 q n)) = _
  rw [emb3, V3]; rfl

theorem bCt_ins (t : Fin cfg0.N) (r n : Fin 256) : bCt (ins m c t) r n = (args m c).ct (at256 t r) n := by
  unfold bCt
  rw [ins_ct]
  exact congrArg _ (Fin.ext (by show n.val / 64 * 64 + n.val % 64 = n.val; omega))

/-- The sixteen columns of the code and the 112 of zeros after them: the zeros add nothing. -/
theorem bGate_ins (t : Fin cfg0.N) (r n : Fin 256) : bGate (ins m c t) r n = (args m c).gate (at256 t r) n := by
  unfold bGate Args.gate
  rw [ins_b]
  congr 1
  refine (Fin.sum_univ_add (a := 16) (b := 112) fun x : Fin 128 => (ins m c t).a (ix2 r x) * (ins m c t).w (ix2 x n)).trans ?_
  rw [Finset.sum_eq_zero (s := Finset.univ (α := Fin 112)), add_zero]
  · refine Finset.sum_congr rfl fun e _ => ?_
    rw [ins_a, ins_w, dif_pos (show (Fin.castAdd 112 e).val < 16 from e.isLt), dif_pos (show (Fin.castAdd 112 e).val < 16 from e.isLt)]
    rfl
  · intro e _
    rw [ins_a, dif_neg (show ¬(Fin.natAdd 16 e).val < 16 by simp), zero_mul]

variable (sm : (args m c).Smooth)
include sm

theorem bG_ins (t : Fin cfg0.N) (r n : Fin 256) : bG (ins m c t) (ix2 r n) = (args m c).dgate (at256 t r) n := by
  obtain ⟨h1, h2⟩ := sm.ct (at256 t r) n
  have hc : cSixteenth = ((1 / 16 : ℝ) : EReal) := by
    simp [Ideal.ofBits, Ideal.ieee, -EReal.coe_mul]
    norm_num
  have hy : bCt (ins m c t) r n * cSixteenth = (((args m c).ct (at256 t r) n).toReal * (1 / 16) : ℝ) := by
    rw [bCt_ins, hc, EReal.coe_mul, EReal.coe_toReal h1 h2]
  rw [bG_apply _ r n _ hy (by rw [bGate_ins]; exact sm.gate _ _), bCt_ins, bGate_ins]
  rfl

/-! ## The row output -/

omit sm in
theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩

omit sm in
/-- Row `i` lies in block `i / 256`. -/
theorem at256_split (i : Fin 2048) : ∃ (t : Fin cfg0.N) (r : Fin 256), at256 t r = i :=
  ⟨⟨i.val / 256, by have : cfg0.N = 8 := N_0; omega⟩, ⟨i.val % 256, by omega⟩,
    Fin.ext (by show i.val / 256 * 256 + i.val % 256 = i.val; omega)⟩

omit sm in
theorem outs4 (t : Fin cfg0.N) : (outsAt0 m c t.val t.isLt).1 = bLow (ins m c t) := by
  have hN : cfg0.N = 8 := N_0
  have := t.isLt
  by_cases h : t.val % 8 = 0
  · rw [outs_first m c t h (by omega)]
  · rw [outs_later m c t h (by omega)]

theorem bLow_ins (t : Fin cfg0.N) (r : Fin 256) (e : Fin 128) :
    bLow (ins m c t) (ix2 r e) = (args m c).outLow (ix2 (at256 t r) e) := by
  rw [bLow_apply]
  simp only [bG_ins m c sm, ins_w]
  show _ = if h : e.val < 16 then (args m c).dlow (at256 t r) ⟨e.val, h⟩ else 0
  by_cases h : e.val < 16
  · simp only [dif_pos h]
    rfl
  · simp only [dif_neg h, mul_zero, Finset.sum_const_zero]

theorem flushed4_eq (t : Fin cfg0.N) :
    (dats m 0 c).flushed 4 t = ((cfg0.win 4).blk t).view.read (Elt Ideal) (args m c).outLow := by
  rw [flushed4, outs4]
  funext j
  obtain ⟨r, e, rfl⟩ := eq_ix2 (a := 256) (b := 128) j
  show bLow (F := Ideal) (ins m c t) (ix2 r e) = (args m c).outLow (((cfg0.win 4).blk t).view.emb (ix2 r e))
  rw [emb4, bLow_ins m c sm]

theorem final4 : (dats m 0 c).arrAt 4 cfg0.N = (args m c).outLow :=
  (dats m 0 c).arrAt_eq_of_cover 4 (args m c).outLow (fun t _ => flushed4_eq m c sm t) fun j => by
    obtain ⟨i, e, rfl⟩ := eq_ix2 (a := 2048) (b := 128) j
    obtain ⟨t, r, rfl⟩ := at256_split i
    exact ⟨t, flush0_4 t, by have h := ((cfg0.win 4).blk t).view.emb_mem_set (ix2 r e); rwa [emb4] at h⟩

/-! ## The gradient of the weight, accumulated over the points -/

/-- A token's part of it: zero in the rows of the padding. -/
def Args.partW (x : Args) (i : Fin 2048) (e : Fin 128) (n : Fin 256) : EReal :=
  if h : e.val < 16 then x.a i ⟨e.val, h⟩ * x.dgate i n else 0

omit sm in
theorem sum_partW (e : Fin 128) (n : Fin 256) : ∑ i, (args m c).partW i e n = (args m c).outW (ix2 e n) := by
  show _ = if h : e.val < 16 then (args m c).dw ⟨e.val, h⟩ n else 0
  unfold Args.partW
  by_cases h : e.val < 16
  · simp only [dif_pos h]
    rfl
  · simp only [dif_neg h, Finset.sum_const_zero]

theorem bDw_ins (t : Fin cfg0.N) (e : Fin 128) (n : Fin 256) :
    bDw (ins m c t) (ix2 e n) = ∑ r : Fin 256, (args m c).partW (at256 t r) e n := by
  rw [bDw_apply]
  refine Finset.sum_congr rfl fun r _ => ?_
  rw [bG_ins m c sm, ins_a]
  unfold Args.partW
  by_cases h : e.val < 16
  · rw [dif_pos h, dif_pos h]
  · rw [dif_neg h, dif_neg h, zero_mul]

/-- After point `k` the accumulator holds the sum over the rows of the blocks so far. -/
theorem acc_dw (e : Fin 128) (n : Fin 256) : ∀ (k : ℕ) (h : k < cfg0.N), (outsAt0 m c k h).2.1 (ix2 e n)
      = ∑ t : Fin (k + 1), ∑ r : Fin 256, (args m c).partW (at256 ⟨t.val, by omega⟩ r) e n
  | 0, h => by
    rw [outs_first m c ⟨0, h⟩ rfl (by simp), Fin.sum_univ_one]
    exact bDw_ins m c sm ⟨0, h⟩ e n
  | k + 1, h => by
    have hN : cfg0.N = 8 := N_0
    have ia := acc_dw e n k (by omega)
    rw [outs_later m c ⟨k + 1, h⟩ (by dsimp only; omega) (by dsimp only; omega), Fin.sum_univ_castSucc]
    refine Eq.trans (b := (outsAt0 m c k (by omega)).2.1 (ix2 e n) + bDw (ins m c ⟨k + 1, h⟩) (ix2 e n)) ?_ ?_
    · exact bDwAcc_apply (ins m c ⟨k + 1, h⟩) (outsAt0 m c k _).2.1 e n
    · rw [ia, bDw_ins m c sm]; rfl

theorem flushed5_eq (t : Fin cfg0.N) (hf : (cfg0.win 5).flush t = true) :
    (dats m 0 c).flushed 5 t = ((cfg0.win 5).blk t).view.read (Elt Ideal) (args m c).outW := by
  have hN : cfg0.N = 8 := N_0
  have h7 : t.val = 7 := by have := (flush0_5 t).mp hf; have := t.isLt; omega
  obtain rfl : t = t0_7 := Fin.ext h7
  show (cfg0.win 5).cut (grid0.coords t0_7) ((dats m 0 c).after 5 t0_7) = _
  rw [after0_5]
  funext j
  obtain ⟨e, n, rfl⟩ := eq_ix2 (a := 128) (b := 256) j
  show (outsAt0 m c 7 t0_7.isLt).2.1 (ix2 e n) = (args m c).outW (((cfg0.win 5).blk t0_7).view.emb (ix2 e n))
  rw [emb5, acc_dw m c sm e n 7 t0_7.isLt, ← sum_partW]
  exact (Fin.sum_univ_tiles 8 256 (by norm_num) fun i => (args m c).partW i e n).symm

theorem final5 : (dats m 0 c).arrAt 5 cfg0.N = (args m c).outW :=
  (dats m 0 c).arrAt_eq_of_cover 5 (args m c).outW (flushed5_eq m c sm) fun j => by
    obtain ⟨e, n, rfl⟩ := eq_ix2 (a := 128) (b := 256) j
    exact ⟨t0_7, (flush0_5 t0_7).mpr rfl, by
      have h := ((cfg0.win 5).blk t0_7).view.emb_mem_set (ix2 e n); rwa [emb5] at h⟩

/-! ## The gradient of the bias, accumulated over the points -/

theorem bDb_ins (t : Fin cfg0.N) (n : Fin 256) :
    bDb (ins m c t) (ix2 0 n) = ∑ r : Fin 256, (args m c).dgate (at256 t r) n := by
  rw [bDb_apply]
  exact Finset.sum_congr rfl fun r _ => bG_ins m c sm t r n

/-- After point `k` the accumulator holds the sum over the rows of the blocks so far. -/
theorem acc_db (n : Fin 256) : ∀ (k : ℕ) (h : k < cfg0.N), (outsAt0 m c k h).2.2 (ix2 0 n)
      = ∑ t : Fin (k + 1), ∑ r : Fin 256, (args m c).dgate (at256 ⟨t.val, by omega⟩ r) n
  | 0, h => by
    rw [outs_first m c ⟨0, h⟩ rfl (by simp), Fin.sum_univ_one]
    exact bDb_ins m c sm ⟨0, h⟩ n
  | k + 1, h => by
    have hN : cfg0.N = 8 := N_0
    have ia := acc_db n k (by omega)
    rw [outs_later m c ⟨k + 1, h⟩ (by dsimp only; omega) (by dsimp only; omega), Fin.sum_univ_castSucc]
    refine Eq.trans (b := (outsAt0 m c k (by omega)).2.2 (ix2 0 n) + bDb (ins m c ⟨k + 1, h⟩) (ix2 0 n)) ?_ ?_
    · exact acc_apply (bDb (ins m c ⟨k + 1, h⟩)) (outsAt0 m c k _).2.2 n
    · rw [ia, bDb_ins m c sm]; rfl

theorem flushed6_eq (t : Fin cfg0.N) (hf : (cfg0.win 6).flush t = true) :
    (dats m 0 c).flushed 6 t = ((cfg0.win 6).blk t).view.read (Elt Ideal) (args m c).outB := by
  have hN : cfg0.N = 8 := N_0
  have h7 : t.val = 7 := by have := (flush0_6 t).mp hf; have := t.isLt; omega
  obtain rfl : t = t0_7 := Fin.ext h7
  show (cfg0.win 6).cut (grid0.coords t0_7) ((dats m 0 c).after 6 t0_7) = _
  rw [after0_6]
  funext j
  obtain ⟨q, n, rfl⟩ := eq_ix2 (a := 1) (b := 256) j
  obtain rfl : q = 0 := Subsingleton.elim _ _
  show (outsAt0 m c 7 t0_7.isLt).2.2 (ix2 0 n) = (args m c).outB (((cfg0.win 6).blk t0_7).view.emb (ix2 0 n))
  rw [emb6, acc_db m c sm n 7 t0_7.isLt]
  exact (Fin.sum_univ_tiles 8 256 (by norm_num) fun i => (args m c).dgate i n).symm

theorem final6 : (dats m 0 c).arrAt 6 cfg0.N = (args m c).outB :=
  (dats m 0 c).arrAt_eq_of_cover 6 (args m c).outB (flushed6_eq m c sm) fun j => by
    obtain ⟨q, n, rfl⟩ := eq_ix2 (a := 1) (b := 256) j
    exact ⟨t0_7, (flush0_6 t0_7).mpr rfl, by
      have h := ((cfg0.win 6).blk t0_7).view.emb_mem_set (ix2 q n); rwa [emb6] at h⟩

end Cert.Proof.DecayBwd

end
-- ==== Proof.DecayBwd.Ref.lean ====
/- What the reference of `gla_decay_bwd` computes, at an index. -/
module

public import proofs.«01_k».proof.Proof.Gen.DecayBwdRefIdeal.Read
public import proofs.«01_k».proof.Proof.DecayBwd.Spec
public import Idealize.ShloMosaic.Lib.Pointwise

@[expose] public section

noncomputable section

namespace Cert.Proof.DecayBwd.Ref

open Cert.DecayBwdRefIdeal Cert.DecayBwdRefIdeal.Gen Cert.DecayBwdRefIdeal.Read Idealize.ShloMosaic
open Idealize.ShloMosaic.Pointwise Cert.Proof.DecayBwd Cert.Proof.ProjIn

variable (x0 : S2048x16.Idx → EReal) (x1 : S16x256.Idx → EReal) (x2 : S256.Idx → EReal) (x3 : S2048x256.Idx → EReal)

/-- The arguments by row and column. -/
def args : Args where
  a i e := x0 (ix2 i e)
  w e n := x1 (ix2 e n)
  b n := x2 (ix1 n)
  ct i n := x3 (ix2 i n)

/-- The word of the positive infinity. -/
theorem cTop : Ideal.ofBits FTy.f32 2139095040#32 = ⊤ := by
  simp [Ideal.ofBits, Ideal.ieee]

theorem v3 (i : Fin 2048) (n : Fin 256) :
    val_main_v3 (F := Ideal) x0 x1 x2 (ix2 i n) = (args x0 x1 x2 x3).gate i n := by
  pointwise [val_main_v3, val_main_v2, val_main_v1, val_main_v0]
  rfl
/-- The softplus of minus the gate. -/
theorem softplus (i : Fin 2048) (n : Fin 256) :
    val_main_call0_v1_0 (F := Ideal) x0 x1 x2 (ix2 i n)
      = max (-(args x0 x1 x2 x3).gate i n) 0 + Ideal.log (1 + Ideal.exp
          (-max (-(args x0 x1 x2 x3).gate i n) (- -(args x0 x1 x2 x3).gate i n))) := by
  pointwise [val_main_call0_v1_0, val_main_call0_call0_v11, val_main_call0_call0_v10, val_main_call0_call0_v9,
    val_main_call0_call0_v8, val_main_call0_call0_v7, val_main_call0_call0_v6, val_main_call0_call0_v5,
    val_main_call0_call0_v4, val_main_call0_call0_v3, val_main_call0_call0_v2, val_main_call0_call0_v1,
    val_main_call0_call0_v0, val_main_call0_call0_cst, val_main_call0_v0]
  rw [v3 x0 x1 x2 x3]
  rw [if_neg (fun h => h rfl)]
  rfl
theorem v4_1 (i : Fin 2048) (n : Fin 256) :
    val_main_v4_1 (F := Ideal) x0 x1 x2 (ix2 i n) = slope ((args x0 x1 x2 x3).gate i n) := by
  rw [← reference_form]
  pointwise [val_main_v4_1, val_main_call0_call0_v21, val_main_call0_call0_v20, val_main_call0_call0_v19,
    val_main_call0_call0_v18, val_main_call0_call0_v17, val_main_call0_call0_v16, val_main_call0_call0_v15,
    val_main_call0_call0_v14, val_main_call0_call0_v13, val_main_call0_call0_cst_0, val_main_call0_call0_cst_1,
    val_main_call0_call0_cst_2, val_main_call0_call0_cst_3, val_main_call0_v0]
  rw [v3 x0 x1 x2 x3, softplus x0 x1 x2 x3, cTop]

theorem v9 (i : Fin 2048) (n : Fin 256) :
    val_main_v9 (F := Ideal) x0 x1 x2 x3 (ix2 i n) = (args x0 x1 x2 x3).dgate i n := by
  pointwise [val_main_v9, val_main_call1_v1, val_main_call1_v0, val_main_v8, val_main_v7, val_main_cst_0]
  rw [v4_1 x0 x1 x2 x3, EReal.neg_mul, neg_neg, div_cSixteen]
  rfl

theorem v17 (i : Fin 2048) (e : Fin 128) :
    val_main_v17 (F := Ideal) x0 x1 x2 x3 (ix2 i e) = (args x0 x1 x2 x3).outLow (ix2 i e) := by
  pointwise [val_main_v17, val_main_v16, val_main_v15, val_main_call2_v0, val_main_c]
  simp only [v9]
  refine dite_congr rfl (fun _ => rfl) fun _ => ?_
  show (((0#32 : BitVec 32).toInt : ℝ) : EReal) = 0
  simp
theorem v18 (e : Fin 128) (n : Fin 256) :
    val_main_v18 (F := Ideal) x0 x1 x2 x3 (ix2 e n) = (args x0 x1 x2 x3).outW (ix2 e n) := by
  pointwise [val_main_v18, val_main_v14, val_main_v13, val_main_call3_v0, val_main_c_3]
  simp only [v9]
  refine dite_congr rfl (fun _ => Finset.sum_congr rfl fun i _ => mul_comm _ _) fun _ => ?_
  show (((0#32 : BitVec 32).toInt : ℝ) : EReal) = 0
  simp
theorem v19 (q : Fin 1) (n : Fin 256) :
    val_main_v19 (F := Ideal) x0 x1 x2 x3 (ix2 q n) = (args x0 x1 x2 x3).outB (ix2 q n) := by
  pointwise [val_main_v19, val_main_v12, val_main_v11, val_main_v10, val_main_cst_1, val_main_cst_2]
  simp only [v9]
  exact Fin.sum_univ_one _

end Cert.Proof.DecayBwd.Ref

end
-- ==== Proof.DecayBwd.Equation.lean ====
/- `gla_decay_bwd` computes the reference, where no gate is zero and the gradients at the log decay are real: both runs end
   with the same three arrays. -/
module

public import proofs.«01_k».proof.Defs
public import proofs.«01_k».proof.Proof.Gen.Pre_smooth_gates
public import proofs.«01_k».proof.Proof.Gla.Equation
public import proofs.«01_k».proof.Proof.DecayBwd.Array
public import proofs.«01_k».proof.Proof.DecayBwd.Ref

@[expose] public section

noncomputable section

namespace Cert.Proof.DecayBwd

open Idealize.ShloMosaic Idealize.ShloMosaic.TcCoe Idealize.ShloMosaic.Pointwise Idealize.SL.Sem Idealize.ShloMosaic.StableHlo

theorem left_zero : ∀ b : Bool, IntOp.andi (BitVec.ofBool false) (BitVec.ofBool b) ≠ 1#1 := by decide
theorem right_zero : ∀ b : Bool, IntOp.andi (BitVec.ofBool b) (BitVec.ofBool false) ≠ 1#1 := by decide

/-- The precondition, read at one token and column. -/
theorem smooth_of_pre (m : (ℓ : Loc Cert.DecayBwdIdeal.nD Cert.DecayBwdIdeal.τ Cert.DecayBwdIdeal.sig) → Buf (Elt Ideal) ℓ)
    (hp : Cert.Pre_DecayBwdIdeal_smooth_gates m) (c : Dev Cert.DecayBwdIdeal.nD) : (args m c).Smooth := by
  have key : ∀ i n, aCt m c (ix2 i n) - aCt m c (ix2 i n) = 0 ∧ (args m c).gate i n ≠ 0 := fun i n => by
    have h := congrFun (hp c) (ix2 i n)
    pointwise [Cert.Pre_smooth_gates.fn] at h
    refine ⟨?_, ?_⟩
    · show aCt m c (ix2 i n) - aCt m c (ix2 i n) = 0
      by_contra hne
      rw [decide_eq_false hne] at h
      exact absurd h (left_zero _)
    · intro hz
      exact absurd ((congrArg (fun b => IntOp.andi _ (BitVec.ofBool b)) (decide_eq_false (not_not.mpr hz)).symm).trans h)
        (right_zero _)
  exact ⟨fun i n => Gla.real_of_sub_self (key i n).1, fun i n => (key i n).2⟩

theorem algebraic : Cert.algebraic_DecayBwdIdeal_DecayBwdRefIdeal_pre_smooth_gates := by
  intro m g m' g' hp hin
  have ha : ∀ c : Dev Cert.DecayBwdIdeal.nD, Ref.args (m' (c.tc.loc Cert.DecayBwdRefIdeal.main_arg0))
      (m' (c.tc.loc Cert.DecayBwdRefIdeal.main_arg1)) (m' (c.tc.loc Cert.DecayBwdRefIdeal.main_arg2))
      (m' (c.tc.loc Cert.DecayBwdRefIdeal.main_arg3)) = args m c := fun c => by
    obtain ⟨e0, e1, e2, e3⟩ := hin c
    rw [e0, e1, e2, e3]
    rfl
  refine ⟨fun c => (args m c).outLow, fun c => (args m c).outW, fun c => (args m c).outB, ?_, ?_⟩
  · refine (θ_run Cert.DecayBwdIdeal.defs _ _).mono (fun r h c => ?_) (Cert.DecayBwdIdeal.Value.run_blocks (F := Ideal) m g)
    obtain ⟨h0, h1, h2, hargs⟩ := h c
    have sm := smooth_of_pre m hp c
    exact ⟨h0.trans (final4 m c sm), h1.trans (final5 m c sm), h2.trans (final6 m c sm), hargs⟩
  · refine (θ_run Cert.DecayBwdRefIdeal.defs _ _).mono (fun r h c => ?_) (Cert.DecayBwdRefIdeal.Value.run (F := Ideal) m' g')
    obtain ⟨h0, h1, h2, hargs⟩ := h c
    refine ⟨(h0.trans (Cert.DecayBwdRefIdeal.Read.val_main_v17_eq m' c)).trans ?_,
      (h1.trans (Cert.DecayBwdRefIdeal.Read.val_main_v18_eq m' c)).trans ?_,
      (h2.trans (Cert.DecayBwdRefIdeal.Read.val_main_v19_eq m' c)).trans ?_, hargs⟩
    · funext j
      obtain ⟨i, e, rfl⟩ := eq_ix2 (a := 2048) (b := 128) j
      exact (Ref.v17 _ _ _ _ i e).trans (by rw [ha])
    · funext j
      obtain ⟨e, n, rfl⟩ := eq_ix2 (a := 128) (b := 256) j
      exact (Ref.v18 _ _ _ _ e n).trans (by rw [ha])
    · funext j
      obtain ⟨q, n, rfl⟩ := eq_ix2 (a := 1) (b := 256) j
      exact (Ref.v19 _ _ _ _ q n).trans (by rw [ha])

end Cert.Proof.DecayBwd

end
-- ==== Proof.ProjO.Spec.lean ====
/- What `proj_o` computes, row by row: the mixing branch's output projection, its normalisation added to the residual
   stream, and the normalisation of the sum. -/
module

public import proofs.«01_k».proof.Proof.RowNorm

@[expose] public section

noncomputable section

namespace Cert.Proof.ProjO

open Idealize.ShloMosaic Cert.Proof.RowNorm

/-- One row's data: the block's input, the merged branches, the projection's weight and the two gains. -/
@[ext] structure Row where
  x : Fin 1024 → EReal
  mg : Fin 1024 → EReal
  w : Fin 1024 → Fin 1024 → EReal
  gpm : Fin 1024 → EReal
  gpl : Fin 1024 → EReal

namespace Row

variable (R : Row)

/-- The projection. -/
def z (k : Fin 1024) : EReal := ∑ e, R.mg e * R.w e k
/-- The residual stream after the mixing branch. -/
def x1 (k : Fin 1024) : EReal := R.x k + R.z k * rs R.z * R.gpm k
/-- The MLP's input. -/
def h2 (k : Fin 1024) : EReal := R.x1 k * rs R.x1 * R.gpl k

end Row

/-- The arguments by row and column. -/
structure Args where
  x : Fin 2048 → Fin 1024 → EReal
  mg : Fin 2048 → Fin 1024 → EReal
  w : Fin 1024 → Fin 1024 → EReal
  gpm : Fin 1024 → EReal
  gpl : Fin 1024 → EReal

namespace Args

variable (A : Args)

def row (i : Fin 2048) : Row := ⟨A.x i, A.mg i, A.w, A.gpm, A.gpl⟩

/-- The three results. -/
def outZ : (⟨2, ![2048, 1024]⟩ : Shape).Idx → EReal := fun j => (A.row (j 0)).z (j 1)
def outX1 : (⟨2, ![2048, 1024]⟩ : Shape).Idx → EReal := fun j => (A.row (j 0)).x1 (j 1)
def outH2 : (⟨2, ![2048, 1024]⟩ : Shape).Idx → EReal := fun j => (A.row (j 0)).h2 (j 1)

end Args

end Cert.Proof.ProjO

end
-- ==== Proof.ProjO.Block.lean ====
/- What one grid point of `proj_o` computes from its blocks: row `r` of each output block is the row function of row `r`
   of the input blocks. -/
module

public import proofs.«01_k».proof.Proof.Gen.ProjOIdeal.Value
public import proofs.«01_k».proof.Proof.ProjO.Spec
public import Idealize.ShloMosaic.Lib.Pointwise

@[expose] public section

noncomputable section

namespace Cert.Proof.ProjO

open Cert.ProjOIdeal Cert.ProjOIdeal.Gen Idealize.ShloMosaic Idealize.ShloMosaic.Pointwise Cert.Proof.RowNorm

variable (x0 : Vec Ideal S512x1024 .bf16) (x1 : Vec Ideal S512x1024 .f32) (x2 : Vec Ideal S1024x1024 .bf16)
  (x3 : Vec Ideal S1x1024 .f32) (x4 : Vec Ideal S1x1024 .f32)

/-- Row `r` of the point's input blocks. -/
def rowOf (r : Fin 512) : Row where
  x k := x1 (ix2 r k)
  mg k := x0 (ix2 r k)
  w e k := x2 (ix2 e k)
  gpm k := x3 (ix2 0 k)
  gpl k := x4 (ix2 0 k)

theorem pay2_apply (r : Fin 512) (k : Fin 1024) : k0_pay2 (F := Ideal) x0 x2 (ix2 r k) = (rowOf x0 x1 x2 x3 x4 r).z k := by
  pointwise [k0_pay2]
  rfl

theorem pay3_apply (r : Fin 512) (k : Fin 1024) : k0_pay3 (F := Ideal) x0 x1 x2 x3 (ix2 r k) = (rowOf x0 x1 x2 x3 x4 r).x1 k := by
  pointwise [k0_pay3]
  simp only [pay2_apply x0 x1 x2 x3 x4]
  rfl

theorem pay4_apply (r : Fin 512) (k : Fin 1024) : k0_pay4 (F := Ideal) x0 x1 x2 x3 x4 (ix2 r k) = (rowOf x0 x1 x2 x3 x4 r).h2 k := by
  pointwise [k0_pay4]
  simp only [pay3_apply x0 x1 x2 x3 x4]
  rfl

theorem hz2 : (![0, 0] : Fin 2 → ℕ) = fun _ => 0 := by decide
theorem ld0 : View.ld x0 r0_0 = x0 := View.ld_unit_zero (S := S512x1024) hz2 _ _
theorem ld1 : View.ld x1 r0_0 = x1 := View.ld_unit_zero (S := S512x1024) hz2 _ _
theorem ld2 : View.ld x2 r0_1 = x2 := View.ld_unit_zero (S := S1024x1024) hz2 _ _
theorem ld3 : View.ld x3 r0_2 = x3 := View.ld_unit_zero (S := S1x1024) hz2 _ _

theorem out5_apply (r : Fin 512) (k : Fin 1024) : out0_5 x0 x1 x2 x3 x4 (ix2 r k) = (rowOf x0 x1 x2 x3 x4 r).z k := by
  unfold out0_5
  rw [View.canon_unit_zero hz2, ld0, ld2, pay2_apply x0 x1 x2 x3 x4]

theorem out6_apply (r : Fin 512) (k : Fin 1024) : out0_6 x0 x1 x2 x3 x4 (ix2 r k) = (rowOf x0 x1 x2 x3 x4 r).x1 k := by
  unfold out0_6
  rw [View.canon_unit_zero hz2, ld0, ld1, ld2, ld3, pay3_apply x0 x1 x2 x3 x4]

theorem out7_apply (r : Fin 512) (k : Fin 1024) : out0_7 x0 x1 x2 x3 x4 (ix2 r k) = (rowOf x0 x1 x2 x3 x4 r).h2 k := by
  unfold out0_7
  rw [View.canon_unit_zero hz2, ld0, ld1, ld2, ld3, ld3]
  pointwise [k0_pay1]
  exact pay4_apply x0 x1 x2 x3 x4 r k

end Cert.Proof.ProjO

end
-- ==== Proof.ProjO.Host.lean ====
/- The arrays the host lines hand to `proj_o`, at an index: casts of the arguments and the gains as rows. -/
module

public import proofs.«01_k».proof.Proof.Gen.ProjOIdeal.Frame
public import proofs.«01_k».proof.Proof.ProjO.Spec
public import Idealize.ShloMosaic.Lib.Pointwise

@[expose] public section

noncomputable section

namespace Cert.Proof.ProjO

open Cert.ProjOIdeal Cert.ProjOIdeal.Gen Idealize.ShloMosaic Idealize.ShloMosaic.TcCoe
open Idealize.ShloMosaic.StableHlo Idealize.ShloMosaic.Pointwise

variable (m : (ℓ : Loc nD τ sig) → Buf (Elt Ideal) ℓ) (c : Dev nD)

/-- The program's arguments. -/
abbrev aX : S2048x1024.Idx → EReal := m ((c : Thread nD τ).loc main_arg0)
abbrev aMg : S2048x1024.Idx → EReal := m ((c : Thread nD τ).loc main_arg1)
abbrev aW : S1024x1024.Idx → EReal := m ((c : Thread nD τ).loc main_arg2)
abbrev aGpm : S1024.Idx → EReal := m ((c : Thread nD τ).loc main_arg3)
abbrev aGpl : S1024.Idx → EReal := m ((c : Thread nD τ).loc main_arg4)

/-- The same by row and column. -/
def args : Args where
  x i k := aX m c (ix2 i k)
  mg i k := aMg m c (ix2 i k)
  w e k := aW m c (ix2 e k)
  gpm k := aGpm m c (ix1 k)
  gpl k := aGpl m c (ix1 k)

theorem V0 (i : Fin 2048) (k : Fin 1024) : V m c main_v0 (ix2 i k) = aMg m c (ix2 i k) := by
  unfold V hostOps0
  after_results
  rfl
theorem V1 (e k : Fin 1024) : V m c main_v1 (ix2 e k) = aW m c (ix2 e k) := by
  unfold V hostOps0
  after_results
  rfl
theorem V2 (q : Fin 1) (k : Fin 1024) : V m c main_v2 (ix2 q k) = aGpm m c (ix1 k) := by
  unfold V hostOps0
  after_results
  pointwise
theorem V3 (q : Fin 1) (k : Fin 1024) : V m c main_v3 (ix2 q k) = aGpl m c (ix1 k) := by
  unfold V hostOps0
  after_results
  pointwise

end Cert.Proof.ProjO

end
-- ==== Proof.ProjO.Array.lean ====
/- The three arrays `proj_o` leaves, as row functions of the arguments: block `t` of each is rows 512 t to 512 t + 511. -/
module

public import proofs.«01_k».proof.Proof.ProjO.Block
public import proofs.«01_k».proof.Proof.ProjO.Host

@[expose] public section

noncomputable section

namespace Cert.Proof.ProjO

open Cert.ProjOIdeal Cert.ProjOIdeal.Gen Cert.ProjOIdeal.Value Idealize.ShloMosaic Idealize.ShloMosaic.TcCoe
open Idealize.ShloMosaic.Pointwise

variable (m : (ℓ : Loc nD τ sig) → Buf (Elt Ideal) ℓ) (c : Dev nD)

/-- Row `r` of block `t`. -/
abbrev at512 (t : Fin cfg0.N) (r : Fin 512) : Fin 2048 :=
  ⟨t.val * 512 + r.val, by have : cfg0.N = 4 := N_0; have := t.isLt; omega⟩

theorem at512_split (i : Fin 2048) : ∃ (t : Fin cfg0.N) (r : Fin 512), i = at512 t r := by
  have hN : cfg0.N = 4 := N_0
  exact ⟨⟨i.val / 512, by omega⟩, ⟨i.val % 512, by omega⟩, Fin.ext (by show i.val = i.val / 512 * 512 + i.val % 512; omega)⟩

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩

/-! ## Where a block lies -/

theorem ixw0 : ∀ t : Fin cfg0.N, win0_0.index t 0 = t.val ∧ win0_0.index t 1 = 0 := (by decide +kernel : ∀ t : Fin grid0.N, _)
theorem ixw1 : ∀ t : Fin cfg0.N, win0_1.index t 0 = t.val ∧ win0_1.index t 1 = 0 := (by decide +kernel : ∀ t : Fin grid0.N, _)
theorem ixw2 : ∀ t : Fin cfg0.N, win0_2.index t 0 = 0 ∧ win0_2.index t 1 = 0 := (by decide +kernel : ∀ t : Fin grid0.N, _)
theorem ixw3 : ∀ t : Fin cfg0.N, win0_3.index t 0 = 0 ∧ win0_3.index t 1 = 0 := (by decide +kernel : ∀ t : Fin grid0.N, _)
theorem ixw4 : ∀ t : Fin cfg0.N, win0_4.index t 0 = 0 ∧ win0_4.index t 1 = 0 := (by decide +kernel : ∀ t : Fin grid0.N, _)
theorem ixw5 : ∀ t : Fin cfg0.N, win0_5.index t 0 = t.val ∧ win0_5.index t 1 = 0 := (by decide +kernel : ∀ t : Fin grid0.N, _)
theorem ixw6 : ∀ t : Fin cfg0.N, win0_6.index t 0 = t.val ∧ win0_6.index t 1 = 0 := (by decide +kernel : ∀ t : Fin grid0.N, _)
theorem ixw7 : ∀ t : Fin cfg0.N, win0_7.index t 0 = t.val ∧ win0_7.index t 1 = 0 := (by decide +kernel : ∀ t : Fin grid0.N, _)

theorem emb0 (t : Fin cfg0.N) (r : Fin 512) (k : Fin 1024) : ((cfg0.win 0).blk t).view.emb (ix2 r k) = ix2 (at512 t r) k := by
  obtain ⟨e0, e1⟩ := ixw0 t
  funext a; apply Fin.ext
  match a with
  | ⟨0, _⟩ => show win0_0.index t 0 * 512 + 1 * r.val = t.val * 512 + r.val; omega
  | ⟨1, _⟩ => show win0_0.index t 1 * 1024 + 1 * k.val = k.val; omega
theorem emb1 (t : Fin cfg0.N) (r : Fin 512) (k : Fin 1024) : ((cfg0.win 1).blk t).view.emb (ix2 r k) = ix2 (at512 t r) k := by
  obtain ⟨e0, e1⟩ := ixw1 t
  funext a; apply Fin.ext
  match a with
  | ⟨0, _⟩ => show win0_1.index t 0 * 512 + 1 * r.val = t.val * 512 + r.val; omega
  | ⟨1, _⟩ => show win0_1.index t 1 * 1024 + 1 * k.val = k.val; omega
theorem emb5 (t : Fin cfg0.N) (r : Fin 512) (k : Fin 1024) : ((cfg0.win 5).blk t).view.emb (ix2 r k) = ix2 (at512 t r) k := by
  obtain ⟨e0, e1⟩ := ixw5 t
  funext a; apply Fin.ext
  match a with
  | ⟨0, _⟩ => show win0_5.index t 0 * 512 + 1 * r.val = t.val * 512 + r.val; omega
  | ⟨1, _⟩ => show win0_5.index t 1 * 1024 + 1 * k.val = k.val; omega
theorem emb6 (t : Fin cfg0.N) (r : Fin 512) (k : Fin 1024) : ((cfg0.win 6).blk t).view.emb (ix2 r k) = ix2 (at512 t r) k := by
  obtain ⟨e0, e1⟩ := ixw6 t
  funext a; apply Fin.ext
  match a with
  | ⟨0, _⟩ => show win0_6.index t 0 * 512 + 1 * r.val = t.val * 512 + r.val; omega
  | ⟨1, _⟩ => show win0_6.index t 1 * 1024 + 1 * k.val = k.val; omega
theorem emb7 (t : Fin cfg0.N) (r : Fin 512) (k : Fin 1024) : ((cfg0.win 7).blk t).view.emb (ix2 r k) = ix2 (at512 t r) k := by
  obtain ⟨e0, e1⟩ := ixw7 t
  funext a; apply Fin.ext
  match a with
  | ⟨0, _⟩ => show win0_7.index t 0 * 512 + 1 * r.val = t.val * 512 + r.val; omega
  | ⟨1, _⟩ => show win0_7.index t 1 * 1024 + 1 * k.val = k.val; omega
theorem emb2 (t : Fin cfg0.N) (r : Fin 1024) (k : Fin 1024) : ((cfg0.win 2).blk t).view.emb (ix2 r k) = ix2 r k := by
  obtain ⟨e0, e1⟩ := ixw2 t
  funext a; apply Fin.ext
  match a with
  | ⟨0, _⟩ => show win0_2.index t 0 * 1024 + 1 * r.val = r.val; omega
  | ⟨1, _⟩ => show win0_2.index t 1 * 1024 + 1 * k.val = k.val; omega
theorem emb3 (t : Fin cfg0.N) (r : Fin 1) (k : Fin 1024) : ((cfg0.win 3).blk t).view.emb (ix2 r k) = ix2 r k := by
  obtain ⟨e0, e1⟩ := ixw3 t
  funext a; apply Fin.ext
  match a with
  | ⟨0, _⟩ => show win0_3.index t 0 * 1 + 1 * r.val = r.val; omega
  | ⟨1, _⟩ => show win0_3.index t 1 * 1024 + 1 * k.val = k.val; omega
theorem emb4 (t : Fin cfg0.N) (r : Fin 1) (k : Fin 1024) : ((cfg0.win 4).blk t).view.emb (ix2 r k) = ix2 r k := by
  obtain ⟨e0, e1⟩ := ixw4 t
  funext a; apply Fin.ext
  match a with
  | ⟨0, _⟩ => show win0_4.index t 0 * 1 + 1 * r.val = r.val; omega
  | ⟨1, _⟩ => show win0_4.index t 1 * 1024 + 1 * k.val = k.val; omega

/-! ## The input blocks -/

theorem in0 (t : Fin cfg0.N) (r : Fin 512) (k : Fin 1024) : iblk m c 0 t (ix2 r k) = aMg m c (ix2 (at512 t r) k) := by
  show V m c main_v0 (((cfg0.win 0).blk t).view.emb (ix2 r k)) = _
  rw [emb0, V0]
theorem in1 (t : Fin cfg0.N) (r : Fin 512) (k : Fin 1024) : iblk m c 1 t (ix2 r k) = aX m c (ix2 (at512 t r) k) := by
  show V m c main_arg0 (((cfg0.win 1).blk t).view.emb (ix2 r k)) = _
  rw [emb1, V_main_arg0]
theorem in2 (t : Fin cfg0.N) (e k : Fin 1024) : iblk m c 2 t (ix2 e k) = aW m c (ix2 e k) := by
  show V m c main_v1 (((cfg0.win 2).blk t).view.emb (ix2 e k)) = _
  rw [emb2, V1]
theorem in3 (t : Fin cfg0.N) (k : Fin 1024) : iblk m c 3 t (ix2 0 k) = aGpm m c (ix1 k) := by
  show V m c main_v2 (((cfg0.win 3).blk t).view.emb (ix2 0 k)) = _
  rw [emb3, V2]
theorem in4 (t : Fin cfg0.N) (k : Fin 1024) : iblk m c 4 t (ix2 0 k) = aGpl m c (ix1 k) := by
  show V m c main_v3 (((cfg0.win 4).blk t).view.emb (ix2 0 k)) = _
  rw [emb4, V3]

/-- Row `r` of the blocks at point `t` is row `512 t + r` of the arguments. -/
theorem rowOf_blocks (t : Fin cfg0.N) (r : Fin 512) :
    rowOf (iblk m c 0 t) (iblk m c 1 t) (iblk m c 2 t) (iblk m c 3 t) (iblk m c 4 t) r = (args m c).row (at512 t r) :=
  Row.ext (funext fun k => in1 m c t r k) (funext fun k => in0 m c t r k)
    (funext fun e => funext fun k => in2 m c t e k) (funext fun k => in3 m c t k) (funext fun k => in4 m c t k)

/-! ## The three arrays -/

theorem flushed5_eq (t : Fin cfg0.N) :
    (dats m 0 c).flushed 5 t = ((cfg0.win 5).blk t).view.read (Elt Ideal) (args m c).outZ := by
  rw [flushed5]
  funext j
  obtain ⟨r, k, rfl⟩ := eq_ix2 (a := 512) (b := 1024) j
  show out0_5 (F := Ideal) _ _ _ _ _ (ix2 r k) = (args m c).outZ (((cfg0.win 5).blk t).view.emb (ix2 r k))
  rw [emb5, out5_apply, rowOf_blocks]
  rfl
theorem final5 : (dats m 0 c).arrAt 5 cfg0.N = (args m c).outZ :=
  (dats m 0 c).arrAt_eq_of_cover 5 _ (fun t _ => flushed5_eq m c t) fun j => by
    obtain ⟨i, k, rfl⟩ := eq_ix2 (a := 2048) (b := 1024) j
    obtain ⟨t, r, rfl⟩ := at512_split i
    exact ⟨t, flush0_5 t, by have h := ((cfg0.win 5).blk t).view.emb_mem_set (ix2 r k); rwa [emb5] at h⟩

theorem flushed6_eq (t : Fin cfg0.N) :
    (dats m 0 c).flushed 6 t = ((cfg0.win 6).blk t).view.read (Elt Ideal) (args m c).outX1 := by
  rw [flushed6]
  funext j
  obtain ⟨r, k, rfl⟩ := eq_ix2 (a := 512) (b := 1024) j
  show out0_6 (F := Ideal) _ _ _ _ _ (ix2 r k) = (args m c).outX1 (((cfg0.win 6).blk t).view.emb (ix2 r k))
  rw [emb6, out6_apply, rowOf_blocks]
  rfl
theorem final6 : (dats m 0 c).arrAt 6 cfg0.N = (args m c).outX1 :=
  (dats m 0 c).arrAt_eq_of_cover 6 _ (fun t _ => flushed6_eq m c t) fun j => by
    obtain ⟨i, k, rfl⟩ := eq_ix2 (a := 2048) (b := 1024) j
    obtain ⟨t, r, rfl⟩ := at512_split i
    exact ⟨t, flush0_6 t, by have h := ((cfg0.win 6).blk t).view.emb_mem_set (ix2 r k); rwa [emb6] at h⟩

theorem flushed7_eq (t : Fin cfg0.N) :
    (dats m 0 c).flushed 7 t = ((cfg0.win 7).blk t).view.read (Elt Ideal) (args m c).outH2 := by
  rw [flushed7]
  funext j
  obtain ⟨r, k, rfl⟩ := eq_ix2 (a := 512) (b := 1024) j
  show out0_7 (F := Ideal) _ _ _ _ _ (ix2 r k) = (args m c).outH2 (((cfg0.win 7).blk t).view.emb (ix2 r k))
  rw [emb7, out7_apply, rowOf_blocks]
  rfl
theorem final7 : (dats m 0 c).arrAt 7 cfg0.N = (args m c).outH2 :=
  (dats m 0 c).arrAt_eq_of_cover 7 _ (fun t _ => flushed7_eq m c t) fun j => by
    obtain ⟨i, k, rfl⟩ := eq_ix2 (a := 2048) (b := 1024) j
    obtain ⟨t, r, rfl⟩ := at512_split i
    exact ⟨t, flush0_7 t, by have h := ((cfg0.win 7).blk t).view.emb_mem_set (ix2 r k); rwa [emb7] at h⟩

end Cert.Proof.ProjO

end
-- ==== Proof.ProjO.Ref.lean ====
/- The reference's arrays, row by row: the same row functions of the arguments as the kernel's. -/
module

public import proofs.«01_k».proof.Proof.ProjO.Spec
public import proofs.«01_k».proof.Proof.Gen.ProjORefIdeal.Read
public import Idealize.ShloMosaic.Lib.Pointwise

@[expose] public section

noncomputable section

namespace Cert.Proof.ProjO.Ref

open Cert.ProjORefIdeal Cert.ProjORefIdeal.Gen Cert.ProjORefIdeal.Read Idealize.ShloMosaic Idealize.ShloMosaic.TcCoe
open Idealize.ShloMosaic.Pointwise Cert.Proof.RowNorm Cert.Proof.ProjO

variable (x0 x1 : S2048x1024.Idx → EReal) (x2 : S1024x1024.Idx → EReal) (x3 x4 : S1024.Idx → EReal)

/-- The arguments by row and column. -/
def args : Args where
  x i k := x0 (ix2 i k)
  mg i k := x1 (ix2 i k)
  w e k := x2 (ix2 e k)
  gpm k := x3 (ix1 k)
  gpl k := x4 (ix1 k)

theorem v0 (i : Fin 2048) (k : Fin 1024) : val_main_v0 (F := Ideal) x1 x2 (ix2 i k) = ((args x0 x1 x2 x3 x4).row i).z k := by
  pointwise [val_main_v0]
  rfl

theorem v8 (i : Fin 2048) (q : Fin 1) : val_main_v8 (F := Ideal) x1 x2 (ix2 i q) = rs ((args x0 x1 x2 x3 x4).row i).z := by
  pointwise [val_main_v8, val_main_v7, val_main_v6, val_main_v5, val_main_v4, val_main_v3, val_main_v2, val_main_v1, val_main_cst,
    val_main_cst_0, val_main_cst_1]
  simp only [v0 x0 x1 x2 x3 x4]
  rfl

theorem v14 (i : Fin 2048) (k : Fin 1024) :
    val_main_v14 (F := Ideal) x0 x1 x2 x3 (ix2 i k) = ((args x0 x1 x2 x3 x4).row i).x1 k := by
  pointwise [val_main_v14, val_main_v13, val_main_v12, val_main_v11, val_main_v10, val_main_v9]
  rw [v0 x0 x1 x2 x3 x4, v8 x0 x1 x2 x3 x4]
  rfl

theorem v22 (i : Fin 2048) (q : Fin 1) : val_main_v22 (F := Ideal) x0 x1 x2 x3 (ix2 i q) = rs ((args x0 x1 x2 x3 x4).row i).x1 := by
  pointwise [val_main_v22, val_main_v21, val_main_v20, val_main_v19, val_main_v18, val_main_v17, val_main_v16, val_main_v15,
    val_main_cst_2, val_main_cst_3, val_main_cst_4]
  simp only [v14 x0 x1 x2 x3 x4]
  rfl

theorem v28 (i : Fin 2048) (k : Fin 1024) :
    val_main_v28 (F := Ideal) x0 x1 x2 x3 x4 (ix2 i k) = ((args x0 x1 x2 x3 x4).row i).h2 k := by
  pointwise [val_main_v28, val_main_v27, val_main_v26, val_main_v25, val_main_v24, val_main_v23]
  rw [v14 x0 x1 x2 x3 x4, v22 x0 x1 x2 x3 x4]
  rfl

end Cert.Proof.ProjO.Ref

end
-- ==== Proof.ProjO.Equation.lean ====
/- `proj_o` computes the reference: both runs end with the same three arrays. -/
module

public import proofs.«01_k».proof.Defs
public import proofs.«01_k».proof.Proof.Gen.ProjOIdeal
public import proofs.«01_k».proof.Proof.ProjO.Array
public import proofs.«01_k».proof.Proof.ProjO.Ref

@[expose] public section

noncomputable section

namespace Cert.Proof.ProjO

open Idealize.ShloMosaic Idealize.ShloMosaic.TcCoe Idealize.ShloMosaic.Pointwise Idealize.SL.Sem Idealize.ShloMosaic.StableHlo

/-- The reference's arguments, where it starts from the kernel's. -/
theorem ref_args {x0 y0 x1 y1 : (⟨2, ![2048, 1024]⟩ : Shape).Idx → EReal} {x2 y2 : (⟨2, ![1024, 1024]⟩ : Shape).Idx → EReal}
    {x3 y3 x4 y4 : (⟨1, ![1024]⟩ : Shape).Idx → EReal} (e0 : x0 = y0) (e1 : x1 = y1) (e2 : x2 = y2) (e3 : x3 = y3) (e4 : x4 = y4) :
    Ref.args x0 x1 x2 x3 x4 = Ref.args y0 y1 y2 y3 y4 := by
  rw [e0, e1, e2, e3, e4]

theorem algebraic : Cert.algebraic_ProjOIdeal_ProjORefIdeal := by
  intro m g m' g' _ hin
  refine ⟨fun c => (args m c).outZ, fun c => (args m c).outX1, fun c => (args m c).outH2, ?_, ?_⟩
  · refine (θ_run Cert.ProjOIdeal.defs _ _).mono (fun r h c => ?_) (Cert.ProjOIdeal.Value.run_blocks (F := Ideal) m g)
    obtain ⟨h0, h1, h2, hargs⟩ := h c
    exact ⟨h0.trans (final5 m c), h1.trans (final6 m c), h2.trans (final7 m c), hargs⟩
  · refine (θ_run Cert.ProjORefIdeal.defs _ _).mono (fun r h c => ?_) (Cert.ProjORefIdeal.Value.run (F := Ideal) m' g')
    obtain ⟨h0, h1, h2, hargs⟩ := h c
    obtain ⟨e0, e1, e2, e3, e4⟩ := hin c
    have ha : Ref.args (m' (c.tc.loc Cert.ProjORefIdeal.main_arg0)) (m' (c.tc.loc Cert.ProjORefIdeal.main_arg1))
        (m' (c.tc.loc Cert.ProjORefIdeal.main_arg2)) (m' (c.tc.loc Cert.ProjORefIdeal.main_arg3))
        (m' (c.tc.loc Cert.ProjORefIdeal.main_arg4)) = args m c := ref_args e0 e1 e2 e3 e4
    refine ⟨h0.trans ?_, h1.trans ?_, h2.trans ?_, hargs⟩
    · refine (Cert.ProjORefIdeal.Read.val_main_v0_eq _ _).trans ?_
      funext j
      obtain ⟨i, k, rfl⟩ := eq_ix2 (a := 2048) (b := 1024) j
      exact (Ref.v0 (m' (c.tc.loc Cert.ProjORefIdeal.main_arg0)) _ _ (m' (c.tc.loc Cert.ProjORefIdeal.main_arg3))
        (m' (c.tc.loc Cert.ProjORefIdeal.main_arg4)) i k).trans (by rw [ha]; rfl)
    · refine (Cert.ProjORefIdeal.Read.val_main_v14_eq _ _ _ _).trans ?_
      funext j
      obtain ⟨i, k, rfl⟩ := eq_ix2 (a := 2048) (b := 1024) j
      exact (Ref.v14 _ _ _ _ (m' (c.tc.loc Cert.ProjORefIdeal.main_arg4)) i k).trans (by rw [ha]; rfl)
    · refine (Cert.ProjORefIdeal.Read.val_main_v28_eq _ _ _ _ _).trans ?_
      funext j
      obtain ⟨i, k, rfl⟩ := eq_ix2 (a := 2048) (b := 1024) j
      exact (Ref.v28 _ _ _ _ _ i k).trans (by rw [ha]; rfl)

end Cert.Proof.ProjO

end
-- ==== Proof.FirstNorm.Block.lean ====
/- The norm before the input projection: what it should compute, and what one grid point computes from its blocks. -/
module

public import proofs.«01_k».proof.Proof.Gen.FirstNormIdeal.Value
public import proofs.«01_k».proof.Proof.RowNorm
public import Idealize.ShloMosaic.Lib.Pointwise

@[expose] public section

noncomputable section

namespace Cert.Proof.FirstNorm

open Cert.FirstNormIdeal Cert.FirstNormIdeal.Gen Idealize.ShloMosaic Idealize.ShloMosaic.Pointwise Cert.Proof.RowNorm

/-- Every row over the root of its mean square, times the gain. -/
def normed (x : (⟨2, ![2048, 1024]⟩ : Shape).Idx → EReal) (g : (⟨1, ![1024]⟩ : Shape).Idx → EReal) :
    (⟨2, ![2048, 1024]⟩ : Shape).Idx → EReal :=
  fun j => x (ix2 (j 0) (j 1)) * rs (fun k => x (ix2 (j 0) k)) * g (ix1 (j 1))

variable (x0 : Vec Ideal S256x1024 .f32) (x1 : Vec Ideal S1x1024 .f32)

theorem hz2 : (![0, 0] : Fin 2 → ℕ) = fun _ => 0 := by decide
theorem ld0 : View.ld x0 r0_0 = x0 := View.ld_unit_zero (S := S256x1024) hz2 _ _
theorem ld1 : View.ld x1 r0_1 = x1 := View.ld_unit_zero (S := S1x1024) hz2 _ _

theorem out2_apply (r : Fin 256) (k : Fin 1024) :
    out0_2 x0 x1 (ix2 r k) = x0 (ix2 r k) * rs (fun k => x0 (ix2 r k)) * x1 (ix2 0 k) := by
  unfold out0_2
  rw [View.canon_unit_zero hz2, ld0, ld1]
  pointwise [k0_pay1]
  rfl

end Cert.Proof.FirstNorm

end
-- ==== Proof.FirstNorm.Array.lean ====
/- The array the first norm leaves: block `t` is rows 256 t to 256 t + 255. -/
module

public import proofs.«01_k».proof.Proof.FirstNorm.Block

@[expose] public section

noncomputable section

namespace Cert.Proof.FirstNorm

open Cert.FirstNormIdeal Cert.FirstNormIdeal.Gen Cert.FirstNormIdeal.Value Idealize.ShloMosaic Idealize.ShloMosaic.TcCoe
open Idealize.ShloMosaic.Pointwise Idealize.ShloMosaic.StableHlo Cert.Proof.RowNorm

variable (m : (ℓ : Loc nD τ sig) → Buf (Elt Ideal) ℓ) (c : Dev nD)

/-- Row `r` of block `t`. -/
abbrev at256 (t : Fin cfg0.N) (r : Fin 256) : Fin 2048 :=
  ⟨t.val * 256 + r.val, by have : cfg0.N = 8 := N_0; have := t.isLt; omega⟩

theorem at256_split (i : Fin 2048) : ∃ (t : Fin cfg0.N) (r : Fin 256), i = at256 t r := by
  have hN : cfg0.N = 8 := N_0
  exact ⟨⟨i.val / 256, by omega⟩, ⟨i.val % 256, by omega⟩, Fin.ext (by show i.val = i.val / 256 * 256 + i.val % 256; omega)⟩

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩

/-! ## Where a block lies -/

theorem ixw0 : ∀ t : Fin cfg0.N, win0_0.index t 0 = t.val ∧ win0_0.index t 1 = 0 := (by decide +kernel : ∀ t : Fin grid0.N, _)
theorem ixw1 : ∀ t : Fin cfg0.N, win0_1.index t 0 = 0 ∧ win0_1.index t 1 = 0 := (by decide +kernel : ∀ t : Fin grid0.N, _)
theorem ixw2 : ∀ t : Fin cfg0.N, win0_2.index t 0 = t.val ∧ win0_2.index t 1 = 0 := (by decide +kernel : ∀ t : Fin grid0.N, _)

theorem emb0 (t : Fin cfg0.N) (r : Fin 256) (k : Fin 1024) : ((cfg0.win 0).blk t).view.emb (ix2 r k) = ix2 (at256 t r) k := by
  obtain ⟨e0, e1⟩ := ixw0 t
  funext a; apply Fin.ext
  match a with
  | ⟨0, _⟩ => show win0_0.index t 0 * 256 + 1 * r.val = t.val * 256 + r.val; omega
  | ⟨1, _⟩ => show win0_0.index t 1 * 1024 + 1 * k.val = k.val; omega
theorem emb2 (t : Fin cfg0.N) (r : Fin 256) (k : Fin 1024) : ((cfg0.win 2).blk t).view.emb (ix2 r k) = ix2 (at256 t r) k := by
  obtain ⟨e0, e1⟩ := ixw2 t
  funext a; apply Fin.ext
  match a with
  | ⟨0, _⟩ => show win0_2.index t 0 * 256 + 1 * r.val = t.val * 256 + r.val; omega
  | ⟨1, _⟩ => show win0_2.index t 1 * 1024 + 1 * k.val = k.val; omega
theorem emb1 (t : Fin cfg0.N) (r : Fin 1) (k : Fin 1024) : ((cfg0.win 1).blk t).view.emb (ix2 r k) = ix2 r k := by
  obtain ⟨e0, e1⟩ := ixw1 t
  funext a; apply Fin.ext
  match a with
  | ⟨0, _⟩ => show win0_1.index t 0 * 1 + 1 * r.val = r.val; omega
  | ⟨1, _⟩ => show win0_1.index t 1 * 1024 + 1 * k.val = k.val; omega

/-- The program's arguments. -/
abbrev aX : S2048x1024.Idx → EReal := m ((c : Thread nD τ).loc main_arg0)
abbrev aG : S1024.Idx → EReal := m ((c : Thread nD τ).loc main_arg1)

theorem V0 (q : Fin 1) (k : Fin 1024) : V m c main_v0 (ix2 q k) = aG m c (ix1 k) := by
  unfold V hostOps0
  after_results
  pointwise

theorem in0 (t : Fin cfg0.N) (r : Fin 256) (k : Fin 1024) : iblk m c 0 t (ix2 r k) = aX m c (ix2 (at256 t r) k) := by
  show V m c main_arg0 (((cfg0.win 0).blk t).view.emb (ix2 r k)) = _
  rw [emb0, V_main_arg0]
theorem in1 (t : Fin cfg0.N) (k : Fin 1024) : iblk m c 1 t (ix2 0 k) = aG m c (ix1 k) := by
  show V m c main_v0 (((cfg0.win 1).blk t).view.emb (ix2 0 k)) = _
  rw [emb1, V0]

theorem flushed2_eq (t : Fin cfg0.N) :
    (dats m 0 c).flushed 2 t = ((cfg0.win 2).blk t).view.read (Elt Ideal) (normed (aX m c) (aG m c)) := by
  rw [flushed2]
  funext j
  obtain ⟨r, k, rfl⟩ := eq_ix2 (a := 256) (b := 1024) j
  show out0_2 (F := Ideal) _ _ (ix2 r k) = normed (aX m c) (aG m c) (((cfg0.win 2).blk t).view.emb (ix2 r k))
  rw [emb2, out2_apply]
  simp only [in0, in1]
  rfl
theorem final2 : (dats m 0 c).arrAt 2 cfg0.N = normed (aX m c) (aG m c) :=
  (dats m 0 c).arrAt_eq_of_cover 2 _ (fun t _ => flushed2_eq m c t) fun j => by
    obtain ⟨i, k, rfl⟩ := eq_ix2 (a := 2048) (b := 1024) j
    obtain ⟨t, r, rfl⟩ := at256_split i
    exact ⟨t, flush0_2 t, by have h := ((cfg0.win 2).blk t).view.emb_mem_set (ix2 r k); rwa [emb2] at h⟩

end Cert.Proof.FirstNorm

end
-- ==== Proof.FirstNorm.Equation.lean ====
/- The first norm computes the reference: both runs end with the same array. -/
module

public import proofs.«01_k».proof.Defs
public import proofs.«01_k».proof.Proof.Gen.FirstNormIdeal
public import proofs.«01_k».proof.Proof.Gen.FirstNormRefIdeal.Read
public import proofs.«01_k».proof.Proof.FirstNorm.Array

@[expose] public section

noncomputable section

namespace Cert.Proof.FirstNorm

open Idealize.ShloMosaic Idealize.ShloMosaic.TcCoe Idealize.ShloMosaic.Pointwise Idealize.SL.Sem Idealize.ShloMosaic.StableHlo
open Cert.FirstNormRefIdeal.Read Cert.Proof.RowNorm

/-- The reference's array. -/
theorem ref_apply (x : (⟨2, ![2048, 1024]⟩ : Shape).Idx → EReal) (g : (⟨1, ![1024]⟩ : Shape).Idx → EReal) (i : Fin 2048) (k : Fin 1024) :
    val_main_v13 (F := Ideal) x g (ix2 i k) = normed x g (ix2 i k) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem algebraic : Cert.algebraic_FirstNormIdeal_FirstNormRefIdeal := by
  intro m g m' g' _ hin
  refine ⟨fun c => normed (aX m c) (aG m c), ?_, ?_⟩
  · refine (θ_run Cert.FirstNormIdeal.defs _ _).mono (fun r h c => ?_) (Cert.FirstNormIdeal.Value.run_blocks (F := Ideal) m g)
    obtain ⟨h0, hargs⟩ := h c
    exact ⟨h0.trans (final2 m c), hargs⟩
  · refine (θ_run Cert.FirstNormRefIdeal.defs _ _).mono (fun r h c => ?_) (Cert.FirstNormRefIdeal.Value.run (F := Ideal) m' g')
    obtain ⟨h0, hargs⟩ := h c
    obtain ⟨e0, e1⟩ := hin c
    refine ⟨(h0.trans (val_main_v13_eq _ _)).trans ?_, hargs⟩
    funext j
    obtain ⟨i, k, rfl⟩ := eq_ix2 (a := 2048) (b := 1024) j
    exact (ref_apply _ _ i k).trans (congrArg₂ (fun x g => normed x g (ix2 i k)) e0 e1)

end Cert.Proof.FirstNorm

end
-- ==== Proof.Branches.Spec.lean ====
/- What `branches_out` computes, row by row: each branch's four heads normalised and gated, each branch's output
   projection, and the sum of the two projections under their gates. -/
module

public import Idealize.ShloMosaic.Lib.Pointwise

@[expose] public section

noncomputable section

namespace Cert.Proof.Branches

open Idealize.ShloMosaic

/-- The words' values: a head's width, the small constant. -/
abbrev cWidth : EReal := Ideal.ofBits FTy.f32 1124073472#32
abbrev cEps : EReal := Ideal.ofBits FTy.f32 897988541#32

/-- The logistic function. -/
def sg (x : EReal) : EReal := Ideal.div 1 (1 + Ideal.exp (-x))
/-- A head's mean. -/
def mu (v : Fin 128 → EReal) : EReal := Ideal.div (∑ k, v k) cWidth
/-- The inverse square root of a head's mean square, plus the small constant. -/
def rs (v : Fin 128 → EReal) : EReal := Ideal.rsqrt (Ideal.div (∑ k, v k * v k) cWidth + cEps)

/-- Column `k` of head `h` among the 512 columns. -/
abbrev col (h : Fin 4) (k : Fin 128) : Fin 512 := ⟨h.val * 128 + k.val, by omega⟩
/-- The head of a column, and its place in the head. -/
abbrev headOf (n : Fin 512) : Fin 4 := ⟨n.val / 128, by omega⟩
abbrev inHead (n : Fin 512) : Fin 128 := ⟨n.val % 128, by omega⟩

theorem col_headOf (n : Fin 512) : col (headOf n) (inHead n) = n :=
  Fin.ext (by show n.val / 128 * 128 + n.val % 128 = n.val; omega)

/-- One row's data: the linear attention's output and gate, the LSTM's cell value, output gate and skip value, the two
    branches' gates, the gains, the skip weights and the two projections. -/
@[ext] structure Row where
  o : Fin 512 → EReal
  g : Fin 512 → EReal
  hc : Fin 512 → EReal
  op : Fin 512 → EReal
  xc : Fin 512 → EReal
  ga : Fin 1024 → EReal
  gb : Fin 1024 → EReal
  gn : Fin 128 → EReal
  wa : Fin 512 → Fin 1024 → EReal
  gm : Fin 512 → EReal
  sk : Fin 512 → EReal
  wb : Fin 512 → Fin 1024 → EReal

namespace Row

variable (R : Row)

/-- The linear attention's head, normalised and gated. -/
def glaH (h : Fin 4) (k : Fin 128) : EReal :=
  R.o (col h k) * rs (fun e => R.o (col h e)) * R.gn k * (R.g (col h k) * sg (R.g (col h k)))
/-- The LSTM's gated cell value, less its head's mean. -/
def ctr (h : Fin 4) (k : Fin 128) : EReal :=
  R.hc (col h k) * sg (R.op (col h k)) - mu (fun e => R.hc (col h e) * sg (R.op (col h e)))
/-- The LSTM's head, normalised, plus the skip. -/
def mlH (h : Fin 4) (k : Fin 128) : EReal :=
  R.ctr h k * rs (R.ctr h) * R.gm (col h k) + R.sk (col h k) * R.xc (col h k)

/-- The heads side by side. -/
def gla (n : Fin 512) : EReal := R.glaH (headOf n) (inHead n)
def ml (n : Fin 512) : EReal := R.mlH (headOf n) (inHead n)
/-- The two projections and the gated sum. -/
def ya (k : Fin 1024) : EReal := ∑ e, R.gla e * R.wa e k
def yb (k : Fin 1024) : EReal := ∑ e, R.ml e * R.wb e k
def merged (k : Fin 1024) : EReal := sg (R.ga k) * R.ya k + sg (R.gb k) * R.yb k

end Row

/-- The arguments by row and column. -/
structure Args where
  o : Fin 2048 → Fin 512 → EReal
  g : Fin 2048 → Fin 512 → EReal
  hc : Fin 2048 → Fin 512 → EReal
  op : Fin 2048 → Fin 512 → EReal
  xc : Fin 2048 → Fin 512 → EReal
  ga : Fin 2048 → Fin 1024 → EReal
  gb : Fin 2048 → Fin 1024 → EReal
  gn : Fin 128 → EReal
  wa : Fin 512 → Fin 1024 → EReal
  gm : Fin 512 → EReal
  sk : Fin 512 → EReal
  wb : Fin 512 → Fin 1024 → EReal

namespace Args

variable (A : Args)

def row (i : Fin 2048) : Row :=
  ⟨A.o i, A.g i, A.hc i, A.op i, A.xc i, A.ga i, A.gb i, A.gn, A.wa, A.gm, A.sk, A.wb⟩

/-- The five results. -/
def outGla : (⟨2, ![2048, 512]⟩ : Shape).Idx → EReal := fun j => (A.row (j 0)).gla (j 1)
def outYa : (⟨2, ![2048, 1024]⟩ : Shape).Idx → EReal := fun j => (A.row (j 0)).ya (j 1)
def outMl : (⟨2, ![2048, 512]⟩ : Shape).Idx → EReal := fun j => (A.row (j 0)).ml (j 1)
def outYb : (⟨2, ![2048, 1024]⟩ : Shape).Idx → EReal := fun j => (A.row (j 0)).yb (j 1)
def outMerged : (⟨2, ![2048, 1024]⟩ : Shape).Idx → EReal := fun j => (A.row (j 0)).merged (j 1)

end Args

end Cert.Proof.Branches

end
-- ==== Proof.Branches.Block.lean ====
/- What one grid point of `branches_out` computes from its blocks: row `r` of each output block is the row function of
   row `r` of the input blocks. -/
module

public import proofs.«01_k».proof.Proof.Gen.BranchesIdeal.Value
public import proofs.«01_k».proof.Proof.Branches.Spec
public import Idealize.ShloMosaic.Lib.Pointwise

@[expose] public section

noncomputable section

namespace Cert.Proof.Branches

open Cert.BranchesIdeal Cert.BranchesIdeal.Gen Idealize.ShloMosaic Idealize.ShloMosaic.Pointwise

/-! ## A head at columns given by a map -/

/-- The heads' columns, as the kernel's slices name them. -/
abbrev c0 (k : Fin 128) : Fin 512 := ⟨k.val, by omega⟩
abbrev c1 (k : Fin 128) : Fin 512 := ⟨128 + k.val, by omega⟩
abbrev c2 (k : Fin 128) : Fin 512 := ⟨256 + k.val, by omega⟩
abbrev c3 (k : Fin 128) : Fin 512 := ⟨384 + k.val, by omega⟩

theorem c0_eq : c0 = col 0 := funext fun k => Fin.ext (by show k.val = 0 * 128 + k.val; omega)
theorem c1_eq : c1 = col 1 := funext fun k => Fin.ext (by show 128 + k.val = 1 * 128 + k.val; omega)
theorem c2_eq : c2 = col 2 := funext fun k => Fin.ext (by show 256 + k.val = 2 * 128 + k.val; omega)
theorem c3_eq : c3 = col 3 := funext fun k => Fin.ext (by show 384 + k.val = 3 * 128 + k.val; omega)

namespace Row

variable (R : Row) (c : Fin 128 → Fin 512)

def glaC (k : Fin 128) : EReal := R.o (c k) * rs (fun e => R.o (c e)) * R.gn k * (R.g (c k) * sg (R.g (c k)))
def ctrC (k : Fin 128) : EReal := R.hc (c k) * sg (R.op (c k)) - mu (fun e => R.hc (c e) * sg (R.op (c e)))
def mlC (k : Fin 128) : EReal := R.ctrC c k * rs (R.ctrC c) * R.gm (c k) + R.sk (c k) * R.xc (c k)

/-- A head's entry is the entry of all heads at its column. -/
theorem glaC_at (h : Fin 4) (k : Fin 128) (n : Fin 512) (hc : c = col h) (hn : n.val = h.val * 128 + k.val) :
    R.glaC c k = R.gla n := by
  subst hc
  show R.glaH h k = R.glaH (headOf n) (inHead n)
  congr 1 <;> apply Fin.ext
  · show h.val = n.val / 128; omega
  · show k.val = n.val % 128; omega
theorem mlC_at (h : Fin 4) (k : Fin 128) (n : Fin 512) (hc : c = col h) (hn : n.val = h.val * 128 + k.val) :
    R.mlC c k = R.ml n := by
  subst hc
  show R.mlH h k = R.mlH (headOf n) (inHead n)
  congr 1 <;> apply Fin.ext
  · show h.val = n.val / 128; omega
  · show k.val = n.val % 128; omega

end Row

/-- A choice whose branches agree. -/
theorem dite_both {p : Prop} [Decidable p] {α : Type} {a : p → α} {b : ¬p → α} {v : α} (ha : ∀ h, a h = v)
    (hb : ∀ h, b h = v) : dite p a b = v := by
  by_cases h : p
  · rw [dif_pos h, ha]
  · rw [dif_neg h, hb]

/-! ## The body's values -/

variable (x0 x1 x2 x3 x4 : Vec Ideal S512x512 .f32) (x5 x6 : Vec Ideal S512x1024 .f32) (x7 : Vec Ideal S1x128 .f32)
  (x8 : Vec Ideal S512x1024 .bf16) (x9 x10 : Vec Ideal S1x512 .f32) (x11 : Vec Ideal S512x1024 .bf16)

/-- Row `r` of the point's input blocks. -/
def rowOf (r : Fin 512) : Row where
  o k := x0 (ix2 r k)
  g k := x1 (ix2 r k)
  hc k := x2 (ix2 r k)
  op k := x3 (ix2 r k)
  xc k := x4 (ix2 r k)
  ga k := x5 (ix2 r k)
  gb k := x6 (ix2 r k)
  gn k := x7 (ix2 0 k)
  wa e k := x8 (ix2 e k)
  gm k := x9 (ix2 0 k)
  sk k := x10 (ix2 0 k)
  wb e k := x11 (ix2 e k)

theorem pay8_eq : k0_pay8 (F := Ideal) x7 = x7 := shapeCast_self _ _
theorem pay9_eq : k0_pay9 (F := Ideal) x8 = x8 := shapeCast_self _ _
theorem pay10_eq : k0_pay10 (F := Ideal) x9 = x9 := shapeCast_self _ _
theorem pay11_eq : k0_pay11 (F := Ideal) x10 = x10 := shapeCast_self _ _
theorem pay12_eq : k0_pay12 (F := Ideal) x11 = x11 := shapeCast_self _ _

theorem gla0 (r : Fin 512) (k : Fin 128) : k0_pay16 (F := Ideal) (k0_pay13 x1) (k0_pay14 x0 x7) (k0_pay15 x1) (ix2 r k)
    = (rowOf x0 x1 x2 x3 x4 x5 x6 x7 x8 x9 x10 x11 r).glaC c0 k := by
  pointwise [k0_pay16, k0_pay13, k0_pay14, k0_pay15, k0_pay8]
  rfl
theorem gla1 (r : Fin 512) (k : Fin 128) : k0_pay17 (F := Ideal) x0 x1 x7 (ix2 r k)
    = (rowOf x0 x1 x2 x3 x4 x5 x6 x7 x8 x9 x10 x11 r).glaC c1 k := by
  pointwise [k0_pay17]
  rfl
theorem gla2 (r : Fin 512) (k : Fin 128) : k0_pay18 (F := Ideal) x0 x1 x7 (ix2 r k)
    = (rowOf x0 x1 x2 x3 x4 x5 x6 x7 x8 x9 x10 x11 r).glaC c2 k := by
  pointwise [k0_pay18]
  rfl
theorem gla3 (r : Fin 512) (k : Fin 128) : k0_pay20 (F := Ideal) x0 x7 (ix2 r k)
      * (k0_pay19 (F := Ideal) x1 (ix2 r k) * k0_pay21 (F := Ideal) x1 (ix2 r k))
    = (rowOf x0 x1 x2 x3 x4 x5 x6 x7 x8 x9 x10 x11 r).glaC c3 k := by
  pointwise [k0_pay20, k0_pay21, k0_pay19]
  rfl

/-- The linear attention's heads. -/
theorem gla_apply (r n : Fin 512) : k0_pay22 (F := Ideal) (k0_pay16 (k0_pay13 x1) (k0_pay14 x0 x7) (k0_pay15 x1))
      (k0_pay17 x0 x1 x7) (k0_pay18 x0 x1 x7) (k0_pay19 x1) (k0_pay20 x0 x7) (k0_pay21 x1) (ix2 r n)
    = (rowOf x0 x1 x2 x3 x4 x5 x6 x7 x8 x9 x10 x11 r).gla n := by
  pointwise [k0_pay22]
  refine dite_both (fun h => (gla0 x0 x1 x2 x3 x4 x5 x6 x7 x8 x9 x10 x11 r _).trans (Row.glaC_at _ _ 0 _ n c0_eq ?_)) fun h0 => ?_
  · show n.val = 0 * 128 + n.val; omega
  refine dite_both (fun h => (gla1 x0 x1 x2 x3 x4 x5 x6 x7 x8 x9 x10 x11 r _).trans (Row.glaC_at _ _ 1 _ n c1_eq ?_)) fun h1 => ?_
  · show n.val = 1 * 128 + (n.val - 128); omega
  refine dite_both (fun h => (gla2 x0 x1 x2 x3 x4 x5 x6 x7 x8 x9 x10 x11 r _).trans (Row.glaC_at _ _ 2 _ n c2_eq ?_)) fun h2 =>
    (gla3 x0 x1 x2 x3 x4 x5 x6 x7 x8 x9 x10 x11 r _).trans (Row.glaC_at _ _ 3 _ n c3_eq ?_)
  · show n.val = 2 * 128 + (n.val - 128 - 128); omega
  · show n.val = 3 * 128 + (n.val - 128 - 128 - 128); omega

theorem ml0 (r : Fin 512) (k : Fin 128) : k0_pay24 (F := Ideal) x2 x3 x4 x9 x10 (ix2 r k)
    = (rowOf x0 x1 x2 x3 x4 x5 x6 x7 x8 x9 x10 x11 r).mlC c0 k := by
  pointwise [k0_pay24]
  rfl
theorem ml1 (r : Fin 512) (k : Fin 128) : k0_pay31 (F := Ideal) (k0_pay25 x4) (k0_pay26 x9) (k0_pay27 x10) (k0_pay28 x2 x3)
      (k0_pay29 x2 x3) k0_pay30 (ix2 r k)
    = (rowOf x0 x1 x2 x3 x4 x5 x6 x7 x8 x9 x10 x11 r).mlC c1 k := by
  pointwise [k0_pay31, k0_pay30, k0_pay29, k0_pay28, k0_pay27, k0_pay26, k0_pay25]
  rfl
theorem ml2 (r : Fin 512) (k : Fin 128) : k0_pay32 (F := Ideal) x2 x3 x4 x9 x10 (ix2 r k)
    = (rowOf x0 x1 x2 x3 x4 x5 x6 x7 x8 x9 x10 x11 r).mlC c2 k := by
  pointwise [k0_pay32]
  rfl
theorem ctr3 (r : Fin 512) (k : Fin 128) : k0_pay36 (F := Ideal) x2 x3 (ix2 r k)
    = (rowOf x0 x1 x2 x3 x4 x5 x6 x7 x8 x9 x10 x11 r).ctrC c3 k := by
  pointwise [k0_pay36]
  rfl
theorem ml3 (r : Fin 512) (k : Fin 128) : k0_pay36 (F := Ideal) x2 x3 (ix2 r k) * rs (fun e => k0_pay36 (F := Ideal) x2 x3 (ix2 r e))
      * k0_pay34 (F := Ideal) x9 (ix2 0 k) + k0_pay35 (F := Ideal) x10 (ix2 0 k) * k0_pay33 (F := Ideal) x4 (ix2 r k)
    = (rowOf x0 x1 x2 x3 x4 x5 x6 x7 x8 x9 x10 x11 r).mlC c3 k := by
  simp only [ctr3 x0 x1 x2 x3 x4 x5 x6 x7 x8 x9 x10 x11]
  pointwise [k0_pay33, k0_pay34, k0_pay35]
  rfl

/-- The LSTM's heads, as the body puts them together. -/
abbrev mlPay : FVec Ideal S512x512 .f32 :=
  k0_pay1 (F := Ideal) (k0_pay24 x2 x3 x4 x9 x10)
    (k0_pay31 (k0_pay25 x4) (k0_pay26 x9) (k0_pay27 x10) (k0_pay28 x2 x3) (k0_pay29 x2 x3) k0_pay30)
    (k0_pay32 x2 x3 x4 x9 x10) (k0_pay33 x4) (k0_pay34 x9) (k0_pay35 x10) (k0_pay36 x2 x3)

theorem ml_apply (r n : Fin 512) : mlPay x2 x3 x4 x9 x10 (ix2 r n)
    = (rowOf x0 x1 x2 x3 x4 x5 x6 x7 x8 x9 x10 x11 r).ml n := by
  unfold mlPay
  pointwise [k0_pay1]
  refine dite_both (fun h => (ml0 x0 x1 x2 x3 x4 x5 x6 x7 x8 x9 x10 x11 r _).trans (Row.mlC_at _ _ 0 _ n c0_eq ?_)) fun h0 => ?_
  · show n.val = 0 * 128 + n.val; omega
  refine dite_both (fun h => (ml1 x0 x1 x2 x3 x4 x5 x6 x7 x8 x9 x10 x11 r _).trans (Row.mlC_at _ _ 1 _ n c1_eq ?_)) fun h1 => ?_
  · show n.val = 1 * 128 + (n.val - 128); omega
  refine dite_both (fun h => (ml2 x0 x1 x2 x3 x4 x5 x6 x7 x8 x9 x10 x11 r _).trans (Row.mlC_at _ _ 2 _ n c2_eq ?_)) fun h2 =>
    (ml3 x0 x1 x2 x3 x4 x5 x6 x7 x8 x9 x10 x11 r _).trans (Row.mlC_at _ _ 3 _ n c3_eq ?_)
  · show n.val = 2 * 128 + (n.val - 128 - 128); omega
  · show n.val = 3 * 128 + (n.val - 128 - 128 - 128); omega

theorem ya_apply (r : Fin 512) (k : Fin 1024) : k0_pay23 (F := Ideal) x8 (k0_pay16 (k0_pay13 x1) (k0_pay14 x0 x7) (k0_pay15 x1))
      (k0_pay17 x0 x1 x7) (k0_pay18 x0 x1 x7) (k0_pay19 x1) (k0_pay20 x0 x7) (k0_pay21 x1) (ix2 r k)
    = (rowOf x0 x1 x2 x3 x4 x5 x6 x7 x8 x9 x10 x11 r).ya k := by
  pointwise [k0_pay23]
  simp only [gla_apply x0 x1 x2 x3 x4 x5 x6 x7 x8 x9 x10 x11]
  rfl

theorem yb_apply (r : Fin 512) (k : Fin 1024) : k0_pay2 (F := Ideal) x11 (k0_pay24 x2 x3 x4 x9 x10)
      (k0_pay31 (k0_pay25 x4) (k0_pay26 x9) (k0_pay27 x10) (k0_pay28 x2 x3) (k0_pay29 x2 x3) k0_pay30)
      (k0_pay32 x2 x3 x4 x9 x10) (k0_pay33 x4) (k0_pay34 x9) (k0_pay35 x10) (k0_pay36 x2 x3) (ix2 r k)
    = (rowOf x0 x1 x2 x3 x4 x5 x6 x7 x8 x9 x10 x11 r).yb k := by
  pointwise [k0_pay2]
  simp only [ml_apply x0 x1 x2 x3 x4 x5 x6 x7 x8 x9 x10 x11]
  rfl

/-! ## The five output blocks -/

theorem hz2 : (![0, 0] : Fin 2 → ℕ) = fun _ => 0 := by decide
theorem ld0 {e : EltTy} (x : Vec Ideal S512x512 e) : View.ld x r0_0 = x := View.ld_unit_zero (S := S512x512) hz2 _ _
theorem ld1 {e : EltTy} (x : Vec Ideal S512x1024 e) : View.ld x r0_1 = x := View.ld_unit_zero (S := S512x1024) hz2 _ _
theorem ld2 {e : EltTy} (x : Vec Ideal S1x128 e) : View.ld x r0_2 = x := View.ld_unit_zero (S := S1x128) hz2 _ _
theorem ld3 {e : EltTy} (x : Vec Ideal S1x512 e) : View.ld x r0_3 = x := View.ld_unit_zero (S := S1x512) hz2 _ _

theorem out12_apply (r n : Fin 512) : out0_12 x0 x1 x2 x3 x4 x5 x6 x7 x8 x9 x10 x11 (ix2 r n)
    = (rowOf x0 x1 x2 x3 x4 x5 x6 x7 x8 x9 x10 x11 r).gla n := by
  unfold out0_12 k0_pay46 k0_pay45 k0_pay44 k0_pay43 k0_pay42 k0_pay41 k0_pay37
  rw [View.canon_unit_zero hz2]
  simp only [ld0, ld1, ld2, ld3, pay8_eq, pay9_eq, pay10_eq, pay11_eq, pay12_eq]
  pointwise [k0_pay3]
  exact gla_apply x0 x1 x2 x3 x4 x5 x6 x7 x8 x9 x10 x11 r n

theorem out13_apply (r : Fin 512) (k : Fin 1024) : out0_13 x0 x1 x2 x3 x4 x5 x6 x7 x8 x9 x10 x11 (ix2 r k)
    = (rowOf x0 x1 x2 x3 x4 x5 x6 x7 x8 x9 x10 x11 r).ya k := by
  unfold out0_13 k0_pay47 k0_pay46 k0_pay45 k0_pay44 k0_pay43 k0_pay42 k0_pay41 k0_pay37
  rw [View.canon_unit_zero hz2]
  simp only [ld0, ld1, ld2, ld3, pay8_eq, pay9_eq, pay10_eq, pay11_eq, pay12_eq]
  pointwise [k0_pay4]
  exact ya_apply x0 x1 x2 x3 x4 x5 x6 x7 x8 x9 x10 x11 r k

theorem out14_apply (r n : Fin 512) : out0_14 x0 x1 x2 x3 x4 x5 x6 x7 x8 x9 x10 x11 (ix2 r n)
    = (rowOf x0 x1 x2 x3 x4 x5 x6 x7 x8 x9 x10 x11 r).ml n := by
  unfold out0_14 k0_pay54 k0_pay53 k0_pay52 k0_pay51 k0_pay50 k0_pay49 k0_pay48 k0_pay39 k0_pay38
  rw [View.canon_unit_zero hz2]
  simp only [ld0, ld1, ld2, ld3, pay8_eq, pay9_eq, pay10_eq, pay11_eq, pay12_eq]
  pointwise [k0_pay5]
  exact ml_apply x0 x1 x2 x3 x4 x5 x6 x7 x8 x9 x10 x11 r n

theorem out15_apply (r : Fin 512) (k : Fin 1024) : out0_15 x0 x1 x2 x3 x4 x5 x6 x7 x8 x9 x10 x11 (ix2 r k)
    = (rowOf x0 x1 x2 x3 x4 x5 x6 x7 x8 x9 x10 x11 r).yb k := by
  unfold out0_15 k0_pay54 k0_pay53 k0_pay52 k0_pay51 k0_pay50 k0_pay49 k0_pay48 k0_pay40 k0_pay39 k0_pay38
  rw [View.canon_unit_zero hz2]
  simp only [ld0, ld1, ld2, ld3, pay8_eq, pay9_eq, pay10_eq, pay11_eq, pay12_eq]
  pointwise [k0_pay6]
  exact yb_apply x0 x1 x2 x3 x4 x5 x6 x7 x8 x9 x10 x11 r k

theorem out16_apply (r : Fin 512) (k : Fin 1024) : out0_16 x0 x1 x2 x3 x4 x5 x6 x7 x8 x9 x10 x11 (ix2 r k)
    = (rowOf x0 x1 x2 x3 x4 x5 x6 x7 x8 x9 x10 x11 r).merged k := by
  unfold out0_16 k0_pay54 k0_pay53 k0_pay52 k0_pay51 k0_pay50 k0_pay49 k0_pay48 k0_pay47 k0_pay46 k0_pay45 k0_pay44 k0_pay43
    k0_pay42 k0_pay41 k0_pay40 k0_pay39 k0_pay38 k0_pay37
  rw [View.canon_unit_zero hz2]
  simp only [ld0, ld1, ld2, ld3, pay8_eq, pay9_eq, pay10_eq, pay11_eq, pay12_eq]
  pointwise [k0_pay7]
  rw [ya_apply x0 x1 x2 x3 x4 x5 x6 x7 x8 x9 x10 x11, yb_apply x0 x1 x2 x3 x4 x5 x6 x7 x8 x9 x10 x11]
  rfl

end Cert.Proof.Branches

end
-- ==== Proof.Branches.Host.lean ====
/- The arrays the host lines hand to `branches_out`, at an index: casts of the arguments and the gains as rows. -/
module

public import proofs.«01_k».proof.Proof.Gen.BranchesIdeal.Frame
public import proofs.«01_k».proof.Proof.Branches.Spec
public import Idealize.ShloMosaic.Lib.Pointwise

@[expose] public section

noncomputable section

namespace Cert.Proof.Branches

open Cert.BranchesIdeal Cert.BranchesIdeal.Gen Idealize.ShloMosaic Idealize.ShloMosaic.TcCoe
open Idealize.ShloMosaic.StableHlo Idealize.ShloMosaic.Pointwise

variable (m : (ℓ : Loc nD τ sig) → Buf (Elt Ideal) ℓ) (c : Dev nD)

/-- The program's arguments. -/
abbrev aO : S2048x512.Idx → EReal := m ((c : Thread nD τ).loc main_arg0)
abbrev aG : S2048x512.Idx → EReal := m ((c : Thread nD τ).loc main_arg1)
abbrev aHc : S2048x512.Idx → EReal := m ((c : Thread nD τ).loc main_arg2)
abbrev aOp : S2048x512.Idx → EReal := m ((c : Thread nD τ).loc main_arg3)
abbrev aXc : S2048x512.Idx → EReal := m ((c : Thread nD τ).loc main_arg4)
abbrev aGa : S2048x1024.Idx → EReal := m ((c : Thread nD τ).loc main_arg5)
abbrev aGb : S2048x1024.Idx → EReal := m ((c : Thread nD τ).loc main_arg6)
abbrev aGn : S128.Idx → EReal := m ((c : Thread nD τ).loc main_arg7)
abbrev aWa : S512x1024.Idx → EReal := m ((c : Thread nD τ).loc main_arg8)
abbrev aGm : S512.Idx → EReal := m ((c : Thread nD τ).loc main_arg9)
abbrev aSk : S512.Idx → EReal := m ((c : Thread nD τ).loc main_arg10)
abbrev aWb : S512x1024.Idx → EReal := m ((c : Thread nD τ).loc main_arg11)

/-- The same by row and column. -/
def args : Args where
  o i k := aO m c (ix2 i k)
  g i k := aG m c (ix2 i k)
  hc i k := aHc m c (ix2 i k)
  op i k := aOp m c (ix2 i k)
  xc i k := aXc m c (ix2 i k)
  ga i k := aGa m c (ix2 i k)
  gb i k := aGb m c (ix2 i k)
  gn k := aGn m c (ix1 k)
  wa e k := aWa m c (ix2 e k)
  gm k := aGm m c (ix1 k)
  sk k := aSk m c (ix1 k)
  wb e k := aWb m c (ix2 e k)

theorem V0 (q : Fin 1) (k : Fin 128) : V m c main_v0 (ix2 q k) = aGn m c (ix1 k) := by
  unfold V hostOps0
  after_results
  pointwise
theorem V1 (e : Fin 512) (k : Fin 1024) : V m c main_v1 (ix2 e k) = aWa m c (ix2 e k) := by
  unfold V hostOps0
  after_results
  rfl
theorem V2 (q : Fin 1) (k : Fin 512) : V m c main_v2 (ix2 q k) = aGm m c (ix1 k) := by
  unfold V hostOps0
  after_results
  pointwise
theorem V3 (q : Fin 1) (k : Fin 512) : V m c main_v3 (ix2 q k) = aSk m c (ix1 k) := by
  unfold V hostOps0
  after_results
  pointwise
theorem V4 (e : Fin 512) (k : Fin 1024) : V m c main_v4 (ix2 e k) = aWb m c (ix2 e k) := by
  unfold V hostOps0
  after_results
  rfl

end Cert.Proof.Branches

end
-- ==== Proof.Branches.Array.lean ====
/- The five arrays `branches_out` leaves, as row functions of the arguments: block `t` of each is rows 512 t to 512 t + 511. -/
module

public import proofs.«01_k».proof.Proof.Branches.Block
public import proofs.«01_k».proof.Proof.Branches.Host

@[expose] public section

noncomputable section

namespace Cert.Proof.Branches

open Cert.BranchesIdeal Cert.BranchesIdeal.Gen Cert.BranchesIdeal.Value Idealize.ShloMosaic Idealize.ShloMosaic.TcCoe
open Idealize.ShloMosaic.Pointwise

variable (m : (ℓ : Loc nD τ sig) → Buf (Elt Ideal) ℓ) (c : Dev nD)

/-- Row `r` of block `t`. -/
abbrev at512 (t : Fin cfg0.N) (r : Fin 512) : Fin 2048 :=
  ⟨t.val * 512 + r.val, by have : cfg0.N = 4 := N_0; have := t.isLt; omega⟩

theorem at512_split (i : Fin 2048) : ∃ (t : Fin cfg0.N) (r : Fin 512), i = at512 t r := by
  have hN : cfg0.N = 4 := N_0
  exact ⟨⟨i.val / 512, by omega⟩, ⟨i.val % 512, by omega⟩, Fin.ext (by show i.val = i.val / 512 * 512 + i.val % 512; omega)⟩

theorem eq_ix2 {a b : ℕ} (j : (⟨2, ![a, b]⟩ : Shape).Idx) : ∃ (r : Fin a) (k : Fin b), j = ix2 r k :=
  ⟨j 0, j 1, funext fun x => by match x with | ⟨0, _⟩ => rfl | ⟨1, _⟩ => rfl⟩

theorem ix2_ext {a b : ℕ} {j : (⟨2, ![a, b]⟩ : Shape).Idx} {r : Fin a} {k : Fin b} (h0 : (j 0).val = r.val)
    (h1 : (j 1).val = k.val) : j = ix2 r k :=
  funext fun x => by match x with | ⟨0, _⟩ => exact Fin.ext h0 | ⟨1, _⟩ => exact Fin.ext h1

/-! ## Where a block lies -/

theorem ixw0 : ∀ t : Fin cfg0.N, win0_0.index t 0 = t.val ∧ win0_0.index t 1 = 0 := (by decide +kernel : ∀ t : Fin grid0.N, _)
theorem ixw1 : ∀ t : Fin cfg0.N, win0_1.index t 0 = t.val ∧ win0_1.index t 1 = 0 := (by decide +kernel : ∀ t : Fin grid0.N, _)
theorem ixw2 : ∀ t : Fin cfg0.N, win0_2.index t 0 = t.val ∧ win0_2.index t 1 = 0 := (by decide +kernel : ∀ t : Fin grid0.N, _)
theorem ixw3 : ∀ t : Fin cfg0.N, win0_3.index t 0 = t.val ∧ win0_3.index t 1 = 0 := (by decide +kernel : ∀ t : Fin grid0.N, _)
theorem ixw4 : ∀ t : Fin cfg0.N, win0_4.index t 0 = t.val ∧ win0_4.index t 1 = 0 := (by decide +kernel : ∀ t : Fin grid0.N, _)
theorem ixw5 : ∀ t : Fin cfg0.N, win0_5.index t 0 = t.val ∧ win0_5.index t 1 = 0 := (by decide +kernel : ∀ t : Fin grid0.N, _)
theorem ixw6 : ∀ t : Fin cfg0.N, win0_6.index t 0 = t.val ∧ win0_6.index t 1 = 0 := (by decide +kernel : ∀ t : Fin grid0.N, _)
theorem ixw12 : ∀ t : Fin cfg0.N, win0_12.index t 0 = t.val ∧ win0_12.index t 1 = 0 := (by decide +kernel : ∀ t : Fin grid0.N, _)
theorem ixw13 : ∀ t : Fin cfg0.N, win0_13.index t 0 = t.val ∧ win0_13.index t 1 = 0 := (by decide +kernel : ∀ t : Fin grid0.N, _)
theorem ixw14 : ∀ t : Fin cfg0.N, win0_14.index t 0 = t.val ∧ win0_14.index t 1 = 0 := (by decide +kernel : ∀ t : Fin grid0.N, _)
theorem ixw15 : ∀ t : Fin cfg0.N, win0_15.index t 0 = t.val ∧ win0_15.index t 1 = 0 := (by decide +kernel : ∀ t : Fin grid0.N, _)
theorem ixw16 : ∀ t : Fin cfg0.N, win0_16.index t 0 = t.val ∧ win0_16.index t 1 = 0 := (by decide +kernel : ∀ t : Fin grid0.N, _)
theorem ixw7 : ∀ t : Fin cfg0.N, win0_7.index t 0 = 0 ∧ win0_7.index t 1 = 0 := (by decide +kernel : ∀ t : Fin grid0.N, _)
theorem ixw8 : ∀ t : Fin cfg0.N, win0_8.index t 0 = 0 ∧ win0_8.index t 1 = 0 := (by decide +kernel : ∀ t : Fin grid0.N, _)
theorem ixw9 : ∀ t : Fin cfg0.N, win0_9.index t 0 = 0 ∧ win0_9.index t 1 = 0 := (by decide +kernel : ∀ t : Fin grid0.N, _)
theorem ixw10 : ∀ t : Fin cfg0.N, win0_10.index t 0 = 0 ∧ win0_10.index t 1 = 0 := (by decide +kernel : ∀ t : Fin grid0.N, _)
theorem ixw11 : ∀ t : Fin cfg0.N, win0_11.index t 0 = 0 ∧ win0_11.index t 1 = 0 := (by decide +kernel : ∀ t : Fin grid0.N, _)

theorem emb0 (t : Fin cfg0.N) (r : Fin 512) (k : Fin 512) : ((cfg0.win 0).blk t).view.emb (ix2 r k) = ix2 (at512 t r) k :=
  ix2_ext (by show win0_0.index t 0 * 512 + 1 * r.val = t.val * 512 + r.val; have := (ixw0 t).1; omega)
    (by show win0_0.index t 1 * 512 + 1 * k.val = k.val; have := (ixw0 t).2; omega)
theorem emb1 (t : Fin cfg0.N) (r : Fin 512) (k : Fin 512) : ((cfg0.win 1).blk t).view.emb (ix2 r k) = ix2 (at512 t r) k :=
  ix2_ext (by show win0_1.index t 0 * 512 + 1 * r.val = t.val * 512 + r.val; have := (ixw1 t).1; omega)
    (by show win0_1.index t 1 * 512 + 1 * k.val = k.val; have := (ixw1 t).2; omega)
theorem emb2 (t : Fin cfg0.N) (r : Fin 512) (k : Fin 512) : ((cfg0.win 2).blk t).view.emb (ix2 r k) = ix2 (at512 t r) k :=
  ix2_ext (by show win0_2.index t 0 * 512 + 1 * r.val = t.val * 512 + r.val; have := (ixw2 t).1; omega)
    (by show win0_2.index t 1 * 512 + 1 * k.val = k.val; have := (ixw2 t).2; omega)
theorem emb3 (t : Fin cfg0.N) (r : Fin 512) (k : Fin 512) : ((cfg0.win 3).blk t).view.emb (ix2 r k) = ix2 (at512 t r) k :=
  ix2_ext (by show win0_3.index t 0 * 512 + 1 * r.val = t.val * 512 + r.val; have := (ixw3 t).1; omega)
    (by show win0_3.index t 1 * 512 + 1 * k.val = k.val; have := (ixw3 t).2; omega)
theorem emb4 (t : Fin cfg0.N) (r : Fin 512) (k : Fin 512) : ((cfg0.win 4).blk t).view.emb (ix2 r k) = ix2 (at512 t r) k :=
  ix2_ext (by show win0_4.index t 0 * 512 + 1 * r.val = t.val * 512 + r.val; have := (ixw4 t).1; omega)
    (by show win0_4.index t 1 * 512 + 1 * k.val = k.val; have := (ixw4 t).2; omega)
theorem emb5 (t : Fin cfg0.N) (r : Fin 512) (k : Fin 1024) : ((cfg0.win 5).blk t).view.emb (ix2 r k) = ix2 (at512 t r) k :=
  ix2_ext (by show win0_5.index t 0 * 512 + 1 * r.val = t.val * 512 + r.val; have := (ixw5 t).1; omega)
    (by show win0_5.index t 1 * 1024 + 1 * k.val = k.val; have := (ixw5 t).2; omega)
theorem emb6 (t : Fin cfg0.N) (r : Fin 512) (k : Fin 1024) : ((cfg0.win 6).blk t).view.emb (ix2 r k) = ix2 (at512 t r) k :=
  ix2_ext (by show win0_6.index t 0 * 512 + 1 * r.val = t.val * 512 + r.val; have := (ixw6 t).1; omega)
    (by show win0_6.index t 1 * 1024 + 1 * k.val = k.val; have := (ixw6 t).2; omega)
theorem emb12 (t : Fin cfg0.N) (r : Fin 512) (k : Fin 512) : ((cfg0.win 12).blk t).view.emb (ix2 r k) = ix2 (at512 t r) k :=
  ix2_ext (by show win0_12.index t 0 * 512 + 1 * r.val = t.val * 512 + r.val; have := (ixw12 t).1; omega)
    (by show win0_12.index t 1 * 512 + 1 * k.val = k.val; have := (ixw12 t).2; omega)
theorem emb13 (t : Fin cfg0.N) (r : Fin 512) (k : Fin 1024) : ((cfg0.win 13).blk t).view.emb (ix2 r k) = ix2 (at512 t r) k :=
  ix2_ext (by show win0_13.index t 0 * 512 + 1 * r.val = t.val * 512 + r.val; have := (ixw13 t).1; omega)
    (by show win0_13.index t 1 * 1024 + 1 * k.val = k.val; have := (ixw13 t).2; omega)
theorem emb14 (t : Fin cfg0.N) (r : Fin 512) (k : Fin 512) : ((cfg0.win 14).blk t).view.emb (ix2 r k) = ix2 (at512 t r) k :=
  ix2_ext (by show win0_14.index t 0 * 512 + 1 * r.val = t.val * 512 + r.val; have := (ixw14 t).1; omega)
    (by show win0_14.index t 1 * 512 + 1 * k.val = k.val; have := (ixw14 t).2; omega)
theorem emb15 (t : Fin cfg0.N) (r : Fin 512) (k : Fin 1024) : ((cfg0.win 15).blk t).view.emb (ix2 r k) = ix2 (at512 t r) k :=
  ix2_ext (by show win0_15.index t 0 * 512 + 1 * r.val = t.val * 512 + r.val; have := (ixw15 t).1; omega)
    (by show win0_15.index t 1 * 1024 + 1 * k.val = k.val; have := (ixw15 t).2; omega)
theorem emb16 (t : Fin cfg0.N) (r : Fin 512) (k : Fin 1024) : ((cfg0.win 16).blk t).view.emb (ix2 r k) = ix2 (at512 t r) k :=
  ix2_ext (by show win0_16.index t 0 * 512 + 1 * r.val = t.val * 512 + r.val; have := (ixw16 t).1; omega)
    (by show win0_16.index t 1 * 1024 + 1 * k.val = k.val; have := (ixw16 t).2; omega)
theorem emb7 (t : Fin cfg0.N) (r : Fin 1) (k : Fin 128) : ((cfg0.win 7).blk t).view.emb (ix2 r k) = ix2 r k :=
  ix2_ext (by show win0_7.index t 0 * 1 + 1 * r.val = r.val; have := (ixw7 t).1; omega)
    (by show win0_7.index t 1 * 128 + 1 * k.val = k.val; have := (ixw7 t).2; omega)
theorem emb8 (t : Fin cfg0.N) (r : Fin 512) (k : Fin 1024) : ((cfg0.win 8).blk t).view.emb (ix2 r k) = ix2 r k :=
  ix2_ext (by show win0_8.index t 0 * 512 + 1 * r.val = r.val; have := (ixw8 t).1; omega)
    (by show win0_8.index t 1 * 1024 + 1 * k.val = k.val; have := (ixw8 t).2; omega)
theorem emb9 (t : Fin cfg0.N) (r : Fin 1) (k : Fin 512) : ((cfg0.win 9).blk t).view.emb (ix2 r k) = ix2 r k :=
  ix2_ext (by show win0_9.index t 0 * 1 + 1 * r.val = r.val; have := (ixw9 t).1; omega)
    (by show win0_9.index t 1 * 512 + 1 * k.val = k.val; have := (ixw9 t).2; omega)
theorem emb10 (t : Fin cfg0.N) (r : Fin 1) (k : Fin 512) : ((cfg0.win 10).blk t).view.emb (ix2 r k) = ix2 r k :=
  ix2_ext (by show win0_10.index t 0 * 1 + 1 * r.val = r.val; have := (ixw10 t).1; omega)
    (by show win0_10.index t 1 * 512 + 1 * k.val = k.val; have := (ixw10 t).2; omega)
theorem emb11 (t : Fin cfg0.N) (r : Fin 512) (k : Fin 1024) : ((cfg0.win 11).blk t).view.emb (ix2 r k) = ix2 r k :=
  ix2_ext (by show win0_11.index t 0 * 512 + 1 * r.val = r.val; have := (ixw11 t).1; omega)
    (by show win0_11.index t 1 * 1024 + 1 * k.val = k.val; have := (ixw11 t).2; omega)

/-! ## The input blocks -/

theorem in0 (t : Fin cfg0.N) (r : Fin 512) (k : Fin 512) : iblk m c 0 t (ix2 r k) = aO m c (ix2 (at512 t r) k) := by
  show V m c main_arg0 (((cfg0.win 0).blk t).view.emb (ix2 r k)) = _
  rw [emb0, V_main_arg0]
theorem in1 (t : Fin cfg0.N) (r : Fin 512) (k : Fin 512) : iblk m c 1 t (ix2 r k) = aG m c (ix2 (at512 t r) k) := by
  show V m c main_arg1 (((cfg0.win 1).blk t).view.emb (ix2 r k)) = _
  rw [emb1, V_main_arg1]
theorem in2 (t : Fin cfg0.N) (r : Fin 512) (k : Fin 512) : iblk m c 2 t (ix2 r k) = aHc m c (ix2 (at512 t r) k) := by
  show V m c main_arg2 (((cfg0.win 2).blk t).view.emb (ix2 r k)) = _
  rw [emb2, V_main_arg2]
theorem in3 (t : Fin cfg0.N) (r : Fin 512) (k : Fin 512) : iblk m c 3 t (ix2 r k) = aOp m c (ix2 (at512 t r) k) := by
  show V m c main_arg3 (((cfg0.win 3).blk t).view.emb (ix2 r k)) = _
  rw [emb3, V_main_arg3]
theorem in4 (t : Fin cfg0.N) (r : Fin 512) (k : Fin 512) : iblk m c 4 t (ix2 r k) = aXc m c (ix2 (at512 t r) k) := by
  show V m c main_arg4 (((cfg0.win 4).blk t).view.emb (ix2 r k)) = _
  rw [emb4, V_main_arg4]
theorem in5 (t : Fin cfg0.N) (r : Fin 512) (k : Fin 1024) : iblk m c 5 t (ix2 r k) = aGa m c (ix2 (at512 t r) k) := by
  show V m c main_arg5 (((cfg0.win 5).blk t).view.emb (ix2 r k)) = _
  rw [emb5, V_main_arg5]
theorem in6 (t : Fin cfg0.N) (r : Fin 512) (k : Fin 1024) : iblk m c 6 t (ix2 r k) = aGb m c (ix2 (at512 t r) k) := by
  show V m c main_arg6 (((cfg0.win 6).blk t).view.emb (ix2 r k)) = _
  rw [emb6, V_main_arg6]
theorem in7 (t : Fin cfg0.N) (k : Fin 128) : iblk m c 7 t (ix2 0 k) = aGn m c (ix1 k) := by
  show V m c main_v0 (((cfg0.win 7).blk t).view.emb (ix2 0 k)) = _
  rw [emb7, V0]
theorem in8 (t : Fin cfg0.N) (e : Fin 512) (k : Fin 1024) : iblk m c 8 t (ix2 e k) = aWa m c (ix2 e k) := by
  show V m c main_v1 (((cfg0.win 8).blk t).view.emb (ix2 e k)) = _
  rw [emb8, V1]
theorem in9 (t : Fin cfg0.N) (k : Fin 512) : iblk m c 9 t (ix2 0 k) = aGm m c (ix1 k) := by
  show V m c main_v2 (((cfg0.win 9).blk t).view.emb (ix2 0 k)) = _
  rw [emb9, V2]
theorem in10 (t : Fin cfg0.N) (k : Fin 512) : iblk m c 10 t (ix2 0 k) = aSk m c (ix1 k) := by
  show V m c main_v3 (((cfg0.win 10).blk t).view.emb (ix2 0 k)) = _
  rw [emb10, V3]
theorem in11 (t : Fin cfg0.N) (e : Fin 512) (k : Fin 1024) : iblk m c 11 t (ix2 e k) = aWb m c (ix2 e k) := by
  show V m c main_v4 (((cfg0.win 11).blk t).view.emb (ix2 e k)) = _
  rw [emb11, V4]

/-- Row `r` of the blocks at point `t` is row `512 t + r` of the arguments. -/
theorem rowOf_blocks (t : Fin cfg0.N) (r : Fin 512) :
    rowOf (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) r = (args m c).row (at512 t r) :=
  Row.ext (funext fun k => in0 m c t r k) (funext fun k => in1 m c t r k) (funext fun k => in2 m c t r k)
    (funext fun k => in3 m c t r k) (funext fun k => in4 m c t r k) (funext fun k => in5 m c t r k)
    (funext fun k => in6 m c t r k) (funext fun k => in7 m c t k) (funext fun e => funext fun k => in8 m c t e k)
    (funext fun k => in9 m c t k) (funext fun k => in10 m c t k) (funext fun e => funext fun k => in11 m c t e k)

/-! ## The five arrays -/

theorem flushed12_eq (t : Fin cfg0.N) :
    (dats m 0 c).flushed 12 t = ((cfg0.win 12).blk t).view.read (Elt Ideal) (args m c).outGla := by
  rw [flushed12]
  funext j
  obtain ⟨r, k, rfl⟩ := eq_ix2 (a := 512) (b := 512) j
  show out0_12 (F := Ideal) _ _ _ _ _ _ _ _ _ _ _ _ (ix2 r k) = (args m c).outGla (((cfg0.win 12).blk t).view.emb (ix2 r k))
  rw [emb12, out12_apply, rowOf_blocks]
  rfl
theorem final12 : (dats m 0 c).arrAt 12 cfg0.N = (args m c).outGla :=
  (dats m 0 c).arrAt_eq_of_cover 12 _ (fun t _ => flushed12_eq m c t) fun j => by
    obtain ⟨i, k, rfl⟩ := eq_ix2 (a := 2048) (b := 512) j
    obtain ⟨t, r, rfl⟩ := at512_split i
    exact ⟨t, flush0_12 t, by have h := ((cfg0.win 12).blk t).view.emb_mem_set (ix2 r k); rwa [emb12] at h⟩

theorem flushed13_eq (t : Fin cfg0.N) :
    (dats m 0 c).flushed 13 t = ((cfg0.win 13).blk t).view.read (Elt Ideal) (args m c).outYa := by
  rw [flushed13]
  funext j
  obtain ⟨r, k, rfl⟩ := eq_ix2 (a := 512) (b := 1024) j
  show out0_13 (F := Ideal) _ _ _ _ _ _ _ _ _ _ _ _ (ix2 r k) = (args m c).outYa (((cfg0.win 13).blk t).view.emb (ix2 r k))
  rw [emb13, out13_apply, rowOf_blocks]
  rfl
theorem final13 : (dats m 0 c).arrAt 13 cfg0.N = (args m c).outYa :=
  (dats m 0 c).arrAt_eq_of_cover 13 _ (fun t _ => flushed13_eq m c t) fun j => by
    obtain ⟨i, k, rfl⟩ := eq_ix2 (a := 2048) (b := 1024) j
    obtain ⟨t, r, rfl⟩ := at512_split i
    exact ⟨t, flush0_13 t, by have h := ((cfg0.win 13).blk t).view.emb_mem_set (ix2 r k); rwa [emb13] at h⟩

theorem flushed14_eq (t : Fin cfg0.N) :
    (dats m 0 c).flushed 14 t = ((cfg0.win 14).blk t).view.read (Elt Ideal) (args m c).outMl := by
  rw [flushed14]
  funext j
  obtain ⟨r, k, rfl⟩ := eq_ix2 (a := 512) (b := 512) j
  show out0_14 (F := Ideal) _ _ _ _ _ _ _ _ _ _ _ _ (ix2 r k) = (args m c).outMl (((cfg0.win 14).blk t).view.emb (ix2 r k))
  rw [emb14, out14_apply, rowOf_blocks]
  rfl
theorem final14 : (dats m 0 c).arrAt 14 cfg0.N = (args m c).outMl :=
  (dats m 0 c).arrAt_eq_of_cover 14 _ (fun t _ => flushed14_eq m c t) fun j => by
    obtain ⟨i, k, rfl⟩ := eq_ix2 (a := 2048) (b := 512) j
    obtain ⟨t, r, rfl⟩ := at512_split i
    exact ⟨t, flush0_14 t, by have h := ((cfg0.win 14).blk t).view.emb_mem_set (ix2 r k); rwa [emb14] at h⟩

theorem flushed15_eq (t : Fin cfg0.N) :
    (dats m 0 c).flushed 15 t = ((cfg0.win 15).blk t).view.read (Elt Ideal) (args m c).outYb := by
  rw [flushed15]
  funext j
  obtain ⟨r, k, rfl⟩ := eq_ix2 (a := 512) (b := 1024) j
  show out0_15 (F := Ideal) _ _ _ _ _ _ _ _ _ _ _ _ (ix2 r k) = (args m c).outYb (((cfg0.win 15).blk t).view.emb (ix2 r k))
  rw [emb15, out15_apply, rowOf_blocks]
  rfl
theorem final15 : (dats m 0 c).arrAt 15 cfg0.N = (args m c).outYb :=
  (dats m 0 c).arrAt_eq_of_cover 15 _ (fun t _ => flushed15_eq m c t) fun j => by
    obtain ⟨i, k, rfl⟩ := eq_ix2 (a := 2048) (b := 1024) j
    obtain ⟨t, r, rfl⟩ := at512_split i
    exact ⟨t, flush0_15 t, by have h := ((cfg0.win 15).blk t).view.emb_mem_set (ix2 r k); rwa [emb15] at h⟩

theorem flushed16_eq (t : Fin cfg0.N) :
    (dats m 0 c).flushed 16 t = ((cfg0.win 16).blk t).view.read (Elt Ideal) (args m c).outMerged := by
  rw [flushed16]
  funext j
  obtain ⟨r, k, rfl⟩ := eq_ix2 (a := 512) (b := 1024) j
  show out0_16 (F := Ideal) _ _ _ _ _ _ _ _ _ _ _ _ (ix2 r k) = (args m c).outMerged (((cfg0.win 16).blk t).view.emb (ix2 r k))
  rw [emb16, out16_apply, rowOf_blocks]
  rfl
theorem final16 : (dats m 0 c).arrAt 16 cfg0.N = (args m c).outMerged :=
  (dats m 0 c).arrAt_eq_of_cover 16 _ (fun t _ => flushed16_eq m c t) fun j => by
    obtain ⟨i, k, rfl⟩ := eq_ix2 (a := 2048) (b := 1024) j
    obtain ⟨t, r, rfl⟩ := at512_split i
    exact ⟨t, flush0_16 t, by have h := ((cfg0.win 16).blk t).view.emb_mem_set (ix2 r k); rwa [emb16] at h⟩

end Cert.Proof.Branches

end
-- ==== Proof.Branches.Ref.lean ====
/- The reference's arrays, row by row: the same row functions of the arguments as the kernel's. -/
module

public import proofs.«01_k».proof.Proof.Branches.Spec
public import proofs.«01_k».proof.Proof.Gen.BranchesRefIdeal.Read
public import Idealize.ShloMosaic.Lib.Pointwise

@[expose] public section

noncomputable section

namespace Cert.Proof.Branches.Ref

open Cert.BranchesRefIdeal Cert.BranchesRefIdeal.Gen Cert.BranchesRefIdeal.Read Idealize.ShloMosaic Idealize.ShloMosaic.TcCoe
open Idealize.ShloMosaic.Pointwise Cert.Proof.Branches

variable (x0 x1 x2 x3 x4 : S2048x512.Idx → EReal) (x5 x6 : S2048x1024.Idx → EReal) (x7 : S128.Idx → EReal)
  (x8 : S512x1024.Idx → EReal) (x9 x10 : S512.Idx → EReal) (x11 : S512x1024.Idx → EReal)

/-- The arguments by row and column. -/
def args : Args where
  o i k := x0 (ix2 i k)
  g i k := x1 (ix2 i k)
  hc i k := x2 (ix2 i k)
  op i k := x3 (ix2 i k)
  xc i k := x4 (ix2 i k)
  ga i k := x5 (ix2 i k)
  gb i k := x6 (ix2 i k)
  gn k := x7 (ix1 k)
  wa e k := x8 (ix2 e k)
  gm k := x9 (ix1 k)
  sk k := x10 (ix1 k)
  wb e k := x11 (ix2 e k)

/-- A row's entries, head by head. -/
theorem v0 (i : Fin 2048) (h : Fin 4) (k : Fin 128) : val_main_v0 (F := Ideal) x0 (ix3 i h k) = x0 (ix2 i (col h k)) := by
  pointwise [val_main_v0]

theorem v8 (i : Fin 2048) (h : Fin 4) (q : Fin 1) :
    val_main_v8 (F := Ideal) x0 (ix3 i h q) = rs fun e => x0 (ix2 i (col h e)) := by
  pointwise [val_main_v8, val_main_v7, val_main_v6, val_main_v5, val_main_v4, val_main_v3, val_main_v2, val_main_v1, val_main_cst,
    val_main_cst_0, val_main_cst_1]
  simp only [v0]
  rfl

theorem v13 (i : Fin 2048) (h : Fin 4) (k : Fin 128) : val_main_v13 (F := Ideal) x0 x7 (ix3 i h k)
    = x0 (ix2 i (col h k)) * (rs fun e => x0 (ix2 i (col h e))) * x7 (ix1 k) := by
  pointwise [val_main_v13, val_main_v12, val_main_v11, val_main_v10, val_main_v9]
  rw [v0, v8]

theorem v16 (i : Fin 2048) (n : Fin 512) :
    val_main_v16 (F := Ideal) x0 x1 x7 (ix2 i n) = ((args x0 x1 x2 x3 x4 x5 x6 x7 x8 x9 x10 x11).row i).gla n := by
  pointwise [val_main_v16, val_main_v15, val_main_v14, val_main_call0_v5, val_main_call0_v4, val_main_call0_v3, val_main_call0_v2,
    val_main_call0_v1, val_main_call0_v0, val_main_call0_cst, val_main_call0_cst_0]
  rw [v13]
  simp only [Row.gla, Row.glaH, col_headOf]
  rfl

theorem v17 (i : Fin 2048) (k : Fin 1024) :
    val_main_v17 (F := Ideal) x0 x1 x7 x8 (ix2 i k) = ((args x0 x1 x2 x3 x4 x5 x6 x7 x8 x9 x10 x11).row i).ya k := by
  pointwise [val_main_v17]
  simp only [v16 x0 x1 x2 x3 x4 x5 x6 x7 x8 x9 x10 x11]
  rfl

theorem v25 (i : Fin 2048) (h : Fin 4) (k : Fin 128) : val_main_v25 (F := Ideal) x2 x3 (ix3 i h k)
    = x2 (ix2 i (col h k)) * sg (x3 (ix2 i (col h k))) := by
  pointwise [val_main_v25, val_main_v24, val_main_v23, val_main_v22, val_main_v21, val_main_v20, val_main_v19, val_main_v18,
    val_main_cst_2, val_main_cst_3]
  rfl

theorem v29 (i : Fin 2048) (h : Fin 4) (q : Fin 1) : val_main_v29 (F := Ideal) x2 x3 (ix3 i h q)
    = mu fun e => x2 (ix2 i (col h e)) * sg (x3 (ix2 i (col h e))) := by
  pointwise [val_main_v29, val_main_v28, val_main_v27, val_main_v26, val_main_cst_4, val_main_cst_5]
  simp only [v25]
  rfl

theorem v31 (i : Fin 2048) (h : Fin 4) (k : Fin 128) : val_main_v31 (F := Ideal) x2 x3 (ix3 i h k)
    = ((args x0 x1 x2 x3 x4 x5 x6 x7 x8 x9 x10 x11).row i).ctr h k := by
  pointwise [val_main_v31, val_main_v30]
  rw [v25, v29]
  rfl

theorem v41 (i : Fin 2048) (h : Fin 4) (q : Fin 1) : val_main_v41 (F := Ideal) x2 x3 (ix3 i h q)
    = rs (((args x0 x1 x2 x3 x4 x5 x6 x7 x8 x9 x10 x11).row i).ctr h) := by
  pointwise [val_main_v41, val_main_v40, val_main_v39, val_main_v36, val_main_v35, val_main_v34, val_main_v33, val_main_v32,
    val_main_cst_6, val_main_cst_7, val_main_cst_8]
  simp only [v31 x0 x1 x2 x3 x4 x5 x6 x7 x8 x9 x10 x11]
  rfl

theorem v43 (i : Fin 2048) (h : Fin 4) (k : Fin 128) : val_main_v43 (F := Ideal) x2 x3 (ix3 i h k)
    = ((args x0 x1 x2 x3 x4 x5 x6 x7 x8 x9 x10 x11).row i).ctr h k
      * rs (((args x0 x1 x2 x3 x4 x5 x6 x7 x8 x9 x10 x11).row i).ctr h) := by
  pointwise [val_main_v43, val_main_v42, val_main_v38, val_main_v37]
  rw [v41 x0 x1 x2 x3 x4 x5 x6 x7 x8 x9 x10 x11, v25, v29]
  rfl

theorem v51 (i : Fin 2048) (n : Fin 512) : val_main_v51 (F := Ideal) x2 x3 x4 x9 x10 (ix2 i n)
    = ((args x0 x1 x2 x3 x4 x5 x6 x7 x8 x9 x10 x11).row i).ml n := by
  pointwise [val_main_v51, val_main_v50, val_main_v49, val_main_v48, val_main_v47, val_main_v46, val_main_v45, val_main_v44]
  rw [v43 x0 x1 x2 x3 x4 x5 x6 x7 x8 x9 x10 x11]
  simp only [Row.ml, Row.mlH, col_headOf]
  rfl

theorem v52 (i : Fin 2048) (k : Fin 1024) : val_main_v52 (F := Ideal) x2 x3 x4 x9 x10 x11 (ix2 i k)
    = ((args x0 x1 x2 x3 x4 x5 x6 x7 x8 x9 x10 x11).row i).yb k := by
  pointwise [val_main_v52]
  simp only [v51 x0 x1 x2 x3 x4 x5 x6 x7 x8 x9 x10 x11]
  rfl

theorem v67 (i : Fin 2048) (k : Fin 1024) : val_main_v67 (F := Ideal) x0 x1 x2 x3 x4 x5 x6 x7 x8 x9 x10 x11 (ix2 i k)
    = ((args x0 x1 x2 x3 x4 x5 x6 x7 x8 x9 x10 x11).row i).merged k := by
  pointwise [val_main_v67, val_main_v66, val_main_v65, val_main_v64, val_main_v63, val_main_v62, val_main_v61, val_main_v60,
    val_main_v59, val_main_v58, val_main_v57, val_main_v56, val_main_v55, val_main_v54, val_main_v53, val_main_cst_9,
    val_main_cst_10, val_main_cst_11, val_main_cst_12]
  rw [v17 x0 x1 x2 x3 x4 x5 x6 x7 x8 x9 x10 x11, v52 x0 x1 x2 x3 x4 x5 x6 x7 x8 x9 x10 x11]
  rfl

end Cert.Proof.Branches.Ref

end
-- ==== Proof.Branches.Equation.lean ====
/- `branches_out` computes the reference: both runs end with the same five arrays. -/
module

public import proofs.«01_k».proof.Defs
public import proofs.«01_k».proof.Proof.Gen.BranchesIdeal
public import proofs.«01_k».proof.Proof.Branches.Array
public import proofs.«01_k».proof.Proof.Branches.Ref

@[expose] public section

noncomputable section

namespace Cert.Proof.Branches

open Idealize.ShloMosaic Idealize.ShloMosaic.TcCoe Idealize.ShloMosaic.Pointwise Idealize.SL.Sem Idealize.ShloMosaic.StableHlo

/-- The reference's arguments, by row and column. -/
def refArgs (m' : (ℓ : Loc Cert.BranchesRefIdeal.nD Cert.BranchesRefIdeal.τ Cert.BranchesRefIdeal.sig) → Buf (Elt Ideal) ℓ)
    (c : Dev Cert.BranchesRefIdeal.nD) : Args :=
  Ref.args (m' (c.tc.loc Cert.BranchesRefIdeal.main_arg0))
    (m' (c.tc.loc Cert.BranchesRefIdeal.main_arg1))
    (m' (c.tc.loc Cert.BranchesRefIdeal.main_arg2))
    (m' (c.tc.loc Cert.BranchesRefIdeal.main_arg3))
    (m' (c.tc.loc Cert.BranchesRefIdeal.main_arg4))
    (m' (c.tc.loc Cert.BranchesRefIdeal.main_arg5))
    (m' (c.tc.loc Cert.BranchesRefIdeal.main_arg6))
    (m' (c.tc.loc Cert.BranchesRefIdeal.main_arg7))
    (m' (c.tc.loc Cert.BranchesRefIdeal.main_arg8))
    (m' (c.tc.loc Cert.BranchesRefIdeal.main_arg9))
    (m' (c.tc.loc Cert.BranchesRefIdeal.main_arg10))
    (m' (c.tc.loc Cert.BranchesRefIdeal.main_arg11))

/-- Two arguments by row and column agree where their arrays do. -/
theorem ref_args {x0 y0 x1 y1 x2 y2 x3 y3 x4 y4 : (⟨2, ![2048, 512]⟩ : Shape).Idx → EReal}
    {x5 y5 x6 y6 : (⟨2, ![2048, 1024]⟩ : Shape).Idx → EReal} {x7 y7 : (⟨1, ![128]⟩ : Shape).Idx → EReal}
    {x8 y8 x11 y11 : (⟨2, ![512, 1024]⟩ : Shape).Idx → EReal} {x9 y9 x10 y10 : (⟨1, ![512]⟩ : Shape).Idx → EReal}
    (e0 : x0 = y0) (e1 : x1 = y1) (e2 : x2 = y2) (e3 : x3 = y3) (e4 : x4 = y4) (e5 : x5 = y5) (e6 : x6 = y6) (e7 : x7 = y7)
    (e8 : x8 = y8) (e9 : x9 = y9) (e10 : x10 = y10) (e11 : x11 = y11) :
    Ref.args x0 x1 x2 x3 x4 x5 x6 x7 x8 x9 x10 x11 = Ref.args y0 y1 y2 y3 y4 y5 y6 y7 y8 y9 y10 y11 := by
  rw [e0, e1, e2, e3, e4, e5, e6, e7, e8, e9, e10, e11]

theorem algebraic : Cert.algebraic_BranchesIdeal_BranchesRefIdeal := by
  intro m g m' g' _ hin
  refine ⟨fun c => (args m c).outGla, fun c => (args m c).outYa, fun c => (args m c).outMl, fun c => (args m c).outYb,
    fun c => (args m c).outMerged, ?_, ?_⟩
  · refine (θ_run Cert.BranchesIdeal.defs _ _).mono (fun r h c => ?_) (Cert.BranchesIdeal.Value.run_blocks (F := Ideal) m g)
    obtain ⟨h0, h1, h2, h3, h4, hargs⟩ := h c
    exact ⟨h0.trans (final12 m c), h1.trans (final13 m c), h2.trans (final14 m c), h3.trans (final15 m c),
      h4.trans (final16 m c), hargs⟩
  · refine (θ_run Cert.BranchesRefIdeal.defs _ _).mono (fun r h c => ?_) (Cert.BranchesRefIdeal.Value.run (F := Ideal) m' g')
    obtain ⟨h0, h1, h2, h3, h4, hargs⟩ := h c
    obtain ⟨e0, e1, e2, e3, e4, e5, e6, e7, e8, e9, e10, e11⟩ := hin c
    have ha : refArgs m' c = args m c := ref_args e0 e1 e2 e3 e4 e5 e6 e7 e8 e9 e10 e11
    refine ⟨h0.trans ?_, h1.trans ?_, h2.trans ?_, h3.trans ?_, h4.trans ?_, hargs⟩
    · refine (Cert.BranchesRefIdeal.Read.val_main_v68_eq _ _ _).trans ?_
      funext j
      obtain ⟨i, k, rfl⟩ := eq_ix2 (a := 2048) (b := 512) j
      exact (Ref.v16 (m' (c.tc.loc Cert.BranchesRefIdeal.main_arg0)) (m' (c.tc.loc Cert.BranchesRefIdeal.main_arg1)) (m' (c.tc.loc Cert.BranchesRefIdeal.main_arg2)) (m' (c.tc.loc Cert.BranchesRefIdeal.main_arg3))
        (m' (c.tc.loc Cert.BranchesRefIdeal.main_arg4)) (m' (c.tc.loc Cert.BranchesRefIdeal.main_arg5)) (m' (c.tc.loc Cert.BranchesRefIdeal.main_arg6)) (m' (c.tc.loc Cert.BranchesRefIdeal.main_arg7))
        (m' (c.tc.loc Cert.BranchesRefIdeal.main_arg8)) (m' (c.tc.loc Cert.BranchesRefIdeal.main_arg9)) (m' (c.tc.loc Cert.BranchesRefIdeal.main_arg10)) (m' (c.tc.loc Cert.BranchesRefIdeal.main_arg11)) i k).trans
        (congrArg (fun A : Args => (A.row i).gla k) ha)
    · refine (Cert.BranchesRefIdeal.Read.val_main_v69_eq _ _ _ _).trans ?_
      funext j
      obtain ⟨i, k, rfl⟩ := eq_ix2 (a := 2048) (b := 1024) j
      exact (Ref.v17 (m' (c.tc.loc Cert.BranchesRefIdeal.main_arg0)) (m' (c.tc.loc Cert.BranchesRefIdeal.main_arg1)) (m' (c.tc.loc Cert.BranchesRefIdeal.main_arg2)) (m' (c.tc.loc Cert.BranchesRefIdeal.main_arg3))
        (m' (c.tc.loc Cert.BranchesRefIdeal.main_arg4)) (m' (c.tc.loc Cert.BranchesRefIdeal.main_arg5)) (m' (c.tc.loc Cert.BranchesRefIdeal.main_arg6)) (m' (c.tc.loc Cert.BranchesRefIdeal.main_arg7))
        (m' (c.tc.loc Cert.BranchesRefIdeal.main_arg8)) (m' (c.tc.loc Cert.BranchesRefIdeal.main_arg9)) (m' (c.tc.loc Cert.BranchesRefIdeal.main_arg10)) (m' (c.tc.loc Cert.BranchesRefIdeal.main_arg11)) i k).trans
        (congrArg (fun A : Args => (A.row i).ya k) ha)
    · refine (Cert.BranchesRefIdeal.Read.val_main_v70_eq _ _ _ _ _).trans ?_
      funext j
      obtain ⟨i, k, rfl⟩ := eq_ix2 (a := 2048) (b := 512) j
      exact (Ref.v51 (m' (c.tc.loc Cert.BranchesRefIdeal.main_arg0)) (m' (c.tc.loc Cert.BranchesRefIdeal.main_arg1)) (m' (c.tc.loc Cert.BranchesRefIdeal.main_arg2)) (m' (c.tc.loc Cert.BranchesRefIdeal.main_arg3))
        (m' (c.tc.loc Cert.BranchesRefIdeal.main_arg4)) (m' (c.tc.loc Cert.BranchesRefIdeal.main_arg5)) (m' (c.tc.loc Cert.BranchesRefIdeal.main_arg6)) (m' (c.tc.loc Cert.BranchesRefIdeal.main_arg7))
        (m' (c.tc.loc Cert.BranchesRefIdeal.main_arg8)) (m' (c.tc.loc Cert.BranchesRefIdeal.main_arg9)) (m' (c.tc.loc Cert.BranchesRefIdeal.main_arg10)) (m' (c.tc.loc Cert.BranchesRefIdeal.main_arg11)) i k).trans
        (congrArg (fun A : Args => (A.row i).ml k) ha)
    · refine (Cert.BranchesRefIdeal.Read.val_main_v71_eq _ _).trans ?_
      funext j
      obtain ⟨i, k, rfl⟩ := eq_ix2 (a := 2048) (b := 1024) j
      exact (Ref.v52 (m' (c.tc.loc Cert.BranchesRefIdeal.main_arg0)) (m' (c.tc.loc Cert.BranchesRefIdeal.main_arg1)) (m' (c.tc.loc Cert.BranchesRefIdeal.main_arg2)) (m' (c.tc.loc Cert.BranchesRefIdeal.main_arg3))
        (m' (c.tc.loc Cert.BranchesRefIdeal.main_arg4)) (m' (c.tc.loc Cert.BranchesRefIdeal.main_arg5)) (m' (c.tc.loc Cert.BranchesRefIdeal.main_arg6)) (m' (c.tc.loc Cert.BranchesRefIdeal.main_arg7))
        (m' (c.tc.loc Cert.BranchesRefIdeal.main_arg8)) (m' (c.tc.loc Cert.BranchesRefIdeal.main_arg9)) (m' (c.tc.loc Cert.BranchesRefIdeal.main_arg10)) (m' (c.tc.loc Cert.BranchesRefIdeal.main_arg11)) i k).trans
        (congrArg (fun A : Args => (A.row i).yb k) ha)
    · refine (Cert.BranchesRefIdeal.Read.val_main_v72_eq _ _).trans ?_
      funext j
      obtain ⟨i, k, rfl⟩ := eq_ix2 (a := 2048) (b := 1024) j
      exact (Ref.v67 (m' (c.tc.loc Cert.BranchesRefIdeal.main_arg0)) (m' (c.tc.loc Cert.BranchesRefIdeal.main_arg1)) (m' (c.tc.loc Cert.BranchesRefIdeal.main_arg2)) (m' (c.tc.loc Cert.BranchesRefIdeal.main_arg3))
        (m' (c.tc.loc Cert.BranchesRefIdeal.main_arg4)) (m' (c.tc.loc Cert.BranchesRefIdeal.main_arg5)) (m' (c.tc.loc Cert.BranchesRefIdeal.main_arg6)) (m' (c.tc.loc Cert.BranchesRefIdeal.main_arg7))
        (m' (c.tc.loc Cert.BranchesRefIdeal.main_arg8)) (m' (c.tc.loc Cert.BranchesRefIdeal.main_arg9)) (m' (c.tc.loc Cert.BranchesRefIdeal.main_arg10)) (m' (c.tc.loc Cert.BranchesRefIdeal.main_arg11)) i k).trans
        (congrArg (fun A : Args => (A.row i).merged k) ha)

end Cert.Proof.Branches

end
-- ==== Proof.lean ====
module

public import proofs.«01_k».proof.Defs
public import proofs.«01_k».proof.Proof.Gen.Pre_finite_gates
public import proofs.«01_k».proof.Proof.Gen.GlaBwd.Frame
public import proofs.«01_k».proof.Proof.Gen.GlaBwdIdeal.Value
public import proofs.«01_k».proof.Proof.Gen.GlaBwdRefIdeal.Run
public import proofs.«01_k».proof.Proof.Gen.GlaBwdRefIdeal.Step
public import proofs.«01_k».proof.Proof.Gen.MlpDx.Frame
public import proofs.«01_k».proof.Proof.Gen.MlpDxIdeal.Value
public import proofs.«01_k».proof.Proof.Gen.MlpDxRefIdeal.Read
public import proofs.«01_k».proof.Proof.Gen.MlpLoss.Frame
public import proofs.«01_k».proof.Proof.Gen.MlpLossIdeal.Value
public import proofs.«01_k».proof.Proof.Gen.MlpLossRefIdeal.Read
public import proofs.«01_k».proof.Proof.Gen.MlpDownDw.Frame
public import proofs.«01_k».proof.Proof.Gen.MlpDownDwIdeal.Value
public import proofs.«01_k».proof.Proof.Gen.MlpDownDwRefIdeal.Read
public import proofs.«01_k».proof.Proof.Gen.MlpUpDw.Frame
public import proofs.«01_k».proof.Proof.Gen.MlpUpDwIdeal.Value
public import proofs.«01_k».proof.Proof.Gen.MlpUpDwRefIdeal.Read
public import proofs.«01_k».proof.Proof.Gen.ProjInDx.Frame
public import proofs.«01_k».proof.Proof.Gen.ProjInDxIdeal.Value
public import proofs.«01_k».proof.Proof.Gen.ProjInDxRefIdeal.Read
public import proofs.«01_k».proof.Proof.Gen.MixDw.Frame
public import proofs.«01_k».proof.Proof.Gen.MixDwIdeal.Value
public import proofs.«01_k».proof.Proof.Gen.MixDwRefIdeal.Read
public import proofs.«01_k».proof.Proof.Gen.ProjIn.Frame
public import proofs.«01_k».proof.Proof.Gen.ProjInIdeal.Value
public import proofs.«01_k».proof.Proof.Gen.ProjInRefIdeal.Read
public import proofs.«01_k».proof.Proof.Gen.Pre_smooth_gates
public import proofs.«01_k».proof.Proof.Gen.DecayBwd.Frame
public import proofs.«01_k».proof.Proof.Gen.DecayBwdIdeal.Value
public import proofs.«01_k».proof.Proof.Gen.DecayBwdRefIdeal.Read
public import proofs.«01_k».proof.Proof.Gen.ProjO.Frame
public import proofs.«01_k».proof.Proof.Gen.ProjOIdeal.Value
public import proofs.«01_k».proof.Proof.Gen.ProjORefIdeal.Read
public import proofs.«01_k».proof.Proof.Gen.FirstNorm.Frame
public import proofs.«01_k».proof.Proof.Gen.FirstNormIdeal.Value
public import proofs.«01_k».proof.Proof.Gen.FirstNormRefIdeal.Read
public import proofs.«01_k».proof.Proof.Gen.Branches.Frame
public import proofs.«01_k».proof.Proof.Gen.BranchesIdeal.Value
public import proofs.«01_k».proof.Proof.Gen.BranchesRefIdeal.Read
public import proofs.«01_k».proof.Proof.MlpDx.Equation
public import proofs.«01_k».proof.Proof.Gla.Equation
public import proofs.«01_k».proof.Proof.MlpLoss.Equation
public import proofs.«01_k».proof.Proof.MlpDownDw.Equation
public import proofs.«01_k».proof.Proof.MlpUpDw.Equation
public import proofs.«01_k».proof.Proof.ProjInDx.Equation
public import proofs.«01_k».proof.Proof.MixDw.Equation
public import proofs.«01_k».proof.Proof.ProjIn.Equation
public import proofs.«01_k».proof.Proof.DecayBwd.Equation
public import proofs.«01_k».proof.Proof.ProjO.Equation
public import proofs.«01_k».proof.Proof.FirstNorm.Equation
public import proofs.«01_k».proof.Proof.Branches.Equation
public import Idealize.ShloMosaic.Adequacy
public import Idealize.ShloMosaic.Init

@[expose] public section

noncomputable section

namespace Cert.Proof

open Idealize.ShloMosaic Idealize.SL.Sem

/-- A reference's run, read at its arguments; it declares no semaphore. -/
theorem frame_glaBwdRef : Cert.quiescent_GlaBwdRefIdeal := by
  intro m ρ _
  exact (θ_run Cert.GlaBwdRefIdeal.defs _ _).mono
    (fun r h => ⟨fun c => (h c).2.2.2, sem_eq_zero_of_no_sems (by decide) r.2⟩)
    (Cert.GlaBwdRefIdeal.Value.run (F := Ideal) m ρ)

theorem frame_mlpDxRef : Cert.quiescent_MlpDxRefIdeal := by
  intro m ρ _
  exact (θ_run Cert.MlpDxRefIdeal.defs _ _).mono
    (fun r h => ⟨fun c => (h c).2.2.2.2, sem_eq_zero_of_no_sems (by decide) r.2⟩)
    (Cert.MlpDxRefIdeal.Value.run (F := Ideal) m ρ)

theorem frame_mlpLossRef : Cert.quiescent_MlpLossRefIdeal := by
  intro m ρ _
  exact (θ_run Cert.MlpLossRefIdeal.defs _ _).mono
    (fun r h => ⟨fun c => (h c).2.2.2.2.2.2, sem_eq_zero_of_no_sems (by decide) r.2⟩)
    (Cert.MlpLossRefIdeal.Value.run (F := Ideal) m ρ)

theorem frame_mlpDownDwRef : Cert.quiescent_MlpDownDwRefIdeal := by
  intro m ρ _
  exact (θ_run Cert.MlpDownDwRefIdeal.defs _ _).mono
    (fun r h => ⟨fun c => (h c).2, sem_eq_zero_of_no_sems (by decide) r.2⟩)
    (Cert.MlpDownDwRefIdeal.Value.run (F := Ideal) m ρ)

theorem frame_mlpUpDwRef : Cert.quiescent_MlpUpDwRefIdeal := by
  intro m ρ _
  exact (θ_run Cert.MlpUpDwRefIdeal.defs _ _).mono
    (fun r h => ⟨fun c => (h c).2, sem_eq_zero_of_no_sems (by decide) r.2⟩)
    (Cert.MlpUpDwRefIdeal.Value.run (F := Ideal) m ρ)

theorem frame_projInDxRef : Cert.quiescent_ProjInDxRefIdeal := by
  intro m ρ _
  exact (θ_run Cert.ProjInDxRefIdeal.defs _ _).mono
    (fun r h => ⟨fun c => (h c).2.2, sem_eq_zero_of_no_sems (by decide) r.2⟩)
    (Cert.ProjInDxRefIdeal.Value.run (F := Ideal) m ρ)

theorem frame_mixDwRef : Cert.quiescent_MixDwRefIdeal := by
  intro m ρ _
  exact (θ_run Cert.MixDwRefIdeal.defs _ _).mono
    (fun r h => ⟨fun c => (h c).2.2.2, sem_eq_zero_of_no_sems (by decide) r.2⟩)
    (Cert.MixDwRefIdeal.Value.run (F := Ideal) m ρ)

theorem frame_projInRef : Cert.quiescent_ProjInRefIdeal := by
  intro m ρ _
  exact (θ_run Cert.ProjInRefIdeal.defs _ _).mono
    (fun r h => ⟨fun c => (h c).2.2.2.2.2.2.2.2.2.2, sem_eq_zero_of_no_sems (by decide) r.2⟩)
    (Cert.ProjInRefIdeal.Value.run (F := Ideal) m ρ)

theorem frame_decayBwdRef : Cert.quiescent_DecayBwdRefIdeal := by
  intro m ρ _
  exact (θ_run Cert.DecayBwdRefIdeal.defs _ _).mono
    (fun r h => ⟨fun c => (h c).2.2.2, sem_eq_zero_of_no_sems (by decide) r.2⟩)
    (Cert.DecayBwdRefIdeal.Value.run (F := Ideal) m ρ)

theorem frame_projORef : Cert.quiescent_ProjORefIdeal := by
  intro m ρ _
  exact (θ_run Cert.ProjORefIdeal.defs _ _).mono
    (fun r h => ⟨fun c => (h c).2.2.2, sem_eq_zero_of_no_sems (by decide) r.2⟩)
    (Cert.ProjORefIdeal.Value.run (F := Ideal) m ρ)

theorem frame_firstNormRef : Cert.quiescent_FirstNormRefIdeal := by
  intro m ρ _
  exact (θ_run Cert.FirstNormRefIdeal.defs _ _).mono
    (fun r h => ⟨fun c => (h c).2, sem_eq_zero_of_no_sems (by decide) r.2⟩)
    (Cert.FirstNormRefIdeal.Value.run (F := Ideal) m ρ)

theorem frame_branchesRef : Cert.quiescent_BranchesRefIdeal := by
  intro m ρ _
  exact (θ_run Cert.BranchesRefIdeal.defs _ _).mono
    (fun r h => ⟨fun c => (h c).2.2.2.2.2, sem_eq_zero_of_no_sems (by decide) r.2⟩)
    (Cert.BranchesRefIdeal.Value.run (F := Ideal) m ρ)

theorem claim : Cert.Claim :=
  ⟨Cert.GlaBwd.Gen.facts, Cert.GlaBwdIdeal.Gen.facts, Cert.GlaBwdRefIdeal.Gen.facts, Cert.MlpDx.Gen.facts,
    Cert.MlpDxIdeal.Gen.facts, Cert.MlpDxRefIdeal.Gen.facts,
    Cert.MlpLoss.Gen.facts, Cert.MlpLossIdeal.Gen.facts, Cert.MlpLossRefIdeal.Gen.facts,
    Cert.MlpDownDw.Gen.facts, Cert.MlpDownDwIdeal.Gen.facts, Cert.MlpDownDwRefIdeal.Gen.facts,
    Cert.MlpUpDw.Gen.facts, Cert.MlpUpDwIdeal.Gen.facts, Cert.MlpUpDwRefIdeal.Gen.facts,
    Cert.ProjInDx.Gen.facts, Cert.ProjInDxIdeal.Gen.facts, Cert.ProjInDxRefIdeal.Gen.facts,
    Cert.MixDw.Gen.facts, Cert.MixDwIdeal.Gen.facts, Cert.MixDwRefIdeal.Gen.facts,
    Cert.ProjIn.Gen.facts, Cert.ProjInIdeal.Gen.facts, Cert.ProjInRefIdeal.Gen.facts,
    Cert.DecayBwd.Gen.facts, Cert.DecayBwdIdeal.Gen.facts, Cert.DecayBwdRefIdeal.Gen.facts,
    Cert.ProjO.Gen.facts, Cert.ProjOIdeal.Gen.facts, Cert.ProjORefIdeal.Gen.facts,
    Cert.FirstNorm.Gen.facts, Cert.FirstNormIdeal.Gen.facts, Cert.FirstNormRefIdeal.Gen.facts,
    Cert.Branches.Gen.facts, Cert.BranchesIdeal.Gen.facts, Cert.BranchesRefIdeal.Gen.facts,
    Cert.Pre_finite_gates.Gen.facts, Cert.Pre_smooth_gates.Gen.facts,
    fun m ρ _ => Cert.GlaBwd.Gen.frame m ρ, fun m ρ _ => Cert.GlaBwdIdeal.Gen.frame m ρ,
    fun m ρ _ => Cert.GlaBwdIdeal.Gen.frame m ρ, frame_glaBwdRef, fun m ρ _ => frame_glaBwdRef m ρ trivial,
    fun m ρ _ => Cert.MlpDx.Gen.frame m ρ, fun m ρ _ => Cert.MlpDxIdeal.Gen.frame m ρ, frame_mlpDxRef,
    fun m ρ _ => Cert.MlpLoss.Gen.frame m ρ, fun m ρ _ => Cert.MlpLossIdeal.Gen.frame m ρ, frame_mlpLossRef,
    fun m ρ _ => Cert.MlpDownDw.Gen.frame m ρ, fun m ρ _ => Cert.MlpDownDwIdeal.Gen.frame m ρ, frame_mlpDownDwRef,
    fun m ρ _ => Cert.MlpUpDw.Gen.frame m ρ, fun m ρ _ => Cert.MlpUpDwIdeal.Gen.frame m ρ, frame_mlpUpDwRef,
    fun m ρ _ => Cert.ProjInDx.Gen.frame m ρ, fun m ρ _ => Cert.ProjInDxIdeal.Gen.frame m ρ, frame_projInDxRef,
    fun m ρ _ => Cert.MixDw.Gen.frame m ρ, fun m ρ _ => Cert.MixDwIdeal.Gen.frame m ρ, frame_mixDwRef,
    fun m ρ _ => Cert.ProjIn.Gen.frame m ρ, fun m ρ _ => Cert.ProjInIdeal.Gen.frame m ρ, frame_projInRef,
    fun m ρ _ => Cert.DecayBwd.Gen.frame m ρ, fun m ρ _ => Cert.DecayBwdIdeal.Gen.frame m ρ,
    fun m ρ _ => Cert.DecayBwdIdeal.Gen.frame m ρ, frame_decayBwdRef, fun m ρ _ => frame_decayBwdRef m ρ trivial,
    fun m ρ _ => Cert.ProjO.Gen.frame m ρ, fun m ρ _ => Cert.ProjOIdeal.Gen.frame m ρ, frame_projORef,
    fun m ρ _ => Cert.FirstNorm.Gen.frame m ρ, fun m ρ _ => Cert.FirstNormIdeal.Gen.frame m ρ, frame_firstNormRef,
    fun m ρ _ => Cert.Branches.Gen.frame m ρ, fun m ρ _ => Cert.BranchesIdeal.Gen.frame m ρ, frame_branchesRef,
    trivial, Gla.algebraic, trivial, MlpDx.algebraic,
    trivial, MlpLoss.algebraic, trivial, MlpDownDw.algebraic, trivial, MlpUpDw.algebraic, trivial, ProjInDx.algebraic,
    trivial, MixDw.algebraic, trivial, ProjIn.algebraic, trivial, DecayBwd.algebraic,
    trivial, ProjO.algebraic, trivial, FirstNorm.algebraic, trivial, Branches.algebraic⟩

end Cert.Proof

end
